-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)) (v3 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_v62) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v121)) (v1 : (c : Dev Cert.Kernel2Ideal.nD) → Buf (Elt Ideal) ((c.tc : Thread Cert.Kernel2Ideal.nD Cert.Kernel2Ideal.τ).loc Cert.Kernel2Ideal.main_v118_1)) (v2 : (c : Dev Cert.Kernel2Ideal.nD) → Buf (Elt Ideal) ((c.tc : Thread Cert.Kernel2Ideal.nD Cert.Kernel2Ideal.τ).loc Cert.Kernel2Ideal.main_v122)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v121) = v0 c
          ∧ r.2.mem ((c.tc : Thread Cert.Kernel2Ideal.nD Cert.Kernel2Ideal.τ).loc Cert.Kernel2Ideal.main_v118_1) = v1 c
          ∧ r.2.mem ((c.tc : Thread Cert.Kernel2Ideal.nD Cert.Kernel2Ideal.τ).loc Cert.Kernel2Ideal.main_v122) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v149) = v0 c
          ∧ r.2.mem ((c.tc : Thread Cert.Reference2Ideal.nD Cert.Reference2Ideal.τ).loc Cert.Reference2Ideal.main_v151) = v1 c
          ∧ r.2.mem ((c.tc : Thread Cert.Reference2Ideal.nD Cert.Reference2Ideal.τ).loc Cert.Reference2Ideal.main_v152) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v7) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_v56) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel8_Kernel8Ideal : Prop :=
  IdealRules.named_const.Statement Cert.Kernel8Ideal.κ "fox_scale_log2e" .f32 0x3E0293EE#32 (((11863283 / 134217728) * (Real.log 2)⁻¹ : ℝ) : EReal)
  ∧ IdealRules.named_const.Statement Cert.Kernel8Ideal.κ "log2e" .f32 0x3FB8AA3B#32 (((Real.log 2)⁻¹ : ℝ) : EReal)
  ∧ IdealRules.named_const.Statement Cert.Kernel8Ideal.κ "ln2" .f32 0x3F317218#32 ((Real.log 2 : ℝ) : EReal)

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v11) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "mla_scale_log2e" .f32 0x3DD53B95#32 (((Real.sqrt 192)⁻¹ * (Real.log 2)⁻¹ : ℝ) : EReal)
  ∧ IdealRules.named_const.Statement Cert.Kernel9Ideal.κ "ln2" .f32 0x3F317218#32 ((Real.log 2 : ℝ) : EReal)

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v47_0)) (v1 : (c : Dev Cert.Kernel9Ideal.nD) → Buf (Elt Ideal) ((c.tc : Thread Cert.Kernel9Ideal.nD Cert.Kernel9Ideal.τ).loc Cert.Kernel9Ideal.main_v48)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v47_0) = v0 c
          ∧ r.2.mem ((c.tc : Thread Cert.Kernel9Ideal.nD Cert.Kernel9Ideal.τ).loc Cert.Kernel9Ideal.main_v48) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v81) = v0 c
          ∧ r.2.mem ((c.tc : Thread Cert.Reference9Ideal.nD Cert.Reference9Ideal.τ).loc Cert.Reference9Ideal.main_v65) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v39_0)) (v1 : (c : Dev Cert.Kernel12Ideal.nD) → Buf (Elt Ideal) ((c.tc : Thread Cert.Kernel12Ideal.nD Cert.Kernel12Ideal.τ).loc Cert.Kernel12Ideal.main_v39_1)) (v2 : (c : Dev Cert.Kernel12Ideal.nD) → Buf (Elt Ideal) ((c.tc : Thread Cert.Kernel12Ideal.nD Cert.Kernel12Ideal.τ).loc Cert.Kernel12Ideal.main_v43)) (v3 : (c : Dev Cert.Kernel12Ideal.nD) → Buf (Elt Ideal) ((c.tc : Thread Cert.Kernel12Ideal.nD Cert.Kernel12Ideal.τ).loc Cert.Kernel12Ideal.main_v42)) (v4 : (c : Dev Cert.Kernel12Ideal.nD) → Buf (Elt Ideal) ((c.tc : Thread Cert.Kernel12Ideal.nD Cert.Kernel12Ideal.τ).loc Cert.Kernel12Ideal.main_v39_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v39_0) = v0 c
          ∧ r.2.mem ((c.tc : Thread Cert.Kernel12Ideal.nD Cert.Kernel12Ideal.τ).loc Cert.Kernel12Ideal.main_v39_1) = v1 c
          ∧ r.2.mem ((c.tc : Thread Cert.Kernel12Ideal.nD Cert.Kernel12Ideal.τ).loc Cert.Kernel12Ideal.main_v43) = v2 c
          ∧ r.2.mem ((c.tc : Thread Cert.Kernel12Ideal.nD Cert.Kernel12Ideal.τ).loc Cert.Kernel12Ideal.main_v42) = v3 c
          ∧ r.2.mem ((c.tc : Thread Cert.Kernel12Ideal.nD Cert.Kernel12Ideal.τ).loc Cert.Kernel12Ideal.main_v39_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v81) = v0 c
          ∧ r.2.mem ((c.tc : Thread Cert.Reference12Ideal.nD Cert.Reference12Ideal.τ).loc Cert.Reference12Ideal.main_v82) = v1 c
          ∧ r.2.mem ((c.tc : Thread Cert.Reference12Ideal.nD Cert.Reference12Ideal.τ).loc Cert.Reference12Ideal.main_v83) = v2 c
          ∧ r.2.mem ((c.tc : Thread Cert.Reference12Ideal.nD Cert.Reference12Ideal.τ).loc Cert.Reference12Ideal.main_v84) = v3 c
          ∧ r.2.mem ((c.tc : Thread Cert.Reference12Ideal.nD Cert.Reference12Ideal.τ).loc Cert.Reference12Ideal.main_v87) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite8 : Cert.Pre_finite8.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S1x4096x1024 : Shape := ⟨3, ![1, 4096, 1024]⟩
abbrev S1x8x4096 : Shape := ⟨3, ![1, 8, 4096]⟩
abbrev S_ : Shape := ⟨0, ![]⟩

class Facts : Prop where
  bcast_S_S1x4096x1024 : S_.BroadcastsInDim S1x4096x1024 (![] : Fin 0 → Fin S1x4096x1024.rank)
  bcast_S_S1x8x4096 : S_.BroadcastsInDim S1x8x4096 (![] : Fin 0 → Fin S1x8x4096.rank)

variable [Facts]

def fn {F : FTy → Type} [FloatOps F] (main_arg0 : FVec F S1x4096x1024 .f32) (main_arg1 : FVec F S1x4096x1024 .f32) (main_arg2 : FVec F S1x4096x1024 .f32) (main_arg3 : FVec F S1x8x4096 .f32) (main_arg4 : FVec F S1x4096x1024 .f32) : IVec S1x4096x1024 1 × IVec S1x4096x1024 1 × IVec S1x4096x1024 1 × IVec S1x8x4096 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1x8x4096 .f32 := Host.absf main_arg3
  let main_cst_2 : FVec F S_ .f32 := constant S_ .f32 0x7F800000#32
  let main_v10 : FVec F S1x8x4096 .f32 := broadcastInDim S1x8x4096 ![] bcast_S_S1x8x4096 main_cst_2
  let main_v11 : IVec S1x8x4096 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_finite2.lean ====
abbrev S1x4096x1536 : Shape := ⟨3, ![1, 4096, 1536]⟩
abbrev S1x4096x2048 : Shape := ⟨3, ![1, 4096, 2048]⟩
abbrev S1x4096x64 : Shape := ⟨3, ![1, 4096, 64]⟩
abbrev S1x4096 : Shape := ⟨2, ![1, 4096]⟩
abbrev S1x4096x1024 : Shape := ⟨3, ![1, 4096, 1024]⟩
abbrev S_ : Shape := ⟨0, ![]⟩

class Facts : Prop where
  bcast_S_S1x4096x1536 : S_.BroadcastsInDim S1x4096x1536 (![] : Fin 0 → Fin S1x4096x1536.rank)
  bcast_S_S1x4096x2048 : S_.BroadcastsInDim S1x4096x2048 (![] : Fin 0 → Fin S1x4096x2048.rank)
  bcast_S_S1x4096x64 : S_.BroadcastsInDim S1x4096x64 (![] : Fin 0 → Fin S1x4096x64.rank)
  bcast_S_S1x4096x1024 : S_.BroadcastsInDim S1x4096x1024 (![] : Fin 0 → Fin S1x4096x1024.rank)

variable [Facts]

def fn {F : FTy → Type} [FloatOps F] (main_arg0 : FVec F S1x4096x1536 .f32) (main_arg1 : FVec F S1x4096x2048 .f32) (main_arg2 : FVec F S1x4096x64 .f32) (main_arg3 : IVec S1x4096 32) (main_arg4 : FVec F S1x4096x1024 .f32) : IVec S1x4096x1536 1 × IVec S1x4096x2048 1 × IVec S1x4096x64 1 × IVec S1x4096x1024 1 :=
  let main_v0 : FVec F S1x4096x1536 .f32 := Host.absf main_arg0
  let main_cst : FVec F S_ .f32 := constant S_ .f32 0x7F800000#32
  let main_v1 : FVec F S1x4096x1536 .f32 := broadcastInDim S1x4096x1536 ![] bcast_S_S1x4096x1536 main_cst
  let main_v2 : IVec S1x4096x1536 1 := cmpf .olt main_v0 main_v1
  let main_v3 : FVec F S1x4096x2048 .f32 := Host.absf main_arg1
  let main_cst_0 : FVec F S_ .f32 := constant S_ .f32 0x7F800000#32
  let main_v4 : FVec F S1x4096x2048 .f32 := broadcastInDim S1x4096x2048 ![] bcast_S_S1x4096x2048 main_cst_0
  let main_v5 : IVec S1x4096x2048 1 := cmpf .olt main_v3 main_v4
  let main_v6 : FVec F S1x4096x64 .f32 := Host.absf main_arg2
  let main_cst_1 : FVec F S_ .f32 := constant S_ .f32 0x7F800000#32
  let main_v7 : FVec F S1x4096x64 .f32 := broadcastInDim S1x4096x64 ![] bcast_S_S1x4096x64 main_cst_1
  let main_v8 : IVec S1x4096x64 1 := cmpf .olt main_v6 main_v7
  let main_v9 : FVec F S1x4096x1024 .f32 := Host.absf main_arg4
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  (main_v2, main_v5, main_v8, main_v11)
-- ==== Pre_finite3.lean ====
abbrev S1x4096x8 : Shape := ⟨3, ![1, 4096, 8]⟩
abbrev S1x8 : Shape := ⟨2, ![1, 8]⟩
abbrev S1x8x4096 : Shape := ⟨3, ![1, 8, 4096]⟩
abbrev S_ : Shape := ⟨0, ![]⟩

class Facts : Prop where
  bcast_S_S1x4096x8 : S_.BroadcastsInDim S1x4096x8 (![] : Fin 0 → Fin S1x4096x8.rank)
  bcast_S_S1x8 : S_.BroadcastsInDim S1x8 (![] : Fin 0 → Fin S1x8.rank)

variable [Facts]

def fn {F : FTy → Type} [FloatOps F] (main_arg0 : FVec F S1x4096x8 .f32) (main_arg1 : FVec F S1x8 .f32) (main_arg2 : FVec F S1x8x4096 .f32) : IVec S1x4096x8 1 × IVec S1x8 1 :=
  let main_v0 : FVec F S1x4096x8 .f32 := Host.absf main_arg0
  let main_cst : FVec F S_ .f32 := constant S_ .f32 0x7F800000#32
  let main_v1 : FVec F S1x4096x8 .f32 := broadcastInDim S1x4096x8 ![] bcast_S_S1x4096x8 main_cst
  let main_v2 : IVec S1x4096x8 1 := cmpf .olt main_v0 main_v1
  let main_v3 : FVec F S1x8 .f32 := Host.absf main_arg1
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  (main_v2, main_v5)
-- ==== Pre_finite4.lean ====
abbrev S1x4096x1024 : Shape := ⟨3, ![1, 4096, 1024]⟩
abbrev S1x2048x2048 : Shape := ⟨3, ![1, 2048, 2048]⟩
abbrev S1x4096x2048 : Shape := ⟨3, ![1, 4096, 2048]⟩
abbrev S_ : Shape := ⟨0, ![]⟩

class Facts : Prop where
  bcast_S_S1x4096x1024 : S_.BroadcastsInDim S1x4096x1024 (![] : Fin 0 → Fin S1x4096x1024.rank)
  bcast_S_S1x2048x2048 : S_.BroadcastsInDim S1x2048x2048 (![] : Fin 0 → Fin S1x2048x2048.rank)
  bcast_S_S1x4096x2048 : S_.BroadcastsInDim S1x4096x2048 (![] : Fin 0 → Fin S1x4096x2048.rank)

variable [Facts]

def fn {F : FTy → Type} [FloatOps F] (main_arg0 : FVec F S1x4096x1024 .f32) (main_arg1 : FVec F S1x4096x1024 .f32) (main_arg2 : FVec F S1x4096x1024 .f32) (main_arg3 : FVec F S1x4096x1024 .f32) (main_arg4 : FVec F S1x2048x2048 .f32) (main_arg5 : FVec F S1x4096x2048 .f32) : IVec S1x4096x1024 1 × IVec S1x4096x1024 1 × IVec S1x4096x1024 1 × IVec S1x4096x1024 1 × IVec S1x2048x2048 1 × IVec S1x4096x2048 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1x2048x2048 .f32 := Host.absf main_arg4
  let main_cst_3 : FVec F S_ .f32 := constant S_ .f32 0x7F800000#32
  let main_v13 : FVec F S1x2048x2048 .f32 := broadcastInDim S1x2048x2048 ![] bcast_S_S1x2048x2048 main_cst_3
  let main_v14 : IVec S1x2048x2048 1 := cmpf .olt main_v12 main_v13
  let main_v15 : FVec F S1x4096x2048 .f32 := Host.absf main_arg5
  let main_cst_4 : FVec F S_ .f32 := constant S_ .f32 0x7F800000#32
  let main_v16 : FVec F S1x4096x2048 .f32 := broadcastInDim S1x4096x2048 ![] bcast_S_S1x4096x2048 main_cst_4
  let main_v17 : IVec S1x4096x2048 1 := cmpf .olt main_v15 main_v16
  (main_v2, main_v5, main_v8, main_v11, main_v14, main_v17)
-- ==== Pre_finite5.lean ====
abbrev S1x4096x2048 : Shape := ⟨3, ![1, 4096, 2048]⟩
abbrev S1x2048 : Shape := ⟨2, ![1, 2048]⟩
abbrev S_ : Shape := ⟨0, ![]⟩

class Facts : Prop where
  bcast_S_S1x4096x2048 : S_.BroadcastsInDim S1x4096x2048 (![] : Fin 0 → Fin S1x4096x2048.rank)
  bcast_S_S1x2048 : S_.BroadcastsInDim S1x2048 (![] : Fin 0 → Fin S1x2048.rank)

variable [Facts]

def fn {F : FTy → Type} [FloatOps F] (main_arg0 : FVec F S1x4096x2048 .f32) (main_arg1 : FVec F S1x4096x2048 .f32) (main_arg2 : FVec F S1x2048 .f32) (main_arg3 : FVec F S1x4096x2048 .f32) : IVec S1x4096x2048 1 × IVec S1x4096x2048 1 × IVec S1x2048 1 × IVec S1x4096x2048 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_v3 : FVec F S1x4096x2048 .f32 := Host.absf main_arg1
  let main_cst_0 : FVec F S_ .f32 := constant S_ .f32 0x7F800000#32
  let main_v4 : FVec F S1x4096x2048 .f32 := broadcastInDim S1x4096x2048 ![] bcast_S_S1x4096x2048 main_cst_0
  let main_v5 : IVec S1x4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x4096x2048 .f32 := Host.absf main_arg3
  let main_cst_2 : FVec F S_ .f32 := constant S_ .f32 0x7F800000#32
  let main_v10 : FVec F S1x4096x2048 .f32 := broadcastInDim S1x4096x2048 ![] bcast_S_S1x4096x2048 main_cst_2
  let main_v11 : IVec S1x4096x2048 1 := cmpf .olt main_v9 main_v10
  (main_v2, main_v5, main_v8, main_v11)
-- ==== Pre_finite6.lean ====
abbrev S1x4096x2048 : Shape := ⟨3, ![1, 4096, 2048]⟩
abbrev S1x2048 : Shape := ⟨2, ![1, 2048]⟩
abbrev S_ : Shape := ⟨0, ![]⟩

class Facts : Prop where
  bcast_S_S1x4096x2048 : S_.BroadcastsInDim S1x4096x2048 (![] : Fin 0 → Fin S1x4096x2048.rank)
  bcast_S_S1x2048 : S_.BroadcastsInDim S1x2048 (![] : Fin 0 → Fin S1x2048.rank)

variable [Facts]

def fn {F : FTy → Type} [FloatOps F] (main_arg0 : FVec F S1x4096x2048 .f32) (main_arg1 : FVec F S1x2048 .f32) (main_arg2 : FVec F S1x4096x2048 .f32) (main_arg3 : FVec F S1x4096x2048 .f32) : IVec S1x4096x2048 1 × IVec S1x2048 1 × IVec S1x4096x2048 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x4096x2048 .f32 := Host.absf main_arg2
  let main_cst_1 : FVec F S_ .f32 := constant S_ .f32 0x7F800000#32
  let main_v7 : FVec F S1x4096x2048 .f32 := broadcastInDim S1x4096x2048 ![] bcast_S_S1x4096x2048 main_cst_1
  let main_v8 : IVec S1x4096x2048 1 := cmpf .olt main_v6 main_v7
  (main_v2, main_v5, main_v8)
-- ==== Pre_finite8.lean ====
abbrev S1x4096x1024 : Shape := ⟨3, ![1, 4096, 1024]⟩
abbrev S1x8x4096 : Shape := ⟨3, ![1, 8, 4096]⟩
abbrev S_ : Shape := ⟨0, ![]⟩

class Facts : Prop where
  bcast_S_S1x4096x1024 : S_.BroadcastsInDim S1x4096x1024 (![] : Fin 0 → Fin S1x4096x1024.rank)
  bcast_S_S1x8x4096 : S_.BroadcastsInDim S1x8x4096 (![] : Fin 0 → Fin S1x8x4096.rank)

variable [Facts]

def fn {F : FTy → Type} [FloatOps F] (main_arg0 : FVec F S1x4096x1024 .f32) (main_arg1 : FVec F S1x4096x1024 .f32) (main_arg2 : FVec F S1x4096x1024 .f32) (main_arg3 : FVec F S1x8x4096 .f32) : IVec S1x4096x1024 1 × IVec S1x4096x1024 1 × IVec S1x8x4096 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x8x4096 .f32 := Host.absf main_arg3
  let main_cst_1 : FVec F S_ .f32 := constant S_ .f32 0x7F800000#32
  let main_v7 : FVec F S1x8x4096 .f32 := broadcastInDim S1x8x4096 ![] bcast_S_S1x8x4096 main_cst_1
  let main_v8 : IVec S1x8x4096 1 := cmpf .olt main_v6 main_v7
  (main_v2, main_v5, main_v8)
-- ==== Pre_finite9.lean ====
abbrev S1x4096x1536 : Shape := ⟨3, ![1, 4096, 1536]⟩
abbrev S1x4096x2048 : Shape := ⟨3, ![1, 4096, 2048]⟩
abbrev S1x4096x64 : Shape := ⟨3, ![1, 4096, 64]⟩
abbrev S1x4096 : Shape := ⟨2, ![1, 4096]⟩
abbrev S_ : Shape := ⟨0, ![]⟩

class Facts : Prop where
  bcast_S_S1x4096x1536 : S_.BroadcastsInDim S1x4096x1536 (![] : Fin 0 → Fin S1x4096x1536.rank)
  bcast_S_S1x4096x2048 : S_.BroadcastsInDim S1x4096x2048 (![] : Fin 0 → Fin S1x4096x2048.rank)
  bcast_S_S1x4096x64 : S_.BroadcastsInDim S1x4096x64 (![] : Fin 0 → Fin S1x4096x64.rank)

variable [Facts]

def fn {F : FTy → Type} [FloatOps F] (main_arg0 : FVec F S1x4096x1536 .f32) (main_arg1 : FVec F S1x4096x2048 .f32) (main_arg2 : FVec F S1x4096x64 .f32) (main_arg3 : IVec S1x4096 32) : IVec S1x4096x1536 1 × IVec S1x4096x2048 1 × IVec S1x4096x64 1 :=
  let main_v0 : FVec F S1x4096x1536 .f32 := Host.absf main_arg0
  let main_cst : FVec F S_ .f32 := constant S_ .f32 0x7F800000#32
  let main_v1 : FVec F S1x4096x1536 .f32 := broadcastInDim S1x4096x1536 ![] bcast_S_S1x4096x1536 main_cst
  let main_v2 : IVec S1x4096x1536 1 := cmpf .olt main_v0 main_v1
  let main_v3 : FVec F S1x4096x2048 .f32 := Host.absf main_arg1
  let main_cst_0 : FVec F S_ .f32 := constant S_ .f32 0x7F800000#32
  let main_v4 : FVec F S1x4096x2048 .f32 := broadcastInDim S1x4096x2048 ![] bcast_S_S1x4096x2048 main_cst_0
  let main_v5 : IVec S1x4096x2048 1 := cmpf .olt main_v3 main_v4
  let main_v6 : FVec F S1x4096x64 .f32 := Host.absf main_arg2
  let main_cst_1 : FVec F S_ .f32 := constant S_ .f32 0x7F800000#32
  let main_v7 : FVec F S1x4096x64 .f32 := broadcastInDim S1x4096x64 ![] bcast_S_S1x4096x64 main_cst_1
  let main_v8 : IVec S1x4096x64 1 := cmpf .olt main_v6 main_v7
  (main_v2, main_v5, main_v8)
-- ==== Kernel.lean ====
abbrev S1x4096x1024 : Shape := ⟨3, ![1, 4096, 1024]⟩
abbrev S1x8x4096 : Shape := ⟨3, ![1, 8, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S4096x2048 : Shape := ⟨2, ![4096, 2048]⟩
abbrev S4096x1280 : Shape := ⟨2, ![4096, 1280]⟩
abbrev S4096x256 : Shape := ⟨2, ![4096, 256]⟩
abbrev S4096x6656 : Shape := ⟨2, ![4096, 6656]⟩
abbrev S8x4x1x1024 : Shape := ⟨4, ![8, 4, 1, 1024]⟩
abbrev S1024x128 : Shape := ⟨2, ![1024, 128]⟩
abbrev S4096x128 : Shape := ⟨2, ![4096, 128]⟩
abbrev S1x1x1x1024 : Shape := ⟨4, ![1, 1, 1, 1024]⟩
abbrev S1x4x1x1024 : Shape := ⟨4, ![1, 4, 1, 1024]⟩
abbrev S4x1x1024 : Shape := ⟨3, ![4, 1, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S512x128 : Shape := ⟨2, ![512, 128]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 84
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x8x4096, .f32⟩
  | .hbm, ⟨4, _⟩ => ⟨S1x4096x1024, .f32⟩
  | .hbm, ⟨5, _⟩ => ⟨S4096x1024, .f32⟩
  | .hbm, ⟨6, _⟩ => ⟨S4096x8x128, .f32⟩
  | .hbm, ⟨7, _⟩ => ⟨S4096x1024, .f32⟩
  | .hbm, ⟨8, _⟩ => ⟨S4096x8x128, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S4096x1024, .f32⟩
  | .hbm, ⟨58, _⟩ => ⟨S4096x8x128, .f32⟩
  | .hbm, ⟨59, _⟩ => ⟨S8x128x4096, .f32⟩
  | .hbm, ⟨60, _⟩ => ⟨S4096x8x128, .f32⟩
  | .hbm, ⟨61, _⟩ => ⟨S4096x1024, .f32⟩
  | .hbm, ⟨62, _⟩ => ⟨S_, .f32⟩
  | .hbm, ⟨63, _⟩ => ⟨S4096x2048, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1280, .f32⟩
  | .hbm, ⟨68, _⟩ => ⟨S4096x1024, .f32⟩
  | .hbm, ⟨69, _⟩ => ⟨S_, .f32⟩
  | .hbm, ⟨70, _⟩ => ⟨S4096x256, .f32⟩
  | .hbm, ⟨71, _⟩ => ⟨S4096x6656, .f32⟩
  | .hbm, ⟨72, _⟩ => ⟨S4096x6656, .bf16⟩
  | .hbm, ⟨73, _⟩ => ⟨S4096x1024, .bf16⟩
  | .hbm, ⟨74, _⟩ => ⟨S4096x1024, .f32⟩
  | .hbm, ⟨75, _⟩ => ⟨S4096x1024, .bf16⟩
  | .hbm, ⟨76, _⟩ => ⟨S8x4096, .f32⟩
  | .hbm, ⟨77, _⟩ => ⟨S8x4x1x1024, .f32⟩
  | .hbm, ⟨78, _⟩ => ⟨S8x4x1x1024, .f32⟩
  | .hbm, ⟨79, _⟩ => ⟨S4096x1024, .bf16⟩
  | .hbm, ⟨80, _⟩ => ⟨S4096x1024, .bf16⟩
  | .hbm, ⟨81, _⟩ => ⟨S4096x1024, .bf16⟩
  | .hbm, ⟨82, _⟩ => ⟨S8x4x1x1024, .f32⟩
  | .hbm, ⟨83, _⟩ => ⟨S8x4096, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1x1x1024, .f32⟩
  | .local _ .vmem, ⟨11, _⟩ => ⟨S1x1x1x1024, .f32⟩
  | .local _ .vmem, ⟨12, _⟩ => ⟨S1x4x1x1024, .f32⟩
  | .local _ .vmem, ⟨13, _⟩ => ⟨S1x4x1x1024, .f32⟩
  | .local _ .vmem, ⟨14, _⟩ => ⟨S1024x128, .bf16⟩
  | .local _ .vmem, ⟨15, _⟩ => ⟨S1024x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S1x4x1x1024, .f32⟩
  | .local _ .vmem, ⟨21, _⟩ => ⟨S1x4x1x1024, .f32⟩
  | .local _ .vmem, ⟨22, _⟩ => ⟨S4096x128, .f32⟩
  | .local _ .vmem, ⟨23, _⟩ => ⟨S4096x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61_0 : Ref sig .tc := ⟨.hbm, 79, rfl⟩
abbrev main_v61_1 : Ref sig .tc := ⟨.hbm, 80, rfl⟩
abbrev main_v61_2 : Ref sig .tc := ⟨.hbm, 81, rfl⟩
abbrev main_v61_3 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let c0_12 : Index := 0#32
  let arg1 : BitVec 32 := BitVec.ofNat 32 (i 1).val
  let v25 : Index := Scalar.indexCast arg1
  let c0_13 : Index := 0#32
  let c0_14 : Index := 0#32
  ![0, v25.toNat, 0, 0]
@[reducible] def k0_t1_loop (i : grid0.Coords) : Scf.Loop 32 :=
  let c0_i32_19 : BitVec 32 := 0#32
  let arg1 : BitVec 32 := BitVec.ofNat 32 (i 1).val
  let v39 : BitVec 32 := Scalar.subi arg1 c0_i32_19
  let c1_i32 : BitVec 32 := 1#32
  let v41 : BitVec 32 := Scalar.divsi v39 c1_i32
  let v42 : BitVec 32 := Scalar.muli v41 c1_i32
  let v43 : BitVec 32 := Scalar.addi c0_i32_19 v42
  let c1_i32_20 : BitVec 32 := 1#32
  ⟨c0_i32_19, v43, c1_i32_20⟩
def k0_mult1 (i : grid0.Coords) (k0_t1 : Fin (k0_t1_loop i).trips) : BitVec 32 :=
  let c0_i32_19 : BitVec 32 := 0#32
  let c1_i32_20 : BitVec 32 := 1#32
  let arg15 : BitVec 32 := Scf.iv c0_i32_19 c1_i32_20 k0_t1
  let c1024_i32_110 : BitVec 32 := 1024#32
  let v282 : BitVec 32 := Scalar.muli arg15 c1024_i32_110
  let c0_i32_111 : BitVec 32 := 0#32
  let v283 : BitVec 32 := Scalar.addi v282 c0_i32_111
  v283
def k0_off2 (i : grid0.Coords) (k0_t1 : Fin (k0_t1_loop i).trips) : Fin 2 → Nat :=
  let c0_i32_19 : BitVec 32 := 0#32
  let c1_i32_20 : BitVec 32 := 1#32
  let arg15 : BitVec 32 := Scf.iv c0_i32_19 c1_i32_20 k0_t1
  let c1024_i32_110 : BitVec 32 := 1024#32
  let v282 : BitVec 32 := Scalar.muli arg15 c1024_i32_110
  let c0_i32_111 : BitVec 32 := 0#32
  let v283 : BitVec 32 := Scalar.addi v282 c0_i32_111
  let v284 : BitVec 32 := v283
  let v285 : Index := Scalar.indexCast v284
  let c0_112 : Index := 0#32
  ![v285.toNat, 0]
def k0_off3 (i : grid0.Coords) (k0_t1 : Fin (k0_t1_loop i).trips) : Fin 4 → Nat :=
  let c0_116 : Index := 0#32
  let c0_i32_19 : BitVec 32 := 0#32
  let c1_i32_20 : BitVec 32 := 1#32
  let arg15 : BitVec 32 := Scf.iv c0_i32_19 c1_i32_20 k0_t1
  let v296 : Index := Scalar.indexCast arg15
  let c0_117 : Index := 0#32
  let c0_118 : Index := 0#32
  ![0, v296.toNat, 0, 0]
@[reducible] def k0_t2_loop (i : grid0.Coords) : Scf.Loop 32 :=
  let c0_i32_19 : BitVec 32 := 0#32
  let arg1 : BitVec 32 := BitVec.ofNat 32 (i 1).val
  let v39 : BitVec 32 := Scalar.subi arg1 c0_i32_19
  let c1_i32 : BitVec 32 := 1#32
  let v41 : BitVec 32 := Scalar.divsi v39 c1_i32
  let v42 : BitVec 32 := Scalar.muli v41 c1_i32
  let v43 : BitVec 32 := Scalar.addi c0_i32_19 v42
  let v40 : BitVec 32 := Scalar.addi c0_i32_19 v39
  let c1_i32_21 : BitVec 32 := 1#32
  ⟨v43, v40, c1_i32_21⟩
def k0_mult2 (i : grid0.Coords) (k0_t2 : Fin (k0_t2_loop i).trips) : BitVec 32 :=
  let c0_i32_19 : BitVec 32 := 0#32
  let arg1 : BitVec 32 := BitVec.ofNat 32 (i 1).val
  let v39 : BitVec 32 := Scalar.subi arg1 c0_i32_19
  let c1_i32 : BitVec 32 := 1#32
  let v41 : BitVec 32 := Scalar.divsi v39 c1_i32
  let v42 : BitVec 32 := Scalar.muli v41 c1_i32
  let v43 : BitVec 32 := Scalar.addi c0_i32_19 v42
  let c1_i32_21 : BitVec 32 := 1#32
  let arg15 : BitVec 32 := Scf.iv v43 c1_i32_21 k0_t2
  let c1024_i32_110 : BitVec 32 := 1024#32
  let v282 : BitVec 32 := Scalar.muli arg15 c1024_i32_110
  let c0_i32_111 : BitVec 32 := 0#32
  let v283 : BitVec 32 := Scalar.addi v282 c0_i32_111
  v283
def k0_off4 (i : grid0.Coords) (k0_t2 : Fin (k0_t2_loop i).trips) : Fin 2 → Nat :=
  let c0_i32_19 : BitVec 32 := 0#32
  let arg1 : BitVec 32 := BitVec.ofNat 32 (i 1).val
  let v39 : BitVec 32 := Scalar.subi arg1 c0_i32_19
  let c1_i32 : BitVec 32 := 1#32
  let v41 : BitVec 32 := Scalar.divsi v39 c1_i32
  let v42 : BitVec 32 := Scalar.muli v41 c1_i32
  let v43 : BitVec 32 := Scalar.addi c0_i32_19 v42
  let c1_i32_21 : BitVec 32 := 1#32
  let arg15 : BitVec 32 := Scf.iv v43 c1_i32_21 k0_t2
  let c1024_i32_110 : BitVec 32 := 1024#32
  let v282 : BitVec 32 := Scalar.muli arg15 c1024_i32_110
  let c0_i32_111 : BitVec 32 := 0#32
  let v283 : BitVec 32 := Scalar.addi v282 c0_i32_111
  let v284 : BitVec 32 := v283
  let v285 : Index := Scalar.indexCast v284
  let c0_112 : Index := 0#32
  ![v285.toNat, 0]
def k0_off5 (i : grid0.Coords) (k0_t2 : Fin (k0_t2_loop i).trips) : Fin 4 → Nat :=
  let c0_116 : Index := 0#32
  let c0_i32_19 : BitVec 32 := 0#32
  let arg1 : BitVec 32 := BitVec.ofNat 32 (i 1).val
  let v39 : BitVec 32 := Scalar.subi arg1 c0_i32_19
  let c1_i32 : BitVec 32 := 1#32
  let v41 : BitVec 32 := Scalar.divsi v39 c1_i32
  let v42 : BitVec 32 := Scalar.muli v41 c1_i32
  let v43 : BitVec 32 := Scalar.addi c0_i32_19 v42
  let c1_i32_21 : BitVec 32 := 1#32
  let arg15 : BitVec 32 := Scf.iv v43 c1_i32_21 k0_t2
  let v296 : Index := Scalar.indexCast arg15
  let c0_117 : Index := 0#32
  let c0_118 : Index := 0#32
  ![0, v296.toNat, 0, 0]
def k0_mult3 (i : grid0.Coords) : BitVec 32 :=
  let arg1 : BitVec 32 := BitVec.ofNat 32 (i 1).val
  let c1024_i32 : BitVec 32 := 1024#32
  let v48 : BitVec 32 := Scalar.muli arg1 c1024_i32
  let c0_i32_22 : BitVec 32 := 0#32
  let v49 : BitVec 32 := Scalar.addi v48 c0_i32_22
  v49
def k0_off6 (i : grid0.Coords) (c0_i32_22 : BitVec 32) : Fin 2 → Nat :=
  let arg1 : BitVec 32 := BitVec.ofNat 32 (i 1).val
  let c1024_i32 : BitVec 32 := 1024#32
  let v48 : BitVec 32 := Scalar.muli arg1 c1024_i32
  let v49 : BitVec 32 := Scalar.addi v48 c0_i32_22
  let v50 : BitVec 32 := v49
  let v51 : Index := Scalar.indexCast v50
  let c0_23 : Index := 0#32
  ![v51.toNat, 0]
def k0_off7 (i : grid0.Coords) : Fin 4 → Nat :=
  let c0_27 : Index := 0#32
  let arg1 : BitVec 32 := BitVec.ofNat 32 (i 1).val
  let v65 : Index := Scalar.indexCast arg1
  let c0_28 : Index := 0#32
  let c0_29 : Index := 0#32
  ![0, v65.toNat, 0, 0]
def k0_mult4 (i : grid0.Coords) : BitVec 32 :=
  let arg1 : BitVec 32 := BitVec.ofNat 32 (i 1).val
  let c1024_i32_48 : BitVec 32 := 1024#32
  let v121 : BitVec 32 := Scalar.muli arg1 c1024_i32_48
  let c0_i32_49 : BitVec 32 := 0#32
  let v122 : BitVec 32 := Scalar.addi v121 c0_i32_49
  v122
def k0_mult5 (i : grid0.Coords) : BitVec 32 :=
  let arg1 : BitVec 32 := BitVec.ofNat 32 (i 1).val
  let c1024_i32_74 : BitVec 32 := 1024#32
  let v187 : BitVec 32 := Scalar.muli arg1 c1024_i32_74
  let c512_i32 : BitVec 32 := 512#32
  let v188 : BitVec 32 := Scalar.addi v187 c512_i32
  v188
def k0_off8 (i : grid0.Coords) : Fin 4 → Nat :=
  let c0_79 : Index := 0#32
  let arg1 : BitVec 32 := BitVec.ofNat 32 (i 1).val
  let v204 : Index := Scalar.indexCast arg1
  let c0_80 : Index := 0#32
  let c512 : Index := 512#32
  ![0, v204.toNat, 0, 512]
def k0_cond2 (i : grid0.Coords) : BitVec 1 :=
  let arg1 : BitVec 32 := BitVec.ofNat 32 (i 1).val
  let c3_i32 : BitVec 32 := 3#32
  let v279 : BitVec 1 := Scalar.cmpi .eq arg1 c3_i32
  let v280 : BitVec 32 := Scalar.extui v279
  let c0_i32_109 : BitVec 32 := 0#32
  let v281 : BitVec 1 := Scalar.cmpi .ne v280 c0_i32_109
  v281

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S1x4096x1024 : Shape := ⟨3, ![1, 4096, 1024]⟩
abbrev S1x8x4096 : Shape := ⟨3, ![1, 8, 4096]⟩
abbrev S4096x1024 : Shape := ⟨2, ![4096, 1024]⟩
abbrev S4096x8x128 : Shape := ⟨3, ![4096, 8, 128]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 133
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x1024, .f32⟩
  | 3 => ⟨S1x8x4096, .f32⟩
  | 4 => ⟨S1x4096x1024, .f32⟩
  | 5 => ⟨S4096x1024, .f32⟩
  | 6 => ⟨S4096x8x128, .f32⟩
  | 7 => ⟨S4096x1024, .f32⟩
  | 8 => ⟨S4096x8x128, .f32⟩
  | 9 => ⟨S4096x1024, .f32⟩
  | 10 => ⟨S4096x8x128, .f32⟩
  | 11 => ⟨S8x4096, .f32⟩
  | 12 => ⟨S8x4096x4096, .f32⟩
  | 13 => ⟨S_, .f32⟩
  | 14 => ⟨S8x4096x4096, .f32⟩
  | 15 => ⟨S8x4096x4096, .f32⟩
  | 16 => ⟨S8x4096x1, .f32⟩
  | 17 => ⟨S8x4096x4096, .f32⟩
  | 18 => ⟨S8x4096x4096, .f32⟩
  | 19 => ⟨S8x1x4096, .f32⟩
  | 20 => ⟨S8x4096x4096, .f32⟩
  | 21 => ⟨S8x4096x4096, .f32⟩
  | 22 => ⟨S4096, .i32⟩
  | 23 => ⟨S1x4096, .i32⟩
  | 24 => ⟨S4096, .i32⟩
  | 25 => ⟨S4096x1, .i32⟩
  | 26 => ⟨S4096x4096, .i32⟩
  | 27 => ⟨S4096x4096, .i32⟩
  | 28 => ⟨S4096x4096, .i1⟩
  | 29 => ⟨S_, .f32⟩
  | 30 => ⟨S_, .f32⟩
  | 31 => ⟨S8x4096x4096, .i1⟩
  | 32 => ⟨S8x4096x4096, .f32⟩
  | 33 => ⟨S8x4096x4096, .f32⟩
  | 34 => ⟨S_, .f32⟩
  | 35 => ⟨S8x4096x4096, .f32⟩
  | 36 => ⟨S_, .f32⟩
  | 37 => ⟨S8x4096, .f32⟩
  | 38 => ⟨S8x4096x1, .f32⟩
  | 39 => ⟨S8x4096x4096, .f32⟩
  | 40 => ⟨S8x4096x4096, .i1⟩
  | 41 => ⟨S8x4096x4096, .f32⟩
  | 42 => ⟨S_, .f32⟩
  | 43 => ⟨S8x4096, .f32⟩
  | 44 => ⟨S_, .f32⟩
  | 45 => ⟨S8x4096, .f32⟩
  | 46 => ⟨S8x4096, .f32⟩
  | 47 => ⟨S_, .f32⟩
  | 48 => ⟨S8x4096, .f32⟩
  | 49 => ⟨S8x4096, .i1⟩
  | 50 => ⟨S_, .f32⟩
  | 51 => ⟨S8x4096, .f32⟩
  | 52 => ⟨S8x4096, .i1⟩
  | 53 => ⟨S_, .f32⟩
  | 54 => ⟨S8x4096, .f32⟩
  | 55 => ⟨S_, .f32⟩
  | 56 => ⟨S8x4096, .f32⟩
  | 57 => ⟨S_, .f32⟩
  | 58 => ⟨S8x4096, .f32⟩
  | 59 => ⟨S8x4096, .f32⟩
  | 60 => ⟨S8x4096, .f32⟩
  | 61 => ⟨S8x4096x1, .f32⟩
  | 62 => ⟨S8x4096x4096, .f32⟩
  | 63 => ⟨S8x4096x4096, .f32⟩
  | 64 => ⟨S8x4096x4096, .f32⟩
  | 65 => ⟨S_, .f32⟩
  | 66 => ⟨S8x4096, .f32⟩
  | 67 => ⟨S8x4096x1, .f32⟩
  | 68 => ⟨S8x4096x4096, .f32⟩
  | 69 => ⟨S8x4096x4096, .f32⟩
  | 70 => ⟨S8x4096x1, .f32⟩
  | 71 => ⟨S_, .f32⟩
  | 72 => ⟨S8x4096x1, .f32⟩
  | 73 => ⟨S8x4096x1, .f32⟩
  | 74 => ⟨S8x128x4096, .f32⟩
  | 75 => ⟨S4096x8x128, .f32⟩
  | 76 => ⟨S4096x1024, .f32⟩
  | 77 => ⟨S4096x1024, .f32⟩
  | 78 => ⟨S4096x8x128, .f32⟩
  | 79 => ⟨S8x128x4096, .f32⟩
  | 80 => ⟨S8x4096x4096, .f32⟩
  | 81 => ⟨S8x128x4096, .f32⟩
  | 82 => ⟨S4096x8x128, .f32⟩
  | 83 => ⟨S8x4096x4096, .f32⟩
  | 84 => ⟨S8x4096x4096, .f32⟩
  | 85 => ⟨S8x4096x4096, .f32⟩
  | 86 => ⟨S_, .f32⟩
  | 87 => ⟨S8x4096, .f32⟩
  | 88 => ⟨S8x4096x1, .f32⟩
  | 89 => ⟨S8x4096x1, .f32⟩
  | 90 => ⟨S8x4096x4096, .f32⟩
  | 91 => ⟨S8x4096x4096, .f32⟩
  | 92 => ⟨S_, .f32⟩
  | 93 => ⟨S8x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .f32⟩
  | 100 => ⟨S8x4096x4096, .f32⟩
  | 101 => ⟨S_, .f32⟩
  | 102 => ⟨S8x4096, .f32⟩
  | 103 => ⟨S8x1x4096, .f32⟩
  | 104 => ⟨S_, .f32⟩
  | 105 => ⟨S8x4096, .f32⟩
  | 106 => ⟨S_, .f32⟩
  | 107 => ⟨S8x4096, .f32⟩
  | 108 => ⟨S8x4096x1, .f32⟩
  | 109 => ⟨S_, .f32⟩
  | 110 => ⟨S8x4096, .f32⟩
  | 111 => ⟨S8x4096, .f32⟩
  | 112 => ⟨S_, .f32⟩
  | 113 => ⟨S8x4096x4096, .f32⟩
  | 114 => ⟨S8x4096x4096, .f32⟩
  | 115 => ⟨S8x4096x128, .f32⟩
  | 116 => ⟨S4096x8x128, .f32⟩
  | 117 => ⟨S8x4096x128, .f32⟩
  | 118 => ⟨S4096x8x128, .f32⟩
  | 119 => ⟨S1x8x4096, .f32⟩
  | 120 => ⟨S4096x1024, .f32⟩
  | 121 => ⟨S1x4096x1024, .f32⟩
  | 122 => ⟨S4096x1024, .f32⟩
  | 123 => ⟨S1x4096x1024, .f32⟩
  | 124 => ⟨S4096x1024, .f32⟩
  | 125 => ⟨S1x4096x1024, .f32⟩
  | 126 => ⟨S4096x1024, .f32⟩
  | 127 => ⟨S4096x1024, .bf16⟩
  | _ => ⟨S1x4096x1024, .f32⟩

abbrev hbmTy0_1 (i : Nat) : BufTy := match i % 128 with
  | 0 => ⟨S4096x1024, .f32⟩
  | 1 => ⟨S4096x1024, .bf16⟩
  | 2 => ⟨S4096x1024, .f32⟩
  | 3 => ⟨S4096x1024, .bf16⟩
  | 4 => ⟨S8x4096, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩

abbrev nD : Nat := 1
abbrev τ : Topo := Topo.v7x

variable {F : FTy → Type} [FloatOps F]
-- ==== Kernel2.lean ====
abbrev S1x4096x1536 : Shape := ⟨3, ![1, 4096, 1536]⟩
abbrev S1x4096x2048 : Shape := ⟨3, ![1, 4096, 2048]⟩
abbrev S1x4096x64 : Shape := ⟨3, ![1, 4096, 64]⟩
abbrev S1x4096 : Shape := ⟨2, ![1, 4096]⟩
abbrev S1x4096x1024 : Shape := ⟨3, ![1, 4096, 1024]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1536 : Shape := ⟨2, ![4096, 1536]⟩
abbrev S4096x8x192 : Shape := ⟨3, ![4096, 8, 192]⟩
abbrev S4096x2048 : Shape := ⟨2, ![4096, 2048]⟩
abbrev S4096x8x256 : Shape := ⟨3, ![4096, 8, 256]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x8x128 : Shape := ⟨3, ![4096, 8, 128]⟩
abbrev S8x4096x4096 : Shape := ⟨3, ![8, 4096, 4096]⟩
abbrev S4096x64 : Shape := ⟨2, ![4096, 64]⟩
abbrev S4096x1x64 : Shape := ⟨3, ![4096, 1, 64]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S4096x128 : Shape := ⟨2, ![4096, 128]⟩
abbrev S8x4x1x1024 : Shape := ⟨4, ![8, 4, 1, 1024]⟩
abbrev S1024x256 : Shape := ⟨2, ![1024, 256]⟩
abbrev S1024x128 : Shape := ⟨2, ![1024, 128]⟩
abbrev S1x1x1x1024 : Shape := ⟨4, ![1, 1, 1, 1024]⟩
abbrev S4096x256 : Shape := ⟨2, ![4096, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S512x256 : Shape := ⟨2, ![512, 256]⟩
abbrev S512x128 : Shape := ⟨2, ![512, 128]⟩
abbrev S512x512 : Shape := ⟨2, ![512, 512]⟩
abbrev S512x1 : Shape := ⟨2, ![512, 1]⟩

abbrev nBuf : Space → Nat
  | .hbm => 152
  | .vmem => 27
  | .smem => 0
  | _ => 0

abbrev hbmTy0_0 (i : Nat) : BufTy := match i % 128 with
  | 0 => ⟨S1x4096x1536, .f32⟩
  | 1 => ⟨S1x4096x2048, .f32⟩
  | 2 => ⟨S1x4096x64, .f32⟩
  | 3 => ⟨S1x4096, .i32⟩
  | 4 => ⟨S1x4096x1024, .f32⟩
  | 5 => ⟨S4096, .i32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S4096, .f32⟩
  | 21 => ⟨S4096x1, .f32⟩
  | 22 => ⟨S1x32, .f32⟩
  | 23 => ⟨S4096x32, .f32⟩
  | 24 => ⟨S4096x32, .f32⟩
  | 25 => ⟨S4096x32, .f32⟩
  | 26 => ⟨S4096x32, .f32⟩
  | 27 => ⟨S4096x32, .f32⟩
  | 28 => ⟨S4096x1536, .f32⟩
  | 29 => ⟨S4096x8x192, .f32⟩
  | 30 => ⟨S4096x2048, .f32⟩
  | 31 => ⟨S4096x8x256, .f32⟩
  | 32 => ⟨S4096x8x64, .f32⟩
  | 33 => ⟨S4096x1x32, .f32⟩
  | 34 => ⟨S4096x1x32, .f32⟩
  | 35 => ⟨S4096x8x32, .f32⟩
  | 36 => ⟨S4096x8x32, .f32⟩
  | 37 => ⟨S4096x8x32, .f32⟩
  | 38 => ⟨S4096x8x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x64, .f32⟩
  | 48 => ⟨S4096x8x128, .f32⟩
  | 49 => ⟨S4096x8x128, .f32⟩
  | 50 => ⟨S8x4096x4096, .f32⟩
  | 51 => ⟨S4096x64, .f32⟩
  | 52 => ⟨S4096x1x64, .f32⟩
  | 53 => ⟨S4096x8x64, .f32⟩
  | 54 => ⟨S8x4096x4096, .f32⟩
  | 55 => ⟨S8x4096x4096, .f32⟩
  | 56 => ⟨S_, .f32⟩
  | 57 => ⟨S8x4096x4096, .f32⟩
  | 58 => ⟨S8x4096x4096, .f32⟩
  | 59 => ⟨S4096, .i32⟩
  | 60 => ⟨S1x4096, .i32⟩
  | 61 => ⟨S4096, .i32⟩
  | 62 => ⟨S4096x1, .i32⟩
  | 63 => ⟨S4096x4096, .i32⟩
  | 64 => ⟨S4096x4096, .i32⟩
  | 65 => ⟨S4096x4096, .i1⟩
  | 66 => ⟨S_, .f32⟩
  | 67 => ⟨S_, .f32⟩
  | 68 => ⟨S8x4096x4096, .i1⟩
  | 69 => ⟨S8x4096x4096, .f32⟩
  | 70 => ⟨S8x4096x4096, .f32⟩
  | 71 => ⟨S_, .f32⟩
  | 72 => ⟨S8x4096, .f32⟩
  | 73 => ⟨S8x4096x1, .f32⟩
  | 74 => ⟨S8x4096x4096, .f32⟩
  | 75 => ⟨S8x4096x4096, .f32⟩
  | 76 => ⟨S8x4096x4096, .f32⟩
  | 77 => ⟨S_, .f32⟩
  | 78 => ⟨S8x4096, .f32⟩
  | 79 => ⟨S8x4096, .f32⟩
  | 80 => ⟨S8x4096, .f32⟩
  | 81 => ⟨S_, .f32⟩
  | 82 => ⟨S8x4096, .f32⟩
  | 83 => ⟨S_, .f32⟩
  | 84 => ⟨S8x4096, .f32⟩
  | 85 => ⟨S8x4096, .f32⟩
  | 86 => ⟨S8x4096x1, .f32⟩
  | 87 => ⟨S8x4096x4096, .f32⟩
  | 88 => ⟨S8x4096x4096, .f32⟩
  | 89 => ⟨S8x4096x4096, .f32⟩
  | 90 => ⟨S_, .f32⟩
  | 91 => ⟨S8x4096, .f32⟩
  | 92 => ⟨S8x4096x1, .f32⟩
  | 93 => ⟨S8x4096x4096, .f32⟩
  | 94 => ⟨S8x4096x4096, .f32⟩
  | 95 => ⟨S4096x8x128, .f32⟩
  | 96 => ⟨S8x128x4096, .f32⟩
  | 97 => ⟨S4096x8x128, .f32⟩
  | 98 => ⟨S4096x1024, .f32⟩
  | 99 => ⟨S4096x8x128, .f32⟩
  | 100 => ⟨S_, .f32⟩
  | 101 => ⟨S4096x8x64, .f32⟩
  | 102 => ⟨S4096x8x256, .f32⟩
  | 103 => ⟨S4096x2048, .f32⟩
  | 104 => ⟨S4096x2048, .bf16⟩
  | 105 => ⟨S4096x64, .f32⟩
  | 106 => ⟨S_, .i32⟩
  | 107 => ⟨S_, .f32⟩
  | 108 => ⟨S4096x128, .f32⟩
  | 109 => ⟨S4096x128, .bf16⟩
  | 110 => ⟨S4096x2048, .f32⟩
  | 111 => ⟨S4096x2048, .bf16⟩
  | 112 => ⟨S4096x1024, .bf16⟩
  | 113 => ⟨S4096x1024, .f32⟩
  | 114 => ⟨S4096x1024, .bf16⟩
  | 115 => ⟨S4096, .i32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S1x4096x1536, .f32⟩

abbrev hbmTy0_1 (i : Nat) : BufTy := match i % 128 with
  | 0 => ⟨S32, .f32⟩
  | 1 => ⟨S32, .f32⟩
  | 2 => ⟨S4096, .f32⟩
  | 3 => ⟨S4096x1, .f32⟩
  | 4 => ⟨S1x32, .f32⟩
  | 5 => ⟨S4096x32, .f32⟩
  | 6 => ⟨S4096x32, .f32⟩
  | 7 => ⟨S4096x32, .f32⟩
  | 8 => ⟨S4096x32, .f32⟩
  | 9 => ⟨S4096x32, .f32⟩
  | 10 => ⟨S_, .f32⟩
  | 11 => ⟨S4096x32, .f32⟩
  | 12 => ⟨S4096x128, .f32⟩
  | 13 => ⟨S4096x32, .f32⟩
  | 14 => ⟨S4096x128, .f32⟩
  | 15 => ⟨S4096x128, .f32⟩
  | 16 => ⟨S8x4x1x1024, .f32⟩
  | 17 => ⟨S4096x2048, .bf16⟩
  | 18 => ⟨S4096x2048, .bf16⟩
  | 19 => ⟨S4096x128, .f32⟩
  | 20 => ⟨S4096x8x256, .bf16⟩
  | 21 => ⟨S4096x8x192, .bf16⟩
  | 22 => ⟨S4096x1536, .bf16⟩
  | 23 => ⟨S4096x64, .f32⟩
  | _ => ⟨S1x4096x1536, .f32⟩

abbrev hbmTy (i : Nat) : BufTy := match i / 128 with
  | 0 => hbmTy0_0 i
  | 1 => hbmTy0_1 i
  | _ => ⟨S1x4096x1536, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1x1x1x1024, .f32⟩
  | .local _ .vmem, ⟨12, _⟩ => ⟨S1x1x1x1024, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x256, .bf16⟩
  | .local _ .vmem, ⟨20, _⟩ => ⟨S1024x256, .bf16⟩
  | .local _ .vmem, ⟨21, _⟩ => ⟨S4096x256, .bf16⟩
  | .local _ .vmem, ⟨22, _⟩ => ⟨S4096x256, .bf16⟩
  | .local _ .vmem, ⟨23, _⟩ => ⟨S4096x128, .f32⟩
  | .local _ .vmem, ⟨24, _⟩ => ⟨S4096x256, .bf16⟩
  | .local _ .vmem, ⟨25, _⟩ => ⟨S4096x256, .f32⟩
  | .local _ .vmem, ⟨26, _⟩ => ⟨S4096x128, .f32⟩
  | _, _ => ⟨S1x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_4 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c : Ref sig .tc := ⟨.hbm, 106, rfl⟩
abbrev main_call1_v0 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_11 : Ref sig .tc := ⟨.hbm, 117, rfl⟩
abbrev main_v95 : Ref sig .tc := ⟨.hbm, 118, rfl⟩
abbrev main_v96 : Ref sig .tc := ⟨.hbm, 119, rfl⟩
abbrev main_cst_12 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_13 : Ref sig .tc := ⟨.hbm, 124, rfl⟩
abbrev main_v100 : Ref sig .tc := ⟨.hbm, 125, rfl⟩
abbrev main_v101 : Ref sig .tc := ⟨.hbm, 126, rfl⟩
abbrev main_cst_14 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_15 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118_0 : Ref sig .tc := ⟨.hbm, 145, rfl⟩
abbrev main_v118_1 : Ref sig .tc := ⟨.hbm, 146, rfl⟩
abbrev main_v118_2 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_17 : BitVec 32 := 0#32
  let arg1 : BitVec 32 := BitVec.ofNat 32 (i 1).val
  let v32 : BitVec 32 := Scalar.subi arg1 c0_i32_17
  let c1_i32 : BitVec 32 := 1#32
  let v34 : BitVec 32 := Scalar.divsi v32 c1_i32
  let v35 : BitVec 32 := Scalar.muli v34 c1_i32
  let v36 : BitVec 32 := Scalar.addi c0_i32_17 v35
  let c1_i32_18 : BitVec 32 := 1#32
  ⟨c0_i32_17, v36, c1_i32_18⟩
def k0_mult1 (i : grid0.Coords) (k0_t1 : Fin (k0_t1_loop i).trips) : BitVec 32 :=
  let c0_i32_17 : BitVec 32 := 0#32
  let c1_i32_18 : BitVec 32 := 1#32
  let arg18 : BitVec 32 := Scf.iv c0_i32_17 c1_i32_18 k0_t1
  let c1024_i32_75 : BitVec 32 := 1024#32
  let v206 : BitVec 32 := Scalar.muli arg18 c1024_i32_75
  let c0_i32_76 : BitVec 32 := 0#32
  let v207 : BitVec 32 := Scalar.addi v206 c0_i32_76
  v207
def k0_off1 (i : grid0.Coords) (k0_t1 : Fin (k0_t1_loop i).trips) : Fin 2 → Nat :=
  let c0_i32_17 : BitVec 32 := 0#32
  let c1_i32_18 : BitVec 32 := 1#32
  let arg18 : BitVec 32 := Scf.iv c0_i32_17 c1_i32_18 k0_t1
  let c1024_i32_75 : BitVec 32 := 1024#32
  let v206 : BitVec 32 := Scalar.muli arg18 c1024_i32_75
  let c0_i32_76 : BitVec 32 := 0#32
  let v207 : BitVec 32 := Scalar.addi v206 c0_i32_76
  let v208 : BitVec 32 := v207
  let v209 : Index := Scalar.indexCast v208
  let c0_77 : Index := 0#32
  ![v209.toNat, 0]
def k0_off2 (i : grid0.Coords) (k0_t1 : Fin (k0_t1_loop i).trips) : Fin 2 → Nat :=
  let c0_i32_17 : BitVec 32 := 0#32
  let c1_i32_18 : BitVec 32 := 1#32
  let arg18 : BitVec 32 := Scf.iv c0_i32_17 c1_i32_18 k0_t1
  let c1024_i32_75 : BitVec 32 := 1024#32
  let v206 : BitVec 32 := Scalar.muli arg18 c1024_i32_75
  let c0_i32_76 : BitVec 32 := 0#32
  let v207 : BitVec 32 := Scalar.addi v206 c0_i32_76
  let v208 : BitVec 32 := v207
  let v211 : Index := Scalar.indexCast v208
  let c0_78 : Index := 0#32
  ![v211.toNat, 0]
@[reducible] def k0_t2_loop (i : grid0.Coords) : Scf.Loop 32 :=
  let c0_i32_17 : BitVec 32 := 0#32
  let arg1 : BitVec 32 := BitVec.ofNat 32 (i 1).val
  let v32 : BitVec 32 := Scalar.subi arg1 c0_i32_17
  let c1_i32 : BitVec 32 := 1#32
  let v34 : BitVec 32 := Scalar.divsi v32 c1_i32
  let v35 : BitVec 32 := Scalar.muli v34 c1_i32
  let v36 : BitVec 32 := Scalar.addi c0_i32_17 v35
  let v33 : BitVec 32 := Scalar.addi c0_i32_17 v32
  let c1_i32_19 : BitVec 32 := 1#32
  ⟨v36, v33, c1_i32_19⟩
def k0_mult2 (i : grid0.Coords) (k0_t2 : Fin (k0_t2_loop i).trips) : BitVec 32 :=
  let c0_i32_17 : BitVec 32 := 0#32
  let arg1 : BitVec 32 := BitVec.ofNat 32 (i 1).val
  let v32 : BitVec 32 := Scalar.subi arg1 c0_i32_17
  let c1_i32 : BitVec 32 := 1#32
  let v34 : BitVec 32 := Scalar.divsi v32 c1_i32
  let v35 : BitVec 32 := Scalar.muli v34 c1_i32
  let v36 : BitVec 32 := Scalar.addi c0_i32_17 v35
  let c1_i32_19 : BitVec 32 := 1#32
  let arg18 : BitVec 32 := Scf.iv v36 c1_i32_19 k0_t2
  let c1024_i32_75 : BitVec 32 := 1024#32
  let v206 : BitVec 32 := Scalar.muli arg18 c1024_i32_75
  let c0_i32_76 : BitVec 32 := 0#32
  let v207 : BitVec 32 := Scalar.addi v206 c0_i32_76
  v207
def k0_off3 (i : grid0.Coords) (k0_t2 : Fin (k0_t2_loop i).trips) : Fin 2 → Nat :=
  let c0_i32_17 : BitVec 32 := 0#32
  let arg1 : BitVec 32 := BitVec.ofNat 32 (i 1).val
  let v32 : BitVec 32 := Scalar.subi arg1 c0_i32_17
  let c1_i32 : BitVec 32 := 1#32
  let v34 : BitVec 32 := Scalar.divsi v32 c1_i32
  let v35 : BitVec 32 := Scalar.muli v34 c1_i32
  let v36 : BitVec 32 := Scalar.addi c0_i32_17 v35
  let c1_i32_19 : BitVec 32 := 1#32
  let arg18 : BitVec 32 := Scf.iv v36 c1_i32_19 k0_t2
  let c1024_i32_75 : BitVec 32 := 1024#32
  let v206 : BitVec 32 := Scalar.muli arg18 c1024_i32_75
  let c0_i32_76 : BitVec 32 := 0#32
  let v207 : BitVec 32 := Scalar.addi v206 c0_i32_76
  let v208 : BitVec 32 := v207
  let v209 : Index := Scalar.indexCast v208
  let c0_77 : Index := 0#32
  ![v209.toNat, 0]
def k0_off4 (i : grid0.Coords) (k0_t2 : Fin (k0_t2_loop i).trips) : Fin 2 → Nat :=
  let c0_i32_17 : BitVec 32 := 0#32
  let arg1 : BitVec 32 := BitVec.ofNat 32 (i 1).val
  let v32 : BitVec 32 := Scalar.subi arg1 c0_i32_17
  let c1_i32 : BitVec 32 := 1#32
  let v34 : BitVec 32 := Scalar.divsi v32 c1_i32
  let v35 : BitVec 32 := Scalar.muli v34 c1_i32
  let v36 : BitVec 32 := Scalar.addi c0_i32_17 v35
  let c1_i32_19 : BitVec 32 := 1#32
  let arg18 : BitVec 32 := Scf.iv v36 c1_i32_19 k0_t2
  let c1024_i32_75 : BitVec 32 := 1024#32
  let v206 : BitVec 32 := Scalar.muli arg18 c1024_i32_75
  let c0_i32_76 : BitVec 32 := 0#32
  let v207 : BitVec 32 := Scalar.addi v206 c0_i32_76
  let v208 : BitVec 32 := v207
  let v211 : Index := Scalar.indexCast v208
  let c0_78 : Index := 0#32
  ![v211.toNat, 0]
def k0_mult3 (i : grid0.Coords) : BitVec 32 :=
  let arg1 : BitVec 32 := BitVec.ofNat 32 (i 1).val
  let c1024_i32 : BitVec 32 := 1024#32
  let v40 : BitVec 32 := Scalar.muli arg1 c1024_i32
  let c0_i32_20 : BitVec 32 := 0#32
  let v41 : BitVec 32 := Scalar.addi v40 c0_i32_20
  v41
def k0_off5 (i : grid0.Coords) (c0_i32_20 : BitVec 32) : Fin 2 → Nat :=
  let arg1 : BitVec 32 := BitVec.ofNat 32 (i 1).val
  let c1024_i32 : BitVec 32 := 1024#32
  let v40 : BitVec 32 := Scalar.muli arg1 c1024_i32
  let v41 : BitVec 32 := Scalar.addi v40 c0_i32_20
  let v42 : BitVec 32 := v41
  let v43 : Index := Scalar.indexCast v42
  let c0_21 : Index := 0#32
  ![v43.toNat, 0]
def k0_off6 (i : grid0.Coords) (c0_i32_20 : BitVec 32) : Fin 2 → Nat :=
  let arg1 : BitVec 32 := BitVec.ofNat 32 (i 1).val
  let c1024_i32 : BitVec 32 := 1024#32
  let v40 : BitVec 32 := Scalar.muli arg1 c1024_i32
  let v41 : BitVec 32 := Scalar.addi v40 c0_i32_20
  let v42 : BitVec 32 := v41
  let v45 : Index := Scalar.indexCast v42
  let c0_22 : Index := 0#32
  ![v45.toNat, 0]
def k0_mult4 (i : grid0.Coords) : BitVec 32 :=
  let arg1 : BitVec 32 := BitVec.ofNat 32 (i 1).val
  let c1024_i32_35 : BitVec 32 := 1024#32
  let v90 : BitVec 32 := Scalar.muli arg1 c1024_i32_35
  let c0_i32_36 : BitVec 32 := 0#32
  let v91 : BitVec 32 := Scalar.addi v90 c0_i32_36
  v91
def k0_mult5 (i : grid0.Coords) : BitVec 32 :=
  let arg1 : BitVec 32 := BitVec.ofNat 32 (i 1).val
  let c1024_i32_50 : BitVec 32 := 1024#32
  let v134 : BitVec 32 := Scalar.muli arg1 c1024_i32_50
  let c512_i32 : BitVec 32 := 512#32
  let v135 : BitVec 32 := Scalar.addi v134 c512_i32
  v135
def k0_cond3 (i : grid0.Coords) : BitVec 1 :=
  let arg1 : BitVec 32 := BitVec.ofNat 32 (i 1).val
  let c3_i32 : BitVec 32 := 3#32
  let v203 : BitVec 1 := Scalar.cmpi .eq arg1 c3_i32
  let v204 : BitVec 32 := Scalar.extui v203
  let c0_i32_74 : BitVec 32 := 0#32
  let v205 : BitVec 1 := Scalar.cmpi .ne v204 c0_i32_74
  v205

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference2Ideal.lean ====
abbrev S1x4096x1536 : Shape := ⟨3, ![1, 4096, 1536]⟩
abbrev S1x4096x2048 : Shape := ⟨3, ![1, 4096, 2048]⟩
abbrev S1x4096x64 : Shape := ⟨3, ![1, 4096, 64]⟩
abbrev S1x4096 : Shape := ⟨2, ![1, 4096]⟩
abbrev S1x4096x1024 : Shape := ⟨3, ![1, 4096, 1024]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1536 : Shape := ⟨2, ![4096, 1536]⟩
abbrev S4096x8x192 : Shape := ⟨3, ![4096, 8, 192]⟩
abbrev S4096x2048 : Shape := ⟨2, ![4096, 2048]⟩
abbrev S4096x8x256 : Shape := ⟨3, ![4096, 8, 256]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S8x4096x4096 : Shape := ⟨3, ![8, 4096, 4096]⟩
abbrev S4096x64 : Shape := ⟨2, ![4096, 64]⟩
abbrev S4096x1x64 : Shape := ⟨3, ![4096, 1, 64]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S8x4096x64 : Shape := ⟨3, ![8, 4096, 64]⟩
abbrev S8x4096x128 : Shape := ⟨3, ![8, 4096, 128]⟩

abbrev nBuf : Space → Nat
  | .hbm => 192
  | .vmem => 0
  | .smem => 0
  | _ => 0

abbrev hbmTy0_0 (i : Nat) : BufTy := match i % 128 with
  | 0 => ⟨S1x4096x1536, .f32⟩
  | 1 => ⟨S1x4096x2048, .f32⟩
  | 2 => ⟨S1x4096x64, .f32⟩
  | 3 => ⟨S1x4096, .i32⟩
  | 4 => ⟨S1x4096x1024, .f32⟩
  | 5 => ⟨S4096, .i32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S4096, .f32⟩
  | 21 => ⟨S4096x1, .f32⟩
  | 22 => ⟨S1x32, .f32⟩
  | 23 => ⟨S4096x32, .f32⟩
  | 24 => ⟨S4096x32, .f32⟩
  | 25 => ⟨S4096x32, .f32⟩
  | 26 => ⟨S4096x32, .f32⟩
  | 27 => ⟨S4096x32, .f32⟩
  | 28 => ⟨S4096x1536, .f32⟩
  | 29 => ⟨S4096x8x192, .f32⟩
  | 30 => ⟨S4096x2048, .f32⟩
  | 31 => ⟨S4096x8x256, .f32⟩
  | 32 => ⟨S4096x8x128, .f32⟩
  | 33 => ⟨S4096x8x64, .f32⟩
  | 34 => ⟨S4096x1x32, .f32⟩
  | 35 => ⟨S4096x1x32, .f32⟩
  | 36 => ⟨S4096x8x32, .f32⟩
  | 37 => ⟨S4096x8x32, .f32⟩
  | 38 => ⟨S4096x8x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x64, .f32⟩
  | 49 => ⟨S4096x8x128, .f32⟩
  | 50 => ⟨S8x4096x4096, .f32⟩
  | 51 => ⟨S4096x64, .f32⟩
  | 52 => ⟨S4096x1x64, .f32⟩
  | 53 => ⟨S4096x8x64, .f32⟩
  | 54 => ⟨S8x4096x4096, .f32⟩
  | 55 => ⟨S8x4096x4096, .f32⟩
  | 56 => ⟨S_, .f32⟩
  | 57 => ⟨S8x4096x4096, .f32⟩
  | 58 => ⟨S8x4096x4096, .f32⟩
  | 59 => ⟨S4096, .i32⟩
  | 60 => ⟨S1x4096, .i32⟩
  | 61 => ⟨S4096, .i32⟩
  | 62 => ⟨S4096x1, .i32⟩
  | 63 => ⟨S4096x4096, .i32⟩
  | 64 => ⟨S4096x4096, .i32⟩
  | 65 => ⟨S4096x4096, .i1⟩
  | 66 => ⟨S_, .f32⟩
  | 67 => ⟨S_, .f32⟩
  | 68 => ⟨S8x4096x4096, .i1⟩
  | 69 => ⟨S8x4096x4096, .f32⟩
  | 70 => ⟨S8x4096x4096, .f32⟩
  | 71 => ⟨S_, .f32⟩
  | 72 => ⟨S8x4096x4096, .f32⟩
  | 73 => ⟨S_, .f32⟩
  | 74 => ⟨S8x4096, .f32⟩
  | 75 => ⟨S8x4096x1, .f32⟩
  | 76 => ⟨S8x4096x4096, .f32⟩
  | 77 => ⟨S8x4096x4096, .i1⟩
  | 78 => ⟨S8x4096x4096, .f32⟩
  | 79 => ⟨S_, .f32⟩
  | 80 => ⟨S8x4096, .f32⟩
  | 81 => ⟨S_, .f32⟩
  | 82 => ⟨S8x4096, .f32⟩
  | 83 => ⟨S8x4096, .f32⟩
  | 84 => ⟨S_, .f32⟩
  | 85 => ⟨S8x4096, .f32⟩
  | 86 => ⟨S8x4096, .i1⟩
  | 87 => ⟨S_, .f32⟩
  | 88 => ⟨S8x4096, .f32⟩
  | 89 => ⟨S8x4096, .i1⟩
  | 90 => ⟨S_, .f32⟩
  | 91 => ⟨S8x4096, .f32⟩
  | 92 => ⟨S_, .f32⟩
  | 93 => ⟨S8x4096, .f32⟩
  | 94 => ⟨S_, .f32⟩
  | 95 => ⟨S8x4096, .f32⟩
  | 96 => ⟨S8x4096, .f32⟩
  | 97 => ⟨S8x4096, .f32⟩
  | 98 => ⟨S8x4096x1, .f32⟩
  | 99 => ⟨S8x4096x4096, .f32⟩
  | 100 => ⟨S8x4096x4096, .f32⟩
  | 101 => ⟨S8x4096x4096, .f32⟩
  | 102 => ⟨S_, .f32⟩
  | 103 => ⟨S8x4096, .f32⟩
  | 104 => ⟨S8x4096x1, .f32⟩
  | 105 => ⟨S8x4096x4096, .f32⟩
  | 106 => ⟨S8x4096x4096, .f32⟩
  | 107 => ⟨S8x4096x1, .f32⟩
  | 108 => ⟨S_, .f32⟩
  | 109 => ⟨S8x4096x1, .f32⟩
  | 110 => ⟨S8x4096x1, .f32⟩
  | 111 => ⟨S4096x8x128, .f32⟩
  | 112 => ⟨S8x128x4096, .f32⟩
  | 113 => ⟨S4096x8x128, .f32⟩
  | 114 => ⟨S4096x1024, .f32⟩
  | 115 => ⟨S4096x1024, .f32⟩
  | 116 => ⟨S4096x8x128, .f32⟩
  | 117 => ⟨S8x128x4096, .f32⟩
  | 118 => ⟨S8x4096x4096, .f32⟩
  | 119 => ⟨S8x128x4096, .f32⟩
  | 120 => ⟨S4096x8x128, .f32⟩
  | 121 => ⟨S_, .f32⟩
  | 122 => ⟨S4096x8x256, .f32⟩
  | 123 => ⟨S8x4096x4096, .f32⟩
  | 124 => ⟨S8x4096x4096, .f32⟩
  | 125 => ⟨S8x4096x4096, .f32⟩
  | 126 => ⟨S_, .f32⟩
  | 127 => ⟨S8x4096, .f32⟩
  | _ => ⟨S1x4096x1536, .f32⟩

abbrev hbmTy0_1 (i : Nat) : BufTy := match i % 128 with
  | 0 => ⟨S8x4096x1, .f32⟩
  | 1 => ⟨S8x4096x1, .f32⟩
  | 2 => ⟨S8x4096x4096, .f32⟩
  | 3 => ⟨S8x4096x4096, .f32⟩
  | 4 => ⟨S_, .f32⟩
  | 5 => ⟨S8x4096, .f32⟩
  | 6 => ⟨S8x4096x4096, .f32⟩
  | 7 => ⟨S8x4096x4096, .f32⟩
  | 8 => ⟨S8x4096x4096, .f32⟩
  | 9 => ⟨S_, .f32⟩
  | 10 => ⟨S8x4096x4096, .f32⟩
  | 11 => ⟨S8x4096x4096, .f32⟩
  | 12 => ⟨S_, .f32⟩
  | 13 => ⟨S8x4096x4096, .f32⟩
  | 14 => ⟨S8x4096x4096, .f32⟩
  | 15 => ⟨S8x4096x64, .f32⟩
  | 16 => ⟨S4096x8x64, .f32⟩
  | 17 => ⟨S8x4096x64, .f32⟩
  | 18 => ⟨S4096x8x64, .f32⟩
  | 19 => ⟨S_, .f32⟩
  | 20 => ⟨S4096x64, .f32⟩
  | 21 => ⟨S4096x1x64, .f32⟩
  | 22 => ⟨S_, .f32⟩
  | 23 => ⟨S4096x64, .f32⟩
  | 24 => ⟨S1x4096x64, .f32⟩
  | 25 => ⟨S8x4096x128, .f32⟩
  | 26 => ⟨S4096x8x128, .f32⟩
  | 27 => ⟨S8x4096x128, .f32⟩
  | 28 => ⟨S4096x8x128, .f32⟩
  | 29 => ⟨S_, .f32⟩
  | 30 => ⟨S4096x8x256, .f32⟩
  | 31 => ⟨S4096x8x256, .f32⟩
  | 32 => ⟨S4096x8x32, .f32⟩
  | 33 => ⟨S4096x8x32, .f32⟩
  | 34 => ⟨S4096x8x32, .f32⟩
  | 35 => ⟨S4096x8x32, .f32⟩
  | 36 => ⟨S4096x8x32, .f32⟩
  | 37 => ⟨S4096x8x32, .f32⟩
  | 38 => ⟨S4096x8x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S_, .f32⟩
  | 46 => ⟨S4096x8x64, .f32⟩
  | 47 => ⟨S_, .f32⟩
  | 48 => ⟨S4096x8x64, .f32⟩
  | 49 => ⟨S4096x8x64, .f32⟩
  | 50 => ⟨S_, .f32⟩
  | 51 => ⟨S4096x8x192, .f32⟩
  | 52 => ⟨S_, .f32⟩
  | 53 => ⟨S4096x8x192, .f32⟩
  | 54 => ⟨S4096x8x192, .f32⟩
  | 55 => ⟨S4096x2048, .f32⟩
  | 56 => ⟨S1x4096x2048, .f32⟩
  | 57 => ⟨S4096x1536, .f32⟩
  | 58 => ⟨S1x4096x1536, .f32⟩
  | 59 => ⟨S4096x1536, .f32⟩
  | 60 => ⟨S4096x1536, .bf16⟩
  | 61 => ⟨S4096x2048, .f32⟩
  | 62 => ⟨S4096x2048, .bf16⟩
  | 63 => ⟨S4096x64, .f32⟩
  | _ => ⟨S1x4096x1536, .f32⟩

abbrev hbmTy (i : Nat) : BufTy := match i / 128 with
  | 0 => hbmTy0_0 i
  | 1 => hbmTy0_1 i
  | _ => ⟨S1x4096x1536, .f32⟩

abbrev bufTy : (tb : Table) → Fin (tcTables nBuf tb) → BufTy
  | .hbm, ⟨i, _⟩ => hbmTy i
  | _, _ => ⟨S1x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_4 : Ref sig .tc := ⟨.hbm, 66, rfl⟩
abbrev main_call0_v0 : Ref sig .tc := ⟨.hbm, 67, rfl⟩
abbrev main_v56_1 : Ref sig .tc := ⟨.hbm, 68, rfl⟩
abbrev main_call0_v2 : Ref sig .tc := ⟨.hbm, 69, rfl⟩
abbrev main_v56_0 : Ref sig .tc := ⟨.hbm, 70, rfl⟩
abbrev main_call0_cst : Ref sig .tc := ⟨.hbm, 71, rfl⟩
abbrev main_v56_2 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_15 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_17 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_call1_cst : Ref sig .tc := ⟨.hbm, 137, rfl⟩
abbrev main_call1_v0 : Ref sig .tc := ⟨.hbm, 138, rfl⟩
abbrev main_v108 : Ref sig .tc := ⟨.hbm, 139, rfl⟩
abbrev main_cst_18 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_19 : Ref sig .tc := ⟨.hbm, 147, rfl⟩
abbrev main_v115 : Ref sig .tc := ⟨.hbm, 148, rfl⟩
abbrev main_v116 : Ref sig .tc := ⟨.hbm, 149, rfl⟩
abbrev main_cst_20 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_21 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_22 : Ref sig .tc := ⟨.hbm, 173, rfl⟩
abbrev main_v138 : Ref sig .tc := ⟨.hbm, 174, rfl⟩
abbrev main_cst_23 : Ref sig .tc := ⟨.hbm, 175, rfl⟩
abbrev main_v139 : Ref sig .tc := ⟨.hbm, 176, rfl⟩
abbrev main_v140 : Ref sig .tc := ⟨.hbm, 177, rfl⟩
abbrev main_cst_24 : Ref sig .tc := ⟨.hbm, 178, rfl⟩
abbrev main_v141 : Ref sig .tc := ⟨.hbm, 179, rfl⟩
abbrev main_cst_25 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩

abbrev nD : Nat := 1
abbrev τ : Topo := Topo.v7x

variable {F : FTy → Type} [FloatOps F]
-- ==== Kernel3.lean ====
abbrev S1x4096x8 : Shape := ⟨3, ![1, 4096, 8]⟩
abbrev S1x8 : Shape := ⟨2, ![1, 8]⟩
abbrev S1x8x4096 : Shape := ⟨3, ![1, 8, 4096]⟩
abbrev S8x4096 : Shape := ⟨2, ![8, 4096]⟩
abbrev S4096x8 : Shape := ⟨2, ![4096, 8]⟩
abbrev S8x1 : Shape := ⟨2, ![8, 1]⟩
abbrev S8x128 : Shape := ⟨2, ![8, 128]⟩
abbrev S8 : Shape := ⟨1, ![8]⟩

abbrev nBuf : Space → Nat
  | .hbm => 14
  | .vmem => 5
  | .smem => 0
  | _ => 0

abbrev bufTy : (tb : Table) → Fin (tcTables nBuf tb) → BufTy
  | .hbm, ⟨0, _⟩ => ⟨S1x4096x8, .f32⟩
  | .hbm, ⟨1, _⟩ => ⟨S1x8, .f32⟩
  | .hbm, ⟨2, _⟩ => ⟨S1x8x4096, .f32⟩
  | .hbm, ⟨3, _⟩ => ⟨S8x4096, .f32⟩
  | .hbm, ⟨4, _⟩ => ⟨S4096x8, .f32⟩
  | .hbm, ⟨5, _⟩ => ⟨S8x4096, .f32⟩
  | .hbm, ⟨6, _⟩ => ⟨S8x1, .f32⟩
  | .hbm, ⟨7, _⟩ => ⟨S8x4096, .f32⟩
  | .hbm, ⟨8, _⟩ => ⟨S8x128, .f32⟩
  | .hbm, ⟨9, _⟩ => ⟨S4096x8, .f32⟩
  | .hbm, ⟨10, _⟩ => ⟨S1x4096x8, .f32⟩
  | .hbm, ⟨11, _⟩ => ⟨S8x1, .f32⟩
  | .hbm, ⟨12, _⟩ => ⟨S8, .f32⟩
  | .hbm, ⟨13, _⟩ => ⟨S1x8, .f32⟩
  | .local _ .vmem, ⟨0, _⟩ => ⟨S8x4096, .f32⟩
  | .local _ .vmem, ⟨1, _⟩ => ⟨S8x4096, .f32⟩
  | .local _ .vmem, ⟨2, _⟩ => ⟨S8x1, .f32⟩
  | .local _ .vmem, ⟨3, _⟩ => ⟨S8x4096, .f32⟩
  | .local _ .vmem, ⟨4, _⟩ => ⟨S8x128, .f32⟩
  | _, _ => ⟨S1x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S1x4096x8 : Shape := ⟨3, ![1, 4096, 8]⟩
abbrev S1x8 : Shape := ⟨2, ![1, 8]⟩
abbrev S1x8x4096 : Shape := ⟨3, ![1, 8, 4096]⟩
abbrev S8 : Shape := ⟨1, ![8]⟩
abbrev S1x1x8 : Shape := ⟨3, ![1, 1, 8]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S1x4096x8, .f32⟩
  | .hbm, ⟨1, _⟩ => ⟨S1x8, .f32⟩
  | .hbm, ⟨2, _⟩ => ⟨S1x8x4096, .f32⟩
  | .hbm, ⟨3, _⟩ => ⟨S8, .f32⟩
  | .hbm, ⟨4, _⟩ => ⟨S1x1x8, .f32⟩
  | .hbm, ⟨5, _⟩ => ⟨S1x4096x8, .f32⟩
  | .hbm, ⟨6, _⟩ => ⟨S1x4096x8, .f32⟩
  | .hbm, ⟨7, _⟩ => ⟨S1x4096x8, .f32⟩
  | .hbm, ⟨8, _⟩ => ⟨S_, .f32⟩
  | .hbm, ⟨9, _⟩ => ⟨S1x4096x8, .f32⟩
  | .hbm, ⟨10, _⟩ => ⟨S1x4096x8, .f32⟩
  | .hbm, ⟨11, _⟩ => ⟨S1x4096x8, .f32⟩
  | .hbm, ⟨12, _⟩ => ⟨S1x4096x8, .f32⟩
  | .hbm, ⟨13, _⟩ => ⟨S1x4096x8, .i1⟩
  | .hbm, ⟨14, _⟩ => ⟨S1x4096x8, .f32⟩
  | .hbm, ⟨15, _⟩ => ⟨S1x4096x8, .f32⟩
  | .hbm, ⟨16, _⟩ => ⟨S1x4096x8, .f32⟩
  | .hbm, ⟨17, _⟩ => ⟨S1x4096x8, .f32⟩
  | .hbm, ⟨18, _⟩ => ⟨S1x4096x8, .f32⟩
  | .hbm, ⟨19, _⟩ => ⟨S1x4096x8, .f32⟩
  | .hbm, ⟨20, _⟩ => ⟨S1x4096x8, .f32⟩
  | .hbm, ⟨21, _⟩ => ⟨S1x4096x8, .f32⟩
  | .hbm, ⟨22, _⟩ => ⟨S_, .f32⟩
  | .hbm, ⟨23, _⟩ => ⟨S1x4096x8, .f32⟩
  | .hbm, ⟨24, _⟩ => ⟨S1x4096x8, .i1⟩
  | .hbm, ⟨25, _⟩ => ⟨S_, .f32⟩
  | .hbm, ⟨26, _⟩ => ⟨S1x4096x8, .f32⟩
  | .hbm, ⟨27, _⟩ => ⟨S1x4096x8, .f32⟩
  | .hbm, ⟨28, _⟩ => ⟨S_, .f32⟩
  | .hbm, ⟨29, _⟩ => ⟨S1x4096x8, .f32⟩
  | .hbm, ⟨30, _⟩ => ⟨S1x4096x8, .i1⟩
  | .hbm, ⟨31, _⟩ => ⟨S_, .f32⟩
  | .hbm, ⟨32, _⟩ => ⟨S1x4096x8, .f32⟩
  | .hbm, ⟨33, _⟩ => ⟨S1x4096x8, .f32⟩
  | .hbm, ⟨34, _⟩ => ⟨S1x4096x8, .f32⟩
  | .hbm, ⟨35, _⟩ => ⟨S1x4096x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x4096x8, .f32⟩
  | .hbm, ⟨44, _⟩ => ⟨S1x4096x8, .i1⟩
  | .hbm, ⟨45, _⟩ => ⟨S_, .f32⟩
  | .hbm, ⟨46, _⟩ => ⟨S1x4096x8, .f32⟩
  | .hbm, ⟨47, _⟩ => ⟨S1x4096x8, .f32⟩
  | .hbm, ⟨48, _⟩ => ⟨S1x4096x8, .f32⟩
  | .hbm, ⟨49, _⟩ => ⟨S1x4096x8, .f32⟩
  | .hbm, ⟨50, _⟩ => ⟨S1x4096x8, .f32⟩
  | .hbm, ⟨51, _⟩ => ⟨S_, .f32⟩
  | .hbm, ⟨52, _⟩ => ⟨S1x4096x8, .f32⟩
  | .hbm, ⟨53, _⟩ => ⟨S1x4096x8, .f32⟩
  | .hbm, ⟨54, _⟩ => ⟨S1x4096x8, .f32⟩
  | .hbm, ⟨55, _⟩ => ⟨S_, .f32⟩
  | .hbm, ⟨56, _⟩ => ⟨S_, .f32⟩
  | .hbm, ⟨57, _⟩ => ⟨S1x4096x8, .f32⟩
  | .hbm, ⟨58, _⟩ => ⟨S1x8x4096, .f32⟩
  | .hbm, ⟨59, _⟩ => ⟨S1x4096x8, .f32⟩
  | .hbm, ⟨60, _⟩ => ⟨S_, .f32⟩
  | .hbm, ⟨61, _⟩ => ⟨S_, .f32⟩
  | .hbm, ⟨62, _⟩ => ⟨S1x4096x8, .f32⟩
  | .hbm, ⟨63, _⟩ => ⟨S1x4096x8, .f32⟩
  | .hbm, ⟨64, _⟩ => ⟨S1x4096x8, .f32⟩
  | .hbm, ⟨65, _⟩ => ⟨S1x4096x8, .f32⟩
  | .hbm, ⟨66, _⟩ => ⟨S_, .f32⟩
  | .hbm, ⟨67, _⟩ => ⟨S1x8, .f32⟩
  | .hbm, ⟨68, _⟩ => ⟨S1x1x8, .f32⟩
  | .hbm, ⟨69, _⟩ => ⟨S_, .f32⟩
  | .hbm, ⟨70, _⟩ => ⟨S8, .f32⟩
  | .hbm, ⟨71, _⟩ => ⟨S1x8, .f32⟩
  | _, _ => ⟨S1x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x2048x2048 : Shape := ⟨3, ![1, 2048, 2048]⟩
abbrev S1x4096x2048 : Shape := ⟨3, ![1, 4096, 2048]⟩
abbrev S_ : Shape := ⟨0, ![]⟩
abbrev S4096x4608 : Shape := ⟨2, ![4096, 4608]⟩
abbrev S4096x1024 : Shape := ⟨2, ![4096, 1024]⟩
abbrev S4096x6656 : Shape := ⟨2, ![4096, 6656]⟩
abbrev S4096x2048 : Shape := ⟨2, ![4096, 2048]⟩
abbrev S2048x2048 : Shape := ⟨2, ![2048, 2048]⟩
abbrev S512x2048 : Shape := ⟨2, ![512, 2048]⟩
abbrev S512x1024 : Shape := ⟨2, ![512, 1024]⟩

abbrev nBuf : Space → Nat
  | .hbm => 23
  | .vmem => 15
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x2048x2048, .f32⟩
  | .hbm, ⟨5, _⟩ => ⟨S1x4096x2048, .f32⟩
  | .hbm, ⟨6, _⟩ => ⟨S_, .f32⟩
  | .hbm, ⟨7, _⟩ => ⟨S4096x4608, .f32⟩
  | .hbm, ⟨8, _⟩ => ⟨S4096x1024, .f32⟩
  | .hbm, ⟨9, _⟩ => ⟨S4096x1024, .f32⟩
  | .hbm, ⟨10, _⟩ => ⟨S4096x6656, .f32⟩
  | .hbm, ⟨11, _⟩ => ⟨S4096x6656, .bf16⟩
  | .hbm, ⟨12, _⟩ => ⟨S4096x2048, .f32⟩
  | .hbm, ⟨13, _⟩ => ⟨S4096x2048, .bf16⟩
  | .hbm, ⟨14, _⟩ => ⟨S2048x2048, .f32⟩
  | .hbm, ⟨15, _⟩ => ⟨S2048x2048, .bf16⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S1x4096x1024 : Shape := ⟨3, ![1, 4096, 1024]⟩
abbrev S1x2048x2048 : Shape := ⟨3, ![1, 2048, 2048]⟩
abbrev S1x4096x2048 : Shape := ⟨3, ![1, 4096, 2048]⟩
abbrev S4096x1024 : Shape := ⟨2, ![4096, 1024]⟩
abbrev S_ : Shape := ⟨0, ![]⟩
abbrev S4096x2048 : Shape := ⟨2, ![4096, 2048]⟩
abbrev S2048x2048 : Shape := ⟨2, ![2048, 2048]⟩

abbrev nBuf : Space → Nat
  | .hbm => 69
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x2048x2048, .f32⟩
  | .hbm, ⟨5, _⟩ => ⟨S1x4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x2048, .f32⟩
  | .hbm, ⟨39, _⟩ => ⟨S2048x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x4096x1024, .f32⟩
  | .hbm, ⟨52, _⟩ => ⟨S1x4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x4096x1024, .f32⟩
  | .hbm, ⟨60, _⟩ => ⟨S1x4096x1024, .f32⟩
  | .hbm, ⟨61, _⟩ => ⟨S4096x1024, .f32⟩
  | .hbm, ⟨62, _⟩ => ⟨S4096x1024, .bf16⟩
  | .hbm, ⟨63, _⟩ => ⟨S4096x1024, .f32⟩
  | .hbm, ⟨64, _⟩ => ⟨S4096x1024, .bf16⟩
  | .hbm, ⟨65, _⟩ => ⟨S4096x1024, .f32⟩
  | .hbm, ⟨66, _⟩ => ⟨S4096x1024, .f32⟩
  | .hbm, ⟨67, _⟩ => ⟨S4096x2048, .f32⟩
  | .hbm, ⟨68, _⟩ => ⟨S4096x2048, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v6_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v6_1 : Ref sig .tc := ⟨.hbm, 35, rfl⟩
abbrev main_v6_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Kernel5.lean ====
abbrev S1x4096x2048 : Shape := ⟨3, ![1, 4096, 2048]⟩
abbrev S1x2048 : Shape := ⟨2, ![1, 2048]⟩
abbrev S4096x2048 : Shape := ⟨2, ![4096, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩
abbrev S_ : Shape := ⟨0, ![]⟩

abbrev nBuf : Space → Nat
  | .hbm => 15
  | .vmem => 13
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x2048, .f32⟩
  | .hbm, ⟨3, _⟩ => ⟨S1x4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S1x2048, .f32⟩
  | .hbm, ⟨10, _⟩ => ⟨S1x128, .f32⟩
  | .hbm, ⟨11, _⟩ => ⟨S1x4096x2048, .bf16⟩
  | .hbm, ⟨12, _⟩ => ⟨S1x4096x2048, .f32⟩
  | .hbm, ⟨13, _⟩ => ⟨S1x1, .f32⟩
  | .hbm, ⟨14, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x128, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S1x4096x2048 : Shape := ⟨3, ![1, 4096, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 81
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x2048, .f32⟩
  | .hbm, ⟨3, _⟩ => ⟨S1x4096x2048, .f32⟩
  | .hbm, ⟨4, _⟩ => ⟨S4096x2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S1x2048, .f32⟩
  | .hbm, ⟨78, _⟩ => ⟨S1x4096x2048, .f32⟩
  | .hbm, ⟨79, _⟩ => ⟨S1x4096x2048, .f32⟩
  | .hbm, ⟨80, _⟩ => ⟨S1x4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel6.lean ====
abbrev S1x4096x2048 : Shape := ⟨3, ![1, 4096, 2048]⟩
abbrev S1x2048 : Shape := ⟨2, ![1, 2048]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 10
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S1x4096x2048, .f32⟩
  | .hbm, ⟨3, _⟩ => ⟨S1x4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x2048, .f32⟩
  | .hbm, ⟨9, _⟩ => ⟨S1x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S1x4096x2048 : Shape := ⟨3, ![1, 4096, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S1x4096x2048, .f32⟩
  | .hbm, ⟨3, _⟩ => ⟨S1x4096x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S1x2048, .f32⟩
  | .hbm, ⟨56, _⟩ => ⟨S1x4096x2048, .f32⟩
  | .hbm, ⟨57, _⟩ => ⟨S1x4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel8.lean ====
abbrev S1x4096x1024 : Shape := ⟨3, ![1, 4096, 1024]⟩
abbrev S1x8x4096 : Shape := ⟨3, ![1, 8, 4096]⟩
abbrev S_ : Shape := ⟨0, ![]⟩
abbrev S4096x2048 : Shape := ⟨2, ![4096, 2048]⟩
abbrev S4096x1024 : Shape := ⟨2, ![4096, 1024]⟩
abbrev S4096x1280 : Shape := ⟨2, ![4096, 1280]⟩
abbrev S4096x256 : Shape := ⟨2, ![4096, 256]⟩
abbrev S4096x6656 : Shape := ⟨2, ![4096, 6656]⟩
abbrev S8x4096 : Shape := ⟨2, ![8, 4096]⟩
abbrev S8x4x1x1024 : Shape := ⟨4, ![8, 4, 1, 1024]⟩
abbrev S1024x128 : Shape := ⟨2, ![1024, 128]⟩
abbrev S4096x128 : Shape := ⟨2, ![4096, 128]⟩
abbrev S1x4x1x1024 : Shape := ⟨4, ![1, 4, 1, 1024]⟩
abbrev S1x1x1x1024 : Shape := ⟨4, ![1, 1, 1, 1024]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 20
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x8x4096, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1280, .f32⟩
  | .hbm, ⟨10, _⟩ => ⟨S4096x1024, .f32⟩
  | .hbm, ⟨11, _⟩ => ⟨S_, .f32⟩
  | .hbm, ⟨12, _⟩ => ⟨S4096x256, .f32⟩
  | .hbm, ⟨13, _⟩ => ⟨S4096x6656, .f32⟩
  | .hbm, ⟨14, _⟩ => ⟨S4096x6656, .bf16⟩
  | .hbm, ⟨15, _⟩ => ⟨S8x4096, .f32⟩
  | .hbm, ⟨16, _⟩ => ⟨S8x4x1x1024, .f32⟩
  | .hbm, ⟨17, _⟩ => ⟨S4096x1024, .bf16⟩
  | .hbm, ⟨18, _⟩ => ⟨S8x4x1x1024, .f32⟩
  | .hbm, ⟨19, _⟩ => ⟨S8x4096, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x4x1x1024, .f32⟩
  | .local _ .vmem, ⟨7, _⟩ => ⟨S1x4x1x1024, .f32⟩
  | .local _ .vmem, ⟨8, _⟩ => ⟨S1024x128, .bf16⟩
  | .local _ .vmem, ⟨9, _⟩ => ⟨S1024x128, .bf16⟩
  | .local _ .vmem, ⟨10, _⟩ => ⟨S1x1x1x1024, .f32⟩
  | .local _ .vmem, ⟨11, _⟩ => ⟨S1x1x1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c0_i32 : BitVec 32 := 0#32
  let c1_i32_3 : BitVec 32 := 1#32
  let arg8 : BitVec 32 := Scf.iv c0_i32 c1_i32_3 k0_t1
  let c1024_i32_30 : BitVec 32 := 1024#32
  let v78 : BitVec 32 := Scalar.muli arg8 c1024_i32_30
  v78
def k0_off1 (i : grid0.Coords) (k0_t1 : Fin (k0_t1_loop i).trips) : Fin 2 → Nat :=
  let c0_i32 : BitVec 32 := 0#32
  let c1_i32_3 : BitVec 32 := 1#32
  let arg8 : BitVec 32 := Scf.iv c0_i32 c1_i32_3 k0_t1
  let c1024_i32_30 : BitVec 32 := 1024#32
  let v78 : BitVec 32 := Scalar.muli arg8 c1024_i32_30
  let v79 : BitVec 32 := v78
  let v80 : Index := Scalar.indexCast v79
  let c0_31 : Index := 0#32
  ![v80.toNat, 0]
def k0_off2 (i : grid0.Coords) (k0_t1 : Fin (k0_t1_loop i).trips) : Fin 4 → Nat :=
  let c0_34 : Index := 0#32
  let c0_i32 : BitVec 32 := 0#32
  let c1_i32_3 : BitVec 32 := 1#32
  let arg8 : BitVec 32 := Scf.iv c0_i32 c1_i32_3 k0_t1
  let v86 : Index := Scalar.indexCast arg8
  let c0_35 : Index := 0#32
  let c0_36 : Index := 0#32
  ![0, v86.toNat, 0, 0]
def k0_mult2 (i : grid0.Coords) (k0_t1 : Fin (k0_t1_loop i).trips) : BitVec 32 :=
  let c0_i32 : BitVec 32 := 0#32
  let c1_i32_3 : BitVec 32 := 1#32
  let arg8 : BitVec 32 := Scf.iv c0_i32 c1_i32_3 k0_t1
  let c1024_i32_40 : BitVec 32 := 1024#32
  let v105 : BitVec 32 := Scalar.muli arg8 c1024_i32_40
  v105
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_4 : BitVec 32 := 1#32
  ⟨v9, v6, c1_i32_4⟩
def k0_mult3 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg8 : BitVec 32 := Scf.iv v9 c1_i32_4 k0_t2
  let c1024_i32_30 : BitVec 32 := 1024#32
  let v78 : BitVec 32 := Scalar.muli arg8 c1024_i32_30
  v78
def k0_off3 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg8 : BitVec 32 := Scf.iv v9 c1_i32_4 k0_t2
  let c1024_i32_30 : BitVec 32 := 1024#32
  let v78 : BitVec 32 := Scalar.muli arg8 c1024_i32_30
  let v79 : BitVec 32 := v78
  let v80 : Index := Scalar.indexCast v79
  let c0_31 : Index := 0#32
  ![v80.toNat, 0]
def k0_off4 (i : grid0.Coords) (k0_t2 : Fin (k0_t2_loop i).trips) : Fin 4 → Nat :=
  let c0_34 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg8 : BitVec 32 := Scf.iv v9 c1_i32_4 k0_t2
  let v86 : Index := Scalar.indexCast arg8
  let c0_35 : Index := 0#32
  let c0_36 : Index := 0#32
  ![0, v86.toNat, 0, 0]
def k0_mult4 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg8 : BitVec 32 := Scf.iv v9 c1_i32_4 k0_t2
  let c1024_i32_40 : BitVec 32 := 1024#32
  let v105 : BitVec 32 := Scalar.muli arg8 c1024_i32_40
  v105
def k0_mult5 (i : grid0.Coords) : BitVec 32 :=
  let arg1 : BitVec 32 := BitVec.ofNat 32 (i 1).val
  let c1024_i32 : BitVec 32 := 1024#32
  let v12 : BitVec 32 := Scalar.muli arg1 c1024_i32
  v12
def k0_off5 (i : grid0.Coords) : Fin 2 → Nat :=
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_5 : Index := 0#32
  ![v14.toNat, 0]
def k0_off6 (i : grid0.Coords) : Fin 4 → Nat :=
  let c0_8 : Index := 0#32
  let arg1 : BitVec 32 := BitVec.ofNat 32 (i 1).val
  let v20 : Index := Scalar.indexCast arg1
  let c0_9 : Index := 0#32
  let c0_10 : Index := 0#32
  ![0, v20.toNat, 0, 0]
def k0_mult6 (i : grid0.Coords) : BitVec 32 :=
  let arg1 : BitVec 32 := BitVec.ofNat 32 (i 1).val
  let c1024_i32_15 : BitVec 32 := 1024#32
  let v44 : BitVec 32 := Scalar.muli arg1 c1024_i32_15
  v44
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel8Ideal.lean ====
variable {F : FTy → Type} [FloatOps F] [Named F]
def κ : String → Option EReal := fun
  | "fox_scale_log2e" => some (((11863283 / 134217728) * (Real.log 2)⁻¹ : ℝ) : EReal)
  | "ln2" => some ((Real.log 2 : ℝ) : EReal)
  | "log2e" => some (((Real.log 2)⁻¹ : ℝ) : EReal)
  | _ => none
-- ==== Reference8Ideal.lean ====
abbrev S1x4096x1024 : Shape := ⟨3, ![1, 4096, 1024]⟩
abbrev S1x8x4096 : Shape := ⟨3, ![1, 8, 4096]⟩
abbrev S4096x1024 : Shape := ⟨2, ![4096, 1024]⟩
abbrev S4096x8x128 : Shape := ⟨3, ![4096, 8, 128]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x8x4096, .f32⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S4096x1024, .f32⟩
  | .hbm, ⟨9, _⟩ => ⟨S4096x8x128, .f32⟩
  | .hbm, ⟨10, _⟩ => ⟨S8x4096, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x128x4096, .f32⟩
  | .hbm, ⟨58, _⟩ => ⟨S4096x8x128, .f32⟩
  | .hbm, ⟨59, _⟩ => ⟨S4096x1024, .f32⟩
  | .hbm, ⟨60, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel9.lean ====
abbrev S1x4096x1536 : Shape := ⟨3, ![1, 4096, 1536]⟩
abbrev S1x4096x2048 : Shape := ⟨3, ![1, 4096, 2048]⟩
abbrev S1x4096x64 : Shape := ⟨3, ![1, 4096, 64]⟩
abbrev S1x4096 : Shape := ⟨2, ![1, 4096]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1536 : Shape := ⟨2, ![4096, 1536]⟩
abbrev S4096x8x192 : Shape := ⟨3, ![4096, 8, 192]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x8x128 : Shape := ⟨3, ![4096, 8, 128]⟩
abbrev S4096x8x256 : Shape := ⟨3, ![4096, 8, 256]⟩
abbrev S4096x2048 : Shape := ⟨2, ![4096, 2048]⟩
abbrev S4096x64 : Shape := ⟨2, ![4096, 64]⟩
abbrev S4096x128 : Shape := ⟨2, ![4096, 128]⟩
abbrev S4096x1024 : Shape := ⟨2, ![4096, 1024]⟩
abbrev S8x4x1x1024 : Shape := ⟨4, ![8, 4, 1, 1024]⟩
abbrev S1024x256 : Shape := ⟨2, ![1024, 256]⟩
abbrev S1024x128 : Shape := ⟨2, ![1024, 128]⟩
abbrev S1x1x1x1024 : Shape := ⟨4, ![1, 1, 1, 1024]⟩
abbrev S4096x256 : Shape := ⟨2, ![4096, 256]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩
abbrev S8x4096 : Shape := ⟨2, ![8, 4096]⟩

abbrev nBuf : Space → Nat
  | .hbm => 61
  | .vmem => 12
  | .smem => 0
  | _ => 0

abbrev bufTy : (tb : Table) → Fin (tcTables nBuf tb) → BufTy
  | .hbm, ⟨0, _⟩ => ⟨S1x4096x1536, .f32⟩
  | .hbm, ⟨1, _⟩ => ⟨S1x4096x2048, .f32⟩
  | .hbm, ⟨2, _⟩ => ⟨S1x4096x64, .f32⟩
  | .hbm, ⟨3, _⟩ => ⟨S1x4096, .i32⟩
  | .hbm, ⟨4, _⟩ => ⟨S4096, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1536, .f32⟩
  | .hbm, ⟨28, _⟩ => ⟨S4096x8x192, .f32⟩
  | .hbm, ⟨29, _⟩ => ⟨S4096x8x64, .f32⟩
  | .hbm, ⟨30, _⟩ => ⟨S4096x1x32, .f32⟩
  | .hbm, ⟨31, _⟩ => ⟨S4096x1x32, .f32⟩
  | .hbm, ⟨32, _⟩ => ⟨S4096x8x32, .f32⟩
  | .hbm, ⟨33, _⟩ => ⟨S4096x8x32, .f32⟩
  | .hbm, ⟨34, _⟩ => ⟨S4096x8x32, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x32, .f32⟩
  | .hbm, ⟨44, _⟩ => ⟨S4096x8x64, .f32⟩
  | .hbm, ⟨45, _⟩ => ⟨S4096x8x128, .f32⟩
  | .hbm, ⟨46, _⟩ => ⟨S_, .f32⟩
  | .hbm, ⟨47, _⟩ => ⟨S4096x8x64, .f32⟩
  | .hbm, ⟨48, _⟩ => ⟨S4096x8x256, .f32⟩
  | .hbm, ⟨49, _⟩ => ⟨S4096x2048, .f32⟩
  | .hbm, ⟨50, _⟩ => ⟨S4096x2048, .bf16⟩
  | .hbm, ⟨51, _⟩ => ⟨S4096x64, .f32⟩
  | .hbm, ⟨52, _⟩ => ⟨S_, .i32⟩
  | .hbm, ⟨53, _⟩ => ⟨S_, .f32⟩
  | .hbm, ⟨54, _⟩ => ⟨S4096x128, .f32⟩
  | .hbm, ⟨55, _⟩ => ⟨S4096x128, .bf16⟩
  | .hbm, ⟨56, _⟩ => ⟨S4096x2048, .f32⟩
  | .hbm, ⟨57, _⟩ => ⟨S4096x2048, .bf16⟩
  | .hbm, ⟨58, _⟩ => ⟨S4096x1024, .bf16⟩
  | .hbm, ⟨59, _⟩ => ⟨S8x4x1x1024, .f32⟩
  | .hbm, ⟨60, _⟩ => ⟨S8x4096, .f32⟩
  | .local _ .vmem, ⟨0, _⟩ => ⟨S1024x256, .bf16⟩
  | .local _ .vmem, ⟨1, _⟩ => ⟨S1024x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S1024x128, .bf16⟩
  | .local _ .vmem, ⟨8, _⟩ => ⟨S1024x128, .bf16⟩
  | .local _ .vmem, ⟨9, _⟩ => ⟨S1x1x1x1024, .f32⟩
  | .local _ .vmem, ⟨10, _⟩ => ⟨S1x1x1x1024, .f32⟩
  | .local _ .vmem, ⟨11, _⟩ => ⟨S4096x256, .bf16⟩
  | _, _ => ⟨S1x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c : Ref sig .tc := ⟨.hbm, 52, rfl⟩
abbrev main_call0_v0 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v48 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult1 (i : grid0.Coords) (k0_t1 : Fin (k0_t1_loop i).trips) : BitVec 32 :=
  let c0_i32_4 : BitVec 32 := 0#32
  let c1_i32_5 : BitVec 32 := 1#32
  let arg9 : BitVec 32 := Scf.iv c0_i32_4 c1_i32_5 k0_t1
  let c1024_i32_25 : BitVec 32 := 1024#32
  let v69 : BitVec 32 := Scalar.muli arg9 c1024_i32_25
  v69
def k0_off1 (i : grid0.Coords) (k0_t1 : Fin (k0_t1_loop i).trips) : Fin 2 → Nat :=
  let c0_i32_4 : BitVec 32 := 0#32
  let c1_i32_5 : BitVec 32 := 1#32
  let arg9 : BitVec 32 := Scf.iv c0_i32_4 c1_i32_5 k0_t1
  let c1024_i32_25 : BitVec 32 := 1024#32
  let v69 : BitVec 32 := Scalar.muli arg9 c1024_i32_25
  let v70 : BitVec 32 := v69
  let v71 : Index := Scalar.indexCast v70
  let c0_26 : Index := 0#32
  ![v71.toNat, 0]
def k0_mult2 (i : grid0.Coords) (k0_t1 : Fin (k0_t1_loop i).trips) : BitVec 32 :=
  let c0_i32_4 : BitVec 32 := 0#32
  let c1_i32_5 : BitVec 32 := 1#32
  let arg9 : BitVec 32 := Scf.iv c0_i32_4 c1_i32_5 k0_t1
  let c1024_i32_31 : BitVec 32 := 1024#32
  let v88 : BitVec 32 := Scalar.muli arg9 c1024_i32_31
  v88
def k0_off2 (i : grid0.Coords) (k0_t1 : Fin (k0_t1_loop i).trips) : Fin 2 → Nat :=
  let c0_i32_4 : BitVec 32 := 0#32
  let c1_i32_5 : BitVec 32 := 1#32
  let arg9 : BitVec 32 := Scf.iv c0_i32_4 c1_i32_5 k0_t1
  let c1024_i32_31 : BitVec 32 := 1024#32
  let v88 : BitVec 32 := Scalar.muli arg9 c1024_i32_31
  let v89 : BitVec 32 := v88
  let v90 : Index := Scalar.indexCast v89
  let c0_32 : Index := 0#32
  ![v90.toNat, 0]
@[reducible] def k0_t2_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult3 (i : grid0.Coords) (k0_t2 : Fin (k0_t2_loop i).trips) : BitVec 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg9 : BitVec 32 := Scf.iv v12 c1_i32_6 k0_t2
  let c1024_i32_25 : BitVec 32 := 1024#32
  let v69 : BitVec 32 := Scalar.muli arg9 c1024_i32_25
  v69
def k0_off3 (i : grid0.Coords) (k0_t2 : Fin (k0_t2_loop i).trips) : Fin 2 → Nat :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg9 : BitVec 32 := Scf.iv v12 c1_i32_6 k0_t2
  let c1024_i32_25 : BitVec 32 := 1024#32
  let v69 : BitVec 32 := Scalar.muli arg9 c1024_i32_25
  let v70 : BitVec 32 := v69
  let v71 : Index := Scalar.indexCast v70
  let c0_26 : Index := 0#32
  ![v71.toNat, 0]
def k0_mult4 (i : grid0.Coords) (k0_t2 : Fin (k0_t2_loop i).trips) : BitVec 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg9 : BitVec 32 := Scf.iv v12 c1_i32_6 k0_t2
  let c1024_i32_31 : BitVec 32 := 1024#32
  let v88 : BitVec 32 := Scalar.muli arg9 c1024_i32_31
  v88
def k0_off4 (i : grid0.Coords) (k0_t2 : Fin (k0_t2_loop i).trips) : Fin 2 → Nat :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg9 : BitVec 32 := Scf.iv v12 c1_i32_6 k0_t2
  let c1024_i32_31 : BitVec 32 := 1024#32
  let v88 : BitVec 32 := Scalar.muli arg9 c1024_i32_31
  let v89 : BitVec 32 := v88
  let v90 : Index := Scalar.indexCast v89
  let c0_32 : Index := 0#32
  ![v90.toNat, 0]
def k0_mult5 (i : grid0.Coords) : BitVec 32 :=
  let arg1 : BitVec 32 := BitVec.ofNat 32 (i 1).val
  let c1024_i32 : BitVec 32 := 1024#32
  let v15 : BitVec 32 := Scalar.muli arg1 c1024_i32
  v15
def k0_off5 (i : grid0.Coords) : Fin 2 → Nat :=
  let arg1 : BitVec 32 := BitVec.ofNat 32 (i 1).val
  let c1024_i32 : BitVec 32 := 1024#32
  let v15 : BitVec 32 := Scalar.muli arg1 c1024_i32
  let v16 : BitVec 32 := v15
  let v17 : Index := Scalar.indexCast v16
  let c0_7 : Index := 0#32
  ![v17.toNat, 0]
def k0_mult6 (i : grid0.Coords) : BitVec 32 :=
  let arg1 : BitVec 32 := BitVec.ofNat 32 (i 1).val
  let c1024_i32_13 : BitVec 32 := 1024#32
  let v39 : BitVec 32 := Scalar.muli arg1 c1024_i32_13
  v39
def k0_off6 (i : grid0.Coords) : Fin 2 → Nat :=
  let arg1 : BitVec 32 := BitVec.ofNat 32 (i 1).val
  let c1024_i32_13 : BitVec 32 := 1024#32
  let v39 : BitVec 32 := Scalar.muli arg1 c1024_i32_13
  let v40 : BitVec 32 := v39
  let v41 : Index := Scalar.indexCast v40
  let c0_14 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel9Ideal.lean ====
variable {F : FTy → Type} [FloatOps F] [Named F]
def κ : String → Option EReal := fun
  | "ln2" => some ((Real.log 2 : ℝ) : EReal)
  | "mla_scale_log2e" => some (((Real.sqrt 192)⁻¹ * (Real.log 2)⁻¹ : ℝ) : EReal)
  | _ => none
-- ==== Reference9Ideal.lean ====
abbrev S1x4096x1536 : Shape := ⟨3, ![1, 4096, 1536]⟩
abbrev S1x4096x2048 : Shape := ⟨3, ![1, 4096, 2048]⟩
abbrev S1x4096x64 : Shape := ⟨3, ![1, 4096, 64]⟩
abbrev S1x4096 : Shape := ⟨2, ![1, 4096]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1536 : Shape := ⟨2, ![4096, 1536]⟩
abbrev S4096x8x192 : Shape := ⟨3, ![4096, 8, 192]⟩
abbrev S4096x2048 : Shape := ⟨2, ![4096, 2048]⟩
abbrev S4096x8x256 : Shape := ⟨3, ![4096, 8, 256]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S8x4096x4096 : Shape := ⟨3, ![8, 4096, 4096]⟩
abbrev S4096x64 : Shape := ⟨2, ![4096, 64]⟩
abbrev S4096x1x64 : Shape := ⟨3, ![4096, 1, 64]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x4096x1536, .f32⟩
  | .hbm, ⟨1, _⟩ => ⟨S1x4096x2048, .f32⟩
  | .hbm, ⟨2, _⟩ => ⟨S1x4096x64, .f32⟩
  | .hbm, ⟨3, _⟩ => ⟨S1x4096, .i32⟩
  | .hbm, ⟨4, _⟩ => ⟨S4096, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1536, .f32⟩
  | .hbm, ⟨28, _⟩ => ⟨S4096x8x192, .f32⟩
  | .hbm, ⟨29, _⟩ => ⟨S4096x2048, .f32⟩
  | .hbm, ⟨30, _⟩ => ⟨S4096x8x256, .f32⟩
  | .hbm, ⟨31, _⟩ => ⟨S4096x8x128, .f32⟩
  | .hbm, ⟨32, _⟩ => ⟨S4096x8x64, .f32⟩
  | .hbm, ⟨33, _⟩ => ⟨S4096x1x32, .f32⟩
  | .hbm, ⟨34, _⟩ => ⟨S4096x1x32, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x64, .f32⟩
  | .hbm, ⟨48, _⟩ => ⟨S4096x8x128, .f32⟩
  | .hbm, ⟨49, _⟩ => ⟨S8x4096x4096, .f32⟩
  | .hbm, ⟨50, _⟩ => ⟨S4096x64, .f32⟩
  | .hbm, ⟨51, _⟩ => ⟨S4096x1x64, .f32⟩
  | .hbm, ⟨52, _⟩ => ⟨S4096x8x64, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S_, .f32⟩
  | .hbm, ⟨57, _⟩ => ⟨S8x4096x4096, .f32⟩
  | .hbm, ⟨58, _⟩ => ⟨S8x4096x4096, .f32⟩
  | .hbm, ⟨59, _⟩ => ⟨S4096, .i32⟩
  | .hbm, ⟨60, _⟩ => ⟨S1x4096, .i32⟩
  | .hbm, ⟨61, _⟩ => ⟨S4096, .i32⟩
  | .hbm, ⟨62, _⟩ => ⟨S4096x1, .i32⟩
  | .hbm, ⟨63, _⟩ => ⟨S4096x4096, .i32⟩
  | .hbm, ⟨64, _⟩ => ⟨S4096x4096, .i32⟩
  | .hbm, ⟨65, _⟩ => ⟨S4096x4096, .i1⟩
  | .hbm, ⟨66, _⟩ => ⟨S_, .f32⟩
  | .hbm, ⟨67, _⟩ => ⟨S_, .f32⟩
  | .hbm, ⟨68, _⟩ => ⟨S8x4096x4096, .i1⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096, .f32⟩
  | .hbm, ⟨80, _⟩ => ⟨S8x4096, .f32⟩
  | .hbm, ⟨81, _⟩ => ⟨S_, .f32⟩
  | .hbm, ⟨82, _⟩ => ⟨S8x4096, .f32⟩
  | .hbm, ⟨83, _⟩ => ⟨S_, .f32⟩
  | .hbm, ⟨84, _⟩ => ⟨S8x4096, .f32⟩
  | .hbm, ⟨85, _⟩ => ⟨S8x4096, .f32⟩
  | .hbm, ⟨86, _⟩ => ⟨S8x4096x1, .f32⟩
  | .hbm, ⟨87, _⟩ => ⟨S8x4096x4096, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096, .f32⟩
  | .hbm, ⟨92, _⟩ => ⟨S8x4096x1, .f32⟩
  | .hbm, ⟨93, _⟩ => ⟨S8x4096x4096, .f32⟩
  | .hbm, ⟨94, _⟩ => ⟨S8x4096x4096, .f32⟩
  | .hbm, ⟨95, _⟩ => ⟨S4096x8x128, .f32⟩
  | .hbm, ⟨96, _⟩ => ⟨S8x128x4096, .f32⟩
  | .hbm, ⟨97, _⟩ => ⟨S4096x8x128, .f32⟩
  | .hbm, ⟨98, _⟩ => ⟨S4096x1024, .f32⟩
  | .hbm, ⟨99, _⟩ => ⟨S4096x1024, .bf16⟩
  | _, _ => ⟨S1x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Kernel10.lean ====
abbrev S1x4096x8 : Shape := ⟨3, ![1, 4096, 8]⟩
abbrev S1x8 : Shape := ⟨2, ![1, 8]⟩
abbrev S4096x8 : Shape := ⟨2, ![4096, 8]⟩
abbrev S8x4096 : Shape := ⟨2, ![8, 4096]⟩
abbrev S8x1 : Shape := ⟨2, ![8, 1]⟩
abbrev S8x128 : Shape := ⟨2, ![8, 128]⟩
abbrev S1x8x4096 : Shape := ⟨3, ![1, 8, 4096]⟩

abbrev nBuf : Space → Nat
  | .hbm => 7
  | .vmem => 3
  | .smem => 0
  | _ => 0

abbrev bufTy : (tb : Table) → Fin (tcTables nBuf tb) → BufTy
  | .hbm, ⟨0, _⟩ => ⟨S1x4096x8, .f32⟩
  | .hbm, ⟨1, _⟩ => ⟨S1x8, .f32⟩
  | .hbm, ⟨2, _⟩ => ⟨S4096x8, .f32⟩
  | .hbm, ⟨3, _⟩ => ⟨S8x4096, .f32⟩
  | .hbm, ⟨4, _⟩ => ⟨S8x1, .f32⟩
  | .hbm, ⟨5, _⟩ => ⟨S8x4096, .f32⟩
  | .hbm, ⟨6, _⟩ => ⟨S1x8x4096, .f32⟩
  | .local _ .vmem, ⟨0, _⟩ => ⟨S8x4096, .f32⟩
  | .local _ .vmem, ⟨1, _⟩ => ⟨S8x1, .f32⟩
  | .local _ .vmem, ⟨2, _⟩ => ⟨S8x4096, .f32⟩
  | _, _ => ⟨S1x4096x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference10Ideal.lean ====
abbrev S1x4096x8 : Shape := ⟨3, ![1, 4096, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S1x8x4096 : Shape := ⟨3, ![1, 8, 4096]⟩

abbrev nBuf : Space → Nat
  | .hbm => 26
  | .vmem => 0
  | .smem => 0
  | _ => 0

abbrev bufTy : (tb : Table) → Fin (tcTables nBuf tb) → BufTy
  | .hbm, ⟨0, _⟩ => ⟨S1x4096x8, .f32⟩
  | .hbm, ⟨1, _⟩ => ⟨S1x8, .f32⟩
  | .hbm, ⟨2, _⟩ => ⟨S8, .f32⟩
  | .hbm, ⟨3, _⟩ => ⟨S1x1x8, .f32⟩
  | .hbm, ⟨4, _⟩ => ⟨S1x4096x8, .f32⟩
  | .hbm, ⟨5, _⟩ => ⟨S1x4096x8, .f32⟩
  | .hbm, ⟨6, _⟩ => ⟨S1x4096x8, .f32⟩
  | .hbm, ⟨7, _⟩ => ⟨S_, .f32⟩
  | .hbm, ⟨8, _⟩ => ⟨S1x4096x8, .f32⟩
  | .hbm, ⟨9, _⟩ => ⟨S1x4096x8, .f32⟩
  | .hbm, ⟨10, _⟩ => ⟨S1x4096x8, .f32⟩
  | .hbm, ⟨11, _⟩ => ⟨S1x4096x8, .f32⟩
  | .hbm, ⟨12, _⟩ => ⟨S1x4096x8, .i1⟩
  | .hbm, ⟨13, _⟩ => ⟨S1x4096x8, .f32⟩
  | .hbm, ⟨14, _⟩ => ⟨S1x4096x8, .f32⟩
  | .hbm, ⟨15, _⟩ => ⟨S1x4096x8, .f32⟩
  | .hbm, ⟨16, _⟩ => ⟨S1x4096x8, .f32⟩
  | .hbm, ⟨17, _⟩ => ⟨S1x4096x8, .f32⟩
  | .hbm, ⟨18, _⟩ => ⟨S1x4096x8, .f32⟩
  | .hbm, ⟨19, _⟩ => ⟨S1x4096x8, .f32⟩
  | .hbm, ⟨20, _⟩ => ⟨S1x4096x8, .f32⟩
  | .hbm, ⟨21, _⟩ => ⟨S1x4096x8, .f32⟩
  | .hbm, ⟨22, _⟩ => ⟨S_, .f32⟩
  | .hbm, ⟨23, _⟩ => ⟨S_, .f32⟩
  | .hbm, ⟨24, _⟩ => ⟨S1x4096x8, .f32⟩
  | .hbm, ⟨25, _⟩ => ⟨S1x8x4096, .f32⟩
  | _, _ => ⟨S1x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Kernel11.lean ====
abbrev S1x4096x1024 : Shape := ⟨3, ![1, 4096, 1024]⟩
abbrev S_ : Shape := ⟨0, ![]⟩
abbrev S4096x4608 : Shape := ⟨2, ![4096, 4608]⟩
abbrev S4096x1024 : Shape := ⟨2, ![4096, 1024]⟩
abbrev S4096x6656 : Shape := ⟨2, ![4096, 6656]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 15
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S4096x4608, .f32⟩
  | .hbm, ⟨6, _⟩ => ⟨S4096x1024, .f32⟩
  | .hbm, ⟨7, _⟩ => ⟨S4096x1024, .f32⟩
  | .hbm, ⟨8, _⟩ => ⟨S4096x6656, .f32⟩
  | .hbm, ⟨9, _⟩ => ⟨S4096x6656, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S1x4096x1024 : Shape := ⟨3, ![1, 4096, 1024]⟩
abbrev S4096x1024 : Shape := ⟨2, ![4096, 1024]⟩
abbrev S_ : Shape := ⟨0, ![]⟩
abbrev S4096x2048 : Shape := ⟨2, ![4096, 2048]⟩

abbrev nBuf : Space → Nat
  | .hbm => 30
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2048, .f32⟩
  | .hbm, ⟨29, _⟩ => ⟨S4096x2048, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Kernel12.lean ====
abbrev S1x4096x768 : Shape := ⟨3, ![1, 4096, 768]⟩
abbrev S1x4096x512 : Shape := ⟨3, ![1, 4096, 512]⟩
abbrev S1x4096x64 : Shape := ⟨3, ![1, 4096, 64]⟩
abbrev S1x4096 : Shape := ⟨2, ![1, 4096]⟩
abbrev S1x768 : Shape := ⟨2, ![1, 768]⟩
abbrev S1x768x1536 : Shape := ⟨3, ![1, 768, 1536]⟩
abbrev S1x512 : Shape := ⟨2, ![1, 512]⟩
abbrev S1x512x2048 : Shape := ⟨3, ![1, 512, 2048]⟩
abbrev S_ : Shape := ⟨0, ![]⟩
abbrev S4096x4096 : Shape := ⟨2, ![4096, 4096]⟩
abbrev S4096x512 : Shape := ⟨2, ![4096, 512]⟩
abbrev S4096x768 : Shape := ⟨2, ![4096, 768]⟩
abbrev S4096x1024 : Shape := ⟨2, ![4096, 1024]⟩
abbrev S4096x64 : Shape := ⟨2, ![4096, 64]⟩
abbrev S4096x192 : Shape := ⟨2, ![4096, 192]⟩
abbrev S4096x6656 : Shape := ⟨2, ![4096, 6656]⟩
abbrev S768x1536 : Shape := ⟨2, ![768, 1536]⟩
abbrev S768x8x192 : Shape := ⟨3, ![768, 8, 192]⟩
abbrev S768x8x256 : Shape := ⟨3, ![768, 8, 256]⟩
abbrev S768x2048 : Shape := ⟨2, ![768, 2048]⟩
abbrev S512x2048 : Shape := ⟨2, ![512, 2048]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x2048 : Shape := ⟨2, ![4096, 2048]⟩
abbrev S512x768 : Shape := ⟨2, ![512, 768]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S4096x8x256 : Shape := ⟨3, ![4096, 8, 256]⟩
abbrev S4096x8x192 : Shape := ⟨3, ![4096, 8, 192]⟩
abbrev S4096x1536 : Shape := ⟨2, ![4096, 1536]⟩

abbrev nBuf : Space → Nat
  | .hbm => 66
  | .vmem => 26
  | .smem => 0
  | _ => 0

abbrev bufTy : (tb : Table) → Fin (tcTables nBuf tb) → BufTy
  | .hbm, ⟨0, _⟩ => ⟨S1x4096x768, .f32⟩
  | .hbm, ⟨1, _⟩ => ⟨S1x4096x512, .f32⟩
  | .hbm, ⟨2, _⟩ => ⟨S1x4096x64, .f32⟩
  | .hbm, ⟨3, _⟩ => ⟨S1x4096, .i32⟩
  | .hbm, ⟨4, _⟩ => ⟨S1x768, .f32⟩
  | .hbm, ⟨5, _⟩ => ⟨S1x768x1536, .f32⟩
  | .hbm, ⟨6, _⟩ => ⟨S1x512, .f32⟩
  | .hbm, ⟨7, _⟩ => ⟨S1x512x2048, .f32⟩
  | .hbm, ⟨8, _⟩ => ⟨S_, .f32⟩
  | .hbm, ⟨9, _⟩ => ⟨S4096x4096, .f32⟩
  | .hbm, ⟨10, _⟩ => ⟨S4096x512, .f32⟩
  | .hbm, ⟨11, _⟩ => ⟨S4096x768, .f32⟩
  | .hbm, ⟨12, _⟩ => ⟨S_, .f32⟩
  | .hbm, ⟨13, _⟩ => ⟨S4096x1024, .f32⟩
  | .hbm, ⟨14, _⟩ => ⟨S4096x64, .f32⟩
  | .hbm, ⟨15, _⟩ => ⟨S_, .f32⟩
  | .hbm, ⟨16, _⟩ => ⟨S4096x192, .f32⟩
  | .hbm, ⟨17, _⟩ => ⟨S4096x6656, .f32⟩
  | .hbm, ⟨18, _⟩ => ⟨S4096x6656, .bf16⟩
  | .hbm, ⟨19, _⟩ => ⟨S768x1536, .f32⟩
  | .hbm, ⟨20, _⟩ => ⟨S768x8x192, .f32⟩
  | .hbm, ⟨21, _⟩ => ⟨S_, .i32⟩
  | .hbm, ⟨22, _⟩ => ⟨S_, .f32⟩
  | .hbm, ⟨23, _⟩ => ⟨S768x8x256, .f32⟩
  | .hbm, ⟨24, _⟩ => ⟨S768x2048, .f32⟩
  | .hbm, ⟨25, _⟩ => ⟨S768x2048, .bf16⟩
  | .hbm, ⟨26, _⟩ => ⟨S512x2048, .f32⟩
  | .hbm, ⟨27, _⟩ => ⟨S512x2048, .bf16⟩
  | .hbm, ⟨28, _⟩ => ⟨S4096, .i32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096x32, .f32⟩
  | .hbm, ⟨53, _⟩ => ⟨S4096x128, .f32⟩
  | .hbm, ⟨54, _⟩ => ⟨S4096x32, .f32⟩
  | .hbm, ⟨55, _⟩ => ⟨S4096x128, .f32⟩
  | .hbm, ⟨56, _⟩ => ⟨S4096x128, .f32⟩
  | .hbm, ⟨57, _⟩ => ⟨S4096x768, .bf16⟩
  | .hbm, ⟨58, _⟩ => ⟨S4096x512, .bf16⟩
  | .hbm, ⟨59, _⟩ => ⟨S4096x128, .bf16⟩
  | .hbm, ⟨60, _⟩ => ⟨S4096x2048, .bf16⟩
  | .hbm, ⟨61, _⟩ => ⟨S4096x2048, .bf16⟩
  | .hbm, ⟨62, _⟩ => ⟨S4096x8x256, .bf16⟩
  | .hbm, ⟨63, _⟩ => ⟨S4096x8x192, .bf16⟩
  | .hbm, ⟨64, _⟩ => ⟨S4096x1536, .bf16⟩
  | .hbm, ⟨65, _⟩ => ⟨S4096x64, .bf16⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S1x768, .f32⟩
  | .local _ .vmem, ⟨7, _⟩ => ⟨S1x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S768x2048, .bf16⟩
  | .local _ .vmem, ⟨15, _⟩ => ⟨S512x2048, .bf16⟩
  | .local _ .vmem, ⟨16, _⟩ => ⟨S512x768, .bf16⟩
  | .local _ .vmem, ⟨17, _⟩ => ⟨S512x768, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_v39_2 : Ref sig .tc := ⟨.hbm, 59, rfl⟩
abbrev main_v39_3 : Ref sig .tc := ⟨.hbm, 60, rfl⟩
abbrev main_v39_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c50_i32 : BitVec 32 := 50#32
  let c0_i32 : BitVec 32 := 0#32
  ![arg0.toNat, c50_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S768x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference12Ideal.lean ====
abbrev S1x4096x768 : Shape := ⟨3, ![1, 4096, 768]⟩
abbrev S1x4096x512 : Shape := ⟨3, ![1, 4096, 512]⟩
abbrev S1x4096x64 : Shape := ⟨3, ![1, 4096, 64]⟩
abbrev S1x4096 : Shape := ⟨2, ![1, 4096]⟩
abbrev S1x768 : Shape := ⟨2, ![1, 768]⟩
abbrev S1x768x1536 : Shape := ⟨3, ![1, 768, 1536]⟩
abbrev S1x512 : Shape := ⟨2, ![1, 512]⟩
abbrev S1x512x2048 : Shape := ⟨3, ![1, 512, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x768 : Shape := ⟨2, ![4096, 768]⟩
abbrev S768 : Shape := ⟨1, ![768]⟩
abbrev S4096x512 : Shape := ⟨2, ![4096, 512]⟩
abbrev S512 : Shape := ⟨1, ![512]⟩
abbrev S768x1536 : Shape := ⟨2, ![768, 1536]⟩
abbrev S4096x1536 : Shape := ⟨2, ![4096, 1536]⟩
abbrev S4096x8x192 : Shape := ⟨3, ![4096, 8, 192]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x8x128 : Shape := ⟨3, ![4096, 8, 128]⟩
abbrev S4096x64 : Shape := ⟨2, ![4096, 64]⟩
abbrev S512x2048 : Shape := ⟨2, ![512, 2048]⟩
abbrev S4096x2048 : Shape := ⟨2, ![4096, 2048]⟩

abbrev nBuf : Space → Nat
  | .hbm => 106
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S1x4096x512, .f32⟩
  | .hbm, ⟨2, _⟩ => ⟨S1x4096x64, .f32⟩
  | .hbm, ⟨3, _⟩ => ⟨S1x4096, .i32⟩
  | .hbm, ⟨4, _⟩ => ⟨S1x768, .f32⟩
  | .hbm, ⟨5, _⟩ => ⟨S1x768x1536, .f32⟩
  | .hbm, ⟨6, _⟩ => ⟨S1x512, .f32⟩
  | .hbm, ⟨7, _⟩ => ⟨S1x512x2048, .f32⟩
  | .hbm, ⟨8, _⟩ => ⟨S4096, .i32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4096, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x768, .f32⟩
  | .hbm, ⟨32, _⟩ => ⟨S768, .f32⟩
  | .hbm, ⟨33, _⟩ => ⟨S4096x768, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x768, .f32⟩
  | .hbm, ⟨45, _⟩ => ⟨S4096x768, .f32⟩
  | .hbm, ⟨46, _⟩ => ⟨S1x768, .f32⟩
  | .hbm, ⟨47, _⟩ => ⟨S4096x768, .f32⟩
  | .hbm, ⟨48, _⟩ => ⟨S4096x768, .f32⟩
  | .hbm, ⟨49, _⟩ => ⟨S4096x512, .f32⟩
  | .hbm, ⟨50, _⟩ => ⟨S512, .f32⟩
  | .hbm, ⟨51, _⟩ => ⟨S4096x512, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x512, .f32⟩
  | .hbm, ⟨63, _⟩ => ⟨S4096x512, .f32⟩
  | .hbm, ⟨64, _⟩ => ⟨S1x512, .f32⟩
  | .hbm, ⟨65, _⟩ => ⟨S4096x512, .f32⟩
  | .hbm, ⟨66, _⟩ => ⟨S4096x512, .f32⟩
  | .hbm, ⟨67, _⟩ => ⟨S768x1536, .f32⟩
  | .hbm, ⟨68, _⟩ => ⟨S4096x1536, .f32⟩
  | .hbm, ⟨69, _⟩ => ⟨S4096x8x192, .f32⟩
  | .hbm, ⟨70, _⟩ => ⟨S4096x8x64, .f32⟩
  | .hbm, ⟨71, _⟩ => ⟨S4096x1x32, .f32⟩
  | .hbm, ⟨72, _⟩ => ⟨S4096x1x32, .f32⟩
  | .hbm, ⟨73, _⟩ => ⟨S4096x8x32, .f32⟩
  | .hbm, ⟨74, _⟩ => ⟨S4096x8x32, .f32⟩
  | .hbm, ⟨75, _⟩ => ⟨S4096x8x32, .f32⟩
  | .hbm, ⟨76, _⟩ => ⟨S4096x8x32, .f32⟩
  | .hbm, ⟨77, _⟩ => ⟨S4096x8x32, .f32⟩
  | .hbm, ⟨78, _⟩ => ⟨S4096x8x32, .f32⟩
  | .hbm, ⟨79, _⟩ => ⟨S4096x8x32, .f32⟩
  | .hbm, ⟨80, _⟩ => ⟨S4096x8x32, .f32⟩
  | .hbm, ⟨81, _⟩ => ⟨S4096x8x32, .f32⟩
  | .hbm, ⟨82, _⟩ => ⟨S4096x8x32, .f32⟩
  | .hbm, ⟨83, _⟩ => ⟨S4096x8x32, .f32⟩
  | .hbm, ⟨84, _⟩ => ⟨S4096x8x32, .f32⟩
  | .hbm, ⟨85, _⟩ => ⟨S4096x8x64, .f32⟩
  | .hbm, ⟨86, _⟩ => ⟨S4096x8x128, .f32⟩
  | .hbm, ⟨87, _⟩ => ⟨S4096x8x192, .f32⟩
  | .hbm, ⟨88, _⟩ => ⟨S4096x1536, .f32⟩
  | .hbm, ⟨89, _⟩ => ⟨S4096x64, .f32⟩
  | .hbm, ⟨90, _⟩ => ⟨S4096x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x32, .f32⟩
  | .hbm, ⟨95, _⟩ => ⟨S4096x32, .f32⟩
  | .hbm, ⟨96, _⟩ => ⟨S4096x32, .f32⟩
  | .hbm, ⟨97, _⟩ => ⟨S4096x32, .f32⟩
  | .hbm, ⟨98, _⟩ => ⟨S4096x64, .f32⟩
  | .hbm, ⟨99, _⟩ => ⟨S4096x768, .bf16⟩
  | .hbm, ⟨100, _⟩ => ⟨S4096x512, .bf16⟩
  | .hbm, ⟨101, _⟩ => ⟨S4096x64, .bf16⟩
  | .hbm, ⟨102, _⟩ => ⟨S4096x1536, .bf16⟩
  | .hbm, ⟨103, _⟩ => ⟨S512x2048, .f32⟩
  | .hbm, ⟨104, _⟩ => ⟨S4096x2048, .f32⟩
  | .hbm, ⟨105, _⟩ => ⟨S4096x2048, .bf16⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩

abbrev nD : Nat := 1
abbrev τ : Topo := Topo.v7x

variable {F : FTy → Type} [FloatOps F]
-- ==== Proof.FoxBlock.lean ====
/- What one step of the attention backward adds to its running sums: a store that writes back what it read plus a term,
   read at an index, and the sums over a window of keys such stores build up. -/
module

public import proofs.«01_k».proof.Proof.Gen.KernelIdeal.Skeleton
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem
open scoped BigOperators

namespace Cert.FoxBwd
open Cert.KernelIdeal

/-- The factor of the logits, `1/sqrt 128` as the program rounds it. -/
abbrev scale : EReal := Ideal.ofBits .f32 0x3DB504F3#32

/-- A key's place in a head's row of gate sums, four blocks of 1024. -/
abbrev at4 (s : Fin 4096) : S1x4x1x1024.Idx :=
  ix4 0 ⟨s.val / 1024, by omega⟩ 0 ⟨s.val % 1024, by omega⟩

section Stores
variable {sig : RefSig} {κ : Kind} {sp : Space} {Val : EltTy → Type}

/-- A load of rows `[o, o + W)` reads the buffer's row `o + s`. -/
theorem readAt_rows {e : EltTy} {W : ℕ} (v : View sig κ sp S4096x128 e) (f : v.ty.Contents Val) {off : Fin 2 → ℕ} (o : ℕ)
    (inb : ∀ a : Fin 2, off a + (![W, 128] : Fin 2 → ℕ) a ≤ S4096x128.size a) (hoff : off = ![o, 0]) (s : Fin W)
    (d : Fin 128) (h : o + s.val < 4096) :
    v.readAt Val (Rect.unit (s := S4096x128) off ![W, 128] inb).toLoadRect f (ix2 s d) = v.read Val f (ix2 ⟨o + s.val, h⟩ d) := by
  subst hoff
  show v.read Val f _ = _
  refine congrArg _ (funext fun a => Fin.ext ?_)
  match a with
  | 0 => show o + 1 * s.val = o + s.val; omega
  | 1 => show 0 + 1 * d.val = d.val; omega

/-- A load of one block of gate sums reads the keys of that block. -/
theorem readAt_block {e : EltTy} (v : View sig κ sp S1x4x1x1024 e) (f : v.ty.Contents Val) {W : ℕ} {off : Fin 4 → ℕ} (b o : ℕ)
    (inb : ∀ a : Fin 4, off a + (![1, 1, 1, W] : Fin 4 → ℕ) a ≤ S1x4x1x1024.size a) (hoff : off = ![0, b, 0, o]) (s : Fin W)
    (h : b * 1024 + o + s.val < 4096) (hW : o + W ≤ 1024) :
    v.readAt Val (Rect.unit (s := S1x4x1x1024) off ![1, 1, 1, W] inb).toLoadRect f (ix4 0 0 0 s) = v.read Val f (at4 ⟨b * 1024 + o + s.val, h⟩) := by
  subst hoff
  show v.read Val f _ = _
  have hs := s.isLt
  refine congrArg _ (funext fun a => Fin.ext ?_)
  match a with
  | 0 => rfl
  | 1 => show b + 1 * 0 = (b * 1024 + o + s.val) / 1024; omega
  | 2 => rfl
  | 3 => show o + 1 * s.val = (b * 1024 + o + s.val) % 1024; omega

variable (v : View sig κ sp S4096x128 .f32) (f : v.ty.Contents (Elt Ideal))

/-- A store to rows `[o, o + W)` of what the buffer held there plus `A` adds `A` on these rows and nothing elsewhere. -/
theorem read_add_rows {W : ℕ} (L : List (View.Piece (Elt Ideal) S4096x128 .f32)) {off : Fin 2 → ℕ} (o : ℕ)
    (inb : ∀ a : Fin 2, off a + (![W, 128] : Fin 2 → ℕ) a ≤ S4096x128.size a) (hoff : off = ![o, 0])
    (w : (Rect.unit (s := S4096x128) off ![W, 128] inb).shape.Idx → EReal) (A : Fin 4096 → Fin 128 → EReal) (hW : o + W ≤ 4096)
    (hw : ∀ (s : Fin W) (d : Fin 128), w (ix2 s d)
      = (show EReal from v.read (Elt Ideal) (v.writes (Elt Ideal) f L) (ix2 ⟨o + s.val, by omega⟩ d)) + A ⟨o + s.val, by omega⟩ d)
    (s : Fin 4096) (d : Fin 128) :
    v.read (Elt Ideal) (v.writes (Elt Ideal) f ((⟨Rect.unit off ![W, 128] inb, w⟩ : View.Piece (Elt Ideal) S4096x128 .f32) :: L)) (ix2 s d)
      = (show EReal from v.read (Elt Ideal) (v.writes (Elt Ideal) f L) (ix2 s d)) + (if o ≤ s.val ∧ s.val < o + W then A s d else 0) := by
  by_cases h : o ≤ s.val ∧ s.val < o + W
  · rw [if_pos h]
    refine (View.read_writes_cons_rows_of_mem v f inb w L (ix2 s d) (ix2 ⟨s.val - o, by omega⟩ d) hoff ?_ rfl).trans ?_
    · show s.val = o + (s.val - o)
      omega
    · refine (hw ⟨s.val - o, by omega⟩ d).trans ?_
      have e : (⟨o + (s.val - o), by omega⟩ : Fin 4096) = s := Fin.ext (by show o + (s.val - o) = s.val; omega)
      show _ + A ⟨o + (s.val - o), _⟩ d = _ + A s d
      rw [e]
  · rw [if_neg h]
    refine (View.read_writes_cons_rows_of_not_mem v f inb w L (ix2 s d) hoff rfl ?_).trans (add_zero _).symm
    show s.val < o ∨ o + W ≤ s.val
    omega

variable (v' : View sig κ sp S1x4x1x1024 .f32) (f' : v'.ty.Contents (Elt Ideal))

/-- The same for a block of gate sums. -/
theorem read_add_block {W : ℕ} (L : List (View.Piece (Elt Ideal) S1x4x1x1024 .f32)) {off : Fin 4 → ℕ} (b o : ℕ)
    (inb : ∀ a : Fin 4, off a + (![1, 1, 1, W] : Fin 4 → ℕ) a ≤ S1x4x1x1024.size a) (hoff : off = ![0, b, 0, o])
    (w : (Rect.unit (s := S1x4x1x1024) off ![1, 1, 1, W] inb).shape.Idx → EReal) (A : Fin 4096 → EReal) (hb : b < 4) (hW : o + W ≤ 1024)
    (hw : ∀ (s : Fin W), w (ix4 0 0 0 s)
      = (show EReal from v'.read (Elt Ideal) (v'.writes (Elt Ideal) f' L) (at4 ⟨b * 1024 + o + s.val, by omega⟩)) + A ⟨b * 1024 + o + s.val, by omega⟩)
    (s : Fin 4096) :
    v'.read (Elt Ideal) (v'.writes (Elt Ideal) f' ((⟨Rect.unit off ![1, 1, 1, W] inb, w⟩ : View.Piece (Elt Ideal) S1x4x1x1024 .f32) :: L)) (at4 s)
      = (show EReal from v'.read (Elt Ideal) (v'.writes (Elt Ideal) f' L) (at4 s))
        + (if b * 1024 + o ≤ s.val ∧ s.val < b * 1024 + o + W then A s else 0) := by
  by_cases h : b * 1024 + o ≤ s.val ∧ s.val < b * 1024 + o + W
  · rw [if_pos h]
    refine (View.read_writes_cons_unit_of_mem v' f' inb w L (at4 s) (ix4 0 0 0 ⟨s.val - (b * 1024 + o), by omega⟩) hoff ?_).trans ?_
    · intro a
      match a with
      | 0 => rfl
      | 1 => show s.val / 1024 = b + 0; omega
      | 2 => rfl
      | 3 => show s.val % 1024 = o + (s.val - (b * 1024 + o)); omega
    · refine (hw ⟨s.val - (b * 1024 + o), by omega⟩).trans ?_
      have e : (⟨b * 1024 + o + (s.val - (b * 1024 + o)), by omega⟩ : Fin 4096) = s :=
        Fin.ext (by show b * 1024 + o + (s.val - (b * 1024 + o)) = s.val; omega)
      exact congrArg (fun r : Fin 4096 => (show EReal from v'.read (Elt Ideal) (v'.writes (Elt Ideal) f' L) (at4 r)) + A r) e
  · rw [if_neg h]
    by_cases h1 : s.val / 1024 = b
    · refine (View.read_writes_cons_unit_of_not_mem v' f' inb w L (at4 s) hoff 3 ?_).trans (add_zero _).symm
      show s.val % 1024 < o ∨ o + W ≤ s.val % 1024
      omega
    · refine (View.read_writes_cons_unit_of_not_mem v' f' inb w L (at4 s) hoff 1 ?_).trans (add_zero _).symm
      show s.val / 1024 < b ∨ b + 1 ≤ s.val / 1024
      omega

end Stores

/-- A sum over the keys of one window is a sum over the places in it. -/
theorem sum_window {M : Type} [AddCommMonoid M] {N : ℕ} (f : Fin N → M) (o W : ℕ) (h : o + W ≤ N) :
    (∑ s : Fin N, if o ≤ s.val ∧ s.val < o + W then f s else 0) = ∑ r : Fin W, f ⟨o + r.val, by omega⟩ := by
  rw [← Finset.sum_filter]
  refine Finset.sum_bij' (fun s hs => ⟨s.val - o, by have := (Finset.mem_filter.mp hs).2; omega⟩)
    (fun r _ => ⟨o + r.val, by omega⟩) ?_ ?_ ?_ ?_ ?_
  · intro s _; exact Finset.mem_univ _
  · intro r _
    refine Finset.mem_filter.mpr ⟨Finset.mem_univ _, ?_, ?_⟩
    · show o ≤ o + r.val; omega
    · show o + r.val < o + W; omega
  · intro s hs
    have := (Finset.mem_filter.mp hs).2
    exact Fin.ext (by show o + (s.val - o) = s.val; omega)
  · intro r _
    exact Fin.ext (by show o + r.val - o = r.val; omega)
  · intro s hs
    have := (Finset.mem_filter.mp hs).2
    exact congrArg f (Fin.ext (by show s.val = o + (s.val - o); omega))

/-- Widening the window of a conditional by the next `W` keys. -/
theorem ite_window {M : Type} [AddCommMonoid M] (x : M) (s o W : ℕ) :
    (if s < o then x else 0) + (if o ≤ s ∧ s < o + W then x else 0) = if s < o + W then x else 0 := by
  by_cases h : s < o
  · rw [if_pos h, if_neg (by omega), if_pos (by omega), add_zero]
  · by_cases h2 : s < o + W
    · rw [if_neg h, if_pos (by omega), if_pos h2, zero_add]
    · rw [if_neg h, if_neg (by omega), if_neg h2, add_zero]

/-- Widening the window of a sum by the next `W` keys. -/
theorem sum_widen {M : Type} [AddCommMonoid M] {N : ℕ} (f : Fin N → M) (o W : ℕ) (h : o + W ≤ N) :
    (∑ s : Fin N, if s.val < o then f s else 0) + (∑ r : Fin W, f ⟨o + r.val, by omega⟩)
      = ∑ s : Fin N, if s.val < o + W then f s else 0 := by
  rw [← sum_window f o W h, ← Finset.sum_add_distrib]
  exact Finset.sum_congr rfl fun s _ => ite_window (f s) s.val o W

end Cert.FoxBwd
end
-- ==== Proof.FoxLoop.lean ====
/- The loop of the attention backward over the key tiles before the diagonal: what its trips add. -/
module

public import proofs.«01_k».proof.Proof.Gen.KernelIdeal.Loops
public import Idealize.ShloMosaic.Lib.Pipeline.ValueKit
public import proofs.«01_k».proof.Proof.FoxBlock

@[expose] public section

set_option maxRecDepth 16384

noncomputable section

open Idealize.ShloMosaic Idealize.ShloMosaic.TcCoe Idealize.SL.Sem
open scoped BigOperators

namespace Cert.FoxBwd
open Cert.KernelIdeal Cert.KernelIdeal.Gen

section Weights
variable (q dO : FVec Ideal S1024x128 .bf16) (delta lse cq : FVec Ideal S1024x1 .f32)
  (k v : FVec Ideal S4096x128 .bf16) (ck : FVec Ideal S1x4x1x1024 .f32)

/-- The attention weight of query row `i` of a tile on key `s`: `exp` of the gated logit less the row's log-sum-exp. -/
def wt (i : Fin 1024) (s : Fin 4096) : EReal :=
  Ideal.exp ((∑ x, q (ix2 i x) * k (ix2 s x)) * scale + cq (ix2 i 0) - ck (at4 s) - lse (ix2 i 0))

/-- The gradient of the logit of row `i` and key `s`. -/
def dl (i : Fin 1024) (s : Fin 4096) : EReal :=
  wt q lse cq k ck i s * (∑ x, dO (ix2 i x) * v (ix2 s x) - delta (ix2 i 0))

end Weights

/-- Where a trip reads and writes. -/
theorem off2 : ∀ (i : grid0.Coords) (k : Fin (k0_t1_loop i).trips), k0_off2 i k = ![k.val * 1024, 0] := by decide +kernel
theorem off3 : ∀ (i : grid0.Coords) (k : Fin (k0_t1_loop i).trips), k0_off3 i k = ![0, k.val, 0, 0] := by decide +kernel
/-- The unmasked loop of query tile `i 1` has one trip for each earlier tile. -/
theorem trips1 : ∀ (i : grid0.Coords), (k0_t1_loop i).trips = (i 1).val := by decide +kernel
/-- The loop after it, over what the unrolling left, has none. -/
theorem trips2 : ∀ (i : grid0.Coords), (k0_t2_loop i).trips = 0 := by decide +kernel

variable (𝒱 : Variants) (c : Dev nD) (bd : Option 𝒱.V) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1x1x1x1024 .f32) (harg7 : arg7.IsWhole)
  (arg8 : Memref sig .tc .vmem S1x4x1x1024 .f32) (harg8 : arg8.IsWhole)
  (arg9 : Memref sig .tc .vmem S1024x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S1x4x1x1024 .f32) (harg12 : arg12.IsWhole)
  (arg13 : Memref sig .tc .vmem S4096x128 .f32) (harg13 : arg13.IsWhole)
  (arg14 : Memref sig .tc .vmem S4096x128 .f32) (harg14 : arg14.IsWhole)
  (arg1 : BitVec 32) (v4 v6 : FVec Ideal S1024x128 .bf16) (v13 v24 v36 : FVec Ideal S1024x1 .f32)
  (X3 : BufTy.Contents (Elt Ideal) arg3.view.ty) (X4 : BufTy.Contents (Elt Ideal) arg4.view.ty) (X8 : BufTy.Contents (Elt Ideal) arg8.view.ty)
  (G12 : BufTy.Contents (Elt Ideal) arg12.view.ty) (G13 : BufTy.Contents (Elt Ideal) arg13.view.ty) (G14 : BufTy.Contents (Elt Ideal) arg14.view.ty)
  (init : FVec Ideal S1024x128 .f32 × FVec Ideal S1024x1 .f32)

/-- What the loop over the earlier key tiles has added after `n` trips: to the query gradient and the row sums it carries,
   and to the key, value and gate gradients it stores, the terms of the keys before `1024 n`. -/
structure After (k v : FVec Ideal S4096x128 .bf16) (ck : FVec Ideal S1x4x1x1024 .f32) (n : ℕ) (st : (FVec Ideal S1024x128 .f32 × FVec Ideal S1024x1 .f32) × List (View.Piece (Elt Ideal) S1x4x1x1024 .f32)
    × List (View.Piece (Elt Ideal) S4096x128 .f32) × List (View.Piece (Elt Ideal) S4096x128 .f32)) : Prop where
  dq : ∀ (r : Fin 1024) (d : Fin 128), st.1.1 (ix2 r d) = init.1 (ix2 r d) + ∑ s : Fin 4096, if s.val < n * 1024 then
    dl v4 v6 v13 v24 v36 k v ck r s * scale
      * k (ix2 s d) else 0
  rows : ∀ (r : Fin 1024), st.1.2 (ix2 r 0) = init.2 (ix2 r 0) + ∑ s : Fin 4096, if s.val < n * 1024 then
    dl v4 v6 v13 v24 v36 k v ck r s else 0
  dc : ∀ s : Fin 4096, arg12.view.read (Elt Ideal) (arg12.view.writes (Elt Ideal) G12 st.2.1) (at4 s)
    = (show EReal from arg12.view.read (Elt Ideal) G12 (at4 s)) + if s.val < n * 1024 then
    -(∑ r, dl v4 v6 v13 v24 v36 k v ck r s) else 0
  dk : ∀ (s : Fin 4096) (d : Fin 128), arg13.view.read (Elt Ideal) (arg13.view.writes (Elt Ideal) G13 st.2.2.1) (ix2 s d)
    = (show EReal from arg13.view.read (Elt Ideal) G13 (ix2 s d)) + if s.val < n * 1024 then
    ∑ r, dl v4 v6 v13 v24 v36 k v ck r s * scale
      * v4 (ix2 r d) else 0
  dv : ∀ (s : Fin 4096) (d : Fin 128), arg14.view.read (Elt Ideal) (arg14.view.writes (Elt Ideal) G14 st.2.2.2) (ix2 s d)
    = (show EReal from arg14.view.read (Elt Ideal) G14 (ix2 s d)) + if s.val < n * 1024 then
    ∑ r, wt v4 v24 v36 k ck r s * v6 (ix2 r d) else 0

/-- The loop over the earlier key tiles. -/
theorem after_loop (n : ℕ) (hn : n ≤ (k0_t1_loop i).trips) :
    After arg12 arg13 arg14 v4 v6 v13 v24 v36 G12 G13 G14 init
      (arg3.view.read (Elt Ideal) X3) (arg4.view.read (Elt Ideal) X4) (arg8.view.read (Elt Ideal) X8) n
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v13 v24 v36 X3 X4 X8 G12 G13 G14 init n) := by
  induction n with
  | zero =>
    refine ⟨fun r d => ?_, fun r => ?_, fun s => ?_, fun s d => ?_, fun s d => ?_⟩ <;>
      simp only [Nat.zero_mul, Nat.not_lt_zero, if_false, Finset.sum_const_zero, add_zero] <;> rfl
  | succ n ih =>
    have hk := ih (Nat.le_of_succ_le hn)
    have hsucc := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v13 v24 v36 X3 X4 X8 G12 G13 G14 init ⟨n, hn⟩
    generalize hst : st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v13 v24 v36 X3 X4 X8 G12 G13 G14 init n = st at hk hsucc
    have ho2 := off2 i ⟨n, hn⟩
    have ho3 := off3 i ⟨n, hn⟩
    have hn4 : n + 1 ≤ 4 := le_of_le_of_eq (hn.trans ((trips1 i).le.trans (i 1).isLt.le)) rfl
    have r3 : ∀ (s : Fin 1024) (d : Fin 128), arg3.view.readAt (Elt Ideal) (Rect.unit (s := S4096x128) (k0_off2 i ⟨n, hn⟩) ![1024, 128] (k0_off2_inb i ⟨n, hn⟩)).toLoadRect X3 (ix2 s d)
        = arg3.view.read (Elt Ideal) X3 (ix2 ⟨n * 1024 + s.val, by omega⟩ d) := fun s d => readAt_rows _ _ (n * 1024) _ ho2 s d _
    have r4 : ∀ (s : Fin 1024) (d : Fin 128), arg4.view.readAt (Elt Ideal) (Rect.unit (s := S4096x128) (k0_off2 i ⟨n, hn⟩) ![1024, 128] (k0_off2_inb i ⟨n, hn⟩)).toLoadRect X4 (ix2 s d)
        = arg4.view.read (Elt Ideal) X4 (ix2 ⟨n * 1024 + s.val, by omega⟩ d) := fun s d => readAt_rows _ _ (n * 1024) _ ho2 s d _
    have r8 : ∀ (s : Fin 1024), arg8.view.readAt (Elt Ideal) (Rect.unit (s := S1x4x1x1024) (k0_off3 i ⟨n, hn⟩) ![1, 1, 1, 1024] (k0_off3_inb i ⟨n, hn⟩)).toLoadRect X8 (ix4 0 0 0 s)
        = arg8.view.read (Elt Ideal) X8 (at4 ⟨n * 1024 + s.val, by omega⟩) := fun s => readAt_block _ _ n 0 _ ho3 s (by omega) (by omega)
    refine cast (congrArg _ hsucc.symm) ?_
    unfold tripR_k0_t1 tripL_k0_t1 trip_k0_t1
    dsimp only
    refine ⟨fun r d => ?_, fun r => ?_, fun s => ?_, fun s d => ?_, fun s d => ?_⟩
    · rw [Nat.succ_mul, ← sum_widen _ (n * 1024) 1024 (by omega), ← add_assoc, ← hk.dq r d]
      show k0_pay26 (F := Ideal) _ _ _ _ (ix2 r d) = _
      pointwise [k0_pay26, k0_pay23, trip_k0_t1.sl.r, trip_k0_t1.sl.r_2, trip_k0_t1.sl.cst_128, k0_pay3, k0_pay4, k0_pay5, k0_pay8, k0_pay9, k0_pay10]
      refine congrArg _ (Finset.sum_congr rfl fun s _ => ?_)
      simp only [r3, r4, r8]
      rfl
    · rw [Nat.succ_mul, ← sum_widen _ (n * 1024) 1024 (by omega), ← add_assoc, ← hk.rows r]
      show trip_k0_t1.sl.r_3 i arg3 arg4 arg8 v4 v6 v13 v24 v36 X3 X4 X8 ⟨n, hn⟩ st.1 (ix2 r 0) = _
      pointwise [trip_k0_t1.sl.r_3, k0_pay7, k0_pay3, k0_pay4, k0_pay5]
      refine congrArg _ (Finset.sum_congr rfl fun s _ => ?_)
      simp only [r3, r4, r8]
      rfl
    · rw [Nat.succ_mul, ← ite_window, ← add_assoc, ← hk.dc s]
      refine read_add_block arg12.view G12 st.2.1 n 0 _ ho3 _ (fun s => -(∑ r, dl v4 v6 v13 v24 v36 (arg3.view.read (Elt Ideal) X3)
        (arg4.view.read (Elt Ideal) X4) (arg8.view.read (Elt Ideal) X8) r s)) (by omega) (by omega) (fun s => ?_) s
      pointwise [k0_pay6, k0_pay3, k0_pay4, k0_pay5]
      rw [sub_eq_add_neg]
      refine congrArg₂ (fun a b : EReal => a + -b) (readAt_block _ _ n 0 _ ho3 s (by omega) (by omega)) (Finset.sum_congr rfl fun r _ => ?_)
      simp only [r3, r4, r8]
      rfl
    · rw [Nat.succ_mul, ← ite_window, ← add_assoc, ← hk.dk s d]
      refine read_add_rows arg13.view G13 st.2.2.1 (n * 1024) _ ho2 _ (fun s d => ∑ r, dl v4 v6 v13 v24 v36 (arg3.view.read (Elt Ideal) X3)
        (arg4.view.read (Elt Ideal) X4) (arg8.view.read (Elt Ideal) X8) r s * scale * v4 (ix2 r d)) (by omega) (fun s d => ?_) s d
      pointwise [k0_pay25, k0_pay23, trip_k0_t1.sl.r_2, trip_k0_t1.sl.cst_128, k0_pay3, k0_pay4, k0_pay5]
      refine congrArg₂ (fun a b : EReal => a + b) (readAt_rows _ _ (n * 1024) _ ho2 s d (by omega)) (Finset.sum_congr rfl fun r _ => ?_)
      simp only [r3, r4, r8]
      rfl
    · rw [Nat.succ_mul, ← ite_window, ← add_assoc, ← hk.dv s d]
      refine read_add_rows arg14.view G14 st.2.2.2 (n * 1024) _ ho2 _ (fun s d => ∑ r, wt v4 v24 v36 (arg3.view.read (Elt Ideal) X3)
        (arg8.view.read (Elt Ideal) X8) r s * v6 (ix2 r d)) (by omega) (fun s d => ?_) s d
      pointwise [k0_pay24, trip_k0_t1.sl.r_1, k0_pay3, k0_pay4]
      refine congrArg₂ (fun a b : EReal => a + b) (readAt_rows _ _ (n * 1024) _ ho2 s d (by omega)) (Finset.sum_congr rfl fun r _ => ?_)
      simp only [r3, r4, r8]
      rfl

end Cert.FoxBwd
end
-- ==== Proof.FoxDiag.lean ====
/- The diagonal tile of the attention backward, taken in halves of 512 rows and keys. -/
module

public import proofs.«01_k».proof.Proof.Gen.KernelIdeal.Loops
public import Idealize.ShloMosaic.Lib.Pipeline.ValueKit
public import proofs.«01_k».proof.Proof.FoxLoop
public import Idealize.ShloMosaic.Lib.WordCmp

@[expose] public section

set_option maxRecDepth 16384

noncomputable section

open Idealize.ShloMosaic Idealize.ShloMosaic.TcCoe Idealize.SL.Sem
open scoped BigOperators

namespace Cert.FoxBwd
open Cert.KernelIdeal Cert.KernelIdeal.Gen

theorem select_ofBool (p : Prop) [Decidable p] (a : EReal) : Scalar.select (BitVec.ofBool (decide p)) a (0 : EReal) = if p then a else 0 := by
  by_cases h : p
  · rw [if_pos h, decide_eq_true h]; rfl
  · rw [if_neg h, decide_eq_false h]; rfl

/-- A select on "row at or below column" of two positions, as a condition. -/
theorem select_ge (x y : Fin 512) (a : EReal) :
    Scalar.select (IntOp.cmpi CmpIPredicate.sge (BitVec.ofNat 32 x.val) (BitVec.ofNat 32 y.val)) a (0 : EReal) = if y.val ≤ x.val then a else 0 := by
  rw [WordCmp.cmpi_sge_ofNat (by omega) (by omega)]
  exact select_ofBool _ a

/-- A select on "row equal to column", as a condition. -/
theorem select_eq (x y : Fin 1024) (a : EReal) :
    Scalar.select (IntOp.cmpi CmpIPredicate.eq (BitVec.ofNat 32 x.val) (BitVec.ofNat 32 y.val)) a (0 : EReal) = if x = y then a else 0 := by
  rw [WordCmp.cmpi_eq_ofNat (by omega) (by omega)]
  refine (select_ofBool _ a).trans ?_
  simp only [Fin.ext_iff]

section Tile
variable (b : ℕ) (q dO : FVec Ideal S1024x128 .bf16) (delta lse cq : FVec Ideal S1024x1 .f32)
  (k v : FVec Ideal S4096x128 .bf16) (ck : FVec Ideal S1x4x1x1024 .f32)

/-- The weights of query tile `b`, row `b * 1024 + i` seeing the keys up to itself. -/
def mw (i : Fin 1024) (s : Fin 4096) : EReal := if s.val ≤ b * 1024 + i.val then wt q lse cq k ck i s else 0

/-- The gradient of the logits of query tile `b`. -/
def mdl (i : Fin 1024) (s : Fin 4096) : EReal :=
  mw b q lse cq k ck i s * (∑ x, dO (ix2 i x) * v (ix2 s x) - delta (ix2 i 0))

theorem mw_before (i : Fin 1024) (s : Fin 4096) (h : s.val < b * 1024) : mw b q lse cq k ck i s = wt q lse cq k ck i s := if_pos (by omega)
theorem mdl_before (i : Fin 1024) (s : Fin 4096) (h : s.val < b * 1024) :
    mdl b q dO delta lse cq k v ck i s = dl q dO delta lse cq k v ck i s := by
  unfold mdl dl
  rw [mw_before b q lse cq k ck i s h]
theorem mw_after (i : Fin 1024) (s : Fin 4096) (h : b * 1024 + i.val < s.val) : mw b q lse cq k ck i s = 0 := if_neg (by omega)
theorem mdl_after (i : Fin 1024) (s : Fin 4096) (h : b * 1024 + i.val < s.val) : mdl b q dO delta lse cq k v ck i s = 0 := by
  unfold mdl
  rw [mw_after b q lse cq k ck i s h, zero_mul]

/-- The half blocks of keys, values and gate sums the diagonal tile `b` loads. -/
structure Halves (k0 k1 v0 v1 : FVec Ideal S512x128 .bf16) (c0 c1 : FVec Ideal S1x1x1x512 .f32) : Prop where
  hb : b < 4
  k0 : ∀ (s : Fin 512) (x : Fin 128), k0 (ix2 s x) = k (ix2 ⟨b * 1024 + s.val, by omega⟩ x)
  k1 : ∀ (s : Fin 512) (x : Fin 128), k1 (ix2 s x) = k (ix2 ⟨b * 1024 + 512 + s.val, by omega⟩ x)
  v0 : ∀ (s : Fin 512) (x : Fin 128), v0 (ix2 s x) = v (ix2 ⟨b * 1024 + s.val, by omega⟩ x)
  v1 : ∀ (s : Fin 512) (x : Fin 128), v1 (ix2 s x) = v (ix2 ⟨b * 1024 + 512 + s.val, by omega⟩ x)
  c0 : ∀ (s : Fin 512), c0 (ix4 0 0 0 s) = ck (at4 ⟨b * 1024 + s.val, by omega⟩)
  c1 : ∀ (s : Fin 512), c1 (ix4 0 0 0 s) = ck (at4 ⟨b * 1024 + 512 + s.val, by omega⟩)

variable {b q dO delta lse cq k v ck} {k0 k1 v0 v1 : FVec Ideal S512x128 .bf16} {c0 c1 : FVec Ideal S1x1x1x512 .f32}
  (H : Halves b k v ck k0 k1 v0 v1 c0 c1)
include H

/-- Rows and keys of the first half: the triangle. -/
theorem w_ll (x s : Fin 512) : k0_pay36 (F := Ideal) q lse cq k0 c0 (ix2 x s)
    = mw b q lse cq k ck ⟨x.val, by omega⟩ ⟨b * 1024 + s.val, by have := H.hb; omega⟩ := by
  pointwise [k0_pay36, k0_pay33, k0_pay34]
  simp only [select_ge, H.k0, H.c0]
  unfold mw wt
  simp only [Nat.add_le_add_iff_left]

theorem d_ll (x s : Fin 512) : k0_pay38 (F := Ideal) delta (k0_pay36 q lse cq k0 c0) (k0_pay37 dO v0) (ix2 x s)
    = mdl b q dO delta lse cq k v ck ⟨x.val, by omega⟩ ⟨b * 1024 + s.val, by have := H.hb; omega⟩ := by
  pointwise [k0_pay38, k0_pay37, k0_pay35]
  rw [w_ll H]
  simp only [H.v0]
  rfl

/-- Rows of the second half, keys of the first: the square. -/
theorem w_lh (x s : Fin 512) : k0_pay50 (F := Ideal) q lse cq k0 c0 (ix2 x s)
    = mw b q lse cq k ck ⟨512 + x.val, by omega⟩ ⟨b * 1024 + s.val, by have := H.hb; omega⟩ := by
  pointwise [k0_pay50, k0_pay47, k0_pay48]
  simp only [H.k0, H.c0]
  exact (if_pos (by show b * 1024 + s.val ≤ b * 1024 + (512 + x.val); omega)).symm

theorem d_lh (x s : Fin 512) : k0_pay51 (F := Ideal) q dO delta lse cq k0 v0 c0 (ix2 x s)
    = mdl b q dO delta lse cq k v ck ⟨512 + x.val, by omega⟩ ⟨b * 1024 + s.val, by have := H.hb; omega⟩ := by
  pointwise [k0_pay51, k0_pay49]
  rw [w_lh H]
  simp only [H.v0]
  rfl

/-- Rows and keys of the second half: the triangle. -/
theorem w_hh (x s : Fin 512) : k0_pay63 (F := Ideal) lse (k0_pay62 q cq k1) c1 (ix2 x s)
    = mw b q lse cq k ck ⟨512 + x.val, by omega⟩ ⟨b * 1024 + 512 + s.val, by have := H.hb; omega⟩ := by
  pointwise [k0_pay63, k0_pay62, k0_pay58, k0_pay60]
  simp only [select_ge, H.k1, H.c1]
  unfold mw wt
  simp only [Nat.add_assoc, Nat.add_le_add_iff_left]

theorem d_hh (x s : Fin 512) : k0_pay64 (F := Ideal) delta lse (k0_pay59 v1) (k0_pay61 dO) (k0_pay62 q cq k1) c1 (ix2 x s)
    = mdl b q dO delta lse cq k v ck ⟨512 + x.val, by omega⟩ ⟨b * 1024 + 512 + s.val, by have := H.hb; omega⟩ := by
  pointwise [k0_pay64, k0_pay59, k0_pay61]
  rw [w_hh H]
  simp only [H.v1]
  rfl

end Tile

/-- The three half blocks of the diagonal tile and the tiles before it, summed over the rows of the tile: all of it. -/
theorem sum_rows (b s : ℕ) (F : Fin 1024 → EReal) (h0 : ∀ r : Fin 1024, b * 1024 + r.val < s → F r = 0) :
    ((if s < b * 1024 then ∑ r, F r else 0)
      + (if b * 1024 ≤ s ∧ s < b * 1024 + 512 then ∑ x : Fin 512, F ⟨x.val, by omega⟩ else 0)
      + (if b * 1024 ≤ s ∧ s < b * 1024 + 512 then ∑ x : Fin 512, F ⟨512 + x.val, by omega⟩ else 0)
      + (if b * 1024 + 512 ≤ s ∧ s < b * 1024 + 512 + 512 then ∑ x : Fin 512, F ⟨512 + x.val, by omega⟩ else 0)) = ∑ r, F r := by
  have hsplit : (∑ r, F r) = (∑ x : Fin 512, F ⟨x.val, by omega⟩) + ∑ x : Fin 512, F ⟨512 + x.val, by omega⟩ :=
    Fin.sum_univ_add (a := 512) (b := 512) F
  by_cases h1 : s < b * 1024
  · rw [if_pos h1, if_neg (by omega), if_neg (by omega), if_neg (by omega)]
    simp only [add_zero]
  · rw [if_neg h1, zero_add]
    by_cases h2 : s < b * 1024 + 512
    · rw [if_pos (by omega), if_pos (by omega), if_neg (by omega), add_zero, ← hsplit]
    · have hl : (∑ x : Fin 512, F ⟨x.val, by omega⟩) = 0 := Finset.sum_eq_zero fun x _ => h0 _ (by show b * 1024 + x.val < s; omega)
      rw [if_neg (by omega), if_neg (by omega), hsplit, hl]
      by_cases h3 : s < b * 1024 + 1024
      · rw [if_pos (by omega)]
        simp only [zero_add]
      · have hh : (∑ x : Fin 512, F ⟨512 + x.val, by omega⟩) = 0 :=
          Finset.sum_eq_zero fun x _ => h0 _ (by show b * 1024 + (512 + x.val) < s; omega)
        rw [if_neg (by omega), hh]
        simp only [add_zero]

/-- The same along the keys, for a row of the first half and for one of the second. -/
theorem sum_keys_low (b : ℕ) (hb : b < 4) (F : Fin 4096 → EReal) (x : Fin 512) (h0 : ∀ s : Fin 4096, b * 1024 + x.val < s.val → F s = 0) :
    (∑ s : Fin 4096, if s.val < b * 1024 then F s else 0) + (∑ y : Fin 512, F ⟨b * 1024 + y.val, by omega⟩) = ∑ s, F s := by
  rw [sum_widen F (b * 1024) 512 (by omega)]
  refine Finset.sum_congr rfl fun s _ => ?_
  by_cases h : s.val < b * 1024 + 512
  · exact if_pos h
  · rw [if_neg h, h0 s (by omega)]

theorem sum_keys_high (b : ℕ) (hb : b < 4) (F : Fin 4096 → EReal) (x : Fin 512) (h0 : ∀ s : Fin 4096, b * 1024 + (512 + x.val) < s.val → F s = 0) :
    (∑ s : Fin 4096, if s.val < b * 1024 then F s else 0) + (∑ y : Fin 512, F ⟨b * 1024 + y.val, by omega⟩)
      + (∑ y : Fin 512, F ⟨b * 1024 + 512 + y.val, by omega⟩) = ∑ s, F s := by
  rw [sum_widen F (b * 1024) 512 (by omega), sum_widen F (b * 1024 + 512) 512 (by omega)]
  refine Finset.sum_congr rfl fun s _ => ?_
  by_cases h : s.val < b * 1024 + 512 + 512
  · exact if_pos h
  · rw [if_neg h, h0 s (by omega)]

end Cert.FoxBwd
end
-- ==== Proof.RealOps.lean ====
/- The operations of the idealized programs at finite arguments: where every operand is a real number, each is the
   operation of the reals. The value claims that need finite arguments are then equations between reals. -/
module

public import Idealize.ShloMosaic.PureOps.Ideal.Laws
public import Idealize.ShloMosaic.Lib.IdealHost
public import Idealize.ShloMosaic.Lib.Pipeline.ValueKit

@[expose] public section

noncomputable section

open Idealize.ShloMosaic
open scoped BigOperators

namespace Cert.RealOps

/-- Every element of the array is a real number. -/
def IsReal {ι : Type} (x : ι → EReal) : Prop := ∃ r : ι → ℝ, x = fun i => ((r i : ℝ) : EReal)

/-- An extended real whose absolute value lies below infinity is a real. -/
theorem exists_real_of_abs_lt {a : EReal} (h : max a (-a) < ⊤) : ∃ r : ℝ, a = (r : EReal) := by
  induction a using EReal.rec with
  | bot => simp at h
  | coe r => exact ⟨r, rfl⟩
  | top => simp at h

theorem ofBits_inf : Ideal.ofBits .f32 0x7F800000#32 = ⊤ := by
  simp [Ideal.ofBits, Ideal.ieee]

/-- The comparison the precondition makes of one array, all ones, says that the array is real. -/
theorem isReal_of_finite {T : Shape} (x : FVec Ideal T .f32) (hb : (⟨0, ![]⟩ : Shape).BroadcastsInDim T ![])
    (h : cmpf .olt (Host.absf x) (broadcastInDim T ![] hb (constant (⟨0, ![]⟩ : Shape) .f32 0x7F800000#32)) = fun _ => 1#1) :
    IsReal x := by
  have key : ∀ i, ∃ r : ℝ, x i = (r : EReal) := fun i => by
    have hi := congrFun h i
    have hb' : broadcastInDim T ![] hb (constant (F := Ideal) (⟨0, ![]⟩ : Shape) .f32 0x7F800000#32) i = (⊤ : EReal) := by
      rw [ValueIdx.broadcastInDim_scalar_apply]; exact ofBits_inf
    have hc : Ideal.cmp .olt (max (x i) (-(x i))) (broadcastInDim T ![] hb (constant (F := Ideal) (⟨0, ![]⟩ : Shape) .f32 0x7F800000#32) i) = 1#1 := hi
    rw [hb'] at hc
    refine exists_real_of_abs_lt ?_
    by_contra hn
    simp [Ideal.cmp, hn] at hc
  exact ⟨fun i => (key i).choose, funext fun i => (key i).choose_spec⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe {a b : ℝ} (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem logistic_coe (a : ℝ) : Ideal.logistic (a : EReal) = ((1 / (1 + Real.exp (-a)) : ℝ) : EReal) := by
  have h : (1 + Real.exp (-a)) ≠ 0 := by positivity
  rw [Ideal.logistic, ← EReal.coe_neg, Ideal.exp_coe, ← EReal.coe_one, ← EReal.coe_add, div_coe h]

/-- The small constant of the norms as a real. -/
def epsR : ℝ := 8796093 / 8796093022208

theorem ofBits_eps : Ideal.ofBits .f32 0x358637BD#32 = ((epsR : ℝ) : EReal) := by
  unfold epsR
  simp [Ideal.ofBits, Ideal.ieee, -EReal.coe_mul]; norm_num

theorem epsR_pos : 0 < epsR := by unfold epsR; norm_num

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_zero : Ideal.ofBits .f32 0x00000000#32 = ((0 : ℝ) : EReal) := by simp

/-- A reshape that drops a leading axis of one. -/
theorem shapeCast_drop_lead {α : Type} {n k : ℕ} (x : (⟨3, ![1, n, k]⟩ : Shape).Idx → α)
    (h : (⟨3, ![1, n, k]⟩ : Shape).ShapeCasts ⟨2, ![n, k]⟩) (i : (⟨2, ![n, k]⟩ : Shape).Idx) :
    shapeCast _ x h i = x (ix3 0 (i 0) (i 1)) :=
  shapeCast_apply x h i (ix3 0 (i 0) (i 1)) (by
    rw [Shape.rowMajor_val_three, Shape.rowMajor_val_two]
    show (0 * n + (i 0).val) * k + (i 1).val = (i 0).val * k + (i 1).val
    rw [Nat.zero_mul, Nat.zero_add])

end Cert.RealOps

end
-- ==== Proof.FoxTile.lean ====
/- What one query tile adds to the running sums of the attention backward. -/
module

public import proofs.«01_k».proof.Proof.Gen.KernelIdeal.Loops
public import Idealize.ShloMosaic.Lib.Pipeline.ValueKit
public import proofs.«01_k».proof.Proof.FoxDiag
public import proofs.«01_k».proof.Proof.RealOps

@[expose] public section

set_option maxRecDepth 16384

noncomputable section

open Idealize.ShloMosaic Idealize.ShloMosaic.TcCoe Idealize.SL.Sem
open scoped BigOperators

namespace Cert.FoxBwd
open Cert.RealOps
open Cert.KernelIdeal Cert.KernelIdeal.Gen

variable {sig' : RefSig} {κ : Kind} {sp : Space} {b : ℕ} {q dO : FVec Ideal S1024x128 .bf16} {delta lse cq : FVec Ideal S1024x1 .f32}
  {k v : FVec Ideal S4096x128 .bf16} {ck : FVec Ideal S1x4x1x1024 .f32} {k0 k1 v0 v1 : FVec Ideal S512x128 .bf16}
  {c0 c1 : FVec Ideal S1x1x1x512 .f32}

/-- Four terms in the order the stores leave them. -/
theorem add_four (g a x y z : EReal) : g + a + x + y + z = g + (a + x + y + z) := by simp only [add_assoc]

section Rows
variable (w : View sig' κ sp S4096x128 .f32) (f : w.ty.Contents (Elt Ideal)) (L : List (View.Piece (Elt Ideal) S4096x128 .f32))
  {off off' : Fin 2 → ℕ} (inb : ∀ a : Fin 2, off a + (![512, 128] : Fin 2 → ℕ) a ≤ S4096x128.size a)
  (inb' : ∀ a : Fin 2, off' a + (![512, 128] : Fin 2 → ℕ) a ≤ S4096x128.size a)
  (hoff : off = ![b * 1024, 0]) (hoff' : off' = ![b * 1024 + 512, 0]) (o0 o1 o2 : FVec Ideal S512x128 .f32)

include hoff hoff'

/-- The key gradient after the diagonal tile: before the tile, plus the terms of all the tile's rows. -/
theorem tile_dk (H : Halves b k v ck k0 k1 v0 v1 c0 c1) (g : Fin 4096 → Fin 128 → EReal)
    (hL : ∀ (s : Fin 4096) (d : Fin 128), w.read (Elt Ideal) (w.writes (Elt Ideal) f L) (ix2 s d)
      = g s d + if s.val < b * 1024 then ∑ r, dl q dO delta lse cq k v ck r s * scale * q (ix2 r d) else 0)
    (h0 : ∀ (s : Fin 512) (d : Fin 128), o0 (ix2 s d) = w.read (Elt Ideal) (w.writes (Elt Ideal) f L) (ix2 ⟨b * 1024 + s.val, by have := H.hb; omega⟩ d))
    (h1 : ∀ (s : Fin 512) (d : Fin 128), o1 (ix2 s d) = w.read (Elt Ideal) (w.writes (Elt Ideal) f
      ((⟨Rect.unit off ![512, 128] inb, k0_pay43 (F := Ideal) delta (k0_pay34 q) (k0_pay36 q lse cq k0 c0) (k0_pay37 dO v0) o0⟩ : View.Piece (Elt Ideal) S4096x128 .f32) :: L))
      (ix2 ⟨b * 1024 + s.val, by have := H.hb; omega⟩ d))
    (h2 : ∀ (s : Fin 512) (d : Fin 128), o2 (ix2 s d) = w.read (Elt Ideal) (w.writes (Elt Ideal) f
      ((⟨Rect.unit off ![512, 128] inb, k0_pay56 (F := Ideal) (k0_pay48 q) (k0_pay51 q dO delta lse cq k0 v0 c0) o1⟩ : View.Piece (Elt Ideal) S4096x128 .f32)
        :: (⟨Rect.unit off ![512, 128] inb, k0_pay43 (F := Ideal) delta (k0_pay34 q) (k0_pay36 q lse cq k0 c0) (k0_pay37 dO v0) o0⟩ : View.Piece (Elt Ideal) S4096x128 .f32) :: L))
      (ix2 ⟨b * 1024 + 512 + s.val, by have := H.hb; omega⟩ d))
    (s : Fin 4096) (d : Fin 128) :
    w.read (Elt Ideal) (w.writes (Elt Ideal) f
      ((⟨Rect.unit off' ![512, 128] inb', k0_pay69 (F := Ideal) (k0_pay60 q) (k0_pay67 delta lse (k0_pay59 v1) (k0_pay61 dO) (k0_pay62 q cq k1) c1) o2⟩ : View.Piece (Elt Ideal) S4096x128 .f32)
        :: (⟨Rect.unit off ![512, 128] inb, k0_pay56 (F := Ideal) (k0_pay48 q) (k0_pay51 q dO delta lse cq k0 v0 c0) o1⟩ : View.Piece (Elt Ideal) S4096x128 .f32)
        :: (⟨Rect.unit off ![512, 128] inb, k0_pay43 (F := Ideal) delta (k0_pay34 q) (k0_pay36 q lse cq k0 c0) (k0_pay37 dO v0) o0⟩ : View.Piece (Elt Ideal) S4096x128 .f32) :: L))
      (ix2 s d) = g s d + ∑ r, mdl b q dO delta lse cq k v ck r s * scale * q (ix2 r d) := by
  have hb := H.hb
  have e0 := read_add_rows w f L (b * 1024) inb hoff (k0_pay43 (F := Ideal) delta (k0_pay34 q) (k0_pay36 q lse cq k0 c0) (k0_pay37 dO v0) o0)
    (fun s d => ∑ x : Fin 512, mdl b q dO delta lse cq k v ck ⟨x.val, by omega⟩ s * scale * q (ix2 ⟨x.val, by omega⟩ d)) (by omega) (fun s d => by
      pointwise [k0_pay43, k0_pay41, k0_pay34]
      refine congrArg₂ (fun a b : EReal => a + b) (h0 s d) (Finset.sum_congr rfl fun x _ => ?_)
      rw [d_ll H])
  have e1 := read_add_rows w f _ (b * 1024) inb hoff (k0_pay56 (F := Ideal) (k0_pay48 q) (k0_pay51 q dO delta lse cq k0 v0 c0) o1)
    (fun s d => ∑ x : Fin 512, mdl b q dO delta lse cq k v ck ⟨512 + x.val, by omega⟩ s * scale * q (ix2 ⟨512 + x.val, by omega⟩ d)) (by omega) (fun s d => by
      pointwise [k0_pay56, k0_pay54, k0_pay48]
      refine congrArg₂ (fun a b : EReal => a + b) (h1 s d) (Finset.sum_congr rfl fun x _ => ?_)
      rw [d_lh H])
  have e2 := read_add_rows w f _ (b * 1024 + 512) inb' hoff' (k0_pay69 (F := Ideal) (k0_pay60 q) (k0_pay67 delta lse (k0_pay59 v1) (k0_pay61 dO) (k0_pay62 q cq k1) c1) o2)
    (fun s d => ∑ x : Fin 512, mdl b q dO delta lse cq k v ck ⟨512 + x.val, by omega⟩ s * scale * q (ix2 ⟨512 + x.val, by omega⟩ d)) (by omega) (fun s d => by
      pointwise [k0_pay69, k0_pay67, k0_pay60]
      refine congrArg₂ (fun a b : EReal => a + b) (h2 s d) (Finset.sum_congr rfl fun x _ => ?_)
      rw [d_hh H])
  refine (e2 s d).trans ?_
  simp only [e1, e0, hL]
  refine (add_four _ _ _ _ _).trans (congrArg (g s d + ·) ?_)
  refine Eq.trans ?_ (sum_rows b s.val (fun r => mdl b q dO delta lse cq k v ck r s * scale * q (ix2 r d)) fun r h => ?_)
  · refine congrArg (fun a => a + _ + _ + _) ?_
    by_cases h : s.val < b * 1024
    · rw [if_pos h, if_pos h]
      exact Finset.sum_congr rfl fun r _ => by rw [mdl_before b q dO delta lse cq k v ck r s h]
    · rw [if_neg h, if_neg h]
  · show mdl b q dO delta lse cq k v ck r s * scale * q (ix2 r d) = 0
    rw [mdl_after b q dO delta lse cq k v ck r s h, zero_mul, zero_mul]

/-- The value gradient after the diagonal tile: before the tile, plus the terms of all the tile's rows. -/
theorem tile_dv (H : Halves b k v ck k0 k1 v0 v1 c0 c1) (g : Fin 4096 → Fin 128 → EReal)
    (hL : ∀ (s : Fin 4096) (d : Fin 128), w.read (Elt Ideal) (w.writes (Elt Ideal) f L) (ix2 s d)
      = g s d + if s.val < b * 1024 then ∑ r, wt q lse cq k ck r s * dO (ix2 r d) else 0)
    (h0 : ∀ (s : Fin 512) (d : Fin 128), o0 (ix2 s d) = w.read (Elt Ideal) (w.writes (Elt Ideal) f L) (ix2 ⟨b * 1024 + s.val, by have := H.hb; omega⟩ d))
    (h1 : ∀ (s : Fin 512) (d : Fin 128), o1 (ix2 s d) = w.read (Elt Ideal) (w.writes (Elt Ideal) f
      ((⟨Rect.unit off ![512, 128] inb, k0_pay42 (F := Ideal) (k0_pay35 dO) (k0_pay36 q lse cq k0 c0) o0⟩ : View.Piece (Elt Ideal) S4096x128 .f32) :: L))
      (ix2 ⟨b * 1024 + s.val, by have := H.hb; omega⟩ d))
    (h2 : ∀ (s : Fin 512) (d : Fin 128), o2 (ix2 s d) = w.read (Elt Ideal) (w.writes (Elt Ideal) f
      ((⟨Rect.unit off ![512, 128] inb, k0_pay55 (F := Ideal) (k0_pay49 dO) (k0_pay50 q lse cq k0 c0) o1⟩ : View.Piece (Elt Ideal) S4096x128 .f32)
        :: (⟨Rect.unit off ![512, 128] inb, k0_pay42 (F := Ideal) (k0_pay35 dO) (k0_pay36 q lse cq k0 c0) o0⟩ : View.Piece (Elt Ideal) S4096x128 .f32) :: L))
      (ix2 ⟨b * 1024 + 512 + s.val, by have := H.hb; omega⟩ d))
    (s : Fin 4096) (d : Fin 128) :
    w.read (Elt Ideal) (w.writes (Elt Ideal) f
      ((⟨Rect.unit off' ![512, 128] inb', k0_pay68 (F := Ideal) lse (k0_pay61 dO) (k0_pay62 q cq k1) c1 o2⟩ : View.Piece (Elt Ideal) S4096x128 .f32)
        :: (⟨Rect.unit off ![512, 128] inb, k0_pay55 (F := Ideal) (k0_pay49 dO) (k0_pay50 q lse cq k0 c0) o1⟩ : View.Piece (Elt Ideal) S4096x128 .f32)
        :: (⟨Rect.unit off ![512, 128] inb, k0_pay42 (F := Ideal) (k0_pay35 dO) (k0_pay36 q lse cq k0 c0) o0⟩ : View.Piece (Elt Ideal) S4096x128 .f32) :: L))
      (ix2 s d) = g s d + ∑ r, mw b q lse cq k ck r s * dO (ix2 r d) := by
  have hb := H.hb
  have e0 := read_add_rows w f L (b * 1024) inb hoff (k0_pay42 (F := Ideal) (k0_pay35 dO) (k0_pay36 q lse cq k0 c0) o0)
    (fun s d => ∑ x : Fin 512, mw b q lse cq k ck ⟨x.val, by omega⟩ s * dO (ix2 ⟨x.val, by omega⟩ d)) (by omega) (fun s d => by
      pointwise [k0_pay42, k0_pay35]
      refine congrArg₂ (fun a b : EReal => a + b) (h0 s d) (Finset.sum_congr rfl fun x _ => ?_)
      rw [w_ll H])
  have e1 := read_add_rows w f _ (b * 1024) inb hoff (k0_pay55 (F := Ideal) (k0_pay49 dO) (k0_pay50 q lse cq k0 c0) o1)
    (fun s d => ∑ x : Fin 512, mw b q lse cq k ck ⟨512 + x.val, by omega⟩ s * dO (ix2 ⟨512 + x.val, by omega⟩ d)) (by omega) (fun s d => by
      pointwise [k0_pay55, k0_pay49]
      refine congrArg₂ (fun a b : EReal => a + b) (h1 s d) (Finset.sum_congr rfl fun x _ => ?_)
      rw [w_lh H])
  have e2 := read_add_rows w f _ (b * 1024 + 512) inb' hoff' (k0_pay68 (F := Ideal) lse (k0_pay61 dO) (k0_pay62 q cq k1) c1 o2)
    (fun s d => ∑ x : Fin 512, mw b q lse cq k ck ⟨512 + x.val, by omega⟩ s * dO (ix2 ⟨512 + x.val, by omega⟩ d)) (by omega) (fun s d => by
      pointwise [k0_pay68, k0_pay61]
      refine congrArg₂ (fun a b : EReal => a + b) (h2 s d) (Finset.sum_congr rfl fun x _ => ?_)
      rw [w_hh H])
  refine (e2 s d).trans ?_
  simp only [e1, e0, hL]
  refine (add_four _ _ _ _ _).trans (congrArg (g s d + ·) ?_)
  refine Eq.trans ?_ (sum_rows b s.val (fun r => mw b q lse cq k ck r s * dO (ix2 r d)) fun r h => ?_)
  · refine congrArg (fun a => a + _ + _ + _) ?_
    by_cases h : s.val < b * 1024
    · rw [if_pos h, if_pos h]
      exact Finset.sum_congr rfl fun r _ => by rw [mw_before b q lse cq k ck r s h]
    · rw [if_neg h, if_neg h]
  · show mw b q lse cq k ck r s * dO (ix2 r d) = 0
    rw [mw_after b q lse cq k ck r s h, zero_mul]

end Rows

/-- The negative of a sum of reals is the sum of the negatives. -/
theorem neg_sum {ι : Type} [Fintype ι] (f : ι → EReal) (hf : ∀ i, ∃ x : ℝ, f i = x) : -(∑ i, f i) = ∑ i, -f i := by
  choose x hx using hf
  rw [funext hx]
  show -(∑ i, ((x i : ℝ) : EReal)) = ∑ i, -((x i : ℝ) : EReal)
  simp only [← EReal.coe_neg]
  rw [coe_sum Finset.univ x, coe_sum Finset.univ fun i => -x i, ← EReal.coe_neg, Finset.sum_neg_distrib]

/-- The query gradient of the tile: its rows' terms over all keys they see. -/
theorem tile_dq (H : Halves b k v ck k0 k1 v0 v1 c0 c1) (acc : FVec Ideal S1024x128 .f32)
    (ha : ∀ (r : Fin 1024) (d : Fin 128), acc (ix2 r d)
      = ∑ s : Fin 4096, if s.val < b * 1024 then dl q dO delta lse cq k v ck r s * scale * k (ix2 s d) else 0) (r : Fin 1024) (d : Fin 128) :
    k0_pay71 (F := Ideal) (k0_pay44 delta (k0_pay31 acc) (k0_pay33 k0) (k0_pay36 q lse cq k0 c0) (k0_pay37 dO v0))
      (k0_pay57 (k0_pay45 acc) (k0_pay47 k0) (k0_pay51 q dO delta lse cq k0 v0 c0)) (k0_pay58 k1)
      (k0_pay67 delta lse (k0_pay59 v1) (k0_pay61 dO) (k0_pay62 q cq k1) c1) (ix2 r d)
      = ∑ s, mdl b q dO delta lse cq k v ck r s * scale * k (ix2 s d) := by
  have hb := H.hb
  have hbefore : ∀ r : Fin 1024, acc (ix2 r d) = ∑ s : Fin 4096, if s.val < b * 1024 then mdl b q dO delta lse cq k v ck r s * scale * k (ix2 s d) else 0 := fun r => by
    rw [ha r d]
    refine Finset.sum_congr rfl fun s _ => ?_
    by_cases h : s.val < b * 1024
    · rw [if_pos h, if_pos h, mdl_before b q dO delta lse cq k v ck r s h]
    · rw [if_neg h, if_neg h]
  pointwise [k0_pay71, k0_pay67, k0_pay58, k0_pay57, k0_pay54, k0_pay47, k0_pay45, k0_pay44, k0_pay41, k0_pay33, k0_pay31]
  simp only [d_ll H, d_lh H, d_hh H, H.k0, H.k1]
  by_cases hr : r.val < 512
  · rw [dif_pos hr, hbefore]
    exact sum_keys_low b hb (fun s => mdl b q dO delta lse cq k v ck r s * scale * k (ix2 s d)) ⟨r.val, hr⟩ fun s h => by
      show mdl b q dO delta lse cq k v ck r s * scale * k (ix2 s d) = 0
      rw [mdl_after b q dO delta lse cq k v ck r s h, zero_mul, zero_mul]
  · rw [dif_neg hr, hbefore]
    have e : (⟨512 + (r.val - 512), by omega⟩ : Fin 1024) = r := Fin.ext (by show 512 + (r.val - 512) = r.val; omega)
    rw [e]
    exact sum_keys_high b hb (fun s => mdl b q dO delta lse cq k v ck r s * scale * k (ix2 s d)) ⟨r.val - 512, by omega⟩ fun s h => by
      have h : b * 1024 + (512 + (r.val - 512)) < s.val := h
      show mdl b q dO delta lse cq k v ck r s * scale * k (ix2 s d) = 0
      rw [mdl_after b q dO delta lse cq k v ck r s (by omega), zero_mul, zero_mul]

/-- The row sums of the tile. -/
theorem tile_rows (H : Halves b k v ck k0 k1 v0 v1 c0 c1) (acc : FVec Ideal S1024x1 .f32)
    (ha : ∀ (r : Fin 1024), acc (ix2 r 0) = ∑ s : Fin 4096, if s.val < b * 1024 then dl q dO delta lse cq k v ck r s else 0)
    (old : FVec Ideal S1x1x1x1024 .f32) (r : Fin 1024) :
    k0_pay70 (F := Ideal) (k0_pay40 delta (k0_pay32 acc) (k0_pay36 q lse cq k0 c0) (k0_pay37 dO v0))
      (k0_pay66 delta lse (k0_pay53 (k0_pay46 acc) (k0_pay51 q dO delta lse cq k0 v0 c0)) (k0_pay59 v1) (k0_pay61 dO) (k0_pay62 q cq k1) c1) old (ix4 0 0 0 r)
      = old (ix4 0 0 0 r) + ∑ s, mdl b q dO delta lse cq k v ck r s := by
  have hb := H.hb
  have hbefore : ∀ r : Fin 1024, acc (ix2 r 0) = ∑ s : Fin 4096, if s.val < b * 1024 then mdl b q dO delta lse cq k v ck r s else 0 := fun r => by
    rw [ha r]
    refine Finset.sum_congr rfl fun s _ => ?_
    by_cases h : s.val < b * 1024
    · rw [if_pos h, if_pos h, mdl_before b q dO delta lse cq k v ck r s h]
    · rw [if_neg h, if_neg h]
  pointwise [k0_pay70, k0_pay66, k0_pay53, k0_pay46, k0_pay40, k0_pay32]
  simp only [d_ll H, d_lh H, d_hh H, hbefore]
  refine congrArg (old (ix4 0 0 0 r) + ·) ?_
  have hF : (∑ s, mdl b q dO delta lse cq k v ck r s) = ∑ x : Fin 1024, Scalar.select
      (IntOp.cmpi CmpIPredicate.eq (BitVec.ofNat 32 x.val) (BitVec.ofNat 32 r.val)) (∑ s, mdl b q dO delta lse cq k v ck x s) (0 : EReal) := by
    simp only [select_eq, Finset.sum_ite_eq', Finset.mem_univ, if_true]
  refine Eq.trans ?_ (hF.trans (Fin.sum_univ_add (a := 512) (b := 512) _)).symm
  refine congrArg₂ (fun a b : EReal => a + b) (Finset.sum_congr rfl fun x _ => ?_) (Finset.sum_congr rfl fun x _ => ?_)
  · refine congrArg (Scalar.select _ · _) ?_
    exact sum_keys_low b hb (fun s => mdl b q dO delta lse cq k v ck ⟨x.val, by omega⟩ s) x fun s h =>
      mdl_after b q dO delta lse cq k v ck _ s h
  · refine congrArg (Scalar.select _ · _) ?_
    exact sum_keys_high b hb (fun s => mdl b q dO delta lse cq k v ck ⟨512 + x.val, by omega⟩ s) x fun s h =>
      mdl_after b q dO delta lse cq k v ck _ s h

section Gate
variable (w : View sig' κ sp S1x4x1x1024 .f32) (f : w.ty.Contents (Elt Ideal)) (L : List (View.Piece (Elt Ideal) S1x4x1x1024 .f32))
  {off off' offF : Fin 4 → ℕ} (inb : ∀ a : Fin 4, off a + (![1, 1, 1, 512] : Fin 4 → ℕ) a ≤ S1x4x1x1024.size a)
  (inb' : ∀ a : Fin 4, off' a + (![1, 1, 1, 512] : Fin 4 → ℕ) a ≤ S1x4x1x1024.size a)
  (inbF : ∀ a : Fin 4, offF a + (![1, 1, 1, 1024] : Fin 4 → ℕ) a ≤ S1x4x1x1024.size a)
  (hoff : off = ![0, b, 0, 0]) (hoff' : off' = ![0, b, 0, 512]) (hoffF : offF = ![0, b, 0, 0])
  (o0 o1 o2 : FVec Ideal S1x1x1x512 .f32) (oF : FVec Ideal S1x1x1x1024 .f32) (acc : FVec Ideal S1024x1 .f32)
include hoff hoff' hoffF

/-- The gate gradient after the diagonal tile, where the gradients of the logits are real: before the tile, less the
   terms of all the tile's rows, plus at the tile's own positions its row sums. -/
theorem tile_dc (H : Halves b k v ck k0 k1 v0 v1 c0 c1) (g : Fin 4096 → EReal)
    (hreal : ∀ (r : Fin 1024) (s : Fin 4096), ∃ x : ℝ, mdl b q dO delta lse cq k v ck r s = x)
    (hL : ∀ (s : Fin 4096), w.read (Elt Ideal) (w.writes (Elt Ideal) f L) (at4 s)
      = g s + if s.val < b * 1024 then -(∑ r, dl q dO delta lse cq k v ck r s) else 0)
    (ha : ∀ (r : Fin 1024), acc (ix2 r 0) = ∑ s : Fin 4096, if s.val < b * 1024 then dl q dO delta lse cq k v ck r s else 0)
    (h0 : ∀ (s : Fin 512), o0 (ix4 0 0 0 s) = w.read (Elt Ideal) (w.writes (Elt Ideal) f L) (at4 ⟨b * 1024 + 0 + s.val, by have := H.hb; omega⟩))
    (h1 : ∀ (s : Fin 512), o1 (ix4 0 0 0 s) = w.read (Elt Ideal) (w.writes (Elt Ideal) f
      ((⟨Rect.unit off ![1, 1, 1, 512] inb, k0_pay39 (F := Ideal) delta (k0_pay36 q lse cq k0 c0) (k0_pay37 dO v0) o0⟩ : View.Piece (Elt Ideal) S1x4x1x1024 .f32) :: L)) (at4 ⟨b * 1024 + 0 + s.val, by have := H.hb; omega⟩))
    (h2 : ∀ (s : Fin 512), o2 (ix4 0 0 0 s) = w.read (Elt Ideal) (w.writes (Elt Ideal) f
      ((⟨Rect.unit off ![1, 1, 1, 512] inb, k0_pay52 (F := Ideal) q dO delta lse cq k0 v0 c0 o1⟩ : View.Piece (Elt Ideal) S1x4x1x1024 .f32) :: (⟨Rect.unit off ![1, 1, 1, 512] inb, k0_pay39 (F := Ideal) delta (k0_pay36 q lse cq k0 c0) (k0_pay37 dO v0) o0⟩ : View.Piece (Elt Ideal) S1x4x1x1024 .f32) :: L)) (at4 ⟨b * 1024 + 512 + s.val, by have := H.hb; omega⟩))
    (hF : ∀ (s : Fin 1024), oF (ix4 0 0 0 s) = w.read (Elt Ideal) (w.writes (Elt Ideal) f
      ((⟨Rect.unit off' ![1, 1, 1, 512] inb', k0_pay65 (F := Ideal) delta lse (k0_pay59 v1) (k0_pay61 dO) (k0_pay62 q cq k1) c1 o2⟩ : View.Piece (Elt Ideal) S1x4x1x1024 .f32) :: (⟨Rect.unit off ![1, 1, 1, 512] inb, k0_pay52 (F := Ideal) q dO delta lse cq k0 v0 c0 o1⟩ : View.Piece (Elt Ideal) S1x4x1x1024 .f32) :: (⟨Rect.unit off ![1, 1, 1, 512] inb, k0_pay39 (F := Ideal) delta (k0_pay36 q lse cq k0 c0) (k0_pay37 dO v0) o0⟩ : View.Piece (Elt Ideal) S1x4x1x1024 .f32) :: L)) (at4 ⟨b * 1024 + 0 + s.val, by have := H.hb; omega⟩))
    (s : Fin 4096) :
    w.read (Elt Ideal) (w.writes (Elt Ideal) f ((⟨Rect.unit offF ![1, 1, 1, 1024] inbF, k0_pay70 (F := Ideal) (k0_pay40 delta (k0_pay32 acc) (k0_pay36 q lse cq k0 c0) (k0_pay37 dO v0)) (k0_pay66 delta lse (k0_pay53 (k0_pay46 acc) (k0_pay51 q dO delta lse cq k0 v0 c0)) (k0_pay59 v1) (k0_pay61 dO) (k0_pay62 q cq k1) c1) oF⟩ : View.Piece (Elt Ideal) S1x4x1x1024 .f32) :: (⟨Rect.unit off' ![1, 1, 1, 512] inb', k0_pay65 (F := Ideal) delta lse (k0_pay59 v1) (k0_pay61 dO) (k0_pay62 q cq k1) c1 o2⟩ : View.Piece (Elt Ideal) S1x4x1x1024 .f32) :: (⟨Rect.unit off ![1, 1, 1, 512] inb, k0_pay52 (F := Ideal) q dO delta lse cq k0 v0 c0 o1⟩ : View.Piece (Elt Ideal) S1x4x1x1024 .f32) :: (⟨Rect.unit off ![1, 1, 1, 512] inb, k0_pay39 (F := Ideal) delta (k0_pay36 q lse cq k0 c0) (k0_pay37 dO v0) o0⟩ : View.Piece (Elt Ideal) S1x4x1x1024 .f32) :: L)) (at4 s)
      = g s + (∑ r, -mdl b q dO delta lse cq k v ck r s)
        + if h : b * 1024 ≤ s.val ∧ s.val < b * 1024 + 1024 then ∑ s', mdl b q dO delta lse cq k v ck ⟨s.val - b * 1024, by omega⟩ s' else 0 := by
  have hb := H.hb
  have e0 := read_add_block w f L b 0 inb hoff (k0_pay39 (F := Ideal) delta (k0_pay36 q lse cq k0 c0) (k0_pay37 dO v0) o0) (fun s => ∑ x : Fin 512, -mdl b q dO delta lse cq k v ck ⟨x.val, by omega⟩ s) hb (by omega) (fun s => by
      pointwise [k0_pay39]
      rw [sub_eq_add_neg, neg_sum _ fun x => by rw [d_ll H]; exact hreal _ _]
      refine congrArg₂ (fun a b : EReal => a + b) (h0 s) (Finset.sum_congr rfl fun x _ => ?_)
      rw [d_ll H])
  have e1 := read_add_block w f _ b 0 inb hoff (k0_pay52 (F := Ideal) q dO delta lse cq k0 v0 c0 o1) (fun s => ∑ x : Fin 512, -mdl b q dO delta lse cq k v ck ⟨512 + x.val, by omega⟩ s) hb (by omega) (fun s => by
      pointwise [k0_pay52]
      rw [sub_eq_add_neg, neg_sum _ fun x => by rw [d_lh H]; exact hreal _ _]
      refine congrArg₂ (fun a b : EReal => a + b) (h1 s) (Finset.sum_congr rfl fun x _ => ?_)
      rw [d_lh H])
  have e2 := read_add_block w f _ b 512 inb' hoff' (k0_pay65 (F := Ideal) delta lse (k0_pay59 v1) (k0_pay61 dO) (k0_pay62 q cq k1) c1 o2) (fun s => ∑ x : Fin 512, -mdl b q dO delta lse cq k v ck ⟨512 + x.val, by omega⟩ s) hb (by omega) (fun s => by
      pointwise [k0_pay65]
      rw [sub_eq_add_neg, neg_sum _ fun x => by rw [d_hh H]; exact hreal _ _]
      refine congrArg₂ (fun a b : EReal => a + b) (h2 s) (Finset.sum_congr rfl fun x _ => ?_)
      rw [d_hh H])
  have e3 := read_add_block w f _ b 0 inbF hoffF (k0_pay70 (F := Ideal) (k0_pay40 delta (k0_pay32 acc) (k0_pay36 q lse cq k0 c0) (k0_pay37 dO v0)) (k0_pay66 delta lse (k0_pay53 (k0_pay46 acc) (k0_pay51 q dO delta lse cq k0 v0 c0)) (k0_pay59 v1) (k0_pay61 dO) (k0_pay62 q cq k1) c1) oF)
    (fun s => if h : b * 1024 ≤ s.val ∧ s.val < b * 1024 + 1024 then ∑ s', mdl b q dO delta lse cq k v ck ⟨s.val - b * 1024, by omega⟩ s' else 0)
    hb (by omega) (fun s => by
      refine (tile_rows H acc ha oF s).trans (congrArg₂ (fun a b : EReal => a + b) (hF s) ?_)
      rw [dif_pos ⟨by show b * 1024 ≤ b * 1024 + 0 + s.val; omega, by show b * 1024 + 0 + s.val < b * 1024 + 1024; omega⟩]
      have e : (⟨b * 1024 + 0 + s.val - b * 1024, by omega⟩ : Fin 1024) = s := Fin.ext (by show b * 1024 + 0 + s.val - b * 1024 = s.val; omega)
      show _ = ∑ s', mdl b q dO delta lse cq k v ck ⟨b * 1024 + 0 + s.val - b * 1024, _⟩ s'
      rw [e])
  refine (e3 s).trans ?_
  simp only [e2, e1, e0, hL, Nat.add_zero]
  refine congrArg₂ (fun a b : EReal => a + b) ?_ ?_
  · refine (add_four _ _ _ _ _).trans (congrArg (g s + ·) ?_)
    refine Eq.trans ?_ (sum_rows b s.val (fun r => -mdl b q dO delta lse cq k v ck r s) fun r h => ?_)
    · refine congrArg (fun a => a + _ + _ + _) ?_
      by_cases h : s.val < b * 1024
      · rw [if_pos h, if_pos h, ← neg_sum _ fun r => hreal r s]
        exact congrArg Neg.neg (Finset.sum_congr rfl fun r _ => by rw [mdl_before b q dO delta lse cq k v ck r s h])
      · rw [if_neg h, if_neg h]
    · show -mdl b q dO delta lse cq k v ck r s = 0
      rw [mdl_after b q dO delta lse cq k v ck r s h, neg_zero]
  · by_cases h : b * 1024 ≤ s.val ∧ s.val < b * 1024 + 1024
    · rw [if_pos h]
    · rw [if_neg h, dif_neg h]

end Gate

end Cert.FoxBwd
end
-- ==== Proof.FoxCases.lean ====
/- The running sums of the attention backward at the three kinds of grid point. -/
module

public import proofs.«01_k».proof.Proof.Gen.KernelIdeal.Frame
public import Idealize.ShloMosaic.Lib.Pipeline.ValueKit
public import proofs.«01_k».proof.Proof.FoxTile

@[expose] public section

set_option maxRecDepth 16384

noncomputable section

open Idealize.ShloMosaic Idealize.ShloMosaic.TcCoe Idealize.SL.Sem
open scoped BigOperators

namespace Cert.FoxBwd
open Cert.KernelIdeal Cert.KernelIdeal.Gen

theorem off1 : ∀ i : grid0.Coords, k0_off1 i = ![0, (i 1).val, 0, 0] := by decide +kernel
theorem off6_low : ∀ i : grid0.Coords, k0_off6 i 0#32 = ![(i 1).val * 1024, 0] := by decide +kernel
theorem off6_high : ∀ i : grid0.Coords, k0_off6 i 512#32 = ![(i 1).val * 1024 + 512, 0] := by decide +kernel
theorem off7 : ∀ i : grid0.Coords, k0_off7 i = ![0, (i 1).val, 0, 0] := by decide +kernel
theorem off8 : ∀ i : grid0.Coords, k0_off8 i = ![0, (i 1).val, 0, 512] := by decide +kernel

section Second
variable (𝒱 : Variants) (c : Dev nD) (bd : Option 𝒱.V) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1x1x1x1024 .f32) (harg7 : arg7.IsWhole)
  (arg8 : Memref sig .tc .vmem S1x4x1x1024 .f32) (harg8 : arg8.IsWhole)
  (arg9 : Memref sig .tc .vmem S1024x128 .bf16) (harg9 : arg9.IsWhole)
  (arg10 : Memref sig .tc .vmem S4096x128 .bf16) (harg10 : arg10.IsWhole)
  (arg11 : Memref sig .tc .vmem S4096x128 .bf16) (harg11 : arg11.IsWhole)
  (arg12 : Memref sig .tc .vmem S1x4x1x1024 .f32) (harg12 : arg12.IsWhole)
  (arg13 : Memref sig .tc .vmem S4096x128 .f32) (harg13 : arg13.IsWhole)
  (arg14 : Memref sig .tc .vmem S4096x128 .f32) (harg14 : arg14.IsWhole)
  (arg1 : BitVec 32) (v4 v6 : FVec Ideal S1024x128 .bf16) (v13 v24 v36 : FVec Ideal S1024x1 .f32) (v43 : BitVec 32)
  (X3 : BufTy.Contents (Elt Ideal) arg3.view.ty) (X4 : BufTy.Contents (Elt Ideal) arg4.view.ty) (X8 : BufTy.Contents (Elt Ideal) arg8.view.ty)
  (G12 : BufTy.Contents (Elt Ideal) arg12.view.ty) (G13 : BufTy.Contents (Elt Ideal) arg13.view.ty) (G14 : BufTy.Contents (Elt Ideal) arg14.view.ty)
  (init : FVec Ideal S1024x128 .f32 × FVec Ideal S1024x1 .f32)

/-- The second loop does nothing. -/
theorem after_second (n : ℕ) (hn : n = 0) : st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v13 v24 v36 v43 X3 X4 X8 G12 G13 G14 init n = (init, [], [], []) := by
  subst hn
  rfl

end Second

variable (m : (ℓ : Loc nD τ sig) → Buf (Elt Ideal) ℓ) (c : Dev nD) (t : Fin cfg0.N)

/-- The query tile of a grid point, and the blocks it works on. -/
abbrev tile : ℕ := (grid0.coords t 1).val
abbrev qT : FVec Ideal S1024x128 .bf16 := k0_pay16 (iblk m c 0 t)
abbrev doT : FVec Ideal S1024x128 .bf16 := k0_pay17 (iblk m c 4 t)
abbrev deltaT : FVec Ideal S1024x1 .f32 := k0_pay18 (iblk m c 4 t) (iblk m c 3 t)
abbrev lseT : FVec Ideal S1024x1 .f32 := k0_pay19 (iblk m c 5 t)
abbrev cqT : FVec Ideal S1024x1 .f32 := k0_pay20 (View.ld (iblk m c 6 t) (Rect.unit (s := S1x4x1x1024) (k0_off1 (grid0.coords t)) ![1, 1, 1, 1024] (k0_off1_inb (grid0.coords t))))

/-- A load of rows of a held array. -/
theorem ld_rows {e : EltTy} {W : ℕ} (X : S4096x128.Idx → Elt Ideal e) {off : Fin 2 → ℕ} (o : ℕ)
    (inb : ∀ a : Fin 2, off a + (![W, 128] : Fin 2 → ℕ) a ≤ S4096x128.size a) (hoff : off = ![o, 0]) (s : Fin W)
    (d : Fin 128) (h : o + s.val < 4096) : View.ld X (Rect.unit (s := S4096x128) off ![W, 128] inb) (ix2 s d) = X (ix2 ⟨o + s.val, h⟩ d) :=
  by
  subst hoff
  refine congrArg X (funext fun a => Fin.ext ?_)
  match a with
  | 0 => show o + 1 * s.val = o + s.val; omega
  | 1 => show 0 + 1 * d.val = d.val; omega

/-- A load of part of a row of gate sums. -/
theorem ld_block {e : EltTy} {W : ℕ} (X : S1x4x1x1024.Idx → Elt Ideal e) {off : Fin 4 → ℕ} (b o : ℕ)
    (inb : ∀ a : Fin 4, off a + (![1, 1, 1, W] : Fin 4 → ℕ) a ≤ S1x4x1x1024.size a) (hoff : off = ![0, b, 0, o]) (s : Fin W)
    (h : b * 1024 + o + s.val < 4096) (hW : o + W ≤ 1024) :
    View.ld X (Rect.unit (s := S1x4x1x1024) off ![1, 1, 1, W] inb) (ix4 0 0 0 s) = X (at4 ⟨b * 1024 + o + s.val, h⟩) :=
  by
  subst hoff
  have hs := s.isLt
  refine congrArg X (funext fun a => Fin.ext ?_)
  match a with
  | 0 => rfl
  | 1 => show b + 1 * 0 = (b * 1024 + o + s.val) / 1024; omega
  | 2 => rfl
  | 3 => show o + 1 * s.val = (b * 1024 + o + s.val) % 1024; omega

/-- The two halves of the keys of the tile on the diagonal. -/
theorem halves (il : ∀ a : Fin 2, k0_off6 (grid0.coords t) 0#32 a + (![512, 128] : Fin 2 → ℕ) a ≤ S4096x128.size a)
    (ih : ∀ a : Fin 2, k0_off6 (grid0.coords t) 512#32 a + (![512, 128] : Fin 2 → ℕ) a ≤ S4096x128.size a)
    (i7 : ∀ a : Fin 4, k0_off7 (grid0.coords t) a + (![1, 1, 1, 512] : Fin 4 → ℕ) a ≤ S1x4x1x1024.size a)
    (i8 : ∀ a : Fin 4, k0_off8 (grid0.coords t) a + (![1, 1, 1, 512] : Fin 4 → ℕ) a ≤ S1x4x1x1024.size a) : Halves (tile t) (iblk m c 1 t) (iblk m c 2 t) (iblk m c 6 t)
    (View.ld (iblk m c 1 t) (Rect.unit (s := S4096x128) (k0_off6 (grid0.coords t) 0#32) ![512, 128] il))
    (View.ld (iblk m c 1 t) (Rect.unit (s := S4096x128) (k0_off6 (grid0.coords t) 512#32) ![512, 128] ih))
    (View.ld (iblk m c 2 t) (Rect.unit (s := S4096x128) (k0_off6 (grid0.coords t) 0#32) ![512, 128] il))
    (View.ld (iblk m c 2 t) (Rect.unit (s := S4096x128) (k0_off6 (grid0.coords t) 512#32) ![512, 128] ih))
    (View.ld (iblk m c 6 t) (Rect.unit (s := S1x4x1x1024) (k0_off7 (grid0.coords t)) ![1, 1, 1, 512] i7))
    (View.ld (iblk m c 6 t) (Rect.unit (s := S1x4x1x1024) (k0_off8 (grid0.coords t)) ![1, 1, 1, 512] i8)) := by
  have hb : tile t < 4 := (grid0.coords t 1).isLt
  refine ⟨hb, fun s x => ?_, fun s x => ?_, fun s x => ?_, fun s x => ?_, fun s => ?_, fun s => ?_⟩
  · exact ld_rows _ _ _ (off6_low (grid0.coords t)) s x _
  · exact ld_rows _ _ _ (off6_high (grid0.coords t)) s x _
  · exact ld_rows _ _ _ (off6_low (grid0.coords t)) s x _
  · exact ld_rows _ _ _ (off6_high (grid0.coords t)) s x _
  · exact ld_block _ _ 0 _ (off7 (grid0.coords t)) s _ (by omega)
  · exact ld_block _ _ 512 _ (off8 (grid0.coords t)) s _ (by omega)

/-- The gradient of the logits and the weights at a grid point. -/
abbrev mdlT (r : Fin 1024) (s : Fin 4096) : EReal :=
  mdl (tile t) (qT m c t) (doT m c t) (deltaT m c t) (lseT m c t) (cqT m c t) (iblk m c 1 t) (iblk m c 2 t) (iblk m c 6 t) r s

/-- The loop over the earlier tiles, at a grid point. -/
theorem after_at (G12 : BufTy.Contents (Elt Ideal) (ms0_10 t).view.ty) (G13 : BufTy.Contents (Elt Ideal) scM0_0.view.ty) (G14 : BufTy.Contents (Elt Ideal) scM0_1.view.ty) :
    After (ms0_10 t) scM0_0 scM0_1 (qT m c t) (doT m c t) (deltaT m c t) (lseT m c t) (cqT m c t) G12 G13 G14 (k0_pay21, k0_pay22)
      (iblk m c 1 t) (iblk m c 2 t) (iblk m c 6 t) (tile t)
      (st_k0_t1 Variants.none c none (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) (BitVec.ofNat 32 (tile t)) (qT m c t) (doT m c t) (deltaT m c t) (lseT m c t) (cqT m c t)
        ((hs0_1 t).unread (iblk m c 1 t)) ((hs0_2 t).unread (iblk m c 2 t)) ((hs0_6 t).unread (iblk m c 6 t)) G12 G13 G14 (k0_pay21, k0_pay22)
        (k0_t1_loop (grid0.coords t)).trips) := by
  have h := after_loop (hn := le_refl (k0_t1_loop (grid0.coords t)).trips) Variants.none c none (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) (BitVec.ofNat 32 (tile t)) (qT m c t) (doT m c t) (deltaT m c t) (lseT m c t) (cqT m c t)
        ((hs0_1 t).unread (iblk m c 1 t)) ((hs0_2 t).unread (iblk m c 2 t)) ((hs0_6 t).unread (iblk m c 6 t)) G12 G13 G14 (k0_pay21, k0_pay22)
  rw [(hs0_1 t).read_unread, (hs0_2 t).read_unread, (hs0_6 t).read_unread] at h
  exact cast (by rw [show tile t = (k0_t1_loop (grid0.coords t)).trips from (trips1 _).symm]) h

theorem readCov_last {k : Kind} {sp : Space} {s : Shape} {e : EltTy} (v : View sig k sp s e) (f : v.ty.Contents (Elt Ideal)) (L : List (View.Piece (Elt Ideal) s e)) (p : View.Piece (Elt Ideal) s e) :
    v.readCov (p :: L) p.1.toLoadRect = v.readAt (Elt Ideal) p.1.toLoadRect (v.writes (Elt Ideal) f (p :: L)) :=
  (View.readAt_writes_of_cover v f _ _ fun j => ⟨p, List.mem_cons_self .., p.1.idx_mem j⟩).symm

/-- A load of rows just stored. -/
theorem readCov_rows {κ : Kind} {sp : Space} {e : EltTy} {W : ℕ} (v : View sig κ sp S4096x128 e) (f : v.ty.Contents (Elt Ideal)) (L : List (View.Piece (Elt Ideal) S4096x128 e))
    {off : Fin 2 → ℕ} (o : ℕ) {inb : ∀ a : Fin 2, off a + (![W, 128] : Fin 2 → ℕ) a ≤ S4096x128.size a} (hoff : off = ![o, 0])
    {w : (Rect.unit (s := S4096x128) off ![W, 128] inb).shape.Idx → Elt Ideal e} (s : Fin W) (d : Fin 128) (h : o + s.val < 4096) :
    v.readCov (⟨Rect.unit off ![W, 128] inb, w⟩ :: L) (Rect.unit (s := S4096x128) off ![W, 128] inb).toLoadRect (ix2 s d)
      = v.read (Elt Ideal) (v.writes (Elt Ideal) f (⟨Rect.unit off ![W, 128] inb, w⟩ :: L)) (ix2 ⟨o + s.val, h⟩ d) :=
  (congrFun (readCov_last v f L ⟨Rect.unit off ![W, 128] inb, w⟩) (ix2 s d)).trans (readAt_rows v _ o inb hoff s d h)

/-- A load of part of a row of gate sums just stored. -/
theorem readCov_block {κ : Kind} {sp : Space} {e : EltTy} {W : ℕ} (v : View sig κ sp S1x4x1x1024 e) (f : v.ty.Contents (Elt Ideal)) (L : List (View.Piece (Elt Ideal) S1x4x1x1024 e))
    {off : Fin 4 → ℕ} (b o : ℕ) {inb : ∀ a : Fin 4, off a + (![1, 1, 1, W] : Fin 4 → ℕ) a ≤ S1x4x1x1024.size a} (hoff : off = ![0, b, 0, o])
    {w : (Rect.unit (s := S1x4x1x1024) off ![1, 1, 1, W] inb).shape.Idx → Elt Ideal e} (s : Fin W) (h : b * 1024 + o + s.val < 4096) (hW : o + W ≤ 1024) :
    v.readCov (⟨Rect.unit off ![1, 1, 1, W] inb, w⟩ :: L) (Rect.unit (s := S1x4x1x1024) off ![1, 1, 1, W] inb).toLoadRect (ix4 0 0 0 s)
      = v.read (Elt Ideal) (v.writes (Elt Ideal) f (⟨Rect.unit off ![1, 1, 1, W] inb, w⟩ :: L)) (at4 ⟨b * 1024 + o + s.val, h⟩) :=
  (congrFun (readCov_last v f L ⟨Rect.unit off ![1, 1, 1, W] inb, w⟩) (ix4 0 0 0 s)).trans (readAt_block v _ b o inb hoff s h hW)

/-- A load of a block of gate sums whose two halves were just stored. -/
theorem readCov_two {κ : Kind} {sp : Space} {e : EltTy} (v : View sig κ sp S1x4x1x1024 e) (f : v.ty.Contents (Elt Ideal)) (L : List (View.Piece (Elt Ideal) S1x4x1x1024 e))
    {off off' offF : Fin 4 → ℕ} (b : ℕ) {inb : ∀ a : Fin 4, off a + (![1, 1, 1, 512] : Fin 4 → ℕ) a ≤ S1x4x1x1024.size a}
    {inb' : ∀ a : Fin 4, off' a + (![1, 1, 1, 512] : Fin 4 → ℕ) a ≤ S1x4x1x1024.size a}
    {inbF : ∀ a : Fin 4, offF a + (![1, 1, 1, 1024] : Fin 4 → ℕ) a ≤ S1x4x1x1024.size a}
    (hoff : off = ![0, b, 0, 0]) (hoff' : off' = ![0, b, 0, 512]) (hoffF : offF = ![0, b, 0, 0])
    {w : (Rect.unit (s := S1x4x1x1024) off ![1, 1, 1, 512] inb).shape.Idx → Elt Ideal e} {w' : (Rect.unit (s := S1x4x1x1024) off' ![1, 1, 1, 512] inb').shape.Idx → Elt Ideal e}
    (s : Fin 1024) (h : b * 1024 + 0 + s.val < 4096) :
    v.readCov (⟨Rect.unit off' ![1, 1, 1, 512] inb', w'⟩ :: ⟨Rect.unit off ![1, 1, 1, 512] inb, w⟩ :: L) (Rect.unit (s := S1x4x1x1024) offF ![1, 1, 1, 1024] inbF).toLoadRect (ix4 0 0 0 s)
      = v.read (Elt Ideal) (v.writes (Elt Ideal) f (⟨Rect.unit off' ![1, 1, 1, 512] inb', w'⟩ :: ⟨Rect.unit off ![1, 1, 1, 512] inb, w⟩ :: L)) (at4 ⟨b * 1024 + 0 + s.val, h⟩) := by
  rw [← View.readAt_writes_of_cover v f]
  · exact readAt_block v _ b 0 inbF hoffF s h (by omega)
  · subst hoff hoff' hoffF
    intro j
    have hj : (j 3).val < 1024 := (j 3).isLt
    by_cases hs : (j 3).val < 512
    · refine ⟨⟨Rect.unit _ ![1, 1, 1, 512] inb, w⟩, List.mem_cons_of_mem _ (List.mem_cons_self ..), (Rect.mem_set_unit (inb := inb)).mpr fun a => ?_⟩
      have ha := (j a).isLt
      match a with
      | 0 => exact ⟨by show 0 ≤ _; omega, by show 0 + 1 * (j 0).val < 0 + 1; change (j 0).val < 1 at ha; omega⟩
      | 1 => exact ⟨by show b ≤ b + 1 * (j 1).val; omega, by show b + 1 * (j 1).val < b + 1; change (j 1).val < 1 at ha; omega⟩
      | 2 => exact ⟨by show 0 ≤ _; omega, by show 0 + 1 * (j 2).val < 0 + 1; change (j 2).val < 1 at ha; omega⟩
      | 3 => exact ⟨by show 0 ≤ _; omega, by show 0 + 1 * (j 3).val < 0 + 512; omega⟩
    · refine ⟨⟨Rect.unit _ ![1, 1, 1, 512] inb', w'⟩, List.mem_cons_self .., (Rect.mem_set_unit (inb := inb')).mpr fun a => ?_⟩
      have ha := (j a).isLt
      match a with
      | 0 => exact ⟨by show 0 ≤ _; omega, by show 0 + 1 * (j 0).val < 0 + 1; change (j 0).val < 1 at ha; omega⟩
      | 1 => exact ⟨by show b ≤ b + 1 * (j 1).val; omega, by show b + 1 * (j 1).val < b + 1; change (j 1).val < 1 at ha; omega⟩
      | 2 => exact ⟨by show 0 ≤ _; omega, by show 0 + 1 * (j 2).val < 0 + 1; change (j 2).val < 1 at ha; omega⟩
      | 3 => exact ⟨by show 512 ≤ 0 + 1 * (j 3).val; omega, by show 0 + 1 * (j 3).val < 512 + 512; omega⟩

/-- A fresh array of rows after its whole fill. -/
theorem fill_rows {κ : Kind} {sp : Space} (v : View sig κ sp S4096x128 .f32) (f : v.ty.Contents (Elt Ideal))
    {inb : ∀ a : Fin 2, (![0, 0] : Fin 2 → ℕ) a + (![4096, 128] : Fin 2 → ℕ) a ≤ S4096x128.size a}
    (w : (Rect.unit (s := S4096x128) ![0, 0] ![4096, 128] inb).shape.Idx → Elt Ideal .f32) (s : Fin 4096) (d : Fin 128) :
    v.read (Elt Ideal) (v.writes (Elt Ideal) f [⟨Rect.unit ![0, 0] ![4096, 128] inb, w⟩]) (ix2 s d) = w (ix2 s d) :=
  View.read_writes_cons_rows_of_mem v f inb w [] (ix2 s d) (ix2 s d) rfl (by show s.val = 0 + s.val; omega) rfl

/-- A fresh array of gate gradients after its whole fill. -/
theorem fill_block {κ : Kind} {sp : Space} (v : View sig κ sp S1x4x1x1024 .f32) (f : v.ty.Contents (Elt Ideal))
    {inb : ∀ a : Fin 4, (![0, 0, 0, 0] : Fin 4 → ℕ) a + (![1, 4, 1, 1024] : Fin 4 → ℕ) a ≤ S1x4x1x1024.size a}
    (w : (Rect.unit (s := S1x4x1x1024) ![0, 0, 0, 0] ![1, 4, 1, 1024] inb).shape.Idx → Elt Ideal .f32) (s : Fin 4096) :
    v.read (Elt Ideal) (v.writes (Elt Ideal) f [⟨Rect.unit ![0, 0, 0, 0] ![1, 4, 1, 1024] inb, w⟩]) (at4 s) = w (at4 s) := by
  refine View.read_writes_cons_unit_of_mem v f inb w [] (at4 s) (at4 s) rfl fun a => ?_
  match a with
  | 0 => rfl
  | 1 => show s.val / 1024 = 0 + s.val / 1024; omega
  | 2 => rfl
  | 3 => show s.val % 1024 = 0 + s.val % 1024; omega

/-- The weights at a grid point. -/
abbrev mwT (r : Fin 1024) (s : Fin 4096) : EReal :=
  mw (tile t) (qT m c t) (lseT m c t) (cqT m c t) (iblk m c 1 t) (iblk m c 6 t) r s

/-- The running key gradient after at a head's first tile. -/
theorem dk_first (h0 : t.val % 4 = 0) (h1 : ¬t.val % 4 = 3) (s : Fin 4096) (d : Fin 128) :
    (outsAt0 m c t.val t.isLt).2.2.2.2.1 (ix2 s d)
      = 0 + ∑ r, mdlT m c t r s * scale * qT m c t (ix2 r d) := by
  rw [outsAt0_A m c t h0 h1]
  dsimp only
  frame_out
  rw [after_second (hn := trips2 (grid0.coords t))]
  dsimp only
  simp only [← View.read_writes_junk_eq_canon (View.whole cc0_scratch0)]
  refine tile_dk (View.whole cc0_scratch0) _ _ _ _ (off6_low (grid0.coords t)) (off6_high (grid0.coords t)) _ _ _ (halves m c t _ _ _ _)
    (fun s d => 0) ?_ ?_ ?_ ?_ s d
  · intro s d
    rw [List.nil_append, View.writes_append]
    refine ((after_at m c t _ _ _).dk s d).trans ?_
    rw [fill_rows]
    pointwise [k0_pay13]
    rfl
  · exact fun s d => readAt_rows _ _ _ _ (off6_low (grid0.coords t)) s d _
  · exact fun s d => readCov_rows _ _ _ _ (off6_low (grid0.coords t)) s d _
  · exact fun s d => readAt_rows _ _ _ _ (off6_high (grid0.coords t)) s d _

/-- The running key gradient after at a later tile. -/
theorem dk_next (h0 : ¬t.val % 4 = 0) (s : Fin 4096) (d : Fin 128) :
    (outsAt0 m c t.val t.isLt).2.2.2.2.1 (ix2 s d)
      = (show EReal from (outsAt0 m c (t.val - 1) (Nat.lt_of_le_of_lt (Nat.sub_le _ _) t.isLt)).2.2.2.2.1 (ix2 s d)) + ∑ r, mdlT m c t r s * scale * qT m c t (ix2 r d) := by
  by_cases h1 : t.val % 4 = 3
  on_goal 1 => rw [outsAt0_C m c t h0 h1]
  on_goal 2 => rw [outsAt0_B m c t h0 h1]
  all_goals
    dsimp only
    frame_out
    rw [after_second (hn := trips2 (grid0.coords t))]
    dsimp only
    refine tile_dk (View.whole cc0_scratch0) _ _ _ _ (off6_low (grid0.coords t)) (off6_high (grid0.coords t)) _ _ _ (halves m c t _ _ _ _)
      (fun s d => (show EReal from (outsAt0 m c (t.val - 1) (Nat.lt_of_le_of_lt (Nat.sub_le _ _) t.isLt)).2.2.2.2.1 (ix2 s d))) ?_ ?_ ?_ ?_ s d
    · intro s d
      rw [List.nil_append]
      refine ((after_at m c t _ _ _).dk s d).trans ?_
      rw [Memref.IsWhole.read_unread]
      rfl
    · exact fun s d => readAt_rows _ _ _ _ (off6_low (grid0.coords t)) s d _
    · exact fun s d => readCov_rows _ _ _ _ (off6_low (grid0.coords t)) s d _
    · exact fun s d => readAt_rows _ _ _ _ (off6_high (grid0.coords t)) s d _

/-- The running value gradient after at a head's first tile. -/
theorem dv_first (h0 : t.val % 4 = 0) (h1 : ¬t.val % 4 = 3) (s : Fin 4096) (d : Fin 128) :
    (outsAt0 m c t.val t.isLt).2.2.2.2.2 (ix2 s d)
      = 0 + ∑ r, mwT m c t r s * doT m c t (ix2 r d) := by
  rw [outsAt0_A m c t h0 h1]
  dsimp only
  frame_out
  rw [after_second (hn := trips2 (grid0.coords t))]
  dsimp only
  simp only [← View.read_writes_junk_eq_canon (View.whole cc0_scratch1)]
  refine tile_dv (View.whole cc0_scratch1) _ _ _ _ (off6_low (grid0.coords t)) (off6_high (grid0.coords t)) _ _ _ (halves m c t _ _ _ _)
    (fun s d => 0) ?_ ?_ ?_ ?_ s d
  · intro s d
    rw [List.nil_append, View.writes_append]
    refine ((after_at m c t _ _ _).dv s d).trans ?_
    rw [fill_rows]
    pointwise [k0_pay14]
    rfl
  · exact fun s d => readAt_rows _ _ _ _ (off6_low (grid0.coords t)) s d _
  · exact fun s d => readCov_rows _ _ _ _ (off6_low (grid0.coords t)) s d _
  · exact fun s d => readAt_rows _ _ _ _ (off6_high (grid0.coords t)) s d _

/-- The running value gradient after at a later tile. -/
theorem dv_next (h0 : ¬t.val % 4 = 0) (s : Fin 4096) (d : Fin 128) :
    (outsAt0 m c t.val t.isLt).2.2.2.2.2 (ix2 s d)
      = (show EReal from (outsAt0 m c (t.val - 1) (Nat.lt_of_le_of_lt (Nat.sub_le _ _) t.isLt)).2.2.2.2.2 (ix2 s d)) + ∑ r, mwT m c t r s * doT m c t (ix2 r d) := by
  by_cases h1 : t.val % 4 = 3
  on_goal 1 => rw [outsAt0_C m c t h0 h1]
  on_goal 2 => rw [outsAt0_B m c t h0 h1]
  all_goals
    dsimp only
    frame_out
    rw [after_second (hn := trips2 (grid0.coords t))]
    dsimp only
    refine tile_dv (View.whole cc0_scratch1) _ _ _ _ (off6_low (grid0.coords t)) (off6_high (grid0.coords t)) _ _ _ (halves m c t _ _ _ _)
      (fun s d => (show EReal from (outsAt0 m c (t.val - 1) (Nat.lt_of_le_of_lt (Nat.sub_le _ _) t.isLt)).2.2.2.2.2 (ix2 s d))) ?_ ?_ ?_ ?_ s d
    · intro s d
      rw [List.nil_append]
      refine ((after_at m c t _ _ _).dv s d).trans ?_
      rw [Memref.IsWhole.read_unread]
      rfl
    · exact fun s d => readAt_rows _ _ _ _ (off6_low (grid0.coords t)) s d _
    · exact fun s d => readCov_rows _ _ _ _ (off6_low (grid0.coords t)) s d _
    · exact fun s d => readAt_rows _ _ _ _ (off6_high (grid0.coords t)) s d _

/-- The running gate gradient after a head's first tile: the sums down the keys, less, with the tile's row sums. -/
theorem dc_first (h0 : t.val % 4 = 0) (h1 : ¬t.val % 4 = 3) (hreal : ∀ (r : Fin 1024) (s : Fin 4096), ∃ x : ℝ, mdlT m c t r s = x) (s : Fin 4096) :
    (outsAt0 m c t.val t.isLt).2.2.2.1 (at4 s) = 0 + (∑ r, -mdlT m c t r s) + if h : tile t * 1024 ≤ s.val ∧ s.val < tile t * 1024 + 1024 then ∑ s', mdlT m c t ⟨s.val - tile t * 1024, by omega⟩ s' else 0 := by
  rw [outsAt0_A m c t h0 h1]
  dsimp only
  frame_out
  rw [after_second (hn := trips2 (grid0.coords t))]
  dsimp only
  simp only [← View.read_writes_junk_eq_canon (ms0_10 t).view]
  refine tile_dc (ms0_10 t).view _ _ _ _ _ (off7 (grid0.coords t)) (off8 (grid0.coords t)) (off1 (grid0.coords t)) _ _ _ _ _ (halves m c t _ _ _ _)
    (fun s => 0) hreal ?_ ?_ ?_ ?_ ?_ ?_ s
  · intro s
    rw [List.nil_append, View.writes_append]
    refine ((after_at m c t _ _ _).dc s).trans ?_
    rw [fill_block]
    pointwise [k0_pay15]
  · intro r
    refine ((after_at m c t _ _ _).rows r).trans ?_
    pointwise [k0_pay22]
  · exact fun s => readAt_block _ _ _ 0 _ (off7 (grid0.coords t)) s _ (by omega)
  · exact fun s => readCov_block _ _ _ _ 0 (off7 (grid0.coords t)) s _ (by omega)
  · exact fun s => readAt_block _ _ _ 512 _ (off8 (grid0.coords t)) s _ (by omega)
  · exact fun s => readCov_two _ _ _ _ (off7 (grid0.coords t)) (off8 (grid0.coords t)) (off1 (grid0.coords t)) s _

/-- The running gate gradient after a later tile. -/
theorem dc_next (h0 : ¬t.val % 4 = 0) (hreal : ∀ (r : Fin 1024) (s : Fin 4096), ∃ x : ℝ, mdlT m c t r s = x) (s : Fin 4096) :
    (outsAt0 m c t.val t.isLt).2.2.2.1 (at4 s) = (show EReal from (outsAt0 m c (t.val - 1) (Nat.lt_of_le_of_lt (Nat.sub_le _ _) t.isLt)).2.2.2.1 (at4 s)) + (∑ r, -mdlT m c t r s) + if h : tile t * 1024 ≤ s.val ∧ s.val < tile t * 1024 + 1024 then ∑ s', mdlT m c t ⟨s.val - tile t * 1024, by omega⟩ s' else 0 := by
  by_cases h1 : t.val % 4 = 3
  on_goal 1 => rw [outsAt0_C m c t h0 h1]
  on_goal 2 => rw [outsAt0_B m c t h0 h1]
  all_goals
    dsimp only
    frame_out
    rw [after_second (hn := trips2 (grid0.coords t))]
    dsimp only
    refine tile_dc (ms0_10 t).view _ _ _ _ _ (off7 (grid0.coords t)) (off8 (grid0.coords t)) (off1 (grid0.coords t)) _ _ _ _ _ (halves m c t _ _ _ _)
      (fun s => (show EReal from (outsAt0 m c (t.val - 1) (Nat.lt_of_le_of_lt (Nat.sub_le _ _) t.isLt)).2.2.2.1 (at4 s))) hreal ?_ ?_ ?_ ?_ ?_ ?_ s
    · intro s
      rw [List.nil_append]
      refine ((after_at m c t _ _ _).dc s).trans ?_
      rw [Memref.IsWhole.read_unread]
    · intro r
      refine ((after_at m c t _ _ _).rows r).trans ?_
      pointwise [k0_pay22]
    · exact fun s => readAt_block _ _ _ 0 _ (off7 (grid0.coords t)) s _ (by omega)
    · exact fun s => readCov_block _ _ _ _ 0 (off7 (grid0.coords t)) s _ (by omega)
    · exact fun s => readAt_block _ _ _ 512 _ (off8 (grid0.coords t)) s _ (by omega)
    · exact fun s => readCov_two _ _ _ _ (off7 (grid0.coords t)) (off8 (grid0.coords t)) (off1 (grid0.coords t)) s _

/-- The query gradient of a tile. -/
theorem dq_tile (r : Fin 1024) (d : Fin 128) :
    (outsAt0 m c t.val t.isLt).1 (ix2 r d) = ∑ s, mdlT m c t r s * scale * (show EReal from iblk m c 1 t (ix2 s d)) := by
  by_cases h0 : t.val % 4 = 0
  on_goal 1 => rw [outsAt0_A m c t h0 (by omega)]
  on_goal 2 => by_cases h1 : t.val % 4 = 3
  on_goal 2 => rw [outsAt0_C m c t h0 h1]
  on_goal 3 => rw [outsAt0_B m c t h0 h1]
  all_goals
    dsimp only
    frame_out
    rw [after_second (hn := trips2 (grid0.coords t))]
    dsimp only
    refine tile_dq (halves m c t _ _ _ _) _ (fun r d => ((after_at m c t _ _ _).dq r d).trans ?_) r d
    pointwise [k0_pay21]
    rfl

/-- At a head's last tile the key gradient is stored. -/
theorem dk_last (h0 : ¬t.val % 4 = 0) (h1 : t.val % 4 = 3) (s : Fin 4096) (d : Fin 128) :
    (outsAt0 m c t.val t.isLt).2.1 (ix2 s d) = (outsAt0 m c t.val t.isLt).2.2.2.2.1 (ix2 s d) := by
  rw [outsAt0_C m c t h0 h1]
  dsimp only
  frame_out
  pointwise [k0_pay1]

/-- At a head's last tile the value gradient is stored. -/
theorem dv_last (h0 : ¬t.val % 4 = 0) (h1 : t.val % 4 = 3) (s : Fin 4096) (d : Fin 128) :
    (outsAt0 m c t.val t.isLt).2.2.1 (ix2 s d) = (outsAt0 m c t.val t.isLt).2.2.2.2.2 (ix2 s d) := by
  rw [outsAt0_C m c t h0 h1]
  dsimp only
  frame_out
  pointwise [k0_pay2]

end Cert.FoxBwd
end
-- ==== Proof.Softmax.lean ====
/- A row of a masked softmax over the reals: its maximum, its exponentials and their sum, its weights, and its gradient. -/
module

public import Idealize.ShloMosaic.PureOps.Ideal.Laws
public import proofs.«01_k».proof.Proof.RealOps

@[expose] public section

noncomputable section

open Idealize.ShloMosaic
open scoped BigOperators

namespace Cert.Softmax
open Cert.RealOps

theorem ofBits_neg_inf : Ideal.ofBits .f32 0xFF800000#32 = ⊥ := by
  simp [Ideal.ofBits, Ideal.ieee]

theorem ofBits_one : Ideal.ofBits .f32 0x3F800000#32 = ((1 : ℝ) : EReal) := by
  simp [Ideal.ofBits, Ideal.ieee, -EReal.coe_mul]; norm_num

variable {n : ℕ} (on : Fin n → Prop) [DecidablePred on] (l : Fin n → ℝ)

/-- A row of logits where the keys outside `on` are masked by −∞. -/
def row (j : Fin n) : EReal := if on j then ((l j : ℝ) : EReal) else ⊥

/-- The maximum of a row with a key that is not masked is a real number. -/
theorem max_real {j : Fin n} (hj : on j) : ∃ μ : ℝ, (Finset.univ : Finset (Fin n)).fold max ⊥ (row on l) = (μ : EReal) := by
  have h1 : (Finset.univ : Finset (Fin n)).fold max ⊥ (row on l) < ⊤ := by
    rw [Finset.fold_max_lt]
    refine ⟨bot_lt_top, fun x _ => ?_⟩
    unfold row; split
    · exact EReal.coe_lt_top _
    · exact bot_lt_top
  have h2 : ⊥ < (Finset.univ : Finset (Fin n)).fold max ⊥ (row on l) := by
    rw [Finset.lt_fold_max]
    exact Or.inr ⟨j, Finset.mem_univ j, by rw [row, if_pos hj]; exact EReal.bot_lt_coe _⟩
  exact ⟨_, (EReal.coe_toReal h1.ne h2.ne').symm⟩

/-- The exponential of key `j` below the row's maximum. -/
def ex (μ : ℝ) (j : Fin n) : ℝ := if on j then Real.exp (l j - μ) else 0

/-- The sum of the exponentials. -/
def den (μ : ℝ) : ℝ := ∑ j, ex on l μ j

theorem exp_row (μ : ℝ) (j : Fin n) : Ideal.exp (row on l j - (μ : EReal)) = ((ex on l μ j : ℝ) : EReal) := by
  unfold row ex; split
  · rw [← EReal.coe_sub, Ideal.exp_coe]
  · rw [EReal.bot_sub, Ideal.exp_bot]; rfl

theorem ex_nonneg (μ : ℝ) (j : Fin n) : 0 ≤ ex on l μ j := by
  unfold ex; split
  · exact (Real.exp_pos _).le
  · exact le_refl _

theorem den_pos (μ : ℝ) {j : Fin n} (hj : on j) : 0 < den on l μ :=
  Finset.sum_pos' (fun i _ => ex_nonneg on l μ i) ⟨j, Finset.mem_univ j, by rw [ex, if_pos hj]; exact Real.exp_pos _⟩

/-- The weight the softmax gives key `j`. -/
def weight (μ : ℝ) (j : Fin n) : ℝ := ex on l μ j / den on l μ

/-- The weight of a key that is not masked, from the saved logarithm of the sum of exponentials. -/
theorem exp_sub_lse (μ : ℝ) {j : Fin n} (hj : on j) :
    Ideal.exp (((l j : ℝ) : EReal) - ((μ : EReal) + Ideal.log ((den on l μ : ℝ) : EReal))) = ((weight on l μ j : ℝ) : EReal) := by
  have hz := den_pos on l μ hj
  rw [Ideal.log_coe, if_neg (not_le.mpr hz), ← EReal.coe_add, ← EReal.coe_sub, Ideal.exp_coe, weight, ex, if_pos hj,
    ← sub_sub, Real.exp_sub, Real.exp_log hz]

/-- The gradient of the logit of key `j`, where `p` is the gradient of the weights. -/
def grad (p : Fin n → ℝ) (μ : ℝ) (j : Fin n) : ℝ := weight on l μ j * (p j - ∑ i, weight on l μ i * p i)

/-- The quotient rule through the sum of exponentials and then the exponential give that gradient. -/
theorem grad_eq (p : Fin n → ℝ) (μ : ℝ) {i : Fin n} (hi : on i) (j : Fin n) :
    (Ideal.div (p j : EReal) ((den on l μ : ℝ) : EReal)
        + -(∑ x, (p x : EReal) * Ideal.div ((1 : ℝ) : EReal) (((den on l μ : ℝ) : EReal) * ((den on l μ : ℝ) : EReal)) * ((ex on l μ x : ℝ) : EReal)))
      * ((ex on l μ j : ℝ) : EReal) = ((grad on l p μ j : ℝ) : EReal) := by
  have hz := (den_pos on l μ hi).ne'
  rw [← EReal.coe_mul, div_coe hz, div_coe (mul_ne_zero hz hz)]
  simp only [← EReal.coe_mul]
  rw [coe_sum, ← EReal.coe_neg, ← EReal.coe_add, ← EReal.coe_mul, EReal.coe_eq_coe_iff]
  have h : ∑ x, p x * (1 / (den on l μ * den on l μ)) * ex on l μ x = (∑ i, weight on l μ i * p i) / den on l μ := by
    rw [Finset.sum_div]
    refine Finset.sum_congr rfl fun x _ => ?_
    rw [weight]; field_simp
  rw [h, grad]
  generalize (∑ i, weight on l μ i * p i) = w
  rw [weight]; field_simp; ring

end Cert.Softmax
end
-- ==== Proof.FoxReference.lean ====
/- The attention of the forget-gate layer and its gradients as the reference writes them, at one head, query and key. -/
module

public import proofs.«01_k».proof.Proof.Gen.ReferenceIdeal.Read
public import Idealize.ShloMosaic.Lib.Pipeline.ValueKit
public import Idealize.ShloMosaic.Lib.WordCmp
public import Idealize.ShloMosaic.Lib.KernelVsHost
public import proofs.«01_k».proof.Proof.Softmax

@[expose] public section

set_option maxRecDepth 16384

noncomputable section

open Idealize.ShloMosaic Idealize.ShloMosaic.TcCoe Idealize.SL.Sem
open scoped BigOperators

namespace Cert.FoxBwd
open Cert.ReferenceIdeal Cert.ReferenceIdeal.Gen Cert.ReferenceIdeal.Read Cert.RealOps

/-- Element `x` of head `h` in a row of 1024. -/
abbrev col (h : Fin 8) (x : Fin 128) : Fin 1024 := ⟨h.val * 128 + x.val, by omega⟩

variable (q k v : FVec Ideal S1x4096x1024 .f32) (c : FVec Ideal S1x8x4096 .f32) (ct : FVec Ideal S1x4096x1024 .f32)

/-- The gated logit of head `h`, query `s` and key `u`. -/
def lgt (h : Fin 8) (s u : Fin 4096) : EReal :=
  (∑ x : Fin 128, q (ix3 0 s (col h x)) * k (ix3 0 u (col h x))) * Ideal.ofBits .f32 0x3DB504F3#32 + c (ix3 0 h s) - c (ix3 0 h u)

/-- What the incoming gradient says of the value of key `u`. -/
def dpr (h : Fin 8) (s u : Fin 4096) : EReal := ∑ x : Fin 128, ct (ix3 0 s (col h x)) * v (ix3 0 u (col h x))

theorem ref_logit (h : Fin 8) (s u : Fin 4096) : val_main_v23_0 (F := Ideal) q k c (ix3 h s u) = if u.val ≤ s.val then lgt q k c h s u else ⊥ := by
  pointwise [val_main_v23_0, val_main_v23_1, val_main_call0_v0, val_main_call0_v2, val_main_cst_0, val_main_v22, val_main_v21, val_main_v20, val_main_v19, val_main_v18, val_main_v17, val_main_v16, val_main_v15, val_main_v14, val_main_v13, val_main_v12, val_main_v11, val_main_v10, val_main_v9, val_main_v8, val_main_cst, val_main_v7, val_main_v6, val_main_v3, val_main_v2, val_main_v1, val_main_v0, lgt]
  rw [WordCmp.cmpi_sle_ofNat (by omega) (by omega)]
  rcases Nat.lt_or_ge s.val u.val with hh | hh
  · simp [hh, Nat.not_le.mpr hh, Scalar.select, constant, Cert.Softmax.ofBits_neg_inf]
  · simp [hh, Scalar.select]

theorem ref_dpr (h : Fin 8) (s u : Fin 4096) : val_main_v58 (F := Ideal) v ct (ix3 h s u) = dpr v ct h s u := by
  pointwise [val_main_v58, val_main_v57, val_main_v56, val_main_v55, val_main_v5, val_main_v4, dpr]

/-- The maximum over the keys as a fold. -/
theorem max_apply (f : FVec Ideal S8x4096x4096 .f32) (h : Fin 8) (s : Fin 4096) :
    Host.reduce FloatOps.maximumf f (constant S_ .f32 0xFF800000#32) reducesTo_S8x4096x4096_S8x4096_d2 h_S_ (ix2 h s)
      = (Finset.univ : Finset (Fin 4096)).fold max ⊥ (fun u => f (ix3 h s u)) := by
  have hr : S8x4096x4096.Reduces [(2 : Fin 3)] S8x4096 := by decide
  have e := hostReduce_maximumf_eq_multiReduction (F := Ideal) (φ := .f32) f 0xFF800000#32 reducesTo_S8x4096x4096_S8x4096_d2 h_S_ hr (Or.inl rfl) rfl
  refine (congrFun e (ix2 h s)).trans ((Ideal.multiReduction_maximumf_single f 0xFF800000#32 hr (Or.inl rfl) rfl (ix2 h s)).trans ?_)
  show Finset.fold max (Ideal.ofBits .f32 0xFF800000#32) _ _ = _
  rw [Cert.Softmax.ofBits_neg_inf]
  congr 1
  funext u
  exact congrArg f (by funext a; match a with | 0 => rfl | 1 => rfl | 2 => rfl)

/-- The row maximum is the fold of `max` over the keys. -/
theorem ref_max (h : Fin 8) (s : Fin 4096) : val_main_v24 (F := Ideal) q k c (ix2 h s) = (Finset.univ : Finset (Fin 4096)).fold max ⊥ (fun u => val_main_v23_0 (F := Ideal) q k c (ix3 h s u)) :=
  max_apply (val_main_v23_0 (F := Ideal) q k c) h s

theorem ref_top (h : Fin 8) (s : Fin 4096) : val_main_v31 (F := Ideal) q k c (ix2 h s) = max (Ideal.ofBits .f32 0xFF800000#32) (val_main_v24 (F := Ideal) q k c (ix2 h s)) := by
  rw [val_main_v31_apply]
  generalize val_main_v24 (F := Ideal) q k c = w
  pointwise [val_main_v30, val_main_cst_3]

theorem ref_exp (h : Fin 8) (s u : Fin 4096) : val_main_v44 (F := Ideal) q k c (ix3 h s u) = Ideal.exp (val_main_v23_0 (F := Ideal) q k c (ix3 h s u) - val_main_v31 (F := Ideal) q k c (ix2 h s)) := by
  pointwise [val_main_v44, val_main_v43, val_main_v42, val_main_v41]

theorem ref_sum (h : Fin 8) (s : Fin 4096) : val_main_v45 (F := Ideal) q k c (ix2 h s) = ∑ u, val_main_v44 (F := Ideal) q k c (ix3 h s u) := by
  pointwise [val_main_v45, val_main_cst_9]

theorem ref_soft (h : Fin 8) (s u : Fin 4096) : val_main_v48 (F := Ideal) q k c (ix3 h s u) = Ideal.div (val_main_v44 (F := Ideal) q k c (ix3 h s u)) (val_main_v45 (F := Ideal) q k c (ix2 h s)) := by
  pointwise [val_main_v48, val_main_v47, val_main_v46]

theorem ref_grad (h : Fin 8) (s u : Fin 4096) : val_main_v73 (F := Ideal) q k v c ct (ix3 h s u) = if u.val ≤ s.val then
    (Ideal.div (val_main_v58 (F := Ideal) v ct (ix3 h s u)) (val_main_v45 (F := Ideal) q k c (ix2 h s))
      + -(∑ x, val_main_v58 (F := Ideal) v ct (ix3 h s x) * Ideal.div ((1 : ℝ) : EReal) (val_main_v45 (F := Ideal) q k c (ix2 h s) * val_main_v45 (F := Ideal) q k c (ix2 h s)) * val_main_v44 (F := Ideal) q k c (ix3 h s x)))
      * val_main_v44 (F := Ideal) q k c (ix3 h s u) else 0 := by
  pointwise [val_main_v73, val_main_v72, val_main_v71, val_main_v70, val_main_v69, val_main_v68, val_main_v67, val_main_v66, val_main_v65, val_main_v64, val_main_v63, val_main_v62, val_main_v61, val_main_v51, val_main_v50, val_main_v49,val_main_v47, val_main_v46, val_main_v23_1, val_main_v22, val_main_v21, val_main_v20, val_main_v19, val_main_v18, val_main_v17, val_main_v16, val_main_cst_10, val_main_cst_11, val_main_cst_12, val_main_call1_v0, val_main_call1_cst]
  rw [WordCmp.cmpi_sle_ofNat (by omega) (by omega), Fin.sum_univ_one, EReal.coe_one]
  rcases Nat.lt_or_ge s.val u.val with hh | hh
  · simp [hh, Nat.not_le.mpr hh, Scalar.select]
  · simp [hh, Scalar.select]

theorem ref_dq (h : Fin 8) (s : Fin 4096) (x : Fin 128) : val_main_v96 (F := Ideal) q k v c ct (ix2 s (col h x)) = ∑ u, val_main_v73 (F := Ideal) q k v c ct (ix3 h s u) * Ideal.ofBits .f32 0x3DB504F3#32 * k (ix3 0 u (col h x)) := by
  pointwise [val_main_v96, val_main_v95, val_main_v94, val_main_v93, val_main_v87, val_main_v86, val_main_v3, val_main_v2, val_main_v83, val_main_v82, val_main_cst_17]

theorem ref_dk (h : Fin 8) (s : Fin 4096) (x : Fin 128) : val_main_v98 (F := Ideal) q k v c ct (ix2 s (col h x)) = ∑ r, val_main_v73 (F := Ideal) q k v c ct (ix3 h r s) * Ideal.ofBits .f32 0x3DB504F3#32 * q (ix3 0 r (col h x)) := by
  pointwise [val_main_v98, val_main_v97, val_main_v92, val_main_v91, val_main_v85, val_main_v84, val_main_v1, val_main_v0, val_main_v83, val_main_v82, val_main_cst_17]

theorem ref_dv (h : Fin 8) (s : Fin 4096) (x : Fin 128) : val_main_v100 (F := Ideal) q k c ct (ix2 s (col h x)) = ∑ r, ct (ix3 0 r (col h x)) * val_main_v48 (F := Ideal) q k c (ix3 h r s) := by
  pointwise [val_main_v100, val_main_v99, val_main_v90, val_main_v89, val_main_v60, val_main_v59, val_main_v57, val_main_v56, val_main_v55]

theorem ref_dc (h : Fin 8) (s : Fin 4096) : val_main_v101 (F := Ideal) q k v c ct (ix2 h s) = (∑ r, -val_main_v73 (F := Ideal) q k v c ct (ix3 h r s)) + ∑ u, val_main_v73 (F := Ideal) q k v c ct (ix3 h s u) := by
  pointwise [val_main_v101, val_main_v88, val_main_v81, val_main_v80, val_main_v79, val_main_v78, val_main_v77, val_main_v76, val_main_v75, val_main_v74, val_main_cst_13, val_main_cst_14, val_main_cst_15, val_main_cst_16]
  simp only [Fin.sum_univ_one]

end Cert.FoxBwd
end
-- ==== Proof.FoxHost.lean ====
/- What the host hands the backward launch of the forget-gate attention and what a grid point's blocks hold, over the argument arrays. -/
module

public import proofs.«01_k».proof.Proof.FoxCases
public import proofs.«01_k».proof.Proof.FoxReference

@[expose] public section

set_option maxRecDepth 16384

noncomputable section

open Idealize.ShloMosaic Idealize.ShloMosaic.TcCoe Idealize.SL.Sem
open Idealize.ShloMosaic.Pipeline (Dat)
open scoped BigOperators

namespace Cert.FoxBwd
open Cert.KernelIdeal Cert.KernelIdeal.Gen Cert.ReferenceIdeal.Read

variable (m : (ℓ : Loc nD τ sig) → Buf (Elt Ideal) ℓ) (c : Dev nD) (t : Fin cfg0.N)

abbrev aq : FVec Ideal S1x4096x1024 .f32 := m ((c : Thread nD τ).loc main_arg0)
abbrev ak : FVec Ideal S1x4096x1024 .f32 := m ((c : Thread nD τ).loc main_arg1)
abbrev av : FVec Ideal S1x4096x1024 .f32 := m ((c : Thread nD τ).loc main_arg2)
abbrev ac : FVec Ideal S1x8x4096 .f32 := m ((c : Thread nD τ).loc main_arg3)
abbrev act : FVec Ideal S1x4096x1024 .f32 := m ((c : Thread nD τ).loc main_arg4)

/-- The packed projection the host hands over: queries, keys and values at their columns, zeros elsewhere. -/
def packed (q k v : FVec Ideal S1x4096x1024 .f32) : FVec Ideal S4096x6656 .f32 :=
  concatenate S4096x6656 1 [⟨S4096x2048, broadcastInDim S4096x2048 ![] bcast_S_S4096x2048 (constant S_ .f32 0x00000000#32)⟩,
    ⟨S4096x1024, shapeCast S4096x1024 q shapeCasts_S1x4096x1024_S4096x1024⟩, ⟨S4096x1024, shapeCast S4096x1024 k shapeCasts_S1x4096x1024_S4096x1024⟩,
    ⟨S4096x1280, broadcastInDim S4096x1280 ![] bcast_S_S4096x1280 (constant S_ .f32 0x00000000#32)⟩,
    ⟨S4096x1024, shapeCast S4096x1024 v shapeCasts_S1x4096x1024_S4096x1024⟩,
    ⟨S4096x256, broadcastInDim S4096x256 ![] bcast_S_S4096x256 (constant S_ .f32 0x00000000#32)⟩] concatenates_S4096x2048_S4096x1024_S4096x1024_S4096x1280_S4096x1024_S4096x256_S4096x6656_d1

theorem V_packed : V m c main_v54 = truncf .bf16 (packed (aq m c) (ak m c) (av m c)) bitsLt_bf16_f32 := by exact rfl
/-- The contents before the last host line: after the masked logits are made. -/
abbrev before2 : Valuation τ sig (Elt Ideal) := StableHlo.after (List.flatten [hostOps0, hostOps0_1]) (fun b => m (c, b))

theorem V0_split : V0 m c = StableHlo.after hostOps0_2 (before2 m c) := by
  show StableHlo.after (List.flatten [hostOps0, hostOps0_1, hostOps0_2]) _ = _
  rw [← StableHlo.after_append]; rfl

theorem V_logits : before2 m c (Proc.devRef .tc main_v22) = val_main_v23_0 (F := Ideal) (aq m c) (ak m c) (ac m c) := by exact rfl
theorem V_arg2 : before2 m c (Proc.devRef .tc main_arg2) = av m c := by exact rfl

/-- The attention's output from the masked logits. -/
def oForm (L : FVec Ideal S8x4096x4096 .f32) (v : FVec Ideal S1x4096x1024 .f32) : FVec Ideal S4096x1024 .f32 :=
  have top := broadcastInDim S8x4096x4096 ![0, 1, 2] bcast_S8x4096x1_S8x4096x4096_0_1_2 (broadcastInDim S8x4096x1 ![0, 1] bcast_S8x4096_S8x4096x1_0_1
    (maximumf (broadcastInDim S8x4096 ![] bcast_S_S8x4096 (constant S_ .f32 0xFF800000#32))
      (Host.reduce FloatOps.maximumf L (constant S_ .f32 0xFF800000#32) reducesTo_S8x4096x4096_S8x4096_d2 h_S_)))
  shapeCast S4096x1024 (transpose S4096x8x128 [2, 0, 1] (Host.dotGeneral dot_S4096x8x128_S8x4096x4096_S8x128x4096_0_2_2_1_1_0 none
    (shapeCast S4096x8x128 (shapeCast S4096x1024 v shapeCasts_S1x4096x1024_S4096x1024) shapeCasts_S4096x1024_S4096x8x128)
    (Host.divf (Host.exp (subf L top)) (broadcastInDim S8x4096x4096 ![0, 1, 2] bcast_S8x4096x1_S8x4096x4096_0_1_2
      (broadcastInDim S8x4096x1 ![0, 1] bcast_S8x4096_S8x4096x1_0_1 (Host.reduceAdd (Host.exp (subf L top)) (constant S_ .f32 0x00000000#32) reducesTo_S8x4096x4096_S8x4096_d2 h_S_)))))
    transposes_S8x128x4096_S4096x8x128_2_0_1) shapeCasts_S4096x8x128_S4096x1024

section
variable (W : Valuation τ sig (Elt Ideal))
theorem o_line : StableHlo.after hostOps0_2 W (Proc.devRef .tc main_v55) = oForm (W (Proc.devRef .tc main_v22)) (W (Proc.devRef .tc main_arg2)) := by
  after_results
  rfl
end
theorem V_o : V m c main_v55 = oForm (val_main_v23_0 (F := Ideal) (aq m c) (ak m c) (ac m c)) (av m c) := by
  show V0 m c _ = _
  rw [V0_split, o_line, V_logits, V_arg2]

theorem o_eq : oForm (val_main_v23_0 (F := Ideal) (aq m c) (ak m c) (ac m c)) (av m c) = val_main_v54 (F := Ideal) (aq m c) (ak m c) (av m c) (ac m c) := rfl

theorem V_do : V m c main_v57 = shapeCast S4096x1024 (act m c) shapeCasts_S1x4096x1024_S4096x1024 := rfl
theorem V_c : V m c main_v60 = shapeCast S8x4x1x1024 (shapeCast S8x4096 (ac m c) shapeCasts_S1x8x4096_S8x4096) shapeCasts_S8x4096_S8x4x1x1024 := rfl

theorem packed_q (q k v : FVec Ideal S1x4096x1024 .f32) (s : Fin 4096) (j : Fin 1024) : packed q k v (ix2 s ⟨2048 + j.val, by omega⟩) = q (ix3 0 s j) := by
  pointwise [packed]

theorem packed_k (q k v : FVec Ideal S1x4096x1024 .f32) (s : Fin 4096) (j : Fin 1024) : packed q k v (ix2 s ⟨3072 + j.val, by omega⟩) = k (ix3 0 s j) := by
  pointwise [packed]
  have hj := j.isLt
  repeat' split
  all_goals first | omega | exact congrArg (fun z => k (ix3 0 s z)) (Fin.ext (by dsimp only; omega))

theorem packed_v (q k v : FVec Ideal S1x4096x1024 .f32) (s : Fin 4096) (j : Fin 1024) : packed q k v (ix2 s ⟨5376 + j.val, by omega⟩) = v (ix3 0 s j) := by
  pointwise [packed]
  have hj := j.isLt
  repeat' split
  all_goals first | omega | exact congrArg (fun z => v (ix3 0 s z)) (Fin.ext (by dsimp only; omega))

/-- The saved logarithm of the sum of exponentials, as the host's forward lines make it from the masked logits and their maxima. -/
def lseForm (L : FVec Ideal S8x4096x4096 .f32) (M : FVec Ideal S8x4096 .f32) : FVec Ideal S8x4096 .f32 :=
  addf M (Host.log (Host.reduceAdd (Host.exp (subf L (broadcastInDim S8x4096x4096 ![0, 1, 2] bcast_S8x4096x1_S8x4096x4096_0_1_2
    (broadcastInDim S8x4096x1 ![0, 1] bcast_S8x4096_S8x4096x1_0_1 M)))) (constant S_ .f32 0x00000000#32) reducesTo_S8x4096x4096_S8x4096_d2 h_S_))

theorem lseForm_apply (L : FVec Ideal S8x4096x4096 .f32) (M : FVec Ideal S8x4096 .f32) (h : Fin 8) (s : Fin 4096) :
    lseForm L M (ix2 h s) = M (ix2 h s) + Ideal.log (∑ u, Ideal.exp (L (ix3 h s u) - M (ix2 h s))) := by
  pointwise [lseForm]

set_option maxRecDepth 400000 in
theorem lse_line (W : Valuation τ sig (Elt Ideal)) : StableHlo.after hostOps0_2 W (Proc.devRef .tc main_v59) = shapeCast S8x4x1x1024 (lseForm (W (Proc.devRef .tc main_v22)) (Host.reduce FloatOps.maximumf (show FVec Ideal S8x4096x4096 .f32 from W (Proc.devRef .tc main_v22)) (constant S_ .f32 0xFF800000#32) reducesTo_S8x4096x4096_S8x4096_d2 h_S_)) shapeCasts_S8x4096_S8x4x1x1024 := by
  after_results
  rfl

theorem V_lse : V m c main_v59 = shapeCast S8x4x1x1024 (lseForm (val_main_v23_0 (F := Ideal) (aq m c) (ak m c) (ac m c)) (val_main_v24 (F := Ideal) (aq m c) (ak m c) (ac m c))) shapeCasts_S8x4096_S8x4x1x1024 := by
  show V0 m c _ = _
  rw [V0_split, lse_line, V_logits]
  rfl

/-- The kernel turns a row of statistics into a column by a sum over the diagonal. -/
theorem diagonal (f : Fin 1024 → EReal) (r : Fin 1024) :
    ∑ x : Fin 1024, Scalar.select (IntOp.cmpi CmpIPredicate.eq (BitVec.ofNat 32 r.val) (BitVec.ofNat 32 x.val)) (f x) 0 = f r := by
  rw [Finset.sum_eq_single r]
  · rw [WordCmp.cmpi_eq_ofNat (by omega) (by omega)]; simp [Scalar.select]
  · intro x _ hx
    have : r.val ≠ x.val := fun e => hx (Fin.ext e.symm)
    rw [WordCmp.cmpi_eq_ofNat (by omega) (by omega)]; simp [Scalar.select, this]
  · intro h; exact absurd (Finset.mem_univ r) h

theorem lse_T (r : Fin 1024) : lseT m c t (ix2 r 0) = iblk m c 5 t (ix4 0 0 0 r) := by
  pointwise [lseT, k0_pay19]
  exact diagonal (fun x => iblk m c 5 t (ix4 0 0 0 x)) r

theorem idx_val : ∀ t : Fin cfg0.N, win0_0.index t = ![t.val % 4, 16 + t.val / 4] ∧ win0_1.index t = ![0, 24 + t.val / 4] ∧ win0_2.index t = ![0, 42 + t.val / 4]
    ∧ win0_3.index t = ![t.val % 4, t.val / 4] ∧ win0_4.index t = ![t.val % 4, t.val / 4] ∧ win0_5.index t = ![t.val / 4, t.val % 4, 0, 0] ∧ win0_6.index t = ![t.val / 4, 0, 0, 0]
    ∧ win0_7.index t = ![t.val % 4, t.val / 4] ∧ win0_8.index t = ![0, t.val / 4] ∧ win0_9.index t = ![0, t.val / 4] ∧ win0_10.index t = ![t.val / 4, 0, 0, 0] ∧ (grid0.coords t 1).val = t.val % 4 ∧ t.val < 32 :=
  (by decide +kernel : ∀ t : Fin grid0.N, _)

/-- The head a grid point works at. -/
abbrev hd : Fin 8 := ⟨t.val / 4, by have := (idx_val t).2.2.2.2.2.2.2.2.2.2.2.2; omega⟩
/-- The query a row of a grid point's tile is. -/
abbrev rw' (r : Fin 1024) : Fin 4096 := ⟨(t.val % 4) * 1024 + r.val, by omega⟩

theorem blk_q (r : Fin 1024) (d : Fin 128) : iblk m c 0 t (ix2 r d) = aq m c (ix3 0 (rw' t r) (col (hd t) d)) := by
  refine Eq.trans (b := V m c main_v54 (ix2 (rw' t r) ⟨2048 + (col (hd t) d).val, by have := (col (hd t) d).isLt; omega⟩)) ?_ ?_
  · unfold iblk
    show V m c main_v54 _ = _
    generalize V m c main_v54 = w
    blk_ext [idx_val t]
  · rw [V_packed]; exact packed_q _ _ _ _ _

theorem blk_k (s : Fin 4096) (d : Fin 128) : iblk m c 1 t (ix2 s d) = ak m c (ix3 0 s (col (hd t) d)) := by
  refine Eq.trans (b := V m c main_v54 (ix2 s ⟨3072 + (col (hd t) d).val, by have := (col (hd t) d).isLt; omega⟩)) ?_ ?_
  · unfold iblk
    show V m c main_v54 _ = _
    generalize V m c main_v54 = w
    blk_ext [idx_val t]
  · rw [V_packed]; exact packed_k _ _ _ _ _

theorem blk_v (s : Fin 4096) (d : Fin 128) : iblk m c 2 t (ix2 s d) = av m c (ix3 0 s (col (hd t) d)) := by
  refine Eq.trans (b := V m c main_v54 (ix2 s ⟨5376 + (col (hd t) d).val, by have := (col (hd t) d).isLt; omega⟩)) ?_ ?_
  · unfold iblk
    show V m c main_v54 _ = _
    generalize V m c main_v54 = w
    blk_ext [idx_val t]
  · rw [V_packed]; exact packed_v _ _ _ _ _

theorem blk_o (r : Fin 1024) (d : Fin 128) : iblk m c 3 t (ix2 r d) = val_main_v54 (F := Ideal) (aq m c) (ak m c) (av m c) (ac m c) (ix2 (rw' t r) (col (hd t) d)) := by
  refine Eq.trans (b := V m c main_v55 (ix2 (rw' t r) (col (hd t) d))) ?_ ?_
  · unfold iblk
    show V m c main_v55 _ = _
    generalize V m c main_v55 = w
    blk_ext [idx_val t]
  · rw [V_o, o_eq]

theorem blk_do (r : Fin 1024) (d : Fin 128) : iblk m c 4 t (ix2 r d) = act m c (ix3 0 (rw' t r) (col (hd t) d)) := by
  refine Eq.trans (b := V m c main_v57 (ix2 (rw' t r) (col (hd t) d))) ?_ ?_
  · unfold iblk
    show V m c main_v57 _ = _
    generalize V m c main_v57 = w
    blk_ext [idx_val t]
  · rw [V_do]; exact Cert.RealOps.shapeCast_drop_lead _ _ _

/-- A row of statistics of all heads, cut into tiles. -/
theorem stat_apply (f : FVec Ideal S8x4096 .f32) (h : Fin 8) (b : Fin 4) (r : Fin 1024) :
    shapeCast S8x4x1x1024 f shapeCasts_S8x4096_S8x4x1x1024 (ix4 h b 0 r) = f (ix2 h ⟨b.val * 1024 + r.val, by omega⟩) := by
  pointwise []

theorem read_stat (w : FVec Ideal S8x4x1x1024 .f32) (r : Fin 1024) :
    ((cfg0.win 5).blk t).view.read (Elt Ideal) w (ix4 0 0 0 r) = w (ix4 (hd t) ⟨t.val % 4, by omega⟩ 0 r) := by
  show w _ = w _
  blk_ext [idx_val t]

theorem arr_stat : V m c (Pipeline.arrRef spec0 5) = V m c main_v59 := by exact rfl

theorem blk_stat (r : Fin 1024) : iblk m c 5 t (ix4 0 0 0 r) = V m c main_v59 (ix4 (hd t) ⟨t.val % 4, by omega⟩ 0 r) := by
  unfold iblk
  rw [arr_stat]
  exact read_stat t _ r

theorem blk_lse (r : Fin 1024) : iblk m c 5 t (ix4 0 0 0 r) = lseForm (val_main_v23_0 (F := Ideal) (aq m c) (ak m c) (ac m c)) (val_main_v24 (F := Ideal) (aq m c) (ak m c) (ac m c)) (ix2 (hd t) (rw' t r)) := by
  rw [blk_stat, V_lse]
  generalize lseForm _ _ = f
  exact stat_apply f _ _ _

theorem blk_c (b : Fin 4) (r : Fin 1024) : iblk m c 6 t (ix4 0 b 0 r) = ac m c (ix3 0 (hd t) ⟨b.val * 1024 + r.val, by omega⟩) := by
  refine Eq.trans (b := V m c main_v60 (ix4 (hd t) b 0 r)) ?_ ?_
  · unfold iblk
    show V m c main_v60 _ = _
    generalize V m c main_v60 = w
    blk_ext [idx_val t]
  · rw [V_c]; exact (stat_apply _ _ _ _).trans (Cert.RealOps.shapeCast_drop_lead _ _ _)

theorem q_T (r : Fin 1024) (d : Fin 128) : qT m c t (ix2 r d) = aq m c (ix3 0 (rw' t r) (col (hd t) d)) := by
  rw [← blk_q]
  pointwise [qT, k0_pay16]

theorem do_T (r : Fin 1024) (d : Fin 128) : doT m c t (ix2 r d) = act m c (ix3 0 (rw' t r) (col (hd t) d)) := by
  rw [← blk_do]
  pointwise [doT, k0_pay17]

theorem delta_T (r : Fin 1024) : deltaT m c t (ix2 r 0) = ∑ d : Fin 128, act m c (ix3 0 (rw' t r) (col (hd t) d)) * val_main_v54 (F := Ideal) (aq m c) (ak m c) (av m c) (ac m c) (ix2 (rw' t r) (col (hd t) d)) := by
  refine Eq.trans (b := ∑ d : Fin 128, (show EReal from iblk m c 4 t (ix2 r d)) * (show EReal from iblk m c 3 t (ix2 r d))) (by pointwise [deltaT, k0_pay18, k0_pay17]) ?_
  exact Finset.sum_congr rfl fun d _ => by rw [blk_do, blk_o]

theorem c_T (r : Fin 1024) : cqT m c t (ix2 r 0) = ac m c (ix3 0 (hd t) (rw' t r)) := by
  refine Eq.trans (b := iblk m c 6 t (ix4 0 ⟨t.val % 4, by omega⟩ 0 r)) ?_ (blk_c m c t _ r)
  pointwise [cqT, k0_pay20]
  refine (diagonal (fun x => iblk m c 6 t (ix4 _ _ _ _)) r).trans ?_
  refine congrArg (iblk m c 6 t) ?_
  have e := off1 (grid0.coords t)
  have h1 := (idx_val t).2.2.2.2.2.2.2.2.2.2.2.1
  have e0 : k0_off1 (grid0.coords t) 0 = 0 := congrFun e 0
  have e1 : k0_off1 (grid0.coords t) 1 = (grid0.coords t 1).val := congrFun e 1
  have e2 : k0_off1 (grid0.coords t) 2 = 0 := congrFun e 2
  have e3 : k0_off1 (grid0.coords t) 3 = 0 := congrFun e 3
  funext a
  match a with
  | 0 => exact Fin.ext e0
  | 1 => exact Fin.ext (e1.trans h1)
  | 2 => exact Fin.ext e2
  | 3 => exact Fin.ext (by show k0_off1 (grid0.coords t) 3 + r.val = r.val; omega)

end Cert.FoxBwd
end
-- ==== Proof.FoxRow.lean ====
/- The weights and the gradients of the logits that the backward launch works with are the reference's. -/
module

public import proofs.«01_k».proof.Proof.FoxHost

@[expose] public section

set_option maxRecDepth 16384

noncomputable section

open Idealize.ShloMosaic Idealize.ShloMosaic.TcCoe Idealize.SL.Sem
open scoped BigOperators

namespace Cert.FoxBwd
open Cert.ReferenceIdeal.Read Cert.RealOps Cert.Softmax

section Row
variable (q k v : FVec Ideal Cert.ReferenceIdeal.S1x4096x1024 .f32) (c : FVec Ideal Cert.ReferenceIdeal.S1x8x4096 .f32) (ct : FVec Ideal Cert.ReferenceIdeal.S1x4096x1024 .f32)

theorem scale_real : ∃ r : ℝ, Ideal.ofBits .f32 0x3DB504F3#32 = (r : EReal) := by
  refine ⟨_, (EReal.coe_toReal ?_ ?_).symm⟩ <;> simp [Ideal.ofBits, Ideal.ieee, ← EReal.coe_mul, -EReal.coe_mul]

theorem lgt_real (hq : IsReal q) (hk : IsReal k) (hc : IsReal c) (h : Fin 8) (s : Fin 4096) : ∃ l : Fin 4096 → ℝ, ∀ u, lgt q k c h s u = ((l u : ℝ) : EReal) := by
  obtain ⟨q, rfl⟩ := hq; obtain ⟨k, rfl⟩ := hk; obtain ⟨c, rfl⟩ := hc
  obtain ⟨r, hr⟩ := scale_real
  refine ⟨fun u => (∑ x, q (ix3 0 s (col h x)) * k (ix3 0 u (col h x))) * r + c (ix3 0 h s) - c (ix3 0 h u), fun u => ?_⟩
  unfold lgt
  rw [hr]
  simp only [← EReal.coe_mul, coe_sum, ← EReal.coe_add, ← EReal.coe_sub]

theorem ref_o (h : Fin 8) (s : Fin 4096) (x : Fin 128) : val_main_v54 (F := Ideal) q k v c (ix2 s (col h x)) = ∑ u, v (ix3 0 u (col h x)) * val_main_v48 (F := Ideal) q k c (ix3 h s u) := by
  pointwise [val_main_v54, val_main_v53, val_main_v52, val_main_v5, val_main_v4]
  refine Finset.sum_congr rfl fun u _ => congrArg₂ (fun a b : EReal => a * b) (congrArg (fun z => v (ix3 0 u z)) (Fin.ext ?_)) (congrArg (fun z => val_main_v48 (F := Ideal) q k c (ix3 z s u)) (Fin.ext ?_))
  · show (h.val * 128 + x.val) / 128 * 128 + (h.val * 128 + x.val) % 128 = h.val * 128 + x.val
    omega
  · show (h.val * 128 + x.val) / 128 = h.val
    omega

/-- The row sum of the incoming gradient times the output is the weighted sum of what the incoming gradient says of the values. -/
theorem delta_eq (hv : IsReal v) (hct : IsReal ct) (h : Fin 8) (s : Fin 4096) (w : Fin 4096 → ℝ) (hw : ∀ u, val_main_v48 (F := Ideal) q k c (ix3 h s u) = ((w u : ℝ) : EReal)) :
    ∃ p : Fin 4096 → ℝ, (∀ u, dpr v ct h s u = ((p u : ℝ) : EReal))
      ∧ ∑ x : Fin 128, ct (ix3 0 s (col h x)) * val_main_v54 (F := Ideal) q k v c (ix2 s (col h x)) = ((∑ u, w u * p u : ℝ) : EReal) := by
  simp only [ref_o, hw]
  clear hw
  obtain ⟨v, rfl⟩ := hv; obtain ⟨ct, rfl⟩ := hct
  refine ⟨fun u => ∑ x, ct (ix3 0 s (col h x)) * v (ix3 0 u (col h x)), fun u => ?_, ?_⟩
  · unfold dpr
    simp only [← EReal.coe_mul, coe_sum]
  · simp only [← EReal.coe_mul, coe_sum]
    rw [EReal.coe_eq_coe_iff]
    simp only [Finset.mul_sum]
    rw [Finset.sum_comm]
    refine Finset.sum_congr rfl fun u _ => Finset.sum_congr rfl fun x _ => by ring

/-- A query sees the keys up to itself. -/
abbrev seen (s u : Fin 4096) : Prop := u.val ≤ s.val

/-- A row of the reference over the reals. -/
theorem ref_row (hq : IsReal q) (hk : IsReal k) (hv : IsReal v) (hc : IsReal c) (hct : IsReal ct) (h : Fin 8) (s : Fin 4096) :
    ∃ (l p : Fin 4096 → ℝ) (μ : ℝ), (∀ u, lgt q k c h s u = ((l u : ℝ) : EReal)) ∧ (∀ u, dpr v ct h s u = ((p u : ℝ) : EReal))
      ∧ (∑ x : Fin 128, ct (ix3 0 s (col h x)) * val_main_v54 (F := Ideal) q k v c (ix2 s (col h x)) = ((∑ u, weight (seen s) l μ u * p u : ℝ) : EReal))
      ∧ lseForm (val_main_v23_0 (F := Ideal) q k c) (val_main_v24 (F := Ideal) q k c) (ix2 h s) = (μ : EReal) + Ideal.log ((den (seen s) l μ : ℝ) : EReal)
      ∧ (∀ u, val_main_v48 (F := Ideal) q k c (ix3 h s u) = ((weight (seen s) l μ u : ℝ) : EReal))
      ∧ ∀ u, val_main_v73 (F := Ideal) q k v c ct (ix3 h s u) = ((grad (seen s) l p μ u : ℝ) : EReal) := by
  obtain ⟨l, hl⟩ := lgt_real q k c hq hk hc h s
  have hL : ∀ u, val_main_v23_0 (F := Ideal) q k c (ix3 h s u) = row (seen s) l u := fun u => by rw [ref_logit, row, hl]
  obtain ⟨μ, hμ⟩ := max_real (seen s) l (j := s) (le_refl _)
  have hM : val_main_v24 (F := Ideal) q k c (ix2 h s) = (μ : EReal) := by
    rw [ref_max, ← hμ]; exact congrArg (fun f => Finset.fold max ⊥ f Finset.univ) (funext hL)
  have hE : ∀ u, val_main_v44 (F := Ideal) q k c (ix3 h s u) = ((ex (seen s) l μ u : ℝ) : EReal) := fun u => by
    rw [ref_exp, ref_top, hM, ofBits_neg_inf, hL, max_eq_right bot_le, exp_row]
  have hZ : val_main_v45 (F := Ideal) q k c (ix2 h s) = ((den (seen s) l μ : ℝ) : EReal) := by
    rw [ref_sum]; simp only [hE]; rw [coe_sum]; rfl
  have hz := (den_pos (seen s) l μ (j := s) (le_refl _)).ne'
  have hW : ∀ u, val_main_v48 (F := Ideal) q k c (ix3 h s u) = ((weight (seen s) l μ u : ℝ) : EReal) := fun u => by
    rw [ref_soft, hE, hZ, div_coe hz]; rfl
  obtain ⟨p, hp, hd⟩ := delta_eq q k v c ct hv hct h s _ hW
  refine ⟨l, p, μ, hl, hp, hd, ?_, hW, fun u => ?_⟩
  · rw [lseForm_apply, hM]
    simp only [hL, exp_row]
    rw [coe_sum]; rfl
  · rw [ref_grad]
    simp only [ref_dpr, hp, hE, hZ]
    split
    · exact grad_eq (seen s) l p μ (i := s) (le_refl _) u
    · rename_i hn
      rw [grad, weight, ex, if_neg hn, zero_div, zero_mul]; rfl

end Row

section Tile
open Cert.KernelIdeal Cert.KernelIdeal.Gen
variable (m : (ℓ : Loc nD τ sig) → Buf (Elt Ideal) ℓ) (c : Dev nD) (t : Fin cfg0.N)
  (hq : IsReal (aq m c)) (hk : IsReal (ak m c)) (hv : IsReal (av m c)) (hc : IsReal (ac m c)) (hct : IsReal (act m c))

theorem tile_val : tile t = t.val % 4 := (idx_val t).2.2.2.2.2.2.2.2.2.2.2.1

/-- A tile's logits are the reference's. -/
theorem logit_T (r : Fin 1024) (u : Fin 4096) : (∑ x, qT m c t (ix2 r x) * (show EReal from iblk m c 1 t (ix2 u x))) * scale + cqT m c t (ix2 r 0) - (show EReal from iblk m c 6 t (at4 u))
    = lgt (aq m c) (ak m c) (ac m c) (hd t) (rw' t r) u := by
  have e : ac m c (ix3 0 (hd t) ⟨u.val / 1024 * 1024 + u.val % 1024, by omega⟩) = ac m c (ix3 0 (hd t) u) :=
    congrArg (fun z => ac m c (ix3 0 (hd t) z)) (Fin.ext (by dsimp only; omega))
  rw [c_T, blk_c, e]
  simp only [q_T, blk_k]
  rfl

include hq hk hv hc hct
theorem tile_eq (r : Fin 1024) (u : Fin 4096) :
    mwT m c t r u = val_main_v48 (F := Ideal) (aq m c) (ak m c) (ac m c) (ix3 (hd t) (rw' t r) u)
      ∧ mdlT m c t r u = val_main_v73 (F := Ideal) (aq m c) (ak m c) (av m c) (ac m c) (act m c) (ix3 (hd t) (rw' t r) u) := by
  obtain ⟨l, p, μ, hl, hp, hd', hs, hW, hG⟩ := ref_row (aq m c) (ak m c) (av m c) (ac m c) (act m c) hq hk hv hc hct (hd t) (rw' t r)
  have h1 : mwT m c t r u = ((weight (seen (rw' t r)) l μ u : ℝ) : EReal) := by
    show (if u.val ≤ tile t * 1024 + r.val then Ideal.exp ((∑ x, qT m c t (ix2 r x) * (show EReal from iblk m c 1 t (ix2 u x))) * scale + cqT m c t (ix2 r 0) - (show EReal from iblk m c 6 t (at4 u)) - lseT m c t (ix2 r 0)) else 0) = _
    rw [logit_T, lse_T, blk_lse, hs, hl, tile_val]
    by_cases h : u.val ≤ t.val % 4 * 1024 + r.val
    · rw [if_pos h]; exact exp_sub_lse (seen (rw' t r)) l μ h
    · rw [if_neg h, weight, ex, if_neg (show ¬ seen (rw' t r) u from h), zero_div]; rfl
  refine ⟨h1.trans (hW u).symm, ?_⟩
  rw [hG]
  have h2 : ∑ x, doT m c t (ix2 r x) * (show EReal from iblk m c 2 t (ix2 u x)) = ((p u : ℝ) : EReal) := by
    rw [← hp]; simp only [do_T, blk_v]; rfl
  have h3 : deltaT m c t (ix2 r 0) = ((∑ u, weight (seen (rw' t r)) l μ u * p u : ℝ) : EReal) := (delta_T m c t r).trans hd'
  show mwT m c t r u * (∑ x, doT m c t (ix2 r x) * (show EReal from iblk m c 2 t (ix2 u x)) - deltaT m c t (ix2 r 0)) = _
  rw [h1, h2, h3, ← EReal.coe_sub, ← EReal.coe_mul]; rfl

end Tile
end Cert.FoxBwd
end
-- ==== Proof.FoxKernel.lean ====
/- The four result arrays of the backward launch of the forget-gate attention, and the whole run. -/
module

public import proofs.«01_k».proof.Proof.FoxRow

@[expose] public section

set_option maxRecDepth 16384

noncomputable section

open Idealize.ShloMosaic Idealize.ShloMosaic.TcCoe Idealize.SL.Sem
open Idealize.ShloMosaic.Pipeline (Dat)
open scoped BigOperators

namespace Cert.FoxBwd
open Cert.KernelIdeal Cert.KernelIdeal.Gen Cert.ReferenceIdeal.Read Cert.RealOps

variable (m : (ℓ : Loc nD τ sig) → Buf (Elt Ideal) ℓ) (c : Dev nD)

abbrev grad73 : FVec Ideal Cert.ReferenceIdeal.S8x4096x4096 .f32 := val_main_v73 (F := Ideal) (aq m c) (ak m c) (av m c) (ac m c) (act m c)
abbrev soft48 : FVec Ideal Cert.ReferenceIdeal.S8x4096x4096 .f32 := val_main_v48 (F := Ideal) (aq m c) (ak m c) (ac m c)

theorem emb_tile (t : Fin cfg0.N) (r : Fin 1024) (d : Fin 128) : ((cfg0.win 7).blk t).view.emb (ix2 r d) = ix2 (rw' t r) (col (hd t) d) := by
  blk_ext [idx_val t]

theorem emb_dk (t : Fin cfg0.N) (s : Fin 4096) (d : Fin 128) : ((cfg0.win 8).blk t).view.emb (ix2 s d) = ix2 s (col (hd t) d) := by
  blk_ext [idx_val t]

theorem emb_dv (t : Fin cfg0.N) (s : Fin 4096) (d : Fin 128) : ((cfg0.win 9).blk t).view.emb (ix2 s d) = ix2 s (col (hd t) d) := by
  blk_ext [idx_val t]

theorem emb_dc (t : Fin cfg0.N) (b : Fin 4) (r : Fin 1024) : ((cfg0.win 10).blk t).view.emb (ix4 0 b 0 r) = ix4 (hd t) b 0 r := by
  blk_ext [idx_val t]

/-- Point `4 h + i` of a head's run. -/
theorem hd_run (t : Fin cfg0.N) (i : Fin 4) (h : 4 * (t.val / 4) + i.val < cfg0.N) : hd (⟨4 * (t.val / 4) + i.val, h⟩ : Fin cfg0.N) = hd t :=
  Fin.ext (by show (4 * (t.val / 4) + i.val) / 4 = t.val / 4; omega)

theorem rw_run (t : Fin cfg0.N) (i : Fin 4) (h : 4 * (t.val / 4) + i.val < cfg0.N) (r : Fin 1024) (hl : i.val * 1024 + r.val < 4096) :
    rw' (⟨4 * (t.val / 4) + i.val, h⟩ : Fin cfg0.N) r = ⟨i.val * 1024 + r.val, hl⟩ :=
  Fin.ext (by show (4 * (t.val / 4) + i.val) % 4 * 1024 + r.val = i.val * 1024 + r.val; omega)

variable (hq : IsReal (aq m c)) (hk : IsReal (ak m c)) (hv : IsReal (av m c)) (hc : IsReal (ac m c)) (hct : IsReal (act m c))
include hq hk hv hc hct

theorem mdl_run (t : Fin cfg0.N) (i : Fin 4) (h : 4 * (t.val / 4) + i.val < cfg0.N) (r : Fin 1024) (hl : i.val * 1024 + r.val < 4096) (u : Fin 4096) :
    mdlT m c ⟨4 * (t.val / 4) + i.val, h⟩ r u = grad73 m c (ix3 (hd t) ⟨i.val * 1024 + r.val, hl⟩ u) := by
  rw [(tile_eq m c _ hq hk hv hc hct r u).2, hd_run, rw_run t i h r hl]

theorem mw_run (t : Fin cfg0.N) (i : Fin 4) (h : 4 * (t.val / 4) + i.val < cfg0.N) (r : Fin 1024) (hl : i.val * 1024 + r.val < 4096) (u : Fin 4096) :
    mwT m c ⟨4 * (t.val / 4) + i.val, h⟩ r u = soft48 m c (ix3 (hd t) ⟨i.val * 1024 + r.val, hl⟩ u) := by
  rw [(tile_eq m c _ hq hk hv hc hct r u).1, hd_run, rw_run t i h r hl]

theorem mdl_real (t : Fin cfg0.N) (r : Fin 1024) (u : Fin 4096) : ∃ x : ℝ, mdlT m c t r u = x := by
  obtain ⟨l, p, μ, _, _, _, _, _, hG⟩ := ref_row (aq m c) (ak m c) (av m c) (ac m c) (act m c) hq hk hv hc hct (hd t) (rw' t r)
  exact ⟨_, ((tile_eq m c t hq hk hv hc hct r u).2).trans (hG u)⟩

theorem final_dq : (dats m 0 c).arrAt 7 (cfgs 0).N = val_main_v96 (F := Ideal) (aq m c) (ak m c) (av m c) (ac m c) (act m c) := by
  refine (dats m 0 c).arrAt_eq_of_covers 7 _ (by decide +kernel) fun t hf y => ?_
  blk_simp; rw [after0_7]
  obtain ⟨r, d, rfl⟩ : ∃ (r : Fin 1024) (d : Fin 128), y = ix2 r d := ⟨y 0, y 1, by funext a; match a with | 0 => rfl | 1 => rfl⟩
  refine (dq_tile m c t r d).trans (Eq.trans ?_ ((congrArg _ (emb_tile t r d)).trans (ref_dq _ _ _ _ _ (hd t) (rw' t r) d)).symm)
  refine Finset.sum_congr rfl fun u _ => ?_
  rw [(tile_eq m c t hq hk hv hc hct r u).2, blk_k]

theorem dk_run (t : Fin cfg0.N) (h : t.val % 4 = 3) (s : Fin 4096) (d : Fin 128) : (show EReal from (outsAt0 m c t.val t.isLt).2.2.2.2.1 (ix2 s d))
    = ∑ u, grad73 m c (ix3 (hd t) u s) * scale * aq m c (ix3 0 u (col (hd t) d)) := by
  refine (Pipeline.eq_sum_fin_of_reset_step_apply_of_flush (M := EReal) (ι := Fin 4096 × Fin 128) (fun n h i => (outsAt0 m c n h).2.2.2.2.1 (ix2 i.1 i.2)) 4 (fun _ => 0)
    (fun t i => ∑ r, mdlT m c t r i.1 * scale * qT m c t (ix2 r i.2)) (fun t h i => dk_first m c t h (by omega) i.1 i.2)
    (fun t h i => dk_next m c t h i.1 i.2) t h (s, d)).trans ?_
  rw [zero_add]
  refine Fin.sum_mul_add_congr (f := fun u => grad73 m c (ix3 (hd t) u s) * scale * aq m c (ix3 0 u (col (hd t) d))) fun i r hl => ?_
  dsimp only
  rw [mdl_run m c hq hk hv hc hct t i _ r hl, q_T, hd_run, rw_run t i _ r hl]

theorem dv_run (t : Fin cfg0.N) (h : t.val % 4 = 3) (s : Fin 4096) (d : Fin 128) : (show EReal from (outsAt0 m c t.val t.isLt).2.2.2.2.2 (ix2 s d))
    = ∑ u, act m c (ix3 0 u (col (hd t) d)) * soft48 m c (ix3 (hd t) u s) := by
  refine (Pipeline.eq_sum_fin_of_reset_step_apply_of_flush (M := EReal) (ι := Fin 4096 × Fin 128) (fun n h i => (outsAt0 m c n h).2.2.2.2.2 (ix2 i.1 i.2)) 4 (fun _ => 0)
    (fun t i => ∑ r, mwT m c t r i.1 * doT m c t (ix2 r i.2)) (fun t h i => dv_first m c t h (by omega) i.1 i.2)
    (fun t h i => dv_next m c t h i.1 i.2) t h (s, d)).trans ?_
  rw [zero_add]
  refine Fin.sum_mul_add_congr (f := fun u => act m c (ix3 0 u (col (hd t) d)) * soft48 m c (ix3 (hd t) u s)) fun i r hl => ?_
  dsimp only
  rw [mw_run m c hq hk hv hc hct t i _ r hl, do_T, hd_run, rw_run t i _ r hl, mul_comm]

theorem dc_run (t : Fin cfg0.N) (h : t.val % 4 = 3) (s : Fin 4096) : (show EReal from (outsAt0 m c t.val t.isLt).2.2.2.1 (at4 s))
    = (∑ u, -grad73 m c (ix3 (hd t) u s)) + ∑ u, grad73 m c (ix3 (hd t) s u) := by
  refine (Pipeline.eq_sum_fin_of_reset_step_apply_of_flush (M := EReal) (ι := Fin 4096) (fun n h i => (outsAt0 m c n h).2.2.2.1 (at4 i)) 4 (fun _ => 0)
    (fun t s => (∑ r, -mdlT m c t r s) + if h : tile t * 1024 ≤ s.val ∧ s.val < tile t * 1024 + 1024 then ∑ u, mdlT m c t ⟨s.val - tile t * 1024, by omega⟩ u else 0)
    (fun t h i => by rw [dc_first m c t h (by omega) (mdl_real m c hq hk hv hc hct t) i, zero_add, zero_add])
    (fun t h i => by rw [dc_next m c t h (mdl_real m c hq hk hv hc hct t) i, add_assoc]) t h s).trans ?_
  rw [zero_add, Finset.sum_add_distrib]
  refine congrArg₂ (fun a b : EReal => a + b) ?_ ?_
  · refine Fin.sum_mul_add_congr (f := fun u => -grad73 m c (ix3 (hd t) u s)) fun i r hl => ?_
    rw [mdl_run m c hq hk hv hc hct t i _ r hl]
  · have ht : ∀ (i : Fin 4) (hi), tile (⟨4 * (t.val / 4) + i.val, hi⟩ : Fin cfg0.N) = i.val := fun i hi => by
      rw [tile_val]; show (4 * (t.val / 4) + i.val) % 4 = i.val; omega
    have hb : s.val / 1024 < 4 := by omega
    have hts := ht ⟨s.val / 1024, hb⟩ (by have := t.isLt; have hN : cfg0.N = 32 := N_0; dsimp only; omega)
    dsimp only at hts
    rw [Finset.sum_eq_single (⟨s.val / 1024, hb⟩ : Fin 4)]
    · rw [dif_pos (by dsimp only; rw [hts]; omega)]
      refine Finset.sum_congr rfl fun u _ => ?_
      rw [mdl_run m c hq hk hv hc hct t ⟨s.val / 1024, hb⟩ _ _ (by dsimp only; rw [hts]; omega)]
      refine congrArg (fun z => grad73 m c (ix3 (hd t) z u)) (Fin.ext ?_)
      dsimp only
      rw [hts]; omega
    · intro i _ hi
      refine dif_neg fun hh => hi (Fin.ext ?_)
      rw [ht] at hh
      show i.val = s.val / 1024
      omega
    · intro hn; exact absurd (Finset.mem_univ _) hn

theorem final_dk : (dats m 0 c).arrAt 8 (cfgs 0).N = val_main_v98 (F := Ideal) (aq m c) (ak m c) (av m c) (ac m c) (act m c) := by
  refine (dats m 0 c).arrAt_eq_of_covers 8 _ (by decide +kernel) fun t hf y => ?_
  have h3 := (flush0_8 t).mp hf
  blk_simp; rw [after0_8]
  obtain ⟨s, d, rfl⟩ : ∃ (r : Fin 4096) (d : Fin 128), y = ix2 r d := ⟨y 0, y 1, by funext a; match a with | 0 => rfl | 1 => rfl⟩
  exact (dk_last m c t (by omega) h3 s d).trans ((dk_run m c hq hk hv hc hct t h3 s d).trans ((congrArg _ (emb_dk t s d)).trans (ref_dk _ _ _ _ _ (hd t) s d)).symm)

theorem final_dv : (dats m 0 c).arrAt 9 (cfgs 0).N = val_main_v100 (F := Ideal) (aq m c) (ak m c) (ac m c) (act m c) := by
  refine (dats m 0 c).arrAt_eq_of_covers 9 _ (by decide +kernel) fun t hf y => ?_
  have h3 := (flush0_9 t).mp hf
  blk_simp; rw [after0_9]
  obtain ⟨s, d, rfl⟩ : ∃ (r : Fin 4096) (d : Fin 128), y = ix2 r d := ⟨y 0, y 1, by funext a; match a with | 0 => rfl | 1 => rfl⟩
  exact (dv_last m c t (by omega) h3 s d).trans ((dv_run m c hq hk hv hc hct t h3 s d).trans ((congrArg _ (emb_dv t s d)).trans (ref_dv _ _ _ _ (hd t) s d)).symm)

omit hq hk hv hc hct in
/-- A row of 4096 per head cut into four tiles of 1024, as the launch stores it. -/
def dcArr (f : FVec Ideal S8x4096 .f32) : FVec Ideal S8x4x1x1024 .f32 := fun i =>
  f (ix2 (i 0) ⟨(i 1).val * 1024 + (i 3).val, by have h1 : (i 1).val < 4 := (i 1).isLt; have h3 : (i 3).val < 1024 := (i 3).isLt; omega⟩)

omit hq hk hv hc hct in
/-- Laid in a row again the tiles are the array. -/
theorem flat_dcArr (f : FVec Ideal S8x4096 .f32) : shapeCast S8x4096 (dcArr f) shapeCasts_S8x4x1x1024_S8x4096 = f := by
  funext j
  idx_vars j
  pointwise [dcArr]
  exact congrArg (fun z => f (ix2 j0 z)) (Fin.ext (Nat.div_add_mod' j1.val 1024))

theorem final_dc : (dats m 0 c).arrAt 10 (cfgs 0).N = dcArr (val_main_v101 (F := Ideal) (aq m c) (ak m c) (av m c) (ac m c) (act m c)) := by
  refine (dats m 0 c).arrAt_eq_of_covers 10 _ (by decide +kernel) fun t hf y => ?_
  have h3 := (flush0_10 t).mp hf
  blk_simp; rw [after0_10]
  obtain ⟨b, r, rfl⟩ : ∃ (b : Fin 4) (r : Fin 1024), y = ix4 0 b 0 r := ⟨y 1, y 3, by funext a; match a with | 0 => exact Subsingleton.elim (α := Fin 1) _ _ | 1 => rfl | 2 => exact Subsingleton.elim (α := Fin 1) _ _ | 3 => rfl⟩
  have e : (ix4 0 b 0 r : S1x4x1x1024.Idx) = at4 ⟨b.val * 1024 + r.val, by omega⟩ := by
    funext a
    match a with
    | 0 => rfl
    | 1 => exact Fin.ext (by show b.val = (b.val * 1024 + r.val) / 1024; omega)
    | 2 => rfl
    | 3 => exact Fin.ext (by show r.val = (b.val * 1024 + r.val) % 1024; omega)
  refine (congrArg _ e).trans ((dc_run m c hq hk hv hc hct t h3 _).trans ((congrArg (dcArr _) (emb_dc t b r)).trans (ref_dc _ _ _ _ _ (hd t) ⟨b.val * 1024 + r.val, by omega⟩)).symm)

omit hq hk hv hc hct in
/-- The gradient of the gate sums that the run leaves: the launch's tiles laid in a row by the host. -/
theorem tail_dc : Pipeline.afterTail₀ cfgs (dats m) 0 (V0 m) [hostOps1] c main_v62
    = shapeCast S8x4096 ((dats m 0 c).arrAt 10 (cfgs 0).N) shapeCasts_S8x4x1x1024_S8x4096 := by
  refine Eq.trans (b := shapeCast S8x4096
    (Pipeline.withArrays (cfgs 0).spec c (V0 m c) (fun w => (dats m 0 c).arrAt w (cfgs 0).N) (Proc.devRef .tc main_v61_3)) shapeCasts_S8x4x1x1024_S8x4096) rfl ?_
  exact congrArg (fun f => shapeCast S8x4096 f shapeCasts_S8x4x1x1024_S8x4096) ((dats m 0 c).withArrays_arrAt sharedIn0 (V0 m c) (A_eq m c) 10)

theorem result_dc : shapeCast S8x4096 ((dats m 0 c).arrAt 10 (cfgs 0).N) shapeCasts_S8x4x1x1024_S8x4096 = val_main_v101 (F := Ideal) (aq m c) (ak m c) (av m c) (ac m c) (act m c) := by
  rw [final_dc m c hq hk hv hc hct, flat_dcArr]

set_option maxHeartbeats 4000000 in
omit hq hk hv hc hct in
/-- The whole run: the four gradients are the reference's, the arguments are unchanged. -/
theorem kernel_run (ρ : Dev nD → PrngReg) (hreal : ∀ c : Dev nD, IsReal (aq m c) ∧ IsReal (ak m c) ∧ IsReal (av m c) ∧ IsReal (ac m c) ∧ IsReal (act m c)) :
    θ_run defs (onTc (τ := τ) (main (F := Ideal))) ⟨m, fun _ => 0, ρ⟩ fun r => ∀ c : Dev nD,
    r.2.mem ((c.tc : Thread nD τ).loc main_v61_0) = val_main_v96 (F := Ideal) (aq m c) (ak m c) (av m c) (ac m c) (act m c)
    ∧ r.2.mem ((c.tc : Thread nD τ).loc main_v61_1) = val_main_v98 (F := Ideal) (aq m c) (ak m c) (av m c) (ac m c) (act m c)
    ∧ r.2.mem ((c.tc : Thread nD τ).loc main_v61_2) = val_main_v100 (F := Ideal) (aq m c) (ak m c) (ac m c) (act m c)
    ∧ r.2.mem ((c.tc : Thread nD τ).loc main_v62) = val_main_v101 (F := Ideal) (aq m c) (ak m c) (av m c) (ac m c) (act m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.KernelIdeal.Gen.run_main m ρ & Cert.KernelIdeal.Gen.unchanged m ρ
  all_goals obtain ⟨hq, hk, hv, hc, hct⟩ := hreal c
  · exact final_dq m c hq hk hv hc hct
  · exact final_dk m c hq hk hv hc hct
  · exact final_dv m c hq hk hv hc hct
  · rw [tail_dc]; exact result_dc m c hq hk hv hc hct

end Cert.FoxBwd
end
-- ==== Proof.FoxBwdClaim.lean ====
/- The backward of the attention with forget gates: the claims about this call, from the kernel's run and the reference's run. -/
module

public import proofs.«01_k».proof.Defs
public import proofs.«01_k».proof.Proof.Gen.Kernel.Frame
public import proofs.«01_k».proof.Proof.Gen.ReferenceIdeal.Run
public import proofs.«01_k».proof.Proof.Gen.ReferenceIdeal.Read
public import proofs.«01_k».proof.Proof.Gen.Pre_finite
public import proofs.«01_k».proof.Proof.FoxKernel
public import Idealize.ShloMosaic.Adequacy
public import Idealize.ShloMosaic.Init

@[expose] public section

set_option maxRecDepth 16384

noncomputable section

namespace Cert.FoxBwd

open Idealize.ShloMosaic Idealize.SL.Sem

/-- What the precondition says of the launch memory: these arguments hold reals. -/
theorem finite (m : (ℓ : Loc KernelIdeal.nD KernelIdeal.τ KernelIdeal.sig) → Buf (Elt Ideal) ℓ) (h : Cert.Pre_KernelIdeal_finite m) (c : Dev KernelIdeal.nD) :
    RealOps.IsReal (m ((c.tc : Thread KernelIdeal.nD KernelIdeal.τ).loc KernelIdeal.main_arg0))
    ∧ RealOps.IsReal (m ((c.tc : Thread KernelIdeal.nD KernelIdeal.τ).loc KernelIdeal.main_arg1))
    ∧ RealOps.IsReal (m ((c.tc : Thread KernelIdeal.nD KernelIdeal.τ).loc KernelIdeal.main_arg2))
    ∧ RealOps.IsReal (m ((c.tc : Thread KernelIdeal.nD KernelIdeal.τ).loc KernelIdeal.main_arg3))
    ∧ RealOps.IsReal (m ((c.tc : Thread KernelIdeal.nD KernelIdeal.τ).loc KernelIdeal.main_arg4)) :=
  ⟨RealOps.isReal_of_finite _ _ (h c).1, RealOps.isReal_of_finite _ _ (h c).2.1, RealOps.isReal_of_finite _ _ (h c).2.2.1, RealOps.isReal_of_finite _ _ (h c).2.2.2.1, RealOps.isReal_of_finite _ _ (h c).2.2.2.2⟩

/-- The two idealized programs leave the same results. -/
theorem algebraic : Cert.algebraic_KernelIdeal_ReferenceIdeal_pre_finite := by
  pair_intro
  · exact Cert.FoxBwd.kernel_run m g (finite m hpre)
  · refine (θ_run Cert.ReferenceIdeal.defs _ _).mono (fun r h c => ?_) (Cert.ReferenceIdeal.Value.run m' g')
    obtain ⟨e0, e1, e2, e3, e4⟩ := hagree c
    obtain ⟨a0, a1, a2, a3, a4⟩ := h c
    refine ⟨a0.trans ((Cert.ReferenceIdeal.Read.val_main_v96_eq m' c).trans ?_), a1.trans ((Cert.ReferenceIdeal.Read.val_main_v98_eq m' c).trans ?_), a2.trans ((Cert.ReferenceIdeal.Read.val_main_v100_eq m' c).trans ?_), a3.trans ((Cert.ReferenceIdeal.Read.val_main_v101_eq m' c).trans ?_), a4⟩
    · rw [e0, e1, e2, e3, e4]
    · rw [e0, e1, e2, e3, e4]
    · rw [e0, e1, e3, e4]
    · rw [e0, e1, e2, e3, e4]

/-- The reference's run leaves its arguments as they were; it declares no semaphore. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run m ρ)

end Cert.FoxBwd

end
-- ==== Proof.Rows.lean ====
/- Arrays of 4096 rows kept as running sums: loads and stores of a window of rows, read at an index, and the sums over
   windows of keys that such stores build up. -/
module

public import Idealize.ShloMosaic.Lib.Pipeline.ValueKit
public import Idealize.ShloMosaic.Lib.WritesUnit
public import Idealize.ShloMosaic.Lib.WordCmp

@[expose] public section

set_option maxRecDepth 16384

noncomputable section

open Idealize.ShloMosaic Idealize.ShloMosaic.TcCoe Idealize.SL.Sem
open scoped BigOperators

namespace Cert.Rows

section Stores
variable {D : ℕ} {sig : RefSig} {κ : Kind} {sp : Space} {Val : EltTy → Type}

/-- A load of rows `[o, o + W)` reads the buffer's row `o + s`. -/
theorem readAt_rows {e : EltTy} {W : ℕ} (v : View sig κ sp (⟨2, ![4096, D]⟩ : Shape) e) (f : v.ty.Contents Val) {off : Fin 2 → ℕ} (o : ℕ)
    (inb : ∀ a : Fin 2, off a + (![W, D] : Fin 2 → ℕ) a ≤ ((⟨2, ![4096, D]⟩ : Shape)).size a) (hoff : off = ![o, 0]) (s : Fin W)
    (d : Fin D) (h : o + s.val < 4096) :
    v.readAt Val (Rect.unit (s := (⟨2, ![4096, D]⟩ : Shape)) off ![W, D] inb).toLoadRect f (ix2 s d) = v.read Val f (ix2 ⟨o + s.val, h⟩ d) := by
  subst hoff
  show v.read Val f _ = _
  refine congrArg _ (funext fun a => Fin.ext ?_)
  match a with
  | 0 => show o + 1 * s.val = o + s.val; omega
  | 1 => show 0 + 1 * d.val = d.val; omega

variable (v : View sig κ sp (⟨2, ![4096, D]⟩ : Shape) .f32) (f : v.ty.Contents (Elt Ideal))

/-- A store to rows `[o, o + W)` of what the buffer held there plus `A` adds `A` on these rows and nothing elsewhere. -/
theorem read_add_rows {W : ℕ} (L : List (View.Piece (Elt Ideal) (⟨2, ![4096, D]⟩ : Shape) .f32)) {off : Fin 2 → ℕ} (o : ℕ)
    (inb : ∀ a : Fin 2, off a + (![W, D] : Fin 2 → ℕ) a ≤ ((⟨2, ![4096, D]⟩ : Shape)).size a) (hoff : off = ![o, 0])
    (w : (Rect.unit (s := (⟨2, ![4096, D]⟩ : Shape)) off ![W, D] inb).shape.Idx → EReal) (A : Fin 4096 → Fin D → EReal) (hW : o + W ≤ 4096)
    (hw : ∀ (s : Fin W) (d : Fin D), w (ix2 s d)
      = (show EReal from v.read (Elt Ideal) (v.writes (Elt Ideal) f L) (ix2 ⟨o + s.val, by omega⟩ d)) + A ⟨o + s.val, by omega⟩ d)
    (s : Fin 4096) (d : Fin D) :
    v.read (Elt Ideal) (v.writes (Elt Ideal) f ((⟨Rect.unit off ![W, D] inb, w⟩ : View.Piece (Elt Ideal) (⟨2, ![4096, D]⟩ : Shape) .f32) :: L)) (ix2 s d)
      = (show EReal from v.read (Elt Ideal) (v.writes (Elt Ideal) f L) (ix2 s d)) + (if o ≤ s.val ∧ s.val < o + W then A s d else 0) := by
  by_cases h : o ≤ s.val ∧ s.val < o + W
  · rw [if_pos h]
    refine (View.read_writes_cons_rows_of_mem v f inb w L (ix2 s d) (ix2 ⟨s.val - o, by omega⟩ d) hoff ?_ rfl).trans ?_
    · show s.val = o + (s.val - o)
      omega
    · refine (hw ⟨s.val - o, by omega⟩ d).trans ?_
      have e : (⟨o + (s.val - o), by omega⟩ : Fin 4096) = s := Fin.ext (by show o + (s.val - o) = s.val; omega)
      show _ + A ⟨o + (s.val - o), _⟩ d = _ + A s d
      rw [e]
  · rw [if_neg h]
    refine (View.read_writes_cons_rows_of_not_mem v f inb w L (ix2 s d) hoff rfl ?_).trans (add_zero _).symm
    show s.val < o ∨ o + W ≤ s.val
    omega

end Stores

/-- A load of rows of a held array. -/
theorem ld_rows {D : ℕ} {e : EltTy} {W : ℕ} (X : ((⟨2, ![4096, D]⟩ : Shape)).Idx → Elt Ideal e) {off : Fin 2 → ℕ} (o : ℕ)
    (inb : ∀ a : Fin 2, off a + (![W, D] : Fin 2 → ℕ) a ≤ ((⟨2, ![4096, D]⟩ : Shape)).size a) (hoff : off = ![o, 0]) (s : Fin W)
    (d : Fin D) (h : o + s.val < 4096) : View.ld X (Rect.unit (s := (⟨2, ![4096, D]⟩ : Shape)) off ![W, D] inb) (ix2 s d) = X (ix2 ⟨o + s.val, h⟩ d) :=
  by
  subst hoff
  refine congrArg X (funext fun a => Fin.ext ?_)
  match a with
  | 0 => show o + 1 * s.val = o + s.val; omega
  | 1 => show 0 + 1 * d.val = d.val; omega

/-- A load of a window of columns of a held array. -/
theorem ld_cols {D : ℕ} {e : EltTy} {N W : ℕ} (X : (⟨2, ![N, D]⟩ : Shape).Idx → Elt Ideal e) {off : Fin 2 → ℕ} (o : ℕ)
    (inb : ∀ a : Fin 2, off a + (![N, W] : Fin 2 → ℕ) a ≤ (⟨2, ![N, D]⟩ : Shape).size a) (hoff : off = ![0, o]) (s : Fin N)
    (d : Fin W) (h : o + d.val < D) : View.ld X (Rect.unit (s := (⟨2, ![N, D]⟩ : Shape)) off ![N, W] inb) (ix2 s d) = X (ix2 s ⟨o + d.val, h⟩) := by
  subst hoff
  refine congrArg X (funext fun a => Fin.ext ?_)
  match a with
  | 0 => show 0 + 1 * s.val = s.val; omega
  | 1 => show o + 1 * d.val = o + d.val; omega

section Columns
variable {sig : RefSig} {κ : Kind} {sp : Space} {N : ℕ} {e : EltTy} (v : View sig κ sp (⟨2, ![N, 256]⟩ : Shape) e) (f : v.ty.Contents (Elt Ideal))
  {inb0 : ∀ a : Fin 2, (![0, 0] : Fin 2 → ℕ) a + (![N, 128] : Fin 2 → ℕ) a ≤ (⟨2, ![N, 256]⟩ : Shape).size a}
  {inb1 : ∀ a : Fin 2, (![0, 128] : Fin 2 → ℕ) a + (![N, 128] : Fin 2 → ℕ) a ≤ (⟨2, ![N, 256]⟩ : Shape).size a}
  (w0 : (Rect.unit (s := (⟨2, ![N, 256]⟩ : Shape)) ![0, 0] ![N, 128] inb0).shape.Idx → Elt Ideal e)
  (w1 : (Rect.unit (s := (⟨2, ![N, 256]⟩ : Shape)) ![0, 128] ![N, 128] inb1).shape.Idx → Elt Ideal e)
  (L : List (View.Piece (Elt Ideal) (⟨2, ![N, 256]⟩ : Shape) e)) (s : Fin N) (d : Fin 128)

/-- Two halves of columns stored one after the other: the first. -/
theorem halves_low : v.read (Elt Ideal) (v.writes (Elt Ideal) f (⟨Rect.unit ![0, 128] ![N, 128] inb1, w1⟩ :: ⟨Rect.unit ![0, 0] ![N, 128] inb0, w0⟩ :: L))
    (ix2 s ⟨d.val, by omega⟩) = w0 (ix2 s d) := by
  refine (View.read_writes_cons_unit_of_not_mem v f inb1 w1 _ (ix2 s ⟨d.val, by omega⟩) rfl 1 (Or.inl d.isLt)).trans ?_
  refine View.read_writes_cons_unit_of_mem v f inb0 w0 L (ix2 s ⟨d.val, by omega⟩) (ix2 s d) rfl fun a => ?_
  match a with
  | 0 => exact (Nat.zero_add _).symm
  | 1 => exact (Nat.zero_add _).symm

/-- The second. -/
theorem halves_high : v.read (Elt Ideal) (v.writes (Elt Ideal) f (⟨Rect.unit ![0, 128] ![N, 128] inb1, w1⟩ :: L))
    (ix2 s ⟨128 + d.val, by omega⟩) = w1 (ix2 s d) := by
  refine View.read_writes_cons_unit_of_mem v f inb1 w1 L (ix2 s ⟨128 + d.val, by omega⟩) (ix2 s d) rfl fun a => ?_
  match a with
  | 0 => exact (Nat.zero_add _).symm
  | 1 => rfl

end Columns

/-- A load of the rectangle last stored. -/
theorem readCov_last {sig : RefSig} {k : Kind} {sp : Space} {s : Shape} {e : EltTy} (v : View sig k sp s e) (f : v.ty.Contents (Elt Ideal)) (L : List (View.Piece (Elt Ideal) s e)) (p : View.Piece (Elt Ideal) s e) :
    v.readCov (p :: L) p.1.toLoadRect = v.readAt (Elt Ideal) p.1.toLoadRect (v.writes (Elt Ideal) f (p :: L)) :=
  (View.readAt_writes_of_cover v f _ _ fun j => ⟨p, List.mem_cons_self .., p.1.idx_mem j⟩).symm

/-- A load of rows just stored. -/
theorem readCov_rows {D : ℕ} {sig : RefSig} {κ : Kind} {sp : Space} {e : EltTy} {W : ℕ} (v : View sig κ sp (⟨2, ![4096, D]⟩ : Shape) e) (f : v.ty.Contents (Elt Ideal)) (L : List (View.Piece (Elt Ideal) (⟨2, ![4096, D]⟩ : Shape) e))
    {off : Fin 2 → ℕ} (o : ℕ) {inb : ∀ a : Fin 2, off a + (![W, D] : Fin 2 → ℕ) a ≤ ((⟨2, ![4096, D]⟩ : Shape)).size a} (hoff : off = ![o, 0])
    {w : (Rect.unit (s := (⟨2, ![4096, D]⟩ : Shape)) off ![W, D] inb).shape.Idx → Elt Ideal e} (s : Fin W) (d : Fin D) (h : o + s.val < 4096) :
    v.readCov (⟨Rect.unit off ![W, D] inb, w⟩ :: L) (Rect.unit (s := (⟨2, ![4096, D]⟩ : Shape)) off ![W, D] inb).toLoadRect (ix2 s d)
      = v.read (Elt Ideal) (v.writes (Elt Ideal) f (⟨Rect.unit off ![W, D] inb, w⟩ :: L)) (ix2 ⟨o + s.val, h⟩ d) :=
  (congrFun (readCov_last v f L ⟨Rect.unit off ![W, D] inb, w⟩) (ix2 s d)).trans (readAt_rows v _ o inb hoff s d h)

/-- A fresh array of rows after its whole fill. -/
theorem fill_rows {D : ℕ} {sig : RefSig} {κ : Kind} {sp : Space} (v : View sig κ sp (⟨2, ![4096, D]⟩ : Shape) .f32) (f : v.ty.Contents (Elt Ideal))
    {inb : ∀ a : Fin 2, (![0, 0] : Fin 2 → ℕ) a + (![4096, D] : Fin 2 → ℕ) a ≤ ((⟨2, ![4096, D]⟩ : Shape)).size a}
    (w : (Rect.unit (s := (⟨2, ![4096, D]⟩ : Shape)) ![0, 0] ![4096, D] inb).shape.Idx → Elt Ideal .f32) (s : Fin 4096) (d : Fin D) :
    v.read (Elt Ideal) (v.writes (Elt Ideal) f [⟨Rect.unit ![0, 0] ![4096, D] inb, w⟩]) (ix2 s d) = w (ix2 s d) :=
  View.read_writes_cons_rows_of_mem v f inb w [] (ix2 s d) (ix2 s d) rfl (by show s.val = 0 + s.val; omega) rfl

/-- A sum over the keys of one window is a sum over the places in it. -/
theorem sum_window {M : Type} [AddCommMonoid M] {N : ℕ} (f : Fin N → M) (o W : ℕ) (h : o + W ≤ N) :
    (∑ s : Fin N, if o ≤ s.val ∧ s.val < o + W then f s else 0) = ∑ r : Fin W, f ⟨o + r.val, by omega⟩ := by
  rw [← Finset.sum_filter]
  refine Finset.sum_bij' (fun s hs => ⟨s.val - o, by have := (Finset.mem_filter.mp hs).2; omega⟩)
    (fun r _ => ⟨o + r.val, by omega⟩) ?_ ?_ ?_ ?_ ?_
  · intro s _; exact Finset.mem_univ _
  · intro r _
    refine Finset.mem_filter.mpr ⟨Finset.mem_univ _, ?_, ?_⟩
    · show o ≤ o + r.val; omega
    · show o + r.val < o + W; omega
  · intro s hs
    have := (Finset.mem_filter.mp hs).2
    exact Fin.ext (by show o + (s.val - o) = s.val; omega)
  · intro r _
    exact Fin.ext (by show o + r.val - o = r.val; omega)
  · intro s hs
    have := (Finset.mem_filter.mp hs).2
    exact congrArg f (Fin.ext (by show s.val = o + (s.val - o); omega))

/-- Widening the window of a conditional by the next `W` keys. -/
theorem ite_window {M : Type} [AddCommMonoid M] (x : M) (s o W : ℕ) :
    (if s < o then x else 0) + (if o ≤ s ∧ s < o + W then x else 0) = if s < o + W then x else 0 := by
  by_cases h : s < o
  · rw [if_pos h, if_neg (by omega), if_pos (by omega), add_zero]
  · by_cases h2 : s < o + W
    · rw [if_neg h, if_pos (by omega), if_pos h2, zero_add]
    · rw [if_neg h, if_neg (by omega), if_neg h2, add_zero]

/-- Widening the window of a sum by the next `W` keys. -/
theorem sum_widen {M : Type} [AddCommMonoid M] {N : ℕ} (f : Fin N → M) (o W : ℕ) (h : o + W ≤ N) :
    (∑ s : Fin N, if s.val < o then f s else 0) + (∑ r : Fin W, f ⟨o + r.val, by omega⟩)
      = ∑ s : Fin N, if s.val < o + W then f s else 0 := by
  rw [← sum_window f o W h, ← Finset.sum_add_distrib]
  exact Finset.sum_congr rfl fun s _ => ite_window (f s) s.val o W

/-- A select on a decided condition. -/
theorem select_ofBool (p : Prop) [Decidable p] (a : EReal) : Scalar.select (BitVec.ofBool (decide p)) a (0 : EReal) = if p then a else 0 := by
  by_cases h : p
  · rw [if_pos h, decide_eq_true h]; rfl
  · rw [if_neg h, decide_eq_false h]; rfl

/-- A select on "row at or below column" of two positions, as a condition. -/
theorem select_ge (x y : Fin 512) (a : EReal) :
    Scalar.select (IntOp.cmpi CmpIPredicate.sge (BitVec.ofNat 32 x.val) (BitVec.ofNat 32 y.val)) a (0 : EReal) = if y.val ≤ x.val then a else 0 := by
  rw [WordCmp.cmpi_sge_ofNat (by omega) (by omega)]
  exact select_ofBool _ a

/-- A select on "row equal to column", as a condition. -/
theorem select_eq (x y : Fin 1024) (a : EReal) :
    Scalar.select (IntOp.cmpi CmpIPredicate.eq (BitVec.ofNat 32 x.val) (BitVec.ofNat 32 y.val)) a (0 : EReal) = if x = y then a else 0 := by
  rw [WordCmp.cmpi_eq_ofNat (by omega) (by omega)]
  refine (select_ofBool _ a).trans ?_
  simp only [Fin.ext_iff]

/-- The three half blocks of the diagonal tile and the tiles before it, summed over the rows of the tile: all of it. -/
theorem sum_rows (b s : ℕ) (F : Fin 1024 → EReal) (h0 : ∀ r : Fin 1024, b * 1024 + r.val < s → F r = 0) :
    ((if s < b * 1024 then ∑ r, F r else 0)
      + (if b * 1024 ≤ s ∧ s < b * 1024 + 512 then ∑ x : Fin 512, F ⟨x.val, by omega⟩ else 0)
      + (if b * 1024 ≤ s ∧ s < b * 1024 + 512 then ∑ x : Fin 512, F ⟨512 + x.val, by omega⟩ else 0)
      + (if b * 1024 + 512 ≤ s ∧ s < b * 1024 + 512 + 512 then ∑ x : Fin 512, F ⟨512 + x.val, by omega⟩ else 0)) = ∑ r, F r := by
  have hsplit : (∑ r, F r) = (∑ x : Fin 512, F ⟨x.val, by omega⟩) + ∑ x : Fin 512, F ⟨512 + x.val, by omega⟩ :=
    Fin.sum_univ_add (a := 512) (b := 512) F
  by_cases h1 : s < b * 1024
  · rw [if_pos h1, if_neg (by omega), if_neg (by omega), if_neg (by omega)]
    simp only [add_zero]
  · rw [if_neg h1, zero_add]
    by_cases h2 : s < b * 1024 + 512
    · rw [if_pos (by omega), if_pos (by omega), if_neg (by omega), add_zero, ← hsplit]
    · have hl : (∑ x : Fin 512, F ⟨x.val, by omega⟩) = 0 := Finset.sum_eq_zero fun x _ => h0 _ (by show b * 1024 + x.val < s; omega)
      rw [if_neg (by omega), if_neg (by omega), hsplit, hl]
      by_cases h3 : s < b * 1024 + 1024
      · rw [if_pos (by omega)]
        simp only [zero_add]
      · have hh : (∑ x : Fin 512, F ⟨512 + x.val, by omega⟩) = 0 :=
          Finset.sum_eq_zero fun x _ => h0 _ (by show b * 1024 + (512 + x.val) < s; omega)
        rw [if_neg (by omega), hh]
        simp only [add_zero]

/-- The same along the keys, for a row of the first half and for one of the second. -/
theorem sum_keys_low (b : ℕ) (hb : b < 4) (F : Fin 4096 → EReal) (x : Fin 512) (h0 : ∀ s : Fin 4096, b * 1024 + x.val < s.val → F s = 0) :
    (∑ s : Fin 4096, if s.val < b * 1024 then F s else 0) + (∑ y : Fin 512, F ⟨b * 1024 + y.val, by omega⟩) = ∑ s, F s := by
  rw [sum_widen F (b * 1024) 512 (by omega)]
  refine Finset.sum_congr rfl fun s _ => ?_
  by_cases h : s.val < b * 1024 + 512
  · exact if_pos h
  · rw [if_neg h, h0 s (by omega)]

/-- For a row of the second half. -/
theorem sum_keys_high (b : ℕ) (hb : b < 4) (F : Fin 4096 → EReal) (x : Fin 512) (h0 : ∀ s : Fin 4096, b * 1024 + (512 + x.val) < s.val → F s = 0) :
    (∑ s : Fin 4096, if s.val < b * 1024 then F s else 0) + (∑ y : Fin 512, F ⟨b * 1024 + y.val, by omega⟩)
      + (∑ y : Fin 512, F ⟨b * 1024 + 512 + y.val, by omega⟩) = ∑ s, F s := by
  rw [sum_widen F (b * 1024) 512 (by omega), sum_widen F (b * 1024 + 512) 512 (by omega)]
  refine Finset.sum_congr rfl fun s _ => ?_
  by_cases h : s.val < b * 1024 + 512 + 512
  · exact if_pos h
  · rw [if_neg h, h0 s (by omega)]

/-- Four terms in the order the stores leave them. -/
theorem add_four (g a x y z : EReal) : g + a + x + y + z = g + (a + x + y + z) := by simp only [add_assoc]

/-- The kernel turns a row of statistics into a column by a sum over the diagonal. -/
theorem diagonal (f : Fin 1024 → EReal) (r : Fin 1024) :
    ∑ x : Fin 1024, Scalar.select (IntOp.cmpi CmpIPredicate.eq (BitVec.ofNat 32 r.val) (BitVec.ofNat 32 x.val)) (f x) 0 = f r := by
  rw [Finset.sum_eq_single r]
  · rw [WordCmp.cmpi_eq_ofNat (by omega) (by omega)]; simp [Scalar.select]
  · intro x _ hx
    have : r.val ≠ x.val := fun e => hx (Fin.ext e.symm)
    rw [WordCmp.cmpi_eq_ofNat (by omega) (by omega)]; simp [Scalar.select, this]
  · intro h; exact absurd (Finset.mem_univ r) h

end Cert.Rows
end
-- ==== Proof.MlaLoop.lean ====
/- The loop of the latent attention backward over the key tiles before the diagonal: what its trips add. -/
module

public import proofs.«01_k».proof.Proof.Gen.Kernel2Ideal.Loops
public import Idealize.ShloMosaic.Lib.Pipeline.ValueKit
public import proofs.«01_k».proof.Proof.Rows

@[expose] public section

set_option maxRecDepth 16384

noncomputable section

open Idealize.ShloMosaic Idealize.ShloMosaic.TcCoe Idealize.SL.Sem
open scoped BigOperators

namespace Cert.MlaBwd
open Cert.Rows
open Cert.Kernel2Ideal Cert.Kernel2Ideal.Gen

/-- The factor of the logits, `1/sqrt 192` as the program rounds it. -/
abbrev scale : EReal := Ideal.ofBits .f32 0x3D93CD3A#32

section Weights
variable (q : FVec Ideal S1024x256 .bf16) (dO : FVec Ideal S1024x128 .bf16) (delta lse : FVec Ideal S1024x1 .f32)
  (k : FVec Ideal S4096x256 .bf16) (v : FVec Ideal S4096x128 .bf16)

/-- The attention weight of query row `i` of a tile on key `s`: `exp` of the logit less the row's log-sum-exp. -/
def wt (i : Fin 1024) (s : Fin 4096) : EReal :=
  Ideal.exp ((∑ x, q (ix2 i x) * k (ix2 s x)) * scale - lse (ix2 i 0))

/-- The gradient of the logit of row `i` and key `s`. -/
def dl (i : Fin 1024) (s : Fin 4096) : EReal :=
  wt q lse k i s * (∑ x, dO (ix2 i x) * v (ix2 s x) - delta (ix2 i 0))

end Weights

/-- Where a trip reads and writes. -/
theorem off1 : ∀ (i : grid0.Coords) (k : Fin (k0_t1_loop i).trips), k0_off1 i k = ![k.val * 1024, 0] := by decide +kernel
/-- The same of the narrower arrays. -/
theorem off2 : ∀ (i : grid0.Coords) (k : Fin (k0_t1_loop i).trips), k0_off2 i k = ![k.val * 1024, 0] := by decide +kernel
/-- The unmasked loop of query tile `i 1` has one trip for each earlier tile. -/
theorem trips1 : ∀ (i : grid0.Coords), (k0_t1_loop i).trips = (i 1).val := by decide +kernel
/-- The loop after it, over what the unrolling left, has none. -/
theorem trips2 : ∀ (i : grid0.Coords), (k0_t2_loop i).trips = 0 := by decide +kernel

variable (𝒱 : Variants) (c : Dev nD) (bd : Option 𝒱.V) (i : grid0.Coords)
  (arg2 : Memref sig .tc .vmem S1024x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S1024x128 .bf16) (harg6 : arg6.IsWhole)
  (arg7 : Memref sig .tc .vmem S1024x128 .bf16) (harg7 : arg7.IsWhole)
  (arg8 : Memref sig .tc .vmem S1x1x1x1024 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x256 .bf16) (harg12 : arg12.IsWhole)
  (arg13 : Memref sig .tc .vmem S4096x256 .bf16) (harg13 : arg13.IsWhole)
  (arg14 : Memref sig .tc .vmem S4096x128 .f32) (harg14 : arg14.IsWhole)
  (arg15 : Memref sig .tc .vmem S4096x256 .bf16) (harg15 : arg15.IsWhole)
  (arg16 : Memref sig .tc .vmem S4096x256 .f32) (harg16 : arg16.IsWhole)
  (arg17 : Memref sig .tc .vmem S4096x128 .f32) (harg17 : arg17.IsWhole)
  (arg1 : BitVec 32) (v9 : FVec Ideal S1024x256 .bf16) (v11 : FVec Ideal S1024x128 .bf16) (v18 v29 : FVec Ideal S1024x1 .f32)
  (v30 : FVec Ideal S1024x256 .f32) (c0_i32_17 v32 c1_i32 : BitVec 32)
  (X5 : BufTy.Contents (Elt Ideal) arg5.view.ty) (X15 : BufTy.Contents (Elt Ideal) arg15.view.ty)
  (G16 : BufTy.Contents (Elt Ideal) arg16.view.ty) (G17 : BufTy.Contents (Elt Ideal) arg17.view.ty)
  (init : FVec Ideal S1024x256 .f32)

/-- What the loop over the earlier key tiles has added after `n` trips: to the query gradient it carries, and to the key
   and value gradients it stores, the terms of the keys before `1024 n`. -/
structure After (k : FVec Ideal S4096x256 .bf16) (v : FVec Ideal S4096x128 .bf16) (n : ℕ) (st : FVec Ideal S1024x256 .f32
    × List (View.Piece (Elt Ideal) S4096x256 .f32) × List (View.Piece (Elt Ideal) S4096x128 .f32)) : Prop where
  dq : ∀ (r : Fin 1024) (d : Fin 256), st.1 (ix2 r d) = init (ix2 r d) + ∑ s : Fin 4096, if s.val < n * 1024 then
    dl v9 v11 v18 v29 k v r s * scale * k (ix2 s d) else 0
  dk : ∀ (s : Fin 4096) (d : Fin 256), arg16.view.read (Elt Ideal) (arg16.view.writes (Elt Ideal) G16 st.2.1) (ix2 s d)
    = (show EReal from arg16.view.read (Elt Ideal) G16 (ix2 s d)) + if s.val < n * 1024 then
    ∑ r, dl v9 v11 v18 v29 k v r s * scale * v9 (ix2 r d) else 0
  dv : ∀ (s : Fin 4096) (d : Fin 128), arg17.view.read (Elt Ideal) (arg17.view.writes (Elt Ideal) G17 st.2.2) (ix2 s d)
    = (show EReal from arg17.view.read (Elt Ideal) G17 (ix2 s d)) + if s.val < n * 1024 then
    ∑ r, wt v9 v29 k r s * v11 (ix2 r d) else 0

/-- The loop over the earlier key tiles. -/
theorem after_loop (n : ℕ) (hn : n ≤ (k0_t1_loop i).trips) :
    After arg16 arg17 v9 v11 v18 v29 G16 G17 init (arg15.view.read (Elt Ideal) X15) (arg5.view.read (Elt Ideal) X5) n
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v9 v11 v18 v29 v30 c0_i32_17 v32 c1_i32 X5 X15 G16 G17 init n) := by
  induction n with
  | zero =>
    refine ⟨fun r d => ?_, fun s d => ?_, fun s d => ?_⟩ <;>
      simp only [Nat.zero_mul, Nat.not_lt_zero, if_false, Finset.sum_const_zero, add_zero] <;> rfl
  | succ n ih =>
    have hk := ih (Nat.le_of_succ_le hn)
    have hsucc := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v9 v11 v18 v29 v30 c0_i32_17 v32 c1_i32 X5 X15 G16 G17 init ⟨n, hn⟩
    generalize hst : st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v9 v11 v18 v29 v30 c0_i32_17 v32 c1_i32 X5 X15 G16 G17 init n = st at hk hsucc
    have ho1 := off1 i ⟨n, hn⟩
    have ho2 := off2 i ⟨n, hn⟩
    have hn4 : n + 1 ≤ 4 := le_of_le_of_eq (hn.trans ((trips1 i).le.trans (i 1).isLt.le)) rfl
    have r15 : ∀ (s : Fin 1024) (d : Fin 256), arg15.view.readAt (Elt Ideal) (Rect.unit (s := S4096x256) (k0_off1 i ⟨n, hn⟩) ![1024, 256] (k0_off1_inb i ⟨n, hn⟩)).toLoadRect X15 (ix2 s d)
        = arg15.view.read (Elt Ideal) X15 (ix2 ⟨n * 1024 + s.val, by omega⟩ d) := fun s d => readAt_rows (D := 256) _ _ (n * 1024) _ ho1 s d _
    have r5 : ∀ (s : Fin 1024) (d : Fin 128), arg5.view.readAt (Elt Ideal) (Rect.unit (s := S4096x128) (k0_off2 i ⟨n, hn⟩) ![1024, 128] (k0_off2_inb i ⟨n, hn⟩)).toLoadRect X5 (ix2 s d)
        = arg5.view.read (Elt Ideal) X5 (ix2 ⟨n * 1024 + s.val, by omega⟩ d) := fun s d => readAt_rows (D := 128) _ _ (n * 1024) _ ho2 s d _
    refine cast (congrArg _ hsucc.symm) ?_
    unfold tripR_k0_t1 tripL_k0_t1 trip_k0_t1
    dsimp only
    refine ⟨fun r d => ?_, fun s d => ?_, fun s d => ?_⟩
    · rw [Nat.succ_mul, ← sum_widen _ (n * 1024) 1024 (by omega), ← add_assoc, ← hk.dq r d]
      show k0_pay18 (F := Ideal) _ _ _ _ _ _ _ (ix2 r d) = _
      pointwise [k0_pay18, k0_pay15, k0_pay14]
      refine congrArg _ (Finset.sum_congr rfl fun s _ => ?_)
      simp only [r15, r5]
      rfl
    · rw [Nat.succ_mul, ← ite_window, ← add_assoc, ← hk.dk s d]
      refine read_add_rows (D := 256) arg16.view G16 st.2.1 (n * 1024) _ ho1 _ (fun s d => ∑ r, dl v9 v11 v18 v29 (arg15.view.read (Elt Ideal) X15)
        (arg5.view.read (Elt Ideal) X5) r s * scale * v9 (ix2 r d)) (by omega) (fun s d => ?_) s d
      pointwise [k0_pay17, k0_pay15, k0_pay14]
      refine congrArg₂ (fun a b : EReal => a + b) (readAt_rows (D := 256) _ _ (n * 1024) _ ho1 s d (by omega)) (Finset.sum_congr rfl fun r _ => ?_)
      simp only [r15, r5]
      rfl
    · rw [Nat.succ_mul, ← ite_window, ← add_assoc, ← hk.dv s d]
      refine read_add_rows (D := 128) arg17.view G17 st.2.2 (n * 1024) _ ho2 _ (fun s d => ∑ r, wt v9 v29 (arg15.view.read (Elt Ideal) X15) r s * v11 (ix2 r d))
        (by omega) (fun s d => ?_) s d
      pointwise [k0_pay16, k0_pay14]
      refine congrArg₂ (fun a b : EReal => a + b) (readAt_rows (D := 128) _ _ (n * 1024) _ ho2 s d (by omega)) (Finset.sum_congr rfl fun r _ => ?_)
      simp only [r15]
      rfl

end Cert.MlaBwd
end
-- ==== Proof.MlaDiag.lean ====
/- The diagonal tile of the latent attention backward, taken in halves of 512 rows and keys. -/
module

public import proofs.«01_k».proof.Proof.MlaLoop

@[expose] public section

set_option maxRecDepth 16384

noncomputable section

open Idealize.ShloMosaic Idealize.ShloMosaic.TcCoe Idealize.SL.Sem
open scoped BigOperators

namespace Cert.MlaBwd
open Cert.Rows
open Cert.Kernel2Ideal Cert.Kernel2Ideal.Gen

section Tile
variable (b : ℕ) (q : FVec Ideal S1024x256 .bf16) (dO : FVec Ideal S1024x128 .bf16) (delta lse : FVec Ideal S1024x1 .f32)
  (k : FVec Ideal S4096x256 .bf16) (v : FVec Ideal S4096x128 .bf16)

/-- The weights of query tile `b`, row `b * 1024 + i` seeing the keys up to itself. -/
def mw (i : Fin 1024) (s : Fin 4096) : EReal := if s.val ≤ b * 1024 + i.val then wt q lse k i s else 0

/-- The gradient of the logits of query tile `b`. -/
def mdl (i : Fin 1024) (s : Fin 4096) : EReal :=
  mw b q lse k i s * (∑ x, dO (ix2 i x) * v (ix2 s x) - delta (ix2 i 0))

/-- Keys before the tile are seen by all its rows. -/
theorem mw_before (i : Fin 1024) (s : Fin 4096) (h : s.val < b * 1024) : mw b q lse k i s = wt q lse k i s := if_pos (by omega)
/-- The same of the gradient. -/
theorem mdl_before (i : Fin 1024) (s : Fin 4096) (h : s.val < b * 1024) :
    mdl b q dO delta lse k v i s = dl q dO delta lse k v i s := by
  unfold mdl dl
  rw [mw_before b q lse k i s h]
/-- A key after the row has no weight. -/
theorem mw_after (i : Fin 1024) (s : Fin 4096) (h : b * 1024 + i.val < s.val) : mw b q lse k i s = 0 := if_neg (by omega)
/-- Nor a gradient. -/
theorem mdl_after (i : Fin 1024) (s : Fin 4096) (h : b * 1024 + i.val < s.val) : mdl b q dO delta lse k v i s = 0 := by
  unfold mdl
  rw [mw_after b q lse k i s h, zero_mul]

/-- The half blocks of keys and values the diagonal tile `b` loads. -/
structure Halves (k0 k1 : FVec Ideal S512x256 .bf16) (v0 v1 : FVec Ideal S512x128 .bf16) : Prop where
  hb : b < 4
  k0 : ∀ (s : Fin 512) (x : Fin 256), k0 (ix2 s x) = k (ix2 ⟨b * 1024 + s.val, by omega⟩ x)
  k1 : ∀ (s : Fin 512) (x : Fin 256), k1 (ix2 s x) = k (ix2 ⟨b * 1024 + 512 + s.val, by omega⟩ x)
  v0 : ∀ (s : Fin 512) (x : Fin 128), v0 (ix2 s x) = v (ix2 ⟨b * 1024 + s.val, by omega⟩ x)
  v1 : ∀ (s : Fin 512) (x : Fin 128), v1 (ix2 s x) = v (ix2 ⟨b * 1024 + 512 + s.val, by omega⟩ x)

variable {b q dO delta lse k v} {k0 k1 : FVec Ideal S512x256 .bf16} {v0 v1 : FVec Ideal S512x128 .bf16}
  (H : Halves b k v k0 k1 v0 v1)
include H

/-- Rows and keys of the first half: the triangle. -/
theorem w_ll (x s : Fin 512) : k0_pay27 (F := Ideal) q lse k0 (ix2 x s) = mw b q lse k ⟨x.val, by omega⟩ ⟨b * 1024 + s.val, by have := H.hb; omega⟩ := by
  pointwise [k0_pay27, k0_pay25]
  simp only [select_ge, H.k0]
  unfold mw wt
  simp only [Nat.add_le_add_iff_left]

/-- Their logit gradients, scaled. -/
theorem d_ll (x s : Fin 512) : k0_pay28 (F := Ideal) q dO delta lse k0 v0 (ix2 x s) = mdl b q dO delta lse k v ⟨x.val, by omega⟩ ⟨b * 1024 + s.val, by have := H.hb; omega⟩ * scale := by
  pointwise [k0_pay28, k0_pay26]
  rw [w_ll H]
  simp only [H.v0]
  rfl

/-- Rows of the second half, keys of the first: the square. -/
theorem w_lh (x s : Fin 512) : k0_pay35 (F := Ideal) q lse k0 (ix2 x s) = mw b q lse k ⟨512 + x.val, by omega⟩ ⟨b * 1024 + s.val, by have := H.hb; omega⟩ := by
  pointwise [k0_pay35, k0_pay33]
  simp only [H.k0]
  exact (if_pos (by show b * 1024 + s.val ≤ b * 1024 + (512 + x.val); omega)).symm

/-- Their logit gradients, scaled. -/
theorem d_lh (x s : Fin 512) : k0_pay36 (F := Ideal) q dO delta lse k0 v0 (ix2 x s) = mdl b q dO delta lse k v ⟨512 + x.val, by omega⟩ ⟨b * 1024 + s.val, by have := H.hb; omega⟩ * scale := by
  pointwise [k0_pay36, k0_pay34]
  rw [w_lh H]
  simp only [H.v0]
  rfl

/-- Rows and keys of the second half: the triangle. -/
theorem w_hh (x s : Fin 512) : k0_pay43 (F := Ideal) q lse k1 (ix2 x s) = mw b q lse k ⟨512 + x.val, by omega⟩ ⟨b * 1024 + 512 + s.val, by have := H.hb; omega⟩ := by
  pointwise [k0_pay43, k0_pay41]
  simp only [select_ge, H.k1]
  unfold mw wt
  simp only [Nat.add_assoc, Nat.add_le_add_iff_left]

/-- Their logit gradients, scaled. -/
theorem d_hh (x s : Fin 512) : k0_pay44 (F := Ideal) q dO delta lse k1 v1 (ix2 x s) = mdl b q dO delta lse k v ⟨512 + x.val, by omega⟩ ⟨b * 1024 + 512 + s.val, by have := H.hb; omega⟩ * scale := by
  pointwise [k0_pay44, k0_pay42]
  rw [w_hh H]
  simp only [H.v1]
  rfl

end Tile

end Cert.MlaBwd
end
-- ==== Proof.MlaTile.lean ====
/- The running sums of the latent attention backward after a diagonal tile. -/
module

public import proofs.«01_k».proof.Proof.MlaDiag

@[expose] public section

set_option maxRecDepth 16384

noncomputable section

open Idealize.ShloMosaic Idealize.ShloMosaic.TcCoe Idealize.SL.Sem
open scoped BigOperators

namespace Cert.MlaBwd
open Cert.Rows
open Cert.Kernel2Ideal Cert.Kernel2Ideal.Gen

variable {sig' : RefSig} {κ : Kind} {sp : Space} {b : ℕ} {q : FVec Ideal S1024x256 .bf16} {dO : FVec Ideal S1024x128 .bf16}
  {delta lse : FVec Ideal S1024x1 .f32} {k : FVec Ideal S4096x256 .bf16} {v : FVec Ideal S4096x128 .bf16}
  {k0 k1 : FVec Ideal S512x256 .bf16} {v0 v1 : FVec Ideal S512x128 .bf16}

section
variable (w : View sig' κ sp S4096x256 .f32) (f : w.ty.Contents (Elt Ideal)) (L : List (View.Piece (Elt Ideal) S4096x256 .f32))
  {off off' : Fin 2 → ℕ} (inb : ∀ a : Fin 2, off a + (![512, 256] : Fin 2 → ℕ) a ≤ S4096x256.size a)
  (inb' : ∀ a : Fin 2, off' a + (![512, 256] : Fin 2 → ℕ) a ≤ S4096x256.size a)
  (hoff : off = ![b * 1024, 0]) (hoff' : off' = ![b * 1024 + 512, 0]) (o0 o1 o2 : FVec Ideal S512x256 .f32)
include hoff hoff'

/-- The key gradient after the diagonal tile: before the tile, plus the terms of all the tile's rows. -/
theorem tile_dk (H : Halves b k v k0 k1 v0 v1) (g : Fin 4096 → Fin 256 → EReal)
    (hL : ∀ (s : Fin 4096) (d : Fin 256), w.read (Elt Ideal) (w.writes (Elt Ideal) f L) (ix2 s d)
      = g s d + if s.val < b * 1024 then ∑ r, dl q dO delta lse k v r s * scale * q (ix2 r d) else 0)
    (h0 : ∀ (s : Fin 512) (d : Fin 256), o0 (ix2 s d) = w.read (Elt Ideal) (w.writes (Elt Ideal) f L) (ix2 ⟨b * 1024 + s.val, by have := H.hb; omega⟩ d))
    (h1 : ∀ (s : Fin 512) (d : Fin 256), o1 (ix2 s d) = w.read (Elt Ideal) (w.writes (Elt Ideal) f
      ((⟨Rect.unit off ![512, 256] inb, k0_pay30 (F := Ideal) (k0_pay25 q) (k0_pay28 q dO delta lse k0 v0) o0⟩ : View.Piece (Elt Ideal) S4096x256 .f32) :: L)) (ix2 ⟨b * 1024 + s.val, by have := H.hb; omega⟩ d))
    (h2 : ∀ (s : Fin 512) (d : Fin 256), o2 (ix2 s d) = w.read (Elt Ideal) (w.writes (Elt Ideal) f
      ((⟨Rect.unit off ![512, 256] inb, k0_pay39 (F := Ideal) (k0_pay33 q) (k0_pay36 q dO delta lse k0 v0) o1⟩ : View.Piece (Elt Ideal) S4096x256 .f32)
        :: (⟨Rect.unit off ![512, 256] inb, k0_pay30 (F := Ideal) (k0_pay25 q) (k0_pay28 q dO delta lse k0 v0) o0⟩ : View.Piece (Elt Ideal) S4096x256 .f32) :: L))
      (ix2 ⟨b * 1024 + 512 + s.val, by have := H.hb; omega⟩ d))
    (s : Fin 4096) (d : Fin 256) :
    w.read (Elt Ideal) (w.writes (Elt Ideal) f
      ((⟨Rect.unit off' ![512, 256] inb', k0_pay47 (F := Ideal) (k0_pay41 q) (k0_pay44 q dO delta lse k1 v1) o2⟩ : View.Piece (Elt Ideal) S4096x256 .f32)
        :: (⟨Rect.unit off ![512, 256] inb, k0_pay39 (F := Ideal) (k0_pay33 q) (k0_pay36 q dO delta lse k0 v0) o1⟩ : View.Piece (Elt Ideal) S4096x256 .f32)
        :: (⟨Rect.unit off ![512, 256] inb, k0_pay30 (F := Ideal) (k0_pay25 q) (k0_pay28 q dO delta lse k0 v0) o0⟩ : View.Piece (Elt Ideal) S4096x256 .f32) :: L))
      (ix2 s d) = g s d + ∑ r, mdl b q dO delta lse k v r s * scale * q (ix2 r d) := by
  have hb := H.hb
  have e0 := read_add_rows (D := 256) w f L (b * 1024) inb hoff (k0_pay30 (F := Ideal) (k0_pay25 q) (k0_pay28 q dO delta lse k0 v0) o0)
    (fun s d => ∑ x : Fin 512, mdl b q dO delta lse k v ⟨x.val, by omega⟩ s * scale * q (ix2 ⟨x.val, by omega⟩ d)) (by omega) (fun s d => by
      pointwise [k0_pay30, k0_pay25]
      refine congrArg₂ (fun a b : EReal => a + b) (h0 s d) (Finset.sum_congr rfl fun x _ => ?_)
      rw [d_ll H])
  have e1 := read_add_rows (D := 256) w f _ (b * 1024) inb hoff (k0_pay39 (F := Ideal) (k0_pay33 q) (k0_pay36 q dO delta lse k0 v0) o1)
    (fun s d => ∑ x : Fin 512, mdl b q dO delta lse k v ⟨512 + x.val, by omega⟩ s * scale * q (ix2 ⟨512 + x.val, by omega⟩ d)) (by omega) (fun s d => by
      pointwise [k0_pay39, k0_pay33]
      refine congrArg₂ (fun a b : EReal => a + b) (h1 s d) (Finset.sum_congr rfl fun x _ => ?_)
      rw [d_lh H])
  have e2 := read_add_rows (D := 256) w f _ (b * 1024 + 512) inb' hoff' (k0_pay47 (F := Ideal) (k0_pay41 q) (k0_pay44 q dO delta lse k1 v1) o2)
    (fun s d => ∑ x : Fin 512, mdl b q dO delta lse k v ⟨512 + x.val, by omega⟩ s * scale * q (ix2 ⟨512 + x.val, by omega⟩ d)) (by omega) (fun s d => by
      pointwise [k0_pay47, k0_pay41]
      refine congrArg₂ (fun a b : EReal => a + b) (h2 s d) (Finset.sum_congr rfl fun x _ => ?_)
      rw [d_hh H])
  refine (e2 s d).trans ?_
  simp only [e1, e0, hL]
  refine (add_four _ _ _ _ _).trans (congrArg (g s d + ·) ?_)
  refine Eq.trans ?_ (sum_rows b s.val (fun r => mdl b q dO delta lse k v r s * scale * q (ix2 r d)) fun r h => ?_)
  · refine congrArg (fun a => a + _ + _ + _) ?_
    by_cases h : s.val < b * 1024
    · rw [if_pos h, if_pos h]
      exact Finset.sum_congr rfl fun r _ => by rw [mdl_before b q dO delta lse k v r s h]
    · rw [if_neg h, if_neg h]
  · show mdl b q dO delta lse k v r s * scale * q (ix2 r d) = 0
    rw [mdl_after b q dO delta lse k v r s h, zero_mul, zero_mul]

end

section
variable (w : View sig' κ sp S4096x128 .f32) (f : w.ty.Contents (Elt Ideal)) (L : List (View.Piece (Elt Ideal) S4096x128 .f32))
  {off off' : Fin 2 → ℕ} (inb : ∀ a : Fin 2, off a + (![512, 128] : Fin 2 → ℕ) a ≤ S4096x128.size a)
  (inb' : ∀ a : Fin 2, off' a + (![512, 128] : Fin 2 → ℕ) a ≤ S4096x128.size a)
  (hoff : off = ![b * 1024, 0]) (hoff' : off' = ![b * 1024 + 512, 0]) (o0 o1 o2 : FVec Ideal S512x128 .f32)
include hoff hoff'

/-- The value gradient after the diagonal tile: before the tile, plus the terms of all the tile's rows. -/
theorem tile_dv (H : Halves b k v k0 k1 v0 v1) (g : Fin 4096 → Fin 128 → EReal)
    (hL : ∀ (s : Fin 4096) (d : Fin 128), w.read (Elt Ideal) (w.writes (Elt Ideal) f L) (ix2 s d)
      = g s d + if s.val < b * 1024 then ∑ r, wt q lse k r s * dO (ix2 r d) else 0)
    (h0 : ∀ (s : Fin 512) (d : Fin 128), o0 (ix2 s d) = w.read (Elt Ideal) (w.writes (Elt Ideal) f L) (ix2 ⟨b * 1024 + s.val, by have := H.hb; omega⟩ d))
    (h1 : ∀ (s : Fin 512) (d : Fin 128), o1 (ix2 s d) = w.read (Elt Ideal) (w.writes (Elt Ideal) f
      ((⟨Rect.unit off ![512, 128] inb, k0_pay29 (F := Ideal) q dO lse k0 o0⟩ : View.Piece (Elt Ideal) S4096x128 .f32) :: L)) (ix2 ⟨b * 1024 + s.val, by have := H.hb; omega⟩ d))
    (h2 : ∀ (s : Fin 512) (d : Fin 128), o2 (ix2 s d) = w.read (Elt Ideal) (w.writes (Elt Ideal) f
      ((⟨Rect.unit off ![512, 128] inb, k0_pay38 (F := Ideal) (k0_pay37 q dO lse k0 o1)⟩ : View.Piece (Elt Ideal) S4096x128 .f32)
        :: (⟨Rect.unit off ![512, 128] inb, k0_pay29 (F := Ideal) q dO lse k0 o0⟩ : View.Piece (Elt Ideal) S4096x128 .f32) :: L))
      (ix2 ⟨b * 1024 + 512 + s.val, by have := H.hb; omega⟩ d))
    (s : Fin 4096) (d : Fin 128) :
    w.read (Elt Ideal) (w.writes (Elt Ideal) f
      ((⟨Rect.unit off' ![512, 128] inb', k0_pay46 (F := Ideal) (k0_pay42 dO) o2 (k0_pay45 q lse k1)⟩ : View.Piece (Elt Ideal) S4096x128 .f32)
        :: (⟨Rect.unit off ![512, 128] inb, k0_pay38 (F := Ideal) (k0_pay37 q dO lse k0 o1)⟩ : View.Piece (Elt Ideal) S4096x128 .f32)
        :: (⟨Rect.unit off ![512, 128] inb, k0_pay29 (F := Ideal) q dO lse k0 o0⟩ : View.Piece (Elt Ideal) S4096x128 .f32) :: L))
      (ix2 s d) = g s d + ∑ r, mw b q lse k r s * dO (ix2 r d) := by
  have hb := H.hb
  have e0 := read_add_rows (D := 128) w f L (b * 1024) inb hoff (k0_pay29 (F := Ideal) q dO lse k0 o0)
    (fun s d => ∑ x : Fin 512, mw b q lse k ⟨x.val, by omega⟩ s * dO (ix2 ⟨x.val, by omega⟩ d)) (by omega) (fun s d => by
      pointwise [k0_pay29, k0_pay26]
      refine congrArg₂ (fun a b : EReal => a + b) (h0 s d) (Finset.sum_congr rfl fun x _ => ?_)
      rw [w_ll H])
  have e1 := read_add_rows (D := 128) w f _ (b * 1024) inb hoff (k0_pay38 (F := Ideal) (k0_pay37 q dO lse k0 o1))
    (fun s d => ∑ x : Fin 512, mw b q lse k ⟨512 + x.val, by omega⟩ s * dO (ix2 ⟨512 + x.val, by omega⟩ d)) (by omega) (fun s d => by
      pointwise [k0_pay38, k0_pay37, k0_pay34]
      refine congrArg₂ (fun a b : EReal => a + b) (h1 s d) (Finset.sum_congr rfl fun x _ => ?_)
      rw [w_lh H])
  have e2 := read_add_rows (D := 128) w f _ (b * 1024 + 512) inb' hoff' (k0_pay46 (F := Ideal) (k0_pay42 dO) o2 (k0_pay45 q lse k1))
    (fun s d => ∑ x : Fin 512, mw b q lse k ⟨512 + x.val, by omega⟩ s * dO (ix2 ⟨512 + x.val, by omega⟩ d)) (by omega) (fun s d => by
      pointwise [k0_pay46, k0_pay45, k0_pay42]
      refine congrArg₂ (fun a b : EReal => a + b) (h2 s d) (Finset.sum_congr rfl fun x _ => ?_)
      rw [w_hh H])
  refine (e2 s d).trans ?_
  simp only [e1, e0, hL]
  refine (add_four _ _ _ _ _).trans (congrArg (g s d + ·) ?_)
  refine Eq.trans ?_ (sum_rows b s.val (fun r => mw b q lse k r s * dO (ix2 r d)) fun r h => ?_)
  · refine congrArg (fun a => a + _ + _ + _) ?_
    by_cases h : s.val < b * 1024
    · rw [if_pos h, if_pos h]
      exact Finset.sum_congr rfl fun r _ => by rw [mw_before b q lse k r s h]
    · rw [if_neg h, if_neg h]
  · show mw b q lse k r s * dO (ix2 r d) = 0
    rw [mw_after b q lse k r s h, zero_mul]

end

/-- The query gradient of the tile, before its rotary part is turned back: its rows' terms over all keys they see. -/
theorem tile_dq (H : Halves b k v k0 k1 v0 v1) (acc : FVec Ideal S1024x256 .f32)
    (ha : ∀ (r : Fin 1024) (d : Fin 256), acc (ix2 r d)
      = ∑ s : Fin 4096, if s.val < b * 1024 then dl q dO delta lse k v r s * scale * k (ix2 s d) else 0) (r : Fin 1024) (d : Fin 256) :
    k0_pay48 (F := Ideal) (k0_pay31 (k0_pay24 acc) k0 (k0_pay28 q dO delta lse k0 v0))
      (k0_pay40 (k0_pay32 acc) k0 (k0_pay36 q dO delta lse k0 v0)) k1 (k0_pay44 q dO delta lse k1 v1) (ix2 r d)
      = ∑ s, mdl b q dO delta lse k v r s * scale * k (ix2 s d) := by
  have hb := H.hb
  have hbefore : ∀ r : Fin 1024, acc (ix2 r d) = ∑ s : Fin 4096, if s.val < b * 1024 then mdl b q dO delta lse k v r s * scale * k (ix2 s d) else 0 := fun r => by
    rw [ha r d]
    refine Finset.sum_congr rfl fun s _ => ?_
    by_cases h : s.val < b * 1024
    · rw [if_pos h, if_pos h, mdl_before b q dO delta lse k v r s h]
    · rw [if_neg h, if_neg h]
  pointwise [k0_pay48, k0_pay40, k0_pay32, k0_pay31, k0_pay24]
  simp only [d_ll H, d_lh H, d_hh H, H.k0, H.k1]
  by_cases hr : r.val < 512
  · rw [dif_pos hr, hbefore]
    exact sum_keys_low b hb (fun s => mdl b q dO delta lse k v r s * scale * k (ix2 s d)) ⟨r.val, hr⟩ fun s h => by
      show mdl b q dO delta lse k v r s * scale * k (ix2 s d) = 0
      rw [mdl_after b q dO delta lse k v r s h, zero_mul, zero_mul]
  · rw [dif_neg hr, hbefore]
    have e : (⟨512 + (r.val - 512), by omega⟩ : Fin 1024) = r := Fin.ext (by show 512 + (r.val - 512) = r.val; omega)
    rw [e]
    exact sum_keys_high b hb (fun s => mdl b q dO delta lse k v r s * scale * k (ix2 s d)) ⟨r.val - 512, by omega⟩ fun s h => by
      have h : b * 1024 + (512 + (r.val - 512)) < s.val := h
      show mdl b q dO delta lse k v r s * scale * k (ix2 s d) = 0
      rw [mdl_after b q dO delta lse k v r s (by omega), zero_mul, zero_mul]

end Cert.MlaBwd
end
-- ==== Proof.MlaCases.lean ====
/- The running sums of the latent attention backward at the kinds of grid point. -/
module

public import proofs.«01_k».proof.Proof.Gen.Kernel2Ideal.Frame
public import proofs.«01_k».proof.Proof.MlaTile

@[expose] public section

set_option maxRecDepth 16384

noncomputable section

open Idealize.ShloMosaic Idealize.ShloMosaic.TcCoe Idealize.SL.Sem
open scoped BigOperators

namespace Cert.MlaBwd
open Cert.Rows
open Cert.Kernel2Ideal Cert.Kernel2Ideal.Gen

/-- Where the diagonal tile reads and writes. -/
theorem off5_low : ∀ i : grid0.Coords, k0_off5 i 0#32 = ![(i 1).val * 1024, 0] := by decide +kernel
/-- Its second half. -/
theorem off5_high : ∀ i : grid0.Coords, k0_off5 i 512#32 = ![(i 1).val * 1024 + 512, 0] := by decide +kernel
/-- The same of the narrower arrays. -/
theorem off6_low : ∀ i : grid0.Coords, k0_off6 i 0#32 = ![(i 1).val * 1024, 0] := by decide +kernel
/-- Their second half. -/
theorem off6_high : ∀ i : grid0.Coords, k0_off6 i 512#32 = ![(i 1).val * 1024 + 512, 0] := by decide +kernel

section Second
variable (𝒱 : Variants) (c : Dev nD) (bd : Option 𝒱.V) (i : grid0.Coords)
  (arg2 : Memref sig .tc .vmem S1024x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S1024x128 .bf16) (harg6 : arg6.IsWhole)
  (arg7 : Memref sig .tc .vmem S1024x128 .bf16) (harg7 : arg7.IsWhole)
  (arg8 : Memref sig .tc .vmem S1x1x1x1024 .f32) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x256 .bf16) (harg12 : arg12.IsWhole)
  (arg13 : Memref sig .tc .vmem S4096x256 .bf16) (harg13 : arg13.IsWhole)
  (arg14 : Memref sig .tc .vmem S4096x128 .f32) (harg14 : arg14.IsWhole)
  (arg15 : Memref sig .tc .vmem S4096x256 .bf16) (harg15 : arg15.IsWhole)
  (arg16 : Memref sig .tc .vmem S4096x256 .f32) (harg16 : arg16.IsWhole)
  (arg17 : Memref sig .tc .vmem S4096x128 .f32) (harg17 : arg17.IsWhole)
  (arg1 : BitVec 32) (v9 : FVec Ideal S1024x256 .bf16) (v11 : FVec Ideal S1024x128 .bf16) (v18 v29 : FVec Ideal S1024x1 .f32)
  (v30 : FVec Ideal S1024x256 .f32) (c0_i32_17 v32 c1_i32 : BitVec 32)
  (X5 : BufTy.Contents (Elt Ideal) arg5.view.ty) (X15 : BufTy.Contents (Elt Ideal) arg15.view.ty)
  (G16 : BufTy.Contents (Elt Ideal) arg16.view.ty) (G17 : BufTy.Contents (Elt Ideal) arg17.view.ty)
  (init : FVec Ideal S1024x256 .f32)

/-- The second loop does nothing. -/
theorem after_second (n : ℕ) (hn : n = 0) : st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v9 v11 v18 v29 v30 c0_i32_17 v32 c1_i32 X5 X15 G16 G17 init n = (init, [], []) := by
  subst hn
  rfl

end Second

variable (m : (ℓ : Loc nD τ sig) → Buf (Elt Ideal) ℓ) (c : Dev nD) (t : Fin cfg0.N)

/-- The query tile of a grid point. -/
abbrev tile : ℕ := (grid0.coords t 1).val
/-- Its queries. -/
abbrev qT : FVec Ideal S1024x256 .bf16 := k0_pay9 (iblk m c 0 t)
/-- Its output gradients. -/
abbrev doT : FVec Ideal S1024x128 .bf16 := k0_pay10 (iblk m c 5 t)
/-- Its row sums of output times output gradient. -/
abbrev deltaT : FVec Ideal S1024x1 .f32 := k0_pay11 (iblk m c 5 t) (iblk m c 4 t)
/-- Its log-sum-exps. -/
abbrev lseT : FVec Ideal S1024x1 .f32 := k0_pay12 (iblk m c 6 t)
/-- The keys of a grid point: the head's own part, then the rotary part. -/
def keyT : S4096x256.Idx → Elt Ideal .bf16 := fun y =>
  if h : (y 1).val < 128 then (show EReal from iblk m c 1 t (ix2 (y 0) ⟨(y 1).val, h⟩))
  else (show EReal from iblk m c 2 t (ix2 (y 0) ⟨(y 1).val - 128, by have : (y 1).val < 256 := (y 1).isLt; omega⟩))
/-- The gradient of the logits at a grid point. -/
abbrev mdlT (r : Fin 1024) (s : Fin 4096) : EReal :=
  mdl (tile t) (qT m c t) (doT m c t) (deltaT m c t) (lseT m c t) (keyT m c t) (iblk m c 3 t) r s
/-- The weights at a grid point. -/
abbrev mwT (r : Fin 1024) (s : Fin 4096) : EReal :=
  mw (tile t) (qT m c t) (lseT m c t) (keyT m c t) r s

/-- The two halves of columns stored into the key array. -/
theorem keys_stored : View.read (Elt Ideal) (View.whole cc0_scratch0) ((View.whole cc0_scratch0).writes (Elt Ideal) (View.whole cc0_scratch0).junk [⟨Rect.unit ![0, 128] ![4096, 128] inb_S4096x256_S4096x128_0_128, k0_pay5 (iblk m c 2 t)⟩, ⟨Rect.unit ![0, 0] ![4096, 128] inb_S4096x256_S4096x128_0_0, k0_pay4 (iblk m c 1 t)⟩]) = keyT m c t := by
  funext y
  have h2 : (y 1).val < 256 := (y 1).isLt
  by_cases h : (y 1).val < 128
  · have hy : y = ix2 (y 0) ⟨(⟨(y 1).val, h⟩ : Fin 128).val, h2⟩ := by funext a; match a with | 0 => rfl | 1 => rfl
    refine Eq.trans ?_ (dif_pos h).symm
    refine ((congrArg _ hy).trans (halves_low (View.whole cc0_scratch0) _ _ _ [] (y 0) ⟨(y 1).val, h⟩)).trans ?_
    pointwise [k0_pay4]
  · have hy : y = ix2 (y 0) ⟨128 + (⟨(y 1).val - 128, by omega⟩ : Fin 128).val, by show 128 + ((y 1).val - 128) < 256; omega⟩ := by
      funext a
      match a with
      | 0 => rfl
      | 1 => exact Fin.ext (by show (y 1).val = 128 + ((y 1).val - 128); omega)
    refine Eq.trans ?_ (dif_neg h).symm
    refine ((congrArg _ hy).trans (halves_high (View.whole cc0_scratch0) _ _ _ (y 0) ⟨(y 1).val - 128, by omega⟩)).trans ?_
    pointwise [k0_pay5]

/-- The same, of the pieces alone. -/
theorem keys_canon : View.canon ([⟨Rect.unit ![0, 128] ![4096, 128] inb_S4096x256_S4096x128_0_128, k0_pay5 (iblk m c 2 t)⟩, ⟨Rect.unit ![0, 0] ![4096, 128] inb_S4096x256_S4096x128_0_0, k0_pay4 (iblk m c 1 t)⟩] : List (View.Piece (Elt Ideal) S4096x256 .bf16)) = keyT m c t :=
  (View.read_writes_junk_eq_canon (View.whole cc0_scratch0) _).symm.trans (keys_stored m c t)

/-- The two halves of the keys and values of the tile on the diagonal. -/
theorem halves (il : ∀ a : Fin 2, k0_off5 (grid0.coords t) 0#32 a + (![512, 256] : Fin 2 → ℕ) a ≤ S4096x256.size a)
    (ih : ∀ a : Fin 2, k0_off5 (grid0.coords t) 512#32 a + (![512, 256] : Fin 2 → ℕ) a ≤ S4096x256.size a)
    (jl : ∀ a : Fin 2, k0_off6 (grid0.coords t) 0#32 a + (![512, 128] : Fin 2 → ℕ) a ≤ S4096x128.size a)
    (jh : ∀ a : Fin 2, k0_off6 (grid0.coords t) 512#32 a + (![512, 128] : Fin 2 → ℕ) a ≤ S4096x128.size a) :
    Halves (tile t) (keyT m c t) (iblk m c 3 t)
    (View.ld (keyT m c t) (Rect.unit (s := S4096x256) (k0_off5 (grid0.coords t) 0#32) ![512, 256] il))
    (View.ld (keyT m c t) (Rect.unit (s := S4096x256) (k0_off5 (grid0.coords t) 512#32) ![512, 256] ih))
    (View.ld (iblk m c 3 t) (Rect.unit (s := S4096x128) (k0_off6 (grid0.coords t) 0#32) ![512, 128] jl))
    (View.ld (iblk m c 3 t) (Rect.unit (s := S4096x128) (k0_off6 (grid0.coords t) 512#32) ![512, 128] jh)) := by
  have hb : tile t < 4 := (grid0.coords t 1).isLt
  refine ⟨hb, fun s x => ?_, fun s x => ?_, fun s x => ?_, fun s x => ?_⟩
  · exact ld_rows (D := 256) _ _ _ (off5_low (grid0.coords t)) s x _
  · exact ld_rows (D := 256) _ _ _ (off5_high (grid0.coords t)) s x _
  · exact ld_rows (D := 128) _ _ _ (off6_low (grid0.coords t)) s x _
  · exact ld_rows (D := 128) _ _ _ (off6_high (grid0.coords t)) s x _

/-- The loop over the earlier tiles, at a grid point. -/
theorem after_at (X15 : BufTy.Contents (Elt Ideal) scM0_0.view.ty) (hX : scM0_0.view.read (Elt Ideal) X15 = keyT m c t)
    (G16 : BufTy.Contents (Elt Ideal) scM0_1.view.ty) (G17 : BufTy.Contents (Elt Ideal) scM0_2.view.ty) :
    After scM0_1 scM0_2 (qT m c t) (doT m c t) (deltaT m c t) (lseT m c t) G16 G17 k0_pay13 (keyT m c t) (iblk m c 3 t) (tile t)
      (st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
        scM0_0 (Memref.isWhole_whole _) scM0_1 (Memref.isWhole_whole _) scM0_2 (Memref.isWhole_whole _) (BitVec.ofNat 32 (tile t))
        (qT m c t) (doT m c t) (deltaT m c t) (lseT m c t) k0_pay13 (0#32) (Scalar.subi (BitVec.ofNat 32 (tile t)) 0#32) (1#32)
        ((hs0_3 t).unread (iblk m c 3 t)) X15 G16 G17 k0_pay13 (k0_t1_loop (grid0.coords t)).trips) := by
  have h := after_loop (hn := le_refl (k0_t1_loop (grid0.coords t)).trips) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
        scM0_0 (Memref.isWhole_whole _) scM0_1 (Memref.isWhole_whole _) scM0_2 (Memref.isWhole_whole _) (BitVec.ofNat 32 (tile t))
        (qT m c t) (doT m c t) (deltaT m c t) (lseT m c t) k0_pay13 (0#32) (Scalar.subi (BitVec.ofNat 32 (tile t)) 0#32) (1#32)
        ((hs0_3 t).unread (iblk m c 3 t)) X15 G16 G17 k0_pay13
  rw [hX, (hs0_3 t).read_unread] at h
  exact cast (by rw [show tile t = (k0_t1_loop (grid0.coords t)).trips from (trips1 _).symm]) h

/-- The keys held before a tile that is not its head's first. -/
abbrev keysBefore : FVec Ideal S4096x256 .bf16 := (outsAt0 m c (t.val - 1) (Nat.lt_of_le_of_lt (Nat.sub_le _ _) t.isLt)).2.2.2.1

/-- The keys held before such a tile, where they are the head's, as its loop reads them. -/
theorem keys_held (hk : keysBefore m c t = keyT m c t) :
    View.read (Elt Ideal) (View.whole cc0_scratch0) ((Memref.isWhole_whole cc0_scratch0).unread (keysBefore m c t)) = keyT m c t :=
  ((Memref.isWhole_whole cc0_scratch0).read_unread _).trans hk

/-- A head's first tile stores the head's keys. -/
theorem kf_first (h0 : t.val % 4 = 0) : (outsAt0 m c t.val t.isLt).2.2.2.1 = keyT m c t := by
  by_cases h1 : t.val % 32 = 0
  on_goal 1 => rw [outsAt0_A m c t h0 h1 (by omega)]
  on_goal 2 => rw [outsAt0_D m c t h0 h1 (by omega)]
  all_goals
    dsimp only
    frame_out
    exact keys_canon m c t

/-- A later one leaves them. -/
theorem kf_next (h0 : ¬t.val % 4 = 0) : (outsAt0 m c t.val t.isLt).2.2.2.1 = keysBefore m c t := by
  by_cases h2 : t.val % 4 = 3
  on_goal 1 => rw [outsAt0_C m c t h0 (by omega) h2]
  on_goal 2 => rw [outsAt0_B m c t h0 (by omega) h2]
  all_goals rfl

/-- The running key gradient after a head's first tile. -/
theorem dk_first (h0 : t.val % 4 = 0) (s : Fin 4096) (d : Fin 256) :
    (outsAt0 m c t.val t.isLt).2.2.2.2.1 (ix2 s d) = 0 + ∑ r, mdlT m c t r s * scale * qT m c t (ix2 r d) := by
  by_cases h1 : t.val % 32 = 0
  on_goal 1 => rw [outsAt0_A m c t h0 h1 (by omega)]
  on_goal 2 => rw [outsAt0_D m c t h0 h1 (by omega)]
  all_goals
    dsimp only
    frame_out
    rw [after_second (hn := trips2 (grid0.coords t))]
    dsimp only
    simp only [keys_canon, ← View.read_writes_junk_eq_canon (View.whole cc0_scratch1)]
    refine tile_dk (View.whole cc0_scratch1) _ _ _ _ (off5_low (grid0.coords t)) (off5_high (grid0.coords t)) _ _ _ (halves m c t _ _ (k0_off6_inb (grid0.coords t) 0) (k0_off6_inb (grid0.coords t) 1))
      (fun s d => 0) ?_ ?_ ?_ ?_ s d
    · intro s d
      rw [List.nil_append, View.writes_append]
      refine ((after_at m c t _ (keys_stored m c t) _ _).dk s d).trans ?_
      rw [fill_rows (D := 256)]
      pointwise [k0_pay6]
    · exact fun s d => readAt_rows (D := 256) _ _ _ _ (off5_low (grid0.coords t)) s d _
    · exact fun s d => readCov_rows (D := 256) _ _ _ _ (off5_low (grid0.coords t)) s d _
    · exact fun s d => readAt_rows (D := 256) _ _ _ _ (off5_high (grid0.coords t)) s d _

/-- The running key gradient after a later tile. -/
theorem dk_next (h0 : ¬t.val % 4 = 0) (hk : keysBefore m c t = keyT m c t) (s : Fin 4096) (d : Fin 256) :
    (outsAt0 m c t.val t.isLt).2.2.2.2.1 (ix2 s d)
      = (show EReal from (outsAt0 m c (t.val - 1) (Nat.lt_of_le_of_lt (Nat.sub_le _ _) t.isLt)).2.2.2.2.1 (ix2 s d)) + ∑ r, mdlT m c t r s * scale * qT m c t (ix2 r d) := by
  by_cases h2 : t.val % 4 = 3
  on_goal 1 => rw [outsAt0_C m c t h0 (by omega) h2]
  on_goal 2 => rw [outsAt0_B m c t h0 (by omega) h2]
  all_goals
    dsimp only
    frame_out
    rw [after_second (hn := trips2 (grid0.coords t))]
    dsimp only
    simp only [keys_held m c t hk]
    refine tile_dk (View.whole cc0_scratch1) _ _ _ _ (off5_low (grid0.coords t)) (off5_high (grid0.coords t)) _ _ _ (halves m c t _ _ (k0_off6_inb (grid0.coords t) 0) (k0_off6_inb (grid0.coords t) 1))
      (fun s d => (show EReal from (outsAt0 m c (t.val - 1) (Nat.lt_of_le_of_lt (Nat.sub_le _ _) t.isLt)).2.2.2.2.1 (ix2 s d))) ?_ ?_ ?_ ?_ s d
    · intro s d
      rw [List.nil_append]
      refine ((after_at m c t _ (keys_held m c t hk) _ _).dk s d).trans ?_
      rw [Memref.IsWhole.read_unread]
    · exact fun s d => readAt_rows (D := 256) _ _ _ _ (off5_low (grid0.coords t)) s d _
    · exact fun s d => readCov_rows (D := 256) _ _ _ _ (off5_low (grid0.coords t)) s d _
    · exact fun s d => readAt_rows (D := 256) _ _ _ _ (off5_high (grid0.coords t)) s d _

/-- The running value gradient after a head's first tile. -/
theorem dv_first (h0 : t.val % 4 = 0) (s : Fin 4096) (d : Fin 128) :
    (outsAt0 m c t.val t.isLt).2.2.2.2.2 (ix2 s d) = 0 + ∑ r, mwT m c t r s * doT m c t (ix2 r d) := by
  by_cases h1 : t.val % 32 = 0
  on_goal 1 => rw [outsAt0_A m c t h0 h1 (by omega)]
  on_goal 2 => rw [outsAt0_D m c t h0 h1 (by omega)]
  all_goals
    dsimp only
    frame_out
    rw [after_second (hn := trips2 (grid0.coords t))]
    dsimp only
    simp only [keys_canon, ← View.read_writes_junk_eq_canon (View.whole cc0_scratch2)]
    refine tile_dv (View.whole cc0_scratch2) _ _ _ _ (off6_low (grid0.coords t)) (off6_high (grid0.coords t)) _ _ _ (halves m c t _ _ (k0_off6_inb (grid0.coords t) 0) (k0_off6_inb (grid0.coords t) 1))
      (fun s d => 0) ?_ ?_ ?_ ?_ s d
    · intro s d
      rw [List.nil_append, View.writes_append]
      refine ((after_at m c t _ (keys_stored m c t) _ _).dv s d).trans ?_
      rw [fill_rows (D := 128)]
      pointwise [k0_pay7]
    · exact fun s d => readAt_rows (D := 128) _ _ _ _ (off6_low (grid0.coords t)) s d _
    · exact fun s d => readCov_rows (D := 128) _ _ _ _ (off6_low (grid0.coords t)) s d _
    · exact fun s d => readAt_rows (D := 128) _ _ _ _ (off6_high (grid0.coords t)) s d _

/-- The running value gradient after a later tile. -/
theorem dv_next (h0 : ¬t.val % 4 = 0) (hk : keysBefore m c t = keyT m c t) (s : Fin 4096) (d : Fin 128) :
    (outsAt0 m c t.val t.isLt).2.2.2.2.2 (ix2 s d)
      = (show EReal from (outsAt0 m c (t.val - 1) (Nat.lt_of_le_of_lt (Nat.sub_le _ _) t.isLt)).2.2.2.2.2 (ix2 s d)) + ∑ r, mwT m c t r s * doT m c t (ix2 r d) := by
  by_cases h2 : t.val % 4 = 3
  on_goal 1 => rw [outsAt0_C m c t h0 (by omega) h2]
  on_goal 2 => rw [outsAt0_B m c t h0 (by omega) h2]
  all_goals
    dsimp only
    frame_out
    rw [after_second (hn := trips2 (grid0.coords t))]
    dsimp only
    simp only [keys_held m c t hk]
    refine tile_dv (View.whole cc0_scratch2) _ _ _ _ (off6_low (grid0.coords t)) (off6_high (grid0.coords t)) _ _ _ (halves m c t _ _ (k0_off6_inb (grid0.coords t) 0) (k0_off6_inb (grid0.coords t) 1))
      (fun s d => (show EReal from (outsAt0 m c (t.val - 1) (Nat.lt_of_le_of_lt (Nat.sub_le _ _) t.isLt)).2.2.2.2.2 (ix2 s d))) ?_ ?_ ?_ ?_ s d
    · intro s d
      rw [List.nil_append]
      refine ((after_at m c t _ (keys_held m c t hk) _ _).dv s d).trans ?_
      rw [Memref.IsWhole.read_unread]
    · exact fun s d => readAt_rows (D := 128) _ _ _ _ (off6_low (grid0.coords t)) s d _
    · exact fun s d => readCov_rows (D := 128) _ _ _ _ (off6_low (grid0.coords t)) s d _
    · exact fun s d => readAt_rows (D := 128) _ _ _ _ (off6_high (grid0.coords t)) s d _

/-- The query gradient of a tile before its rotary part is turned back. -/
def dqT (r : Fin 1024) (d : Fin 256) : EReal := ∑ s, mdlT m c t r s * scale * (show EReal from keyT m c t (ix2 s d))

/-- What the program's turn back of the rotary part makes of a row of 128: the first 64 places by the cosines and sines it is given. -/
def turned (y : Fin 128 → EReal) (co sa sb : Fin 128 → EReal) (j : Fin 128) : EReal :=
  y j * co j - y ⟨(j.val + 32) % 128, by omega⟩ * sa j - y ⟨(j.val + 96) % 128, by omega⟩ * sb j

/-- The lower half of a tile's query gradient as stored. -/
theorem stored_low {v88 v133 : FVec Ideal S512x256 .f32} {v138 : Vec Ideal S512x256 .bf16} {v163 : FVec Ideal S512x512 .bf16} {Y : Fin 1024 → Fin 256 → EReal}
    (h : ∀ r d, k0_pay48 v88 v133 v138 v163 (ix2 r d) = Y r d) (r : Fin 1024) (d : Fin 128) :
    k0_pay49 v88 v133 v138 v163 (ix2 r d) = Y r ⟨d.val, by omega⟩ := by
  pointwise [k0_pay49]
  exact h r ⟨d.val, by omega⟩

/-- The upper half of a tile's query gradient as stored: turned back. -/
theorem stored_high {v88 v133 : FVec Ideal S512x256 .f32} {v138 : Vec Ideal S512x256 .bf16} {v163 : FVec Ideal S512x512 .bf16} {Y : Fin 1024 → Fin 256 → EReal}
    {co sa sb : Vec Ideal S1024x128 .f32}
    (h : ∀ r d, k0_pay48 v88 v133 v138 v163 (ix2 r d) = Y r d) (r : Fin 1024) (d : Fin 128) :
    k0_pay50 v88 v133 v138 v163 co sa sb (ix2 r d) = turned (fun j => Y r ⟨128 + j.val, by omega⟩) (fun j => co (ix2 r j)) (fun j => sa (ix2 r j)) (fun j => sb (ix2 r j)) d := by
  pointwise [k0_pay50]
  exact congrArg₂ (fun a b : EReal => a - b) (congrArg₂ (fun a b : EReal => a - b) (congrArg (fun y : EReal => y * co (ix2 r d)) (h r _))
    (congrArg (fun y : EReal => y * sa (ix2 r d)) ((h r _).trans (congrArg (Y r) (Fin.ext (by dsimp only; omega))))))
    (congrArg (fun y : EReal => y * sb (ix2 r d)) ((h r _).trans (congrArg (Y r) (Fin.ext (by dsimp only; omega)))))

set_option maxHeartbeats 4000000 in
/-- A tile's query gradient: the lower half of the columns as summed, the upper turned back. -/
theorem dq_parts (hk : ¬t.val % 4 = 0 → keysBefore m c t = keyT m c t) (r : Fin 1024) (d : Fin 128) :
    (outsAt0 m c t.val t.isLt).1 (ix2 r ⟨d.val, by omega⟩) = dqT m c t r ⟨d.val, by omega⟩
    ∧ (outsAt0 m c t.val t.isLt).1 (ix2 r ⟨128 + d.val, by omega⟩)
      = turned (fun j => dqT m c t r ⟨128 + j.val, by omega⟩) (fun j => iblk m c 7 t (ix2 r j)) (fun j => iblk m c 8 t (ix2 r j)) (fun j => iblk m c 9 t (ix2 r j)) d := by
  by_cases h0 : t.val % 4 = 0
  on_goal 1 => by_cases h1 : t.val % 32 = 0
  on_goal 1 => rw [outsAt0_A m c t h0 h1 (by omega)]
  on_goal 2 => rw [outsAt0_D m c t h0 h1 (by omega)]
  on_goal 3 => by_cases h2 : t.val % 4 = 3
  on_goal 3 => rw [outsAt0_C m c t h0 (by omega) h2]
  on_goal 4 => rw [outsAt0_B m c t h0 (by omega) h2]
  all_goals
    dsimp only
    frame_out
    rw [after_second (hn := trips2 (grid0.coords t))]
    dsimp only
    simp only [← View.read_writes_junk_eq_canon (ms0_10 t).view]
  on_goal 1 => simp only [keys_canon]
  on_goal 2 => simp only [keys_canon]
  on_goal 3 => simp only [keys_held m c t (hk h0)]
  on_goal 4 => simp only [keys_held m c t (hk h0)]
  all_goals
    refine ⟨(halves_low _ _ _ _ _ r d).trans ?_, (halves_high _ _ _ _ r d).trans ?_⟩
  on_goal 1 => exact stored_low (fun r d => tile_dq (q := qT m c t) (dO := doT m c t) (delta := deltaT m c t) (lse := lseT m c t) (halves m c t _ _ _ _) _ (fun r d => (After.dq (after_at m c t _ (keys_stored m c t) _ _) r d).trans (by pointwise [k0_pay13])) r d) r d
  on_goal 1 => exact stored_high (fun r d => tile_dq (q := qT m c t) (dO := doT m c t) (delta := deltaT m c t) (lse := lseT m c t) (halves m c t _ _ _ _) _ (fun r d => (After.dq (after_at m c t _ (keys_stored m c t) _ _) r d).trans (by pointwise [k0_pay13])) r d) r d
  on_goal 1 => exact stored_low (fun r d => tile_dq (q := qT m c t) (dO := doT m c t) (delta := deltaT m c t) (lse := lseT m c t) (halves m c t _ _ _ _) _ (fun r d => (After.dq (after_at m c t _ (keys_stored m c t) _ _) r d).trans (by pointwise [k0_pay13])) r d) r d
  on_goal 1 => exact stored_high (fun r d => tile_dq (q := qT m c t) (dO := doT m c t) (delta := deltaT m c t) (lse := lseT m c t) (halves m c t _ _ _ _) _ (fun r d => (After.dq (after_at m c t _ (keys_stored m c t) _ _) r d).trans (by pointwise [k0_pay13])) r d) r d
  on_goal 1 => exact stored_low (fun r d => tile_dq (q := qT m c t) (dO := doT m c t) (delta := deltaT m c t) (lse := lseT m c t) (halves m c t _ _ _ _) _ (fun r d => (After.dq (after_at m c t _ (keys_held m c t (hk h0)) _ _) r d).trans (by pointwise [k0_pay13])) r d) r d
  on_goal 1 => exact stored_high (fun r d => tile_dq (q := qT m c t) (dO := doT m c t) (delta := deltaT m c t) (lse := lseT m c t) (halves m c t _ _ _ _) _ (fun r d => (After.dq (after_at m c t _ (keys_held m c t (hk h0)) _ _) r d).trans (by pointwise [k0_pay13])) r d) r d
  on_goal 1 => exact stored_low (fun r d => tile_dq (q := qT m c t) (dO := doT m c t) (delta := deltaT m c t) (lse := lseT m c t) (halves m c t _ _ _ _) _ (fun r d => (After.dq (after_at m c t _ (keys_held m c t (hk h0)) _ _) r d).trans (by pointwise [k0_pay13])) r d) r d
  on_goal 1 => exact stored_high (fun r d => tile_dq (q := qT m c t) (dO := doT m c t) (delta := deltaT m c t) (lse := lseT m c t) (halves m c t _ _ _ _) _ (fun r d => (After.dq (after_at m c t _ (keys_held m c t (hk h0)) _ _) r d).trans (by pointwise [k0_pay13])) r d) r d

/-- At the first grid point the sum of the key rotary gradients is set to zero. -/
theorem dkr_first (h1 : t.val % 32 = 0) (s : Fin 4096) (d : Fin 128) :
    (outsAt0 m c t.val t.isLt).2.2.1 (ix2 s d) = (0 : EReal) := by
  rw [outsAt0_A m c t (by omega) h1 (by omega)]
  dsimp only
  frame_out
  pointwise [k0_pay8]

/-- At the other grid points that do not end a head it is kept. -/
theorem dkr_keep (h1 : ¬t.val % 32 = 0) (h2 : ¬t.val % 4 = 3) (s : Fin 4096) (d : Fin 128) :
    (outsAt0 m c t.val t.isLt).2.2.1 (ix2 s d) = (outsAt0 m c (t.val - 1) (Nat.lt_of_le_of_lt (Nat.sub_le _ _) t.isLt)).2.2.1 (ix2 s d) := by
  by_cases h0 : t.val % 4 = 0
  · rw [outsAt0_D m c t h0 h1 (by omega)]
    dsimp only
    rfl
  · rw [outsAt0_B m c t h0 (by omega) h2]
    dsimp only
    rfl

theorem dkv_low (h0 : ¬t.val % 4 = 0) (h2 : t.val % 4 = 3) (s : Fin 4096) (d : Fin 128) :
    (outsAt0 m c t.val t.isLt).2.1 (ix2 s ⟨d.val, by omega⟩) = (outsAt0 m c t.val t.isLt).2.2.2.2.1 (ix2 s ⟨d.val, by omega⟩) := by
  rw [outsAt0_C m c t h0 (by omega) h2]
  dsimp only
  frame_out
  simp only [← View.read_writes_junk_eq_canon (ms0_11 t).view]
  refine (halves_low _ _ _ _ _ s d).trans ?_
  pointwise [k0_pay1]
/-- .. -/
theorem dkv_high (h0 : ¬t.val % 4 = 0) (h2 : t.val % 4 = 3) (s : Fin 4096) (d : Fin 128) :
    (outsAt0 m c t.val t.isLt).2.1 (ix2 s ⟨128 + d.val, by omega⟩) = (outsAt0 m c t.val t.isLt).2.2.2.2.2 (ix2 s d) := by
  rw [outsAt0_C m c t h0 (by omega) h2]
  dsimp only
  frame_out
  simp only [← View.read_writes_junk_eq_canon (ms0_11 t).view]
  refine (halves_high _ _ _ _ s d).trans ?_
  rfl
theorem dkr_last (h0 : ¬t.val % 4 = 0) (h2 : t.val % 4 = 3) (s : Fin 4096) (d : Fin 128) :
    (outsAt0 m c t.val t.isLt).2.2.1 (ix2 s d) = (show EReal from (outsAt0 m c (t.val - 1) (Nat.lt_of_le_of_lt (Nat.sub_le _ _) t.isLt)).2.2.1 (ix2 s d))
      + (show EReal from (outsAt0 m c t.val t.isLt).2.2.2.2.1 (ix2 s ⟨128 + d.val, by omega⟩)) := by
  rw [outsAt0_C m c t h0 (by omega) h2]
  dsimp only
  frame_out
  pointwise [k0_pay3]

end Cert.MlaBwd
-- ==== Proof.MlaReference.lean ====
/- The latent attention and its gradients as the reference writes them, at one head, query and key. -/
module

public import proofs.«01_k».proof.Proof.Gen.Reference2Ideal.Read
public import Idealize.ShloMosaic.Lib.Pipeline.ValueKit
public import Idealize.ShloMosaic.Lib.WordCmp
public import Idealize.ShloMosaic.Lib.KernelVsHost
public import proofs.«01_k».proof.Proof.Softmax

@[expose] public section

set_option maxRecDepth 16384

noncomputable section

open Idealize.ShloMosaic Idealize.ShloMosaic.TcCoe Idealize.SL.Sem
open scoped BigOperators

namespace Cert.MlaBwd
open Cert.Reference2Ideal Cert.Reference2Ideal.Gen Cert.Reference2Ideal.Read Cert.RealOps

/-- Element `x` of head `h` in a row of 1024, of queries and of keys and values. -/
abbrev col (h : Fin 8) (x : Fin 128) : Fin 1024 := ⟨h.val * 128 + x.val, by omega⟩
/-- The same in a row of queries, 192 for each head. -/
abbrev qcol (h : Fin 8) (x : Fin 192) : Fin 1536 := ⟨h.val * 192 + x.val, by omega⟩
/-- The same in a row of keys and values, 256 for each head. -/
abbrev kcol (h : Fin 8) (x : Fin 256) : Fin 2048 := ⟨h.val * 256 + x.val, by omega⟩
/-- A place in the first half of a row. -/
abbrev lo (x : Fin 128) : Fin 256 := ⟨x.val, by omega⟩
/-- A place in its second half. -/
abbrev hi (x : Fin 128) : Fin 256 := ⟨128 + x.val, by omega⟩

variable (q : FVec Ideal S1x4096x1536 .f32) (kv : FVec Ideal S1x4096x2048 .f32) (kr : FVec Ideal S1x4096x64 .f32)
  (pos : IVec S1x4096 32) (ct : FVec Ideal S1x4096x1024 .f32)

/-- The scale of the logits. -/
abbrev sc : EReal := Ideal.ofBits .f32 0x3D93CD3A#32

/-- The rotary part of a query, rotated by its position. -/
abbrev rot : FVec Ideal S4096x8x64 .f32 := val_main_v39 (F := Ideal) q pos

/-- The logit of head `h`, query `s` and key `u`: the part without positions and the rotary part. -/
def lgt (h : Fin 8) (s u : Fin 4096) : EReal :=
  ((∑ x : Fin 128, q (ix3 0 s (qcol h ⟨x.val, by omega⟩)) * kv (ix3 0 u (kcol h (lo x)))) + ∑ x : Fin 64, rot q pos (ix3 s h x) * kr (ix3 0 u x)) * sc

/-- What the incoming gradient says of the value of key `u`. -/
def dpr (h : Fin 8) (s u : Fin 4096) : EReal := ∑ x : Fin 128, ct (ix3 0 s (col h x)) * kv (ix3 0 u (kcol h (hi x)))

/-- The masked logit. -/
theorem ref_logit (h : Fin 8) (s u : Fin 4096) : val_main_v56_0 (F := Ideal) q kv kr pos (ix3 h s u) = if u.val ≤ s.val then lgt q kv kr pos h s u else ⊥ := by
  pointwise [val_main_v56_0, val_main_v56_1, val_main_call0_v0, val_main_call0_v2, val_main_cst_4, val_main_v55, val_main_v54, val_main_v53, val_main_v52, val_main_v51, val_main_v50, val_main_v49, val_main_v48, val_main_v47, val_main_cst_3, val_main_v46, val_main_v45, val_main_v44, val_main_v43, val_main_v42, val_main_v41, val_main_v40, val_main_v23, val_main_v22, val_main_v21, val_main_v20, val_main_v19, lgt]
  rw [WordCmp.cmpi_sle_ofNat (by omega) (by omega)]
  rcases Nat.lt_or_ge s.val u.val with hh | hh
  · simp [hh, Nat.not_le.mpr hh, Scalar.select, constant, Cert.Softmax.ofBits_neg_inf]
  · simp [hh, Scalar.select]

theorem ref_dpr (h : Fin 8) (s u : Fin 4096) : val_main_v92 (F := Ideal) kv ct (ix3 h s u) = dpr kv ct h s u := by
  pointwise [val_main_v92, val_main_v91, val_main_v90, val_main_v89, val_main_v85, val_main_v22, val_main_v21, dpr]

/-- The maximum over the keys as a fold. -/
theorem max_apply (f : FVec Ideal S8x4096x4096 .f32) (h : Fin 8) (s : Fin 4096) :
    Host.reduce FloatOps.maximumf f (constant S_ .f32 0xFF800000#32) reducesTo_S8x4096x4096_S8x4096_d2 h_S_ (ix2 h s)
      = (Finset.univ : Finset (Fin 4096)).fold max ⊥ (fun u => f (ix3 h s u)) := by
  have hr : S8x4096x4096.Reduces [(2 : Fin 3)] S8x4096 := by decide
  have e := hostReduce_maximumf_eq_multiReduction (F := Ideal) (φ := .f32) f 0xFF800000#32 reducesTo_S8x4096x4096_S8x4096_d2 h_S_ hr (Or.inl rfl) rfl
  refine (congrFun e (ix2 h s)).trans ((Ideal.multiReduction_maximumf_single f 0xFF800000#32 hr (Or.inl rfl) rfl (ix2 h s)).trans ?_)
  show Finset.fold max (Ideal.ofBits .f32 0xFF800000#32) _ _ = _
  rw [Cert.Softmax.ofBits_neg_inf]
  congr 1
  funext u
  exact congrArg f (by funext a; match a with | 0 => rfl | 1 => rfl | 2 => rfl)

/-- The row maximum is the fold of `max` over the keys. -/
theorem ref_max (h : Fin 8) (s : Fin 4096) : val_main_v57 (F := Ideal) q kv kr pos (ix2 h s) = (Finset.univ : Finset (Fin 4096)).fold max ⊥ (fun u => val_main_v56_0 (F := Ideal) q kv kr pos (ix3 h s u)) :=
  max_apply (val_main_v56_0 (F := Ideal) q kv kr pos) h s

/-- The maximum subtracted in the softmax. -/
theorem ref_top (h : Fin 8) (s : Fin 4096) : val_main_v64 (F := Ideal) q kv kr pos (ix2 h s) = max (Ideal.ofBits .f32 0xFF800000#32) (val_main_v57 (F := Ideal) q kv kr pos (ix2 h s)) := by
  rw [val_main_v64_apply]
  generalize val_main_v57 (F := Ideal) q kv kr pos = w
  pointwise [val_main_v63, val_main_cst_7]

theorem ref_exp (h : Fin 8) (s u : Fin 4096) : val_main_v77 (F := Ideal) q kv kr pos (ix3 h s u) = Ideal.exp (val_main_v56_0 (F := Ideal) q kv kr pos (ix3 h s u) - val_main_v64 (F := Ideal) q kv kr pos (ix2 h s)) := by
  pointwise [val_main_v77, val_main_v76, val_main_v75, val_main_v74]

theorem ref_sum (h : Fin 8) (s : Fin 4096) : val_main_v78 (F := Ideal) q kv kr pos (ix2 h s) = ∑ u, val_main_v77 (F := Ideal) q kv kr pos (ix3 h s u) := by
  pointwise [val_main_v78, val_main_cst_13]

/-- The weight of key `u`. -/
theorem ref_soft (h : Fin 8) (s u : Fin 4096) : val_main_v81 (F := Ideal) q kv kr pos (ix3 h s u) = Ideal.div (val_main_v77 (F := Ideal) q kv kr pos (ix3 h s u)) (val_main_v78 (F := Ideal) q kv kr pos (ix2 h s)) := by
  pointwise [val_main_v81, val_main_v80, val_main_v79]

/-- The gradient of the logit of key `u`, by the quotient rule through the sum of exponentials. -/
theorem ref_grad (h : Fin 8) (s u : Fin 4096) : val_main_v108 (F := Ideal) q kv kr pos ct (ix3 h s u) = if u.val ≤ s.val then
    (Ideal.div (val_main_v92 (F := Ideal) kv ct (ix3 h s u)) (val_main_v78 (F := Ideal) q kv kr pos (ix2 h s))
      + -(∑ x, val_main_v92 (F := Ideal) kv ct (ix3 h s x) * Ideal.div ((1 : ℝ) : EReal) (val_main_v78 (F := Ideal) q kv kr pos (ix2 h s) * val_main_v78 (F := Ideal) q kv kr pos (ix2 h s)) * val_main_v77 (F := Ideal) q kv kr pos (ix3 h s x)))
      * val_main_v77 (F := Ideal) q kv kr pos (ix3 h s u) else 0 := by
  pointwise [val_main_v108, val_main_v107, val_main_v106, val_main_v105, val_main_v104, val_main_v103, val_main_v102, val_main_v101, val_main_v100, val_main_v99, val_main_v98, val_main_v97, val_main_v96, val_main_v84, val_main_v83, val_main_v82, val_main_v80, val_main_v79, val_main_v56_1, val_main_v55, val_main_v54, val_main_v53, val_main_v52, val_main_v51, val_main_v50, val_main_v49, val_main_cst_14, val_main_cst_16, val_main_cst_17, val_main_call1_v0, val_main_call1_cst]
  rw [WordCmp.cmpi_sle_ofNat (by omega) (by omega), Fin.sum_univ_one, EReal.coe_one]
  rcases Nat.lt_or_ge s.val u.val with hh | hh
  · simp [hh, Nat.not_le.mpr hh, Scalar.select]
  · simp [hh, Scalar.select]

theorem ref_o (h : Fin 8) (s : Fin 4096) (x : Fin 128) : val_main_v88 (F := Ideal) q kv kr pos (ix2 s (col h x)) = ∑ u, kv (ix3 0 u (kcol h (hi x))) * val_main_v81 (F := Ideal) q kv kr pos (ix3 h s u) := by
  pointwise [val_main_v88, val_main_v87, val_main_v86, val_main_v85, val_main_v22, val_main_v21]
  have e1 : (h.val * 128 + x.val) / 128 = h.val := by omega
  have e2 : (h.val * 128 + x.val) % 128 = x.val := by omega
  simp only [e1, e2]

/-- The gradient of the rotated part of a query. -/
def drot (h : Fin 8) (s : Fin 4096) (x : Fin 64) : EReal := ∑ u, val_main_v108 (F := Ideal) q kv kr pos ct (ix3 h s u) * sc * kr (ix3 0 u x)

theorem ref_drot (h : Fin 8) (s : Fin 4096) (x : Fin 64) : val_main_v114 (F := Ideal) q kv kr pos ct (ix3 s h x) = drot q kv kr pos ct h s x := by
  pointwise [val_main_v114, val_main_v113, val_main_v110, val_main_v109, val_main_cst_18, val_main_v44, val_main_v43, val_main_v42, drot]

theorem ref_dq_low (h : Fin 8) (s : Fin 4096) (x : Fin 128) : val_main_v149 (F := Ideal) q kv kr pos ct (ix2 s (qcol h ⟨x.val, by omega⟩)) = ∑ u, val_main_v108 (F := Ideal) q kv kr pos ct (ix3 h s u) * sc * kv (ix3 0 u (kcol h (lo x))) := by
  pointwise [val_main_v149, val_main_v148, val_main_v147, val_main_v146, val_main_v143, val_main_v142, val_main_v141, val_main_cst_24, val_main_cst_25, val_main_v122, val_main_v121, val_main_v110, val_main_v109, val_main_cst_18, val_main_v40, val_main_v22, val_main_v21]
  have e : (h.val * 192 + x.val) % 192 = x.val := by omega
  have n : ¬(128 ≤ x.val ∧ x.val - 128 < 64) := by omega
  simp only [e, dif_neg n, dif_pos x.isLt, zero_add]

theorem ref_dq_first (h : Fin 8) (s : Fin 4096) (x : Fin 32) : val_main_v149 (F := Ideal) q kv kr pos ct (ix2 s (qcol h ⟨128 + x.val, by omega⟩)) = val_main_v114 (F := Ideal) q kv kr pos ct (ix3 s h ⟨32 + x.val, by omega⟩) * val_main_v18 (F := Ideal) pos (ix2 s x) + val_main_v114 (F := Ideal) q kv kr pos ct (ix3 s h ⟨x.val, by omega⟩) * val_main_v17 (F := Ideal) pos (ix2 s x) := by
  pointwise [val_main_v149, val_main_v148, val_main_v147, val_main_v146, val_main_v143, val_main_v142, val_main_v141, val_main_cst_24, val_main_cst_25, val_main_v140, val_main_v139, val_main_v138, val_main_cst_22, val_main_cst_23, val_main_v137, val_main_v136, val_main_v135, val_main_v128, val_main_v127, val_main_v126, val_main_v125, val_main_v26, val_main_v25]
  have e : (h.val * 192 + (128 + x.val)) % 192 = 128 + x.val := by omega
  have e2 : 128 + x.val - 128 = x.val := by omega
  have p1 : 128 ≤ 128 + x.val ∧ x.val < 64 := by omega
  have n2 : ¬(32 ≤ x.val ∧ x.val - 32 < 32) := by omega
  have n4 : ¬128 + x.val < 128 := by omega
  simp only [e, e2, dif_pos p1, dif_neg n2, dif_pos x.isLt, dif_neg n4, zero_add, add_zero]

theorem ref_dq_second (h : Fin 8) (s : Fin 4096) (x : Fin 32) : val_main_v149 (F := Ideal) q kv kr pos ct (ix2 s (qcol h ⟨160 + x.val, by omega⟩)) = val_main_v114 (F := Ideal) q kv kr pos ct (ix3 s h ⟨32 + x.val, by omega⟩) * val_main_v17 (F := Ideal) pos (ix2 s x) + -val_main_v114 (F := Ideal) q kv kr pos ct (ix3 s h ⟨x.val, by omega⟩) * val_main_v18 (F := Ideal) pos (ix2 s x) := by
  pointwise [val_main_v149, val_main_v148, val_main_v147, val_main_v146, val_main_v143, val_main_v142, val_main_v141, val_main_cst_24, val_main_cst_25, val_main_v140, val_main_v139, val_main_v138, val_main_cst_22, val_main_cst_23, val_main_v134, val_main_v133, val_main_v132, val_main_v131, val_main_v130, val_main_v129, val_main_v126, val_main_v125, val_main_v26, val_main_v25]
  have e : (h.val * 192 + (160 + x.val)) % 192 = 160 + x.val := by omega
  have e2 : 160 + x.val - 128 = 32 + x.val := by omega
  have e3 : 32 + x.val - 32 = x.val := by omega
  have p1 : 128 ≤ 160 + x.val ∧ 32 + x.val < 64 := by omega
  have p2 : 32 ≤ 32 + x.val ∧ x.val < 32 := by omega
  have n3 : ¬32 + x.val < 32 := by omega
  have n4 : ¬160 + x.val < 128 := by omega
  simp only [e, e2, e3, dif_pos p1, dif_pos p2, dif_neg n3, dif_neg n4, add_zero]

theorem ref_dk (h : Fin 8) (s : Fin 4096) (x : Fin 128) : val_main_v151 (F := Ideal) q kv kr pos ct (ix2 s (kcol h (lo x))) = ∑ r, val_main_v108 (F := Ideal) q kv kr pos ct (ix3 h r s) * sc * q (ix3 0 r (qcol h ⟨x.val, by omega⟩)) := by
  pointwise [val_main_v151, val_main_v150, val_main_v145, val_main_v144, val_main_v124, val_main_v123, val_main_v95, val_main_cst_15, val_main_cst_21, val_main_v120, val_main_v119, val_main_v110, val_main_v109, val_main_cst_18, val_main_v23, val_main_v20, val_main_v19]
  have e : (h.val * 256 + x.val) % 256 = x.val := by omega
  have n : ¬(128 ≤ x.val ∧ x.val - 128 < 128) := by omega
  simp only [e, dif_neg n, dif_pos x.isLt, zero_add]

theorem ref_dv (h : Fin 8) (s : Fin 4096) (x : Fin 128) : val_main_v151 (F := Ideal) q kv kr pos ct (ix2 s (kcol h (hi x))) = ∑ r, ct (ix3 0 r (col h x)) * val_main_v81 (F := Ideal) q kv kr pos (ix3 h r s) := by
  pointwise [val_main_v151, val_main_v150, val_main_v145, val_main_v144, val_main_v124, val_main_v123, val_main_v95, val_main_cst_15, val_main_cst_21, val_main_v94, val_main_v93, val_main_v91, val_main_v90, val_main_v89]
  have e : (h.val * 256 + (128 + x.val)) % 256 = 128 + x.val := by omega
  have e2 : 128 + x.val - 128 = x.val := by omega
  have p1 : 128 ≤ 128 + x.val ∧ x.val < 128 := by omega
  have n2 : ¬128 + x.val < 128 := by omega
  simp only [e, e2, dif_pos p1, dif_neg n2, add_zero]

theorem ref_dkr (s : Fin 4096) (x : Fin 64) : val_main_v152 (F := Ideal) q kv kr pos ct (ix2 s x) = ∑ h : Fin 8, ∑ r, val_main_v108 (F := Ideal) q kv kr pos ct (ix3 h r s) * sc * rot q pos (ix3 r h x) := by
  pointwise [val_main_v152, val_main_v118, val_main_v117, val_main_cst_20, val_main_v116, val_main_v115, val_main_cst_19, val_main_v112, val_main_v111, val_main_v110, val_main_v109, val_main_cst_18]
  exact Fin.sum_univ_one _

end Cert.MlaBwd
end
-- ==== Proof.MlaHost.lean ====
/- What the host hands the backward launch of the latent attention and what a grid point's blocks hold, over the argument arrays. -/
module

public import proofs.«01_k».proof.Proof.MlaCases
public import proofs.«01_k».proof.Proof.MlaReference

@[expose] public section

set_option maxRecDepth 16384

noncomputable section

open Idealize.ShloMosaic Idealize.ShloMosaic.TcCoe Idealize.SL.Sem
open Idealize.ShloMosaic.Pipeline (Dat)
open scoped BigOperators

namespace Cert.MlaBwd
open Cert.Kernel2Ideal Cert.Kernel2Ideal.Gen Cert.Reference2Ideal.Read Cert.Rows

variable (m : (ℓ : Loc nD τ sig) → Buf (Elt Ideal) ℓ) (c : Dev nD) (t : Fin cfg0.N)

/-- The queries. -/
abbrev aq : FVec Ideal S1x4096x1536 .f32 := m ((c : Thread nD τ).loc main_arg0)
/-- The keys without positions and the values. -/
abbrev akv : FVec Ideal S1x4096x2048 .f32 := m ((c : Thread nD τ).loc main_arg1)
/-- The rotated shared keys. -/
abbrev akr : FVec Ideal S1x4096x64 .f32 := m ((c : Thread nD τ).loc main_arg2)
/-- The positions. -/
abbrev apos : IVec S1x4096 32 := m ((c : Thread nD τ).loc main_arg3)
/-- The incoming gradient. -/
abbrev act : FVec Ideal S1x4096x1024 .f32 := m ((c : Thread nD τ).loc main_arg4)

/-- The masked logits. -/
abbrev logits : FVec Ideal S8x4096x4096 .f32 := val_main_v56_0 (F := Ideal) (aq m c) (akv m c) (akr m c) (apos m c)
/-- The attention's output. -/
abbrev outp : FVec Ideal S4096x1024 .f32 := val_main_v88 (F := Ideal) (aq m c) (akv m c) (akr m c) (apos m c)

/-- The contents after the masked logits are made. -/
abbrev before2 : Valuation τ sig (Elt Ideal) := StableHlo.after (List.flatten [hostOps0, hostOps0_1]) (fun b => m (c, b))
theorem V0_split : V0 m c = StableHlo.after hostOps0_4 (StableHlo.after hostOps0_3 (StableHlo.after hostOps0_2 (before2 m c))) := by
  show StableHlo.after (List.flatten [hostOps0, hostOps0_1, hostOps0_2, hostOps0_3, hostOps0_4]) _ = _
  rw [← StableHlo.after_append, ← StableHlo.after_append, ← StableHlo.after_append]; rfl

theorem b_logits : before2 m c (Proc.devRef .tc main_v56) = logits m c := by exact rfl
theorem b_q : before2 m c (Proc.devRef .tc main_v20) = val_main_v20 (F := Ideal) (aq m c) := by exact rfl
theorem b_kv : before2 m c (Proc.devRef .tc main_v22) = val_main_v22 (F := Ideal) (akv m c) := by exact rfl
theorem b_rot : before2 m c (Proc.devRef .tc main_v38) = rot (aq m c) (apos m c) := by exact rfl
theorem b_arg1 : before2 m c (Proc.devRef .tc main_arg1) = akv m c := by exact rfl
theorem b_arg2 : before2 m c (Proc.devRef .tc main_arg2) = akr m c := by exact rfl
theorem b_arg3 : before2 m c (Proc.devRef .tc main_arg3) = apos m c := by exact rfl
theorem b_arg4 : before2 m c (Proc.devRef .tc main_arg4) = act m c := by exact rfl

/-- The attention's output from the masked logits. -/
def oForm (L : FVec Ideal S8x4096x4096 .f32) (kv : FVec Ideal S4096x8x256 .f32) : FVec Ideal S4096x1024 .f32 :=
  have top := broadcastInDim S8x4096x4096 ![0, 1, 2] bcast_S8x4096x1_S8x4096x4096_0_1_2 (broadcastInDim S8x4096x1 ![0, 1] bcast_S8x4096_S8x4096x1_0_1
    (maximumf (broadcastInDim S8x4096 ![] bcast_S_S8x4096 (constant S_ .f32 0xFF800000#32))
      (Host.reduce FloatOps.maximumf L (constant S_ .f32 0xFF800000#32) reducesTo_S8x4096x4096_S8x4096_d2 h_S_)))
  shapeCast S4096x1024 (transpose S4096x8x128 [2, 0, 1] (Host.dotGeneral dot_S4096x8x128_S8x4096x4096_S8x128x4096_0_2_2_1_1_0 none
    (extractStridedSlice S4096x8x128 ![0, 0, 128] kv slices_S4096x8x256_S4096x8x128_0_0_128)
    (Host.divf (Host.exp (subf L top)) (broadcastInDim S8x4096x4096 ![0, 1, 2] bcast_S8x4096x1_S8x4096x4096_0_1_2
      (broadcastInDim S8x4096x1 ![0, 1] bcast_S8x4096_S8x4096x1_0_1 (Host.reduceAdd (Host.exp (subf L top)) (constant S_ .f32 0x00000000#32) reducesTo_S8x4096x4096_S8x4096_d2 h_S_)))))
    transposes_S8x128x4096_S4096x8x128_2_0_1) shapeCasts_S4096x8x128_S4096x1024

/-- The saved logarithm of the sum of exponentials, as the host's forward lines make it from the masked logits and their maxima. -/
def lseForm (L : FVec Ideal S8x4096x4096 .f32) (M : FVec Ideal S8x4096 .f32) : FVec Ideal S8x4096 .f32 :=
  addf M (Host.log (Host.reduceAdd (Host.exp (subf L (broadcastInDim S8x4096x4096 ![0, 1, 2] bcast_S8x4096x1_S8x4096x4096_0_1_2
    (broadcastInDim S8x4096x1 ![0, 1] bcast_S8x4096_S8x4096x1_0_1 M)))) (constant S_ .f32 0x00000000#32) reducesTo_S8x4096x4096_S8x4096_d2 h_S_))

theorem lseForm_apply (L : FVec Ideal S8x4096x4096 .f32) (M : FVec Ideal S8x4096 .f32) (h : Fin 8) (s : Fin 4096) :
    lseForm L M (ix2 h s) = M (ix2 h s) + Ideal.log (∑ u, Ideal.exp (L (ix3 h s u) - M (ix2 h s))) := by
  pointwise [lseForm]

/-- The queries as handed over: 128 columns without positions, 64 rotated, 64 zeros for each head. -/
def qForm (q : FVec Ideal S4096x8x192 .f32) (r : FVec Ideal S4096x8x64 .f32) : FVec Ideal S4096x2048 .f32 :=
  shapeCast S4096x2048 (concatenate S4096x8x256 2 [⟨S4096x8x128, extractStridedSlice S4096x8x128 ![0, 0, 0] q slices_S4096x8x192_S4096x8x128_0_0_0⟩, ⟨S4096x8x64, r⟩,
    ⟨S4096x8x64, broadcastInDim S4096x8x64 ![] bcast_S_S4096x8x64 (constant S_ .f32 0x00000000#32)⟩] concatenates_S4096x8x128_S4096x8x64_S4096x8x64_S4096x8x256_d2) shapeCasts_S4096x8x256_S4096x2048

/-- The shared keys as handed over: 64 columns and 64 zeros. -/
def krForm (x : FVec Ideal S4096x64 .f32) (z : IVec S_ 32) : FVec Ideal S4096x128 .f32 :=
  pad S4096x128 ![0, 0] ![0, 64] ![0, 0] x (sitofp .f32 z) pads_S4096x64_S4096x128_000_0640 h_S_

/-- A row of 32 zeros for every position. -/
def zeros32 : FVec Ideal S4096x32 .f32 := broadcastInDim S4096x32 ![] bcast_S_S4096x32 (constant S_ .f32 0x00000000#32)
/-- The cosines, twice, then zeros. -/
def cosForm (p : IVec S1x4096 32) : FVec Ideal S4096x128 .f32 :=
  concatenate S4096x128 1 [⟨S4096x32, val_main_v17 (F := Ideal) p⟩, ⟨S4096x32, val_main_v17 (F := Ideal) p⟩, ⟨S4096x32, zeros32⟩, ⟨S4096x32, zeros32⟩] concatenates_S4096x32_S4096x32_S4096x32_S4096x32_S4096x128_d1
/-- The negated sines, then zeros. -/
def sinAForm (p : IVec S1x4096 32) : FVec Ideal S4096x128 .f32 :=
  concatenate S4096x128 1 [⟨S4096x32, Host.negf (val_main_v18 (F := Ideal) p)⟩, ⟨S4096x32, zeros32⟩, ⟨S4096x32, zeros32⟩, ⟨S4096x32, zeros32⟩] concatenates_S4096x32_S4096x32_S4096x32_S4096x32_S4096x128_d1
/-- The sines in the second place of 32 columns, zeros elsewhere. -/
def sinBForm (p : IVec S1x4096 32) : FVec Ideal S4096x128 .f32 :=
  concatenate S4096x128 1 [⟨S4096x32, zeros32⟩, ⟨S4096x32, val_main_v18 (F := Ideal) p⟩, ⟨S4096x32, zeros32⟩, ⟨S4096x32, zeros32⟩] concatenates_S4096x32_S4096x32_S4096x32_S4096x32_S4096x128_d1

section Lines
variable (W : Valuation τ sig (Elt Ideal))

set_option maxRecDepth 400000 in
theorem o_line : StableHlo.after hostOps0_2 W (Proc.devRef .tc main_v79) = oForm (W (Proc.devRef .tc main_v56)) (W (Proc.devRef .tc main_v22)) := by
  after_results
  rfl

set_option maxRecDepth 400000 in
theorem lse_line : StableHlo.after hostOps0_2 W (Proc.devRef .tc main_v64) = lseForm (W (Proc.devRef .tc main_v56)) (Host.reduce FloatOps.maximumf (show FVec Ideal S8x4096x4096 .f32 from W (Proc.devRef .tc main_v56)) (constant S_ .f32 0xFF800000#32) reducesTo_S8x4096x4096_S8x4096_d2 h_S_) := by
  after_results
  rfl

set_option maxRecDepth 400000 in
theorem q_line : StableHlo.after hostOps0_2 W (Proc.devRef .tc main_v84) = truncf .bf16 (qForm (W (Proc.devRef .tc main_v20)) (W (Proc.devRef .tc main_v38))) bitsLt_bf16_f32 := by
  after_results
  rfl

theorem kr_line : StableHlo.after hostOps0_2 W (Proc.devRef .tc main_v85) = shapeCast S4096x64 (show FVec Ideal S1x4096x64 .f32 from W (Proc.devRef .tc main_arg2)) shapeCasts_S1x4096x64_S4096x64 := by
  after_results
  rfl
theorem keep1 : StableHlo.after hostOps0_2 W (Proc.devRef .tc main_arg1) = W (Proc.devRef .tc main_arg1) := by after_results
theorem keep3 : StableHlo.after hostOps0_2 W (Proc.devRef .tc main_arg3) = W (Proc.devRef .tc main_arg3) := by after_results
theorem keep4 : StableHlo.after hostOps0_2 W (Proc.devRef .tc main_arg4) = W (Proc.devRef .tc main_arg4) := by after_results

set_option maxRecDepth 400000 in
theorem cos_line : StableHlo.after hostOps0_4 W (Proc.devRef .tc main_v113) = cosForm (W (Proc.devRef .tc main_arg3)) := by
  after_results
  rfl
set_option maxRecDepth 400000 in
theorem sinA_line : StableHlo.after hostOps0_4 W (Proc.devRef .tc main_v115) = sinAForm (W (Proc.devRef .tc main_arg3)) := by
  after_results
  rfl
set_option maxRecDepth 400000 in
theorem sinB_line : StableHlo.after hostOps0_4 W (Proc.devRef .tc main_v116) = sinBForm (W (Proc.devRef .tc main_arg3)) := by
  after_results
  rfl
theorem krp_line : StableHlo.after hostOps0_4 W (Proc.devRef .tc main_v87) = truncf .bf16 (show FVec Ideal S4096x128 .f32 from W (Proc.devRef .tc main_v86)) bitsLt_bf16_f32 := by
  after_results
theorem kv_line : StableHlo.after hostOps0_4 W (Proc.devRef .tc main_v89) = truncf .bf16 (shapeCast S4096x2048 (show FVec Ideal S1x4096x2048 .f32 from W (Proc.devRef .tc main_arg1)) shapeCasts_S1x4096x2048_S4096x2048) bitsLt_bf16_f32 := by
  after_results
  rfl
theorem obf_line : StableHlo.after hostOps0_4 W (Proc.devRef .tc main_v90) = truncf .bf16 (show FVec Ideal S4096x1024 .f32 from W (Proc.devRef .tc main_v79)) bitsLt_bf16_f32 := by
  after_results
theorem do_line : StableHlo.after hostOps0_4 W (Proc.devRef .tc main_v92) = truncf .bf16 (shapeCast S4096x1024 (show FVec Ideal S1x4096x1024 .f32 from W (Proc.devRef .tc main_arg4)) shapeCasts_S1x4096x1024_S4096x1024) bitsLt_bf16_f32 := by
  after_results
  rfl
theorem lse4_line : StableHlo.after hostOps0_4 W (Proc.devRef .tc main_v117) = shapeCast S8x4x1x1024 (show FVec Ideal S8x4096 .f32 from W (Proc.devRef .tc main_v64)) shapeCasts_S8x4096_S8x4x1x1024 := by
  after_results
  rfl
theorem keep84 : StableHlo.after hostOps0_4 W (Proc.devRef .tc main_v84) = W (Proc.devRef .tc main_v84) := by after_results
theorem pad_line : StableHlo.after hostOps0_3 W (Proc.devRef .tc main_v86) = krForm (W (Proc.devRef .tc main_v85)) (W (Proc.devRef .tc main_c)) := by
  after_results
  rfl
theorem k3_79 : StableHlo.after hostOps0_3 W (Proc.devRef .tc main_v79) = W (Proc.devRef .tc main_v79) := by after_results
theorem k3_64 : StableHlo.after hostOps0_3 W (Proc.devRef .tc main_v64) = W (Proc.devRef .tc main_v64) := by after_results
theorem k3_84 : StableHlo.after hostOps0_3 W (Proc.devRef .tc main_v84) = W (Proc.devRef .tc main_v84) := by after_results
theorem k3_1 : StableHlo.after hostOps0_3 W (Proc.devRef .tc main_arg1) = W (Proc.devRef .tc main_arg1) := by after_results
theorem k3_3 : StableHlo.after hostOps0_3 W (Proc.devRef .tc main_arg3) = W (Proc.devRef .tc main_arg3) := by after_results
theorem k3_4 : StableHlo.after hostOps0_3 W (Proc.devRef .tc main_arg4) = W (Proc.devRef .tc main_arg4) := by after_results
theorem c_line : StableHlo.after hostOps0_2 W (Proc.devRef .tc main_c) = constantI S_ 32 0#32 := by
  after_results
end Lines
end Cert.MlaBwd
end
-- ==== Proof.MlaBlocks.lean ====
/- What the blocks of a grid point of the latent attention's backward launch hold, over the argument arrays. -/
module

public import proofs.«01_k».proof.Proof.MlaHost

@[expose] public section

set_option maxRecDepth 16384

noncomputable section

open Idealize.ShloMosaic Idealize.ShloMosaic.TcCoe Idealize.SL.Sem
open Idealize.ShloMosaic.Pipeline (Dat)
open scoped BigOperators

namespace Cert.MlaBwd
open Cert.Kernel2Ideal Cert.Kernel2Ideal.Gen Cert.Reference2Ideal.Read Cert.Rows

/-- A query's row as the kernel sees it: without positions, rotated, zeros. -/
def qx (q : FVec Ideal S1x4096x1536 .f32) (pos : IVec S1x4096 32) (s : Fin 4096) (h : Fin 8) (x : Fin 256) : EReal :=
  if hx : x.val < 128 then q (ix3 0 s (qcol h ⟨x.val, by omega⟩)) else if hy : x.val < 192 then rot q pos (ix3 s h ⟨x.val - 128, by omega⟩) else 0

/-- A shared key's row as the kernel sees it: 64 columns, then zeros. -/
def krx (kr : FVec Ideal S1x4096x64 .f32) (u : Fin 4096) (x : Fin 128) : EReal :=
  if hy : x.val < 64 then kr (ix3 0 u ⟨x.val, hy⟩) else 0

/-- A key's row as the kernel sees it: a head's part, the shared part, zeros. -/
def kx (kv : FVec Ideal S1x4096x2048 .f32) (kr : FVec Ideal S1x4096x64 .f32) (u : Fin 4096) (h : Fin 8) (x : Fin 256) : EReal :=
  if hx : x.val < 128 then kv (ix3 0 u (kcol h x)) else krx kr u ⟨x.val - 128, by omega⟩

/-- The cosines the last lines make for 128 columns. -/
theorem cos_first (p : IVec S1x4096 32) (s : Fin 4096) (x : Fin 32) : cosForm p (ix2 s ⟨x.val, by omega⟩) = val_main_v17 (F := Ideal) p (ix2 s x) := by
  unfold cosForm
  generalize val_main_v17 (F := Ideal) p = w
  pointwise []
theorem cos_second (p : IVec S1x4096 32) (s : Fin 4096) (x : Fin 32) : cosForm p (ix2 s ⟨32 + x.val, by omega⟩) = val_main_v17 (F := Ideal) p (ix2 s x) := by
  unfold cosForm
  generalize val_main_v17 (F := Ideal) p = w
  pointwise []
theorem cos_rest (p : IVec S1x4096 32) (s : Fin 4096) (x : Fin 128) (hx : 64 ≤ x.val) : cosForm p (ix2 s x) = 0 := by
  unfold cosForm zeros32
  generalize val_main_v17 (F := Ideal) p = w
  pointwise []
  have p1 : ¬x.val < 32 := by omega
  have p2 : ¬x.val - 32 < 32 := by omega
  simp only [dif_neg p1, dif_neg p2, ite_self, dite_eq_ite]
theorem sinA_first (p : IVec S1x4096 32) (s : Fin 4096) (x : Fin 32) : sinAForm p (ix2 s ⟨x.val, by omega⟩) = -val_main_v18 (F := Ideal) p (ix2 s x) := by
  unfold sinAForm
  generalize val_main_v18 (F := Ideal) p = w
  pointwise []
theorem sinA_rest (p : IVec S1x4096 32) (s : Fin 4096) (x : Fin 128) (hx : 32 ≤ x.val) : sinAForm p (ix2 s x) = 0 := by
  unfold sinAForm zeros32
  generalize val_main_v18 (F := Ideal) p = w
  pointwise []
  have p1 : ¬x.val < 32 := by omega
  simp only [dif_neg p1, ite_self, dite_eq_ite]
theorem sinB_first (p : IVec S1x4096 32) (s : Fin 4096) (x : Fin 128) (hx : x.val < 32) : sinBForm p (ix2 s x) = 0 := by
  unfold sinBForm zeros32
  generalize val_main_v18 (F := Ideal) p = w
  pointwise []
  simp only [dif_pos hx]
theorem sinB_second (p : IVec S1x4096 32) (s : Fin 4096) (x : Fin 32) : sinBForm p (ix2 s ⟨32 + x.val, by omega⟩) = val_main_v18 (F := Ideal) p (ix2 s x) := by
  unfold sinBForm
  generalize val_main_v18 (F := Ideal) p = w
  pointwise []
theorem sinB_rest (p : IVec S1x4096 32) (s : Fin 4096) (x : Fin 128) (hx : 64 ≤ x.val) : sinBForm p (ix2 s x) = 0 := by
  unfold sinBForm zeros32
  generalize val_main_v18 (F := Ideal) p = w
  pointwise []
  have p1 : ¬x.val < 32 := by omega
  have p2 : ¬x.val - 32 < 32 := by omega
  simp only [dif_neg p1, dif_neg p2, ite_self, dite_eq_ite]

theorem qForm_apply (q : FVec Ideal S4096x8x192 .f32) (r : FVec Ideal S4096x8x64 .f32) (s : Fin 4096) (h : Fin 8) (x : Fin 256) :
    qForm q r (ix2 s (kcol h x)) = if hx : x.val < 128 then q (ix3 s h ⟨x.val, by omega⟩) else if hy : x.val < 192 then r (ix3 s h ⟨x.val - 128, by omega⟩) else 0 := by
  pointwise [qForm]
  have e1 : (h.val * 256 + x.val) % 256 = x.val := by omega
  have e2 : (h.val * 256 + x.val) / 256 = h.val := by omega
  simp only [e1, e2]
  rcases Nat.lt_or_ge x.val 128 with p | p
  · simp only [dif_pos p]
  · have p1 : ¬x.val < 128 := by omega
    simp only [dif_neg p1]
    rcases Nat.lt_or_ge x.val 192 with u | u
    · have u1 : x.val - 128 < 64 := by omega
      simp only [dif_pos u, dif_pos u1]
    · have u1 : ¬x.val - 128 < 64 := by omega
      have u2 : ¬x.val < 192 := by omega
      simp only [dif_neg u2, dif_neg u1]
theorem krForm_apply (k : FVec Ideal S4096x64 .f32) (s : Fin 4096) (x : Fin 128) :
    krForm k (constantI S_ 32 0#32) (ix2 s x) = if hy : x.val < 64 then k (ix2 s ⟨x.val, hy⟩) else 0 := by
  pointwise [krForm]
  have z : FloatOps.sitofp (F := Ideal) .f32 0#32 = (0 : EReal) := by simp [FloatOps.sitofp]
  rw [z]

variable (m : (ℓ : Loc nD τ sig) → Buf (Elt Ideal) ℓ) (c : Dev nD) (t : Fin cfg0.N)

theorem V_q : V m c main_v84 = truncf .bf16 (qForm (val_main_v20 (F := Ideal) (aq m c)) (rot (aq m c) (apos m c))) bitsLt_bf16_f32 := by
  show V0 m c _ = _
  rw [V0_split, keep84, k3_84, q_line, b_q, b_rot]
theorem V_kr : V m c main_v87 = truncf .bf16 (krForm (shapeCast S4096x64 (akr m c) shapeCasts_S1x4096x64_S4096x64) (constantI S_ 32 0#32)) bitsLt_bf16_f32 := by
  show V0 m c _ = _
  rw [V0_split, krp_line, pad_line, kr_line, c_line, b_arg2]
theorem V_kv : V m c main_v89 = truncf .bf16 (shapeCast S4096x2048 (akv m c) shapeCasts_S1x4096x2048_S4096x2048) bitsLt_bf16_f32 := by
  show V0 m c _ = _
  rw [V0_split, kv_line, k3_1, keep1, b_arg1]
theorem o_eq : oForm (logits m c) (val_main_v22 (F := Ideal) (akv m c)) = outp m c := rfl
theorem V_o : V m c main_v90 = truncf .bf16 (outp m c) bitsLt_bf16_f32 := by
  show V0 m c _ = _
  rw [V0_split, obf_line, k3_79, o_line, b_logits, b_kv, o_eq]
theorem V_do : V m c main_v92 = truncf .bf16 (shapeCast S4096x1024 (act m c) shapeCasts_S1x4096x1024_S4096x1024) bitsLt_bf16_f32 := by
  show V0 m c _ = _
  rw [V0_split, do_line, k3_4, keep4, b_arg4]
theorem V_lse : V m c main_v117 = shapeCast S8x4x1x1024 (lseForm (logits m c) (val_main_v57 (F := Ideal) (aq m c) (akv m c) (akr m c) (apos m c))) shapeCasts_S8x4096_S8x4x1x1024 := by
  show V0 m c _ = _
  rw [V0_split, lse4_line, k3_64, lse_line, b_logits]
  rfl
theorem V_cos : V m c main_v113 = cosForm (apos m c) := by
  show V0 m c _ = _
  rw [V0_split, cos_line, k3_3, keep3, b_arg3]
theorem V_sinA : V m c main_v115 = sinAForm (apos m c) := by
  show V0 m c _ = _
  rw [V0_split, sinA_line, k3_3, keep3, b_arg3]
theorem V_sinB : V m c main_v116 = sinBForm (apos m c) := by
  show V0 m c _ = _
  rw [V0_split, sinB_line, k3_3, keep3, b_arg3]

/-- The blocks of a grid point: head `t / 4`, tile `t % 4` of the queries. -/
theorem idx_val : ∀ t : Fin cfg0.N, win0_0.index t = ![t.val % 4, t.val / 4] ∧ win0_1.index t = ![0, 2 * (t.val / 4)] ∧ win0_2.index t = ![0, 0]
    ∧ win0_3.index t = ![0, 2 * (t.val / 4) + 1] ∧ win0_4.index t = ![t.val % 4, t.val / 4] ∧ win0_5.index t = ![t.val % 4, t.val / 4] ∧ win0_6.index t = ![t.val / 4, t.val % 4, 0, 0]
    ∧ win0_7.index t = ![t.val % 4, 0] ∧ win0_8.index t = ![t.val % 4, 0] ∧ win0_9.index t = ![t.val % 4, 0] ∧ win0_10.index t = ![t.val % 4, t.val / 4] ∧ win0_11.index t = ![0, t.val / 4] ∧ win0_12.index t = ![0, 0]
    ∧ (grid0.coords t 1).val = t.val % 4 ∧ t.val < 32 :=
  (by decide +kernel : ∀ t : Fin grid0.N, _)

theorem pt_lt : t.val < 32 := (idx_val t).2.2.2.2.2.2.2.2.2.2.2.2.2.2
/-- The head a grid point works at. -/
abbrev hd : Fin 8 := ⟨t.val / 4, by have := pt_lt t; omega⟩
/-- The query a row of a grid point's tile is. -/
abbrev rw' (r : Fin 1024) : Fin 4096 := ⟨(t.val % 4) * 1024 + r.val, by omega⟩

theorem blk_q (r : Fin 1024) (x : Fin 256) : iblk m c 0 t (ix2 r x) = qx (aq m c) (apos m c) (rw' t r) (hd t) x := by
  refine Eq.trans (b := V m c main_v84 (ix2 (rw' t r) (kcol (hd t) x))) ?_ ?_
  · unfold iblk
    show V m c main_v84 _ = _
    generalize V m c main_v84 = w
    blk_ext [idx_val t]
  · rw [V_q]
    refine (qForm_apply _ _ _ _ _).trans ?_
    unfold qx
    generalize rot (aq m c) (apos m c) = w
    pointwise [val_main_v20, val_main_v19]

theorem blk_k (u : Fin 4096) (d : Fin 128) : iblk m c 1 t (ix2 u d) = akv m c (ix3 0 u (kcol (hd t) (lo d))) := by
  refine Eq.trans (b := V m c main_v89 (ix2 u (kcol (hd t) (lo d)))) ?_ ?_
  · unfold iblk
    show V m c main_v89 _ = _
    generalize V m c main_v89 = w
    blk_ext [idx_val t]
  · rw [V_kv]; exact Cert.RealOps.shapeCast_drop_lead _ _ _

theorem blk_kr (u : Fin 4096) (d : Fin 128) : iblk m c 2 t (ix2 u d) = krx (akr m c) u d := by
  refine Eq.trans (b := V m c main_v87 (ix2 u d)) ?_ ?_
  · unfold iblk
    show V m c main_v87 _ = _
    generalize V m c main_v87 = w
    blk_ext [idx_val t]
  · rw [V_kr]
    refine (krForm_apply _ _ _).trans ?_
    pointwise [krx]

theorem blk_v (u : Fin 4096) (d : Fin 128) : iblk m c 3 t (ix2 u d) = akv m c (ix3 0 u (kcol (hd t) (hi d))) := by
  refine Eq.trans (b := V m c main_v89 (ix2 u (kcol (hd t) (hi d)))) ?_ ?_
  · unfold iblk
    show V m c main_v89 _ = _
    generalize V m c main_v89 = w
    blk_ext [idx_val t]
  · rw [V_kv]; exact Cert.RealOps.shapeCast_drop_lead _ _ _

theorem blk_o (r : Fin 1024) (d : Fin 128) : iblk m c 4 t (ix2 r d) = outp m c (ix2 (rw' t r) (col (hd t) d)) := by
  refine Eq.trans (b := V m c main_v90 (ix2 (rw' t r) (col (hd t) d))) ?_ ?_
  · unfold iblk
    show V m c main_v90 _ = _
    generalize V m c main_v90 = w
    blk_ext [idx_val t]
  · rw [V_o]; rfl

theorem blk_do (r : Fin 1024) (d : Fin 128) : iblk m c 5 t (ix2 r d) = act m c (ix3 0 (rw' t r) (col (hd t) d)) := by
  refine Eq.trans (b := V m c main_v92 (ix2 (rw' t r) (col (hd t) d))) ?_ ?_
  · unfold iblk
    show V m c main_v92 _ = _
    generalize V m c main_v92 = w
    blk_ext [idx_val t]
  · rw [V_do]; exact Cert.RealOps.shapeCast_drop_lead _ _ _

theorem blk_cos (r : Fin 1024) (d : Fin 128) : iblk m c 7 t (ix2 r d) = cosForm (apos m c) (ix2 (rw' t r) d) := by
  refine Eq.trans (b := V m c main_v113 (ix2 (rw' t r) d)) ?_ ?_
  · unfold iblk
    show V m c main_v113 _ = _
    generalize V m c main_v113 = w
    blk_ext [idx_val t]
  · rw [V_cos]

theorem blk_sinA (r : Fin 1024) (d : Fin 128) : iblk m c 8 t (ix2 r d) = sinAForm (apos m c) (ix2 (rw' t r) d) := by
  refine Eq.trans (b := V m c main_v115 (ix2 (rw' t r) d)) ?_ ?_
  · unfold iblk
    show V m c main_v115 _ = _
    generalize V m c main_v115 = w
    blk_ext [idx_val t]
  · rw [V_sinA]

theorem blk_sinB (r : Fin 1024) (d : Fin 128) : iblk m c 9 t (ix2 r d) = sinBForm (apos m c) (ix2 (rw' t r) d) := by
  refine Eq.trans (b := V m c main_v116 (ix2 (rw' t r) d)) ?_ ?_
  · unfold iblk
    show V m c main_v116 _ = _
    generalize V m c main_v116 = w
    blk_ext [idx_val t]
  · rw [V_sinB]

/-- A row of statistics of all heads, cut into tiles. -/
theorem stat_apply (f : FVec Ideal S8x4096 .f32) (h : Fin 8) (b : Fin 4) (r : Fin 1024) :
    shapeCast S8x4x1x1024 f shapeCasts_S8x4096_S8x4x1x1024 (ix4 h b 0 r) = f (ix2 h ⟨b.val * 1024 + r.val, by omega⟩) := by
  pointwise []

theorem read_stat (w : FVec Ideal S8x4x1x1024 .f32) (r : Fin 1024) :
    ((cfg0.win 6).blk t).view.read (Elt Ideal) w (ix4 0 0 0 r) = w (ix4 (hd t) ⟨t.val % 4, by omega⟩ 0 r) := by
  show w _ = w _
  blk_ext [idx_val t]

theorem arr_stat : V m c (Pipeline.arrRef spec0 6) = V m c main_v117 := by exact rfl

theorem blk_lse (r : Fin 1024) : iblk m c 6 t (ix4 0 0 0 r) = lseForm (logits m c) (val_main_v57 (F := Ideal) (aq m c) (akv m c) (akr m c) (apos m c)) (ix2 (hd t) (rw' t r)) := by
  unfold iblk
  rw [arr_stat]
  refine (read_stat t _ r).trans ?_
  rw [V_lse]
  generalize lseForm _ _ = f
  exact stat_apply f _ _ _

theorem lse_T (r : Fin 1024) : lseT m c t (ix2 r 0) = iblk m c 6 t (ix4 0 0 0 r) := by
  pointwise [lseT, k0_pay12]
  exact diagonal (fun x => iblk m c 6 t (ix4 0 0 0 x)) r

theorem q_T (r : Fin 1024) (x : Fin 256) : qT m c t (ix2 r x) = qx (aq m c) (apos m c) (rw' t r) (hd t) x := by
  rw [← blk_q]
  pointwise [qT, k0_pay9]

theorem do_T (r : Fin 1024) (d : Fin 128) : doT m c t (ix2 r d) = act m c (ix3 0 (rw' t r) (col (hd t) d)) := by
  rw [← blk_do]
  pointwise [doT, k0_pay10]

theorem delta_T (r : Fin 1024) : deltaT m c t (ix2 r 0) = ∑ d : Fin 128, act m c (ix3 0 (rw' t r) (col (hd t) d)) * outp m c (ix2 (rw' t r) (col (hd t) d)) := by
  refine Eq.trans (b := ∑ d : Fin 128, (show EReal from iblk m c 5 t (ix2 r d)) * (show EReal from iblk m c 4 t (ix2 r d))) (by pointwise [deltaT, k0_pay11, k0_pay10]) ?_
  exact Finset.sum_congr rfl fun d _ => by rw [blk_do, blk_o]

theorem key_T (u : Fin 4096) (x : Fin 256) : keyT m c t (ix2 u x) = kx (akv m c) (akr m c) u (hd t) x := by
  unfold keyT kx
  by_cases hx : x.val < 128
  · rw [dif_pos hx]
    refine Eq.trans ?_ (blk_k m c t u ⟨x.val, hx⟩)
    exact dif_pos hx
  · rw [dif_neg hx]
    refine Eq.trans ?_ (blk_kr m c t u ⟨x.val - 128, by omega⟩)
    exact dif_neg hx

/-- The keys of a head are kept from its first tile on. -/
theorem keys_same (h : ¬t.val % 4 = 0) (p : Fin cfg0.N) (hp : p.val = t.val - 1) : keyT m c p = keyT m c t := by
  funext y
  have e : hd p = hd t := Fin.ext (by show p.val / 4 = t.val / 4; omega)
  obtain ⟨a, b, rfl⟩ : ∃ a b, y = ix2 a b := ⟨y 0, y 1, by funext i; match i with | 0 => rfl | 1 => rfl⟩
  rw [key_T, key_T, e]

theorem keys_at : ∀ n : ℕ, ∀ hn : n < cfg0.N, (outsAt0 m c n hn).2.2.2.1 = keyT m c ⟨n, hn⟩ := by
  intro n
  induction n with
  | zero => intro hn; exact kf_first m c ⟨0, hn⟩ rfl
  | succ n ih =>
    intro hn
    by_cases h : (n + 1) % 4 = 0
    · exact kf_first m c ⟨n + 1, hn⟩ h
    · refine (kf_next m c ⟨n + 1, hn⟩ h).trans ?_
      exact (ih (by omega)).trans (keys_same m c ⟨n + 1, hn⟩ h ⟨n, by omega⟩ rfl)

theorem keys_before (h : ¬t.val % 4 = 0) : keysBefore m c t = keyT m c t :=
  (keys_at m c (t.val - 1) (by have := t.isLt; omega)).trans (keys_same m c t h _ rfl)

end Cert.MlaBwd
end
-- ==== Proof.MlaRow.lean ====
/- The weights and the gradients of the logits that the latent attention's backward launch works with are the reference's. -/
module

public import proofs.«01_k».proof.Proof.MlaBlocks
public import proofs.«01_k».proof.Proof.Softmax

@[expose] public section

set_option maxRecDepth 16384

noncomputable section

open Idealize.ShloMosaic Idealize.ShloMosaic.TcCoe Idealize.SL.Sem
open Idealize.ShloMosaic.Pipeline (Dat)
open scoped BigOperators

namespace Cert.MlaBwd
open Cert.Reference2Ideal.Read Cert.RealOps Cert.Softmax Cert.Rows

section Row
variable (q : FVec Ideal Cert.Reference2Ideal.S1x4096x1536 .f32) (kv : FVec Ideal Cert.Reference2Ideal.S1x4096x2048 .f32) (kr : FVec Ideal Cert.Reference2Ideal.S1x4096x64 .f32)
  (pos : IVec Cert.Reference2Ideal.S1x4096 32) (ct : FVec Ideal Cert.Reference2Ideal.S1x4096x1024 .f32)

theorem ofBits_base : Ideal.ofBits .f32 0x461C4000#32 = ((10000 : ℝ) : EReal) := by
  simp [Ideal.ofBits, Ideal.ieee, ← EReal.coe_mul, -EReal.coe_mul]; norm_num
theorem ofBits_64 : Ideal.ofBits .f32 0x42800000#32 = ((64 : ℝ) : EReal) := by
  simp [Ideal.ofBits, Ideal.ieee, ← EReal.coe_mul, -EReal.coe_mul]; norm_num
theorem ofBits_two : Ideal.ofBits .f32 0x40000000#32 = ((2 : ℝ) : EReal) := by
  simp [Ideal.ofBits, Ideal.ieee, ← EReal.coe_mul, -EReal.coe_mul]; norm_num

/-- The angle of a position is a real number. -/
theorem angle_real (s : Fin 4096) (x : Fin 32) : ∃ r : ℝ, val_main_v16 (F := Ideal) pos (ix2 s x) = (r : EReal) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [ofBits_base, ofBits_64, ofBits_two]
  have h1 : FloatOps.sitofp (F := Ideal) .f32 (pos (ix2 0 s)) = (((pos (ix2 0 s)).toInt : ℝ) : EReal) := rfl
  have h2 : FloatOps.sitofp (F := Ideal) .f32 (BitVec.ofNat 32 x.val) = (((BitVec.ofNat 32 x.val).toInt : ℝ) : EReal) := rfl
  rw [h1, h2, ← EReal.coe_mul, ← EReal.coe_neg, div_coe (by norm_num)]
  exact ⟨_, (EReal.coe_mul _ (Real.rpow _ _)).symm⟩

theorem cos_real (s : Fin 4096) (x : Fin 32) : ∃ r : ℝ, val_main_v17 (F := Ideal) pos (ix2 s x) = (r : EReal) := by
  obtain ⟨r, hr⟩ := angle_real pos s x
  exact ⟨Real.cos r, by rw [val_main_v17_apply, hr]; rfl⟩
theorem sin_real (s : Fin 4096) (x : Fin 32) : ∃ r : ℝ, val_main_v18 (F := Ideal) pos (ix2 s x) = (r : EReal) := by
  obtain ⟨r, hr⟩ := angle_real pos s x
  exact ⟨Real.sin r, by rw [val_main_v18_apply, hr]; rfl⟩

/-- The rotated part of a real query is real. -/
theorem rot_real (hq : IsReal q) (s : Fin 4096) (h : Fin 8) : ∃ r : Fin 64 → ℝ, ∀ x, rot q pos (ix3 s h x) = ((r x : ℝ) : EReal) := by
  obtain ⟨q, rfl⟩ := hq
  choose C hC using cos_real pos s
  choose S hS using sin_real pos s
  refine Classical.skolem (p := fun x r => rot _ pos (ix3 s h x) = ((r : ℝ) : EReal)) |>.mp fun x => ?_
  pointwise [rot, val_main_v39, val_main_v38, val_main_v37, val_main_v36, val_main_v35, val_main_v34, val_main_v33, val_main_v32, val_main_v31, val_main_v30, val_main_v29, val_main_v28, val_main_v27, val_main_v26, val_main_v25, val_main_v24, val_main_v20, val_main_v19]
  split
  · rw [hC, hS, ← EReal.coe_mul, ← EReal.coe_mul, ← EReal.coe_sub]; exact ⟨_, rfl⟩
  · rw [hC, hS, ← EReal.coe_mul, ← EReal.coe_mul, ← EReal.coe_add]; exact ⟨_, rfl⟩

theorem scale_real : ∃ r : ℝ, sc = (r : EReal) := by
  refine ⟨_, (EReal.coe_toReal ?_ ?_).symm⟩ <;> simp [sc, Ideal.ofBits, Ideal.ieee, ← EReal.coe_mul, -EReal.coe_mul]

theorem lgt_real (hq : IsReal q) (hkv : IsReal kv) (hkr : IsReal kr) (h : Fin 8) (s : Fin 4096) : ∃ l : Fin 4096 → ℝ, ∀ u, lgt q kv kr pos h s u = ((l u : ℝ) : EReal) := by
  obtain ⟨w, hw⟩ := rot_real q pos hq s h
  obtain ⟨q, rfl⟩ := hq; obtain ⟨kv, rfl⟩ := hkv; obtain ⟨kr, rfl⟩ := hkr
  obtain ⟨r, hr⟩ := scale_real
  refine ⟨fun u => ((∑ x : Fin 128, q (ix3 0 s (qcol h ⟨x.val, by omega⟩)) * kv (ix3 0 u (kcol h (lo x)))) + ∑ x, w x * kr (ix3 0 u x)) * r, fun u => ?_⟩
  unfold lgt
  rw [hr]
  simp only [hw, ← EReal.coe_mul, coe_sum, ← EReal.coe_add]

/-- The row sum of the incoming gradient times the output is the weighted sum of what the incoming gradient says of the values. -/
theorem delta_eq (hkv : IsReal kv) (hct : IsReal ct) (h : Fin 8) (s : Fin 4096) (w : Fin 4096 → ℝ) (hw : ∀ u, val_main_v81 (F := Ideal) q kv kr pos (ix3 h s u) = ((w u : ℝ) : EReal)) :
    ∃ p : Fin 4096 → ℝ, (∀ u, dpr kv ct h s u = ((p u : ℝ) : EReal))
      ∧ ∑ x : Fin 128, ct (ix3 0 s (col h x)) * val_main_v88 (F := Ideal) q kv kr pos (ix2 s (col h x)) = ((∑ u, w u * p u : ℝ) : EReal) := by
  simp only [ref_o, hw]
  clear hw
  obtain ⟨kv, rfl⟩ := hkv; obtain ⟨ct, rfl⟩ := hct
  refine ⟨fun u => ∑ x, ct (ix3 0 s (col h x)) * kv (ix3 0 u (kcol h (hi x))), fun u => ?_, ?_⟩
  · unfold dpr
    simp only [← EReal.coe_mul, coe_sum]
  · simp only [← EReal.coe_mul, coe_sum]
    rw [EReal.coe_eq_coe_iff]
    simp only [Finset.mul_sum]
    rw [Finset.sum_comm]
    refine Finset.sum_congr rfl fun u _ => Finset.sum_congr rfl fun x _ => by ring

/-- A query sees the keys up to itself. -/
abbrev seen (s u : Fin 4096) : Prop := u.val ≤ s.val

/-- A row of the reference over the reals. -/
theorem ref_row (hq : IsReal q) (hkv : IsReal kv) (hkr : IsReal kr) (hct : IsReal ct) (h : Fin 8) (s : Fin 4096) :
    ∃ (l p : Fin 4096 → ℝ) (μ : ℝ), (∀ u, lgt q kv kr pos h s u = ((l u : ℝ) : EReal)) ∧ (∀ u, dpr kv ct h s u = ((p u : ℝ) : EReal))
      ∧ (∑ x : Fin 128, ct (ix3 0 s (col h x)) * val_main_v88 (F := Ideal) q kv kr pos (ix2 s (col h x)) = ((∑ u, weight (seen s) l μ u * p u : ℝ) : EReal))
      ∧ lseForm (val_main_v56_0 (F := Ideal) q kv kr pos) (val_main_v57 (F := Ideal) q kv kr pos) (ix2 h s) = (μ : EReal) + Ideal.log ((den (seen s) l μ : ℝ) : EReal)
      ∧ (∀ u, val_main_v81 (F := Ideal) q kv kr pos (ix3 h s u) = ((weight (seen s) l μ u : ℝ) : EReal))
      ∧ ∀ u, val_main_v108 (F := Ideal) q kv kr pos ct (ix3 h s u) = ((grad (seen s) l p μ u : ℝ) : EReal) := by
  obtain ⟨l, hl⟩ := lgt_real q kv kr pos hq hkv hkr h s
  have hL : ∀ u, val_main_v56_0 (F := Ideal) q kv kr pos (ix3 h s u) = row (seen s) l u := fun u => by rw [ref_logit, row, hl]
  obtain ⟨μ, hμ⟩ := max_real (seen s) l (j := s) (le_refl _)
  have hM : val_main_v57 (F := Ideal) q kv kr pos (ix2 h s) = (μ : EReal) := by
    rw [ref_max, ← hμ]; exact congrArg (fun f => Finset.fold max ⊥ f Finset.univ) (funext hL)
  have hE : ∀ u, val_main_v77 (F := Ideal) q kv kr pos (ix3 h s u) = ((ex (seen s) l μ u : ℝ) : EReal) := fun u => by
    rw [ref_exp, ref_top, hM, ofBits_neg_inf, hL, max_eq_right bot_le, exp_row]
  have hZ : val_main_v78 (F := Ideal) q kv kr pos (ix2 h s) = ((den (seen s) l μ : ℝ) : EReal) := by
    rw [ref_sum]; simp only [hE]; rw [coe_sum]; rfl
  have hz := (den_pos (seen s) l μ (j := s) (le_refl _)).ne'
  have hW : ∀ u, val_main_v81 (F := Ideal) q kv kr pos (ix3 h s u) = ((weight (seen s) l μ u : ℝ) : EReal) := fun u => by
    rw [ref_soft, hE, hZ, div_coe hz]; rfl
  obtain ⟨p, hp, hd⟩ := delta_eq q kv kr pos ct hkv hct h s _ hW
  refine ⟨l, p, μ, hl, hp, hd, ?_, hW, fun u => ?_⟩
  · rw [lseForm_apply, hM]
    simp only [hL, exp_row]
    rw [coe_sum]; rfl
  · rw [ref_grad]
    simp only [ref_dpr, hp, hE, hZ]
    split
    · exact grad_eq (seen s) l p μ (i := s) (le_refl _) u
    · rename_i hn
      rw [grad, weight, ex, if_neg hn, zero_div, zero_mul]; rfl

end Row

section Tile
open Cert.Kernel2Ideal Cert.Kernel2Ideal.Gen
variable (m : (ℓ : Loc nD τ sig) → Buf (Elt Ideal) ℓ) (c : Dev nD) (t : Fin cfg0.N)
  (hq : IsReal (aq m c)) (hkv : IsReal (akv m c)) (hkr : IsReal (akr m c)) (hct : IsReal (act m c))

theorem tile_val : tile t = t.val % 4 := (idx_val t).2.2.2.2.2.2.2.2.2.2.2.2.2.1

/-- A sum over 256 columns in its three parts. -/
theorem sum_parts (f : Fin 256 → EReal) : ∑ x, f x = (∑ x : Fin 128, f (lo x)) + ((∑ x : Fin 64, f ⟨128 + x.val, by omega⟩) + ∑ x : Fin 64, f ⟨192 + x.val, by omega⟩) := by
  refine (Fin.sum_univ_add (a := 128) (b := 128) f).trans (congrArg₂ (fun a b : EReal => a + b) rfl ?_)
  refine (Fin.sum_univ_add (a := 64) (b := 64) fun x : Fin 128 => f ⟨128 + x.val, by omega⟩).trans (congrArg₂ (fun a b : EReal => a + b) rfl ?_)
  exact Finset.sum_congr rfl fun x _ => congrArg f (Fin.ext (by show 128 + (64 + x.val) = 192 + x.val; omega))

theorem qx_low (q : FVec Ideal S1x4096x1536 .f32) (pos : IVec S1x4096 32) (s : Fin 4096) (h : Fin 8) (x : Fin 128) : qx q pos s h (lo x) = q (ix3 0 s (qcol h ⟨x.val, by omega⟩)) := dif_pos x.isLt
theorem qx_rot (q : FVec Ideal S1x4096x1536 .f32) (pos : IVec S1x4096 32) (s : Fin 4096) (h : Fin 8) (x : Fin 64) : qx q pos s h ⟨128 + x.val, by omega⟩ = rot q pos (ix3 s h x) := by
  refine (dif_neg (by dsimp only; omega)).trans ((dif_pos (by dsimp only; omega)).trans ?_)
  exact congrArg (fun z => rot q pos (ix3 s h z)) (Fin.ext (by dsimp only; omega))
theorem qx_rest (q : FVec Ideal S1x4096x1536 .f32) (pos : IVec S1x4096 32) (s : Fin 4096) (h : Fin 8) (x : Fin 64) : qx q pos s h ⟨192 + x.val, by omega⟩ = 0 :=
  (dif_neg (by dsimp only; omega)).trans (dif_neg (by dsimp only; omega))
theorem kx_low (kv : FVec Ideal S1x4096x2048 .f32) (kr : FVec Ideal S1x4096x64 .f32) (u : Fin 4096) (h : Fin 8) (x : Fin 128) : kx kv kr u h (lo x) = kv (ix3 0 u (kcol h (lo x))) := dif_pos x.isLt
theorem kx_shared (kv : FVec Ideal S1x4096x2048 .f32) (kr : FVec Ideal S1x4096x64 .f32) (u : Fin 4096) (h : Fin 8) (x : Fin 64) : kx kv kr u h ⟨128 + x.val, by omega⟩ = kr (ix3 0 u x) := by
  refine (dif_neg (by dsimp only; omega)).trans ((dif_pos (by dsimp only; omega)).trans ?_)
  exact congrArg (fun z => kr (ix3 0 u z)) (Fin.ext (by dsimp only; omega))
theorem kx_rest (kv : FVec Ideal S1x4096x2048 .f32) (kr : FVec Ideal S1x4096x64 .f32) (u : Fin 4096) (h : Fin 8) (x : Fin 64) : kx kv kr u h ⟨192 + x.val, by omega⟩ = 0 :=
  (dif_neg (by dsimp only; omega)).trans (dif_neg (by dsimp only; omega))

/-- A tile's logits are the reference's. -/
theorem logit_T (r : Fin 1024) (u : Fin 4096) : (∑ x, qT m c t (ix2 r x) * (show EReal from keyT m c t (ix2 u x))) * scale
    = lgt (aq m c) (akv m c) (akr m c) (apos m c) (hd t) (rw' t r) u := by
  simp only [q_T, key_T]
  rw [sum_parts]
  simp only [qx_low, qx_rot, qx_rest, kx_low, kx_shared, kx_rest, mul_zero, Finset.sum_const_zero, add_zero]
  rfl

include hq hkv hkr hct
/-- A tile's weights and gradients of logits are the reference's. -/
theorem tile_eq (r : Fin 1024) (u : Fin 4096) :
    mwT m c t r u = val_main_v81 (F := Ideal) (aq m c) (akv m c) (akr m c) (apos m c) (ix3 (hd t) (rw' t r) u)
      ∧ mdlT m c t r u = val_main_v108 (F := Ideal) (aq m c) (akv m c) (akr m c) (apos m c) (act m c) (ix3 (hd t) (rw' t r) u) := by
  obtain ⟨l, p, μ, hl, hp, hd', hs, hW, hG⟩ := ref_row (aq m c) (akv m c) (akr m c) (apos m c) (act m c) hq hkv hkr hct (hd t) (rw' t r)
  have h1 : mwT m c t r u = ((weight (seen (rw' t r)) l μ u : ℝ) : EReal) := by
    show (if u.val ≤ tile t * 1024 + r.val then Ideal.exp ((∑ x, qT m c t (ix2 r x) * (show EReal from keyT m c t (ix2 u x))) * scale - lseT m c t (ix2 r 0)) else 0) = _
    rw [logit_T, lse_T, blk_lse, hs, hl, tile_val]
    by_cases h : u.val ≤ t.val % 4 * 1024 + r.val
    · rw [if_pos h]; exact exp_sub_lse (seen (rw' t r)) l μ h
    · rw [if_neg h, weight, ex, if_neg (show ¬ seen (rw' t r) u from h), zero_div]; rfl
  refine ⟨h1.trans (hW u).symm, ?_⟩
  rw [hG]
  have h2 : ∑ x, doT m c t (ix2 r x) * (show EReal from iblk m c 3 t (ix2 u x)) = ((p u : ℝ) : EReal) := by
    rw [← hp]; simp only [do_T, blk_v]; rfl
  have h3 : deltaT m c t (ix2 r 0) = ((∑ u, weight (seen (rw' t r)) l μ u * p u : ℝ) : EReal) := (delta_T m c t r).trans hd'
  show mwT m c t r u * (∑ x, doT m c t (ix2 r x) * (show EReal from iblk m c 3 t (ix2 u x)) - deltaT m c t (ix2 r 0)) = _
  rw [h1, h2, h3, ← EReal.coe_sub, ← EReal.coe_mul]; rfl

end Tile
end Cert.MlaBwd
end
-- ==== Proof.MlaKernel.lean ====
/- The three result arrays of the latent attention's backward launch, and the whole run. -/
module

public import proofs.«01_k».proof.Proof.MlaRow

@[expose] public section

set_option maxRecDepth 16384

noncomputable section

open Idealize.ShloMosaic Idealize.ShloMosaic.TcCoe Idealize.SL.Sem
open Idealize.ShloMosaic.Pipeline (Dat)
open scoped BigOperators

namespace Cert.MlaBwd
open Cert.Kernel2Ideal Cert.Kernel2Ideal.Gen Cert.Reference2Ideal.Read Cert.RealOps Cert.Rows

variable (m : (ℓ : Loc nD τ sig) → Buf (Elt Ideal) ℓ) (c : Dev nD)

/-- The reference's gradient of the logits. -/
abbrev gradR : FVec Ideal Cert.Reference2Ideal.S8x4096x4096 .f32 := val_main_v108 (F := Ideal) (aq m c) (akv m c) (akr m c) (apos m c) (act m c)
/-- The reference's weights. -/
abbrev softR : FVec Ideal Cert.Reference2Ideal.S8x4096x4096 .f32 := val_main_v81 (F := Ideal) (aq m c) (akv m c) (akr m c) (apos m c)
/-- The reference's gradient of the queries. -/
abbrev dqR : FVec Ideal Cert.Reference2Ideal.S4096x1536 .bf16 := val_main_v149 (F := Ideal) (aq m c) (akv m c) (akr m c) (apos m c) (act m c)
/-- The reference's gradient of the keys and values. -/
abbrev dkvR : FVec Ideal Cert.Reference2Ideal.S4096x2048 .bf16 := val_main_v151 (F := Ideal) (aq m c) (akv m c) (akr m c) (apos m c) (act m c)
/-- The reference's gradient of the shared keys. -/
abbrev dkrR : FVec Ideal Cert.Reference2Ideal.S4096x64 .f32 := val_main_v152 (F := Ideal) (aq m c) (akv m c) (akr m c) (apos m c) (act m c)

/-- Where the entries of the three results of a grid point lie. -/
theorem emb_dq (t : Fin cfg0.N) (r : Fin 1024) (x : Fin 256) : ((cfg0.win 10).blk t).view.emb (ix2 r x) = ix2 (rw' t r) (kcol (hd t) x) := by
  blk_ext [idx_val t]
/-- The second result. -/
theorem emb_dkv (t : Fin cfg0.N) (s : Fin 4096) (x : Fin 256) : ((cfg0.win 11).blk t).view.emb (ix2 s x) = ix2 s (kcol (hd t) x) := by
  blk_ext [idx_val t]
/-- The third. -/
theorem emb_dkr (t : Fin cfg0.N) (s : Fin 4096) (x : Fin 128) : ((cfg0.win 12).blk t).view.emb (ix2 s x) = ix2 s x := by
  blk_ext [idx_val t]

/-- Point `4 h + i` of a head's run. -/
theorem hd_run (t : Fin cfg0.N) (i : Fin 4) (h : 4 * (t.val / 4) + i.val < cfg0.N) : hd (⟨4 * (t.val / 4) + i.val, h⟩ : Fin cfg0.N) = hd t :=
  Fin.ext (by show (4 * (t.val / 4) + i.val) / 4 = t.val / 4; omega)
/-- Its rows. -/
theorem rw_run (t : Fin cfg0.N) (i : Fin 4) (h : 4 * (t.val / 4) + i.val < cfg0.N) (r : Fin 1024) (hl : i.val * 1024 + r.val < 4096) :
    rw' (⟨4 * (t.val / 4) + i.val, h⟩ : Fin cfg0.N) r = ⟨i.val * 1024 + r.val, hl⟩ :=
  Fin.ext (by show (4 * (t.val / 4) + i.val) % 4 * 1024 + r.val = i.val * 1024 + r.val; omega)

/-- The gradient of the queries with the launch's 64 zero columns behind each head. -/
def wide (f : FVec Ideal Cert.Reference2Ideal.S4096x1536 .bf16) : FVec Ideal S4096x2048 .bf16 := fun i =>
  if h : (i 1).val % 256 < 192 then f (ix2 (i 0) ⟨(i 1).val / 256 * 192 + (i 1).val % 256, by have h1 : (i 1).val < 2048 := (i 1).isLt; omega⟩) else (0 : EReal)
/-- The gradient of the shared keys with 64 columns behind that the host drops. -/
def wideR (f : Fin 4096 → Fin 128 → EReal) : FVec Ideal S4096x128 .f32 := fun i => f (i 0) (i 1)

theorem wide_at (f : FVec Ideal Cert.Reference2Ideal.S4096x1536 .bf16) (s : Fin 4096) (h : Fin 8) (x : Fin 192) : wide f (ix2 s (kcol h ⟨x.val, by omega⟩)) = f (ix2 s (qcol h x)) := by
  unfold wide
  refine (dif_pos (by show (h.val * 256 + x.val) % 256 < 192; omega)).trans (congrArg (fun z => f (ix2 s z)) (Fin.ext ?_))
  show (h.val * 256 + x.val) / 256 * 192 + (h.val * 256 + x.val) % 256 = h.val * 192 + x.val
  omega
theorem wide_rest (f : FVec Ideal Cert.Reference2Ideal.S4096x1536 .bf16) (s : Fin 4096) (h : Fin 8) (x : Fin 256) (hx : 192 ≤ x.val) : wide f (ix2 s (kcol h x)) = (0 : EReal) := by
  unfold wide
  exact dif_neg (by show ¬(h.val * 256 + x.val) % 256 < 192; omega)
/-- The host's slices take the columns of the queries back out. -/
theorem narrow (f : FVec Ideal Cert.Reference2Ideal.S4096x1536 .bf16) :
    shapeCast S4096x1536 (extractStridedSlice S4096x8x192 ![0, 0, 0] (shapeCast S4096x8x256 (wide f) shapeCasts_S4096x2048_S4096x8x256) slices_S4096x8x256_S4096x8x192_0_0_0) shapeCasts_S4096x8x192_S4096x1536 = f := by
  funext j
  idx_vars j
  generalize hw : wide f = w
  pointwise []
  have e := wide_at f j0 ⟨j1.val / 192, by omega⟩ ⟨j1.val % 192, by omega⟩
  rw [hw] at e
  refine Eq.trans (congrArg (fun z => w (ix2 j0 z)) (Fin.ext ?_)) (e.trans (congrArg (fun z => f (ix2 j0 z)) (Fin.ext ?_)))
  · rfl
  · show j1.val / 192 * 192 + j1.val % 192 = j1.val
    omega

/-- The host's lines after the launch: the gradient of the queries. -/
theorem dq_line (W : Valuation τ sig (Elt Ideal)) : StableHlo.after hostOps1 W (Proc.devRef .tc main_v121)
    = shapeCast S4096x1536 (extractStridedSlice S4096x8x192 ![0, 0, 0] (shapeCast S4096x8x256 (show FVec Ideal S4096x2048 .bf16 from W (Proc.devRef .tc main_v118_0)) shapeCasts_S4096x2048_S4096x8x256) slices_S4096x8x256_S4096x8x192_0_0_0) shapeCasts_S4096x8x192_S4096x1536 := by
  after_results
  rfl
/-- The gradient of the shared keys. -/
theorem dkr_line (W : Valuation τ sig (Elt Ideal)) : StableHlo.after hostOps1 W (Proc.devRef .tc main_v122)
    = extractStridedSlice S4096x64 ![0, 0] (show FVec Ideal S4096x128 .f32 from W (Proc.devRef .tc main_v118_2)) slices_S4096x128_S4096x64_0_0 := by
  after_results

variable (hq : IsReal (aq m c)) (hkv : IsReal (akv m c)) (hkr : IsReal (akr m c)) (hct : IsReal (act m c))
include hq hkv hkr hct

theorem mdl_run (t : Fin cfg0.N) (i : Fin 4) (h : 4 * (t.val / 4) + i.val < cfg0.N) (r : Fin 1024) (hl : i.val * 1024 + r.val < 4096) (u : Fin 4096) :
    mdlT m c ⟨4 * (t.val / 4) + i.val, h⟩ r u = gradR m c (ix3 (hd t) ⟨i.val * 1024 + r.val, hl⟩ u) := by
  rw [(tile_eq m c _ hq hkv hkr hct r u).2, hd_run, rw_run t i h r hl]
theorem mw_run (t : Fin cfg0.N) (i : Fin 4) (h : 4 * (t.val / 4) + i.val < cfg0.N) (r : Fin 1024) (hl : i.val * 1024 + r.val < 4096) (u : Fin 4096) :
    mwT m c ⟨4 * (t.val / 4) + i.val, h⟩ r u = softR m c (ix3 (hd t) ⟨i.val * 1024 + r.val, hl⟩ u) := by
  rw [(tile_eq m c _ hq hkv hkr hct r u).1, hd_run, rw_run t i h r hl]

/-- A row of the query gradient before the rotation is taken back. -/
theorem dq_low (t : Fin cfg0.N) (r : Fin 1024) (d : Fin 128) : dqT m c t r (lo d) = dqR m c (ix2 (rw' t r) (qcol (hd t) ⟨d.val, by omega⟩)) := by
  refine Eq.trans ?_ (ref_dq_low _ _ _ _ _ (hd t) (rw' t r) d).symm
  refine Finset.sum_congr rfl fun u _ => ?_
  rw [(tile_eq m c t hq hkv hkr hct r u).2, key_T, kx_low]
/-- Its rotary columns. -/
theorem dq_rot (t : Fin cfg0.N) (r : Fin 1024) (x : Fin 64) : dqT m c t r ⟨128 + x.val, by omega⟩ = drot (aq m c) (akv m c) (akr m c) (apos m c) (act m c) (hd t) (rw' t r) x := by
  refine Finset.sum_congr rfl fun u _ => ?_
  rw [(tile_eq m c t hq hkv hkr hct r u).2, key_T, kx_shared]

/-- The rotary columns after the rotation is taken back. -/
theorem turned_eq (t : Fin cfg0.N) (r : Fin 1024) (d : Fin 128) :
    turned (fun j => dqT m c t r ⟨128 + j.val, by omega⟩) (fun j => iblk m c 7 t (ix2 r j)) (fun j => iblk m c 8 t (ix2 r j)) (fun j => iblk m c 9 t (ix2 r j)) d
      = wide (dqR m c) (ix2 (rw' t r) (kcol (hd t) (hi d))) := by
  unfold turned
  dsimp only
  rw [blk_cos, blk_sinA, blk_sinB]
  rcases Nat.lt_or_ge d.val 64 with h64 | h64
  · refine Eq.trans ?_ (wide_at (dqR m c) (rw' t r) (hd t) ⟨128 + d.val, by omega⟩).symm
    have hdr := dq_rot m c hq hkv hkr hct t r
    rcases Nat.lt_or_ge d.val 32 with h32 | h32
    · obtain ⟨x, rfl⟩ : ∃ x : Fin 32, d = ⟨x.val, Nat.lt_trans x.isLt (by decide)⟩ := ⟨⟨d.val, h32⟩, rfl⟩
      rw [cos_first, sinA_first, sinB_first _ _ _ h32]
      refine Eq.trans ?_ (ref_dq_first _ _ _ _ _ (hd t) (rw' t r) x).symm
      rw [ref_drot, ref_drot, ← hdr, ← hdr, mul_neg, mul_zero, sub_zero, sub_eq_add_neg, neg_neg, add_comm]
      refine congrArg₂ (fun a b : EReal => a + b) (congrArg (fun z => dqT m c t r z * _) (Fin.ext ?_)) rfl
      show 128 + (x.val + 32) % 128 = 128 + (32 + x.val)
      omega
    · obtain ⟨x, rfl⟩ : ∃ x : Fin 32, d = ⟨32 + x.val, Nat.lt_trans (Nat.add_lt_add_left x.isLt 32) (by decide)⟩ := ⟨⟨d.val - 32, by omega⟩, Fin.ext (by show d.val = 32 + (d.val - 32); omega)⟩
      rw [cos_second, sinA_rest _ _ _ h32, sinB_second]
      refine Eq.trans ?_ ((congrArg (fun z => dqR m c (ix2 (rw' t r) z)) (Fin.ext ?_)).trans (ref_dq_second _ _ _ _ _ (hd t) (rw' t r) x)).symm
      · rw [ref_drot, ref_drot, ← hdr, ← hdr, mul_zero, sub_zero, neg_mul, sub_eq_add_neg]
        refine congrArg₂ (fun a b : EReal => a + b) rfl (congrArg (fun z => -(dqT m c t r z * _)) (Fin.ext ?_))
        show 128 + (32 + x.val + 96) % 128 = 128 + x.val
        omega
      · show (hd t).val * 192 + (128 + (32 + x.val)) = (hd t).val * 192 + (160 + x.val)
        omega
  · rw [cos_rest _ _ _ h64, sinA_rest _ _ _ (by omega), sinB_rest _ _ _ h64, wide_rest _ _ _ _ (by show 192 ≤ 128 + d.val; omega)]
    simp

theorem final_dq : (dats m 0 c).arrAt 10 (cfgs 0).N = wide (dqR m c) := by
  refine (dats m 0 c).arrAt_eq_of_covers 10 _ (by decide +kernel) fun t hf y => ?_
  blk_simp; rw [after0_10]
  obtain ⟨r, x, rfl⟩ : ∃ (r : Fin 1024) (x : Fin 256), y = ix2 r x := ⟨y 0, y 1, by funext a; match a with | 0 => rfl | 1 => rfl⟩
  refine Eq.trans ?_ (congrArg (wide (dqR m c)) (emb_dq t r x)).symm
  rcases Nat.lt_or_ge x.val 128 with h | h
  · obtain ⟨d, rfl⟩ : ∃ d : Fin 128, x = lo d := ⟨⟨x.val, h⟩, rfl⟩
    refine ((dq_parts m c t (keys_before m c t) r d).1).trans ((dq_low m c hq hkv hkr hct t r d).trans ?_)
    exact (wide_at (dqR m c) (rw' t r) (hd t) ⟨d.val, by omega⟩).symm
  · obtain ⟨d, rfl⟩ : ∃ d : Fin 128, x = hi d := ⟨⟨x.val - 128, by omega⟩, Fin.ext (by show x.val = 128 + (x.val - 128); omega)⟩
    exact ((dq_parts m c t (keys_before m c t) r d).2).trans (turned_eq m c hq hkv hkr hct t r d)

/-- A head's sums over its four tiles: keys. -/
theorem dk_run (t : Fin cfg0.N) (h : t.val % 4 = 3) (s : Fin 4096) (d : Fin 256) : (show EReal from (outsAt0 m c t.val t.isLt).2.2.2.2.1 (ix2 s d))
    = ∑ u, gradR m c (ix3 (hd t) u s) * scale * qx (aq m c) (apos m c) u (hd t) d := by
  refine (Pipeline.eq_sum_fin_of_reset_step_apply_of_flush (M := EReal) (ι := Fin 4096 × Fin 256) (fun n h i => (outsAt0 m c n h).2.2.2.2.1 (ix2 i.1 i.2)) 4 (fun _ => 0)
    (fun t i => ∑ r, mdlT m c t r i.1 * scale * qT m c t (ix2 r i.2)) (fun t h i => dk_first m c t h i.1 i.2)
    (fun t h i => dk_next m c t h (keys_before m c t h) i.1 i.2) t h (s, d)).trans ?_
  rw [zero_add]
  refine Fin.sum_mul_add_congr (f := fun u => gradR m c (ix3 (hd t) u s) * scale * qx (aq m c) (apos m c) u (hd t) d) fun i r hl => ?_
  dsimp only
  rw [mdl_run m c hq hkv hkr hct t i _ r hl, q_T, hd_run, rw_run t i _ r hl]
/-- Values. -/
theorem dv_run (t : Fin cfg0.N) (h : t.val % 4 = 3) (s : Fin 4096) (d : Fin 128) : (show EReal from (outsAt0 m c t.val t.isLt).2.2.2.2.2 (ix2 s d))
    = ∑ u, act m c (ix3 0 u (col (hd t) d)) * softR m c (ix3 (hd t) u s) := by
  refine (Pipeline.eq_sum_fin_of_reset_step_apply_of_flush (M := EReal) (ι := Fin 4096 × Fin 128) (fun n h i => (outsAt0 m c n h).2.2.2.2.2 (ix2 i.1 i.2)) 4 (fun _ => 0)
    (fun t i => ∑ r, mwT m c t r i.1 * doT m c t (ix2 r i.2)) (fun t h i => dv_first m c t h i.1 i.2)
    (fun t h i => dv_next m c t h (keys_before m c t h) i.1 i.2) t h (s, d)).trans ?_
  rw [zero_add]
  refine Fin.sum_mul_add_congr (f := fun u => act m c (ix3 0 u (col (hd t) d)) * softR m c (ix3 (hd t) u s)) fun i r hl => ?_
  dsimp only
  rw [mw_run m c hq hkv hkr hct t i _ r hl, do_T, hd_run, rw_run t i _ r hl, mul_comm]

theorem final_dkv : (dats m 0 c).arrAt 11 (cfgs 0).N = dkvR m c := by
  refine (dats m 0 c).arrAt_eq_of_covers 11 _ (by decide +kernel) fun t hf y => ?_
  have h3 := (flush0_11 t).mp hf
  blk_simp; rw [after0_11]
  obtain ⟨s, x, rfl⟩ : ∃ (r : Fin 4096) (x : Fin 256), y = ix2 r x := ⟨y 0, y 1, by funext a; match a with | 0 => rfl | 1 => rfl⟩
  refine Eq.trans ?_ (congrArg (dkvR m c) (emb_dkv t s x)).symm
  rcases Nat.lt_or_ge x.val 128 with h | h
  · obtain ⟨d, rfl⟩ : ∃ d : Fin 128, x = lo d := ⟨⟨x.val, h⟩, rfl⟩
    refine (dkv_low m c t (by omega) h3 s d).trans ((dk_run m c hq hkv hkr hct t h3 s (lo d)).trans (Eq.trans ?_ (ref_dk _ _ _ _ _ (hd t) s d).symm))
    exact Finset.sum_congr rfl fun u _ => by rw [qx_low]
  · obtain ⟨d, rfl⟩ : ∃ d : Fin 128, x = hi d := ⟨⟨x.val - 128, by omega⟩, Fin.ext (by show x.val = 128 + (x.val - 128); omega)⟩
    exact (dkv_high m c t (by omega) h3 s d).trans ((dv_run m c hq hkv hkr hct t h3 s d).trans (ref_dv _ _ _ _ _ (hd t) s d).symm)

/-- What head `h` adds to the gradient of the shared keys. -/
def headPart (s : Fin 4096) (d : Fin 128) (h : ℕ) : EReal :=
  if hh : h < 8 then ∑ u, gradR m c (ix3 ⟨h, hh⟩ u s) * scale * qx (aq m c) (apos m c) u ⟨h, hh⟩ (hi d) else 0

/-- After point `n` the array of shared keys holds the heads done so far. -/
theorem dkr_at (s : Fin 4096) (d : Fin 128) : ∀ n : ℕ, ∀ hn : n < cfg0.N, (show EReal from (outsAt0 m c n hn).2.2.1 (ix2 s d)) = ∑ h ∈ Finset.range ((n + 1) / 4), headPart m c s d h := by
  intro n
  induction n with
  | zero => intro hn; exact (dkr_first m c ⟨0, hn⟩ rfl s d).trans (by simp)
  | succ n ih =>
    intro hn
    have hN : n + 1 < 32 := pt_lt ⟨n + 1, hn⟩
    by_cases h3 : (n + 1) % 4 = 3
    · refine (dkr_last m c ⟨n + 1, hn⟩ (by show ¬(n + 1) % 4 = 0; omega) h3 s d).trans ?_
      have e : (n + 1 + 1) / 4 = (n + 1) / 4 + 1 := by omega
      rw [e, Finset.sum_range_succ]
      refine congrArg₂ (fun a b : EReal => a + b) (ih (by omega)) ?_
      refine (dk_run m c hq hkv hkr hct ⟨n + 1, hn⟩ h3 s (hi d)).trans ?_
      unfold headPart
      rw [dif_pos (show (n + 1) / 4 < 8 by omega)]
    · refine (dkr_keep m c ⟨n + 1, hn⟩ (by show ¬(n + 1) % 32 = 0; omega) h3 s d).trans ((ih (by omega)).trans ?_)
      have e : (n + 1 + 1) / 4 = (n + 1) / 4 := by omega
      rw [e]

theorem final_dkr : (dats m 0 c).arrAt 12 (cfgs 0).N = wideR fun s d => ∑ h ∈ Finset.range 8, headPart m c s d h := by
  refine (dats m 0 c).arrAt_eq_of_covers 12 _ (by decide +kernel) fun t hf y => ?_
  have h3 : t.val % 32 = 31 := (flush0_12 t).mp hf
  have hN := pt_lt t
  blk_simp; rw [after0_12]
  obtain ⟨s, d, rfl⟩ : ∃ (r : Fin 4096) (x : Fin 128), y = ix2 r x := ⟨y 0, y 1, by funext a; match a with | 0 => rfl | 1 => rfl⟩
  refine Eq.trans ?_ (congrArg (wideR _) (emb_dkr t s d)).symm
  refine (dkr_at m c hq hkv hkr hct s d t.val t.isLt).trans ?_
  have e : (t.val + 1) / 4 = 8 := by omega
  rw [e]; rfl

omit hq hkv hkr hct in
/-- The host keeps the first 64 columns: the reference's gradient of the shared keys. -/
theorem result_dkr : extractStridedSlice S4096x64 ![0, 0] (wideR fun s d => ∑ h ∈ Finset.range 8, headPart m c s d h) slices_S4096x128_S4096x64_0_0 = dkrR m c := by
  funext j
  idx_vars j
  refine Eq.trans (b := ∑ h ∈ Finset.range 8, headPart m c j0 ⟨j1.val, by omega⟩ h) ?_ (Eq.trans ?_ (ref_dkr _ _ _ _ _ j0 j1).symm)
  · generalize hw : wideR (fun s d => ∑ h ∈ Finset.range 8, headPart m c s d h) = w
    pointwise []
    rw [← hw]; rfl
  · rw [← Fin.sum_univ_eq_sum_range]
    refine Finset.sum_congr rfl fun h _ => (dif_pos h.isLt).trans (Finset.sum_congr rfl fun u _ => ?_)
    exact congrArg (fun z => gradR m c (ix3 h u j0) * scale * z) (qx_rot _ _ u h j1)

omit hq hkv hkr hct in
/-- The gradient of the queries that the run leaves: the launch's columns without the zeros. -/
theorem tail_dq : Pipeline.afterTail₀ cfgs (dats m) 0 (V0 m) [hostOps1] c main_v121
    = shapeCast S4096x1536 (extractStridedSlice S4096x8x192 ![0, 0, 0] (shapeCast S4096x8x256 ((dats m 0 c).arrAt 10 (cfgs 0).N) shapeCasts_S4096x2048_S4096x8x256) slices_S4096x8x256_S4096x8x192_0_0_0) shapeCasts_S4096x8x192_S4096x1536 := by
  refine (dq_line (Pipeline.withArrays (cfgs 0).spec c (V0 m c) (fun w => (dats m 0 c).arrAt w (cfgs 0).N))).trans ?_
  have e : Pipeline.withArrays (cfgs 0).spec c (V0 m c) (fun w => (dats m 0 c).arrAt w (cfgs 0).N) (Proc.devRef .tc main_v118_0) = (dats m 0 c).arrAt 10 (cfgs 0).N :=
    (dats m 0 c).withArrays_arrAt sharedIn0 (V0 m c) (A_eq m c) 10
  rw [e]

omit hq hkv hkr hct in
/-- The gradient of the shared keys that it leaves. -/
theorem tail_dkr : Pipeline.afterTail₀ cfgs (dats m) 0 (V0 m) [hostOps1] c main_v122
    = extractStridedSlice S4096x64 ![0, 0] ((dats m 0 c).arrAt 12 (cfgs 0).N) slices_S4096x128_S4096x64_0_0 := by
  refine (dkr_line (Pipeline.withArrays (cfgs 0).spec c (V0 m c) (fun w => (dats m 0 c).arrAt w (cfgs 0).N))).trans ?_
  exact congrArg (fun f => extractStridedSlice S4096x64 ![0, 0] f slices_S4096x128_S4096x64_0_0) ((dats m 0 c).withArrays_arrAt sharedIn0 (V0 m c) (A_eq m c) 12)

set_option maxHeartbeats 4000000 in
omit hq hkv hkr hct in
/-- The whole run: the three gradients are the reference's, the arguments are unchanged. -/
theorem kernel_run (ρ : Dev nD → PrngReg) (hreal : ∀ c : Dev nD, IsReal (aq m c) ∧ IsReal (akv m c) ∧ IsReal (akr m c) ∧ IsReal (act m c)) :
    θ_run defs (onTc (τ := τ) (main (F := Ideal))) ⟨m, fun _ => 0, ρ⟩ fun r => ∀ c : Dev nD,
    r.2.mem ((c.tc : Thread nD τ).loc main_v121) = dqR m c
    ∧ r.2.mem ((c.tc : Thread nD τ).loc main_v118_1) = dkvR m c
    ∧ r.2.mem ((c.tc : Thread nD τ).loc main_v122) = dkrR m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.Kernel2Ideal.Gen.run_main m ρ & Cert.Kernel2Ideal.Gen.unchanged m ρ
  all_goals obtain ⟨hq, hkv, hkr, hct⟩ := hreal c
  · rw [tail_dq, final_dq m c hq hkv hkr hct]; exact narrow _
  · exact final_dkv m c hq hkv hkr hct
  · rw [tail_dkr, final_dkr m c hq hkv hkr hct]; exact result_dkr m c

end Cert.MlaBwd
end
-- ==== Proof.MlaBwdClaim.lean ====
/- The backward of the latent attention: the claims about this call, from the kernel's run and the reference's run. -/
module

public import proofs.«01_k».proof.Defs
public import proofs.«01_k».proof.Proof.Gen.Kernel2.Frame
public import proofs.«01_k».proof.Proof.Gen.Reference2Ideal.Run
public import proofs.«01_k».proof.Proof.Gen.Reference2Ideal.Read
public import proofs.«01_k».proof.Proof.Gen.Pre_finite2
public import proofs.«01_k».proof.Proof.MlaKernel
public import Idealize.ShloMosaic.Adequacy
public import Idealize.ShloMosaic.Init

@[expose] public section

set_option maxRecDepth 16384

noncomputable section

namespace Cert.MlaBwd

open Idealize.ShloMosaic Idealize.SL.Sem

/-- What the precondition says of the launch memory: these arguments hold reals. -/
theorem finite (m : (ℓ : Loc Kernel2Ideal.nD Kernel2Ideal.τ Kernel2Ideal.sig) → Buf (Elt Ideal) ℓ) (h : Cert.Pre_Kernel2Ideal_finite2 m) (c : Dev Kernel2Ideal.nD) :
    RealOps.IsReal (m ((c.tc : Thread Kernel2Ideal.nD Kernel2Ideal.τ).loc Kernel2Ideal.main_arg0))
    ∧ RealOps.IsReal (m ((c.tc : Thread Kernel2Ideal.nD Kernel2Ideal.τ).loc Kernel2Ideal.main_arg1))
    ∧ RealOps.IsReal (m ((c.tc : Thread Kernel2Ideal.nD Kernel2Ideal.τ).loc Kernel2Ideal.main_arg2))
    ∧ RealOps.IsReal (m ((c.tc : Thread Kernel2Ideal.nD Kernel2Ideal.τ).loc Kernel2Ideal.main_arg4)) :=
  ⟨RealOps.isReal_of_finite _ _ (h c).1, RealOps.isReal_of_finite _ _ (h c).2.1, RealOps.isReal_of_finite _ _ (h c).2.2.1, RealOps.isReal_of_finite _ _ (h c).2.2.2⟩

/-- The two idealized programs leave the same results. -/
theorem algebraic : Cert.algebraic_Kernel2Ideal_Reference2Ideal_pre_finite2 := by
  pair_intro
  · exact Cert.MlaBwd.kernel_run m g (finite m hpre)
  · refine (θ_run Cert.Reference2Ideal.defs _ _).mono (fun r h c => ?_) (Cert.Reference2Ideal.Value.run m' g')
    obtain ⟨e0, e1, e2, e3, e4⟩ := hagree c
    obtain ⟨a0, a1, a2, a3⟩ := h c
    refine ⟨a0.trans ((Cert.Reference2Ideal.Read.val_main_v149_eq (fun b => m' (c, b))).trans ?_), a1.trans ((Cert.Reference2Ideal.Read.val_main_v151_eq (fun b => m' (c, b))).trans ?_), a2.trans ((Cert.Reference2Ideal.Read.val_main_v152_eq (fun b => m' (c, b))).trans ?_), a3⟩
    · show Cert.Reference2Ideal.Read.val_main_v149 (F := Ideal) (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4)) = _
      rw [e0, e1, e2, e3, e4]
    · show Cert.Reference2Ideal.Read.val_main_v151 (F := Ideal) (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4)) = _
      rw [e0, e1, e2, e3, e4]
    · show Cert.Reference2Ideal.Read.val_main_v152 (F := Ideal) (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)) (m' ((c.tc : Thread Reference2Ideal.nD Reference2Ideal.τ).loc Reference2Ideal.main_arg4)) = _
      rw [e0, e1, e2, e3, e4]

/-- The reference's run leaves its arguments as they were; it declares no semaphore. -/
theorem frame_reference : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run m ρ)

end Cert.MlaBwd

end
-- ==== Proof.DecayScan.lean ====
/- The backward of the forget gate's running sum (`_fox_decay_bwd`): its scan of one block of 128 lanes, the blocks carried from the last to the first, and the pieces its launch stores. -/
module

public import proofs.«01_k».proof.Proof.Gen.Kernel3Ideal.Frame
public import Idealize.ShloMosaic.Lib.Pipeline.ValueKit
public import proofs.«01_k».proof.Proof.RealOps

@[expose] public section

set_option maxRecDepth 16384

noncomputable section

open Idealize.ShloMosaic Idealize.ShloMosaic.TcCoe Idealize.SL.Sem
open Idealize.ShloMosaic.Pipeline (Dat)
open scoped BigOperators

namespace Cert.DecayBwd

open Cert.Kernel3Ideal Cert.Kernel3Ideal.Gen

/-- One step of the kernel's scan: every lane adds the lane `128 - n` places on, where there is one. -/
def scanStep (n : BitVec 32) (x : FVec Ideal S8x128 .f32) : FVec Ideal S8x128 .f32 :=
  addf x (select (cmpi .slt (iota .tc S8x128 32 [1] iota_S8x128_d1_w32) (broadcast S8x128 n))
    (dynamicRotate 1 n none x rotates_S8x128_d1) (broadcast S8x128 (Scalar.ofBits .f32 0x00000000#32)))

/-- The scan of one block of 128 lanes. -/
def scanR (x : FVec Ideal S8x128 .f32) : FVec Ideal S8x128 .f32 :=
  scanStep 64#32 (scanStep 96#32 (scanStep 112#32 (scanStep 120#32 (scanStep 124#32 (scanStep 126#32 (scanStep 127#32 x))))))

/-- The block `n` blocks before the last. -/
abbrev rectAt (n : ℕ) : Rect S8x4096 := Rect.unit (s := S8x4096) ![0, 3968 - 128 * n] S8x128.size
  (fun a => by fin_cases a <;> simp <;> omega)

variable (x0 x1 : Vec Ideal S8x4096 .f32) (x2 : Vec Ideal S8x1 .f32)

/-- The scan of a block over the carry of the blocks after it. -/
def dlogBlk : ℕ → FVec Ideal S8x128 .f32
  | 0 => addf (scanR (shapeCast S8x128 (View.ld x0 (rectAt 0)) shapeCasts_S8x128_S8x128))
      (broadcastTo S8x128 (broadcast S8x1 (Scalar.ofBits (F := Ideal) .f32 0x00000000#32)) broadcasts_S8x1_S8x128)
  | n + 1 => addf (scanR (shapeCast S8x128 (View.ld x0 (rectAt (n + 1))) shapeCasts_S8x128_S8x128))
      (broadcastTo S8x128 (extractStridedSlice S8x1 ![0, 0] (dlogBlk n) slices_S8x128_o0_0_S8x1) broadcasts_S8x1_S8x128)

/-- The block of the logits' gradient. -/
def dzBlk (n : ℕ) : FVec Ideal S8x128 .f32 :=
  mulf (dlogBlk x0 n) (divf (broadcast S8x128 (Scalar.ofBits .f32 0x3F800000#32)) (addf (broadcast S8x128 (Scalar.ofBits .f32 0x3F800000#32))
    (exp (addf (shapeCast S8x128 (View.ld x1 (rectAt n)) shapeCasts_S8x128_S8x128)
      (broadcastTo S8x128 (shapeCast S8x1 (View.ld x2 r0_1) shapeCasts_S8x1_S8x1) broadcasts_S8x1_S8x128)))))

/-- The running total of the gradient's rows after a block. -/
def totBlk : ℕ → FVec Ideal S8x1 .f32
  | 0 => broadcast S8x1 (Scalar.ofBits .f32 0x00000000#32)
  | n + 1 => addf (totBlk n) (shapeCast S8x1 (multiReduction .add [1] S8 (dzBlk x0 x1 x2 n) 0x00000000#32 reduces_S8x128_S8 (.inl rfl) rfl) shapeCasts_S8_S8x1)

/-- The pieces of the gradient, the first block the kernel writes last. -/
def dzPieces : List (View.Piece (Elt Ideal) S8x4096 .f32) :=
  (List.range 32).reverse.map fun n => ⟨rectAt n, dzBlk x0 x1 x2 n⟩

theorem out3_pieces : out0_3 x0 x1 x2 = View.canon (dzPieces x0 x1 x2) := by
  rfl

theorem out4_total : out0_4 x0 x1 x2 = View.canon [⟨r0_33, broadcastTo S8x128 (shapeCast S8x1 (totBlk x0 x1 x2 32) shapeCasts_S8x1_S8x1) broadcasts_S8x1_S8x128⟩] := by
  rfl

/-- A block's row as a sequence, zero past its end. -/
def ext (x : FVec Ideal S8x128 .f32) (h : Fin 8) (l : ℕ) : EReal := if hl : l < 128 then x (ix2 h ⟨l, hl⟩) else 0

theorem ext_lt (x : FVec Ideal S8x128 .f32) (h : Fin 8) (l : Fin 128) : ext x h l.val = x (ix2 h l) := by
  unfold ext; rw [dif_pos l.isLt]

/-- The comparison of two small numbers. -/
theorem slt_ofNat (a b : ℕ) (ha : a < 128) (hb : b < 128) : (BitVec.ofNat 32 a).slt (BitVec.ofNat 32 b) = decide (a < b) := by
  rw [BitVec.slt_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  exact decide_eq_decide.mpr Nat.cast_lt

/-- A step adds to every entry the one `s` places on. -/
theorem step_ext (s k : ℕ) (hs : 0 < s) (hk : k + s = 128) (x : FVec Ideal S8x128 .f32) (h : Fin 8) (l : ℕ) :
    ext (scanStep (BitVec.ofNat 32 k) x) h l = ext x h l + ext x h (l + s) := by
  by_cases hl : l < 128
  · unfold ext
    rw [dif_pos hl, dif_pos hl]
    pointwise [scanStep]
    have hm : IntOp.cmpi CmpIPredicate.slt (BitVec.ofNat 32 l) (BitVec.ofNat 32 k) = if l < k then 1#1 else 0#1 := by
      unfold IntOp.cmpi
      simp only [slt_ofNat l k hl (by omega)]
      by_cases h : l < k <;> simp [h]
    have hn : (BitVec.ofNat 32 k).toNat = k := by rw [BitVec.toNat_ofNat]; exact Nat.mod_eq_of_lt (by omega)
    rw [hm]
    congr 1
    by_cases h : l < k
    · rw [if_pos h, dif_pos (by omega)]
      refine congrArg x (congrArg (ix2 _) (Fin.ext ?_))
      show (l + 128 - (BitVec.ofNat 32 k).toNat % 128) % 128 = l + s
      rw [hn]; omega
    · rw [if_neg h, dif_neg (by omega)]; rfl
  · unfold ext
    rw [dif_neg hl, dif_neg hl, dif_neg (by omega), add_zero]

/-- Two windows of a sequence's sum, one after the other. -/
theorem window_add (f : ℕ → EReal) (l a b : ℕ) :
    (∑ k ∈ Finset.range a, f (l + k)) + ∑ k ∈ Finset.range b, f (l + a + k) = ∑ k ∈ Finset.range (a + b), f (l + k) := by
  rw [Finset.sum_range_add]; simp only [Nat.add_assoc]

/-- A step doubles the window summed so far. -/
theorem step_window (s k : ℕ) (hs : 0 < s) (hk : k + s = 128) (x y : FVec Ideal S8x128 .f32) (h : Fin 8)
    (hy : ∀ l, ext y h l = ∑ q ∈ Finset.range s, ext x h (l + q)) (l : ℕ) :
    ext (scanStep (BitVec.ofNat 32 k) y) h l = ∑ q ∈ Finset.range (s + s), ext x h (l + q) := by
  rw [step_ext s k hs hk, hy, hy, window_add]

/-- The scan leaves in every entry the sum of the row from there to its end. -/
theorem scan_ext (x : FVec Ideal S8x128 .f32) (h : Fin 8) (l : ℕ) : ext (scanR x) h l = ∑ q ∈ Finset.range 128, ext x h (l + q) := by
  have h0 : ∀ l, ext x h l = ∑ q ∈ Finset.range 1, ext x h (l + q) := fun l => by simp
  exact step_window 64 64 (by omega) (by omega) x _ h
    (step_window 32 96 (by omega) (by omega) x _ h
    (step_window 16 112 (by omega) (by omega) x _ h
    (step_window 8 120 (by omega) (by omega) x _ h
    (step_window 4 124 (by omega) (by omega) x _ h
    (step_window 2 126 (by omega) (by omega) x _ h
    (step_window 1 127 (by omega) (by omega) x _ h h0)))))) l

/-- A row of the whole array as a sequence, zero past its end, and the sum of the row from an entry on. -/
def row (x0 : Vec Ideal S8x4096 .f32) (h : Fin 8) (p : ℕ) : EReal := if hp : p < 4096 then x0 (ix2 h ⟨p, hp⟩) else 0

def suf (x0 : Vec Ideal S8x4096 .f32) (h : Fin 8) (p : ℕ) : EReal := ∑ j ∈ Finset.Ico p 4096, row x0 h j

/-- The sum of a block's row from an entry on is a stretch of the sum of the whole row. -/
theorem block_sum (n : ℕ) (hn : n < 32) (h : Fin 8) (l : ℕ) (hl : l < 128) :
    ∑ q ∈ Finset.range 128, ext (shapeCast S8x128 (View.ld x0 (rectAt n)) shapeCasts_S8x128_S8x128) h (l + q)
      = ∑ j ∈ Finset.Ico (3968 - 128 * n + l) (3968 - 128 * n + 128), row x0 h j := by
  rw [Finset.sum_Ico_eq_sum_range, show 3968 - 128 * n + 128 - (3968 - 128 * n + l) = 128 - l by omega]
  have hr : ∀ f : ℕ → EReal, ∑ q ∈ Finset.range 128, f q = ∑ q ∈ Finset.range (128 - l), f q + ∑ q ∈ Finset.range l, f (128 - l + q) := fun f => by
    rw [← Finset.sum_range_add, show 128 - l + l = 128 by omega]
  rw [hr, Finset.sum_eq_zero (s := Finset.range l), add_zero]
  · refine Finset.sum_congr rfl fun q hq => ?_
    have hq' := Finset.mem_range.mp hq
    unfold ext row
    rw [dif_pos (by omega), dif_pos (by omega)]
    pointwise
    exact congrArg x0 (congrArg (ix2 h) (Fin.ext (Nat.add_assoc _ _ _).symm))
  · intro q hq
    unfold ext
    rw [dif_neg (by omega)]

/-- Each block's scan over the carry: the sum of the whole row from the entry on. -/
theorem dlog_at (n : ℕ) (hn : n < 32) (h : Fin 8) (l : Fin 128) : dlogBlk x0 n (ix2 h l) = suf x0 h (3968 - 128 * n + l.val) := by
  induction n generalizing l with
  | zero =>
    have e : dlogBlk x0 0 (ix2 h l) = scanR (shapeCast S8x128 (View.ld x0 (rectAt 0)) shapeCasts_S8x128_S8x128) (ix2 h l) + 0 := by
      unfold dlogBlk; pointwise
    rw [e, ← ext_lt (scanR _), scan_ext, block_sum x0 0 hn h l l.isLt, add_zero]; rfl
  | succ n ih =>
    have e : dlogBlk x0 (n + 1) (ix2 h l) = scanR (shapeCast S8x128 (View.ld x0 (rectAt (n + 1))) shapeCasts_S8x128_S8x128) (ix2 h l) + dlogBlk x0 n (ix2 h 0) := by
      rw [dlogBlk]; generalize dlogBlk x0 n = d; generalize scanR _ = r; pointwise
    rw [e, ← ext_lt (scanR _), scan_ext, block_sum x0 (n + 1) hn h l l.isLt, ih (by omega)]
    unfold suf
    rw [show 3968 - 128 * n + (0 : Fin 128).val = 3968 - 128 * (n + 1) + 128 by simp; omega]
    exact Finset.sum_Ico_consecutive _ (by omega) (by omega)

end Cert.DecayBwd
-- ==== Proof.DecayKernel.lean ====
/- The backward of the forget gate's running sum: what the two result arrays of the program hold, over the argument arrays. -/
module

public import proofs.«01_k».proof.Proof.DecayScan

@[expose] public section

set_option maxRecDepth 16384

noncomputable section

open Idealize.ShloMosaic Idealize.ShloMosaic.TcCoe Idealize.SL.Sem
open Idealize.ShloMosaic.Pipeline (Dat)
open scoped BigOperators

namespace Cert.DecayBwd

open Cert.Kernel3Ideal Cert.Kernel3Ideal.Gen

/-- The derivative of `log sigmoid` at `u`, as the kernel writes it. -/
def slope (u : EReal) : EReal := Ideal.div (Ideal.ofBits .f32 0x3F800000#32) (Ideal.ofBits .f32 0x3F800000#32 + Ideal.exp u)

/-- The gradient of the logits, head by head: the sum of the incoming gradient from a position on, times the slope there. -/
def dzForm (x0 x1 : Vec Ideal S8x4096 .f32) (x2 : Vec Ideal S8x1 .f32) : FVec Ideal S8x4096 .f32 := fun i =>
  suf x0 (i 0) (i 1).val * slope (x1 i + x2 (ix2 (i 0) 0))

/-- The gradient of the bias: the sum of that of the logits over the positions. -/
def dbForm (x0 x1 : Vec Ideal S8x4096 .f32) (x2 : Vec Ideal S8x1 .f32) (h : Fin 8) : EReal := ∑ s : Fin 4096, dzForm x0 x1 x2 (ix2 h s)

variable (x0 x1 : Vec Ideal S8x4096 .f32) (x2 : Vec Ideal S8x1 .f32)

theorem pos_lt (n : ℕ) (l : Fin 128) : 3968 - 128 * n + l.val < 4096 := by omega

theorem dz_at (n : ℕ) (hn : n < 32) (h : Fin 8) (l : Fin 128) :
    dzBlk x0 x1 x2 n (ix2 h l) = dzForm x0 x1 x2 (ix2 h ⟨3968 - 128 * n + l.val, pos_lt n l⟩) := by
  unfold dzForm slope
  show _ = suf x0 h (3968 - 128 * n + l.val) * _
  rw [← dlog_at x0 n hn]
  unfold dzBlk
  generalize dlogBlk x0 n = d
  pointwise

theorem out3_at (y : S8x4096.Idx) : out0_3 x0 x1 x2 y = dzForm x0 x1 x2 y := by
  rw [out3_pieces]
  refine View.canon_apply_of_pieces (Val := Elt Ideal) (e := .f32) (dzForm x0 x1 x2) _ (fun p hp x => ?_) y ?_
  · obtain ⟨n, hn, rfl⟩ := List.mem_map.mp hp
    have hn' : n < 32 := List.mem_range.mp (List.mem_reverse.mp hn)
    refine Eq.trans ?_ ((dz_at x0 x1 x2 n hn' (x 0) (x 1)).trans ?_)
    · blk_ext
    · blk_ext
  · exact cover0_3 _ _ _ _ _ _ _ _ _ _ _ _ _ _ _ _ _ _ _ _ _ _ _ _ _ _ _ _ _ _ _ _ y

theorem tot_step (n : ℕ) (h : Fin 8) : totBlk x0 x1 x2 (n + 1) (ix2 h 0) = totBlk x0 x1 x2 n (ix2 h 0) + ∑ l : Fin 128, dzBlk x0 x1 x2 n (ix2 h l) := by
  rw [totBlk]
  generalize totBlk x0 x1 x2 n = t
  generalize dzBlk x0 x1 x2 n = d
  pointwise

/-- The positions block by block, the last block first. -/
theorem sum_blocks (f : ℕ → EReal) : ∑ n ∈ Finset.range 32, ∑ l ∈ Finset.range 128, f (3968 - 128 * n + l) = ∑ s ∈ Finset.range 4096, f s := by
  rw [← Finset.sum_range_reflect]
  have e : ∀ k : ℕ, k ≤ 32 → ∑ j ∈ Finset.range k, ∑ l ∈ Finset.range 128, f (3968 - 128 * (32 - 1 - j) + l) = ∑ s ∈ Finset.range (128 * k), f s := fun k => by
    induction k with
    | zero => simp
    | succ k ih =>
      intro hk
      rw [Finset.sum_range_succ, ih (by omega), Nat.mul_succ, Finset.sum_range_add, show 3968 - 128 * (32 - 1 - k) = 128 * k by omega]
  exact e 32 le_rfl

theorem total_at (h : Fin 8) : totBlk x0 x1 x2 32 (ix2 h 0) = dbForm x0 x1 x2 h := by
  let f : ℕ → EReal := fun s => if hs : s < 4096 then dzForm x0 x1 x2 (ix2 h ⟨s, hs⟩) else 0
  have e : ∀ k : ℕ, k ≤ 32 → totBlk x0 x1 x2 k (ix2 h 0) = ∑ n ∈ Finset.range k, ∑ l ∈ Finset.range 128, f (3968 - 128 * n + l) := fun k => by
    induction k with
    | zero => intro _; simp [totBlk]; rfl
    | succ k ih =>
      intro hk
      rw [tot_step, ih (by omega), Finset.sum_range_succ, ← Fin.sum_univ_eq_sum_range (fun l => f (3968 - 128 * k + l))]
      congr 1
      refine Finset.sum_congr rfl fun l _ => ?_
      rw [dz_at x0 x1 x2 k (by omega)]
      show _ = dite _ _ _
      rw [dif_pos (pos_lt k l)]
  rw [e 32 le_rfl, sum_blocks, ← Fin.sum_univ_eq_sum_range f]
  exact Finset.sum_congr rfl fun s _ => dif_pos s.isLt

/-- The bias' gradient as the kernel stores it, the same in all 128 lanes. -/
def dbLanes : FVec Ideal S8x128 .f32 := fun i => dbForm x0 x1 x2 (i 0)

theorem lanes_at (t : FVec Ideal S8x1 .f32) (h : Fin 8) (l : Fin 128) :
    broadcastTo S8x128 (shapeCast S8x1 t shapeCasts_S8x1_S8x1) broadcasts_S8x1_S8x128 (ix2 h l) = t (ix2 h 0) := by pointwise

theorem out4_at (y : S8x128.Idx) : out0_4 x0 x1 x2 y = dbLanes x0 x1 x2 y := by
  rw [out4_total]
  refine View.canon_apply_of_pieces (Val := Elt Ideal) (e := .f32) (dbLanes x0 x1 x2) _ (fun p hp x => ?_) y ?_
  · rw [List.mem_singleton] at hp; subst hp
    refine Eq.trans ?_ ((lanes_at (totBlk x0 x1 x2 32) (x 0) (x 1)).trans ((total_at x0 x1 x2 (x 0)).trans ?_))
    · blk_ext
    · show dbLanes x0 x1 x2 (ix2 (x 0) (x 1)) = dbLanes x0 x1 x2 _
      blk_ext
  · exact cover0_4 _ y

variable (m : (ℓ : Loc nD τ sig) → Buf (Elt Ideal) ℓ)

theorem idx_val : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The arguments as the kernel takes them: head by head. -/
abbrev heads (x : FVec Ideal S1x8x4096 .f32) : Vec Ideal S8x4096 .f32 := fun i => x (ix3 0 (i 0) (i 1))
abbrev turned (x : FVec Ideal S1x4096x8 .f32) : Vec Ideal S8x4096 .f32 := fun i => x (ix3 0 (i 1) (i 0))
abbrev column (x : FVec Ideal S1x8 .f32) : Vec Ideal S8x1 .f32 := fun i => x (ix2 0 (i 0))

theorem V_dc (c : Dev nD) : V m c main_v0 = heads (m ((c : Thread nD τ).loc main_arg2)) := by
  have h : V m c main_v0 = shapeCast S8x4096 (m ((c : Thread nD τ).loc main_arg2)) shapeCasts_S1x8x4096_S8x4096 := rfl
  rw [h]; exact funext fun i => Cert.RealOps.shapeCast_drop_lead _ _ i

theorem turn_at (x : FVec Ideal S1x4096x8 .f32) (a : Fin 8) (b : Fin 4096) :
    transpose S8x4096 [1, 0] (shapeCast S4096x8 x shapeCasts_S1x4096x8_S4096x8) transposes_S4096x8_S8x4096_1_0 (ix2 a b) = x (ix3 0 b a) := by
  pointwise

theorem V_z (c : Dev nD) : V m c main_v2 = turned (m ((c : Thread nD τ).loc main_arg0)) := by
  have h : V m c main_v2 = transpose S8x4096 [1, 0] (shapeCast S4096x8 (m ((c : Thread nD τ).loc main_arg0)) shapeCasts_S1x4096x8_S4096x8) transposes_S4096x8_S8x4096_1_0 := rfl
  rw [h]; funext i
  exact turn_at _ (i 0) (i 1)

theorem V_b (c : Dev nD) : V m c main_v3 = column (m ((c : Thread nD τ).loc main_arg1)) := by
  have h : V m c main_v3 = shapeCast S8x1 (m ((c : Thread nD τ).loc main_arg1)) shapeCasts_S1x8_S8x1 := rfl
  rw [h]; generalize m ((c : Thread nD τ).loc main_arg1) = x
  funext i
  pointwise

theorem block0 (c : Dev nD) (t : Fin cfg0.N) : iblk m c 0 t = heads (m ((c : Thread nD τ).loc main_arg2)) := by
  rw [← V_dc m c]; funext y; unfold iblk; show V m c main_v0 _ = _; generalize V m c main_v0 = w; blk_ext [idx_val t]
theorem block1 (c : Dev nD) (t : Fin cfg0.N) : iblk m c 1 t = turned (m ((c : Thread nD τ).loc main_arg0)) := by
  rw [← V_z m c]; funext y; unfold iblk; show V m c main_v2 _ = _; generalize V m c main_v2 = w; blk_ext [idx_val t]
theorem block2 (c : Dev nD) (t : Fin cfg0.N) : iblk m c 2 t = column (m ((c : Thread nD τ).loc main_arg1)) := by
  rw [← V_b m c]; funext y; unfold iblk; show V m c main_v3 _ = _; generalize V m c main_v3 = w; blk_ext [idx_val t]

theorem final_dz (c : Dev nD) : (dats m 0 c).arrAt 3 (cfgs 0).N
    = dzForm (heads (m ((c : Thread nD τ).loc main_arg2))) (turned (m ((c : Thread nD τ).loc main_arg0))) (column (m ((c : Thread nD τ).loc main_arg1))) := by
  refine (dats m 0 c).arrAt_eq_of_covers 3 _ (by decide +kernel) fun t hf y => ?_
  blk_simp; rw [after0_3, block0, block1, block2]
  exact (out3_at _ _ _ _).trans (by blk_ext [idx_val t])

theorem final_db (c : Dev nD) : (dats m 0 c).arrAt 4 (cfgs 0).N
    = dbLanes (heads (m ((c : Thread nD τ).loc main_arg2))) (turned (m ((c : Thread nD τ).loc main_arg0))) (column (m ((c : Thread nD τ).loc main_arg1))) := by
  refine (dats m 0 c).arrAt_eq_of_covers 4 _ (by decide +kernel) fun t hf y => ?_
  blk_simp; rw [after0_4, block0, block1, block2]
  exact (out4_at _ _ _ _).trans (by blk_ext [idx_val t])

/-- The results as the caller reads them, and their values over the arguments. -/
def dzRes (z : FVec Ideal S1x4096x8 .f32) (b : FVec Ideal S1x8 .f32) (dc : FVec Ideal S1x8x4096 .f32) : FVec Ideal S1x4096x8 .f32 :=
  fun i => dzForm (heads dc) (turned z) (column b) (ix2 (i 2) (i 1))
def dbRes (z : FVec Ideal S1x4096x8 .f32) (b : FVec Ideal S1x8 .f32) (dc : FVec Ideal S1x8x4096 .f32) : FVec Ideal S1x8 .f32 :=
  fun i => dbForm (heads dc) (turned z) (column b) (i 1)

/-- The host's lines after the launch. -/
def tailZ (x : FVec Ideal S8x4096 .f32) : FVec Ideal S1x4096x8 .f32 :=
  broadcastInDim S1x4096x8 ![1, 2] bcast_S4096x8_S1x4096x8_1_2 (transpose S4096x8 [1, 0] x transposes_S8x4096_S4096x8_1_0)
def tailB (x : FVec Ideal S8x128 .f32) : FVec Ideal S1x8 .f32 :=
  shapeCast S1x8 (shapeCast S8 (extractStridedSlice S8x1 ![0, 0] x slices_S8x128_S8x1_0_0) shapeCasts_S8x1_S8) shapeCasts_S8_S1x8

theorem line_z (W : Valuation τ sig (Elt Ideal)) : StableHlo.after hostOps1 W (Proc.devRef .tc main_v6) = tailZ (W (Proc.devRef .tc main_v4_0)) := by
  after_results; rfl
theorem line_b (W : Valuation τ sig (Elt Ideal)) : StableHlo.after hostOps1 W (Proc.devRef .tc main_v9) = tailB (W (Proc.devRef .tc main_v4_1)) := by
  after_results; rfl

theorem tailZ_at (x : FVec Ideal S8x4096 .f32) (i : S1x4096x8.Idx) : tailZ x i = x (ix2 (i 2) (i 1)) := by
  unfold tailZ; pointwise
theorem tailB_at (x : FVec Ideal S8x128 .f32) (i : S1x8.Idx) : tailB x i = x (ix2 (i 1) 0) := by
  unfold tailB; pointwise

theorem after_z (c : Dev nD) : Pipeline.afterTail₀ cfgs (dats m) 0 (V0 m) [hostOps1] c main_v6
    = dzRes (m ((c : Thread nD τ).loc main_arg0)) (m ((c : Thread nD τ).loc main_arg1)) (m ((c : Thread nD τ).loc main_arg2)) := by
  refine Eq.trans (b := tailZ (Pipeline.withArrays (cfgs 0).spec c (V0 m c) (fun w => (dats m 0 c).arrAt w (cfgs 0).N) (Proc.devRef .tc main_v4_0))) (line_z _) ?_
  refine (congrArg tailZ ((Pipeline.withArrays_arr (cfgs 0).spec (by decide) c (V0 m c) _ 3).trans (final_dz m c))).trans ?_
  exact funext fun i => tailZ_at _ i

theorem after_b (c : Dev nD) : Pipeline.afterTail₀ cfgs (dats m) 0 (V0 m) [hostOps1] c main_v9
    = dbRes (m ((c : Thread nD τ).loc main_arg0)) (m ((c : Thread nD τ).loc main_arg1)) (m ((c : Thread nD τ).loc main_arg2)) := by
  refine Eq.trans (b := tailB (Pipeline.withArrays (cfgs 0).spec c (V0 m c) (fun w => (dats m 0 c).arrAt w (cfgs 0).N) (Proc.devRef .tc main_v4_1))) (line_b _) ?_
  refine (congrArg tailB ((Pipeline.withArrays_arr (cfgs 0).spec (by decide) c (V0 m c) _ 4).trans (final_db m c))).trans ?_
  exact funext fun i => tailB_at _ i

/-- The whole run of the program: the two results in closed form, the arguments unchanged. -/
theorem kernel_run (ρ : Dev nD → PrngReg) : θ_run defs (onTc (τ := τ) (main (F := Ideal))) ⟨m, fun _ => 0, ρ⟩ fun r => ∀ c : Dev nD,
    r.2.mem ((c.tc : Thread nD τ).loc main_v6) = dzRes (m ((c : Thread nD τ).loc main_arg0)) (m ((c : Thread nD τ).loc main_arg1)) (m ((c : Thread nD τ).loc main_arg2))
    ∧ r.2.mem ((c.tc : Thread nD τ).loc main_v9) = dbRes (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  run_from Cert.Kernel3Ideal.Gen.run_main m ρ & Cert.Kernel3Ideal.Gen.unchanged m ρ
  · exact after_z m c
  · exact after_b m c

end Cert.DecayBwd

end
-- ==== Proof.DecayReference.lean ====
/- The reference of the running sum's backward: its two results over the argument arrays, and that the kernel's are the same. -/
module

public import proofs.«01_k».proof.Proof.Gen.Reference3Ideal.Read
public import proofs.«01_k».proof.Proof.DecayKernel

@[expose] public section

set_option maxRecDepth 16384

noncomputable section

open Idealize.ShloMosaic Idealize.ShloMosaic.TcCoe Idealize.SL.Sem
open Idealize.ShloMosaic.Pipeline (Dat)
open scoped BigOperators

namespace Cert.DecayBwd

open Cert.Reference3Ideal Cert.Reference3Ideal.Gen Cert.Reference3Ideal.Read

/-- A fold of additions is a sum. -/
theorem foldl_add {ι : Type} (g : ι → EReal) (L : List ι) (v : EReal) : L.foldl (fun r n => r + g n) v = v + (L.map g).sum := by
  induction L generalizing v with
  | nil => simp
  | cons a L ih => rw [List.foldl_cons, ih, List.map_cons, List.sum_cons, add_assoc]

/-- The reversed running sum of the reference: a window over the rest of the axis. -/
theorem window_at (x : FVec Ideal S1x4096x8 .f32) (s : Fin 4096) (h : Fin 8) :
    Ideal.hostReduceWindowAdd ![1, 4096, 1] ![1, 1, 1] ![0, 0, 0] ![0, 4095, 0] reduceWindows_S1x4096x8_S1x4096x8_w1s1p0_0_w4096s1p0_4095_w1s1p0_0 x 0 (ix3 0 s h)
      = ∑ q : Fin 4096, if hq : s.val + q.val < 4096 then x (ix3 0 ⟨s.val + q.val, hq⟩ h) else 0 := by
  unfold Ideal.hostReduceWindowAdd Host.reduceWindow
  rw [foldl_add, zero_add, ← Fin.sum_univ_def]
  rw [← Equiv.sum_comp (Shape.rowMajor ⟨3, ![1, 4096, 1]⟩)]
  simp only [Equiv.symm_apply_apply]
  rw [sum_idx3]
  simp only [Fin.sum_univ_one]
  refine Finset.sum_congr rfl fun q _ => ?_
  by_cases hq : s.val + q.val < 4096
  · rw [dif_pos hq, dif_pos (by intro a; fin_cases a <;> simp <;> omega)]
    refine congrArg x (funext fun a => Fin.ext ?_)
    fin_cases a <;> simp
  · rw [dif_neg hq, dif_neg]
    intro hall
    have h1 := (hall 1).2
    simp at h1
    omega

/-- The sum of the rest of the axis. -/
theorem rest_at (dc : FVec Ideal S1x8x4096 .f32) (s : Fin 4096) (h : Fin 8) :
    val_main_v8 (F := Ideal) dc (ix3 0 s h) = suf (heads dc) h s.val := by
  have e0 : val_main_call2_call0_v0 (F := Ideal) (Shape.Idx.first h_S_) = 0 := by
    pointwise [val_main_call2_call0_v0, val_main_call2_call0_cst]
  unfold val_main_v8 Host.reduceWindowAdd
  rw [Ideal.hostReduceWindowAdd_def, e0, window_at]
  unfold suf
  have hr : ∀ f : ℕ → EReal, (∀ q, 4096 - s.val ≤ q → f q = 0) → ∑ q : Fin 4096, f q.val = ∑ q ∈ Finset.range (4096 - s.val), f q := fun f hf => by
    rw [Fin.sum_univ_eq_sum_range f]
    exact (Finset.sum_subset (Finset.range_mono (by omega)) fun q _ hq => hf q (by simpa using hq)).symm
  rw [Finset.sum_Ico_eq_sum_range]
  refine Eq.trans (hr (fun q => if hq : s.val + q < 4096 then val_main_v7 (F := Ideal) dc (ix3 0 ⟨s.val + q, hq⟩ h) else 0) fun q hq => dif_neg (by omega)) ?_
  refine Finset.sum_congr rfl fun q hq => ?_
  have hq' := Finset.mem_range.mp hq
  unfold row
  rw [dif_pos (by omega), dif_pos (by omega)]
  pointwise [val_main_v7]
  rfl

/-- The reference's slope at a real number. -/
theorem slope_real (u : ℝ) : slope (u : EReal) = ((1 / (1 + Real.exp u) : ℝ) : EReal) := by
  unfold slope
  rw [show Ideal.ofBits .f32 0x3F800000#32 = ((1 : ℝ) : EReal) by simp, Ideal.exp_coe, ← EReal.coe_add, RealOps.div_coe (by positivity)]

/-- The softplus of `-u` in the reference's form, and the slope from it. -/
theorem slope_eq (u : ℝ) : Real.exp (-u - (max (-u) 0 + Real.log (1 + Real.exp (-max (-u) u)))) = 1 / (1 + Real.exp u) := by
  have e : max (-u) 0 + Real.log (1 + Real.exp (-max (-u) u)) = Real.log (1 + Real.exp (-u)) := by
    rcases le_total u 0 with h | h
    · rw [max_eq_left (by linarith), max_eq_left (by linarith), neg_neg]
      rw [show 1 + Real.exp (-u) = Real.exp (-u) * (1 + Real.exp u) by rw [mul_add, ← Real.exp_add]; simp [add_comm],
        Real.log_mul (Real.exp_pos _).ne' (by positivity), Real.log_exp]
    · rw [max_eq_right (by linarith), max_eq_right (by linarith), zero_add]
  rw [e, Real.exp_sub, Real.exp_log (by positivity), Real.exp_neg]
  have := Real.exp_pos u
  field_simp
  ring

/-- The reference's slope, through the softplus of its forward, is the kernel's wherever the logit and bias add up to a real. -/
theorem ref_slope (z : FVec Ideal S1x4096x8 .f32) (b : FVec Ideal S1x8 .f32) (i : S1x4096x8.Idx) (u : ℝ) (hu : z i + b (ix2 0 (i 2)) = u) :
    val_main_v4_1 (F := Ideal) z b i = slope (z i + b (ix2 0 (i 2))) := by
  rw [hu, slope_real]
  pointwise [val_main_v0, val_main_v1, val_main_v2, val_main_v3, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_v4_1]
  have ha : ∀ v : ℝ, (FloatOps.absf (F := Ideal) (φ := .f32) (v : EReal) : EReal) = ((max v (-v) : ℝ) : EReal) := fun v => by
    show max (v : EReal) (-(v : EReal)) = _
    norm_cast
  have hl : ∀ v : ℝ, 0 < 1 + v → Ideal.log1p (v : EReal) = ((Real.log (1 + v) : ℝ) : EReal) := fun v hv => by
    rw [Ideal.log1p, ← EReal.coe_one, ← EReal.coe_add, Ideal.log_coe, if_neg (not_le.mpr hv)]
  have hm : max (-(u : EReal)) 0 = ((max (-u) 0 : ℝ) : EReal) := by norm_cast
  rw [hu, RealOps.ofBits_inf, if_neg (by exact EReal.coe_ne_top (-u)), if_neg (not_not.mpr rfl), hm, ← EReal.coe_neg, ha, ← EReal.coe_neg, neg_neg, Ideal.exp_coe, hl _ (by positivity), ← EReal.coe_add,
    if_neg (EReal.coe_ne_top _), ← EReal.coe_sub, Ideal.exp_coe, slope_eq]

theorem ref_dz_at (z : FVec Ideal S1x4096x8 .f32) (b : FVec Ideal S1x8 .f32) (dc : FVec Ideal S1x8x4096 .f32)
    (hz : RealOps.IsReal z) (hb : RealOps.IsReal b) (s : Fin 4096) (h : Fin 8) :
    val_main_v9 (F := Ideal) z b dc (ix3 0 s h) = dzRes z b dc (ix3 0 s h) := by
  obtain ⟨z, rfl⟩ := hz; obtain ⟨b, rfl⟩ := hb
  rw [val_main_v9_apply, val_main_call3_v1_apply, val_main_call3_v0_apply,
    ref_slope _ _ (ix3 0 s h) (z (ix3 0 s h) + b (ix2 0 h)) (EReal.coe_add _ _).symm, rest_at dc s h]
  show -(-suf (heads dc) h s.val * slope ((z (ix3 0 s h) : EReal) + (b (ix2 0 h) : EReal))) = suf (heads dc) h s.val * slope ((z (ix3 0 s h) : EReal) + (b (ix2 0 h) : EReal))
  rw [neg_mul, neg_neg]

/-- The reference's gradient of the logits is the kernel's. -/
theorem ref_dz (z : FVec Ideal S1x4096x8 .f32) (b : FVec Ideal S1x8 .f32) (dc : FVec Ideal S1x8x4096 .f32)
    (hz : RealOps.IsReal z) (hb : RealOps.IsReal b) : val_main_v9 (F := Ideal) z b dc = dzRes z b dc := by
  funext i
  have e : i = ix3 0 (i 1) (i 2) := by blk_ext
  rw [e]; exact ref_dz_at z b dc hz hb (i 1) (i 2)

/-- The sum over two axes of one entry each. -/
theorem two_axes (y : FVec Ideal S1x1x8 .f32) (h : Fin 8) : Ideal.hostReduceAdd reducesTo_S1x1x8_S8_d0_1 y 0 (ix1 h) = y (ix3 0 0 h) := by
  have hd : ∀ k j : Fin 8, (reducesTo_S1x1x8_S8_d0_1).drop (ix3 0 0 k) = ix1 j ↔ k = j := by decide +kernel
  unfold Ideal.hostReduceAdd
  rw [Finset.sum_filter, sum_idx3]
  simp only [Fin.sum_univ_one, hd]
  rw [Finset.sum_ite_eq' Finset.univ h, if_pos (Finset.mem_univ _), zero_add]

/-- The reference's gradient of the bias is the kernel's. -/
theorem ref_db (z : FVec Ideal S1x4096x8 .f32) (b : FVec Ideal S1x8 .f32) (dc : FVec Ideal S1x8x4096 .f32)
    (hz : RealOps.IsReal z) (hb : RealOps.IsReal b) (i : S1x8.Idx) :
    val_main_v13 (F := Ideal) z b dc i = dbRes z b dc i := by
  unfold dbRes dbForm
  unfold val_main_v13 val_main_v12 val_main_v11 val_main_v10
  rw [ref_dz z b dc hz hb]
  show _ = ∑ s : Fin 4096, dzRes z b dc (ix3 0 s (i 1))
  generalize dzRes z b dc = d
  pointwise [val_main_cst, val_main_cst_0]
  refine (two_axes _ (i 1)).trans ?_
  pointwise

end Cert.DecayBwd

end
-- ==== Proof.DecayBwdClaim.lean ====
/- The backward of the forget gate's running sum: the claims about this call, from the kernel's run and the reference's run. -/
module

public import proofs.«01_k».proof.Defs
public import proofs.«01_k».proof.Proof.Gen.Kernel3.Frame
public import proofs.«01_k».proof.Proof.Gen.Reference3Ideal.Run
public import proofs.«01_k».proof.Proof.Gen.Reference3Ideal.Read
public import proofs.«01_k».proof.Proof.Gen.Pre_finite3
public import proofs.«01_k».proof.Proof.DecayReference
public import Idealize.ShloMosaic.Adequacy
public import Idealize.ShloMosaic.Init

@[expose] public section

set_option maxRecDepth 16384

noncomputable section

namespace Cert.DecayBwd

open Idealize.ShloMosaic Idealize.SL.Sem

/-- What the precondition says of the launch memory: these arguments hold reals. -/
theorem finite (m : (ℓ : Loc Kernel3Ideal.nD Kernel3Ideal.τ Kernel3Ideal.sig) → Buf (Elt Ideal) ℓ) (h : Cert.Pre_Kernel3Ideal_finite3 m) (c : Dev Kernel3Ideal.nD) :
    RealOps.IsReal (m ((c.tc : Thread Kernel3Ideal.nD Kernel3Ideal.τ).loc Kernel3Ideal.main_arg0))
    ∧ RealOps.IsReal (m ((c.tc : Thread Kernel3Ideal.nD Kernel3Ideal.τ).loc Kernel3Ideal.main_arg1)) :=
  ⟨RealOps.isReal_of_finite _ _ (h c).1, RealOps.isReal_of_finite _ _ (h c).2⟩

/-- The two idealized programs leave the same results. -/
theorem algebraic : Cert.algebraic_Kernel3Ideal_Reference3Ideal_pre_finite3 := by
  pair_intro
  · exact Cert.DecayBwd.kernel_run m g
  · refine (θ_run Cert.Reference3Ideal.defs _ _).mono (fun r h c => ?_) (Cert.Reference3Ideal.Value.run m' g')
    obtain ⟨e0, e1, e2⟩ := hagree c
    obtain ⟨a0, a1, a2⟩ := h c
    refine ⟨a0.trans ((Cert.Reference3Ideal.Read.val_main_v9_eq m' c).trans ?_), a1.trans ((Cert.Reference3Ideal.Read.val_main_v13_eq m' c).trans ?_), a2⟩
    · obtain ⟨h0, h1⟩ := finite m hpre c
      rw [e0, e1, e2]; exact Cert.DecayBwd.ref_dz _ _ _ h0 h1
    · obtain ⟨h0, h1⟩ := finite m hpre c
      rw [e0, e1, e2]; exact funext (Cert.DecayBwd.ref_db _ _ _ h0 h1)

/-- The reference's run leaves its arguments as they were; it declares no semaphore. -/
theorem frame_reference : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run m ρ)

end Cert.DecayBwd

end
-- ==== Proof.GateKernel.lean ====
/- The backward of the gated output projection (`_out_proj_dx_gate_bwd`): what the three result arrays of its one launch hold, over the argument arrays. -/
module

public import proofs.«01_k».proof.Proof.Gen.Kernel4Ideal.Frame
public import Idealize.ShloMosaic.Lib.Pipeline.ValueKit
public import proofs.«01_k».proof.Proof.RealOps

@[expose] public section

set_option maxRecDepth 16384

noncomputable section

open Idealize.ShloMosaic Idealize.ShloMosaic.TcCoe Idealize.SL.Sem
open Idealize.ShloMosaic.Pipeline (Dat)
open scoped BigOperators

namespace Cert.GateBwd

open Cert.Kernel4Ideal Cert.Kernel4Ideal.Gen

/-- The gradient of the gated heads: row `s` of the result's gradient against row `k` of the weights. -/
def dgAt (w : FVec Ideal S1x2048x2048 .f32) (d : FVec Ideal S1x4096x2048 .f32) (s : Fin 4096) (k : Fin 2048) : EReal :=
  ∑ l : Fin 2048, d (ix3 0 s l) * w (ix3 0 k l)

/-- The gradient of a head's output: that of the gated head times the gate's `g · sigmoid g`. -/
def dheadAt (x g : EReal) : EReal := x * (g * Ideal.logistic g)

/-- The gradient of a gate from that of the gated head `x` and the head's output `o`, as the kernel makes it. -/
def dgateAt (x o g : EReal) : EReal :=
  x * o * (Ideal.logistic g * (Ideal.ofBits .f32 0x3F800000#32 + g * (Ideal.ofBits .f32 0x3F800000#32 - Ideal.logistic g)))

/-- Column `k` of the first 1024 columns among the 2048, and of the last 1024. -/
abbrev lowCol (k : Fin 1024) : Fin 2048 := ⟨k.val, by omega⟩
abbrev highCol (k : Fin 1024) : Fin 2048 := ⟨1024 + k.val, by omega⟩

/-- The gradients of the two attentions' outputs. -/
def domForm (g : FVec Ideal S1x4096x1024 .f32) (w : FVec Ideal S1x2048x2048 .f32) (d : FVec Ideal S1x4096x2048 .f32) : FVec Ideal S4096x1024 .bf16 :=
  fun i => dheadAt (dgAt w d (i 0) (lowCol (i 1))) (g (ix3 0 (i 0) (i 1)))

def dofForm (g : FVec Ideal S1x4096x1024 .f32) (w : FVec Ideal S1x2048x2048 .f32) (d : FVec Ideal S1x4096x2048 .f32) : FVec Ideal S4096x1024 .bf16 :=
  fun i => dheadAt (dgAt w d (i 0) (highCol (i 1))) (g (ix3 0 (i 0) (i 1)))

/-- The gradients of the two gates, side by side. -/
def dgateForm (om og gm gf : FVec Ideal S1x4096x1024 .f32) (w : FVec Ideal S1x2048x2048 .f32) (d : FVec Ideal S1x4096x2048 .f32) :
    FVec Ideal S4096x2048 .bf16 := fun i =>
  if h : (i 1 : ℕ) < 1024 then dgateAt (dgAt w d (i 0) (i 1)) (om (ix3 0 (i 0) ⟨i 1, h⟩)) (gm (ix3 0 (i 0) ⟨i 1, h⟩))
  else dgateAt (dgAt w d (i 0) (i 1)) (og (ix3 0 (i 0) ⟨i 1 - 1024, Nat.sub_lt_left_of_lt_add (not_lt.mp h) (i 1).isLt⟩))
    (gf (ix3 0 (i 0) ⟨i 1 - 1024, Nat.sub_lt_left_of_lt_add (not_lt.mp h) (i 1).isLt⟩))

variable (m : (ℓ : Loc nD τ sig) → Buf (Elt Ideal) ℓ)

theorem idx_val : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 8 :=
  (by decide +kernel : ∀ t : Fin grid0.N, _)

/-- The operands the host hands over are the arguments without their leading axis of one. -/
theorem V_d (c : Dev nD) (i : S4096x2048.Idx) : V m c main_v6 i = m ((c : Thread nD τ).loc main_arg5) (ix3 0 (i 0) (i 1)) := by
  have h : V m c main_v6 = truncf (F := Ideal) .bf16 (shapeCast S4096x2048 (m ((c : Thread nD τ).loc main_arg5)) shapeCasts_S1x4096x2048_S4096x2048) bitsLt_bf16_f32 := rfl
  rw [h]; exact Cert.RealOps.shapeCast_drop_lead _ _ i

theorem V_w (c : Dev nD) (i : S2048x2048.Idx) : V m c main_v8 i = m ((c : Thread nD τ).loc main_arg4) (ix3 0 (i 0) (i 1)) := by
  have h : V m c main_v8 = truncf (F := Ideal) .bf16 (shapeCast S2048x2048 (m ((c : Thread nD τ).loc main_arg4)) shapeCasts_S1x2048x2048_S2048x2048) bitsLt_bf16_f32 := rfl
  rw [h]; exact Cert.RealOps.shapeCast_drop_lead _ _ i

theorem V_om (c : Dev nD) (i : S4096x1024.Idx) : V m c main_v10 i = m ((c : Thread nD τ).loc main_arg0) (ix3 0 (i 0) (i 1)) := by
  have h : V m c main_v10 = truncf (F := Ideal) .bf16 (shapeCast S4096x1024 (m ((c : Thread nD τ).loc main_arg0)) shapeCasts_S1x4096x1024_S4096x1024) bitsLt_bf16_f32 := rfl
  rw [h]; exact Cert.RealOps.shapeCast_drop_lead _ _ i

theorem V_of (c : Dev nD) (i : S4096x1024.Idx) : V m c main_v12 i = m ((c : Thread nD τ).loc main_arg1) (ix3 0 (i 0) (i 1)) := by
  have h : V m c main_v12 = truncf (F := Ideal) .bf16 (shapeCast S4096x1024 (m ((c : Thread nD τ).loc main_arg1)) shapeCasts_S1x4096x1024_S4096x1024) bitsLt_bf16_f32 := rfl
  rw [h]; exact Cert.RealOps.shapeCast_drop_lead _ _ i

/-- The packed gates: the two gates side by side, then columns nothing reads. -/
def packed (a b : FVec Ideal S1x4096x1024 .f32) : FVec Ideal S4096x6656 .bf16 :=
  truncf (F := Ideal) .bf16 (concatenate S4096x6656 1
    [⟨S4096x1024, shapeCast S4096x1024 a shapeCasts_S1x4096x1024_S4096x1024⟩,
     ⟨S4096x1024, shapeCast S4096x1024 b shapeCasts_S1x4096x1024_S4096x1024⟩,
     ⟨S4096x4608, broadcastInDim S4096x4608 ![] bcast_S_S4096x4608 (constant S_ .f32 0x00000000#32)⟩]
    concatenates_S4096x1024_S4096x1024_S4096x4608_S4096x6656_d1) bitsLt_bf16_f32

theorem V_gates (c : Dev nD) : V m c main_v4 = packed (m ((c : Thread nD τ).loc main_arg2)) (m ((c : Thread nD τ).loc main_arg3)) := rfl

theorem packed_low (a b : FVec Ideal S1x4096x1024 .f32) (r : Fin 4096) (k : Fin 1024) (q : Fin 6656) (hq : (q : ℕ) = k.val) :
    packed a b (ix2 r q) = a (ix3 0 r k) := by
  have p : q.val < 1024 := hq ▸ k.isLt
  pointwise [packed]; rw [dif_pos p]; blk_ext

theorem packed_high (a b : FVec Ideal S1x4096x1024 .f32) (r : Fin 4096) (k : Fin 1024) (q : Fin 6656) (hq : (q : ℕ) = 1024 + k.val) :
    packed a b (ix2 r q) = b (ix3 0 r k) := by
  have n : ¬ q.val < 1024 := by omega
  have p : q.val - 1024 < 1024 := by omega
  pointwise [packed]; rw [dif_neg n, dif_pos p]; blk_ext

/-- What the body finds at point `t` of each operand. -/
theorem blk_d (c : Dev nD) (t : Fin cfg0.N) (s : Fin 512) (k : Fin 2048) (r : Fin 4096) (hr : (r : ℕ) = t.val * 512 + s.val) :
    (iblk m c 0 t : FVec Ideal S512x2048 .bf16) (ix2 s k) = m ((c : Thread nD τ).loc main_arg5) (ix3 0 r k) := by
  refine Eq.trans (b := V m c main_v6 (ix2 r k)) ?_ (V_d m c _)
  unfold iblk; show V m c main_v6 _ = _; generalize V m c main_v6 = w; blk_ext [idx_val t]

theorem blk_w (c : Dev nD) (t : Fin cfg0.N) (s k : Fin 2048) :
    (iblk m c 1 t : FVec Ideal S2048x2048 .bf16) (ix2 s k) = m ((c : Thread nD τ).loc main_arg4) (ix3 0 s k) := by
  refine Eq.trans (b := V m c main_v8 (ix2 s k)) ?_ (V_w m c _)
  unfold iblk; show V m c main_v8 _ = _; generalize V m c main_v8 = w; blk_ext [idx_val t]

theorem blk_om (c : Dev nD) (t : Fin cfg0.N) (s : Fin 512) (k : Fin 1024) (r : Fin 4096) (hr : (r : ℕ) = t.val * 512 + s.val) :
    (iblk m c 2 t : FVec Ideal S512x1024 .bf16) (ix2 s k) = m ((c : Thread nD τ).loc main_arg0) (ix3 0 r k) := by
  refine Eq.trans (b := V m c main_v10 (ix2 r k)) ?_ (V_om m c _)
  unfold iblk; show V m c main_v10 _ = _; generalize V m c main_v10 = w; blk_ext [idx_val t]

theorem blk_of (c : Dev nD) (t : Fin cfg0.N) (s : Fin 512) (k : Fin 1024) (r : Fin 4096) (hr : (r : ℕ) = t.val * 512 + s.val) :
    (iblk m c 3 t : FVec Ideal S512x1024 .bf16) (ix2 s k) = m ((c : Thread nD τ).loc main_arg1) (ix3 0 r k) := by
  refine Eq.trans (b := V m c main_v12 (ix2 r k)) ?_ (V_of m c _)
  unfold iblk; show V m c main_v12 _ = _; generalize V m c main_v12 = w; blk_ext [idx_val t]

/-- What the body finds of the packed gates, in either half of its columns. -/
theorem gates_low (c : Dev nD) (t : Fin cfg0.N) (s : Fin 512) (k : Fin 1024) (r : Fin 4096) (hr : (r : ℕ) = t.val * 512 + s.val)
    (q : Fin 2048) (hq : (q : ℕ) = k.val) : X0_4 m c t (ix2 s q) = m ((c : Thread nD τ).loc main_arg2) (ix3 0 r k) := by
  unfold X0_4 Pipeline.Window.fill
  rw [dif_pos (moved0_4 t _)]
  refine Eq.trans (b := V m c main_v4 (ix2 r ⟨k.val, by omega⟩)) ?_ ?_
  · unfold iblk; show V m c main_v4 _ = _; generalize V m c main_v4 = w; blk_ext [idx_val t]
  · rw [V_gates]; exact packed_low _ _ r k _ rfl

theorem gates_high (c : Dev nD) (t : Fin cfg0.N) (s : Fin 512) (k : Fin 1024) (r : Fin 4096) (hr : (r : ℕ) = t.val * 512 + s.val)
    (q : Fin 2048) (hq : (q : ℕ) = 1024 + k.val) : X0_4 m c t (ix2 s q) = m ((c : Thread nD τ).loc main_arg3) (ix3 0 r k) := by
  unfold X0_4 Pipeline.Window.fill
  rw [dif_pos (moved0_4 t _)]
  refine Eq.trans (b := V m c main_v4 (ix2 r ⟨1024 + k.val, by omega⟩)) ?_ ?_
  · unfold iblk; show V m c main_v4 _ = _; generalize V m c main_v4 = w; blk_ext [idx_val t]
  · rw [V_gates]; exact packed_high _ _ r k _ rfl

/-- What one grid point multiplies out: row `r` of the gradient against row `q` of the weights. -/
theorem dg_point (c : Dev nD) (t : Fin cfg0.N) (s : Fin 512) (q : Fin 2048) (r : Fin 4096) (hr : (r : ℕ) = t.val * 512 + s.val) :
    (k0_pay2 (iblk m c 0 t) (iblk m c 1 t) : FVec Ideal S512x2048 .f32) (ix2 s q)
      = dgAt (m ((c : Thread nD τ).loc main_arg4)) (m ((c : Thread nD τ).loc main_arg5)) r q := by
  pointwise [k0_pay2, dgAt]
  exact Finset.sum_congr rfl fun l _ => by rw [blk_d m c t s l r hr, blk_w]

theorem row_lt (t : Fin cfg0.N) (s : Fin 512) : t.val * 512 + s.val < 4096 := by
  have := (idx_val t).2.2.2.2.2.2.2.2; omega

/-- The four stores of one grid point, element by element. -/
theorem dom_point (c : Dev nD) (t : Fin cfg0.N) (s : Fin 512) (k : Fin 1024) :
    (k0_pay6 (iblk m c 0 t) (iblk m c 1 t) (View.ld (X0_4 m c t) (Rect.unit ![0, 0] ![512, 1024] inb_S512x2048_S512x1024_0_0)) : FVec Ideal S512x1024 .bf16) (ix2 s k)
      = domForm (m ((c : Thread nD τ).loc main_arg2)) (m ((c : Thread nD τ).loc main_arg4)) (m ((c : Thread nD τ).loc main_arg5)) (ix2 ⟨t.val * 512 + s.val, row_lt t s⟩ k) := by
  pointwise [k0_pay3, k0_pay4, k0_pay5, k0_pay6, domForm, dheadAt]
  rw [dg_point m c t s _ ⟨t.val * 512 + s.val, row_lt t s⟩ rfl, gates_low m c t s k ⟨t.val * 512 + s.val, row_lt t s⟩ rfl _ rfl]

theorem dof_point (c : Dev nD) (t : Fin cfg0.N) (s : Fin 512) (k : Fin 1024) :
    (k0_pay11 (iblk m c 0 t) (iblk m c 1 t) (View.ld (X0_4 m c t) (Rect.unit ![0, 1024] ![512, 1024] inb_S512x2048_S512x1024_0_1024)) : FVec Ideal S512x1024 .bf16) (ix2 s k)
      = dofForm (m ((c : Thread nD τ).loc main_arg3)) (m ((c : Thread nD τ).loc main_arg4)) (m ((c : Thread nD τ).loc main_arg5)) (ix2 ⟨t.val * 512 + s.val, row_lt t s⟩ k) := by
  pointwise [k0_pay8, k0_pay9, k0_pay10, k0_pay11, dofForm, dheadAt]
  rw [dg_point m c t s _ ⟨t.val * 512 + s.val, row_lt t s⟩ rfl, gates_high m c t s k ⟨t.val * 512 + s.val, row_lt t s⟩ rfl _ rfl]

theorem dgm_point (c : Dev nD) (t : Fin cfg0.N) (s : Fin 512) (k : Fin 1024) :
    (k0_pay7 (iblk m c 0 t) (iblk m c 1 t) (View.ld (X0_4 m c t) (Rect.unit ![0, 0] ![512, 1024] inb_S512x2048_S512x1024_0_0)) (iblk m c 2 t) : FVec Ideal S512x1024 .bf16) (ix2 s k)
      = dgateForm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + s.val, row_lt t s⟩ (lowCol k)) := by
  pointwise [k0_pay3, k0_pay4, k0_pay5, k0_pay7, dgateForm, dgateAt]
  rw [dg_point m c t s _ ⟨t.val * 512 + s.val, row_lt t s⟩ rfl, gates_low m c t s k ⟨t.val * 512 + s.val, row_lt t s⟩ rfl _ rfl, blk_om m c t s k ⟨t.val * 512 + s.val, row_lt t s⟩ rfl]

theorem dgf_point (c : Dev nD) (t : Fin cfg0.N) (s : Fin 512) (k : Fin 1024) :
    (k0_pay1 (k0_pay8 (View.ld (X0_4 m c t) (Rect.unit ![0, 1024] ![512, 1024] inb_S512x2048_S512x1024_0_1024)))
        (k0_pay9 (View.ld (X0_4 m c t) (Rect.unit ![0, 1024] ![512, 1024] inb_S512x2048_S512x1024_0_1024)))
        (k0_pay10 (iblk m c 0 t) (iblk m c 1 t)) (iblk m c 3 t) : FVec Ideal S512x1024 .bf16) (ix2 s k)
      = dgateForm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + s.val, row_lt t s⟩ (highCol k)) := by
  pointwise [k0_pay1, k0_pay8, k0_pay9, k0_pay10, dgateForm, dgateAt]
  rw [dg_point m c t s _ ⟨t.val * 512 + s.val, row_lt t s⟩ rfl, gates_high m c t s k ⟨t.val * 512 + s.val, row_lt t s⟩ rfl _ rfl, blk_of m c t s k ⟨t.val * 512 + s.val, row_lt t s⟩ rfl]

theorem final_dom (c : Dev nD) : (dats m 0 c).arrAt 5 (cfgs 0).N
    = domForm (m ((c : Thread nD τ).loc main_arg2)) (m ((c : Thread nD τ).loc main_arg4)) (m ((c : Thread nD τ).loc main_arg5)) := by
  refine (dats m 0 c).arrAt_eq_of_covers 5 _ (by decide +kernel) fun t hf y => ?_
  blk_simp; rw [after0_5]; unfold outsAt0; frame_out
  refine Eq.trans ?_ ((dom_point m c t (y 0) (y 1)).trans ?_)
  · blk_ext
  · blk_ext [idx_val t]

theorem final_dof (c : Dev nD) : (dats m 0 c).arrAt 6 (cfgs 0).N
    = dofForm (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]; unfold outsAt0; frame_out
  refine Eq.trans ?_ ((dof_point m c t (y 0) (y 1)).trans ?_)
  · blk_ext
  · blk_ext [idx_val t]

theorem final_dgate (c : Dev nD) : (dats m 0 c).arrAt 7 (cfgs 0).N
    = dgateForm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]; unfold outsAt0; frame_out
  refine Eq.trans (b := dgateForm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + (y 0).val, row_lt t (y 0)⟩ (y 1))) ?_ ?_
  · canon_tiles x h
    case piece0 =>
      refine Eq.trans ?_ ((dgf_point m c t (x 0) (x 1)).trans ?_) <;> blk_ext
    case piece1 =>
      refine Eq.trans ?_ ((dgm_point m c t (x 0) (x 1)).trans ?_) <;> blk_ext
  · blk_ext [idx_val t]

/-- The whole run of the program: the three results in closed form, the arguments unchanged. -/
theorem kernel_run (ρ : Dev nD → PrngReg) : θ_run defs (onTc (τ := τ) (main (F := Ideal))) ⟨m, fun _ => 0, ρ⟩ fun r => ∀ c : Dev nD,
    r.2.mem ((c.tc : Thread nD τ).loc main_v13_0) = domForm (m ((c : Thread nD τ).loc main_arg2)) (m ((c : Thread nD τ).loc main_arg4)) (m ((c : Thread nD τ).loc main_arg5))
    ∧ r.2.mem ((c.tc : Thread nD τ).loc main_v13_1) = dofForm (m ((c : Thread nD τ).loc main_arg3)) (m ((c : Thread nD τ).loc main_arg4)) (m ((c : Thread nD τ).loc main_arg5))
    ∧ r.2.mem ((c.tc : Thread nD τ).loc main_v13_2) = dgateForm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  run_from Cert.Kernel4Ideal.Gen.run_main m ρ & Cert.Kernel4Ideal.Gen.unchanged m ρ
  · exact final_dom m c
  · exact final_dof m c
  · exact final_dgate m c

end Cert.GateBwd

end
-- ==== Proof.GateReference.lean ====
/- The reference of the gated output projection's backward: its three results over the argument arrays, and that the kernel's are the same. -/
module

public import proofs.«01_k».proof.Proof.Gen.Reference4Ideal.Read
public import proofs.«01_k».proof.Proof.GateKernel

@[expose] public section

set_option maxRecDepth 16384

noncomputable section

open Idealize.ShloMosaic Idealize.ShloMosaic.TcCoe Idealize.SL.Sem
open Idealize.ShloMosaic.Pipeline (Dat)
open scoped BigOperators

namespace Cert.GateBwd

open Cert.Reference4Ideal Cert.Reference4Ideal.Gen Cert.Reference4Ideal.Read

/-- The two ways of writing a gate's gradient agree over the reals. -/
theorem gate_eq (x o g l : ℝ) : o * x * l + g * (o * x) * (l * (1 - l)) = x * o * (l * (1 + g * (1 - l))) := by ring

theorem dgAt_real (w : S1x2048x2048.Idx → ℝ) (d : S1x4096x2048.Idx → ℝ) (s : Fin 4096) (k : Fin 2048) :
    dgAt (fun i => (w i : EReal)) (fun i => (d i : EReal)) s k = ((∑ l : Fin 2048, d (ix3 0 s l) * w (ix3 0 k l) : ℝ) : EReal) := by
  unfold dgAt; simp only [← EReal.coe_mul, RealOps.coe_sum]

theorem dgate_real (x o g : ℝ) : dgateAt x o g = ((x * o * (1 / (1 + Real.exp (-g)) * (1 + g * (1 - 1 / (1 + Real.exp (-g))))) : ℝ) : EReal) := by
  rw [dgateAt, RealOps.logistic_coe, show Ideal.ofBits .f32 0x3F800000#32 = ((1 : ℝ) : EReal) by simp]
  norm_cast

/-- The derivative of the gate as the reference writes it: by the product rule. -/
theorem product_rule {x o g : EReal} (hx : ∃ r : ℝ, x = r) (ho : ∃ r : ℝ, o = r) (hg : ∃ r : ℝ, g = r) :
    o * x * Ideal.logistic g + g * (o * x) * (Ideal.logistic g * (1 - Ideal.logistic g)) = dgateAt x o g := by
  obtain ⟨x, rfl⟩ := hx; obtain ⟨o, rfl⟩ := ho; obtain ⟨g, rfl⟩ := hg
  rw [dgate_real, ← gate_eq, RealOps.logistic_coe]; norm_cast

theorem ref_dom (g : FVec Ideal S1x4096x1024 .f32) (w : FVec Ideal S1x2048x2048 .f32) (d : FVec Ideal S1x4096x2048 .f32) (i : S4096x1024.Idx) :
    val_main_v26 (F := Ideal) g w d i = domForm g w d i := by
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_call1_v0, val_main_call1_v1, val_main_call1_cst, val_main_call1_v2, val_main_call1_v3, val_main_call1_cst_0, val_main_call1_v4, val_main_v6_2, val_main_call1_cst_1, val_main_call1_v6, val_main_call1_v7, val_main_v6_1, val_main_v6_0, val_main_v7, val_main_v8, val_main_v9, val_main_v10, val_main_v11, val_main_v12, val_main_v13, val_main_v14, val_main_v15, val_main_v16, val_main_call2_v0, val_main_call2_v1, val_main_call2_v2, val_main_v17, val_main_v18, val_main_v19, val_main_v20, val_main_v21, val_main_call3_v0, val_main_call3_v1, val_main_call3_v2, val_main_v22, val_main_v23, val_main_v24, val_main_v25, val_main_v26, val_main_v27, val_main_v28, val_main_v29, val_main_v30, val_main_v31, val_main_v32, domForm, dheadAt, dgAt]
  rfl

theorem ref_dof (g : FVec Ideal S1x4096x1024 .f32) (w : FVec Ideal S1x2048x2048 .f32) (d : FVec Ideal S1x4096x2048 .f32) (i : S4096x1024.Idx) :
    val_main_v28 (F := Ideal) g w d i = dofForm g w d i := by
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_call1_v0, val_main_call1_v1, val_main_call1_cst, val_main_call1_v2, val_main_call1_v3, val_main_call1_cst_0, val_main_call1_v4, val_main_v6_2, val_main_call1_cst_1, val_main_call1_v6, val_main_call1_v7, val_main_v6_1, val_main_v6_0, val_main_v7, val_main_v8, val_main_v9, val_main_v10, val_main_v11, val_main_v12, val_main_v13, val_main_v14, val_main_v15, val_main_v16, val_main_call2_v0, val_main_call2_v1, val_main_call2_v2, val_main_v17, val_main_v18, val_main_v19, val_main_v20, val_main_v21, val_main_call3_v0, val_main_call3_v1, val_main_call3_v2, val_main_v22, val_main_v23, val_main_v24, val_main_v25, val_main_v26, val_main_v27, val_main_v28, val_main_v29, val_main_v30, val_main_v31, val_main_v32, dofForm, dheadAt, dgAt]
  rfl

theorem ref_dgate (om og gm gf : FVec Ideal S1x4096x1024 .f32) (w : FVec Ideal S1x2048x2048 .f32) (d : FVec Ideal S1x4096x2048 .f32)
    (hom : RealOps.IsReal om) (hog : RealOps.IsReal og) (hgm : RealOps.IsReal gm) (hgf : RealOps.IsReal gf) (hw : RealOps.IsReal w) (hd : RealOps.IsReal d)
    (i : S4096x2048.Idx) :
    val_main_v32 (F := Ideal) om og gm gf w d i = dgateForm om og gm gf w d i := by
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_call1_v0, val_main_call1_v1, val_main_call1_cst, val_main_call1_v2, val_main_call1_v3, val_main_call1_cst_0, val_main_call1_v4, val_main_v6_2, val_main_call1_cst_1, val_main_call1_v6, val_main_call1_v7, val_main_v6_1, val_main_v6_0, val_main_v7, val_main_v8, val_main_v9, val_main_v10, val_main_v11, val_main_v12, val_main_v13, val_main_v14, val_main_v15, val_main_v16, val_main_call2_v0, val_main_call2_v1, val_main_call2_v2, val_main_v17, val_main_v18, val_main_v19, val_main_v20, val_main_v21, val_main_call3_v0, val_main_call3_v1, val_main_call3_v2, val_main_v22, val_main_v23, val_main_v24, val_main_v25, val_main_v26, val_main_v27, val_main_v28, val_main_v29, val_main_v30, val_main_v31, val_main_v32, dgateForm]
  have hx : ∀ k, ∃ r : ℝ, dgAt w d (i 0) k = r := fun k => by
    obtain ⟨w, rfl⟩ := hw; obtain ⟨d, rfl⟩ := hd; exact ⟨_, dgAt_real w d _ k⟩
  obtain ⟨om, rfl⟩ := hom; obtain ⟨og, rfl⟩ := hog; obtain ⟨gm, rfl⟩ := hgm; obtain ⟨gf, rfl⟩ := hgf
  by_cases h : (i 1 : ℕ) < 1024
  · simp only [dif_pos h]
    exact product_rule (hx _) ⟨_, rfl⟩ ⟨_, rfl⟩
  · simp only [dif_neg h]
    have l : (i 1 : ℕ) < 2048 := (i 1).isLt
    have e : dgAt w d (i 0) ⟨1024 + ((i 1 : ℕ) - 1024), by omega⟩ = dgAt w d (i 0) (i 1) :=
      congrArg _ (Fin.ext (by dsimp only; omega))
    rw [← e]
    exact product_rule (hx _) ⟨_, rfl⟩ ⟨_, rfl⟩

end Cert.GateBwd

end
-- ==== Proof.GateBwdClaim.lean ====
/- The backward of the gated output projection: the claims about this call, from the kernel's run and the reference's run. -/
module

public import proofs.«01_k».proof.Defs
public import proofs.«01_k».proof.Proof.Gen.Kernel4.Frame
public import proofs.«01_k».proof.Proof.Gen.Reference4Ideal.Run
public import proofs.«01_k».proof.Proof.Gen.Reference4Ideal.Read
public import proofs.«01_k».proof.Proof.Gen.Pre_finite4
public import proofs.«01_k».proof.Proof.GateReference
public import Idealize.ShloMosaic.Adequacy
public import Idealize.ShloMosaic.Init

@[expose] public section

set_option maxRecDepth 16384

noncomputable section

namespace Cert.GateBwd

open Idealize.ShloMosaic Idealize.SL.Sem

/-- What the precondition says of the launch memory: these arguments hold reals. -/
theorem finite (m : (ℓ : Loc Kernel4Ideal.nD Kernel4Ideal.τ Kernel4Ideal.sig) → Buf (Elt Ideal) ℓ) (h : Cert.Pre_Kernel4Ideal_finite4 m) (c : Dev Kernel4Ideal.nD) :
    RealOps.IsReal (m ((c.tc : Thread Kernel4Ideal.nD Kernel4Ideal.τ).loc Kernel4Ideal.main_arg0))
    ∧ RealOps.IsReal (m ((c.tc : Thread Kernel4Ideal.nD Kernel4Ideal.τ).loc Kernel4Ideal.main_arg1))
    ∧ RealOps.IsReal (m ((c.tc : Thread Kernel4Ideal.nD Kernel4Ideal.τ).loc Kernel4Ideal.main_arg2))
    ∧ RealOps.IsReal (m ((c.tc : Thread Kernel4Ideal.nD Kernel4Ideal.τ).loc Kernel4Ideal.main_arg3))
    ∧ RealOps.IsReal (m ((c.tc : Thread Kernel4Ideal.nD Kernel4Ideal.τ).loc Kernel4Ideal.main_arg4))
    ∧ RealOps.IsReal (m ((c.tc : Thread Kernel4Ideal.nD Kernel4Ideal.τ).loc Kernel4Ideal.main_arg5)) :=
  ⟨RealOps.isReal_of_finite _ _ (h c).1, RealOps.isReal_of_finite _ _ (h c).2.1, RealOps.isReal_of_finite _ _ (h c).2.2.1, RealOps.isReal_of_finite _ _ (h c).2.2.2.1, RealOps.isReal_of_finite _ _ (h c).2.2.2.2.1, RealOps.isReal_of_finite _ _ (h c).2.2.2.2.2⟩

/-- The two idealized programs leave the same results. -/
theorem algebraic : Cert.algebraic_Kernel4Ideal_Reference4Ideal_pre_finite4 := by
  pair_intro
  · exact Cert.GateBwd.kernel_run m g
  · refine (θ_run Cert.Reference4Ideal.defs _ _).mono (fun r h c => ?_) (Cert.Reference4Ideal.Value.run m' g')
    obtain ⟨e0, e1, e2, e3, e4, e5⟩ := hagree c
    obtain ⟨a0, a1, a2, a3⟩ := h c
    refine ⟨a0.trans ((Cert.Reference4Ideal.Read.val_main_v26_eq _ _ _).trans ?_), a1.trans ((Cert.Reference4Ideal.Read.val_main_v28_eq _ _ _).trans ?_), a2.trans ((Cert.Reference4Ideal.Read.val_main_v32_eq m' c).trans ?_), a3⟩
    · rw [e2, e4, e5]; exact funext (Cert.GateBwd.ref_dom _ _ _)
    · rw [e3, e4, e5]; exact funext (Cert.GateBwd.ref_dof _ _ _)
    · rw [e0, e1, e2, e3, e4, e5]
      obtain ⟨h0, h1, h2, h3, h4, h5⟩ := finite m hpre c
      exact funext (Cert.GateBwd.ref_dgate _ _ _ _ _ _ h0 h1 h2 h3 h4 h5)

/-- The reference's run leaves its arguments as they were; it declares no semaphore. -/
theorem frame_reference : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run m ρ)

end Cert.GateBwd

end
-- ==== Proof.PostKernel.lean ====
/- The loss, its gradient and the backward of the post-norm (`_post`): what the four result arrays of its one launch hold,
   over the argument arrays. -/
module

public import proofs.«01_k».proof.Proof.Gen.Kernel5Ideal.Frame
public import Idealize.ShloMosaic.Lib.Pipeline.ValueKit
public import proofs.«01_k».proof.Proof.RealOps

@[expose] public section

set_option maxRecDepth 16384

noncomputable section

open Idealize.ShloMosaic Idealize.ShloMosaic.TcCoe Idealize.SL.Sem
open Idealize.ShloMosaic.Pipeline (Dat)
open scoped BigOperators

namespace Cert.Post

open Cert.Kernel5Ideal Cert.Kernel5Ideal.Gen

/-- The reciprocal root of row `s` of the branch output: of the mean of its squares plus the small constant. -/
def rowRsqrt (o : FVec Ideal S1x4096x2048 .f32) (s : Fin 4096) : EReal :=
  Ideal.rsqrt (Ideal.div (∑ k : Fin 2048, o (ix3 0 s k) * o (ix3 0 s k)) (Ideal.ofBits .f32 0x45000000#32) + Ideal.ofBits .f32 0x358637BD#32)

/-- The error of the layer's output at row `s`, column `k`: residual plus normalised branch minus target. -/
def errAt (o x tgt : FVec Ideal S1x4096x2048 .f32) (g : FVec Ideal S1x2048 .f32) (s : Fin 4096) (k : Fin 2048) : EReal :=
  x (ix3 0 s k) + o (ix3 0 s k) * rowRsqrt o s * g (ix2 0 k) - tgt (ix3 0 s k)

/-- The gradient of the loss by the layer's output as the kernel makes it. -/
def dyAt (o x tgt : FVec Ideal S1x4096x2048 .f32) (g : FVec Ideal S1x2048 .f32) (s : Fin 4096) (k : Fin 2048) : EReal :=
  errAt o x tgt g s k * Ideal.ofBits .f32 0x3A000000#32

/-- The gradient of the branch output as the kernel makes it. -/
def doAt (o x tgt : FVec Ideal S1x4096x2048 .f32) (g : FVec Ideal S1x2048 .f32) (s : Fin 4096) (k : Fin 2048) : EReal :=
  rowRsqrt o s * (dyAt o x tgt g s k * g (ix2 0 k) - o (ix3 0 s k) * rowRsqrt o s
    * Ideal.div (∑ l : Fin 2048, dyAt o x tgt g s l * g (ix2 0 l) * (o (ix3 0 s l) * rowRsqrt o s)) (Ideal.ofBits .f32 0x45000000#32))

/-- The arrays of these. -/
def dyForm (o x tgt : FVec Ideal S1x4096x2048 .f32) (g : FVec Ideal S1x2048 .f32) : FVec Ideal S4096x2048 .f32 := fun i =>
  dyAt o x tgt g (i 0) (i 1)
def doForm (o x tgt : FVec Ideal S1x4096x2048 .f32) (g : FVec Ideal S1x2048 .f32) : FVec Ideal S4096x2048 .bf16 := fun i =>
  doAt o x tgt g (i 0) (i 1)

/-- The gradient of the gain as the kernel makes it. -/
def dgForm (o x tgt : FVec Ideal S1x4096x2048 .f32) (g : FVec Ideal S1x2048 .f32) : FVec Ideal S1x2048 .f32 := fun i =>
  ∑ s : Fin 4096, dyAt o x tgt g s (i 1) * (o (ix3 0 s (i 1)) * rowRsqrt o s)

/-- The mean of the squared errors of row `s`. -/
def rowLoss (o x tgt : FVec Ideal S1x4096x2048 .f32) (g : FVec Ideal S1x2048 .f32) (s : Fin 4096) : EReal :=
  Ideal.div (∑ k : Fin 2048, errAt o x tgt g s k * errAt o x tgt g s k) (Ideal.ofBits .f32 0x45000000#32)

/-- The loss as the kernel makes it: half the sum over the rows of each tile, the tiles added. -/
def lossForm (o x tgt : FVec Ideal S1x4096x2048 .f32) (g : FVec Ideal S1x2048 .f32) : FVec Ideal S1x128 .f32 := fun _ =>
  ∑ t : Fin 8, Ideal.ofBits .f32 0x3F000000#32 * ∑ r : Fin 512, rowLoss o x tgt g ⟨512 * t.val + r.val, by omega⟩

variable (m : (ℓ : Loc nD τ sig) → Buf (Elt Ideal) ℓ)

/-- Which block each window holds at a grid point. -/
theorem idx_val : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] ∧ t.val < 8 :=
  (by decide +kernel : ∀ t : Fin grid0.N, _)

/-- The operands the host hands over are the arguments without their leading axis of one. -/
theorem V_o (c : Dev nD) (i : S4096x2048.Idx) : V m c main_v0 i = m ((c : Thread nD τ).loc main_arg0) (ix3 0 (i 0) (i 1)) := by
  have h : V m c main_v0 = shapeCast _ (m ((c : Thread nD τ).loc main_arg0)) shapeCasts_S1x4096x2048_S4096x2048 := rfl
  rw [h]; exact Cert.RealOps.shapeCast_drop_lead _ _ i

theorem V_x (c : Dev nD) (i : S4096x2048.Idx) : V m c main_v1 i = m ((c : Thread nD τ).loc main_arg1) (ix3 0 (i 0) (i 1)) := by
  have h : V m c main_v1 = shapeCast _ (m ((c : Thread nD τ).loc main_arg1)) shapeCasts_S1x4096x2048_S4096x2048 := rfl
  rw [h]; exact Cert.RealOps.shapeCast_drop_lead _ _ i

theorem V_tgt (c : Dev nD) (i : S4096x2048.Idx) : V m c main_v2 i = m ((c : Thread nD τ).loc main_arg3) (ix3 0 (i 0) (i 1)) := by
  have h : V m c main_v2 = shapeCast _ (m ((c : Thread nD τ).loc main_arg3)) shapeCasts_S1x4096x2048_S4096x2048 := rfl
  rw [h]; exact Cert.RealOps.shapeCast_drop_lead _ _ i

/-- What one grid point stores of the gradient of the branch output, whichever case it is of. -/
theorem do_point (c : Dev nD) (t : Fin cfg0.N) (y) : k0_pay1 (k0_pay9 (iblk m c 0 t)) (k0_pay10 (iblk m c 0 t)) (k0_pay11 (iblk m c 0 t) (iblk m c 3 t) (iblk m c 1 t) (iblk m c 2 t))
      (k0_pay12 (iblk m c 0 t) (iblk m c 3 t) (iblk m c 1 t) (iblk m c 2 t)) (Scalar.ofBits .f32 0x45000000#32) y
    = doForm (m ((c : Thread nD τ).loc main_arg0)) (m ((c : Thread nD τ).loc main_arg1)) (m ((c : Thread nD τ).loc main_arg3)) (m ((c : Thread nD τ).loc main_arg2)) (((cfg0.win 4).blk t).view.emb y) := by
  pointwise [k0_pay1, k0_pay6, k0_pay7, k0_pay8, k0_pay9, k0_pay10, k0_pay11, k0_pay12, doForm, doAt, dyAt, errAt, rowRsqrt]
  blk_point [iblk, V, idx_val t]
  all_goals (first | rw [V_o] | rw [V_x] | rw [V_tgt]) <;> blk_ext [idx_val t]

/-- What one grid point stores of the gradient by the layer's output. -/
theorem dy_point (c : Dev nD) (t : Fin cfg0.N) (y) : k0_pay8 (iblk m c 0 t) (iblk m c 3 t) (iblk m c 1 t) (iblk m c 2 t) y = dyForm (m ((c : Thread nD τ).loc main_arg0)) (m ((c : Thread nD τ).loc main_arg1)) (m ((c : Thread nD τ).loc main_arg3)) (m ((c : Thread nD τ).loc main_arg2)) (((cfg0.win 5).blk t).view.emb y) := by
  pointwise [k0_pay6, k0_pay7, k0_pay8, dyForm, dyAt, errAt, rowRsqrt]
  blk_point [iblk, V, idx_val t]
  all_goals (first | rw [V_o] | rw [V_x] | rw [V_tgt]) <;> blk_ext [idx_val t]

theorem final_do (c : Dev nD) : (dats m 0 c).arrAt 4 (cfgs 0).N = doForm (m ((c : Thread nD τ).loc main_arg0)) (m ((c : Thread nD τ).loc main_arg1)) (m ((c : Thread nD τ).loc main_arg3)) (m ((c : Thread nD τ).loc main_arg2)) := by
  refine (dats m 0 c).arrAt_eq_of_covers 4 _ (by decide +kernel) fun t hf y => ?_
  blk_simp; rw [after0_4]
  by_cases h : t.val % 8 = 0
  · rw [outsAt0_A m c t h]; frame_out; exact do_point m c t y
  · rw [outsAt0_B m c t h]; frame_out; exact do_point m c t y

theorem final_dy (c : Dev nD) : (dats m 0 c).arrAt 5 (cfgs 0).N = dyForm (m ((c : Thread nD τ).loc main_arg0)) (m ((c : Thread nD τ).loc main_arg1)) (m ((c : Thread nD τ).loc main_arg3)) (m ((c : Thread nD τ).loc main_arg2)) := by
  refine (dats m 0 c).arrAt_eq_of_covers 5 _ (by decide +kernel) fun t hf y => ?_
  blk_simp; rw [after0_5]
  by_cases h : t.val % 8 = 0
  · rw [outsAt0_A m c t h]; frame_out; exact dy_point m c t y
  · rw [outsAt0_B m c t h]; frame_out; exact dy_point m c t y

theorem final_dg (c : Dev nD) : (dats m 0 c).arrAt 6 (cfgs 0).N = dgForm (m ((c : Thread nD τ).loc main_arg0)) (m ((c : Thread nD τ).loc main_arg1)) (m ((c : Thread nD τ).loc main_arg3)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2.2.1) 8 (fun _ => 0)
    (fun t j => ∑ r : Fin 512, (mulf (k0_pay8 (iblk m c 0 t) (iblk m c 3 t) (iblk m c 1 t) (iblk m c 2 t)) (k0_pay10 (iblk m c 0 t)) : FVec Ideal S512x2048 .f32) (ix2 r (j 1)))
    (fun t h j => by rw [outsAt0_A m c t h]; frame_out; pointwise [k0_pay2, k0_pay4])
    (fun t h j => by rw [outsAt0_B m c t h]; frame_out; pointwise [k0_pay4])
    (le_of_eq N_0) t0_7 rfl j, zero_add]
  refine Fin.sum_mul_add_congr fun t k hl => ?_
  pointwise [k0_pay6, k0_pay7, k0_pay8, k0_pay10, dyAt, errAt, rowRsqrt, k0_pay9]
  blk_point [iblk, V, idx_val t]
  all_goals (first | rw [V_o] | rw [V_x] | rw [V_tgt]) <;> blk_ext [idx_val t]

/-- The mean squared error of one row of a tile. -/
theorem loss_row (c : Dev nD) (t : Fin cfg0.N) (r : Fin 512) (s : Fin 4096) (hs : s.val = 512 * t.val + r.val) :
    Ideal.div (∑ k : Fin 2048, (k0_pay7 (iblk m c 0 t) (iblk m c 3 t) (iblk m c 1 t) (iblk m c 2 t) : FVec Ideal S512x2048 .f32) (ix2 r k) * (k0_pay7 (iblk m c 0 t) (iblk m c 3 t) (iblk m c 1 t) (iblk m c 2 t) : FVec Ideal S512x2048 .f32) (ix2 r k))
      (Ideal.ofBits .f32 0x45000000#32) = rowLoss (m ((c : Thread nD τ).loc main_arg0)) (m ((c : Thread nD τ).loc main_arg1)) (m ((c : Thread nD τ).loc main_arg3)) (m ((c : Thread nD τ).loc main_arg2)) s := by
  pointwise [k0_pay6, k0_pay7, rowLoss, errAt, rowRsqrt]
  blk_point [iblk, V, idx_val t]
  all_goals (first | rw [V_o] | rw [V_x] | rw [V_tgt]) <;> blk_ext [idx_val t]

theorem final_loss (c : Dev nD) : (dats m 0 c).arrAt 7 (cfgs 0).N = lossForm (m ((c : Thread nD τ).loc main_arg0)) (m ((c : Thread nD τ).loc main_arg1)) (m ((c : Thread nD τ).loc main_arg3)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2.2) 8 (fun _ => 0)
    (fun t j => Ideal.ofBits .f32 0x3F000000#32 * ∑ r : Fin 512, Ideal.div (∑ k : Fin 2048,
      (k0_pay7 (iblk m c 0 t) (iblk m c 3 t) (iblk m c 1 t) (iblk m c 2 t) : FVec Ideal S512x2048 .f32) (ix2 r k) * (k0_pay7 (iblk m c 0 t) (iblk m c 3 t) (iblk m c 1 t) (iblk m c 2 t) : FVec Ideal S512x2048 .f32) (ix2 r k)) (Ideal.ofBits .f32 0x45000000#32))
    (fun t h j => by rw [outsAt0_A m c t h]; frame_out; pointwise [k0_pay3, k0_pay5])
    (fun t h j => by rw [outsAt0_B m c t h]; frame_out; pointwise [k0_pay5])
    (le_of_eq N_0) t0_7 rfl j, zero_add]
  have key : ∀ t : Fin 8, _ = (_ : EReal) := fun t => congrArg (Ideal.ofBits .f32 0x3F000000#32 * ·)
    (Finset.sum_congr (s₁ := Finset.univ) rfl fun r _ => loss_row m c ⟨t.val, lt_of_lt_of_eq t.isLt N_0.symm⟩ r ⟨512 * t.val + r.val, by omega⟩ rfl)
  exact Finset.sum_congr (M := EReal) (s₁ := Finset.univ) rfl fun t _ => key t

/-- The result that the host makes of the launch's array by putting its leading axis of one back. -/
theorem tail_do (c : Dev nD) : Pipeline.afterTail₀ cfgs (dats m) 0 (V0 m) [hostOps1] c main_v4
    = broadcastInDim S1x4096x2048 ![1, 2] bcast_S4096x2048_S1x4096x2048_1_2 ((dats m 0 c).arrAt 4 (cfgs 0).N) := by
  refine Eq.trans (b := broadcastInDim S1x4096x2048 ![1, 2] bcast_S4096x2048_S1x4096x2048_1_2
    (Pipeline.withArrays (cfgs 0).spec c (V0 m c) (fun w => (dats m 0 c).arrAt w (cfgs 0).N) (Proc.devRef .tc main_v3_0))) rfl ?_
  exact congrArg _ (Pipeline.withArrays_arr (cfgs 0).spec (by decide) c (V0 m c) _ 4)

/-- The result that the host makes of the launch's array by putting its leading axis of one back. -/
theorem tail_dy (c : Dev nD) : Pipeline.afterTail₀ cfgs (dats m) 0 (V0 m) [hostOps1] c main_v5
    = broadcastInDim S1x4096x2048 ![1, 2] bcast_S4096x2048_S1x4096x2048_1_2 ((dats m 0 c).arrAt 5 (cfgs 0).N) := by
  refine Eq.trans (b := broadcastInDim S1x4096x2048 ![1, 2] bcast_S4096x2048_S1x4096x2048_1_2
    (Pipeline.withArrays (cfgs 0).spec c (V0 m c) (fun w => (dats m 0 c).arrAt w (cfgs 0).N) (Proc.devRef .tc main_v3_1))) rfl ?_
  exact congrArg _ (Pipeline.withArrays_arr (cfgs 0).spec (by decide) c (V0 m c) _ 5)

/-- The loss is the first lane of the launch's row of lanes. -/
theorem tail_loss (c : Dev nD) : Pipeline.afterTail₀ cfgs (dats m) 0 (V0 m) [hostOps1] c main_v7
    = shapeCast _ (extractStridedSlice S1x1 ![0, 0] ((dats m 0 c).arrAt 7 (cfgs 0).N) slices_S1x128_S1x1_0_0) shapeCasts_S1x1_S_ := by
  refine Eq.trans (b := shapeCast _ (extractStridedSlice S1x1 ![0, 0]
    (Pipeline.withArrays (cfgs 0).spec c (V0 m c) (fun w => (dats m 0 c).arrAt w (cfgs 0).N) (Proc.devRef .tc main_v3_3)) slices_S1x128_S1x1_0_0) shapeCasts_S1x1_S_) rfl ?_
  exact congrArg (fun a => shapeCast _ (extractStridedSlice S1x1 ![0, 0] a slices_S1x128_S1x1_0_0) shapeCasts_S1x1_S_)
    (Pipeline.withArrays_arr (cfgs 0).spec (by decide) c (V0 m c) _ 7)

/-- The whole run of the program: the four results in closed form, the arguments unchanged. -/
theorem kernel_run (ρ : Dev nD → PrngReg) : θ_run defs (onTc (τ := τ) (main (F := Ideal))) ⟨m, fun _ => 0, ρ⟩ fun r => ∀ c : Dev nD,
    r.2.mem ((c.tc : Thread nD τ).loc main_v4) = (fun j : S1x4096x2048.Idx => doAt (m ((c : Thread nD τ).loc main_arg0)) (m ((c : Thread nD τ).loc main_arg1)) (m ((c : Thread nD τ).loc main_arg3)) (m ((c : Thread nD τ).loc main_arg2)) (j 1) (j 2))
    ∧ r.2.mem ((c.tc : Thread nD τ).loc main_v5) = (fun j : S1x4096x2048.Idx => dyAt (m ((c : Thread nD τ).loc main_arg0)) (m ((c : Thread nD τ).loc main_arg1)) (m ((c : Thread nD τ).loc main_arg3)) (m ((c : Thread nD τ).loc main_arg2)) (j 1) (j 2))
    ∧ r.2.mem ((c.tc : Thread nD τ).loc main_v3_2) = dgForm (m ((c : Thread nD τ).loc main_arg0)) (m ((c : Thread nD τ).loc main_arg1)) (m ((c : Thread nD τ).loc main_arg3)) (m ((c : Thread nD τ).loc main_arg2))
    ∧ r.2.mem ((c.tc : Thread nD τ).loc main_v7) = (fun _ : S_.Idx => lossForm (m ((c : Thread nD τ).loc main_arg0)) (m ((c : Thread nD τ).loc main_arg1)) (m ((c : Thread nD τ).loc main_arg3)) (m ((c : Thread nD τ).loc main_arg2)) (ix2 0 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Kernel5Ideal.Gen.run_main m ρ & Cert.Kernel5Ideal.Gen.unchanged m ρ
  · rw [tail_do, final_do]; funext j; pointwise [doForm]
  · rw [tail_dy, final_dy]; funext j; pointwise [dyForm]
  · exact final_dg m c
  · rw [tail_loss, final_loss]; rfl

end Cert.Post

end
-- ==== Proof.NormBwd.lean ====
/- The gradient of a root mean square norm over one row of reals: the form of the kernels (one correction along the
   normalised row) and the form that differentiating the mean, the reciprocal root and the product gives are equal. -/
module

public import proofs.«01_k».proof.Proof.RealOps

@[expose] public section

noncomputable section

open Idealize.ShloMosaic
open scoped BigOperators

namespace Cert.RealOps

variable {n : ℕ}

/-- The number under the root, of a row of reals. -/
def rowQ (N e : ℝ) (x : Fin n → ℝ) : ℝ := (∑ k, x k * x k) / N + e

theorem rowQ_pos {N e : ℝ} (hN : 0 < N) (he : 0 < e) (x : Fin n → ℝ) : 0 < rowQ N e x :=
  add_pos_of_nonneg_of_pos (div_nonneg (Finset.sum_nonneg fun k _ => mul_self_nonneg (x k)) hN.le) he

theorem rowQ_coe {N : ℝ} (e : ℝ) (hN : 0 < N) (x : Fin n → ℝ) :
    Ideal.div (∑ k, ((x k : ℝ) : EReal) * ((x k : ℝ) : EReal)) ((N : ℝ) : EReal) + ((e : ℝ) : EReal) = ((rowQ N e x : ℝ) : EReal) := by
  simp only [← EReal.coe_mul, coe_sum, div_coe hN.ne', ← EReal.coe_add]; rfl

/-- The reciprocal root of a row of reals is a real. -/
theorem rowRsqrt_coe {N e : ℝ} (hN : 0 < N) (he : 0 < e) (x : Fin n → ℝ) :
    Ideal.rsqrt (Ideal.div (∑ k, ((x k : ℝ) : EReal) * ((x k : ℝ) : EReal)) ((N : ℝ) : EReal) + ((e : ℝ) : EReal))
      = (((Real.sqrt (rowQ N e x))⁻¹ : ℝ) : EReal) := by
  rw [rowQ_coe e hN, rsqrt_coe_pos (rowQ_pos hN he x)]

/-- The two forms of the gradient of the norm at column `j` of one row, over the extended reals at real arguments. -/
theorem norm_bwd_row {N e : ℝ} (hN : 0 < N) (he : 0 < e) (x d g : Fin n → ℝ) (j : Fin n) (r q : EReal)
    (hr : r = (((Real.sqrt (rowQ N e x))⁻¹ : ℝ) : EReal)) (hq : q = ((rowQ N e x : ℝ) : EReal)) :
    r * ((d j : EReal) * (g j : EReal) - (x j : EReal) * r * Ideal.div (∑ k, (d k : EReal) * (g k : EReal) * ((x k : EReal) * r)) ((N : ℝ) : EReal))
    = (d j : EReal) * (g j : EReal) * r
      + (x j : EReal) * (∑ _i : Fin 1, Ideal.div ((∑ k, (x k : EReal) * ((d k : EReal) * (g k : EReal))) * (((-(1 / 2) : ℝ) : EReal) * Ideal.div r q)) ((N : ℝ) : EReal))
      + (∑ _i : Fin 1, Ideal.div ((∑ k, (x k : EReal) * ((d k : EReal) * (g k : EReal))) * (((-(1 / 2) : ℝ) : EReal) * Ideal.div r q)) ((N : ℝ) : EReal)) * (x j : EReal) := by
  have hp := rowQ_pos hN he x
  have hs : Real.sqrt (rowQ N e x) * Real.sqrt (rowQ N e x) = rowQ N e x := Real.mul_self_sqrt hp.le
  have hs0 : Real.sqrt (rowQ N e x) ≠ 0 := (Real.sqrt_pos.mpr hp).ne'
  subst hr hq
  simp only [Fin.sum_univ_one, ← EReal.coe_mul, ← EReal.coe_sub, ← EReal.coe_add, coe_sum, div_coe hN.ne', div_coe hp.ne']
  congr 1
  have h1 : ∑ k, d k * g k * (x k * (Real.sqrt (rowQ N e x))⁻¹) = (∑ k, x k * (d k * g k)) * (Real.sqrt (rowQ N e x))⁻¹ := by
    rw [Finset.sum_mul]; exact Finset.sum_congr rfl fun k _ => by ring
  rw [h1]
  generalize ∑ k, x k * (d k * g k) = S
  generalize rowQ N e x = Q at hs hs0
  generalize Real.sqrt Q = s at hs hs0
  subst hs
  field_simp
  ring

end Cert.RealOps

end
-- ==== Proof.PostReference.lean ====
/- The loss, its gradient and the backward of the post-norm: the reference's four results are the kernel's forms, at real arguments. -/
module

public import proofs.«01_k».proof.Proof.Gen.Reference5Ideal.Read
public import proofs.«01_k».proof.Proof.PostKernel
public import proofs.«01_k».proof.Proof.NormBwd

@[expose] public section

set_option maxRecDepth 16384

noncomputable section

open Idealize.ShloMosaic Idealize.ShloMosaic.TcCoe Idealize.SL.Sem
open Idealize.ShloMosaic.Pipeline (Dat)
open scoped BigOperators

namespace Cert.Post

open Cert.Reference5Ideal Cert.Reference5Ideal.Gen Cert.Reference5Ideal.Read

theorem ofBits_inv2048 : Ideal.ofBits .f32 0x3A000000#32 = ((1 / 2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The reciprocal root of a row of reals is a real. -/
theorem rowRsqrt_real (o : S1x4096x2048.Idx → ℝ) (s : Fin 4096) : rowRsqrt (fun i => (o i : EReal)) s
    = (((Real.sqrt (RealOps.rowQ 2048 RealOps.epsR fun k : Fin 2048 => o (ix3 0 s k)))⁻¹ : ℝ) : EReal) := by
  rw [rowRsqrt, RealOps.ofBits_2048, RealOps.ofBits_eps]
  exact RealOps.rowRsqrt_coe (by norm_num) RealOps.epsR_pos fun k : Fin 2048 => o (ix3 0 s k)

/-- At real arguments the error is a real. -/
theorem err_real (o x tgt : S1x4096x2048.Idx → ℝ) (g : S1x2048.Idx → ℝ) : ∃ e : Fin 4096 → Fin 2048 → ℝ, ∀ s k,
    errAt (fun i => (o i : EReal)) (fun i => (x i : EReal)) (fun i => (tgt i : EReal)) (fun i => (g i : EReal)) s k = ((e s k : ℝ) : EReal) :=
  ⟨fun s k => _, fun s k => by rw [errAt, rowRsqrt_real]; simp only [← EReal.coe_mul, ← EReal.coe_add, ← EReal.coe_sub]; rfl⟩

/-- The reference's error is the kernel's. -/
theorem ref_err (o x tgt : FVec Ideal S1x4096x2048 .f32) (g : FVec Ideal S1x2048 .f32) (s : Fin 4096) (k : Fin 2048) :
    val_main_v21 (F := Ideal) o x g tgt (ix2 s k) = errAt o x tgt g s k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2, errAt, rowRsqrt]

/-- The reference's gradient by the layer's output is the kernel's. -/
theorem ref_dy (o x tgt : FVec Ideal S1x4096x2048 .f32) (g : FVec Ideal S1x2048 .f32) (ho : RealOps.IsReal o) (hx : RealOps.IsReal x)
    (ht : RealOps.IsReal tgt) (hg : RealOps.IsReal g) (s : Fin 4096) (k : Fin 2048) :
    val_main_v35 (F := Ideal) o x g tgt (ix2 s k) = dyAt o x tgt g s k := by
  obtain ⟨o, rfl⟩ := ho; obtain ⟨x, rfl⟩ := hx; obtain ⟨tgt, rfl⟩ := ht; obtain ⟨g, rfl⟩ := hg
  obtain ⟨e, he⟩ := err_real o x tgt g
  pointwise [val_main_v35, val_main_v34, val_main_v33, val_main_v32, val_main_v31, val_main_v30, val_main_v24, val_main_v23, val_main_cst_3, val_main_cst_8, val_main_cst_9, val_main_cst_10]
  rw [ref_err, dyAt, he, ofBits_inv2048, ofBits_half, ofBits_two, RealOps.ofBits_2048, RealOps.div_coe (by norm_num)]
  simp only [← EReal.coe_mul]
  congr 1; ring

theorem ref_dy3 (o x tgt : FVec Ideal S1x4096x2048 .f32) (g : FVec Ideal S1x2048 .f32) (ho : RealOps.IsReal o) (hx : RealOps.IsReal x)
    (ht : RealOps.IsReal tgt) (hg : RealOps.IsReal g) (s : Fin 4096) (k : Fin 2048) :
    val_main_v58 (F := Ideal) o x g tgt (ix3 0 s k) = dyAt o x tgt g s k := by
  pointwise [val_main_v58]
  exact ref_dy o x tgt g ho hx ht hg s k

/-- The reference's gradient of the branch output is the kernel's. -/
theorem ref_do (o x tgt : FVec Ideal S1x4096x2048 .f32) (g : FVec Ideal S1x2048 .f32) (ho : RealOps.IsReal o) (hx : RealOps.IsReal x)
    (ht : RealOps.IsReal tgt) (hg : RealOps.IsReal g) (s : Fin 4096) (k : Fin 2048) :
    val_main_v59 (F := Ideal) o x g tgt (ix3 0 s k) = doAt o x tgt g s k := by
  have hdy := ref_dy o x tgt g ho hx ht hg
  obtain ⟨o, rfl⟩ := ho; obtain ⟨x, rfl⟩ := hx; obtain ⟨tgt, rfl⟩ := ht; obtain ⟨g, rfl⟩ := hg
  obtain ⟨e, he⟩ := err_real o x tgt g
  have hd : ∀ s k, dyAt (fun i => (o i : EReal)) (fun i => (x i : EReal)) (fun i => (tgt i : EReal)) (fun i => (g i : EReal)) s k
      = ((e s k * (1 / 2048) : ℝ) : EReal) := fun s k => by rw [dyAt, he, ofBits_inv2048, ← EReal.coe_mul]
  have h := RealOps.norm_bwd_row (N := 2048) (e := RealOps.epsR) (by norm_num) RealOps.epsR_pos (fun k : Fin 2048 => o (ix3 0 s k))
    (fun k => e s k * (1 / 2048)) (fun k => g (ix2 0 k)) k _ _ (rowRsqrt_real o s) rfl
  rw [← RealOps.rowQ_coe _ (by norm_num), ← RealOps.ofBits_2048, ← RealOps.ofBits_eps, ← RealOps.ofBits_neg_half] at h
  simp only [← hd] at h
  rw [doAt, h, rowRsqrt]
  simp only [← hdy]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v39, val_main_v40, val_main_v42, val_main_v43, val_main_v44, val_main_v45, val_main_v46, val_main_v47, val_main_v48, val_main_v49, val_main_v50, val_main_v51, val_main_v52, val_main_v53, val_main_v54, val_main_v55, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

/-- The reference's gradient of the gain is the kernel's. -/
theorem ref_dg (o x tgt : FVec Ideal S1x4096x2048 .f32) (g : FVec Ideal S1x2048 .f32) (ho : RealOps.IsReal o) (hx : RealOps.IsReal x)
    (ht : RealOps.IsReal tgt) (hg : RealOps.IsReal g) (j : S1x2048.Idx) : val_main_v56 (F := Ideal) o x g tgt j = dgForm o x tgt g j := by
  have hdy := ref_dy o x tgt g ho hx ht hg
  have hj : j = ix2 0 (j 1) := by funext a; match a with | ⟨0, _⟩ => exact Subsingleton.elim (α := Fin 1) _ _ | ⟨1, _⟩ => rfl
  rw [dgForm, hj]
  simp only [← hdy]
  pointwise [val_main_v56, val_main_v41, val_main_v38, val_main_v37, val_main_v36, val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, val_main_cst_2, val_main_cst_11, val_main_cst_12, rowRsqrt]
  try rw [Fin.sum_univ_one]
  refine Finset.sum_congr rfl fun s _ => ?_
  rw [mul_comm]; exact congrArg (· * _) (hdy s (j 1))

/-- The reference's loss is the kernel's. -/
theorem ref_loss (o x tgt : FVec Ideal S1x4096x2048 .f32) (g : FVec Ideal S1x2048 .f32) (ho : RealOps.IsReal o) (hx : RealOps.IsReal x)
    (ht : RealOps.IsReal tgt) (hg : RealOps.IsReal g) (j : S_.Idx) : val_main_v29 (F := Ideal) o x g tgt j = lossForm o x tgt g (ix2 0 0) := by
  have hr : ∃ r : Fin 4096 → ℝ, ∀ s, rowLoss o x tgt g s = ((r s : ℝ) : EReal) := by
    obtain ⟨o, rfl⟩ := ho; obtain ⟨x, rfl⟩ := hx; obtain ⟨tgt, rfl⟩ := ht; obtain ⟨g, rfl⟩ := hg
    obtain ⟨e, he⟩ := err_real o x tgt g
    exact ⟨fun s => _, fun s => by
      rw [rowLoss, RealOps.ofBits_2048]; simp only [he, ← EReal.coe_mul, RealOps.coe_sum]; rw [RealOps.div_coe (by norm_num)]⟩
  obtain ⟨r, hr⟩ := hr
  have h1 : val_main_v29 (F := Ideal) o x g tgt j = Ideal.ofBits .f32 0x3F000000#32 * ∑ s : Fin 4096, rowLoss o x tgt g s := by
    pointwise [val_main_v29, val_main_v28, val_main_v27, val_main_v26, val_main_v25, val_main_v22, val_main_cst_4, val_main_cst_5, val_main_cst_6, val_main_cst_7, rowLoss]
    simp only [ref_err]
  have h2 : ∑ s : Fin 4096, rowLoss o x tgt g s = ∑ t : Fin 8, ∑ q : Fin 512, rowLoss o x tgt g ⟨512 * t.val + q.val, by omega⟩ :=
    (Fin.sum_mul_add_congr fun t q hl => congrArg _ (Fin.ext (by show 512 * t.val + q.val = t.val * 512 + q.val; rw [Nat.mul_comm]))).symm
  rw [h1, h2, lossForm, ofBits_half]
  simp only [hr, RealOps.coe_sum, ← EReal.coe_mul]
  rw [Finset.mul_sum]

end Cert.Post

end
-- ==== Proof.PostClaim.lean ====
/- The loss and the backward of the post-norm: the claims about this call, from the kernel's run and the reference's run. -/
module

public import proofs.«01_k».proof.Defs
public import proofs.«01_k».proof.Proof.Gen.Kernel5.Frame
public import proofs.«01_k».proof.Proof.Gen.Reference5Ideal.Run
public import proofs.«01_k».proof.Proof.Gen.Reference5Ideal.Read
public import proofs.«01_k».proof.Proof.Gen.Pre_finite5
public import proofs.«01_k».proof.Proof.PostReference
public import Idealize.ShloMosaic.Adequacy
public import Idealize.ShloMosaic.Init

@[expose] public section

set_option maxRecDepth 16384

noncomputable section

namespace Cert.Post

open Idealize.ShloMosaic Idealize.SL.Sem

/-- What the precondition says of the launch memory: these arguments hold reals. -/
theorem finite (m : (ℓ : Loc Kernel5Ideal.nD Kernel5Ideal.τ Kernel5Ideal.sig) → Buf (Elt Ideal) ℓ) (h : Cert.Pre_Kernel5Ideal_finite5 m) (c : Dev Kernel5Ideal.nD) :
    RealOps.IsReal (m ((c.tc : Thread Kernel5Ideal.nD Kernel5Ideal.τ).loc Kernel5Ideal.main_arg0))
    ∧ RealOps.IsReal (m ((c.tc : Thread Kernel5Ideal.nD Kernel5Ideal.τ).loc Kernel5Ideal.main_arg1))
    ∧ RealOps.IsReal (m ((c.tc : Thread Kernel5Ideal.nD Kernel5Ideal.τ).loc Kernel5Ideal.main_arg2))
    ∧ RealOps.IsReal (m ((c.tc : Thread Kernel5Ideal.nD Kernel5Ideal.τ).loc Kernel5Ideal.main_arg3)) :=
  ⟨RealOps.isReal_of_finite _ _ (h c).1, RealOps.isReal_of_finite _ _ (h c).2.1, RealOps.isReal_of_finite _ _ (h c).2.2.1, RealOps.isReal_of_finite _ _ (h c).2.2.2⟩

/-- The two idealized programs leave the same results. -/
theorem algebraic : Cert.algebraic_Kernel5Ideal_Reference5Ideal_pre_finite5 := by
  pair_intro
  · run_from Cert.Post.kernel_run m g
  · run_from Cert.Reference5Ideal.Value.run m' g'
    · obtain ⟨ho, hx, hg, ht⟩ := finite m hpre c
      obtain ⟨e0, e1, e2, e3⟩ := hagree c
      rw [Cert.Reference5Ideal.Read.val_main_v59_eq, e0, e1, e2, e3]
      funext j
      idx_vars j
      obtain rfl : j0 = 0 := Subsingleton.elim _ _
      exact ref_do _ _ _ _ ho hx ht hg j1 j2
    · obtain ⟨ho, hx, hg, ht⟩ := finite m hpre c
      funext j
      idx_vars j
      obtain rfl : j0 = 0 := Subsingleton.elim _ _
      exact ref_dy3 _ _ _ _ ho hx ht hg j1 j2
    · obtain ⟨ho, hx, hg, ht⟩ := finite m hpre c
      exact funext fun j => ref_dg _ _ _ _ ho hx ht hg j
    · obtain ⟨ho, hx, hg, ht⟩ := finite m hpre c
      exact funext fun j => ref_loss _ _ _ _ ho hx ht hg j

/-- The reference's run leaves its arguments as they were; it declares no semaphore. -/
theorem frame_reference : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run m ρ)

end Cert.Post

end
-- ==== Proof.PreBwdKernel.lean ====
/- The backward of the pre-norm (`_pre_bwd`): what the two result arrays of its one launch hold, over the argument arrays. -/
module

public import proofs.«01_k».proof.Proof.Gen.Kernel6Ideal.Frame
public import Idealize.ShloMosaic.Lib.Pipeline.ValueKit
public import proofs.«01_k».proof.Proof.RealOps

@[expose] public section

set_option maxRecDepth 16384

noncomputable section

open Idealize.ShloMosaic Idealize.ShloMosaic.TcCoe Idealize.SL.Sem
open Idealize.ShloMosaic.Pipeline (Dat)
open scoped BigOperators

namespace Cert.PreBwd

open Cert.Kernel6Ideal Cert.Kernel6Ideal.Gen

/-- The reciprocal root of row `s`: of the mean of its squares plus the small constant. -/
def rowRsqrt (x : FVec Ideal S1x4096x2048 .f32) (s : Fin 4096) : EReal :=
  Ideal.rsqrt (Ideal.div (∑ k : Fin 2048, x (ix3 0 s k) * x (ix3 0 s k)) (Ideal.ofBits .f32 0x45000000#32) + Ideal.ofBits .f32 0x358637BD#32)

/-- The gradient of `x` at row `s`, column `k` as the kernel makes it. -/
def dxAt (x dh dy : FVec Ideal S1x4096x2048 .f32) (g : FVec Ideal S1x2048 .f32) (s : Fin 4096) (k : Fin 2048) : EReal :=
  dy (ix3 0 s k) + rowRsqrt x s * (dh (ix3 0 s k) * g (ix2 0 k) - x (ix3 0 s k) * rowRsqrt x s
    * Ideal.div (∑ l : Fin 2048, dh (ix3 0 s l) * g (ix2 0 l) * (x (ix3 0 s l) * rowRsqrt x s)) (Ideal.ofBits .f32 0x45000000#32))

/-- The array of these. -/
def dxForm (x dh dy : FVec Ideal S1x4096x2048 .f32) (g : FVec Ideal S1x2048 .f32) : FVec Ideal S4096x2048 .f32 := fun i =>
  dxAt x dh dy g (i 0) (i 1)

/-- The gradient of the gain as the kernel makes it. -/
def dgForm (x dh : FVec Ideal S1x4096x2048 .f32) : FVec Ideal S1x2048 .f32 := fun i =>
  ∑ s : Fin 4096, dh (ix3 0 s (i 1)) * (x (ix3 0 s (i 1)) * rowRsqrt x s)

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ t.val < 8 :=
  (by decide +kernel : ∀ t : Fin grid0.N, _)

/-- The operands the host hands over are the arguments without their leading axis of one. -/
theorem V_x (c : Dev nD) (i : S4096x2048.Idx) : V m c main_v0 i = m ((c : Thread nD τ).loc main_arg0) (ix3 0 (i 0) (i 1)) := by
  have h : V m c main_v0 = shapeCast _ (m ((c : Thread nD τ).loc main_arg0)) shapeCasts_S1x4096x2048_S4096x2048 := rfl
  rw [h]; exact Cert.RealOps.shapeCast_drop_lead _ _ i

theorem V_dh (c : Dev nD) (i : S4096x2048.Idx) : V m c main_v1 i = m ((c : Thread nD τ).loc main_arg2) (ix3 0 (i 0) (i 1)) := by
  have h : V m c main_v1 = shapeCast _ (m ((c : Thread nD τ).loc main_arg2)) shapeCasts_S1x4096x2048_S4096x2048 := rfl
  rw [h]; exact Cert.RealOps.shapeCast_drop_lead _ _ i

theorem V_dy (c : Dev nD) (i : S4096x2048.Idx) : V m c main_v2 i = m ((c : Thread nD τ).loc main_arg3) (ix3 0 (i 0) (i 1)) := by
  have h : V m c main_v2 = shapeCast _ (m ((c : Thread nD τ).loc main_arg3)) shapeCasts_S1x4096x2048_S4096x2048 := rfl
  rw [h]; exact Cert.RealOps.shapeCast_drop_lead _ _ i

/-- What one grid point stores of the gradient of `x`, whichever case it is of. -/
theorem dx_point (c : Dev nD) (t : Fin cfg0.N) (y) : k0_pay7 (iblk m c 0 t) (iblk m c 3 t) (iblk m c 1 t) (iblk m c 2 t) y
    = dxForm (m ((c : Thread nD τ).loc main_arg0)) (m ((c : Thread nD τ).loc main_arg2)) (m ((c : Thread nD τ).loc main_arg3))
        (m ((c : Thread nD τ).loc main_arg1)) (((cfg0.win 4).blk t).view.emb y) := by
  pointwise [k0_pay2, k0_pay3, k0_pay4, k0_pay5, k0_pay7, dxForm, dxAt, rowRsqrt]
  blk_point [iblk, V, idx_val t]
  all_goals (first | rw [V_x] | rw [V_dh] | rw [V_dy]) <;> blk_ext [idx_val t]

theorem final_dx (c : Dev nD) : (dats m 0 c).arrAt 4 (cfgs 0).N
    = dxForm (m ((c : Thread nD τ).loc main_arg0)) (m ((c : Thread nD τ).loc main_arg2)) (m ((c : Thread nD τ).loc main_arg3))
        (m ((c : Thread nD τ).loc main_arg1)) := by
  refine (dats m 0 c).arrAt_eq_of_covers 4 _ (by decide +kernel) fun t hf y => ?_
  blk_simp; rw [after0_4]
  by_cases h : t.val % 8 = 0
  · rw [outsAt0_A m c t h]; frame_out; exact dx_point m c t y
  · rw [outsAt0_B m c t h]; frame_out; exact dx_point m c t y

theorem final_dg (c : Dev nD) : (dats m 0 c).arrAt 5 (cfgs 0).N
    = dgForm (m ((c : Thread nD τ).loc main_arg0)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t j => ∑ r : Fin 512, (k0_pay6 (iblk m c 0 t) (iblk m c 1 t) : FVec Ideal S512x2048 .f32) (ix2 r (j 1)))
    (fun t h j => by rw [outsAt0_A m c t h]; frame_out; pointwise [k0_pay1, k0_pay9, k0_pay8])
    (fun t h j => by rw [outsAt0_B m c t h]; frame_out; pointwise [k0_pay1, k0_pay9])
    (le_of_eq N_0) t0_7 rfl j, zero_add]
  refine Fin.sum_mul_add_congr fun t k hl => ?_
  pointwise [k0_pay2, k0_pay3, k0_pay4, k0_pay5, k0_pay6, rowRsqrt]
  blk_point [iblk, V, idx_val t]
  all_goals (first | rw [V_x] | rw [V_dh] | rw [V_dy]) <;> blk_ext [idx_val t]

/-- The gradient of `x` that the run leaves: the launch's array, its leading axis of one put back by the host. -/
theorem tail_dx (c : Dev nD) : Pipeline.afterTail₀ cfgs (dats m) 0 (V0 m) [hostOps1] c main_v4
    = broadcastInDim S1x4096x2048 ![1, 2] bcast_S4096x2048_S1x4096x2048_1_2 ((dats m 0 c).arrAt 4 (cfgs 0).N) := by
  refine Eq.trans (b := broadcastInDim S1x4096x2048 ![1, 2] bcast_S4096x2048_S1x4096x2048_1_2
    (Pipeline.withArrays (cfgs 0).spec c (V0 m c) (fun w => (dats m 0 c).arrAt w (cfgs 0).N) (Proc.devRef .tc main_v3_0))) rfl ?_
  exact congrArg _ (Pipeline.withArrays_arr (cfgs 0).spec (by decide) c (V0 m c) _ 4)

/-- The whole run of the program: both results in closed form, the arguments unchanged. -/
theorem kernel_run (ρ : Dev nD → PrngReg) : θ_run defs (onTc (τ := τ) (main (F := Ideal))) ⟨m, fun _ => 0, ρ⟩ fun r => ∀ c : Dev nD,
    r.2.mem ((c.tc : Thread nD τ).loc main_v4)
      = (fun j : S1x4096x2048.Idx => dxAt (m ((c : Thread nD τ).loc main_arg0)) (m ((c : Thread nD τ).loc main_arg2))
          (m ((c : Thread nD τ).loc main_arg3)) (m ((c : Thread nD τ).loc main_arg1)) (j 1) (j 2))
    ∧ r.2.mem ((c.tc : Thread nD τ).loc main_v3_1) = dgForm (m ((c : Thread nD τ).loc main_arg0)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Kernel6Ideal.Gen.run_main m ρ & Cert.Kernel6Ideal.Gen.unchanged m ρ
  · rw [tail_dx, final_dx]; funext j; pointwise [dxForm]
  · exact final_dg m c

end Cert.PreBwd

end
-- ==== Proof.PreBwdReference.lean ====
/- The backward of the pre-norm: the reference's two results are the kernel's two forms, at real arguments. -/
module

public import proofs.«01_k».proof.Proof.Gen.Reference6Ideal.Read
public import proofs.«01_k».proof.Proof.PreBwdKernel
public import proofs.«01_k».proof.Proof.NormBwd

@[expose] public section

set_option maxRecDepth 16384

noncomputable section

open Idealize.ShloMosaic Idealize.ShloMosaic.TcCoe Idealize.SL.Sem
open Idealize.ShloMosaic.Pipeline (Dat)
open scoped BigOperators

namespace Cert.PreBwd

open Cert.Reference6Ideal Cert.Reference6Ideal.Gen Cert.Reference6Ideal.Read

theorem rowRsqrt_real (x : S1x4096x2048.Idx → ℝ) (s : Fin 4096) : rowRsqrt (fun i => (x i : EReal)) s
    = (((Real.sqrt (RealOps.rowQ 2048 RealOps.epsR fun k : Fin 2048 => x (ix3 0 s k)))⁻¹ : ℝ) : EReal) := by
  rw [rowRsqrt, RealOps.ofBits_2048, RealOps.ofBits_eps]
  exact RealOps.rowRsqrt_coe (by norm_num) RealOps.epsR_pos fun k : Fin 2048 => x (ix3 0 s k)

theorem ref_rsqrt (x : FVec Ideal S1x4096x2048 .f32) (s : Fin 4096) : val_main_v9 (F := Ideal) x (ix2 s 0) = rowRsqrt x s := by
  pointwise [val_main_v9, val_main_v8, val_main_v7, val_main_cst_1, val_main_v6, val_main_v5, val_main_v4, val_main_v3, val_main_v2, val_main_v0, val_main_cst, val_main_cst_0, rowRsqrt]

theorem ref_dx (x dh dy : FVec Ideal S1x4096x2048 .f32) (g : FVec Ideal S1x2048 .f32) (hx : RealOps.IsReal x) (hd : RealOps.IsReal dh)
    (hg : RealOps.IsReal g) (s : Fin 4096) (k : Fin 2048) : val_main_v44 (F := Ideal) x g dh dy (ix3 0 s k) = dxAt x dh dy g s k := by
  obtain ⟨x, rfl⟩ := hx; obtain ⟨dh, rfl⟩ := hd; obtain ⟨g, rfl⟩ := hg
  have h := RealOps.norm_bwd_row (N := 2048) (e := RealOps.epsR) (by norm_num) RealOps.epsR_pos (fun k : Fin 2048 => x (ix3 0 s k))
    (fun k => dh (ix3 0 s k)) (fun k => g (ix2 0 k)) k _ _ (rowRsqrt_real x s) rfl
  rw [← RealOps.rowQ_coe _ (by norm_num), ← RealOps.ofBits_2048, ← RealOps.ofBits_eps, ← RealOps.ofBits_neg_half] at h
  rw [dxAt, h, rowRsqrt]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v19, val_main_v20, val_main_v21, val_main_v25, val_main_v26, val_main_v28, val_main_v29, val_main_v30, val_main_v31, val_main_v32, val_main_v33, val_main_v34, val_main_v35, val_main_v36, val_main_v37, val_main_v38, val_main_v39, val_main_v40, val_main_v41, val_main_v43, val_main_v44, val_main_cst, val_main_cst_0, val_main_cst_1, val_main_cst_2, val_main_cst_3, val_main_cst_5, val_main_cst_6, val_main_cst_7]

theorem ref_dg (x dh : FVec Ideal S1x4096x2048 .f32) (j : S1x2048.Idx) : val_main_v42 (F := Ideal) x dh j = dgForm x dh j := by
  pointwise [val_main_v22, val_main_v23, val_main_v24, val_main_v27, val_main_v42, val_main_v14, val_main_v19, val_main_v13, val_main_v0, val_main_cst_3, val_main_cst_4, dgForm]
  rw [Fin.sum_univ_one]
  refine Finset.sum_congr rfl fun s _ => ?_
  rw [ref_rsqrt, mul_comm]

end Cert.PreBwd

end
-- ==== Proof.PreBwdClaim.lean ====
/- The backward of the pre-norm: the claims about this call, from the kernel's run and the reference's run. -/
module

public import proofs.«01_k».proof.Defs
public import proofs.«01_k».proof.Proof.Gen.Kernel6.Frame
public import proofs.«01_k».proof.Proof.Gen.Reference6Ideal.Run
public import proofs.«01_k».proof.Proof.Gen.Reference6Ideal.Read
public import proofs.«01_k».proof.Proof.Gen.Pre_finite6
public import proofs.«01_k».proof.Proof.PreBwdReference
public import Idealize.ShloMosaic.Adequacy
public import Idealize.ShloMosaic.Init

@[expose] public section

set_option maxRecDepth 16384

noncomputable section

namespace Cert.PreBwd

open Idealize.ShloMosaic Idealize.SL.Sem

/-- What the precondition says of the launch memory: these arguments hold reals. -/
theorem finite (m : (ℓ : Loc Kernel6Ideal.nD Kernel6Ideal.τ Kernel6Ideal.sig) → Buf (Elt Ideal) ℓ) (h : Cert.Pre_Kernel6Ideal_finite6 m) (c : Dev Kernel6Ideal.nD) :
    RealOps.IsReal (m ((c.tc : Thread Kernel6Ideal.nD Kernel6Ideal.τ).loc Kernel6Ideal.main_arg0))
    ∧ RealOps.IsReal (m ((c.tc : Thread Kernel6Ideal.nD Kernel6Ideal.τ).loc Kernel6Ideal.main_arg1))
    ∧ RealOps.IsReal (m ((c.tc : Thread Kernel6Ideal.nD Kernel6Ideal.τ).loc Kernel6Ideal.main_arg2)) :=
  ⟨RealOps.isReal_of_finite _ _ (h c).1, RealOps.isReal_of_finite _ _ (h c).2.1, RealOps.isReal_of_finite _ _ (h c).2.2⟩

/-- The two idealized programs leave the same results. -/
theorem algebraic : Cert.algebraic_Kernel6Ideal_Reference6Ideal_pre_finite6 := by
  pair_intro
  · run_from Cert.PreBwd.kernel_run m g
  · run_from Cert.Reference6Ideal.Value.run m' g'
    · obtain ⟨hx, hg, hd⟩ := finite m hpre c
      obtain ⟨e0, e1, e2, e3⟩ := hagree c
      rw [Cert.Reference6Ideal.Read.val_main_v44_eq, e0, e1, e2, e3]
      funext j
      idx_vars j
      obtain rfl : j0 = 0 := Subsingleton.elim _ _
      exact ref_dx _ _ _ _ hx hd hg j1 j2
    · exact funext fun j => ref_dg _ _ j

/-- The reference's run leaves its arguments as they were; it declares no semaphore. -/
theorem frame_reference : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run m ρ)

end Cert.PreBwd

end
-- ==== Proof.Online.lean ====
/- The running maximum, sum of exponentials and weighted sum of a row of attention logits taken tile by tile, in base 2, and
   what they are once the whole row is seen. -/
module

public import Idealize.ShloMosaic.PureOps.Ideal.Laws
public import proofs.«01_k».proof.Proof.Rows
public import proofs.«01_k».proof.Proof.Softmax

@[expose] public section

noncomputable section

open Idealize.ShloMosaic
open scoped BigOperators

namespace Cert.Online

/-- A scalar that is a nonnegative real goes inside a finite sum of extended reals. -/
theorem mul_sum {ι : Type} (s : Finset ι) {a : EReal} (h0 : 0 ≤ a) (ht : a ≠ ⊤) (f : ι → EReal) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- Base-2 exponentials below a bound: the change of the maximum from `M` to `M'`. -/
theorem exp2_shift {l M M' : EReal} (h1 : l ≤ M) (h2 : M ≤ M') (h3 : M' ≠ ⊤) :
    Ideal.exp2 (M - M') * Ideal.exp2 (l - M) = Ideal.exp2 (l - M') := by
  induction M' with
  | top => exact absurd rfl h3
  | bot =>
    obtain rfl : M = ⊥ := le_bot_iff.mp h2
    obtain rfl : l = ⊥ := le_bot_iff.mp h1
    simp
  | coe m' =>
    induction M with
    | top => exact absurd h2 (not_le.mpr (EReal.coe_lt_top _))
    | bot =>
      obtain rfl : l = ⊥ := le_bot_iff.mp h1
      simp
    | coe m =>
      induction l with
      | top => exact absurd h1 (not_le.mpr (EReal.coe_lt_top _))
      | bot => simp
      | coe x =>
        simp only [← EReal.coe_sub, Ideal.exp2_coe, ← EReal.coe_mul]
        congr 1
        show (2 : ℝ) ^ (m - m') * (2 : ℝ) ^ (x - m) = (2 : ℝ) ^ (x - m')
        rw [← Real.rpow_add (by norm_num)]
        congr 1; ring

/-- The factor of the change is a nonnegative real. -/
theorem exp2_factor {M M' : EReal} (h2 : M ≤ M') (h3 : M' ≠ ⊤) : 0 ≤ Ideal.exp2 (M - M') ∧ Ideal.exp2 (M - M') ≠ ⊤ := by
  induction M' with
  | top => exact absurd rfl h3
  | bot =>
    obtain rfl : M = ⊥ := le_bot_iff.mp h2
    simp
  | coe m' =>
    induction M with
    | top => exact absurd h2 (not_le.mpr (EReal.coe_lt_top _))
    | bot => simp
    | coe m =>
      rw [← EReal.coe_sub, Ideal.exp2_coe]
      exact ⟨EReal.coe_nonneg.mpr (Real.rpow_nonneg (by norm_num) _), EReal.coe_ne_top _⟩

section Row
variable {N : ℕ} (L : Fin N → EReal) (v : Fin N → EReal)

/-- The maximum of the first `n` logits. -/
def top (n : ℕ) : EReal := (Finset.univ : Finset (Fin N)).fold max ⊥ (fun u => if u.val < n then L u else ⊥)
/-- The sum of the exponentials of the first `n`, below their maximum. -/
def den (n : ℕ) : EReal := ∑ u : Fin N, if u.val < n then Ideal.exp2 (L u - top L n) else 0
/-- The same sum with each term times the key's value. -/
def acc (n : ℕ) : EReal := ∑ u : Fin N, if u.val < n then Ideal.exp2 (L u - top L n) * v u else 0

theorem top_zero : top L 0 = ⊥ := by
  refine le_bot_iff.mp ((Finset.fold_max_le _).mpr ⟨le_refl _, fun u _ => ?_⟩)
  rw [if_neg (Nat.not_lt_zero _)]
theorem den_zero : den L 0 = 0 := Finset.sum_eq_zero fun _ _ => if_neg (Nat.not_lt_zero _)
theorem acc_zero : acc L v 0 = 0 := Finset.sum_eq_zero fun _ _ => if_neg (Nat.not_lt_zero _)

theorem le_top {n : ℕ} {u : Fin N} (h : u.val < n) : L u ≤ top L n :=
  (Finset.le_fold_max _).mpr (Or.inr ⟨u, Finset.mem_univ _, by rw [if_pos h]⟩)

theorem top_mono {n n' : ℕ} (h : n ≤ n') : top L n ≤ top L n' := by
  refine (Finset.fold_max_le _).mpr ⟨bot_le, fun u _ => ?_⟩
  split
  · exact le_top L (by omega)
  · exact bot_le

variable (hL : ∀ u, L u ≠ ⊤)

include hL in
theorem top_ne_top (n : ℕ) : top L n ≠ ⊤ := by
  refine ne_of_lt ((Finset.fold_max_lt _).mpr ⟨bot_lt_top, fun u _ => ?_⟩)
  split
  · exact lt_top_iff_ne_top.mpr (hL u)
  · exact bot_lt_top

/-- A tile of `w` further keys raises the maximum. -/
theorem top_step (o w : ℕ) (h : o + w ≤ N) :
    max (top L o) ((Finset.univ : Finset (Fin w)).fold max ⊥ (fun s => L ⟨o + s.val, by omega⟩)) = top L (o + w) := by
  refine le_antisymm (max_le (top_mono L (by omega)) ((Finset.fold_max_le _).mpr ⟨bot_le, fun s _ => le_top L (by dsimp only; omega)⟩))
    ((Finset.fold_max_le _).mpr ⟨bot_le, fun u _ => ?_⟩)
  split
  · by_cases hu : u.val < o
    · exact le_max_of_le_left (le_top L hu)
    · refine le_max_of_le_right ((Finset.le_fold_max _).mpr (Or.inr ⟨⟨u.val - o, by omega⟩, Finset.mem_univ _, le_of_eq (congrArg L (Fin.ext ?_))⟩))
      dsimp only; omega
  · exact bot_le

include hL

/-- The sum of exponentials after the tile. -/
theorem den_step (o w : ℕ) (h : o + w ≤ N) :
    Ideal.exp2 (top L o - top L (o + w)) * den L o + ∑ s : Fin w, Ideal.exp2 (L ⟨o + s.val, by omega⟩ - top L (o + w)) = den L (o + w) := by
  have hf := exp2_factor (top_mono L (Nat.le_add_right o w)) (top_ne_top L hL (o + w))
  rw [den, den, mul_sum _ hf.1 hf.2, ← Rows.sum_widen (fun u => Ideal.exp2 (L u - top L (o + w))) o w h]
  congr 1
  refine Finset.sum_congr rfl fun u _ => ?_
  split
  · rename_i hu
    exact exp2_shift (le_top L hu) (top_mono L (Nat.le_add_right o w)) (top_ne_top L hL _)
  · exact mul_zero _

/-- The weighted sum after the tile. -/
theorem acc_step (o w : ℕ) (h : o + w ≤ N) :
    Ideal.exp2 (top L o - top L (o + w)) * acc L v o + ∑ s : Fin w, Ideal.exp2 (L ⟨o + s.val, by omega⟩ - top L (o + w)) * v ⟨o + s.val, by omega⟩
      = acc L v (o + w) := by
  have hf := exp2_factor (top_mono L (Nat.le_add_right o w)) (top_ne_top L hL (o + w))
  rw [acc, acc, mul_sum _ hf.1 hf.2, ← Rows.sum_widen (fun u => Ideal.exp2 (L u - top L (o + w)) * v u) o w h]
  congr 1
  refine Finset.sum_congr rfl fun u _ => ?_
  split
  · rename_i hu
    rw [← mul_assoc, exp2_shift (le_top L hu) (top_mono L (Nat.le_add_right o w)) (top_ne_top L hL _)]
  · exact mul_zero _

end Row

section Whole
variable {N : ℕ} (on : Fin N → Prop) [DecidablePred on] (l : Fin N → ℝ) (v : Fin N → EReal)

/-- `1 / log 2`: a logit times this is its base-2 logit. -/
def lb : ℝ := (Real.log 2)⁻¹

theorem lb_pos : 0 < lb := inv_pos.mpr (Real.log_pos (by norm_num))

/-- The masked row in base 2. -/
def row2 (u : Fin N) : EReal := (lb : EReal) * Softmax.row on l u

theorem row2_ne_top (u : Fin N) : row2 on l u ≠ ⊤ := by
  unfold row2 Softmax.row; split
  · rw [← EReal.coe_mul]; exact EReal.coe_ne_top _
  · rw [EReal.coe_mul_bot_of_pos lb_pos]; exact bot_ne_top

theorem mono : Monotone (fun x : EReal => (lb : EReal) * x) := fun _ _ h => mul_le_mul_of_nonneg_left h (EReal.coe_nonneg.mpr lb_pos.le)

/-- Once every key that is not masked is seen the maximum is the row's. -/
theorem top_whole {n : ℕ} (hn : ∀ u : Fin N, on u → u.val < n) {μ : ℝ} (hμ : (Finset.univ : Finset (Fin N)).fold max ⊥ (Softmax.row on l) = (μ : EReal)) :
    top (row2 on l) n = ((lb * μ : ℝ) : EReal) := by
  have e : (fun u : Fin N => if u.val < n then row2 on l u else ⊥) = fun u => (lb : EReal) * Softmax.row on l u := by
    funext u
    split
    · rfl
    · rename_i hu
      rw [Softmax.row, if_neg (fun h => hu (hn u h)), EReal.coe_mul_bot_of_pos lb_pos]
  rw [top, e, EReal.coe_mul, ← hμ]
  have hb : (⊥ : EReal) = (lb : EReal) * ⊥ := (EReal.coe_mul_bot_of_pos lb_pos).symm
  conv_lhs => rw [hb]
  exact Finset.fold_hom (op := max) (op' := max) (m := fun x : EReal => (lb : EReal) * x) fun x y => mono.map_max

theorem exp2_row2 (μ : ℝ) (u : Fin N) : Ideal.exp2 (row2 on l u - ((lb * μ : ℝ) : EReal)) = ((Softmax.ex on l μ u : ℝ) : EReal) := by
  unfold row2 Softmax.row Softmax.ex; split
  · rw [← EReal.coe_mul, ← EReal.coe_sub, Ideal.exp2_coe]
    congr 1
    show (2 : ℝ) ^ (lb * l u - lb * μ) = _
    rw [Real.rpow_def_of_pos (by norm_num), ← mul_sub, ← mul_assoc, lb, mul_inv_cancel₀ (Real.log_pos (by norm_num)).ne', one_mul]
  · rw [EReal.coe_mul_bot_of_pos lb_pos, EReal.bot_sub, Ideal.exp2_bot]; rfl

variable {n : ℕ} (hn : ∀ u : Fin N, on u → u.val < n) {μ : ℝ} (hμ : (Finset.univ : Finset (Fin N)).fold max ⊥ (Softmax.row on l) = (μ : EReal))
include hn hμ

theorem den_whole : den (row2 on l) n = ((Softmax.den on l μ : ℝ) : EReal) := by
  rw [den, Softmax.den, ← RealOps.coe_sum]
  refine Finset.sum_congr rfl fun u _ => ?_
  rw [top_whole on l hn hμ, exp2_row2]
  split
  · rfl
  · rename_i hu
    rw [Softmax.ex, if_neg (fun h => hu (hn u h))]; rfl

theorem acc_whole : acc (row2 on l) v n = ∑ u, ((Softmax.ex on l μ u : ℝ) : EReal) * v u := by
  rw [acc]
  refine Finset.sum_congr rfl fun u _ => ?_
  rw [top_whole on l hn hμ, exp2_row2]
  split
  · rfl
  · rename_i hu
    rw [Softmax.ex, if_neg (fun h => hu (hn u h)), EReal.coe_zero, zero_mul]

/-- The attention's output: the weighted sum over the sum of exponentials is the softmax's weights times the values. -/
theorem out_whole {j : Fin N} (hj : on j) : Ideal.div (acc (row2 on l) v n) (den (row2 on l) n)
    = ∑ u, Ideal.div ((Softmax.ex on l μ u : ℝ) : EReal) ((Softmax.den on l μ : ℝ) : EReal) * v u := by
  have hz := Softmax.den_pos on l μ hj
  rw [acc_whole on l v hn hμ, den_whole on l hn hμ, Ideal.div_coe hz.ne', mul_comm,
    mul_sum _ (EReal.coe_nonneg.mpr (one_div_pos.mpr hz).le) (EReal.coe_ne_top _)]
  refine Finset.sum_congr rfl fun u _ => ?_
  rw [Ideal.div_coe hz.ne', ← mul_assoc, mul_comm (((1 / _ : ℝ) : EReal))]

/-- The saved logarithm of the sum of exponentials. -/
theorem lse_whole {j : Fin N} (hj : on j) : top (row2 on l) n * ((Real.log 2 : ℝ) : EReal) + Ideal.log (den (row2 on l) n)
    = ((μ : ℝ) : EReal) + Ideal.log ((Softmax.den on l μ : ℝ) : EReal) := by
  rw [top_whole on l hn hμ, den_whole on l hn hμ, ← EReal.coe_mul]
  congr 2
  rw [lb]; field_simp [(Real.log_pos (by norm_num : (1 : ℝ) < 2)).ne']

end Whole

end Cert.Online
end
-- ==== Proof.FoxFwdPay.lean ====
/- One step of the forget-gate attention over a key tile: what the body's arithmetic makes of its operands, entry by entry. -/
module

public import proofs.«01_k».proof.Proof.Gen.Kernel8Ideal.Loops
public import Idealize.ShloMosaic.Lib.Pipeline.ValueKit
public import Idealize.ShloMosaic.Lib.WordCmp
public import proofs.«01_k».proof.Proof.Online

@[expose] public section

set_option maxRecDepth 16384

noncomputable section

open Idealize.ShloMosaic Idealize.ShloMosaic.TcCoe Idealize.SL.Sem
open Idealize.ShloMosaic.Pipeline (Dat)
open scoped BigOperators

namespace Cert.FoxFwd
open Cert.Kernel8Ideal Cert.Kernel8Ideal.Gen

/-- The base-2 scale of the logits: the attention's scale over `log 2`. -/
abbrev scale2 : EReal := (((11863283 / 134217728) * (Real.log 2)⁻¹ : ℝ) : EReal)

variable (q : FVec Ideal S1024x128 .bf16) (k v : FVec Ideal S1024x128 .bf16) (c : FVec Ideal S1x1x1x1024 .f32)
  (m l : FVec Ideal S1024x1 .f32) (a : FVec Ideal S1024x128 .f32) (r s : Fin 1024) (d : Fin 128)

/-- The base-2 logit of row `r` and key `s` of a tile, without the query's gate sum. -/
def tl : EReal := (∑ x : Fin 128, q (ix2 r x) * k (ix2 s x)) * scale2 - c (ix4 0 0 0 s) * (((Real.log 2)⁻¹ : ℝ) : EReal)

theorem pay9 : k0_pay9 (F := Ideal) q k c (ix2 r s) = tl q k c r s := by
  pointwise [k0_pay9, k0_pay5, tl]
  rfl

/-- The maximum over a row of a tile, as a fold. -/
theorem row_max (f : FVec Ideal S1024x1024 .f32) (r : Fin 1024) :
    multiReduction (F := Ideal) .maximumf [1] S1024 f 0xFF800000#32 reduces_S1024x1024_S1024 (.inl rfl) rfl (ix1 r)
      = (Finset.univ : Finset (Fin 1024)).fold max ⊥ (fun s => f (ix2 r s)) := by
  refine (Ideal.multiReduction_maximumf_single f 0xFF800000#32 reduces_S1024x1024_S1024 (Or.inl rfl) rfl (ix1 r)).trans ?_
  show Finset.fold max (Ideal.ofBits .f32 0xFF800000#32) _ _ = _
  rw [Cert.Softmax.ofBits_neg_inf]
  congr 1
  funext u
  exact congrArg f (by funext a; match a with | 0 => rfl | 1 => rfl)

theorem pay10 : k0_pay10 (F := Ideal) q m k c (ix2 r 0) = max (m (ix2 r 0)) ((Finset.univ : Finset (Fin 1024)).fold max ⊥ (fun s => k0_pay9 (F := Ideal) q k c (ix2 r s))) := by
  rw [← row_max]
  generalize hf : k0_pay9 (F := Ideal) q k c = f
  unfold k0_pay10
  rw [hf]
  pointwise []

theorem pay11 : k0_pay11 (F := Ideal) q m k c (ix2 r 0) = Ideal.exp2 (m (ix2 r 0) - k0_pay10 (F := Ideal) q m k c (ix2 r 0)) := by
  unfold k0_pay11
  generalize k0_pay10 (F := Ideal) q m k c = f
  pointwise []
  rfl

theorem pay12 : k0_pay12 (F := Ideal) q m k c (ix2 r s) = Ideal.exp2 (k0_pay9 (F := Ideal) q k c (ix2 r s) - k0_pay10 (F := Ideal) q m k c (ix2 r 0)) := by
  unfold k0_pay12
  generalize k0_pay10 (F := Ideal) q m k c = f
  generalize k0_pay9 (F := Ideal) q k c = g
  pointwise []
  rfl

theorem pay13 : k0_pay13 (F := Ideal) q m l k c (ix2 r 0) = k0_pay11 (F := Ideal) q m k c (ix2 r 0) * l (ix2 r 0) + ∑ s, k0_pay12 (F := Ideal) q m k c (ix2 r s) := by
  unfold k0_pay13
  generalize k0_pay11 (F := Ideal) q m k c = f
  generalize k0_pay12 (F := Ideal) q m k c = g
  pointwise []

theorem pay14 : k0_pay14 (F := Ideal) q m a k c v (ix2 r d) = k0_pay11 (F := Ideal) q m k c (ix2 r 0) * a (ix2 r d) + ∑ s, k0_pay12 (F := Ideal) q m k c (ix2 r s) * v (ix2 s d) := by
  unfold k0_pay14
  generalize k0_pay11 (F := Ideal) q m k c = f
  generalize k0_pay12 (F := Ideal) q m k c = g
  pointwise []

theorem pay21 : k0_pay21 (F := Ideal) q k c (ix2 r s) = if s.val ≤ r.val then tl q k c r s else ⊥ := by
  pointwise [k0_pay21, k0_pay5, tl]
  rw [WordCmp.cmpi_sge_ofNat (by omega) (by omega)]
  rcases Nat.lt_or_ge r.val s.val with hh | hh
  · simp [hh, Nat.not_le.mpr hh, Scalar.select, Cert.Softmax.ofBits_neg_inf]
  · simp only [hh, Scalar.select, decide_true, BitVec.ofBool_true, if_true]
    rfl

theorem pay22 : k0_pay22 (F := Ideal) q m k c (ix2 r 0) = max (m (ix2 r 0)) ((Finset.univ : Finset (Fin 1024)).fold max ⊥ (fun s => k0_pay21 (F := Ideal) q k c (ix2 r s))) := by
  rw [← row_max]
  generalize hf : k0_pay21 (F := Ideal) q k c = f
  unfold k0_pay22
  rw [hf]
  pointwise []

theorem pay23 : k0_pay23 (F := Ideal) q m k c (ix2 r 0) = Ideal.exp2 (m (ix2 r 0) - k0_pay22 (F := Ideal) q m k c (ix2 r 0)) := by
  unfold k0_pay23
  generalize k0_pay22 (F := Ideal) q m k c = f
  pointwise []
  rfl

theorem pay24 : k0_pay24 (F := Ideal) q m k c (ix2 r s) = k0_pay21 (F := Ideal) q k c (ix2 r s) - k0_pay22 (F := Ideal) q m k c (ix2 r 0) := by
  unfold k0_pay24
  generalize k0_pay22 (F := Ideal) q m k c = f
  generalize k0_pay21 (F := Ideal) q k c = g
  pointwise []

variable (al : FVec Ideal S1024x1 .f32) (p : FVec Ideal S1024x1024 .f32)

theorem pay2 : k0_pay2 (F := Ideal) l al p (ix2 r 0) = al (ix2 r 0) * l (ix2 r 0) + ∑ s, Ideal.exp2 (p (ix2 r s)) := by
  pointwise [k0_pay2, k0_pay1]
  rfl

theorem pay3 : k0_pay3 (F := Ideal) l a al p v (ix2 r d)
    = Ideal.div (al (ix2 r 0) * a (ix2 r d) + ∑ s, Ideal.exp2 (p (ix2 r s)) * v (ix2 s d)) (k0_pay2 (F := Ideal) l al p (ix2 r 0)) := by
  unfold k0_pay3
  generalize k0_pay2 (F := Ideal) l al p = f
  pointwise [k0_pay1]
  rfl

/-- The kernel turns a column of statistics into a row by a sum over the diagonal. -/
theorem column (f : Fin 1024 → EReal) (r : Fin 1024) :
    ∑ x : Fin 1024, Scalar.select (IntOp.cmpi CmpIPredicate.eq (BitVec.ofNat 32 x.val) (BitVec.ofNat 32 r.val)) (f x) 0 = f r := by
  rw [← Cert.Rows.diagonal f r]
  refine Finset.sum_congr rfl fun x _ => ?_
  rw [WordCmp.cmpi_eq_ofNat (by omega) (by omega), WordCmp.cmpi_eq_ofNat (by omega) (by omega)]
  simp only [eq_comm]

theorem pay4 : k0_pay4 (F := Ideal) l m al p c (ix4 0 0 0 r)
    = m (ix2 r 0) * ((Real.log 2 : ℝ) : EReal) + Ideal.log (k0_pay2 (F := Ideal) l al p (ix2 r 0)) + c (ix4 0 0 0 r) := by
  unfold k0_pay4
  generalize k0_pay2 (F := Ideal) l al p = f
  pointwise []
  refine congrArg (fun z : EReal => z + c (ix4 0 0 0 r)) ((column _ r).trans ?_)
  rfl

end Cert.FoxFwd
end
-- ==== Proof.FoxFwdLoop.lean ====
/- The loop of the forget-gate attention over the key tiles before the diagonal, and the diagonal tile after it: the running maximum,
   sum and weighted sum of each query row. -/
module

public import proofs.«01_k».proof.Proof.FoxFwdPay

@[expose] public section

set_option maxRecDepth 16384

noncomputable section

open Idealize.ShloMosaic Idealize.ShloMosaic.TcCoe Idealize.SL.Sem
open Idealize.ShloMosaic.Pipeline (Dat)
open scoped BigOperators

namespace Cert.FoxFwd
open Cert.Kernel8Ideal Cert.Kernel8Ideal.Gen

/-- A key's place in a head's row of gate sums, four blocks of 1024. -/
abbrev at4 (s : Fin 4096) : S1x4x1x1024.Idx := ix4 0 ⟨s.val / 1024, by omega⟩ 0 ⟨s.val % 1024, by omega⟩

/-- A load of block `b` of the row. -/
theorem readAt_block {sig : RefSig} {κ : Kind} {sp : Space} {Val : EltTy → Type} {e : EltTy} (v : View sig κ sp S1x4x1x1024 e) (f : v.ty.Contents Val) {off : Fin 4 → ℕ} (b : ℕ)
    (inb : ∀ a : Fin 4, off a + (![1, 1, 1, 1024] : Fin 4 → ℕ) a ≤ S1x4x1x1024.size a) (hoff : off = ![0, b, 0, 0]) (s : Fin 1024) (h : b * 1024 + s.val < 4096) :
    v.readAt Val (Rect.unit (s := S1x4x1x1024) off ![1, 1, 1, 1024] inb).toLoadRect f (ix4 0 0 0 s) = v.read Val f (at4 ⟨b * 1024 + s.val, h⟩) := by
  subst hoff
  show v.read Val f _ = _
  have hs := s.isLt
  refine congrArg _ (funext fun a => Fin.ext ?_)
  match a with
  | 0 => rfl
  | 1 => show b + 1 * 0 = (b * 1024 + s.val) / 1024; omega
  | 2 => rfl
  | 3 => show 0 + 1 * s.val = (b * 1024 + s.val) % 1024; omega

theorem off1 : ∀ (i : grid0.Coords) (k : Fin (k0_t1_loop i).trips), k0_off1 i k = ![k.val * 1024, 0] := by decide +kernel
theorem off2 : ∀ (i : grid0.Coords) (k : Fin (k0_t1_loop i).trips), k0_off2 i k = ![0, k.val, 0, 0] := by decide +kernel
theorem off5 : ∀ i : grid0.Coords, k0_off5 i = ![(i 1).val * 1024, 0] := by decide +kernel
theorem off6 : ∀ i : grid0.Coords, k0_off6 i = ![0, (i 1).val, 0, 0] := by decide +kernel
/-- The unmasked loop of query tile `i 1` has one trip for each earlier tile. -/
theorem trips1 : ∀ (i : grid0.Coords), (k0_t1_loop i).trips = (i 1).val := by decide +kernel
/-- The loop after it, over what the unrolling left, has none. -/
theorem trips2 : ∀ (i : grid0.Coords), (k0_t2_loop i).trips = 0 := by decide +kernel

section Rows
variable (q : FVec Ideal S1024x128 .bf16) (k v : FVec Ideal S4096x128 .bf16) (ck : FVec Ideal S1x4x1x1024 .f32)

/-- The base-2 logit of row `r` on key `u`, without the query's gate sum. -/
def lg (r : Fin 1024) (u : Fin 4096) : EReal := (∑ x : Fin 128, q (ix2 r x) * k (ix2 u x)) * scale2 - ck (at4 u) * (((Real.log 2)⁻¹ : ℝ) : EReal)

/-- What a row's state is after its first `n` keys. -/
structure Seen (L : Fin 1024 → Fin 4096 → EReal) (v : FVec Ideal S4096x128 .bf16) (n : ℕ) (st : FVec Ideal S1024x1 .f32 × FVec Ideal S1024x1 .f32 × FVec Ideal S1024x128 .f32) : Prop where
  top : ∀ r : Fin 1024, st.1 (ix2 r 0) = Online.top (L r) n
  den : ∀ r : Fin 1024, st.2.1 (ix2 r 0) = Online.den (L r) n
  acc : ∀ (r : Fin 1024) (d : Fin 128), st.2.2 (ix2 r d) = Online.acc (L r) (fun u => v (ix2 u d)) n

variable {L : Fin 1024 → Fin 4096 → EReal} (hL : ∀ r u, L r u ≠ ⊤) {o : ℕ} (ho : o + 1024 ≤ 4096)
  {st : FVec Ideal S1024x1 .f32 × FVec Ideal S1024x1 .f32 × FVec Ideal S1024x128 .f32} (h : Seen L v o st)
  (kb vb : FVec Ideal S1024x128 .bf16) (cb : FVec Ideal S1x1x1x1024 .f32)
  (hv : ∀ (s : Fin 1024) (d : Fin 128) (hb : o + s.val < 4096), vb (ix2 s d) = v (ix2 ⟨o + s.val, hb⟩ d))

include hL ho h hv in
/-- A step over a tile none of whose keys is masked. -/
theorem seen_step (hs : ∀ (r s : Fin 1024) (hb : o + s.val < 4096), k0_pay9 (F := Ideal) q kb cb (ix2 r s) = L r ⟨o + s.val, hb⟩) :
    Seen L v (o + 1024) (k0_pay10 (F := Ideal) q st.1 kb cb, k0_pay13 (F := Ideal) q st.1 st.2.1 kb cb, k0_pay14 (F := Ideal) q st.1 st.2.2 kb cb vb) := by
  have hs := fun r s : Fin 1024 => hs r s (by omega)
  have hv := fun (s : Fin 1024) (d : Fin 128) => hv s d (by omega)
  have hm : ∀ r : Fin 1024, k0_pay10 (F := Ideal) q st.1 kb cb (ix2 r 0) = Online.top (L r) (o + 1024) := fun r => by
    rw [pay10, h.top, ← Online.top_step (L r) o 1024 ho]
    simp only [hs]
  refine ⟨hm, fun r => ?_, fun r d => ?_⟩
  · show k0_pay13 (F := Ideal) q st.1 st.2.1 kb cb (ix2 r 0) = _
    rw [pay13, pay11, h.den, h.top, hm, ← Online.den_step (L r) (hL r) o 1024 ho]
    simp only [pay12, hs, hm]
  · show k0_pay14 (F := Ideal) q st.1 st.2.2 kb cb vb (ix2 r d) = _
    rw [pay14, pay11, h.acc, h.top, hm, ← Online.acc_step (L r) _ (hL r) o 1024 ho]
    simp only [pay12, hs, hm, hv]

include hL ho h hv in
/-- The diagonal tile: the maximum, the sum and the output it leaves. -/
theorem diag_step (hs : ∀ (r s : Fin 1024) (hb : o + s.val < 4096), k0_pay21 (F := Ideal) q kb cb (ix2 r s) = L r ⟨o + s.val, hb⟩) :
    (∀ r : Fin 1024, k0_pay22 (F := Ideal) q st.1 kb cb (ix2 r 0) = Online.top (L r) (o + 1024))
    ∧ (∀ r : Fin 1024, k0_pay2 (F := Ideal) st.2.1 (k0_pay23 (F := Ideal) q st.1 kb cb) (k0_pay24 (F := Ideal) q st.1 kb cb) (ix2 r 0) = Online.den (L r) (o + 1024))
    ∧ ∀ (r : Fin 1024) (d : Fin 128), k0_pay3 (F := Ideal) st.2.1 st.2.2 (k0_pay23 (F := Ideal) q st.1 kb cb) (k0_pay24 (F := Ideal) q st.1 kb cb) vb (ix2 r d)
      = Ideal.div (Online.acc (L r) (fun u => v (ix2 u d)) (o + 1024)) (Online.den (L r) (o + 1024)) := by
  have hs := fun r s : Fin 1024 => hs r s (by omega)
  have hv := fun (s : Fin 1024) (d : Fin 128) => hv s d (by omega)
  have hm : ∀ r : Fin 1024, k0_pay22 (F := Ideal) q st.1 kb cb (ix2 r 0) = Online.top (L r) (o + 1024) := fun r => by
    rw [pay22, h.top, ← Online.top_step (L r) o 1024 ho]
    simp only [hs]
  have hl : ∀ r : Fin 1024, k0_pay2 (F := Ideal) st.2.1 (k0_pay23 (F := Ideal) q st.1 kb cb) (k0_pay24 (F := Ideal) q st.1 kb cb) (ix2 r 0) = Online.den (L r) (o + 1024) := fun r => by
    rw [pay2, pay23, h.den, h.top, hm, ← Online.den_step (L r) (hL r) o 1024 ho]
    simp only [pay24, hs, hm]
  refine ⟨hm, hl, fun r d => ?_⟩
  rw [pay3, hl, pay23, h.acc, h.top, hm, ← Online.acc_step (L r) _ (hL r) o 1024 ho]
  simp only [pay24, hs, hm, hv]

end Rows

section Loop
variable (𝒱 : Variants) (c : Dev nD) (bd : Option 𝒱.V) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1x4x1x1024 .f32) (harg5 : arg5.IsWhole)
  (arg6 : Memref sig .tc .vmem S1024x128 .bf16) (harg6 : arg6.IsWhole)
  (arg7 : Memref sig .tc .vmem S1x1x1x1024 .f32) (harg7 : arg7.IsWhole)
  (v0 : FVec Ideal S1024x128 .bf16)
  (X3 : BufTy.Contents (Elt Ideal) arg3.view.ty) (X4 : BufTy.Contents (Elt Ideal) arg4.view.ty) (X5 : BufTy.Contents (Elt Ideal) arg5.view.ty)

/-- The loop over the earlier key tiles. -/
theorem after_loop {L : Fin 1024 → Fin 4096 → EReal} (hL : ∀ r u, L r u ≠ ⊤)
    (hlg : ∀ (r : Fin 1024) (u : Fin 4096), u.val < (i 1).val * 1024 → L r u = lg v0 (arg3.view.read (Elt Ideal) X3) (arg5.view.read (Elt Ideal) X5) r u)
    (n : ℕ) (hn : n ≤ (k0_t1_loop i).trips) :
    Seen L (arg4.view.read (Elt Ideal) X4) (n * 1024)
      (st_k0_t1 (F := Ideal) 𝒱 c bd i arg2 harg2 arg3 harg3 arg4 harg4 arg5 harg5 arg6 harg6 arg7 harg7 v0 X3 X4 X5 (k0_pay6 (F := Ideal), k0_pay7 (F := Ideal), k0_pay8 (F := Ideal)) n) := by
  induction n with
  | zero =>
    rw [Nat.zero_mul]
    refine ⟨fun r => ?_, fun r => ?_, fun r d => ?_⟩
    · rw [Online.top_zero]; exact Cert.Softmax.ofBits_neg_inf
    · rw [Online.den_zero]; exact Cert.RealOps.ofBits_zero
    · rw [Online.acc_zero]; exact Cert.RealOps.ofBits_zero
  | succ n ih =>
    have hk := ih (Nat.le_of_succ_le hn)
    have hsucc := st_k0_t1_succ (F := Ideal) 𝒱 c bd i arg2 harg2 arg3 harg3 arg4 harg4 arg5 harg5 arg6 harg6 arg7 harg7 v0 X3 X4 X5 (k0_pay6 (F := Ideal), k0_pay7 (F := Ideal), k0_pay8 (F := Ideal)) ⟨n, hn⟩
    generalize hst : st_k0_t1 (F := Ideal) 𝒱 c bd i arg2 harg2 arg3 harg3 arg4 harg4 arg5 harg5 arg6 harg6 arg7 harg7 v0 X3 X4 X5 (k0_pay6 (F := Ideal), k0_pay7 (F := Ideal), k0_pay8 (F := Ideal)) n = st at hk hsucc
    have ho1 := off1 i ⟨n, hn⟩
    have ho2 := off2 i ⟨n, hn⟩
    have hi : n + 1 ≤ (i 1).val := hn.trans (trips1 i).le
    have hn4 : n + 1 ≤ 4 := le_of_le_of_eq (hi.trans (i 1).isLt.le) rfl
    have r3 : ∀ (s : Fin 1024) (d : Fin 128), arg3.view.readAt (Elt Ideal) (Rect.unit (s := S4096x128) (k0_off1 i ⟨n, hn⟩) ![1024, 128] (k0_off1_inb i ⟨n, hn⟩)).toLoadRect X3 (ix2 s d)
        = arg3.view.read (Elt Ideal) X3 (ix2 ⟨n * 1024 + s.val, by omega⟩ d) := fun s d => Cert.Rows.readAt_rows _ _ (n * 1024) _ ho1 s d _
    have r4 : ∀ (s : Fin 1024) (d : Fin 128), arg4.view.readAt (Elt Ideal) (Rect.unit (s := S4096x128) (k0_off1 i ⟨n, hn⟩) ![1024, 128] (k0_off1_inb i ⟨n, hn⟩)).toLoadRect X4 (ix2 s d)
        = arg4.view.read (Elt Ideal) X4 (ix2 ⟨n * 1024 + s.val, by omega⟩ d) := fun s d => Cert.Rows.readAt_rows _ _ (n * 1024) _ ho1 s d _
    have r5 : ∀ (s : Fin 1024), arg5.view.readAt (Elt Ideal) (Rect.unit (s := S1x4x1x1024) (k0_off2 i ⟨n, hn⟩) ![1, 1, 1, 1024] (k0_off2_inb i ⟨n, hn⟩)).toLoadRect X5 (ix4 0 0 0 s)
        = arg5.view.read (Elt Ideal) X5 (at4 ⟨n * 1024 + s.val, by omega⟩) := fun s => readAt_block _ _ n _ ho2 s (by omega)
    refine cast (congrArg _ hsucc.symm) ?_
    unfold tripR_k0_t1 trip_k0_t1
    dsimp only
    rw [Nat.succ_mul]
    refine seen_step v0 _ hL (by omega) hk _ _ _ (fun s d _ => r4 s d) fun r s _ => ?_
    rw [pay9, hlg r _ (by dsimp only; omega), tl, lg, r5]
    simp only [r3]

end Loop

end Cert.FoxFwd
end
-- ==== Proof.FoxFwdPoint.lean ====
/- The output tile and the saved logarithms of a grid point of the forget-gate attention. -/
module

public import proofs.«01_k».proof.Proof.Gen.Kernel8Ideal.Frame
public import proofs.«01_k».proof.Proof.FoxFwdLoop

@[expose] public section

set_option maxRecDepth 16384

noncomputable section

open Idealize.ShloMosaic Idealize.ShloMosaic.TcCoe Idealize.SL.Sem
open Idealize.ShloMosaic.Pipeline (Dat)
open scoped BigOperators

namespace Cert.FoxFwd
open Cert.Kernel8Ideal Cert.Kernel8Ideal.Gen

variable (m : (ℓ : Loc nD τ sig) → Buf (Elt Ideal) ℓ) (c : Dev nD) (t : Fin cfg0.N)

/-- The query tile of a grid point. -/
abbrev tile : ℕ := (grid0.coords t 1).val

theorem tile_lt : tile t + 1 ≤ 4 := (grid0.coords t 1).isLt

section Second
variable (𝒱 : Variants) (c : Dev nD) (bd : Option 𝒱.V) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1x4x1x1024 .f32) (harg5 : arg5.IsWhole)
  (arg6 : Memref sig .tc .vmem S1024x128 .bf16) (harg6 : arg6.IsWhole)
  (arg7 : Memref sig .tc .vmem S1x1x1x1024 .f32) (harg7 : arg7.IsWhole)
  (v0 : FVec Ideal S1024x128 .bf16)
  (X3 : BufTy.Contents (Elt Ideal) arg3.view.ty) (X4 : BufTy.Contents (Elt Ideal) arg4.view.ty) (X5 : BufTy.Contents (Elt Ideal) arg5.view.ty)
  (init : FVec Ideal S1024x1 .f32 × FVec Ideal S1024x1 .f32 × FVec Ideal S1024x128 .f32)

/-- The second loop does nothing. -/
theorem after_second (n : ℕ) (hn : n = 0) : st_k0_t2 (F := Ideal) 𝒱 c bd i arg2 harg2 arg3 harg3 arg4 harg4 arg5 harg5 arg6 harg6 arg7 harg7 v0 X3 X4 X5 init n = init := by
  subst hn
  rfl

end Second

omit m c t in
/-- A load of block `b` of a held row. -/
theorem ld_block {e : EltTy} (X : S1x4x1x1024.Idx → Elt Ideal e) {off : Fin 4 → ℕ} (b : ℕ)
    (inb : ∀ a : Fin 4, off a + (![1, 1, 1, 1024] : Fin 4 → ℕ) a ≤ S1x4x1x1024.size a) (hoff : off = ![0, b, 0, 0]) (s : Fin 1024) (h : b * 1024 + s.val < 4096) :
    View.ld X (Rect.unit (s := S1x4x1x1024) off ![1, 1, 1, 1024] inb) (ix4 0 0 0 s) = X (at4 ⟨b * 1024 + s.val, h⟩) := by
  subst hoff
  have hs := s.isLt
  refine congrArg X (funext fun a => Fin.ext ?_)
  match a with
  | 0 => rfl
  | 1 => show b + 1 * 0 = (b * 1024 + s.val) / 1024; omega
  | 2 => rfl
  | 3 => show 0 + 1 * s.val = (b * 1024 + s.val) % 1024; omega

variable {L : Fin 1024 → Fin 4096 → EReal} (hL : ∀ r u, L r u ≠ ⊤)
  (hlg : ∀ (r : Fin 1024) (u : Fin 4096), u.val < tile t * 1024 → L r u = lg (iblk m c 0 t) (iblk m c 1 t) (iblk m c 3 t) r u)
  (hdg : ∀ (r s : Fin 1024) (hb : tile t * 1024 + s.val < 4096), L r ⟨tile t * 1024 + s.val, hb⟩
    = if s.val ≤ r.val then lg (iblk m c 0 t) (iblk m c 1 t) (iblk m c 3 t) r ⟨tile t * 1024 + s.val, hb⟩ else ⊥)
include hL hlg hdg

omit hdg in
/-- The state of the rows when the diagonal tile begins. -/
theorem seen : Seen L (iblk m c 2 t) (tile t * 1024) (st_k0_t1 (F := Ideal) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (iblk m c 0 t) ((hs0_1 t).unread (iblk m c 1 t)) ((hs0_2 t).unread (iblk m c 2 t)) ((hs0_3 t).unread (iblk m c 3 t))
    (k0_pay6 (F := Ideal), k0_pay7 (F := Ideal), k0_pay8 (F := Ideal)) (k0_t1_loop (grid0.coords t)).trips) := by
  have h := after_loop Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (iblk m c 0 t) ((hs0_1 t).unread (iblk m c 1 t)) ((hs0_2 t).unread (iblk m c 2 t)) ((hs0_3 t).unread (iblk m c 3 t))
    hL (fun r u hu => by rw [Memref.IsWhole.read_unread, Memref.IsWhole.read_unread]; exact hlg r u hu) (k0_t1_loop (grid0.coords t)).trips le_rfl
  rw [Memref.IsWhole.read_unread] at h
  exact cast (congrArg (fun n => Seen L (iblk m c 2 t) (n * 1024) _) (trips1 (grid0.coords t))) h

omit hL hlg in
/-- The diagonal tile's logits are the rows' next. -/
theorem diag_logits (r s : Fin 1024) (hb : tile t * 1024 + s.val < 4096) : k0_pay21 (F := Ideal) (iblk m c 0 t) (View.ld (iblk m c 1 t) (Rect.unit (s := S4096x128) (k0_off5 (grid0.coords t)) ![1024, 128] (k0_off5_inb (grid0.coords t))))
      (View.ld (iblk m c 3 t) (Rect.unit (s := S1x4x1x1024) (k0_off6 (grid0.coords t)) ![1, 1, 1, 1024] (k0_off6_inb (grid0.coords t)))) (ix2 r s)
    = L r ⟨tile t * 1024 + s.val, hb⟩ := by
  rw [pay21, hdg, tl, lg, ld_block _ (tile t) _ (off6 (grid0.coords t)) s hb]
  refine congrArg (fun z : EReal => if s.val ≤ r.val then z * scale2 - _ else ⊥) (Finset.sum_congr rfl fun x _ => ?_)
  rw [Cert.Rows.ld_rows _ (tile t * 1024) _ (off5 (grid0.coords t)) s x hb]

theorem o_point (r : Fin 1024) (d : Fin 128) : (outsAt0 m c t).1 (ix2 r d)
    = Ideal.div (Online.acc (L r) (fun u => iblk m c 2 t (ix2 u d)) (tile t * 1024 + 1024)) (Online.den (L r) (tile t * 1024 + 1024)) := by
  unfold outsAt0
  dsimp only
  frame_out
  rw [after_second (hn := trips2 (grid0.coords t))]
  dsimp only
  have h := diag_step _ _ hL (by have := tile_lt t; omega) (seen m c t hL hlg) _
    (View.ld (iblk m c 2 t) (Rect.unit (s := S4096x128) (k0_off5 (grid0.coords t)) ![1024, 128] (k0_off5_inb (grid0.coords t)))) _ (fun s d hb => Cert.Rows.ld_rows _ (tile t * 1024) _ (off5 (grid0.coords t)) s d hb) (diag_logits m c t hdg)
  exact h.2.2 r d

theorem lse_point (r : Fin 1024) (hb : tile t * 1024 + r.val < 4096) : (outsAt0 m c t).2 (ix4 0 0 0 r)
    = Online.top (L r) (tile t * 1024 + 1024) * ((Real.log 2 : ℝ) : EReal) + Ideal.log (Online.den (L r) (tile t * 1024 + 1024))
      + (show EReal from iblk m c 3 t (at4 ⟨tile t * 1024 + r.val, hb⟩)) := by
  unfold outsAt0
  dsimp only
  frame_out
  rw [after_second (hn := trips2 (grid0.coords t))]
  dsimp only
  have h := diag_step _ _ hL (by have := tile_lt t; omega) (seen m c t hL hlg) _
    (View.ld (iblk m c 2 t) (Rect.unit (s := S4096x128) (k0_off5 (grid0.coords t)) ![1024, 128] (k0_off5_inb (grid0.coords t)))) _ (fun s d hb => Cert.Rows.ld_rows _ (tile t * 1024) _ (off5 (grid0.coords t)) s d hb) (diag_logits m c t hdg)
  refine (pay4 _ _ _ r _ _).trans ?_
  refine congrArg₂ (fun a b : EReal => a + b) (congrArg₂ (fun a b : EReal => a * ((Real.log 2 : ℝ) : EReal) + Ideal.log b) (h.1 r) (h.2.1 r)) ?_
  exact ld_block _ (tile t) _ (off6 (grid0.coords t)) r hb

end Cert.FoxFwd
end
-- ==== Proof.FoxFwdReference.lean ====
/- The attention of the forget-gate layer as the reference writes it, at one head and query. -/
module

public import proofs.«01_k».proof.Proof.Gen.Reference8Ideal.Read
public import Idealize.ShloMosaic.Lib.Pipeline.ValueKit
public import Idealize.ShloMosaic.Lib.WordCmp
public import Idealize.ShloMosaic.Lib.KernelVsHost
public import proofs.«01_k».proof.Proof.Online

@[expose] public section

set_option maxRecDepth 16384

noncomputable section

open Idealize.ShloMosaic Idealize.ShloMosaic.TcCoe Idealize.SL.Sem
open Idealize.ShloMosaic.Pipeline (Dat)
open scoped BigOperators

namespace Cert.FoxFwd
open Cert.Reference8Ideal Cert.Reference8Ideal.Gen Cert.Reference8Ideal.Read Cert.RealOps Cert.Softmax

/-- Element `x` of head `h` in a row of 1024. -/
abbrev col (h : Fin 8) (x : Fin 128) : Fin 1024 := ⟨h.val * 128 + x.val, by omega⟩

/-- The scale of the logits. -/
abbrev scale : ℝ := 11863283 / 134217728

theorem ofBits_scale : Ideal.ofBits .f32 0x3DB504F3#32 = ((scale : ℝ) : EReal) := by
  simp [Ideal.ofBits, Ideal.ieee, scale, -EReal.coe_mul, ← EReal.coe_mul]; norm_num

variable (q k v : FVec Ideal S1x4096x1024 .f32) (c : FVec Ideal S1x8x4096 .f32)

/-- The gated logit of head `h`, query `s` and key `u`. -/
def lgt (h : Fin 8) (s u : Fin 4096) : EReal :=
  (∑ x : Fin 128, q (ix3 0 s (col h x)) * k (ix3 0 u (col h x))) * Ideal.ofBits .f32 0x3DB504F3#32 + c (ix3 0 h s) - c (ix3 0 h u)

theorem ref_logit (h : Fin 8) (s u : Fin 4096) : val_main_v23 (F := Ideal) q k c (ix3 h s u) = if u.val ≤ s.val then lgt q k c h s u else ⊥ := by
  pointwise [val_main_v23, val_main_call0_v0, val_main_call0_v1, val_main_call0_v2, val_main_cst_0, val_main_v22, val_main_v21, val_main_v20, val_main_v19, val_main_v18, val_main_v17, val_main_v16, val_main_v15, val_main_v14, val_main_v13, val_main_v12, val_main_v11, val_main_v10, val_main_v9, val_main_v8, val_main_cst, val_main_v7, val_main_v6, val_main_v3, val_main_v2, val_main_v1, val_main_v0, lgt]
  rw [WordCmp.cmpi_sle_ofNat (by omega) (by omega)]
  rcases Nat.lt_or_ge s.val u.val with hh | hh
  · simp [hh, Nat.not_le.mpr hh, Scalar.select, constant, Cert.Softmax.ofBits_neg_inf]
  · simp [hh, Scalar.select]

/-- The maximum over the keys as a fold. -/
theorem max_apply (f : FVec Ideal S8x4096x4096 .f32) (h : Fin 8) (s : Fin 4096) :
    Host.reduce FloatOps.maximumf f (constant S_ .f32 0xFF800000#32) reducesTo_S8x4096x4096_S8x4096_d2 h_S_ (ix2 h s)
      = (Finset.univ : Finset (Fin 4096)).fold max ⊥ (fun u => f (ix3 h s u)) := by
  have hr : S8x4096x4096.Reduces [(2 : Fin 3)] S8x4096 := by decide
  have e := hostReduce_maximumf_eq_multiReduction (F := Ideal) (φ := .f32) f 0xFF800000#32 reducesTo_S8x4096x4096_S8x4096_d2 h_S_ hr (Or.inl rfl) rfl
  refine (congrFun e (ix2 h s)).trans ((Ideal.multiReduction_maximumf_single f 0xFF800000#32 hr (Or.inl rfl) rfl (ix2 h s)).trans ?_)
  show Finset.fold max (Ideal.ofBits .f32 0xFF800000#32) _ _ = _
  rw [Cert.Softmax.ofBits_neg_inf]
  congr 1
  funext u
  exact congrArg f (by funext a; match a with | 0 => rfl | 1 => rfl | 2 => rfl)

theorem ref_max (h : Fin 8) (s : Fin 4096) : val_main_v24 (F := Ideal) q k c (ix2 h s) = (Finset.univ : Finset (Fin 4096)).fold max ⊥ (fun u => val_main_v23 (F := Ideal) q k c (ix3 h s u)) :=
  max_apply (val_main_v23 (F := Ideal) q k c) h s

theorem ref_max' (h : Fin 8) (s : Fin 4096) : val_main_v32 (F := Ideal) q k c (ix2 h s) = (Finset.univ : Finset (Fin 4096)).fold max ⊥ (fun u => val_main_v23 (F := Ideal) q k c (ix3 h s u)) :=
  max_apply (val_main_v23 (F := Ideal) q k c) h s

theorem ref_below (h : Fin 8) (s u : Fin 4096) : val_main_v28 (F := Ideal) q k c (ix3 h s u) = Ideal.exp (val_main_v23 (F := Ideal) q k c (ix3 h s u) - val_main_v24 (F := Ideal) q k c (ix2 h s)) := by
  rw [val_main_v28_apply, val_main_v27_apply, val_main_v26_apply, val_main_v25_apply]
  generalize val_main_v24 (F := Ideal) q k c = w
  generalize val_main_v23 (F := Ideal) q k c = z
  exact congrArg (fun i => Ideal.exp (z (ix3 h s u) - w i)) (funext fun a => match a with | 0 => rfl | 1 => rfl)

theorem ref_total (h : Fin 8) (s : Fin 4096) : val_main_v29 (F := Ideal) q k c (ix2 h s) = ∑ u, val_main_v28 (F := Ideal) q k c (ix3 h s u) := by
  pointwise [val_main_v29, val_main_cst_2]

theorem ref_lse (h : Fin 8) (s : Fin 4096) : val_main_v31 (F := Ideal) q k c (ix2 h s)
    = val_main_v24 (F := Ideal) q k c (ix2 h s) + Ideal.log (∑ u, Ideal.exp (val_main_v23 (F := Ideal) q k c (ix3 h s u) - val_main_v24 (F := Ideal) q k c (ix2 h s))) := by
  rw [val_main_v31_apply, val_main_v30_apply, ref_total]
  simp only [ref_below]
  generalize val_main_v24 (F := Ideal) q k c (ix2 h s) = w
  rfl

theorem ref_top (h : Fin 8) (s : Fin 4096) : val_main_v34 (F := Ideal) q k c (ix2 h s) = max (Ideal.ofBits .f32 0xFF800000#32) (val_main_v32 (F := Ideal) q k c (ix2 h s)) := by
  rw [val_main_v34_apply]
  generalize val_main_v32 (F := Ideal) q k c = w
  pointwise [val_main_v33, val_main_cst_4]

theorem ref_exp (h : Fin 8) (s u : Fin 4096) : val_main_v38 (F := Ideal) q k c (ix3 h s u) = Ideal.exp (val_main_v23 (F := Ideal) q k c (ix3 h s u) - val_main_v34 (F := Ideal) q k c (ix2 h s)) := by
  pointwise [val_main_v38, val_main_v37, val_main_v36, val_main_v35]

theorem ref_sum (h : Fin 8) (s : Fin 4096) : val_main_v39 (F := Ideal) q k c (ix2 h s) = ∑ u, val_main_v38 (F := Ideal) q k c (ix3 h s u) := by
  pointwise [val_main_v39, val_main_cst_5]

theorem ref_soft (h : Fin 8) (s u : Fin 4096) : val_main_v42 (F := Ideal) q k c (ix3 h s u) = Ideal.div (val_main_v38 (F := Ideal) q k c (ix3 h s u)) (val_main_v39 (F := Ideal) q k c (ix2 h s)) := by
  pointwise [val_main_v42, val_main_v41, val_main_v40]

theorem ref_o (h : Fin 8) (s : Fin 4096) (x : Fin 128) : val_main_v46 (F := Ideal) q k v c (ix2 s (col h x)) = ∑ u, v (ix3 0 u (col h x)) * val_main_v42 (F := Ideal) q k c (ix3 h s u) := by
  pointwise [val_main_v46, val_main_v45, val_main_v44, val_main_v43, val_main_v5, val_main_v4]
  refine Finset.sum_congr rfl fun u _ => congrArg₂ (fun a b : EReal => a * b) (congrArg (fun z => v (ix3 0 u z)) (Fin.ext ?_)) (congrArg (fun z => val_main_v42 (F := Ideal) q k c (ix3 z s u)) (Fin.ext ?_))
  · show (h.val * 128 + x.val) / 128 * 128 + (h.val * 128 + x.val) % 128 = h.val * 128 + x.val
    omega
  · show (h.val * 128 + x.val) / 128 = h.val
    omega

/-- A query sees the keys up to itself. -/
abbrev sees (s u : Fin 4096) : Prop := u.val ≤ s.val

/-- A constant added to a row's logits moves its maximum. -/
theorem shift_max (on : Fin 4096 → Prop) [DecidablePred on] (l : Fin 4096 → ℝ) (a : ℝ) {μ : ℝ} (hμ : (Finset.univ : Finset (Fin 4096)).fold max ⊥ (row on l) = (μ : EReal)) :
    (Finset.univ : Finset (Fin 4096)).fold max ⊥ (row on fun u => l u + a) = ((μ + a : ℝ) : EReal) := by
  have hmono : Monotone (fun x : EReal => x + (a : EReal)) := fun _ _ h => add_le_add_left h _
  have e := Finset.fold_hom (op := max) (op' := max) (b := (⊥ : EReal)) (f := row on l) (s := (Finset.univ : Finset (Fin 4096))) (m := fun x : EReal => x + (a : EReal)) (fun x y => hmono.map_max)
  rw [hμ] at e
  rw [EReal.bot_add] at e
  rw [EReal.coe_add, ← e]
  congr 1
  funext u
  unfold row
  split
  · exact EReal.coe_add _ _
  · exact (EReal.bot_add _).symm

theorem shift_ex (on : Fin 4096 → Prop) [DecidablePred on] (l : Fin 4096 → ℝ) (a μ : ℝ) (u : Fin 4096) : ex on (fun u => l u + a) (μ + a) u = ex on l μ u := by
  unfold ex
  rw [add_sub_add_right_eq_sub]

theorem shift_den (on : Fin 4096 → Prop) [DecidablePred on] (l : Fin 4096 → ℝ) (a μ : ℝ) : den on (fun u => l u + a) (μ + a) = den on l μ :=
  Finset.sum_congr rfl fun u _ => shift_ex on l a μ u

/-- A row of the reference over the reals, its logits taken without the query's gate sum. -/
theorem ref_row (hq : IsReal q) (hk : IsReal k) (hc : IsReal c) (h : Fin 8) (s : Fin 4096) :
    ∃ (l : Fin 4096 → ℝ) (μ : ℝ), (∀ u, (∑ x : Fin 128, q (ix3 0 s (col h x)) * k (ix3 0 u (col h x))) * ((scale * (Real.log 2)⁻¹ : ℝ) : EReal) - c (ix3 0 h u) * (((Real.log 2)⁻¹ : ℝ) : EReal)
        = ((Online.lb : ℝ) : EReal) * ((l u : ℝ) : EReal))
      ∧ (Finset.univ : Finset (Fin 4096)).fold max ⊥ (row (sees s) l) = (μ : EReal)
      ∧ val_main_v31 (F := Ideal) q k c (ix2 h s) = (μ : EReal) + Ideal.log ((den (sees s) l μ : ℝ) : EReal) + c (ix3 0 h s)
      ∧ ∀ x, val_main_v46 (F := Ideal) q k v c (ix2 s (col h x)) = ∑ u, Ideal.div ((ex (sees s) l μ u : ℝ) : EReal) ((den (sees s) l μ : ℝ) : EReal) * v (ix3 0 u (col h x)) := by
  obtain ⟨l, a, hl, hg, ha⟩ : ∃ (l : Fin 4096 → ℝ) (a : ℝ), (∀ u, (∑ x : Fin 128, q (ix3 0 s (col h x)) * k (ix3 0 u (col h x))) * ((scale * (Real.log 2)⁻¹ : ℝ) : EReal) - c (ix3 0 h u) * (((Real.log 2)⁻¹ : ℝ) : EReal)
        = ((Online.lb : ℝ) : EReal) * ((l u : ℝ) : EReal)) ∧ (∀ u, lgt q k c h s u = ((l u + a : ℝ) : EReal)) ∧ c (ix3 0 h s) = (a : EReal) := by
    obtain ⟨q, rfl⟩ := hq; obtain ⟨k, rfl⟩ := hk; obtain ⟨c, rfl⟩ := hc
    refine ⟨fun u => (∑ x, q (ix3 0 s (col h x)) * k (ix3 0 u (col h x))) * scale - c (ix3 0 h u), c (ix3 0 h s), fun u => ?_, fun u => ?_, rfl⟩
    · simp only [← EReal.coe_mul, coe_sum, ← EReal.coe_sub]
      rw [EReal.coe_eq_coe_iff, Online.lb]; ring
    · unfold lgt
      rw [ofBits_scale]
      simp only [← EReal.coe_mul, coe_sum, ← EReal.coe_add, ← EReal.coe_sub]
      rw [EReal.coe_eq_coe_iff]; ring
  obtain ⟨μ, hμ⟩ := max_real (sees s) l (j := s) (le_refl _)
  have hL : ∀ u, val_main_v23 (F := Ideal) q k c (ix3 h s u) = row (sees s) (fun u => l u + a) u := fun u => by rw [ref_logit, row, hg]
  have hfold : (Finset.univ : Finset (Fin 4096)).fold max ⊥ (fun u => val_main_v23 (F := Ideal) q k c (ix3 h s u)) = ((μ + a : ℝ) : EReal) := by
    rw [← shift_max (sees s) l a hμ]; exact congrArg (fun f => Finset.fold max ⊥ f Finset.univ) (funext hL)
  have hE : ∀ u, Ideal.exp (val_main_v23 (F := Ideal) q k c (ix3 h s u) - ((μ + a : ℝ) : EReal)) = ((ex (sees s) l μ u : ℝ) : EReal) := fun u => by
    rw [hL, exp_row, shift_ex]
  have hD : ∑ u, ((ex (sees s) l μ u : ℝ) : EReal) = ((den (sees s) l μ : ℝ) : EReal) := coe_sum _ _
  refine ⟨l, μ, hl, hμ, ?_, fun x => ?_⟩
  · rw [ref_lse, ref_max, hfold]
    simp only [hE]
    rw [hD, ha, EReal.coe_add, add_right_comm]
  · have h38 : ∀ u, val_main_v38 (F := Ideal) q k c (ix3 h s u) = ((ex (sees s) l μ u : ℝ) : EReal) := fun u => by
      rw [ref_exp, ref_top, ref_max', hfold, ofBits_neg_inf, max_eq_right bot_le, hE]
    rw [ref_o]
    refine Finset.sum_congr rfl fun u _ => ?_
    rw [ref_soft, ref_sum]
    simp only [h38]
    rw [hD, mul_comm]

end Cert.FoxFwd
end
-- ==== Proof.FoxFwdKernel.lean ====
/- What the forward launch of the forget-gate attention leaves: the reference's output and logarithms. -/
module

public import proofs.«01_k».proof.Proof.FoxFwdPoint
public import proofs.«01_k».proof.Proof.FoxFwdReference

@[expose] public section

set_option maxRecDepth 16384

noncomputable section

open Idealize.ShloMosaic Idealize.ShloMosaic.TcCoe Idealize.SL.Sem
open Idealize.ShloMosaic.Pipeline (Dat)
open scoped BigOperators

namespace Cert.FoxFwd
open Cert.Kernel8Ideal Cert.Kernel8Ideal.Gen Cert.Reference8Ideal.Read Cert.RealOps

variable (m : (ℓ : Loc nD τ sig) → Buf (Elt Ideal) ℓ) (c : Dev nD) (t : Fin cfg0.N)

abbrev aq : FVec Ideal S1x4096x1024 .f32 := m ((c : Thread nD τ).loc main_arg0)
abbrev ak : FVec Ideal S1x4096x1024 .f32 := m ((c : Thread nD τ).loc main_arg1)
abbrev av : FVec Ideal S1x4096x1024 .f32 := m ((c : Thread nD τ).loc main_arg2)
abbrev ac : FVec Ideal S1x8x4096 .f32 := m ((c : Thread nD τ).loc main_arg3)

/-- The packed projection the host hands over: queries, keys and values at their columns, zeros elsewhere. -/
def packed (q k v : FVec Ideal S1x4096x1024 .f32) : FVec Ideal S4096x6656 .f32 :=
  concatenate S4096x6656 1 [⟨S4096x2048, broadcastInDim S4096x2048 ![] bcast_S_S4096x2048 (constant S_ .f32 0x00000000#32)⟩,
    ⟨S4096x1024, shapeCast S4096x1024 q shapeCasts_S1x4096x1024_S4096x1024⟩, ⟨S4096x1024, shapeCast S4096x1024 k shapeCasts_S1x4096x1024_S4096x1024⟩,
    ⟨S4096x1280, broadcastInDim S4096x1280 ![] bcast_S_S4096x1280 (constant S_ .f32 0x00000000#32)⟩,
    ⟨S4096x1024, shapeCast S4096x1024 v shapeCasts_S1x4096x1024_S4096x1024⟩,
    ⟨S4096x256, broadcastInDim S4096x256 ![] bcast_S_S4096x256 (constant S_ .f32 0x00000000#32)⟩] concatenates_S4096x2048_S4096x1024_S4096x1024_S4096x1280_S4096x1024_S4096x256_S4096x6656_d1

theorem V_packed : V m c main_v7 = truncf .bf16 (packed (aq m c) (ak m c) (av m c)) bitsLt_bf16_f32 := by exact rfl
theorem V_c : V m c main_v9 = shapeCast S8x4x1x1024 (shapeCast S8x4096 (ac m c) shapeCasts_S1x8x4096_S8x4096) shapeCasts_S8x4096_S8x4x1x1024 := by exact rfl

theorem packed_q (q k v : FVec Ideal S1x4096x1024 .f32) (s : Fin 4096) (j : Fin 1024) : packed q k v (ix2 s ⟨2048 + j.val, by omega⟩) = q (ix3 0 s j) := by
  pointwise [packed]

theorem packed_k (q k v : FVec Ideal S1x4096x1024 .f32) (s : Fin 4096) (j : Fin 1024) : packed q k v (ix2 s ⟨3072 + j.val, by omega⟩) = k (ix3 0 s j) := by
  pointwise [packed]
  have hj := j.isLt
  repeat' split
  all_goals first | omega | exact congrArg (fun z => k (ix3 0 s z)) (Fin.ext (by dsimp only; omega))

theorem packed_v (q k v : FVec Ideal S1x4096x1024 .f32) (s : Fin 4096) (j : Fin 1024) : packed q k v (ix2 s ⟨5376 + j.val, by omega⟩) = v (ix3 0 s j) := by
  pointwise [packed]
  have hj := j.isLt
  repeat' split
  all_goals first | omega | exact congrArg (fun z => v (ix3 0 s z)) (Fin.ext (by dsimp only; omega))

theorem idx_val : ∀ t : Fin cfg0.N, win0_0.index t = ![t.val % 4, 16 + t.val / 4] ∧ win0_1.index t = ![0, 24 + t.val / 4] ∧ win0_2.index t = ![0, 42 + t.val / 4]
    ∧ win0_3.index t = ![t.val / 4, 0, 0, 0] ∧ win0_4.index t = ![t.val % 4, t.val / 4] ∧ win0_5.index t = ![t.val / 4, t.val % 4, 0, 0]
    ∧ (grid0.coords t 1).val = t.val % 4 ∧ t.val < 32 :=
  (by decide +kernel : ∀ t : Fin grid0.N, _)

theorem tile_val : tile t = t.val % 4 := (idx_val t).2.2.2.2.2.2.1

/-- The head a grid point works at. -/
abbrev hd : Fin 8 := ⟨t.val / 4, by have := (idx_val t).2.2.2.2.2.2.2; omega⟩
/-- The query a row of a grid point's tile is. -/
abbrev qrow (r : Fin 1024) : Fin 4096 := ⟨(t.val % 4) * 1024 + r.val, by omega⟩

theorem blk_q (r : Fin 1024) (d : Fin 128) : iblk m c 0 t (ix2 r d) = aq m c (ix3 0 (qrow t r) (col (hd t) d)) := by
  refine Eq.trans (b := V m c main_v7 (ix2 (qrow t r) ⟨2048 + (col (hd t) d).val, by have := (col (hd t) d).isLt; omega⟩)) ?_ ?_
  · unfold iblk
    show V m c main_v7 _ = _
    generalize V m c main_v7 = w
    blk_ext [idx_val t]
  · rw [V_packed]; exact packed_q _ _ _ _ _

theorem blk_k (s : Fin 4096) (d : Fin 128) : iblk m c 1 t (ix2 s d) = ak m c (ix3 0 s (col (hd t) d)) := by
  refine Eq.trans (b := V m c main_v7 (ix2 s ⟨3072 + (col (hd t) d).val, by have := (col (hd t) d).isLt; omega⟩)) ?_ ?_
  · unfold iblk
    show V m c main_v7 _ = _
    generalize V m c main_v7 = w
    blk_ext [idx_val t]
  · rw [V_packed]; exact packed_k _ _ _ _ _

theorem blk_v (s : Fin 4096) (d : Fin 128) : iblk m c 2 t (ix2 s d) = av m c (ix3 0 s (col (hd t) d)) := by
  refine Eq.trans (b := V m c main_v7 (ix2 s ⟨5376 + (col (hd t) d).val, by have := (col (hd t) d).isLt; omega⟩)) ?_ ?_
  · unfold iblk
    show V m c main_v7 _ = _
    generalize V m c main_v7 = w
    blk_ext [idx_val t]
  · rw [V_packed]; exact packed_v _ _ _ _ _

/-- A row of statistics of all heads, cut into tiles. -/
theorem stat_apply (f : FVec Ideal S8x4096 .f32) (h : Fin 8) (b : Fin 4) (r : Fin 1024) :
    shapeCast S8x4x1x1024 f shapeCasts_S8x4096_S8x4x1x1024 (ix4 h b 0 r) = f (ix2 h ⟨b.val * 1024 + r.val, by omega⟩) := by
  pointwise []

theorem blk_c (u : Fin 4096) : iblk m c 3 t (at4 u) = ac m c (ix3 0 (hd t) u) := by
  refine Eq.trans (b := V m c main_v9 (ix4 (hd t) ⟨u.val / 1024, by omega⟩ 0 ⟨u.val % 1024, by omega⟩)) ?_ ?_
  · unfold iblk
    show V m c main_v9 _ = _
    generalize V m c main_v9 = w
    blk_ext [idx_val t]
    · rfl
    · rfl
  · rw [V_c]
    refine (stat_apply _ _ _ _).trans ((Cert.RealOps.shapeCast_drop_lead _ _ _).trans (congrArg (fun z => ac m c (ix3 0 (hd t) z)) (Fin.ext ?_)))
    show u.val / 1024 * 1024 + u.val % 1024 = u.val
    omega

theorem lg_eq (r : Fin 1024) (u : Fin 4096) : lg (iblk m c 0 t) (iblk m c 1 t) (iblk m c 3 t) r u
    = (∑ x : Fin 128, aq m c (ix3 0 (qrow t r) (col (hd t) x)) * ak m c (ix3 0 u (col (hd t) x))) * ((scale * (Real.log 2)⁻¹ : ℝ) : EReal) - ac m c (ix3 0 (hd t) u) * (((Real.log 2)⁻¹ : ℝ) : EReal) := by
  rw [lg, blk_c]
  simp only [blk_q, blk_k]

/-- A grid point's rows of the output and of the logarithms. -/
theorem point (hq : IsReal (aq m c)) (hk : IsReal (ak m c)) (hc : IsReal (ac m c)) :
    (∀ (r : Fin 1024) (d : Fin 128), (outsAt0 m c t).1 (ix2 r d) = val_main_v46 (F := Ideal) (aq m c) (ak m c) (av m c) (ac m c) (ix2 (qrow t r) (col (hd t) d)))
    ∧ ∀ r : Fin 1024, (outsAt0 m c t).2 (ix4 0 0 0 r) = val_main_v31 (F := Ideal) (aq m c) (ak m c) (ac m c) (ix2 (hd t) (qrow t r)) := by
  choose l μ hl hμ hlse ho using fun r : Fin 1024 => ref_row (aq m c) (ak m c) (av m c) (ac m c) hq hk hc (hd t) (qrow t r)
  have ht := tile_val t
  have hon : ∀ (r : Fin 1024) (u : Fin 4096), u.val ≤ (qrow t r).val → Online.row2 (sees (qrow t r)) (l r) u = lg (iblk m c 0 t) (iblk m c 1 t) (iblk m c 3 t) r u := fun r u h => by
    rw [lg_eq, hl, Online.row2, Softmax.row, if_pos h]
  have hL : ∀ r u, Online.row2 (sees (qrow t r)) (l r) u ≠ ⊤ := fun r u => Online.row2_ne_top _ _ _
  have hlg : ∀ (r : Fin 1024) (u : Fin 4096), u.val < tile t * 1024 → Online.row2 (sees (qrow t r)) (l r) u = lg (iblk m c 0 t) (iblk m c 1 t) (iblk m c 3 t) r u :=
    fun r u h => hon r u (by dsimp only; omega)
  have hdg : ∀ (r s : Fin 1024) (hb : tile t * 1024 + s.val < 4096), Online.row2 (sees (qrow t r)) (l r) ⟨tile t * 1024 + s.val, hb⟩
      = if s.val ≤ r.val then lg (iblk m c 0 t) (iblk m c 1 t) (iblk m c 3 t) r ⟨tile t * 1024 + s.val, hb⟩ else ⊥ := fun r s hb => by
    split
    · next h => exact hon r _ (by dsimp only; omega)
    · next h =>
      rw [Online.row2, Softmax.row, if_neg (by dsimp only [sees]; omega)]
      exact EReal.coe_mul_bot_of_pos Online.lb_pos
  have hn : ∀ (r : Fin 1024) (u : Fin 4096), sees (qrow t r) u → u.val < tile t * 1024 + 1024 := fun r u h => by dsimp only [sees] at h; omega
  refine ⟨fun r d => ?_, fun r => ?_⟩
  · rw [o_point m c t hL hlg hdg r d, Online.out_whole _ _ _ (hn r) (hμ r) (j := qrow t r) (le_refl _), ho]
    simp only [blk_v]
  · have hb : tile t * 1024 + r.val < 4096 := by omega
    refine (lse_point m c t hL hlg hdg r hb).trans ?_
    rw [Online.lse_whole _ _ (hn r) (hμ r) (j := qrow t r) (le_refl _), hlse]
    refine congrArg (fun z : EReal => _ + z) ((blk_c m c t _).trans (congrArg (fun z => ac m c (ix3 0 (hd t) z)) (Fin.ext ?_)))
    show tile t * 1024 + r.val = _
    rw [ht]

theorem emb_o (r : Fin 1024) (d : Fin 128) : ((cfg0.win 4).blk t).view.emb (ix2 r d) = ix2 (qrow t r) (col (hd t) d) := by
  blk_ext [idx_val t]

theorem emb_lse (r : Fin 1024) : ((cfg0.win 5).blk t).view.emb (ix4 0 0 0 r) = ix4 (hd t) ⟨t.val % 4, by omega⟩ 0 r := by
  blk_ext [idx_val t]

variable (hq : IsReal (aq m c)) (hk : IsReal (ak m c)) (hc : IsReal (ac m c))
include hq hk hc

theorem final_o : (dats m 0 c).arrAt 4 (cfgs 0).N = val_main_v46 (F := Ideal) (aq m c) (ak m c) (av m c) (ac m c) := by
  refine (dats m 0 c).arrAt_eq_of_covers 4 _ (by decide +kernel) fun t hf y => ?_
  blk_simp; rw [after0_4]
  obtain ⟨r, d, rfl⟩ : ∃ (r : Fin 1024) (d : Fin 128), y = ix2 r d := ⟨y 0, y 1, by funext a; match a with | 0 => rfl | 1 => rfl⟩
  exact ((point m c t hq hk hc).1 r d).trans (congrArg _ (emb_o t r d)).symm

omit hq hk hc in
/-- A row of 4096 per head cut into four tiles of 1024, as the launch stores it. -/
def tiles (f : FVec Ideal S8x4096 .f32) : FVec Ideal S8x4x1x1024 .f32 := fun i =>
  f (ix2 (i 0) ⟨(i 1).val * 1024 + (i 3).val, by have h1 : (i 1).val < 4 := (i 1).isLt; have h3 : (i 3).val < 1024 := (i 3).isLt; omega⟩)

omit hq hk hc in
/-- Laid in a row again the tiles are the array. -/
theorem flat_tiles (f : FVec Ideal S8x4096 .f32) : shapeCast S8x4096 (tiles f) shapeCasts_S8x4x1x1024_S8x4096 = f := by
  funext j
  idx_vars j
  pointwise [tiles]
  exact congrArg (fun z => f (ix2 j0 z)) (Fin.ext (Nat.div_add_mod' j1.val 1024))

theorem final_lse : (dats m 0 c).arrAt 5 (cfgs 0).N = tiles (val_main_v31 (F := Ideal) (aq m c) (ak m c) (ac m c)) := by
  refine (dats m 0 c).arrAt_eq_of_covers 5 _ (by decide +kernel) fun t hf y => ?_
  blk_simp; rw [after0_5]
  obtain ⟨r, rfl⟩ : ∃ r : Fin 1024, y = ix4 0 0 0 r := ⟨y 3, by funext a; match a with | 0 => exact Subsingleton.elim (α := Fin 1) _ _ | 1 => exact Subsingleton.elim (α := Fin 1) _ _ | 2 => exact Subsingleton.elim (α := Fin 1) _ _ | 3 => rfl⟩
  exact ((point m c t hq hk hc).2 r).trans (congrArg (tiles (val_main_v31 (F := Ideal) (aq m c) (ak m c) (ac m c))) (emb_lse t r)).symm

omit hq hk hc in
/-- The logarithms that the run leaves: the launch's tiles laid in a row by the host. -/
theorem tail_lse : Pipeline.afterTail₀ cfgs (dats m) 0 (V0 m) [hostOps1] c main_v11
    = shapeCast S8x4096 ((dats m 0 c).arrAt 5 (cfgs 0).N) shapeCasts_S8x4x1x1024_S8x4096 := by
  refine Eq.trans (b := shapeCast S8x4096
    (Pipeline.withArrays (cfgs 0).spec c (V0 m c) (fun w => (dats m 0 c).arrAt w (cfgs 0).N) (Proc.devRef .tc main_v10_1)) shapeCasts_S8x4x1x1024_S8x4096) rfl ?_
  exact congrArg (fun f => shapeCast S8x4096 f shapeCasts_S8x4x1x1024_S8x4096) ((dats m 0 c).withArrays_arrAt sharedIn0 (V0 m c) (A_eq m c) 5)

theorem result_lse : shapeCast S8x4096 ((dats m 0 c).arrAt 5 (cfgs 0).N) shapeCasts_S8x4x1x1024_S8x4096 = val_main_v31 (F := Ideal) (aq m c) (ak m c) (ac m c) := by
  rw [final_lse m c hq hk hc, flat_tiles]

set_option maxHeartbeats 4000000 in
omit hq hk hc in
/-- The whole run: the output and the logarithms are the reference's, the arguments are unchanged. -/
theorem kernel_run (ρ : Dev nD → PrngReg) (hreal : ∀ c : Dev nD, IsReal (aq m c) ∧ IsReal (ak m c) ∧ IsReal (ac m c)) :
    θ_run defs (onTc (τ := τ) (main (F := Ideal))) ⟨m, fun _ => 0, ρ⟩ fun r => ∀ c : Dev nD,
    r.2.mem ((c.tc : Thread nD τ).loc main_v10_0) = val_main_v46 (F := Ideal) (aq m c) (ak m c) (av m c) (ac m c)
    ∧ r.2.mem ((c.tc : Thread nD τ).loc main_v11) = val_main_v31 (F := Ideal) (aq m c) (ak m c) (ac m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Kernel8Ideal.Gen.run_main m ρ & Cert.Kernel8Ideal.Gen.unchanged m ρ
  all_goals obtain ⟨hq, hk, hc⟩ := hreal c
  · exact final_o m c hq hk hc
  · rw [tail_lse]; exact result_lse m c hq hk hc

end Cert.FoxFwd
end
-- ==== Proof.FoxFwdClaim.lean ====
/- The forward of the attention with forget gates: the claims about this call, from the kernel's run and the reference's run. -/
module

public import proofs.«01_k».proof.Defs
public import proofs.«01_k».proof.Proof.Gen.Kernel8.Frame
public import proofs.«01_k».proof.Proof.Gen.Reference8Ideal.Run
public import proofs.«01_k».proof.Proof.Gen.Reference8Ideal.Read
public import proofs.«01_k».proof.Proof.Gen.Pre_finite8
public import proofs.«01_k».proof.Proof.FoxFwdKernel
public import Idealize.ShloMosaic.Adequacy
public import Idealize.ShloMosaic.Init

@[expose] public section

set_option maxRecDepth 16384

noncomputable section

namespace Cert.FoxFwd

open Idealize.ShloMosaic Idealize.SL.Sem

/-- What the precondition says of the launch memory: these arguments hold reals. -/
theorem finite (m : (ℓ : Loc Kernel8Ideal.nD Kernel8Ideal.τ Kernel8Ideal.sig) → Buf (Elt Ideal) ℓ) (h : Cert.Pre_Kernel8Ideal_finite8 m) (c : Dev Kernel8Ideal.nD) :
    RealOps.IsReal (m ((c.tc : Thread Kernel8Ideal.nD Kernel8Ideal.τ).loc Kernel8Ideal.main_arg0))
    ∧ RealOps.IsReal (m ((c.tc : Thread Kernel8Ideal.nD Kernel8Ideal.τ).loc Kernel8Ideal.main_arg1))
    ∧ RealOps.IsReal (m ((c.tc : Thread Kernel8Ideal.nD Kernel8Ideal.τ).loc Kernel8Ideal.main_arg3)) :=
  ⟨RealOps.isReal_of_finite _ _ (h c).1, RealOps.isReal_of_finite _ _ (h c).2.1, RealOps.isReal_of_finite _ _ (h c).2.2⟩

/-- The two idealized programs leave the same results. -/
theorem algebraic : Cert.algebraic_Kernel8Ideal_Reference8Ideal_pre_finite8 := by
  pair_intro
  · exact Cert.FoxFwd.kernel_run m g (finite m hpre)
  · refine (θ_run Cert.Reference8Ideal.defs _ _).mono (fun r h c => ?_) (Cert.Reference8Ideal.Value.run m' g')
    obtain ⟨e0, e1, e2, e3⟩ := hagree c
    obtain ⟨a0, a1, a2⟩ := h c
    refine ⟨a0.trans ((Cert.Reference8Ideal.Read.val_main_v46_eq m' c).trans ?_), a1.trans ((Cert.Reference8Ideal.Read.val_main_v31_eq m' c).trans ?_), a2⟩
    · rw [e0, e1, e2, e3]
    · rw [e0, e1, e3]

/-- Each constant that is named has the value its name says. -/
theorem preserves : Cert.preserves_Kernel8_Kernel8Ideal :=
  ⟨IdealRules.named_const.statement Cert.Kernel8Ideal.κ "fox_scale_log2e" .f32 0x3E0293EE#32 (((11863283 / 134217728) * (Real.log 2)⁻¹ : ℝ) : EReal) rfl,
    IdealRules.named_const.statement Cert.Kernel8Ideal.κ "log2e" .f32 0x3FB8AA3B#32 (((Real.log 2)⁻¹ : ℝ) : EReal) rfl,
    IdealRules.named_const.statement Cert.Kernel8Ideal.κ "ln2" .f32 0x3F317218#32 ((Real.log 2 : ℝ) : EReal) rfl⟩

/-- The reference's run leaves its arguments as they were; it declares no semaphore. -/
theorem frame_reference : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run m ρ)

end Cert.FoxFwd

end
-- ==== Proof.MlaFwdPay.lean ====
/- One step of the latent attention over a key tile: what the body's arithmetic makes of its operands, entry by entry. -/
module

public import proofs.«01_k».proof.Proof.Gen.Kernel9Ideal.Loops
public import Idealize.ShloMosaic.Lib.Pipeline.ValueKit
public import Idealize.ShloMosaic.Lib.WordCmp
public import proofs.«01_k».proof.Proof.Online

@[expose] public section

set_option maxRecDepth 16384

noncomputable section

open Idealize.ShloMosaic Idealize.ShloMosaic.TcCoe Idealize.SL.Sem
open Idealize.ShloMosaic.Pipeline (Dat)
open scoped BigOperators

namespace Cert.MlaFwd
open Cert.Kernel9Ideal Cert.Kernel9Ideal.Gen

/-- The base-2 scale of the logits: the attention's scale over `log 2`. -/
abbrev scale2 : EReal := (((Real.sqrt 192)⁻¹ * (Real.log 2)⁻¹ : ℝ) : EReal)

variable (q k : FVec Ideal S1024x256 .bf16) (v : FVec Ideal S1024x128 .bf16)
  (m l : FVec Ideal S1024x1 .f32) (a : FVec Ideal S1024x128 .f32) (r s : Fin 1024) (d : Fin 128)

/-- The base-2 logit of row `r` and key `s` of a tile. -/
def tl : EReal := (∑ x : Fin 256, q (ix2 r x) * k (ix2 s x)) * scale2

theorem pay9 : k0_pay9 (F := Ideal) q k (ix2 r s) = tl q k r s := by
  pointwise [k0_pay9, k0_pay5, tl]
  rfl

/-- The maximum over a row of a tile, as a fold. -/
theorem row_max (f : FVec Ideal S1024x1024 .f32) (r : Fin 1024) :
    multiReduction (F := Ideal) .maximumf [1] S1024 f 0xFF800000#32 reduces_S1024x1024_S1024 (.inl rfl) rfl (ix1 r)
      = (Finset.univ : Finset (Fin 1024)).fold max ⊥ (fun s => f (ix2 r s)) := by
  refine (Ideal.multiReduction_maximumf_single f 0xFF800000#32 reduces_S1024x1024_S1024 (Or.inl rfl) rfl (ix1 r)).trans ?_
  show Finset.fold max (Ideal.ofBits .f32 0xFF800000#32) _ _ = _
  rw [Cert.Softmax.ofBits_neg_inf]
  congr 1
  funext u
  exact congrArg f (by funext a; match a with | 0 => rfl | 1 => rfl)

theorem pay10 : k0_pay10 (F := Ideal) q m k (ix2 r 0) = max (m (ix2 r 0)) ((Finset.univ : Finset (Fin 1024)).fold max ⊥ (fun s => k0_pay9 (F := Ideal) q k (ix2 r s))) := by
  rw [← row_max]
  generalize hf : k0_pay9 (F := Ideal) q k = f
  unfold k0_pay10
  rw [hf]
  pointwise []

theorem pay11 : k0_pay11 (F := Ideal) q m k (ix2 r 0) = Ideal.exp2 (m (ix2 r 0) - k0_pay10 (F := Ideal) q m k (ix2 r 0)) := by
  unfold k0_pay11
  generalize k0_pay10 (F := Ideal) q m k = f
  pointwise []
  rfl

theorem pay12 : k0_pay12 (F := Ideal) q m k (ix2 r s) = Ideal.exp2 (k0_pay9 (F := Ideal) q k (ix2 r s) - k0_pay10 (F := Ideal) q m k (ix2 r 0)) := by
  unfold k0_pay12
  generalize k0_pay10 (F := Ideal) q m k = f
  generalize k0_pay9 (F := Ideal) q k = g
  pointwise []
  rfl

theorem pay13 : k0_pay13 (F := Ideal) q m l k (ix2 r 0) = k0_pay11 (F := Ideal) q m k (ix2 r 0) * l (ix2 r 0) + ∑ s, k0_pay12 (F := Ideal) q m k (ix2 r s) := by
  unfold k0_pay13
  generalize k0_pay11 (F := Ideal) q m k = f
  generalize k0_pay12 (F := Ideal) q m k = g
  pointwise []

theorem pay14 : k0_pay14 (F := Ideal) q m a k v (ix2 r d) = k0_pay11 (F := Ideal) q m k (ix2 r 0) * a (ix2 r d) + ∑ s, k0_pay12 (F := Ideal) q m k (ix2 r s) * v (ix2 s d) := by
  unfold k0_pay14
  generalize k0_pay11 (F := Ideal) q m k = f
  generalize k0_pay12 (F := Ideal) q m k = g
  pointwise []

theorem pay21 : k0_pay21 (F := Ideal) q k (ix2 r s) = if s.val ≤ r.val then tl q k r s else ⊥ := by
  pointwise [k0_pay21, k0_pay5, tl]
  rw [WordCmp.cmpi_sge_ofNat (by omega) (by omega)]
  rcases Nat.lt_or_ge r.val s.val with hh | hh
  · simp [hh, Nat.not_le.mpr hh, Scalar.select, Cert.Softmax.ofBits_neg_inf]
  · simp only [hh, Scalar.select, decide_true, BitVec.ofBool_true, if_true]
    rfl

theorem pay22 : k0_pay22 (F := Ideal) q m k (ix2 r 0) = max (m (ix2 r 0)) ((Finset.univ : Finset (Fin 1024)).fold max ⊥ (fun s => k0_pay21 (F := Ideal) q k (ix2 r s))) := by
  rw [← row_max]
  generalize hf : k0_pay21 (F := Ideal) q k = f
  unfold k0_pay22
  rw [hf]
  pointwise []

theorem pay23 : k0_pay23 (F := Ideal) q m k (ix2 r 0) = Ideal.exp2 (m (ix2 r 0) - k0_pay22 (F := Ideal) q m k (ix2 r 0)) := by
  unfold k0_pay23
  generalize k0_pay22 (F := Ideal) q m k = f
  pointwise []
  rfl

theorem pay24 : k0_pay24 (F := Ideal) q m k (ix2 r s) = Ideal.exp2 (k0_pay21 (F := Ideal) q k (ix2 r s) - k0_pay22 (F := Ideal) q m k (ix2 r 0)) := by
  unfold k0_pay24
  generalize k0_pay22 (F := Ideal) q m k = f
  generalize k0_pay21 (F := Ideal) q k = g
  pointwise []
  rfl

theorem pay25 : k0_pay25 (F := Ideal) q m l k (ix2 r 0) = k0_pay23 (F := Ideal) q m k (ix2 r 0) * l (ix2 r 0) + ∑ s, k0_pay24 (F := Ideal) q m k (ix2 r s) := by
  unfold k0_pay25
  generalize k0_pay23 (F := Ideal) q m k = f
  generalize k0_pay24 (F := Ideal) q m k = g
  pointwise []

variable (al : FVec Ideal S1024x1 .f32) (p : FVec Ideal S1024x1024 .f32)

theorem pay1 : k0_pay1 (F := Ideal) a al p l v (ix2 r d) = Ideal.div (al (ix2 r 0) * a (ix2 r d) + ∑ s, p (ix2 r s) * v (ix2 s d)) (l (ix2 r 0)) := by
  pointwise [k0_pay1]

/-- The kernel turns a column of statistics into a row by a sum over the diagonal. -/
theorem column (f : Fin 1024 → EReal) (r : Fin 1024) :
    ∑ x : Fin 1024, Scalar.select (IntOp.cmpi CmpIPredicate.eq (BitVec.ofNat 32 x.val) (BitVec.ofNat 32 r.val)) (f x) 0 = f r := by
  rw [← Cert.Rows.diagonal f r]
  refine Finset.sum_congr rfl fun x _ => ?_
  rw [WordCmp.cmpi_eq_ofNat (by omega) (by omega), WordCmp.cmpi_eq_ofNat (by omega) (by omega)]
  simp only [eq_comm]

theorem pay2 : k0_pay2 (F := Ideal) m l (ix4 0 0 0 r) = m (ix2 r 0) * ((Real.log 2 : ℝ) : EReal) + Ideal.log (l (ix2 r 0)) := by
  unfold k0_pay2
  pointwise []
  refine (column _ r).trans ?_
  rfl

end Cert.MlaFwd
end
-- ==== Proof.MlaFwdLoop.lean ====
/- The loop of the latent attention over the key tiles before the diagonal, and the diagonal tile after it: the running maximum,
   sum and weighted sum of each query row. -/
module

public import proofs.«01_k».proof.Proof.MlaFwdPay

@[expose] public section

set_option maxRecDepth 16384

noncomputable section

open Idealize.ShloMosaic Idealize.ShloMosaic.TcCoe Idealize.SL.Sem
open Idealize.ShloMosaic.Pipeline (Dat)
open scoped BigOperators

namespace Cert.MlaFwd
open Cert.Kernel9Ideal Cert.Kernel9Ideal.Gen

theorem off1 : ∀ (i : grid0.Coords) (k : Fin (k0_t1_loop i).trips), k0_off1 i k = ![k.val * 1024, 0] := by decide +kernel
theorem off2 : ∀ (i : grid0.Coords) (k : Fin (k0_t1_loop i).trips), k0_off2 i k = ![k.val * 1024, 0] := by decide +kernel
theorem off5 : ∀ i : grid0.Coords, k0_off5 i = ![(i 1).val * 1024, 0] := by decide +kernel
theorem off6 : ∀ i : grid0.Coords, k0_off6 i = ![(i 1).val * 1024, 0] := by decide +kernel
/-- The unmasked loop of query tile `i 1` has one trip for each earlier tile. -/
theorem trips1 : ∀ (i : grid0.Coords), (k0_t1_loop i).trips = (i 1).val := by decide +kernel
/-- The loop after it, over what the unrolling left, has none. -/
theorem trips2 : ∀ (i : grid0.Coords), (k0_t2_loop i).trips = 0 := by decide +kernel

section Rows
variable (q : FVec Ideal S1024x256 .bf16) (k : FVec Ideal S4096x256 .bf16) (v : FVec Ideal S4096x128 .bf16)

/-- The base-2 logit of row `r` on key `u`. -/
def lg (r : Fin 1024) (u : Fin 4096) : EReal := (∑ x : Fin 256, q (ix2 r x) * k (ix2 u x)) * scale2

/-- What a row's state is after its first `n` keys. -/
structure Seen (L : Fin 1024 → Fin 4096 → EReal) (v : FVec Ideal S4096x128 .bf16) (n : ℕ) (st : FVec Ideal S1024x1 .f32 × FVec Ideal S1024x1 .f32 × FVec Ideal S1024x128 .f32) : Prop where
  top : ∀ r : Fin 1024, st.1 (ix2 r 0) = Online.top (L r) n
  den : ∀ r : Fin 1024, st.2.1 (ix2 r 0) = Online.den (L r) n
  acc : ∀ (r : Fin 1024) (d : Fin 128), st.2.2 (ix2 r d) = Online.acc (L r) (fun u => v (ix2 u d)) n

variable {L : Fin 1024 → Fin 4096 → EReal} (hL : ∀ r u, L r u ≠ ⊤) {o : ℕ} (ho : o + 1024 ≤ 4096)
  {st : FVec Ideal S1024x1 .f32 × FVec Ideal S1024x1 .f32 × FVec Ideal S1024x128 .f32} (h : Seen L v o st)
  (kb : FVec Ideal S1024x256 .bf16) (vb : FVec Ideal S1024x128 .bf16)
  (hv : ∀ (s : Fin 1024) (d : Fin 128) (hb : o + s.val < 4096), vb (ix2 s d) = v (ix2 ⟨o + s.val, hb⟩ d))

include hL ho h hv in
/-- A step over a tile none of whose keys is masked. -/
theorem seen_step (hs : ∀ (r s : Fin 1024) (hb : o + s.val < 4096), k0_pay9 (F := Ideal) q kb (ix2 r s) = L r ⟨o + s.val, hb⟩) :
    Seen L v (o + 1024) (k0_pay10 (F := Ideal) q st.1 kb, k0_pay13 (F := Ideal) q st.1 st.2.1 kb, k0_pay14 (F := Ideal) q st.1 st.2.2 kb vb) := by
  have hs := fun r s : Fin 1024 => hs r s (by omega)
  have hv := fun (s : Fin 1024) (d : Fin 128) => hv s d (by omega)
  have hm : ∀ r : Fin 1024, k0_pay10 (F := Ideal) q st.1 kb (ix2 r 0) = Online.top (L r) (o + 1024) := fun r => by
    rw [pay10, h.top, ← Online.top_step (L r) o 1024 ho]
    simp only [hs]
  refine ⟨hm, fun r => ?_, fun r d => ?_⟩
  · show k0_pay13 (F := Ideal) q st.1 st.2.1 kb (ix2 r 0) = _
    rw [pay13, pay11, h.den, h.top, hm, ← Online.den_step (L r) (hL r) o 1024 ho]
    simp only [pay12, hs, hm]
  · show k0_pay14 (F := Ideal) q st.1 st.2.2 kb vb (ix2 r d) = _
    rw [pay14, pay11, h.acc, h.top, hm, ← Online.acc_step (L r) _ (hL r) o 1024 ho]
    simp only [pay12, hs, hm, hv]

include hL ho h hv in
/-- The diagonal tile: the maximum, the sum and the output it leaves. -/
theorem diag_step (hs : ∀ (r s : Fin 1024) (hb : o + s.val < 4096), k0_pay21 (F := Ideal) q kb (ix2 r s) = L r ⟨o + s.val, hb⟩) :
    (∀ r : Fin 1024, k0_pay22 (F := Ideal) q st.1 kb (ix2 r 0) = Online.top (L r) (o + 1024))
    ∧ (∀ r : Fin 1024, k0_pay25 (F := Ideal) q st.1 st.2.1 kb (ix2 r 0) = Online.den (L r) (o + 1024))
    ∧ ∀ (r : Fin 1024) (d : Fin 128), k0_pay1 (F := Ideal) st.2.2 (k0_pay23 (F := Ideal) q st.1 kb) (k0_pay24 (F := Ideal) q st.1 kb) (k0_pay25 (F := Ideal) q st.1 st.2.1 kb) vb (ix2 r d)
      = Ideal.div (Online.acc (L r) (fun u => v (ix2 u d)) (o + 1024)) (Online.den (L r) (o + 1024)) := by
  have hs := fun r s : Fin 1024 => hs r s (by omega)
  have hv := fun (s : Fin 1024) (d : Fin 128) => hv s d (by omega)
  have hm : ∀ r : Fin 1024, k0_pay22 (F := Ideal) q st.1 kb (ix2 r 0) = Online.top (L r) (o + 1024) := fun r => by
    rw [pay22, h.top, ← Online.top_step (L r) o 1024 ho]
    simp only [hs]
  have hl : ∀ r : Fin 1024, k0_pay25 (F := Ideal) q st.1 st.2.1 kb (ix2 r 0) = Online.den (L r) (o + 1024) := fun r => by
    rw [pay25, pay23, h.den, h.top, hm, ← Online.den_step (L r) (hL r) o 1024 ho]
    simp only [pay24, hs, hm]
  refine ⟨hm, hl, fun r d => ?_⟩
  rw [pay1, hl, pay23, h.acc, h.top, hm, ← Online.acc_step (L r) _ (hL r) o 1024 ho]
  simp only [pay24, hs, hm, hv]

end Rows

section Loop
variable (𝒱 : Variants) (c : Dev nD) (bd : Option 𝒱.V) (i : grid0.Coords)
  (arg2 : Memref sig .tc .vmem S1024x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S1024x128 .bf16) (harg6 : arg6.IsWhole)
  (arg7 : Memref sig .tc .vmem S1x1x1x1024 .f32) (harg7 : arg7.IsWhole)
  (arg8 : Memref sig .tc .vmem S4096x256 .bf16) (harg8 : arg8.IsWhole)
  (v3 : FVec Ideal S1024x256 .bf16)
  (X5 : BufTy.Contents (Elt Ideal) arg5.view.ty) (X8 : BufTy.Contents (Elt Ideal) arg8.view.ty)

/-- The loop over the earlier key tiles. -/
theorem after_loop {L : Fin 1024 → Fin 4096 → EReal} (hL : ∀ r u, L r u ≠ ⊤)
    (hlg : ∀ (r : Fin 1024) (u : Fin 4096), u.val < (i 1).val * 1024 → L r u = lg v3 (arg8.view.read (Elt Ideal) X8) r u)
    (n : ℕ) (hn : n ≤ (k0_t1_loop i).trips) :
    Seen L (arg5.view.read (Elt Ideal) X5) (n * 1024)
      (st_k0_t1 (F := Ideal) 𝒱 c bd i arg2 harg2 arg3 harg3 arg4 harg4 arg5 harg5 arg6 harg6 arg7 harg7 arg8 harg8 v3 X5 X8 (k0_pay6 (F := Ideal), k0_pay7 (F := Ideal), k0_pay8 (F := Ideal)) n) := by
  induction n with
  | zero =>
    rw [Nat.zero_mul]
    refine ⟨fun r => ?_, fun r => ?_, fun r d => ?_⟩
    · rw [Online.top_zero]; exact Cert.Softmax.ofBits_neg_inf
    · rw [Online.den_zero]; exact Cert.RealOps.ofBits_zero
    · rw [Online.acc_zero]; exact Cert.RealOps.ofBits_zero
  | succ n ih =>
    have hk := ih (Nat.le_of_succ_le hn)
    have hsucc := st_k0_t1_succ (F := Ideal) 𝒱 c bd i arg2 harg2 arg3 harg3 arg4 harg4 arg5 harg5 arg6 harg6 arg7 harg7 arg8 harg8 v3 X5 X8 (k0_pay6 (F := Ideal), k0_pay7 (F := Ideal), k0_pay8 (F := Ideal)) ⟨n, hn⟩
    generalize hst : st_k0_t1 (F := Ideal) 𝒱 c bd i arg2 harg2 arg3 harg3 arg4 harg4 arg5 harg5 arg6 harg6 arg7 harg7 arg8 harg8 v3 X5 X8 (k0_pay6 (F := Ideal), k0_pay7 (F := Ideal), k0_pay8 (F := Ideal)) n = st at hk hsucc
    have ho1 := off1 i ⟨n, hn⟩
    have ho2 := off2 i ⟨n, hn⟩
    have hi : n + 1 ≤ (i 1).val := hn.trans (trips1 i).le
    have hn4 : n + 1 ≤ 4 := le_of_le_of_eq (hi.trans (i 1).isLt.le) rfl
    have r8 : ∀ (s : Fin 1024) (d : Fin 256), arg8.view.readAt (Elt Ideal) (Rect.unit (s := S4096x256) (k0_off1 i ⟨n, hn⟩) ![1024, 256] (k0_off1_inb i ⟨n, hn⟩)).toLoadRect X8 (ix2 s d)
        = arg8.view.read (Elt Ideal) X8 (ix2 ⟨n * 1024 + s.val, by omega⟩ d) := fun s d => Cert.Rows.readAt_rows _ _ (n * 1024) _ ho1 s d _
    have r5 : ∀ (s : Fin 1024) (d : Fin 128), arg5.view.readAt (Elt Ideal) (Rect.unit (s := S4096x128) (k0_off2 i ⟨n, hn⟩) ![1024, 128] (k0_off2_inb i ⟨n, hn⟩)).toLoadRect X5 (ix2 s d)
        = arg5.view.read (Elt Ideal) X5 (ix2 ⟨n * 1024 + s.val, by omega⟩ d) := fun s d => Cert.Rows.readAt_rows _ _ (n * 1024) _ ho2 s d _
    refine cast (congrArg _ hsucc.symm) ?_
    unfold tripR_k0_t1 trip_k0_t1
    dsimp only
    rw [Nat.succ_mul]
    refine seen_step v3 _ hL (by omega) hk _ _ (fun s d _ => r5 s d) fun r s _ => ?_
    rw [pay9, hlg r _ (by dsimp only; omega), tl, lg]
    simp only [r8]

end Loop

end Cert.MlaFwd
end
-- ==== Proof.MlaFwdPoint.lean ====
/- The output tile and the saved logarithms of a grid point of the latent attention. -/
module

public import proofs.«01_k».proof.Proof.Gen.Kernel9Ideal.Frame
public import proofs.«01_k».proof.Proof.MlaFwdLoop
public import Idealize.ShloMosaic.Lib.WritesUnit

@[expose] public section

set_option maxRecDepth 16384

noncomputable section

open Idealize.ShloMosaic Idealize.ShloMosaic.TcCoe Idealize.SL.Sem
open Idealize.ShloMosaic.Pipeline (Dat)
open scoped BigOperators

namespace Cert.MlaFwd
open Cert.Kernel9Ideal Cert.Kernel9Ideal.Gen

variable (m : (ℓ : Loc nD τ sig) → Buf (Elt Ideal) ℓ) (c : Dev nD) (t : Fin cfg0.N)

/-- The query tile of a grid point. -/
abbrev tile : ℕ := (grid0.coords t 1).val

theorem tile_lt : tile t + 1 ≤ 4 := (grid0.coords t 1).isLt

section Second
variable (𝒱 : Variants) (c : Dev nD) (bd : Option 𝒱.V) (i : grid0.Coords)
  (arg2 : Memref sig .tc .vmem S1024x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S1024x128 .bf16) (harg6 : arg6.IsWhole)
  (arg7 : Memref sig .tc .vmem S1x1x1x1024 .f32) (harg7 : arg7.IsWhole)
  (arg8 : Memref sig .tc .vmem S4096x256 .bf16) (harg8 : arg8.IsWhole)
  (v3 : FVec Ideal S1024x256 .bf16)
  (X5 : BufTy.Contents (Elt Ideal) arg5.view.ty) (X8 : BufTy.Contents (Elt Ideal) arg8.view.ty)
  (init : FVec Ideal S1024x1 .f32 × FVec Ideal S1024x1 .f32 × FVec Ideal S1024x128 .f32)

/-- The second loop does nothing. -/
theorem after_second (n : ℕ) (hn : n = 0) : st_k0_t2 (F := Ideal) 𝒱 c bd i arg2 harg2 arg3 harg3 arg4 harg4 arg5 harg5 arg6 harg6 arg7 harg7 arg8 harg8 v3 X5 X8 init n = init := by
  subst hn
  rfl

end Second

/-- The keys of a grid point: the head's own part, then the shared part. -/
def keyT : FVec Ideal S4096x256 .bf16 := fun y =>
  if h : (y 1).val < 128 then (show EReal from iblk m c 1 t (ix2 (y 0) ⟨(y 1).val, h⟩))
  else (show EReal from iblk m c 2 t (ix2 (y 0) ⟨(y 1).val - 128, by have : (y 1).val < 256 := (y 1).isLt; omega⟩))

/-- The two halves of columns stored into the key array. -/
theorem keys_stored : View.read (Elt Ideal) (View.whole cc0_scratch0) ((View.whole cc0_scratch0).writes (Elt Ideal) (View.whole cc0_scratch0).junk [⟨Rect.unit ![0, 128] ![4096, 128] inb_S4096x256_S4096x128_0_128, k0_pay4 (iblk m c 2 t)⟩, ⟨Rect.unit ![0, 0] ![4096, 128] inb_S4096x256_S4096x128_0_0, k0_pay3 (iblk m c 1 t)⟩]) = keyT m c t := by
  funext y
  obtain ⟨u, x, rfl⟩ : ∃ u x, y = ix2 u x := ⟨y 0, y 1, by funext a; match a with | 0 => rfl | 1 => rfl⟩
  by_cases h : x.val < 128
  · refine Eq.trans ?_ (dif_pos h).symm
    refine (Cert.Rows.halves_low (View.whole cc0_scratch0) _ _ _ [] u ⟨x.val, h⟩).trans ?_
    pointwise [k0_pay3]
  · have hx := x.isLt
    have e : x = ⟨128 + (⟨x.val - 128, by omega⟩ : Fin 128).val, by dsimp only; omega⟩ := Fin.ext (by dsimp only; omega)
    refine Eq.trans ?_ (dif_neg h).symm
    refine (congrArg _ (congrArg (fun x => ix2 u x) e)).trans ((Cert.Rows.halves_high (View.whole cc0_scratch0) _ _ _ u ⟨x.val - 128, by omega⟩).trans ?_)
    pointwise [k0_pay4]

theorem keys_canon : View.canon ([⟨Rect.unit ![0, 128] ![4096, 128] inb_S4096x256_S4096x128_0_128, k0_pay4 (iblk m c 2 t)⟩, ⟨Rect.unit ![0, 0] ![4096, 128] inb_S4096x256_S4096x128_0_0, k0_pay3 (iblk m c 1 t)⟩] : List (View.Piece (Elt Ideal) S4096x256 .bf16)) = keyT m c t :=
  (View.read_writes_junk_eq_canon (View.whole cc0_scratch0) _).symm.trans (keys_stored m c t)

/-- What the key array holds before a grid point. -/
abbrev keysBefore : FVec Ideal S4096x256 .bf16 := (outsAt0 m c (t.val - 1) (Nat.lt_of_le_of_lt (Nat.sub_le _ _) t.isLt)).2.2

/-- A head's first tile stores the head's keys. -/
theorem kf_first (h0 : t.val % 4 = 0) : (outsAt0 m c t.val t.isLt).2.2 = keyT m c t := by
  rw [outsAt0_A m c t h0]
  dsimp only
  frame_out
  exact keys_canon m c t

/-- A later one leaves them. -/
theorem kf_next (h0 : ¬t.val % 4 = 0) : (outsAt0 m c t.val t.isLt).2.2 = keysBefore m c t := by
  rw [outsAt0_B m c t h0]
  rfl

variable {L : Fin 1024 → Fin 4096 → EReal} (hL : ∀ r u, L r u ≠ ⊤)
  (hlg : ∀ (r : Fin 1024) (u : Fin 4096), u.val < tile t * 1024 → L r u = lg (iblk m c 0 t) (keyT m c t) r u)
  (hdg : ∀ (r s : Fin 1024) (hb : tile t * 1024 + s.val < 4096), L r ⟨tile t * 1024 + s.val, hb⟩
    = if s.val ≤ r.val then lg (iblk m c 0 t) (keyT m c t) r ⟨tile t * 1024 + s.val, hb⟩ else ⊥)

include hL hlg in
/-- The state of the rows when the diagonal tile begins. -/
theorem seen (X8 : BufTy.Contents (Elt Ideal) scM0_0.view.ty) (hX : scM0_0.view.read (Elt Ideal) X8 = keyT m c t) :
    Seen L (iblk m c 3 t) (tile t * 1024) (st_k0_t1 (F := Ideal) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) (iblk m c 0 t) ((hs0_3 t).unread (iblk m c 3 t)) X8
    (k0_pay6 (F := Ideal), k0_pay7 (F := Ideal), k0_pay8 (F := Ideal)) (k0_t1_loop (grid0.coords t)).trips) := by
  have h := after_loop Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) (iblk m c 0 t) ((hs0_3 t).unread (iblk m c 3 t)) X8
    hL (fun r u hu => by rw [hX]; exact hlg r u hu) (k0_t1_loop (grid0.coords t)).trips le_rfl
  rw [Memref.IsWhole.read_unread] at h
  exact cast (congrArg (fun n => Seen L (iblk m c 3 t) (n * 1024) _) (trips1 (grid0.coords t))) h

include hdg in
/-- The diagonal tile's logits are the rows' next. -/
theorem diag_logits (kb : FVec Ideal S1024x256 .bf16) (hk : ∀ (s : Fin 1024) (x : Fin 256) (hb : tile t * 1024 + s.val < 4096), kb (ix2 s x) = keyT m c t (ix2 ⟨tile t * 1024 + s.val, hb⟩ x))
    (r s : Fin 1024) (hb : tile t * 1024 + s.val < 4096) : k0_pay21 (F := Ideal) (iblk m c 0 t) kb (ix2 r s) = L r ⟨tile t * 1024 + s.val, hb⟩ := by
  rw [pay21, hdg, tl, lg]
  simp only [hk _ _ hb]

include hL hlg hdg in
/-- The diagonal tile after the loop. -/
theorem finish (X8 : BufTy.Contents (Elt Ideal) scM0_0.view.ty) (hX : scM0_0.view.read (Elt Ideal) X8 = keyT m c t)
    (kb : FVec Ideal S1024x256 .bf16) (hk : ∀ (s : Fin 1024) (x : Fin 256) (hb : tile t * 1024 + s.val < 4096), kb (ix2 s x) = keyT m c t (ix2 ⟨tile t * 1024 + s.val, hb⟩ x)) :
    ∃ st, st = st_k0_t1 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) (iblk m c 0 t) ((hs0_3 t).unread (iblk m c 3 t)) X8
      (k0_pay6 (F := Ideal), k0_pay7 (F := Ideal), k0_pay8 (F := Ideal)) (k0_t1_loop (grid0.coords t)).trips
    ∧ (∀ r : Fin 1024, k0_pay22 (F := Ideal) (iblk m c 0 t) st.1 kb (ix2 r 0) = Online.top (L r) (tile t * 1024 + 1024))
    ∧ (∀ r : Fin 1024, k0_pay25 (F := Ideal) (iblk m c 0 t) st.1 st.2.1 kb (ix2 r 0) = Online.den (L r) (tile t * 1024 + 1024))
    ∧ ∀ (r : Fin 1024) (d : Fin 128), k0_pay1 (F := Ideal) st.2.2 (k0_pay23 (F := Ideal) (iblk m c 0 t) st.1 kb) (k0_pay24 (F := Ideal) (iblk m c 0 t) st.1 kb) (k0_pay25 (F := Ideal) (iblk m c 0 t) st.1 st.2.1 kb)
        (View.ld (iblk m c 3 t) (Rect.unit (s := S4096x128) (k0_off6 (grid0.coords t)) ![1024, 128] (k0_off6_inb (grid0.coords t)))) (ix2 r d)
      = Ideal.div (Online.acc (L r) (fun u => iblk m c 3 t (ix2 u d)) (tile t * 1024 + 1024)) (Online.den (L r) (tile t * 1024 + 1024)) :=
  ⟨_, rfl, diag_step (iblk m c 0 t) _ hL (by have := tile_lt t; omega) (seen m c t hL hlg X8 hX) kb
    (View.ld (iblk m c 3 t) (Rect.unit (s := S4096x128) (k0_off6 (grid0.coords t)) ![1024, 128] (k0_off6_inb (grid0.coords t))))
    (fun s d hb => Cert.Rows.ld_rows _ (tile t * 1024) _ (off6 (grid0.coords t)) s d hb) (diag_logits m c t hdg kb hk)⟩

/-- A block of the held keys. -/
theorem keys_block (X : S4096x256.Idx → Elt Ideal .bf16) (hX : X = keyT m c t) (s : Fin 1024) (x : Fin 256) (hb : tile t * 1024 + s.val < 4096) :
    (View.ld X (Rect.unit (s := S4096x256) (k0_off5 (grid0.coords t)) ![1024, 256] (k0_off5_inb (grid0.coords t))) : FVec Ideal S1024x256 .bf16) (ix2 s x) = keyT m c t (ix2 ⟨tile t * 1024 + s.val, hb⟩ x) := by
  subst hX
  exact Cert.Rows.ld_rows _ (tile t * 1024) _ (off5 (grid0.coords t)) s x hb

variable (hkeys : ¬t.val % 4 = 0 → keysBefore m c t = keyT m c t)
include hL hlg hdg hkeys

theorem point_parts :
    (∀ (r : Fin 1024) (d : Fin 128), (outsAt0 m c t.val t.isLt).1 (ix2 r d)
      = Ideal.div (Online.acc (L r) (fun u => iblk m c 3 t (ix2 u d)) (tile t * 1024 + 1024)) (Online.den (L r) (tile t * 1024 + 1024)))
    ∧ ∀ r : Fin 1024, (outsAt0 m c t.val t.isLt).2.1 (ix4 0 0 0 r)
      = Online.top (L r) (tile t * 1024 + 1024) * ((Real.log 2 : ℝ) : EReal) + Ideal.log (Online.den (L r) (tile t * 1024 + 1024)) := by
  by_cases h0 : t.val % 4 = 0
  on_goal 1 => rw [outsAt0_A m c t h0]
  on_goal 2 => rw [outsAt0_B m c t h0]
  all_goals
    dsimp only
    frame_out
    rw [after_second (hn := trips2 (grid0.coords t))]
    dsimp only
  · obtain ⟨st, hst, h⟩ := finish m c t hL hlg hdg _ (keys_stored m c t) _ (keys_block m c t _ (keys_canon m c t))
    rw [← hst]
    refine ⟨fun r d => h.2.2 r d, fun r => (pay2 _ _ r).trans ?_⟩
    rw [h.1 r, h.2.1 r]
  · obtain ⟨st, hst, h⟩ := finish m c t hL hlg hdg ((Memref.isWhole_whole cc0_scratch0).unread (keysBefore m c t)) (((Memref.isWhole_whole cc0_scratch0).read_unread _).trans (hkeys h0)) _ (keys_block m c t _ (((Memref.isWhole_whole cc0_scratch0).read_unread (keysBefore m c t)).trans (hkeys h0)))
    rw [← hst]
    refine ⟨fun r d => h.2.2 r d, fun r => (pay2 _ _ r).trans ?_⟩
    rw [h.1 r, h.2.1 r]

end Cert.MlaFwd
end
-- ==== Proof.MlaFwdReference.lean ====
/- The attention of the latent layer as the reference writes it, at one head and query. -/
module

public import proofs.«01_k».proof.Proof.Gen.Reference9Ideal.Read
public import Idealize.ShloMosaic.Lib.Pipeline.ValueKit
public import Idealize.ShloMosaic.Lib.WordCmp
public import Idealize.ShloMosaic.Lib.KernelVsHost
public import proofs.«01_k».proof.Proof.Online

@[expose] public section

set_option maxRecDepth 16384

noncomputable section

open Idealize.ShloMosaic Idealize.ShloMosaic.TcCoe Idealize.SL.Sem
open Idealize.ShloMosaic.Pipeline (Dat)
open scoped BigOperators

namespace Cert.MlaFwd
open Cert.Reference9Ideal Cert.Reference9Ideal.Gen Cert.Reference9Ideal.Read Cert.RealOps Cert.Softmax

/-- Element `x` of head `h` in a row of 1024. -/
abbrev col (h : Fin 8) (x : Fin 128) : Fin 1024 := ⟨h.val * 128 + x.val, by omega⟩
/-- The same in a row of queries, 192 for each head. -/
abbrev qcol (h : Fin 8) (x : Fin 192) : Fin 1536 := ⟨h.val * 192 + x.val, by omega⟩
/-- The same in a row of keys and values, 256 for each head. -/
abbrev kcol (h : Fin 8) (x : Fin 256) : Fin 2048 := ⟨h.val * 256 + x.val, by omega⟩
/-- A place in the first half of a row, without positions. -/
abbrev lo (x : Fin 128) : Fin 256 := ⟨x.val, by omega⟩
/-- A place in its second half. -/
abbrev hi (x : Fin 128) : Fin 256 := ⟨128 + x.val, by omega⟩

/-- The scale of the logits. -/
abbrev scale : ℝ := (Real.sqrt 192)⁻¹

theorem sqrt_192 : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee, ← EReal.coe_mul, -EReal.coe_mul]; norm_num
  rw [e, Ideal.sqrt_coe, if_neg (by norm_num)]

variable (q : FVec Ideal S1x4096x1536 .f32) (kv : FVec Ideal S1x4096x2048 .f32) (kr : FVec Ideal S1x4096x64 .f32) (pos : IVec S1x4096 32)

/-- The rotary part of a query, rotated by its position. -/
abbrev rot : FVec Ideal S4096x8x64 .f32 := val_main_v39 (F := Ideal) q pos

/-- Query times key: the part without positions and the rotary part. -/
def prod (h : Fin 8) (s u : Fin 4096) : EReal :=
  (∑ x : Fin 128, q (ix3 0 s (qcol h ⟨x.val, by omega⟩)) * kv (ix3 0 u (kcol h (lo x)))) + ∑ x : Fin 64, rot q pos (ix3 s h x) * kr (ix3 0 u x)

theorem ref_logit (h : Fin 8) (s u : Fin 4096) : val_main_v57 (F := Ideal) q kv kr pos (ix3 h s u)
    = if u.val ≤ s.val then Ideal.div (prod q kv kr pos h s u) (Ideal.sqrt (Ideal.ofBits .f32 0x43400000#32)) else ⊥ := by
  pointwise [val_main_v57, val_main_call0_v0, val_main_call0_v1, val_main_call0_v2, val_main_cst_3, val_main_cst_4, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v23, val_main_v22, val_main_v21, val_main_v20, val_main_v19, prod]
  rw [WordCmp.cmpi_sle_ofNat (by omega) (by omega)]
  rcases Nat.lt_or_ge s.val u.val with hh | hh
  · simp [hh, Nat.not_le.mpr hh, Scalar.select, constant, Cert.Softmax.ofBits_neg_inf]
  · simp [hh, Scalar.select]

theorem ofBits_base : Ideal.ofBits .f32 0x461C4000#32 = ((10000 : ℝ) : EReal) := by
  simp [Ideal.ofBits, Ideal.ieee, ← EReal.coe_mul, -EReal.coe_mul]; norm_num
theorem ofBits_64 : Ideal.ofBits .f32 0x42800000#32 = ((64 : ℝ) : EReal) := by
  simp [Ideal.ofBits, Ideal.ieee, ← EReal.coe_mul, -EReal.coe_mul]; norm_num
theorem ofBits_two : Ideal.ofBits .f32 0x40000000#32 = ((2 : ℝ) : EReal) := by
  simp [Ideal.ofBits, Ideal.ieee, ← EReal.coe_mul, -EReal.coe_mul]; norm_num

/-- The angle of a position is a real number. -/
theorem angle_real (s : Fin 4096) (x : Fin 32) : ∃ r : ℝ, val_main_v16 (F := Ideal) pos (ix2 s x) = (r : EReal) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [ofBits_base, ofBits_64, ofBits_two]
  have h1 : FloatOps.sitofp (F := Ideal) .f32 (pos (ix2 0 s)) = (((pos (ix2 0 s)).toInt : ℝ) : EReal) := rfl
  have h2 : FloatOps.sitofp (F := Ideal) .f32 (BitVec.ofNat 32 x.val) = (((BitVec.ofNat 32 x.val).toInt : ℝ) : EReal) := rfl
  rw [h1, h2, ← EReal.coe_mul, ← EReal.coe_neg, div_coe (by norm_num)]
  exact ⟨_, (EReal.coe_mul _ (Real.rpow _ _)).symm⟩

/-- The rotated part of a real query is real. -/
theorem rot_real (hq : IsReal q) (s : Fin 4096) (h : Fin 8) : ∃ r : Fin 64 → ℝ, ∀ x, rot q pos (ix3 s h x) = ((r x : ℝ) : EReal) := by
  obtain ⟨q, rfl⟩ := hq
  choose A hA using angle_real pos s
  have hC : ∀ x, val_main_v17 (F := Ideal) pos (ix2 s x) = ((Real.cos (A x) : ℝ) : EReal) := fun x => by rw [val_main_v17_apply, hA]; rfl
  have hS : ∀ x, val_main_v18 (F := Ideal) pos (ix2 s x) = ((Real.sin (A x) : ℝ) : EReal) := fun x => by rw [val_main_v18_apply, hA]; rfl
  refine Classical.skolem (p := fun x r => rot _ pos (ix3 s h x) = ((r : ℝ) : EReal)) |>.mp fun x => ?_
  pointwise [rot, val_main_v39, val_main_v38, val_main_v37, val_main_v36, val_main_v35, val_main_v34, val_main_v33, val_main_v32, val_main_v31, val_main_v30, val_main_v29, val_main_v28, val_main_v27, val_main_v26, val_main_v25, val_main_v24, val_main_v20, val_main_v19]
  split
  · rw [hC, hS, ← EReal.coe_mul, ← EReal.coe_mul, ← EReal.coe_sub]; exact ⟨_, rfl⟩
  · rw [hC, hS, ← EReal.coe_mul, ← EReal.coe_mul, ← EReal.coe_add]; exact ⟨_, rfl⟩

/-- The maximum over the keys as a fold. -/
theorem max_apply (f : FVec Ideal S8x4096x4096 .f32) (h : Fin 8) (s : Fin 4096) :
    Host.reduce FloatOps.maximumf f (constant S_ .f32 0xFF800000#32) reducesTo_S8x4096x4096_S8x4096_d2 h_S_ (ix2 h s)
      = (Finset.univ : Finset (Fin 4096)).fold max ⊥ (fun u => f (ix3 h s u)) := by
  have hr : S8x4096x4096.Reduces [(2 : Fin 3)] S8x4096 := by decide
  have e := hostReduce_maximumf_eq_multiReduction (F := Ideal) (φ := .f32) f 0xFF800000#32 reducesTo_S8x4096x4096_S8x4096_d2 h_S_ hr (Or.inl rfl) rfl
  refine (congrFun e (ix2 h s)).trans ((Ideal.multiReduction_maximumf_single f 0xFF800000#32 hr (Or.inl rfl) rfl (ix2 h s)).trans ?_)
  show Finset.fold max (Ideal.ofBits .f32 0xFF800000#32) _ _ = _
  rw [Cert.Softmax.ofBits_neg_inf]
  congr 1
  funext u
  exact congrArg f (by funext a; match a with | 0 => rfl | 1 => rfl | 2 => rfl)

theorem ref_max (h : Fin 8) (s : Fin 4096) : val_main_v58 (F := Ideal) q kv kr pos (ix2 h s) = (Finset.univ : Finset (Fin 4096)).fold max ⊥ (fun u => val_main_v57 (F := Ideal) q kv kr pos (ix3 h s u)) :=
  max_apply (val_main_v57 (F := Ideal) q kv kr pos) h s

theorem ref_max' (h : Fin 8) (s : Fin 4096) : val_main_v66 (F := Ideal) q kv kr pos (ix2 h s) = (Finset.univ : Finset (Fin 4096)).fold max ⊥ (fun u => val_main_v57 (F := Ideal) q kv kr pos (ix3 h s u)) :=
  max_apply (val_main_v57 (F := Ideal) q kv kr pos) h s

theorem ref_below (h : Fin 8) (s u : Fin 4096) : val_main_v62 (F := Ideal) q kv kr pos (ix3 h s u) = Ideal.exp (val_main_v57 (F := Ideal) q kv kr pos (ix3 h s u) - val_main_v58 (F := Ideal) q kv kr pos (ix2 h s)) := by
  rw [val_main_v62_apply, val_main_v61_apply, val_main_v60_apply, val_main_v59_apply]
  generalize val_main_v58 (F := Ideal) q kv kr pos = w
  generalize val_main_v57 (F := Ideal) q kv kr pos = z
  exact congrArg (fun i => Ideal.exp (z (ix3 h s u) - w i)) (funext fun a => match a with | 0 => rfl | 1 => rfl)

theorem ref_total (h : Fin 8) (s : Fin 4096) : val_main_v63 (F := Ideal) q kv kr pos (ix2 h s) = ∑ u, val_main_v62 (F := Ideal) q kv kr pos (ix3 h s u) := by
  pointwise [val_main_v63, val_main_cst_6]

theorem ref_lse (h : Fin 8) (s : Fin 4096) : val_main_v65 (F := Ideal) q kv kr pos (ix2 h s)
    = val_main_v58 (F := Ideal) q kv kr pos (ix2 h s) + Ideal.log (∑ u, Ideal.exp (val_main_v57 (F := Ideal) q kv kr pos (ix3 h s u) - val_main_v58 (F := Ideal) q kv kr pos (ix2 h s))) := by
  rw [val_main_v65_apply, val_main_v64_apply, ref_total]
  simp only [ref_below]
  generalize val_main_v58 (F := Ideal) q kv kr pos (ix2 h s) = w
  rfl

theorem ref_top (h : Fin 8) (s : Fin 4096) : val_main_v68 (F := Ideal) q kv kr pos (ix2 h s) = max (Ideal.ofBits .f32 0xFF800000#32) (val_main_v66 (F := Ideal) q kv kr pos (ix2 h s)) := by
  rw [val_main_v68_apply]
  generalize val_main_v66 (F := Ideal) q kv kr pos = w
  pointwise [val_main_v67, val_main_cst_8]

theorem ref_exp (h : Fin 8) (s u : Fin 4096) : val_main_v72 (F := Ideal) q kv kr pos (ix3 h s u) = Ideal.exp (val_main_v57 (F := Ideal) q kv kr pos (ix3 h s u) - val_main_v68 (F := Ideal) q kv kr pos (ix2 h s)) := by
  pointwise [val_main_v72, val_main_v71, val_main_v70, val_main_v69]

theorem ref_sum (h : Fin 8) (s : Fin 4096) : val_main_v73 (F := Ideal) q kv kr pos (ix2 h s) = ∑ u, val_main_v72 (F := Ideal) q kv kr pos (ix3 h s u) := by
  pointwise [val_main_v73, val_main_cst_9]

theorem ref_soft (h : Fin 8) (s u : Fin 4096) : val_main_v76 (F := Ideal) q kv kr pos (ix3 h s u) = Ideal.div (val_main_v72 (F := Ideal) q kv kr pos (ix3 h s u)) (val_main_v73 (F := Ideal) q kv kr pos (ix2 h s)) := by
  pointwise [val_main_v76, val_main_v75, val_main_v74]

theorem ref_o (h : Fin 8) (s : Fin 4096) (x : Fin 128) : val_main_v81 (F := Ideal) q kv kr pos (ix2 s (col h x)) = ∑ u, kv (ix3 0 u (kcol h (hi x))) * val_main_v76 (F := Ideal) q kv kr pos (ix3 h s u) := by
  pointwise [val_main_v81, val_main_v80, val_main_v79, val_main_v78, val_main_v77, val_main_v22, val_main_v21]
  have e1 : (h.val * 128 + x.val) / 128 = h.val := by omega
  have e2 : (h.val * 128 + x.val) % 128 = x.val := by omega
  simp only [e1, e2]

/-- A query sees the keys up to itself. -/
abbrev sees (s u : Fin 4096) : Prop := u.val ≤ s.val

/-- A row of the reference over the reals. -/
theorem ref_row (hq : IsReal q) (hkv : IsReal kv) (hkr : IsReal kr) (h : Fin 8) (s : Fin 4096) :
    ∃ (l : Fin 4096 → ℝ) (μ : ℝ), (∀ u, prod q kv kr pos h s u * ((scale * (Real.log 2)⁻¹ : ℝ) : EReal) = ((Online.lb : ℝ) : EReal) * ((l u : ℝ) : EReal))
      ∧ (Finset.univ : Finset (Fin 4096)).fold max ⊥ (row (sees s) l) = (μ : EReal)
      ∧ val_main_v65 (F := Ideal) q kv kr pos (ix2 h s) = (μ : EReal) + Ideal.log ((den (sees s) l μ : ℝ) : EReal)
      ∧ ∀ x, val_main_v81 (F := Ideal) q kv kr pos (ix2 s (col h x)) = ∑ u, Ideal.div ((ex (sees s) l μ u : ℝ) : EReal) ((den (sees s) l μ : ℝ) : EReal) * kv (ix3 0 u (kcol h (hi x))) := by
  obtain ⟨p, hp⟩ : ∃ p : Fin 4096 → ℝ, ∀ u, prod q kv kr pos h s u = ((p u : ℝ) : EReal) := by
    obtain ⟨w, hw⟩ := rot_real q pos hq s h
    obtain ⟨q, rfl⟩ := hq; obtain ⟨kv, rfl⟩ := hkv; obtain ⟨kr, rfl⟩ := hkr
    refine ⟨fun u => (∑ x : Fin 128, q (ix3 0 s (qcol h ⟨x.val, by omega⟩)) * kv (ix3 0 u (kcol h (lo x)))) + ∑ x, w x * kr (ix3 0 u x), fun u => ?_⟩
    unfold prod
    simp only [hw, ← EReal.coe_mul, coe_sum, ← EReal.coe_add]
  have hroot : Real.sqrt 192 ≠ 0 := (Real.sqrt_pos.mpr (by norm_num)).ne'
  obtain ⟨l, hl⟩ : ∃ l : Fin 4096 → ℝ, ∀ u, l u = p u / Real.sqrt 192 := ⟨_, fun _ => rfl⟩
  obtain ⟨μ, hμ⟩ := max_real (sees s) l (j := s) (le_refl _)
  have hL : ∀ u, val_main_v57 (F := Ideal) q kv kr pos (ix3 h s u) = row (sees s) l u := fun u => by rw [ref_logit, row, hp, sqrt_192, div_coe hroot, hl]
  have hfold : (Finset.univ : Finset (Fin 4096)).fold max ⊥ (fun u => val_main_v57 (F := Ideal) q kv kr pos (ix3 h s u)) = (μ : EReal) := by
    rw [← hμ]; exact congrArg (fun f => Finset.fold max ⊥ f Finset.univ) (funext hL)
  have hE : ∀ u, Ideal.exp (val_main_v57 (F := Ideal) q kv kr pos (ix3 h s u) - (μ : EReal)) = ((ex (sees s) l μ u : ℝ) : EReal) := fun u => by
    rw [hL, exp_row]
  have hD : ∑ u, ((ex (sees s) l μ u : ℝ) : EReal) = ((den (sees s) l μ : ℝ) : EReal) := coe_sum _ _
  refine ⟨l, μ, fun u => ?_, hμ, ?_, fun x => ?_⟩
  · rw [hp, hl, ← EReal.coe_mul, ← EReal.coe_mul, EReal.coe_eq_coe_iff, Online.lb, scale]; ring
  · rw [ref_lse, ref_max, hfold]
    simp only [hE]
    rw [hD]
  · have h38 : ∀ u, val_main_v72 (F := Ideal) q kv kr pos (ix3 h s u) = ((ex (sees s) l μ u : ℝ) : EReal) := fun u => by
      rw [ref_exp, ref_top, ref_max', hfold, ofBits_neg_inf, max_eq_right bot_le, hE]
    rw [ref_o]
    refine Finset.sum_congr rfl fun u _ => ?_
    rw [ref_soft, ref_sum]
    simp only [h38]
    rw [hD, mul_comm]

end Cert.MlaFwd
end
-- ==== Proof.MlaFwdKernel.lean ====
/- What the forward launch of the latent attention leaves: the reference's output and logarithms. -/
module

public import proofs.«01_k».proof.Proof.MlaFwdPoint
public import proofs.«01_k».proof.Proof.MlaFwdReference

@[expose] public section

set_option maxRecDepth 16384

noncomputable section

open Idealize.ShloMosaic Idealize.ShloMosaic.TcCoe Idealize.SL.Sem
open Idealize.ShloMosaic.Pipeline (Dat)
open scoped BigOperators

namespace Cert.MlaFwd
open Cert.Kernel9Ideal Cert.Kernel9Ideal.Gen Cert.Reference9Ideal.Read Cert.RealOps

variable (m : (ℓ : Loc nD τ sig) → Buf (Elt Ideal) ℓ) (c : Dev nD) (t : Fin cfg0.N)

abbrev aq : FVec Ideal S1x4096x1536 .f32 := m ((c : Thread nD τ).loc main_arg0)
abbrev akv : FVec Ideal S1x4096x2048 .f32 := m ((c : Thread nD τ).loc main_arg1)
abbrev akr : FVec Ideal S1x4096x64 .f32 := m ((c : Thread nD τ).loc main_arg2)
abbrev apos : IVec S1x4096 32 := m ((c : Thread nD τ).loc main_arg3)

/-- The queries as handed over: 128 columns without positions, 64 rotated, 64 zeros for each head. -/
def qForm (q : FVec Ideal S4096x8x192 .f32) (r : FVec Ideal S4096x8x64 .f32) : FVec Ideal S4096x2048 .f32 :=
  shapeCast S4096x2048 (concatenate S4096x8x256 2 [⟨S4096x8x128, extractStridedSlice S4096x8x128 ![0, 0, 0] q slices_S4096x8x192_S4096x8x128_0_0_0⟩, ⟨S4096x8x64, r⟩,
    ⟨S4096x8x64, broadcastInDim S4096x8x64 ![] bcast_S_S4096x8x64 (constant S_ .f32 0x00000000#32)⟩] concatenates_S4096x8x128_S4096x8x64_S4096x8x64_S4096x8x256_d2) shapeCasts_S4096x8x256_S4096x2048

/-- The shared keys as handed over: 64 columns and 64 zeros. -/
def krForm (x : FVec Ideal S4096x64 .f32) : FVec Ideal S4096x128 .f32 :=
  pad S4096x128 ![0, 0] ![0, 64] ![0, 0] x (sitofp .f32 (constantI S_ 32 0#32)) pads_S4096x64_S4096x128_000_0640 h_S_

theorem V0_split : V0 m c = StableHlo.after hostOps0_2 (StableHlo.after hostOps0_1 (StableHlo.after hostOps0 (fun b => m (c, b)))) := by
  show StableHlo.after (List.flatten [hostOps0, hostOps0_1, hostOps0_2]) _ = _
  rw [← StableHlo.after_append, ← StableHlo.after_append]; rfl

section Lines
variable (W : Valuation τ sig (Elt Ideal))

set_option maxRecDepth 400000 in
theorem q_line : StableHlo.after hostOps0 W (Proc.devRef .tc main_v41)
    = truncf .bf16 (qForm (val_main_v20 (F := Ideal) (W (Proc.devRef .tc main_arg0))) (rot (W (Proc.devRef .tc main_arg0)) (W (Proc.devRef .tc main_arg3)))) bitsLt_bf16_f32 := by
  after_results
  rfl
theorem keep1 : StableHlo.after hostOps0_1 W (Proc.devRef .tc main_v41) = W (Proc.devRef .tc main_v41) := by after_results
theorem keep2 : StableHlo.after hostOps0_2 W (Proc.devRef .tc main_v41) = W (Proc.devRef .tc main_v41) := by after_results

end Lines

theorem V_q : V m c main_v41 = truncf .bf16 (qForm (val_main_v20 (F := Ideal) (aq m c)) (rot (aq m c) (apos m c))) bitsLt_bf16_f32 := by
  show V0 m c (Proc.devRef .tc main_v41) = _
  rw [V0_split, keep2, keep1, q_line]
theorem V_kr : V m c main_v44 = truncf .bf16 (krForm (shapeCast S4096x64 (akr m c) shapeCasts_S1x4096x64_S4096x64)) bitsLt_bf16_f32 := by exact rfl
theorem V_kv : V m c main_v46 = truncf .bf16 (shapeCast S4096x2048 (akv m c) shapeCasts_S1x4096x2048_S4096x2048) bitsLt_bf16_f32 := by exact rfl

section Columns
variable (q : FVec Ideal S4096x8x192 .f32) (w : FVec Ideal S4096x8x64 .f32) (s : Fin 4096) (h : Fin 8)

theorem qForm_low (x : Fin 128) : qForm q w (ix2 s (kcol h (lo x))) = q (ix3 s h ⟨x.val, by omega⟩) := by
  pointwise [qForm]
  have e1 : (h.val * 256 + x.val) % 256 = x.val := by omega
  have e2 : (h.val * 256 + x.val) / 256 = h.val := by omega
  simp only [e1, e2]
  exact dif_pos x.isLt

theorem qForm_rot (x : Fin 64) : qForm q w (ix2 s (kcol h ⟨128 + x.val, by omega⟩)) = w (ix3 s h x) := by
  pointwise [qForm]
  have e1 : (h.val * 256 + (128 + x.val)) % 256 = 128 + x.val := by omega
  have e2 : (h.val * 256 + (128 + x.val)) / 256 = h.val := by omega
  simp only [e1, e2]
  have hx := x.isLt
  repeat' split
  all_goals first | omega | exact congrArg (fun z => w (ix3 s h z)) (Fin.ext (by dsimp only; omega))

theorem qForm_rest (x : Fin 64) : qForm q w (ix2 s (kcol h ⟨192 + x.val, by omega⟩)) = 0 := by
  pointwise [qForm]
  have e1 : (h.val * 256 + (192 + x.val)) % 256 = 192 + x.val := by omega
  simp only [e1]
  have hx := x.isLt
  repeat' split
  all_goals first | omega | rfl

theorem krForm_apply (k : FVec Ideal S4096x64 .f32) (x : Fin 128) : krForm k (ix2 s x) = if hy : x.val < 64 then k (ix2 s ⟨x.val, hy⟩) else 0 := by
  pointwise [krForm]
  have z : FloatOps.sitofp (F := Ideal) .f32 0#32 = (0 : EReal) := by simp [FloatOps.sitofp]
  rw [z]

end Columns

theorem idx_val : ∀ t : Fin cfg0.N, win0_0.index t = ![t.val % 4, t.val / 4] ∧ win0_1.index t = ![0, 2 * (t.val / 4)] ∧ win0_2.index t = ![0, 0]
    ∧ win0_3.index t = ![0, 2 * (t.val / 4) + 1] ∧ win0_4.index t = ![t.val % 4, t.val / 4] ∧ win0_5.index t = ![t.val / 4, t.val % 4, 0, 0]
    ∧ (grid0.coords t 1).val = t.val % 4 ∧ t.val < 32 :=
  (by decide +kernel : ∀ t : Fin grid0.N, _)

theorem tile_val : tile t = t.val % 4 := (idx_val t).2.2.2.2.2.2.1

/-- The head a grid point works at. -/
abbrev hd : Fin 8 := ⟨t.val / 4, by have := (idx_val t).2.2.2.2.2.2.2; omega⟩
/-- The query a row of a grid point's tile is. -/
abbrev qrow (r : Fin 1024) : Fin 4096 := ⟨(t.val % 4) * 1024 + r.val, by omega⟩

theorem blk_q (r : Fin 1024) (x : Fin 256) : iblk m c 0 t (ix2 r x) = qForm (val_main_v20 (F := Ideal) (aq m c)) (rot (aq m c) (apos m c)) (ix2 (qrow t r) (kcol (hd t) x)) := by
  refine Eq.trans (b := V m c main_v41 (ix2 (qrow t r) (kcol (hd t) x))) ?_ ?_
  · unfold iblk
    show V m c main_v41 _ = _
    generalize V m c main_v41 = w
    blk_ext [idx_val t]
  · rw [V_q]; rfl

theorem blk_k (u : Fin 4096) (d : Fin 128) : iblk m c 1 t (ix2 u d) = akv m c (ix3 0 u (kcol (hd t) (lo d))) := by
  refine Eq.trans (b := V m c main_v46 (ix2 u (kcol (hd t) (lo d)))) ?_ ?_
  · unfold iblk
    show V m c main_v46 _ = _
    generalize V m c main_v46 = w
    blk_ext [idx_val t]
  · rw [V_kv]; exact Cert.RealOps.shapeCast_drop_lead _ _ _

theorem blk_kr (u : Fin 4096) (d : Fin 128) : iblk m c 2 t (ix2 u d) = if hy : d.val < 64 then akr m c (ix3 0 u ⟨d.val, hy⟩) else 0 := by
  refine Eq.trans (b := V m c main_v44 (ix2 u d)) ?_ ?_
  · unfold iblk
    show V m c main_v44 _ = _
    generalize V m c main_v44 = w
    blk_ext [idx_val t]
  · rw [V_kr]
    refine (krForm_apply _ _ _).trans ?_
    split
    · exact Cert.RealOps.shapeCast_drop_lead _ _ _
    · rfl

theorem blk_v (u : Fin 4096) (d : Fin 128) : iblk m c 3 t (ix2 u d) = akv m c (ix3 0 u (kcol (hd t) (hi d))) := by
  refine Eq.trans (b := V m c main_v46 (ix2 u (kcol (hd t) (hi d)))) ?_ ?_
  · unfold iblk
    show V m c main_v46 _ = _
    generalize V m c main_v46 = w
    blk_ext [idx_val t]
  · rw [V_kv]; exact Cert.RealOps.shapeCast_drop_lead _ _ _

theorem key_low (u : Fin 4096) (x : Fin 128) : keyT m c t (ix2 u (lo x)) = akv m c (ix3 0 u (kcol (hd t) (lo x))) :=
  (dif_pos x.isLt).trans (blk_k m c t u x)
theorem key_high (u : Fin 4096) (x : Fin 128) : keyT m c t (ix2 u (hi x)) = if hy : x.val < 64 then akr m c (ix3 0 u ⟨x.val, hy⟩) else 0 := by
  refine (dif_neg (by show ¬128 + x.val < 128; omega)).trans (Eq.trans (congrArg (fun z => iblk m c 2 t (ix2 u z)) (Fin.ext ?_)) (blk_kr m c t u x))
  show 128 + x.val - 128 = x.val
  omega

/-- The keys of a head are kept from its first tile on. -/
theorem keys_same (p : Fin cfg0.N) (e : hd p = hd t) : keyT m c p = keyT m c t := by
  funext y
  obtain ⟨u, x, rfl⟩ : ∃ u x, y = ix2 u x := ⟨y 0, y 1, by funext i; match i with | 0 => rfl | 1 => rfl⟩
  rcases Nat.lt_or_ge x.val 128 with h | h
  · rw [show x = lo ⟨x.val, h⟩ from rfl, key_low, key_low, e]
  · have hx := x.isLt
    rw [show x = hi ⟨x.val - 128, by omega⟩ from Fin.ext (by dsimp only; omega), key_high, key_high]

theorem keys_at : ∀ n : ℕ, ∀ hn : n < cfg0.N, (outsAt0 m c n hn).2.2 = keyT m c ⟨n, hn⟩ := by
  intro n
  induction n with
  | zero => intro hn; exact kf_first m c ⟨0, hn⟩ rfl
  | succ n ih =>
    intro hn
    by_cases h : (n + 1) % 4 = 0
    · exact kf_first m c ⟨n + 1, hn⟩ h
    · exact (kf_next m c ⟨n + 1, hn⟩ h).trans ((ih (by omega)).trans (keys_same m c ⟨n + 1, hn⟩ ⟨n, by omega⟩ (Fin.ext (by show n / 4 = (n + 1) / 4; omega))))

theorem keys_before (h : ¬t.val % 4 = 0) : keysBefore m c t = keyT m c t :=
  (keys_at m c (t.val - 1) (by have := t.isLt; omega)).trans (keys_same m c t _ (Fin.ext (by show (t.val - 1) / 4 = t.val / 4; omega)))

/-- A sum over 256 columns in its three parts. -/
theorem sum_parts (f : Fin 256 → EReal) : ∑ x, f x = (∑ x : Fin 128, f (lo x)) + ((∑ x : Fin 64, f ⟨128 + x.val, by omega⟩) + ∑ x : Fin 64, f ⟨192 + x.val, by omega⟩) := by
  refine (Fin.sum_univ_add (a := 128) (b := 128) f).trans (congrArg₂ (fun a b : EReal => a + b) rfl ?_)
  refine (Fin.sum_univ_add (a := 64) (b := 64) fun x : Fin 128 => f ⟨128 + x.val, by omega⟩).trans (congrArg₂ (fun a b : EReal => a + b) rfl ?_)
  exact Finset.sum_congr rfl fun x _ => congrArg f (Fin.ext (by show 128 + (64 + x.val) = 192 + x.val; omega))

theorem lg_eq (r : Fin 1024) (u : Fin 4096) : lg (iblk m c 0 t) (keyT m c t) r u
    = prod (aq m c) (akv m c) (akr m c) (apos m c) (hd t) (qrow t r) u * ((scale * (Real.log 2)⁻¹ : ℝ) : EReal) := by
  refine congrArg (fun z : EReal => z * ((scale * (Real.log 2)⁻¹ : ℝ) : EReal)) ?_
  rw [sum_parts]
  simp only [blk_q, qForm_low, qForm_rot, qForm_rest, key_low, zero_mul, Finset.sum_const_zero, add_zero]
  refine congrArg₂ (fun a b : EReal => a + b) (Finset.sum_congr rfl fun x _ => congrArg (fun z : EReal => z * _) ?_)
    (Finset.sum_congr rfl fun x _ => congrArg (fun z : EReal => _ * z) ((key_high m c t u ⟨x.val, by omega⟩).trans (dif_pos x.isLt)))
  pointwise [val_main_v20, val_main_v19]

/-- A grid point's rows of the output and of the logarithms. -/
theorem point (hq : IsReal (aq m c)) (hkv : IsReal (akv m c)) (hkr : IsReal (akr m c)) :
    (∀ (r : Fin 1024) (d : Fin 128), (outsAt0 m c t.val t.isLt).1 (ix2 r d) = val_main_v81 (F := Ideal) (aq m c) (akv m c) (akr m c) (apos m c) (ix2 (qrow t r) (col (hd t) d)))
    ∧ ∀ r : Fin 1024, (outsAt0 m c t.val t.isLt).2.1 (ix4 0 0 0 r) = val_main_v65 (F := Ideal) (aq m c) (akv m c) (akr m c) (apos m c) (ix2 (hd t) (qrow t r)) := by
  choose l μ hl hμ hlse ho using fun r : Fin 1024 => ref_row (aq m c) (akv m c) (akr m c) (apos m c) hq hkv hkr (hd t) (qrow t r)
  have ht := tile_val t
  have hon : ∀ (r : Fin 1024) (u : Fin 4096), u.val ≤ (qrow t r).val → Online.row2 (sees (qrow t r)) (l r) u = lg (iblk m c 0 t) (keyT m c t) r u := fun r u h => by
    rw [lg_eq, hl, Online.row2, Softmax.row, if_pos h]
  have hL : ∀ r u, Online.row2 (sees (qrow t r)) (l r) u ≠ ⊤ := fun r u => Online.row2_ne_top _ _ _
  have hlg : ∀ (r : Fin 1024) (u : Fin 4096), u.val < tile t * 1024 → Online.row2 (sees (qrow t r)) (l r) u = lg (iblk m c 0 t) (keyT m c t) r u :=
    fun r u h => hon r u (by dsimp only; omega)
  have hdg : ∀ (r s : Fin 1024) (hb : tile t * 1024 + s.val < 4096), Online.row2 (sees (qrow t r)) (l r) ⟨tile t * 1024 + s.val, hb⟩
      = if s.val ≤ r.val then lg (iblk m c 0 t) (keyT m c t) r ⟨tile t * 1024 + s.val, hb⟩ else ⊥ := fun r s hb => by
    split
    · next h => exact hon r _ (by dsimp only; omega)
    · next h =>
      rw [Online.row2, Softmax.row, if_neg (by dsimp only [sees]; omega)]
      exact EReal.coe_mul_bot_of_pos Online.lb_pos
  have hn : ∀ (r : Fin 1024) (u : Fin 4096), sees (qrow t r) u → u.val < tile t * 1024 + 1024 := fun r u h => by dsimp only [sees] at h; omega
  have h := point_parts m c t hL hlg hdg (keys_before m c t)
  refine ⟨fun r d => ?_, fun r => ?_⟩
  · rw [h.1 r d, Online.out_whole _ _ _ (hn r) (hμ r) (j := qrow t r) (le_refl _), ho]
    simp only [blk_v]
  · rw [h.2 r, Online.lse_whole _ _ (hn r) (hμ r) (j := qrow t r) (le_refl _), hlse]

theorem emb_o (r : Fin 1024) (d : Fin 128) : ((cfg0.win 4).blk t).view.emb (ix2 r d) = ix2 (qrow t r) (col (hd t) d) := by
  blk_ext [idx_val t]

theorem emb_lse (r : Fin 1024) : ((cfg0.win 5).blk t).view.emb (ix4 0 0 0 r) = ix4 (hd t) ⟨t.val % 4, by omega⟩ 0 r := by
  blk_ext [idx_val t]

variable (hq : IsReal (aq m c)) (hkv : IsReal (akv m c)) (hkr : IsReal (akr m c))
include hq hkv hkr

theorem final_o : (dats m 0 c).arrAt 4 (cfgs 0).N = val_main_v81 (F := Ideal) (aq m c) (akv m c) (akr m c) (apos m c) := by
  refine (dats m 0 c).arrAt_eq_of_covers 4 _ (by decide +kernel) fun t hf y => ?_
  blk_simp; rw [after0_4]
  obtain ⟨r, d, rfl⟩ : ∃ (r : Fin 1024) (d : Fin 128), y = ix2 r d := ⟨y 0, y 1, by funext a; match a with | 0 => rfl | 1 => rfl⟩
  exact ((point m c t hq hkv hkr).1 r d).trans (congrArg _ (emb_o t r d)).symm

omit hq hkv hkr in
/-- A row of 4096 per head cut into four tiles of 1024, as the launch stores it. -/
def tiles (f : FVec Ideal S8x4096 .f32) : FVec Ideal S8x4x1x1024 .f32 := fun i =>
  f (ix2 (i 0) ⟨(i 1).val * 1024 + (i 3).val, by have h1 : (i 1).val < 4 := (i 1).isLt; have h3 : (i 3).val < 1024 := (i 3).isLt; omega⟩)

omit hq hkv hkr in
/-- Laid in a row again the tiles are the array. -/
theorem flat_tiles (f : FVec Ideal S8x4096 .f32) : shapeCast S8x4096 (tiles f) shapeCasts_S8x4x1x1024_S8x4096 = f := by
  funext j
  idx_vars j
  pointwise [tiles]
  exact congrArg (fun z => f (ix2 j0 z)) (Fin.ext (Nat.div_add_mod' j1.val 1024))

theorem final_lse : (dats m 0 c).arrAt 5 (cfgs 0).N = tiles (val_main_v65 (F := Ideal) (aq m c) (akv m c) (akr m c) (apos m c)) := by
  refine (dats m 0 c).arrAt_eq_of_covers 5 _ (by decide +kernel) fun t hf y => ?_
  blk_simp; rw [after0_5]
  obtain ⟨r, rfl⟩ : ∃ r : Fin 1024, y = ix4 0 0 0 r := ⟨y 3, by funext a; match a with | 0 => exact Subsingleton.elim (α := Fin 1) _ _ | 1 => exact Subsingleton.elim (α := Fin 1) _ _ | 2 => exact Subsingleton.elim (α := Fin 1) _ _ | 3 => rfl⟩
  exact ((point m c t hq hkv hkr).2 r).trans (congrArg (tiles (val_main_v65 (F := Ideal) (aq m c) (akv m c) (akr m c) (apos m c))) (emb_lse t r)).symm

omit hq hkv hkr in
/-- The logarithms that the run leaves: the launch's tiles laid in a row by the host. -/
theorem tail_lse : Pipeline.afterTail₀ cfgs (dats m) 0 (V0 m) [hostOps1] c main_v48
    = shapeCast S8x4096 ((dats m 0 c).arrAt 5 (cfgs 0).N) shapeCasts_S8x4x1x1024_S8x4096 := by
  refine Eq.trans (b := shapeCast S8x4096
    (Pipeline.withArrays (cfgs 0).spec c (V0 m c) (fun w => (dats m 0 c).arrAt w (cfgs 0).N) (Proc.devRef .tc main_v47_1)) shapeCasts_S8x4x1x1024_S8x4096) rfl ?_
  exact congrArg (fun f => shapeCast S8x4096 f shapeCasts_S8x4x1x1024_S8x4096) ((dats m 0 c).withArrays_arrAt sharedIn0 (V0 m c) (A_eq m c) 5)

theorem result_lse : shapeCast S8x4096 ((dats m 0 c).arrAt 5 (cfgs 0).N) shapeCasts_S8x4x1x1024_S8x4096 = val_main_v65 (F := Ideal) (aq m c) (akv m c) (akr m c) (apos m c) := by
  rw [final_lse m c hq hkv hkr, flat_tiles]

set_option maxHeartbeats 4000000 in
omit hq hkv hkr in
/-- The whole run: the output and the logarithms are the reference's, the arguments are unchanged. -/
theorem kernel_run (ρ : Dev nD → PrngReg) (hreal : ∀ c : Dev nD, IsReal (aq m c) ∧ IsReal (akv m c) ∧ IsReal (akr m c)) :
    θ_run defs (onTc (τ := τ) (main (F := Ideal))) ⟨m, fun _ => 0, ρ⟩ fun r => ∀ c : Dev nD,
    r.2.mem ((c.tc : Thread nD τ).loc main_v47_0) = val_main_v81 (F := Ideal) (aq m c) (akv m c) (akr m c) (apos m c)
    ∧ r.2.mem ((c.tc : Thread nD τ).loc main_v48) = val_main_v65 (F := Ideal) (aq m c) (akv m c) (akr m c) (apos m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Kernel9Ideal.Gen.run_main m ρ & Cert.Kernel9Ideal.Gen.unchanged m ρ
  all_goals obtain ⟨hq, hkv, hkr⟩ := hreal c
  · exact final_o m c hq hkv hkr
  · rw [tail_lse]; exact result_lse m c hq hkv hkr

end Cert.MlaFwd
end
-- ==== Proof.MlaFwdClaim.lean ====
/- The forward of the latent attention: the claims about this call, from the kernel's run and the reference's run. -/
module

public import proofs.«01_k».proof.Defs
public import proofs.«01_k».proof.Proof.Gen.Kernel9.Frame
public import proofs.«01_k».proof.Proof.Gen.Reference9Ideal.Run
public import proofs.«01_k».proof.Proof.Gen.Reference9Ideal.Read
public import proofs.«01_k».proof.Proof.Gen.Pre_finite9
public import proofs.«01_k».proof.Proof.MlaFwdKernel
public import Idealize.ShloMosaic.Adequacy
public import Idealize.ShloMosaic.Init

@[expose] public section

set_option maxRecDepth 16384

noncomputable section

namespace Cert.MlaFwd

open Idealize.ShloMosaic Idealize.SL.Sem

/-- What the precondition says of the launch memory: these arguments hold reals. -/
theorem finite (m : (ℓ : Loc Kernel9Ideal.nD Kernel9Ideal.τ Kernel9Ideal.sig) → Buf (Elt Ideal) ℓ) (h : Cert.Pre_Kernel9Ideal_finite9 m) (c : Dev Kernel9Ideal.nD) :
    RealOps.IsReal (m ((c.tc : Thread Kernel9Ideal.nD Kernel9Ideal.τ).loc Kernel9Ideal.main_arg0))
    ∧ RealOps.IsReal (m ((c.tc : Thread Kernel9Ideal.nD Kernel9Ideal.τ).loc Kernel9Ideal.main_arg1))
    ∧ RealOps.IsReal (m ((c.tc : Thread Kernel9Ideal.nD Kernel9Ideal.τ).loc Kernel9Ideal.main_arg2)) :=
  ⟨RealOps.isReal_of_finite _ _ (h c).1, RealOps.isReal_of_finite _ _ (h c).2.1, RealOps.isReal_of_finite _ _ (h c).2.2⟩

/-- The two idealized programs leave the same results. -/
theorem algebraic : Cert.algebraic_Kernel9Ideal_Reference9Ideal_pre_finite9 := by
  pair_intro
  · exact Cert.MlaFwd.kernel_run m g (finite m hpre)
  · refine (θ_run Cert.Reference9Ideal.defs _ _).mono (fun r h c => ?_) (Cert.Reference9Ideal.Value.run m' g')
    obtain ⟨e0, e1, e2, e3⟩ := hagree c
    obtain ⟨a0, a1, a2⟩ := h c
    refine ⟨a0.trans ((Cert.Reference9Ideal.Read.val_main_v81_eq m' c).trans ?_), a1.trans ((Cert.Reference9Ideal.Read.val_main_v65_eq m' c).trans ?_), a2⟩
    · rw [e0, e1, e2, e3]
    · rw [e0, e1, e2, e3]

/-- Each constant that is named has the value its name says. -/
theorem preserves : Cert.preserves_Kernel9_Kernel9Ideal :=
  ⟨IdealRules.named_const.statement Cert.Kernel9Ideal.κ "mla_scale_log2e" .f32 0x3DD53B95#32 (((Real.sqrt 192)⁻¹ * (Real.log 2)⁻¹ : ℝ) : EReal) rfl,
    IdealRules.named_const.statement Cert.Kernel9Ideal.κ "ln2" .f32 0x3F317218#32 ((Real.log 2 : ℝ) : EReal) rfl⟩

/-- The reference's run leaves its arguments as they were; it declares no semaphore. -/
theorem frame_reference : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run m ρ)

end Cert.MlaFwd

end
-- ==== Proof.DecayFwdScan.lean ====
/- The forget gate's running sum (`_fox_decay`): its scan of one block of 128 lanes, the blocks carried from the first to the last, and the pieces its launch stores. -/
module

public import proofs.«01_k».proof.Proof.Gen.Kernel10Ideal.Frame
public import Idealize.ShloMosaic.Lib.Pipeline.ValueKit
public import proofs.«01_k».proof.Proof.RealOps

@[expose] public section

set_option maxRecDepth 16384

noncomputable section

open Idealize.ShloMosaic Idealize.ShloMosaic.TcCoe Idealize.SL.Sem
open Idealize.ShloMosaic.Pipeline (Dat)
open scoped BigOperators

namespace Cert.DecayFwd

open Cert.Kernel10Ideal Cert.Kernel10Ideal.Gen

/-- One step of the kernel's scan: every lane adds the lane `n` places back, where there is one. -/
def scanStep (n : BitVec 32) (x : FVec Ideal S8x128 .f32) : FVec Ideal S8x128 .f32 :=
  addf x (select (cmpi .sge (iota .tc S8x128 32 [1] iota_S8x128_d1_w32) (broadcast S8x128 n))
    (dynamicRotate 1 n none x rotates_S8x128_d1) (broadcast S8x128 (Scalar.ofBits .f32 0x00000000#32)))

/-- The scan of one block of 128 lanes. -/
def scanL (x : FVec Ideal S8x128 .f32) : FVec Ideal S8x128 .f32 :=
  scanStep 64#32 (scanStep 32#32 (scanStep 16#32 (scanStep 8#32 (scanStep 4#32 (scanStep 2#32 (scanStep 1#32 x))))))

/-- Block `n`, counted from the first. -/
abbrev rectAt (n : ℕ) : Rect S8x4096 := Rect.unit (s := S8x4096) ![0, 3968 - 128 * (31 - n)] S8x128.size
  (fun a => by fin_cases a <;> simp <;> omega)

variable (x0 : Vec Ideal S8x4096 .f32) (x1 : Vec Ideal S8x1 .f32)

/-- The logits of a block with the bias added. -/
def logitBlk (n : ℕ) : FVec Ideal S8x128 .f32 :=
  addf (shapeCast S8x128 (View.ld x0 (rectAt n)) shapeCasts_S8x128_S8x128)
    (broadcastTo S8x128 (shapeCast S8x1 (View.ld x1 r0_1) shapeCasts_S8x1_S8x1) broadcasts_S8x1_S8x128)

/-- The logarithm of the gate over logits `u`, as the kernel writes it. -/
def logBlk (u : FVec Ideal S8x128 .f32) : FVec Ideal S8x128 .f32 :=
  subf (minimumf u (broadcast S8x128 (Scalar.ofBits .f32 0x00000000#32)))
    (log (addf (broadcast S8x128 (Scalar.ofBits .f32 0x3F800000#32))
      (exp (subf (broadcast S8x128 (Scalar.ofBits .f32 0x00000000#32)) (absf u)))))

/-- The scan of a block over the carry of the blocks before it. -/
def sumBlk : ℕ → FVec Ideal S8x128 .f32
  | 0 => addf (scanL (logBlk (logitBlk x0 x1 0)))
      (broadcastTo S8x128 (broadcast S8x1 (Scalar.ofBits (F := Ideal) .f32 0x00000000#32)) broadcasts_S8x1_S8x128)
  | n + 1 => addf (scanL (logBlk (logitBlk x0 x1 (n + 1))))
      (broadcastTo S8x128 (extractStridedSlice S8x1 ![0, 127] (sumBlk n) slices_S8x128_o0_127_S8x1) broadcasts_S8x1_S8x128)

/-- The pieces of the result, the last block first. -/
def sumPieces : List (View.Piece (Elt Ideal) S8x4096 .f32) :=
  (List.range 32).reverse.map fun n => ⟨rectAt n, sumBlk x0 x1 n⟩

theorem out2_pieces : out0_2 x0 x1 = View.canon (sumPieces x0 x1) := by
  rfl

/-- A block's row as a sequence, zero past its end. -/
def ext (x : FVec Ideal S8x128 .f32) (h : Fin 8) (l : ℕ) : EReal := if hl : l < 128 then x (ix2 h ⟨l, hl⟩) else 0

theorem ext_lt (x : FVec Ideal S8x128 .f32) (h : Fin 8) (l : Fin 128) : ext x h l.val = x (ix2 h l) := by
  unfold ext; rw [dif_pos l.isLt]

/-- The comparison of two small numbers. -/
theorem sle_ofNat (a b : ℕ) (ha : a < 128) (hb : b < 128) : (BitVec.ofNat 32 a).sle (BitVec.ofNat 32 b) = decide (a ≤ b) := by
  rw [BitVec.sle_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  exact decide_eq_decide.mpr Nat.cast_le

/-- A step adds to every entry the one `s` places back. -/
theorem step_ext (s : ℕ) (h0 : 0 < s) (hs : s < 128) (x : FVec Ideal S8x128 .f32) (h : Fin 8) (l : ℕ) (hl : l < 128) :
    ext (scanStep (BitVec.ofNat 32 s) x) h l = ext x h l + if s ≤ l then ext x h (l - s) else 0 := by
  unfold ext
  rw [dif_pos hl, dif_pos hl, dif_pos (by omega)]
  pointwise [scanStep]
  have hm : IntOp.cmpi CmpIPredicate.sge (BitVec.ofNat 32 l) (BitVec.ofNat 32 s) = if s ≤ l then 1#1 else 0#1 := by
    unfold IntOp.cmpi
    simp only [sle_ofNat s l hs hl]
    by_cases h : s ≤ l <;> simp [h]
  have hn : (BitVec.ofNat 32 s).toNat = s := by rw [BitVec.toNat_ofNat]; exact Nat.mod_eq_of_lt (by omega)
  rw [hm]
  congr 1
  by_cases h : s ≤ l
  · rw [if_pos h, if_pos h]
    refine congrArg x (congrArg (ix2 _) (Fin.ext ?_))
    show (l + 128 - (BitVec.ofNat 32 s).toNat % 128) % 128 = l - s
    rw [hn]; omega
  · rw [if_neg h, if_neg h]; rfl

/-- The sum of the last `w` entries of a sequence up to `l`. -/
def back (f : ℕ → EReal) (w l : ℕ) : EReal := ∑ q ∈ Finset.range w, if q ≤ l then f (l - q) else 0

/-- Two windows of a sequence's sum, one before the other. -/
theorem back_add (f : ℕ → EReal) (s l : ℕ) : back f s l + (if s ≤ l then back f s (l - s) else 0) = back f (s + s) l := by
  unfold back
  rw [Finset.sum_range_add]
  congr 1
  by_cases h : s ≤ l
  · rw [if_pos h]
    refine Finset.sum_congr rfl fun q _ => ?_
    by_cases hq : s + q ≤ l
    · rw [if_pos hq, if_pos (by omega), Nat.sub_sub]
    · rw [if_neg hq, if_neg (by omega)]
  · rw [if_neg h]
    exact (Finset.sum_eq_zero fun q _ => if_neg (by omega)).symm

/-- A step doubles the window summed so far. -/
theorem step_window (s : ℕ) (h0 : 0 < s) (hs : s < 128) (x y : FVec Ideal S8x128 .f32) (h : Fin 8)
    (hy : ∀ l, l < 128 → ext y h l = back (ext x h) s l) (l : ℕ) (hl : l < 128) :
    ext (scanStep (BitVec.ofNat 32 s) y) h l = back (ext x h) (s + s) l := by
  rw [step_ext s h0 hs y h l hl, hy l hl, hy (l - s) (by omega), back_add]

/-- The scan leaves in every entry the sum of the row up to there. -/
theorem scan_ext (x : FVec Ideal S8x128 .f32) (h : Fin 8) (l : ℕ) (hl : l < 128) : ext (scanL x) h l = back (ext x h) 128 l := by
  have h0 : ∀ l, l < 128 → ext x h l = back (ext x h) 1 l := fun l _ => by simp [back]
  exact step_window 64 (by omega) (by omega) x _ h
    (step_window 32 (by omega) (by omega) x _ h
    (step_window 16 (by omega) (by omega) x _ h
    (step_window 8 (by omega) (by omega) x _ h
    (step_window 4 (by omega) (by omega) x _ h
    (step_window 2 (by omega) (by omega) x _ h
    (step_window 1 (by omega) (by omega) x _ h h0)))))) l hl

/-- A window that reaches past the start is the sum from the start. -/
theorem back_all (f : ℕ → EReal) (w l : ℕ) (hw : l < w) : back f w l = ∑ j ∈ Finset.range (l + 1), f j := by
  unfold back
  obtain ⟨d, rfl⟩ := Nat.exists_eq_add_of_lt hw
  rw [show l + d + 1 = (l + 1) + d by omega, Finset.sum_range_add, Finset.sum_eq_zero (s := Finset.range d), add_zero,
    ← Finset.sum_range_reflect f]
  · refine Finset.sum_congr rfl fun q hq => ?_
    have := Finset.mem_range.mp hq
    rw [if_pos (by omega)]; congr 1
  · intro q _; exact if_neg (by omega)

/-- The logarithm of the gate at one logit. -/
def logGate (u : EReal) : EReal :=
  min u 0 - Ideal.log (1 + Ideal.exp (0 - max u (-u)))

/-- A row of the gates' logarithms as a sequence, zero past its end. -/
def row (h : Fin 8) (p : ℕ) : EReal := if hp : p < 4096 then logGate (x0 (ix2 h ⟨p, hp⟩) + x1 (ix2 h 0)) else 0

/-- The running sum, head by head. -/
def sumForm : FVec Ideal S8x4096 .f32 := fun i => ∑ j ∈ Finset.range ((i 1).val + 1), row x0 x1 (i 0) j

theorem block_at (n : ℕ) (hn : n < 32) (h : Fin 8) (l : ℕ) (hl : l < 128) :
    ext (logBlk (logitBlk x0 x1 n)) h l = row x0 x1 h (128 * n + l) := by
  unfold ext row
  rw [dif_pos hl, dif_pos (by omega)]
  pointwise [logBlk, logitBlk]
  unfold logGate
  have e : x0 (ix2 h ⟨3968 - 128 * (31 - n) + l, by omega⟩) = x0 (ix2 h ⟨128 * n + l, by omega⟩) :=
    congrArg x0 (congrArg (ix2 h) (Fin.ext (by show 3968 - 128 * (31 - n) + l = 128 * n + l; omega)))
  rw [← e]
  rfl

theorem scan_block (n : ℕ) (hn : n < 32) (h : Fin 8) (l : Fin 128) :
    scanL (logBlk (logitBlk x0 x1 n)) (ix2 h l) = ∑ j ∈ Finset.range (l.val + 1), row x0 x1 h (128 * n + j) := by
  rw [← ext_lt (scanL _), scan_ext _ h _ l.isLt, back_all _ _ _ l.isLt]
  refine Finset.sum_congr rfl fun j hj => ?_
  have := Finset.mem_range.mp hj
  exact block_at x0 x1 n hn h j (by omega)

/-- Each block's scan over the carry: the sum of the whole row up to the entry. -/
theorem sum_at (n : ℕ) (hn : n < 32) (h : Fin 8) (l : Fin 128) :
    sumBlk x0 x1 n (ix2 h l) = ∑ j ∈ Finset.range (128 * n + (l.val + 1)), row x0 x1 h j := by
  induction n generalizing l with
  | zero =>
    have e : sumBlk x0 x1 0 (ix2 h l) = scanL (logBlk (logitBlk x0 x1 0)) (ix2 h l) + 0 := by
      unfold sumBlk; generalize scanL _ = r; pointwise
    rw [e, add_zero, scan_block x0 x1 0 hn]
    simp
  | succ n ih =>
    have e : sumBlk x0 x1 (n + 1) (ix2 h l) = scanL (logBlk (logitBlk x0 x1 (n + 1))) (ix2 h l) + sumBlk x0 x1 n (ix2 h 127) := by
      rw [sumBlk]; generalize sumBlk x0 x1 n = d; generalize scanL _ = r; pointwise
    rw [e, scan_block x0 x1 (n + 1) hn, ih (by omega), add_comm, Finset.sum_range_add _ (128 * (n + 1))]
    rfl

end Cert.DecayFwd
-- ==== Proof.DecayFwdKernel.lean ====
/- The forget gate's running sum: what the result array of the program holds, over the argument arrays. -/
module

public import proofs.«01_k».proof.Proof.DecayFwdScan

@[expose] public section

set_option maxRecDepth 16384

noncomputable section

open Idealize.ShloMosaic Idealize.ShloMosaic.TcCoe Idealize.SL.Sem
open Idealize.ShloMosaic.Pipeline (Dat)
open scoped BigOperators

namespace Cert.DecayFwd

open Cert.Kernel10Ideal Cert.Kernel10Ideal.Gen

variable (x0 : Vec Ideal S8x4096 .f32) (x1 : Vec Ideal S8x1 .f32)

theorem pos_lt (n : ℕ) (l : Fin 128) : 3968 - 128 * (31 - n) + l.val < 4096 := by omega

theorem piece_at (n : ℕ) (hn : n < 32) (h : Fin 8) (l : Fin 128) :
    sumBlk x0 x1 n (ix2 h l) = sumForm x0 x1 (ix2 h ⟨3968 - 128 * (31 - n) + l.val, pos_lt n l⟩) := by
  rw [sum_at x0 x1 n hn]
  show _ = ∑ j ∈ Finset.range (3968 - 128 * (31 - n) + l.val + 1), row x0 x1 h j
  rw [show 3968 - 128 * (31 - n) + l.val + 1 = 128 * n + (l.val + 1) by omega]

theorem out2_at (y : S8x4096.Idx) : out0_2 x0 x1 y = sumForm x0 x1 y := by
  rw [out2_pieces]
  refine View.canon_apply_of_pieces (Val := Elt Ideal) (e := .f32) (sumForm x0 x1) _ (fun p hp x => ?_) y ?_
  · obtain ⟨n, hn, rfl⟩ := List.mem_map.mp hp
    have hn' : n < 32 := List.mem_range.mp (List.mem_reverse.mp hn)
    refine Eq.trans ?_ ((piece_at x0 x1 n hn' (x 0) (x 1)).trans ?_)
    · blk_ext
    · blk_ext
  · exact cover0_2 _ _ _ _ _ _ _ _ _ _ _ _ _ _ _ _ _ _ _ _ _ _ _ _ _ _ _ _ _ _ _ _ y

variable (m : (ℓ : Loc nD τ sig) → Buf (Elt Ideal) ℓ)

theorem idx_val : ∀ t : Fin cfg0.N, win0_0.index t = ![0, 0] ∧ win0_1.index t = ![0, 0] ∧ win0_2.index t = ![0, 0] :=
  (by decide +kernel : ∀ t : Fin grid0.N, _)

/-- The arguments as the kernel takes them: head by head. -/
abbrev turned (x : FVec Ideal S1x4096x8 .f32) : Vec Ideal S8x4096 .f32 := fun i => x (ix3 0 (i 1) (i 0))
abbrev column (x : FVec Ideal S1x8 .f32) : Vec Ideal S8x1 .f32 := fun i => x (ix2 0 (i 0))

theorem turn_at (x : FVec Ideal S1x4096x8 .f32) (a : Fin 8) (b : Fin 4096) :
    transpose S8x4096 [1, 0] (shapeCast S4096x8 x shapeCasts_S1x4096x8_S4096x8) transposes_S4096x8_S8x4096_1_0 (ix2 a b) = x (ix3 0 b a) := by
  pointwise

theorem V_z (c : Dev nD) : V m c main_v1 = turned (m ((c : Thread nD τ).loc main_arg0)) := by
  have h : V m c main_v1 = transpose S8x4096 [1, 0] (shapeCast S4096x8 (m ((c : Thread nD τ).loc main_arg0)) shapeCasts_S1x4096x8_S4096x8) transposes_S4096x8_S8x4096_1_0 := rfl
  rw [h]; funext i
  exact turn_at _ (i 0) (i 1)

theorem V_b (c : Dev nD) : V m c main_v2 = column (m ((c : Thread nD τ).loc main_arg1)) := by
  have h : V m c main_v2 = shapeCast S8x1 (m ((c : Thread nD τ).loc main_arg1)) shapeCasts_S1x8_S8x1 := rfl
  rw [h]; generalize m ((c : Thread nD τ).loc main_arg1) = x
  funext i
  pointwise

theorem block0 (c : Dev nD) (t : Fin cfg0.N) : iblk m c 0 t = turned (m ((c : Thread nD τ).loc main_arg0)) := by
  rw [← V_z m c]; funext y; unfold iblk; show V m c main_v1 _ = _; generalize V m c main_v1 = w; blk_ext [idx_val t]
theorem block1 (c : Dev nD) (t : Fin cfg0.N) : iblk m c 1 t = column (m ((c : Thread nD τ).loc main_arg1)) := by
  rw [← V_b m c]; funext y; unfold iblk; show V m c main_v2 _ = _; generalize V m c main_v2 = w; blk_ext [idx_val t]

theorem final_sum (c : Dev nD) : (dats m 0 c).arrAt 2 (cfgs 0).N
    = sumForm (turned (m ((c : Thread nD τ).loc main_arg0))) (column (m ((c : Thread nD τ).loc main_arg1))) := by
  refine (dats m 0 c).arrAt_eq_of_covers 2 _ (by decide +kernel) fun t hf y => ?_
  blk_simp; rw [after0_2, block0, block1]
  exact (out2_at _ _ _).trans (by blk_ext [idx_val t])

/-- The result as the caller reads it, over the arguments. -/
def sumRes (z : FVec Ideal S1x4096x8 .f32) (b : FVec Ideal S1x8 .f32) : FVec Ideal S1x8x4096 .f32 :=
  fun i => sumForm (turned z) (column b) (ix2 (i 1) (i 2))

/-- The host's line after the launch. -/
def tail (x : FVec Ideal S8x4096 .f32) : FVec Ideal S1x8x4096 .f32 := broadcastInDim S1x8x4096 ![1, 2] bcast_S8x4096_S1x8x4096_1_2 x

theorem line_sum (W : Valuation τ sig (Elt Ideal)) : StableHlo.after hostOps1 W (Proc.devRef .tc main_v4) = tail (W (Proc.devRef .tc main_v3)) := by
  after_results; rfl

theorem tail_at (x : FVec Ideal S8x4096 .f32) (i : S1x8x4096.Idx) : tail x i = x (ix2 (i 1) (i 2)) := by
  unfold tail; pointwise

theorem after_sum (c : Dev nD) : Pipeline.afterTail₀ cfgs (dats m) 0 (V0 m) [hostOps1] c main_v4
    = sumRes (m ((c : Thread nD τ).loc main_arg0)) (m ((c : Thread nD τ).loc main_arg1)) := by
  refine Eq.trans (b := tail (Pipeline.withArrays (cfgs 0).spec c (V0 m c) (fun w => (dats m 0 c).arrAt w (cfgs 0).N) (Proc.devRef .tc main_v3))) (line_sum _) ?_
  refine (congrArg tail ((Pipeline.withArrays_arr (cfgs 0).spec (by decide) c (V0 m c) _ 2).trans (final_sum m c))).trans ?_
  exact funext fun i => tail_at _ i

/-- The whole run of the program: the result in closed form, the arguments unchanged. -/
theorem kernel_run (ρ : Dev nD → PrngReg) : θ_run defs (onTc (τ := τ) (main (F := Ideal))) ⟨m, fun _ => 0, ρ⟩ fun r => ∀ c : Dev nD,
    r.2.mem ((c.tc : Thread nD τ).loc main_v4) = sumRes (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.Kernel10Ideal.Gen.run_main m ρ & Cert.Kernel10Ideal.Gen.unchanged m ρ
  · exact after_sum m c

end Cert.DecayFwd
-- ==== Proof.DecayFwdReference.lean ====
/- The reference of the forget gate's running sum: its result over the argument arrays, and that the kernel's is the same. -/
module

public import proofs.«01_k».proof.Proof.Gen.Reference10Ideal.Read
public import proofs.«01_k».proof.Proof.DecayFwdKernel

@[expose] public section

set_option maxRecDepth 16384

noncomputable section

open Idealize.ShloMosaic Idealize.ShloMosaic.TcCoe Idealize.SL.Sem
open Idealize.ShloMosaic.Pipeline (Dat)
open scoped BigOperators

namespace Cert.DecayFwd

open Cert.Reference10Ideal Cert.Reference10Ideal.Gen Cert.Reference10Ideal.Read

/-- Additions one after the other from a start make the start and a sum. -/
theorem fold_sum {ι : Type} (g : ι → EReal) (L : List ι) (v : EReal) : L.foldl (fun r n => r + g n) v = v + (L.map g).sum := by
  induction L generalizing v with
  | nil => simp
  | cons a L ih => rw [List.foldl_cons, ih, List.map_cons, List.sum_cons, add_assoc]

/-- The running sum of the reference: a window over the part of the axis before. -/
theorem before_at (x : FVec Ideal S1x4096x8 .f32) (s : Fin 4096) (h : Fin 8) :
    Ideal.hostReduceWindowAdd ![1, 4096, 1] ![1, 1, 1] ![0, 4095, 0] ![0, 0, 0] reduceWindows_S1x4096x8_S1x4096x8_w1s1p0_0_w4096s1p4095_0_w1s1p0_0 x 0 (ix3 0 s h)
      = ∑ q : Fin 4096, if hq : 4095 ≤ s.val + q.val then x (ix3 0 ⟨s.val + q.val - 4095, by omega⟩ h) else 0 := by
  unfold Ideal.hostReduceWindowAdd Host.reduceWindow
  rw [fold_sum, zero_add, ← Fin.sum_univ_def]
  rw [← Equiv.sum_comp (Shape.rowMajor ⟨3, ![1, 4096, 1]⟩)]
  simp only [Equiv.symm_apply_apply]
  rw [sum_idx3]
  simp only [Fin.sum_univ_one]
  refine Finset.sum_congr rfl fun q _ => ?_
  by_cases hq : 4095 ≤ s.val + q.val
  · rw [dif_pos hq, dif_pos (by intro a; fin_cases a <;> simp <;> omega)]
    refine congrArg x (funext fun a => Fin.ext ?_)
    fin_cases a <;> simp
  · rw [dif_neg hq, dif_neg]
    intro hall
    have h1 := (hall 1).1
    simp at h1
    omega

/-- The softplus' logarithm is a real number at every logit. -/
theorem soft_real (u : EReal) : ∃ r : ℝ, Ideal.log (1 + Ideal.exp (0 - max u (-u))) = (r : EReal) := by
  have h0 : Ideal.log (1 + Ideal.exp ⊥) = ((0 : ℝ) : EReal) := by
    rw [Ideal.exp_bot, add_zero, ← EReal.coe_one, Ideal.log_coe, if_neg (by norm_num), Real.log_one]
  induction u with
  | bot => exact ⟨0, by simpa using h0⟩
  | top => exact ⟨0, by simpa using h0⟩
  | coe u =>
    refine ⟨Real.log (1 + Real.exp (0 - max u (-u))), ?_⟩
    have hm : (0 : EReal) - max (u : EReal) (-(u : EReal)) = ((0 - max u (-u) : ℝ) : EReal) := by norm_cast
    rw [hm, Ideal.exp_coe, ← EReal.coe_one, ← EReal.coe_add, Ideal.log_coe, if_neg (not_le.mpr (by positivity))]

/-- The reference's logarithm of the gate, the softplus of the turned logit turned again, is the kernel's. -/
theorem log_gate (u : EReal) : -(max (-u) 0 + Ideal.log1p (Ideal.exp (-max (-u) (- -u)))) = logGate u := by
  unfold logGate Ideal.log1p
  obtain ⟨r, hr⟩ := soft_real u
  rw [neg_neg, max_comm (-u) u]
  rw [zero_sub] at hr
  rw [zero_sub, hr, EReal.neg_add (Or.inr (EReal.coe_ne_top r)) (Or.inr (EReal.coe_ne_bot r))]
  congr 1
  rcases le_total u 0 with h | h
  · rw [max_eq_left (EReal.neg_nonneg.mpr h), min_eq_left h, neg_neg]
  · rw [max_eq_right (by rw [← neg_zero]; exact EReal.neg_le_neg_iff.mpr h), min_eq_right h, neg_zero]

theorem ref_log (z : FVec Ideal S1x4096x8 .f32) (b : FVec Ideal S1x8 .f32) (i : S1x4096x8.Idx) :
    val_main_v4 (F := Ideal) z b i = logGate (z i + b (ix2 0 (i 2))) := by
  rw [← log_gate]
  pointwise [val_main_v0, val_main_v1, val_main_v2, val_main_v3, val_main_v4, val_main_call0_v0, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  rw [if_neg (not_not.mpr rfl)]
  rfl

/-- A window reaching as far back as the axis is long holds what lies at the start and before the entry. -/
theorem late_sum (f : ℕ → EReal) (s M : ℕ) (hs : s ≤ M) :
    ∑ q ∈ Finset.range (M + 1), (if M ≤ s + q then f (s + q - M) else 0) = ∑ j ∈ Finset.range (s + 1), f j := by
  obtain ⟨d, rfl⟩ := Nat.exists_eq_add_of_le hs
  rw [show s + d + 1 = d + (s + 1) by omega, Finset.sum_range_add, Finset.sum_eq_zero, zero_add]
  · refine Finset.sum_congr rfl fun j _ => ?_
    rw [if_pos (by omega)]; congr 1; omega
  · intro q hq
    have := Finset.mem_range.mp hq
    exact if_neg (by omega)

theorem ref_at (z : FVec Ideal S1x4096x8 .f32) (b : FVec Ideal S1x8 .f32) (s : Fin 4096) (h : Fin 8) :
    val_main_v5 (F := Ideal) z b (ix3 0 s h) = sumForm (turned z) (column b) (ix2 h s) := by
  have e0 : val_main_call1_call0_v0 (F := Ideal) (Shape.Idx.first h_S_) = 0 := by
    pointwise [val_main_call1_call0_v0, val_main_call1_call0_cst]
  unfold val_main_v5 Host.reduceWindowAdd
  rw [Ideal.hostReduceWindowAdd_def, e0, before_at]
  show _ = ∑ j ∈ Finset.range (s.val + 1), row (turned z) (column b) h j
  have hr : ∀ p : Fin 4096, val_main_v4 (F := Ideal) z b (ix3 0 p h) = row (turned z) (column b) h p.val := fun p => by
    rw [ref_log]; unfold row; rw [dif_pos p.isLt]; rfl
  have e : ∀ f : ℕ → EReal, ∑ q : Fin 4096, (if 4095 ≤ s.val + q.val then f (s.val + q.val - 4095) else 0) = ∑ j ∈ Finset.range (s.val + 1), f j := fun f => by
    rw [Fin.sum_univ_eq_sum_range (fun q => if 4095 ≤ s.val + q then f (s.val + q - 4095) else 0)]
    exact late_sum f s.val 4095 (by omega)
  refine Eq.trans ?_ (e (row (turned z) (column b) h))
  refine Finset.sum_congr rfl fun q _ => ?_
  by_cases hq : 4095 ≤ s.val + q.val
  · rw [dif_pos hq, if_pos hq, hr]
  · rw [dif_neg hq, if_neg hq]

/-- The reference's result is the kernel's. -/
theorem ref_eq (z : FVec Ideal S1x4096x8 .f32) (b : FVec Ideal S1x8 .f32) : val_main_v6 (F := Ideal) z b = sumRes z b := by
  funext i
  rw [val_main_v6_apply]
  refine Eq.trans ?_ (ref_at z b (i 2) (i 1))
  generalize val_main_v5 (F := Ideal) z b = y
  blk_ext

end Cert.DecayFwd
-- ==== Proof.DecayFwdClaim.lean ====
/- The forget gate's running sum: the claims about this call, from the kernel's run and the reference's run. -/
module

public import proofs.«01_k».proof.Defs
public import proofs.«01_k».proof.Proof.Gen.Kernel10.Frame
public import proofs.«01_k».proof.Proof.Gen.Reference10Ideal.Run
public import proofs.«01_k».proof.Proof.Gen.Reference10Ideal.Read
public import proofs.«01_k».proof.Proof.DecayFwdReference
public import Idealize.ShloMosaic.Adequacy
public import Idealize.ShloMosaic.Init

@[expose] public section

set_option maxRecDepth 16384

noncomputable section

namespace Cert.DecayFwd

open Idealize.ShloMosaic Idealize.SL.Sem

/-- The two idealized programs leave the same results. -/
theorem algebraic : Cert.algebraic_Kernel10Ideal_Reference10Ideal := by
  pair_intro
  · exact kernel_run m g
  · refine (θ_run Cert.Reference10Ideal.defs _ _).mono (fun r h c => ?_) (Cert.Reference10Ideal.Value.run m' g')
    obtain ⟨e0, e1⟩ := hagree c
    obtain ⟨a0, a1⟩ := h c
    refine ⟨a0.trans ?_, a1⟩
    rw [e0, e1]
    exact (Cert.Reference10Ideal.Read.val_main_v6_eq _ _).trans (ref_eq _ _)

/-- The reference's run leaves its arguments as they were; it declares no semaphore. -/
theorem frame_reference : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run m ρ)

end Cert.DecayFwd

end
-- ==== Proof.GateFwd.lean ====
/- The gates of the two attentions' outputs: the launch leaves what the reference computes. -/
module

public import proofs.«01_k».proof.Proof.Gen.Kernel11Ideal.Frame
public import proofs.«01_k».proof.Proof.Gen.Reference11Ideal.Read
public import Idealize.ShloMosaic.Lib.Pipeline.ValueKit
public import proofs.«01_k».proof.Proof.RealOps

@[expose] public section

set_option maxRecDepth 16384

noncomputable section

open Idealize.ShloMosaic Idealize.ShloMosaic.TcCoe Idealize.SL.Sem
open Idealize.ShloMosaic.Pipeline (Dat)
open scoped BigOperators

namespace Cert.GateFwd
open Cert.Kernel11Ideal Cert.Kernel11Ideal.Gen

variable (m : (ℓ : Loc nD τ sig) → Buf (Elt Ideal) ℓ) (c : Dev nD) (t : Fin cfg0.N)

abbrev om : FVec Ideal S1x4096x1024 .f32 := m ((c : Thread nD τ).loc main_arg0)
abbrev og : FVec Ideal S1x4096x1024 .f32 := m ((c : Thread nD τ).loc main_arg1)
abbrev gm : FVec Ideal S1x4096x1024 .f32 := m ((c : Thread nD τ).loc main_arg2)
abbrev gf : FVec Ideal S1x4096x1024 .f32 := m ((c : Thread nD τ).loc main_arg3)

/-- An output times its gate. -/
def gated (x g : EReal) : EReal := x * (g * Ideal.logistic g)

/-- Both attentions' gated outputs, side by side. -/
def form (om og gm gf : FVec Ideal S1x4096x1024 .f32) : FVec Ideal S4096x2048 .bf16 := fun i =>
  if h : (i 1 : ℕ) < 1024 then gated (om (ix3 0 (i 0) ⟨i 1, h⟩)) (gm (ix3 0 (i 0) ⟨i 1, h⟩))
  else gated (og (ix3 0 (i 0) ⟨i 1 - 1024, Nat.sub_lt_left_of_lt_add (not_lt.mp h) (i 1).isLt⟩))
    (gf (ix3 0 (i 0) ⟨i 1 - 1024, Nat.sub_lt_left_of_lt_add (not_lt.mp h) (i 1).isLt⟩))

open Cert.Reference11Ideal.Read in
theorem ref_eq (om og gm gf : FVec Ideal S1x4096x1024 .f32) : val_main_v9 (F := Ideal) om og gm gf = form om og gm gf := by
  funext i
  pointwise [val_main_v0, val_main_v1, val_main_call0_v0, val_main_call0_v1, val_main_call0_cst, val_main_call0_v2, val_main_call0_v3, val_main_call0_cst_0, val_main_call0_v4, val_main_call0_v5, val_main_v2, val_main_v3, val_main_v4, val_main_v5,
    val_main_call1_v0, val_main_call1_v1, val_main_call1_cst, val_main_call1_v2, val_main_call1_v3, val_main_call1_cst_0, val_main_call1_v4, val_main_call1_v5, val_main_v6, val_main_v7, val_main_v8, val_main_v9, form, gated]
  rfl

theorem idx_val : ∀ t : Fin cfg0.N, win0_0.index t = ![t.val, 0] ∧ win0_1.index t = ![t.val, 0] ∧ win0_2.index t = ![t.val, 0]
    ∧ win0_3.index t = ![t.val, 0] ∧ t.val < 8 :=
  (by decide +kernel : ∀ t : Fin grid0.N, _)

/-- The packed gates: the two gates side by side, then columns nothing reads. -/
def packed (a b : FVec Ideal S1x4096x1024 .f32) : FVec Ideal S4096x6656 .bf16 :=
  truncf (F := Ideal) .bf16 (concatenate S4096x6656 1
    [⟨S4096x1024, shapeCast S4096x1024 a shapeCasts_S1x4096x1024_S4096x1024⟩,
     ⟨S4096x1024, shapeCast S4096x1024 b shapeCasts_S1x4096x1024_S4096x1024⟩,
     ⟨S4096x4608, broadcastInDim S4096x4608 ![] bcast_S_S4096x4608 (constant S_ .f32 0x00000000#32)⟩]
    concatenates_S4096x1024_S4096x1024_S4096x4608_S4096x6656_d1) bitsLt_bf16_f32

theorem V_gates : V m c main_v4 = packed (gm m c) (gf m c) := by exact rfl
theorem V_om : V m c main_v6 = truncf (F := Ideal) .bf16 (shapeCast S4096x1024 (om m c) shapeCasts_S1x4096x1024_S4096x1024) bitsLt_bf16_f32 := by exact rfl
theorem V_of : V m c main_v8 = truncf (F := Ideal) .bf16 (shapeCast S4096x1024 (og m c) shapeCasts_S1x4096x1024_S4096x1024) bitsLt_bf16_f32 := by exact rfl

theorem packed_low (a b : FVec Ideal S1x4096x1024 .f32) (r : Fin 4096) (k : Fin 1024) :
    packed a b (ix2 r ⟨k.val, Nat.lt_of_lt_of_le k.isLt (by decide)⟩) = a (ix3 0 r k) := by
  pointwise [packed]

theorem packed_high (a b : FVec Ideal S1x4096x1024 .f32) (r : Fin 4096) (k : Fin 1024) :
    packed a b (ix2 r ⟨1024 + k.val, Nat.lt_of_lt_of_le (Nat.add_lt_add_left k.isLt 1024) (by decide)⟩) = b (ix3 0 r k) := by
  pointwise [packed]

/-- The row of the arrays that a row of a tile is. -/
abbrev row (r : Fin 512) : Fin 4096 := ⟨t.val * 512 + r.val, by have := (idx_val t).2.2.2.2; omega⟩

theorem blk_om (s : Fin 512) (k : Fin 1024) : (iblk m c 0 t : FVec Ideal S512x1024 .bf16) (ix2 s k) = om m c (ix3 0 (row t s) k) := by
  refine Eq.trans (b := V m c main_v6 (ix2 (row t s) k)) ?_ ?_
  · unfold iblk; show V m c main_v6 _ = _; generalize V m c main_v6 = w; blk_ext [idx_val t]
  · rw [V_om]; exact Cert.RealOps.shapeCast_drop_lead _ _ _

theorem blk_of (s : Fin 512) (k : Fin 1024) : (iblk m c 1 t : FVec Ideal S512x1024 .bf16) (ix2 s k) = og m c (ix3 0 (row t s) k) := by
  refine Eq.trans (b := V m c main_v8 (ix2 (row t s) k)) ?_ ?_
  · unfold iblk; show V m c main_v8 _ = _; generalize V m c main_v8 = w; blk_ext [idx_val t]
  · rw [V_of]; exact Cert.RealOps.shapeCast_drop_lead _ _ _

theorem gates_low (s : Fin 512) (k : Fin 1024) : X0_2 m c t (ix2 s ⟨k.val, Nat.lt_of_lt_of_le k.isLt (by decide)⟩) = gm m c (ix3 0 (row t s) k) := by
  unfold X0_2 Pipeline.Window.fill
  rw [dif_pos (moved0_2 t _)]
  refine Eq.trans (b := V m c main_v4 (ix2 (row t s) ⟨k.val, Nat.lt_of_lt_of_le k.isLt (by decide)⟩)) ?_ ?_
  · unfold iblk; show V m c main_v4 _ = _; generalize V m c main_v4 = w; blk_ext [idx_val t]
  · rw [V_gates]; exact packed_low _ _ _ k

theorem gates_high (s : Fin 512) (k : Fin 1024) : X0_2 m c t (ix2 s ⟨1024 + k.val, Nat.add_lt_add_left k.isLt 1024⟩) = gf m c (ix3 0 (row t s) k) := by
  unfold X0_2 Pipeline.Window.fill
  rw [dif_pos (moved0_2 t _)]
  refine Eq.trans (b := V m c main_v4 (ix2 (row t s) ⟨1024 + k.val, Nat.lt_of_lt_of_le (Nat.add_lt_add_left k.isLt 1024) (by decide)⟩)) ?_ ?_
  · unfold iblk; show V m c main_v4 _ = _; generalize V m c main_v4 = w; blk_ext [idx_val t]
  · rw [V_gates]; exact packed_high _ _ _ k

/-- The two stores of one grid point, element by element. -/
theorem low_point (s : Fin 512) (k : Fin 1024) :
    (k0_pay1 (iblk m c 0 t) (View.ld (X0_2 m c t) (Rect.unit ![0, 0] ![512, 1024] inb_S512x2048_S512x1024_0_0)) : FVec Ideal S512x1024 .bf16) (ix2 s k)
      = form (om m c) (og m c) (gm m c) (gf m c) (ix2 (row t s) ⟨k.val, Nat.lt_of_lt_of_le k.isLt (by decide)⟩) := by
  refine Eq.trans ?_ (dif_pos k.isLt).symm
  pointwise [k0_pay1, gated]
  rw [blk_om m c t s k, gates_low m c t s k]

theorem high_point (s : Fin 512) (k : Fin 1024) :
    (k0_pay2 (iblk m c 1 t) (View.ld (X0_2 m c t) (Rect.unit ![0, 1024] ![512, 1024] inb_S512x2048_S512x1024_0_1024)) : FVec Ideal S512x1024 .bf16) (ix2 s k)
      = form (om m c) (og m c) (gm m c) (gf m c) (ix2 (row t s) ⟨1024 + k.val, Nat.add_lt_add_left k.isLt 1024⟩) := by
  refine Eq.trans ?_ (dif_neg (by show ¬1024 + k.val < 1024; omega)).symm
  pointwise [k0_pay2, gated]
  rw [blk_of m c t s k, gates_high m c t s k]

theorem final : (dats m 0 c).arrAt 3 (cfgs 0).N = form (om m c) (og m c) (gm m c) (gf m c) := by
  refine (dats m 0 c).arrAt_eq_of_covers 3 _ (by decide +kernel) fun t hf y => ?_
  blk_simp; rw [after0_3]; unfold outsAt0; frame_out
  refine Eq.trans (b := form (om m c) (og m c) (gm m c) (gf m c) (ix2 (row t (y 0)) (y 1))) ?_ ?_
  · canon_tiles x h
    case piece0 =>
      refine Eq.trans ?_ ((high_point m c t (x 0) (x 1)).trans ?_) <;> blk_ext
    case piece1 =>
      refine Eq.trans ?_ ((low_point m c t (x 0) (x 1)).trans ?_) <;> blk_ext
  · blk_ext [idx_val t]

/-- The whole run: the result is the reference's, the arguments are unchanged. -/
theorem kernel_run (ρ : Dev nD → PrngReg) : θ_run defs (onTc (τ := τ) (main (F := Ideal))) ⟨m, fun _ => 0, ρ⟩ fun r => ∀ c : Dev nD,
    r.2.mem ((c.tc : Thread nD τ).loc main_v9) = Cert.Reference11Ideal.Read.val_main_v9 (F := Ideal) (om m c) (og m c) (gm m c) (gf m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Kernel11Ideal.Gen.run_main m ρ & Cert.Kernel11Ideal.Gen.unchanged m ρ
  · exact (final m c).trans (ref_eq _ _ _ _).symm

end Cert.GateFwd
end
-- ==== Proof.GateFwdClaim.lean ====
/- The gates on the attentions' results: the claims about this call, from the kernel's run and the reference's run. -/
module

public import proofs.«01_k».proof.Defs
public import proofs.«01_k».proof.Proof.Gen.Kernel11.Frame
public import proofs.«01_k».proof.Proof.Gen.Reference11Ideal.Run
public import proofs.«01_k».proof.Proof.Gen.Reference11Ideal.Read
public import proofs.«01_k».proof.Proof.GateFwd
public import Idealize.ShloMosaic.Adequacy
public import Idealize.ShloMosaic.Init

@[expose] public section

set_option maxRecDepth 16384

noncomputable section

namespace Cert.GateFwd

open Idealize.ShloMosaic Idealize.SL.Sem

/-- The two idealized programs leave the same results. -/
theorem algebraic : Cert.algebraic_Kernel11Ideal_Reference11Ideal := by
  pair_intro
  · exact kernel_run m g
  · refine (θ_run Cert.Reference11Ideal.defs _ _).mono (fun r h c => ?_) (Cert.Reference11Ideal.Value.run m' g')
    obtain ⟨e0, e1, e2, e3⟩ := hagree c
    obtain ⟨a0, a1⟩ := h c
    refine ⟨a0.trans ?_, a1⟩
    rw [e0, e1, e2, e3]
    exact Cert.Reference11Ideal.Read.val_main_v9_eq _ _ _ _

/-- The reference's run leaves its arguments as they were; it declares no semaphore. -/
theorem frame_reference : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run m ρ)

end Cert.GateFwd

end
-- ==== Proof.MlaProjHost.lean ====
/- The latent projections: what the host hands the launch and what a grid point's blocks hold, over the argument arrays. -/
module

public import proofs.«01_k».proof.Proof.Gen.Kernel12Ideal.Frame
public import proofs.«01_k».proof.Proof.Gen.Reference12Ideal.Read
public import Idealize.ShloMosaic.Lib.Pipeline.ValueKit
public import proofs.«01_k».proof.Proof.RealOps

@[expose] public section

set_option maxRecDepth 16384

noncomputable section

open Idealize.ShloMosaic Idealize.ShloMosaic.TcCoe Idealize.SL.Sem
open Idealize.ShloMosaic.Pipeline (Dat)
open scoped BigOperators

namespace Cert.MlaProj
open Cert.Kernel12Ideal Cert.Kernel12Ideal.Gen Cert.Reference12Ideal.Read

variable (m : (ℓ : Loc nD τ sig) → Buf (Elt Ideal) ℓ) (c : Dev nD) (t : Fin cfg0.N)

/-- The latent of the queries. -/
abbrev aql : FVec Ideal S1x4096x768 .f32 := m ((c : Thread nD τ).loc main_arg0)
/-- The latent of the keys and values. -/
abbrev akvl : FVec Ideal S1x4096x512 .f32 := m ((c : Thread nD τ).loc main_arg1)
/-- The shared key before its rotation. -/
abbrev akr : FVec Ideal S1x4096x64 .f32 := m ((c : Thread nD τ).loc main_arg2)
/-- The positions. -/
abbrev apos : IVec S1x4096 32 := m ((c : Thread nD τ).loc main_arg3)
/-- The gain of the queries' norm. -/
abbrev agq : FVec Ideal S1x768 .f32 := m ((c : Thread nD τ).loc main_arg4)
/-- The weights from latent to queries. -/
abbrev awq : FVec Ideal S1x768x1536 .f32 := m ((c : Thread nD τ).loc main_arg5)
/-- The gain of the other norm. -/
abbrev agk : FVec Ideal S1x512 .f32 := m ((c : Thread nD τ).loc main_arg6)
/-- The weights from latent to keys and values. -/
abbrev awkv : FVec Ideal S1x512x2048 .f32 := m ((c : Thread nD τ).loc main_arg7)

/-- The packed latents and key, with columns nothing reads around them. -/
def packed (ql : FVec Ideal S1x4096x768 .f32) (kv : FVec Ideal S1x4096x512 .f32) (kr : FVec Ideal S1x4096x64 .f32) : FVec Ideal S4096x6656 .bf16 :=
  truncf (F := Ideal) .bf16 (concatenate S4096x6656 1
    [⟨S4096x4096, broadcastInDim S4096x4096 ![] bcast_S_S4096x4096 (constant S_ .f32 0x00000000#32)⟩,
     ⟨S4096x512, shapeCast S4096x512 kv shapeCasts_S1x4096x512_S4096x512⟩,
     ⟨S4096x768, shapeCast S4096x768 ql shapeCasts_S1x4096x768_S4096x768⟩,
     ⟨S4096x1024, broadcastInDim S4096x1024 ![] bcast_S_S4096x1024 (constant S_ .f32 0x00000000#32)⟩,
     ⟨S4096x64, shapeCast S4096x64 kr shapeCasts_S1x4096x64_S4096x64⟩,
     ⟨S4096x192, broadcastInDim S4096x192 ![] bcast_S_S4096x192 (constant S_ .f32 0x00000000#32)⟩]
    concatenates_S4096x4096_S4096x512_S4096x768_S4096x1024_S4096x64_S4096x192_S4096x6656_d1) bitsLt_bf16_f32

theorem packed_kv (ql : FVec Ideal S1x4096x768 .f32) (kv : FVec Ideal S1x4096x512 .f32) (kr : FVec Ideal S1x4096x64 .f32) (r : Fin 4096) (k : Fin 512) :
    packed ql kv kr (ix2 r ⟨4096 + k.val, Nat.lt_of_lt_of_le (Nat.add_lt_add_left k.isLt 4096) (by decide)⟩) = kv (ix3 0 r k) := by
  pointwise [packed]

theorem packed_ql (ql : FVec Ideal S1x4096x768 .f32) (kv : FVec Ideal S1x4096x512 .f32) (kr : FVec Ideal S1x4096x64 .f32) (r : Fin 4096) (k : Fin 768) :
    packed ql kv kr (ix2 r ⟨4608 + k.val, Nat.lt_of_lt_of_le (Nat.add_lt_add_left k.isLt 4608) (by decide)⟩) = ql (ix3 0 r k) := by
  pointwise [packed]
  rw [dif_neg (by omega), dif_neg (by omega), dif_pos (by omega)]
  exact congrArg ql (congrArg (ix3 0 r) (Fin.ext (by show 4608 + k.val - 4096 - 512 = k.val; omega)))

theorem packed_kr (ql : FVec Ideal S1x4096x768 .f32) (kv : FVec Ideal S1x4096x512 .f32) (kr : FVec Ideal S1x4096x64 .f32) (r : Fin 4096) (k : Fin 64) :
    packed ql kv kr (ix2 r ⟨6400 + k.val, Nat.lt_of_lt_of_le (Nat.add_lt_add_left k.isLt 6400) (by decide)⟩) = kr (ix3 0 r k) := by
  pointwise [packed]
  rw [dif_neg (by omega), dif_neg (by omega), dif_neg (by omega), dif_neg (by omega), dif_pos (by omega)]
  exact congrArg kr (congrArg (ix3 0 r) (Fin.ext (by show 6400 + k.val - 4096 - 512 - 768 - 1024 = k.val; omega)))

/-- The weights to the queries with each head's 192 columns followed by 64 zeros. -/
def padded (w : FVec Ideal S1x768x1536 .f32) : FVec Ideal S768x2048 .bf16 :=
  truncf (F := Ideal) .bf16 (shapeCast S768x2048 (pad S768x8x256 ![0, 0, 0] ![0, 0, 64] ![0, 0, 0]
    (shapeCast S768x8x192 (shapeCast S768x1536 w shapeCasts_S1x768x1536_S768x1536) shapeCasts_S768x1536_S768x8x192)
    (sitofp .f32 (constantI S_ 32 0#32)) pads_S768x8x192_S768x8x256_000_000_0640 h_S_) shapeCasts_S768x8x256_S768x2048) bitsLt_bf16_f32

theorem padded_at (w : FVec Ideal S1x768x1536 .f32) (k : Fin 768) (h : Fin 8) (d : Fin 192) :
    padded w (ix2 k ⟨256 * h.val + d.val, by omega⟩) = w (ix3 0 k ⟨192 * h.val + d.val, by omega⟩) := by
  pointwise [padded]
  rw [dif_pos (by omega)]
  exact congrArg w (congrArg (ix3 0 k) (Fin.ext (by show h.val * 192 + (256 * h.val + d.val) % 256 = 192 * h.val + d.val; omega)))

/-- A row of 32 zeros for every position. -/
def zeros32 : FVec Ideal S4096x32 .f32 := broadcastInDim S4096x32 ![] bcast_S_S4096x32 (constant S_ .f32 0x00000000#32)
/-- The cosines, twice, then zeros. -/
def cosForm (p : IVec S1x4096 32) : FVec Ideal S4096x128 .f32 :=
  concatenate S4096x128 1 [⟨S4096x32, val_main_v17 (F := Ideal) p⟩, ⟨S4096x32, val_main_v17 (F := Ideal) p⟩, ⟨S4096x32, zeros32⟩, ⟨S4096x32, zeros32⟩] concatenates_S4096x32_S4096x32_S4096x32_S4096x32_S4096x128_d1
/-- The negated sines, then zeros. -/
def sinAForm (p : IVec S1x4096 32) : FVec Ideal S4096x128 .f32 :=
  concatenate S4096x128 1 [⟨S4096x32, Host.negf (val_main_v18 (F := Ideal) p)⟩, ⟨S4096x32, zeros32⟩, ⟨S4096x32, zeros32⟩, ⟨S4096x32, zeros32⟩] concatenates_S4096x32_S4096x32_S4096x32_S4096x32_S4096x128_d1
/-- The sines in the second place of 32 columns, zeros elsewhere. -/
def sinBForm (p : IVec S1x4096 32) : FVec Ideal S4096x128 .f32 :=
  concatenate S4096x128 1 [⟨S4096x32, zeros32⟩, ⟨S4096x32, val_main_v18 (F := Ideal) p⟩, ⟨S4096x32, zeros32⟩, ⟨S4096x32, zeros32⟩] concatenates_S4096x32_S4096x32_S4096x32_S4096x32_S4096x128_d1

theorem V0_split : V0 m c = StableHlo.after hostOps0_2 (StableHlo.after hostOps0_1 (StableHlo.after hostOps0 (fun b => m (c, b)))) := by
  show StableHlo.after (List.flatten [hostOps0, hostOps0_1, hostOps0_2]) _ = _
  rw [← StableHlo.after_append, ← StableHlo.after_append]; rfl

section Lines
variable (W : Valuation τ sig (Elt Ideal))

set_option maxRecDepth 400000 in
theorem cos_line : StableHlo.after hostOps0_2 W (Proc.devRef .tc main_v35) = cosForm (W (Proc.devRef .tc main_arg3)) := by
  after_results
  rfl
set_option maxRecDepth 400000 in
theorem sinA_line : StableHlo.after hostOps0_2 W (Proc.devRef .tc main_v37) = sinAForm (W (Proc.devRef .tc main_arg3)) := by
  after_results
  rfl
set_option maxRecDepth 400000 in
theorem sinB_line : StableHlo.after hostOps0_2 W (Proc.devRef .tc main_v38) = sinBForm (W (Proc.devRef .tc main_arg3)) := by
  after_results
  rfl
end Lines

theorem first_pos : StableHlo.after hostOps0_1 (StableHlo.after hostOps0 (fun b => m (c, b))) (Proc.devRef .tc main_arg3) = apos m c := by exact rfl

theorem V_cos : V m c main_v35 = cosForm (apos m c) := by
  show V0 m c (Proc.devRef .tc main_v35) = _
  rw [V0_split, cos_line, first_pos]
theorem V_sinA : V m c main_v37 = sinAForm (apos m c) := by
  show V0 m c (Proc.devRef .tc main_v37) = _
  rw [V0_split, sinA_line, first_pos]
theorem V_sinB : V m c main_v38 = sinBForm (apos m c) := by
  show V0 m c (Proc.devRef .tc main_v38) = _
  rw [V0_split, sinB_line, first_pos]
theorem V_packed : V m c main_v7 = packed (aql m c) (akvl m c) (akr m c) := by exact rfl
theorem V_wq : V m c main_v12 = padded (awq m c) := by exact rfl
theorem V_wkv : V m c main_v14 = truncf (F := Ideal) .bf16 (shapeCast S512x2048 (awkv m c) shapeCasts_S1x512x2048_S512x2048) bitsLt_bf16_f32 := by exact rfl
theorem V_gq : V m c main_arg4 = agq m c := by exact rfl
theorem V_gk : V m c main_arg6 = agk m c := by exact rfl

end Cert.MlaProj
-- ==== Proof.MlaProjTile.lean ====
/- The latent projections: what one grid point leaves in its five blocks, over the argument arrays. -/
module

public import proofs.«01_k».proof.Proof.MlaProjHost

@[expose] public section

set_option maxRecDepth 16384

noncomputable section

open Idealize.ShloMosaic Idealize.ShloMosaic.TcCoe Idealize.SL.Sem
open Idealize.ShloMosaic.Pipeline (Dat)
open scoped BigOperators

namespace Cert.MlaProj
open Cert.Kernel12Ideal Cert.Kernel12Ideal.Gen

/-- One entry of a rotated row of 128 columns: the entry, the one 32 places on and the one 32 places back, each times its table's. -/
def rotE (x : Fin 128 → EReal) (a b d : EReal) (l : Fin 128) : EReal :=
  x l * a + x ⟨(l.val + 32) % 128, Nat.mod_lt _ (by decide)⟩ * b + x ⟨(l.val + 96) % 128, Nat.mod_lt _ (by decide)⟩ * d

/-- One entry of a normed row. -/
def normE {n : ℕ} (N : BitVec 32) (x : Fin n → EReal) (g : EReal) (k : Fin n) : EReal :=
  x k * Ideal.rsqrt (Ideal.div (∑ j, x j * x j) (Ideal.ofBits .f32 N) + Ideal.ofBits .f32 0x358637BD#32) * g

/-- A block of 128 columns rotated. -/
def rotBlk (x a b d : FVec Ideal S512x128 .f32) : FVec Ideal S512x128 .bf16 :=
  truncf (F := Ideal) .bf16 (addf (addf (mulf x a) (mulf (dynamicRotate 1 96#32 none x rotates_S512x128_d1) b)) (mulf (dynamicRotate 1 32#32 none x rotates_S512x128_d1) d)) bitsLt_bf16_f32

theorem rotBlk_at (x a b d : FVec Ideal S512x128 .f32) (r : Fin 512) (l : Fin 128) :
    rotBlk x a b d (ix2 r l) = rotE (fun l' => x (ix2 r l')) (a (ix2 r l)) (b (ix2 r l)) (d (ix2 r l)) l := by
  have e1 : (l.val + 128 - 96) % 128 = (l.val + 32) % 128 := by omega
  have e2 : (l.val + 128 - 32) % 128 = (l.val + 96) % 128 := by omega
  pointwise [rotBlk, rotE]
  simp only [e1, e2]

theorem qn_at (x : FVec Ideal S512x768 .bf16) (g : FVec Ideal S1x768 .f32) (r : Fin 512) (k : Fin 768) :
    k0_pay7 (F := Ideal) x g (ix2 r k) = normE 0x44400000#32 (fun j => x (ix2 r j)) (g (ix2 0 k)) k := by
  pointwise [k0_pay7, normE]

theorem kvn_at (x : FVec Ideal S512x512 .bf16) (g : FVec Ideal S1x512 .f32) (r : Fin 512) (k : Fin 512) :
    k0_pay8 (F := Ideal) x g (ix2 r k) = normE 0x44000000#32 (fun j => x (ix2 r j)) (g (ix2 0 k)) k := by
  pointwise [k0_pay8, normE]

theorem kv_at (x : FVec Ideal S512x512 .f32) (w : FVec Ideal S512x2048 .bf16) (r : Fin 512) (j : Fin 2048) :
    k0_pay11 (F := Ideal) x w (ix2 r j) = ∑ k, x (ix2 r k) * w (ix2 k j) := by
  pointwise [k0_pay11, k0_pay9]

theorem q_at (x : FVec Ideal S512x768 .bf16) (w : FVec Ideal S768x2048 .bf16) (r : Fin 512) (j : Fin 2048) :
    k0_pay12 (F := Ideal) x w (ix2 r j) = ∑ k, x (ix2 r k) * w (ix2 k j) := by
  pointwise [k0_pay12]

/-- The two stores of one head of the queries: the columns without positions, and the rotated ones. -/
abbrev loRect (h : ℕ) : Rect S512x2048 := Rect.unit (s := S512x2048) ![0, 1792 - 256 * (7 - h)] S512x128.size (fun a => by fin_cases a <;> simp <;> omega)
abbrev hiRect (h : ℕ) : Rect S512x2048 := Rect.unit (s := S512x2048) ![0, 1920 - 256 * (7 - h)] S512x128.size (fun a => by fin_cases a <;> simp <;> omega)

theorem lo_slices (h : ℕ) : S512x2048.Slices ![0, 1792 - 256 * (7 - h)] S512x128 := ⟨rfl, fun a => by fin_cases a <;> simp <;> omega⟩
theorem hi_slices (h : ℕ) : S512x2048.Slices ![0, 1920 - 256 * (7 - h)] S512x128 := ⟨rfl, fun a => by fin_cases a <;> simp <;> omega⟩

def loBlk (q : FVec Ideal S512x2048 .f32) (h : ℕ) : FVec Ideal S512x128 .bf16 :=
  truncf (F := Ideal) .bf16 (extractStridedSlice S512x128 ![0, 1792 - 256 * (7 - h)] q (lo_slices h)) bitsLt_bf16_f32
def hiBlk (q : FVec Ideal S512x2048 .f32) (a b d : FVec Ideal S512x128 .f32) (h : ℕ) : FVec Ideal S512x128 .bf16 :=
  rotBlk (extractStridedSlice S512x128 ![0, 1920 - 256 * (7 - h)] q (hi_slices h)) a b d

/-- The stores of the queries' block, the last head first. -/
def qPieces (q : FVec Ideal S512x2048 .f32) (a b d : FVec Ideal S512x128 .f32) : List (View.Piece (Elt Ideal) S512x2048 .bf16) :=
  (List.range 8).reverse.flatMap fun h => [⟨hiRect h, hiBlk q a b d h⟩, ⟨loRect h, loBlk q h⟩]

/-- The queries' block entry by entry. -/
def qForm (q : FVec Ideal S512x2048 .f32) (a b d : FVec Ideal S512x128 .f32) : FVec Ideal S512x2048 .bf16 := fun i =>
  if h : (i 1).val % 256 < 128 then q i
  else rotE (fun l => q (ix2 (i 0) ⟨256 * ((i 1).val / 256) + 128 + l.val, by have := (i 1).isLt; simp at this; omega⟩))
    (a (ix2 (i 0) ⟨(i 1).val % 256 - 128, by omega⟩)) (b (ix2 (i 0) ⟨(i 1).val % 256 - 128, by omega⟩)) (d (ix2 (i 0) ⟨(i 1).val % 256 - 128, by omega⟩)) ⟨(i 1).val % 256 - 128, by omega⟩

theorem lo_at (q : FVec Ideal S512x2048 .f32) (a b d : FVec Ideal S512x128 .f32) (h : ℕ) (hh : h < 8) (r : Fin 512) (l : Fin 128) :
    loBlk q h (ix2 r l) = qForm q a b d (ix2 r ⟨1792 - 256 * (7 - h) + l.val, by omega⟩) := by
  unfold qForm
  rw [dif_pos (by show (1792 - 256 * (7 - h) + l.val) % 256 < 128; omega)]
  pointwise [loBlk]

theorem hi_at (q : FVec Ideal S512x2048 .f32) (a b d : FVec Ideal S512x128 .f32) (h : ℕ) (hh : h < 8) (r : Fin 512) (l : Fin 128) :
    hiBlk q a b d h (ix2 r l) = qForm q a b d (ix2 r ⟨1920 - 256 * (7 - h) + l.val, by omega⟩) := by
  unfold hiBlk
  rw [rotBlk_at]
  unfold qForm
  rw [dif_neg (by show ¬(1920 - 256 * (7 - h) + l.val) % 256 < 128; omega)]
  have el : (⟨(1920 - 256 * (7 - h) + l.val) % 256 - 128, by omega⟩ : Fin 128) = l := Fin.ext (by show (1920 - 256 * (7 - h) + l.val) % 256 - 128 = l.val; omega)
  have ex : (fun l' : Fin 128 => extractStridedSlice S512x128 ![0, 1920 - 256 * (7 - h)] q (hi_slices h) (ix2 r l'))
      = fun l' : Fin 128 => q (ix2 r ⟨256 * ((1920 - 256 * (7 - h) + l.val) / 256) + 128 + l'.val, by omega⟩) := funext fun l' => by
    pointwise
    exact congrArg q (congrArg (ix2 r) (Fin.ext (by show 1920 - 256 * (7 - h) + l'.val = 256 * ((1920 - 256 * (7 - h) + l.val) / 256) + 128 + l'.val; omega)))
  rw [ex]
  show rotE _ _ _ _ l = rotE _ (a (ix2 r ⟨(1920 - 256 * (7 - h) + l.val) % 256 - 128, by omega⟩)) (b (ix2 r ⟨(1920 - 256 * (7 - h) + l.val) % 256 - 128, by omega⟩)) (d (ix2 r ⟨(1920 - 256 * (7 - h) + l.val) % 256 - 128, by omega⟩)) ⟨(1920 - 256 * (7 - h) + l.val) % 256 - 128, by omega⟩
  simp only [el]
  rfl

end Cert.MlaProj
-- ==== Proof.MlaProjKernel.lean ====
/- The latent projections: what the five result arrays of the launch hold, and the results as the caller reads them. -/
module

public import proofs.«01_k».proof.Proof.MlaProjTile

@[expose] public section

set_option maxRecDepth 16384

noncomputable section

open Idealize.ShloMosaic Idealize.ShloMosaic.TcCoe Idealize.SL.Sem
open Idealize.ShloMosaic.Pipeline (Dat)
open scoped BigOperators

namespace Cert.MlaProj
open Cert.Kernel12Ideal Cert.Kernel12Ideal.Gen

section Forms
variable (P : FVec Ideal S4096x6656 .bf16) (gq : FVec Ideal S1x768 .f32) (gk : FVec Ideal S1x512 .f32) (A B D : FVec Ideal S4096x128 .f32)
  (wq : FVec Ideal S768x2048 .bf16) (wkv : FVec Ideal S512x2048 .bf16)

theorem kv_lt (k : Fin 512) : 4096 + k.val < 6656 := by omega
theorem ql_lt (k : Fin 768) : 4608 + k.val < 6656 := by omega
theorem kr_lt (k : Fin 128) : 6400 + k.val < 6656 := by omega
theorem rot_lt (j : Fin 2048) (l : Fin 128) : 256 * (j.val / 256) + 128 + l.val < 2048 := by omega
theorem cut_lt (j : Fin 2048) : j.val % 256 - 128 < 128 := by omega

/-- The queries' latent, normed. -/
def qnArr : FVec Ideal S4096x768 .bf16 := fun i => normE 0x44400000#32 (fun j => P (ix2 (i 0) ⟨4608 + j.val, ql_lt j⟩)) (gq (ix2 0 (i 1))) (i 1)
/-- The other latent, normed. -/
def kvnArr : FVec Ideal S4096x512 .bf16 := fun i => normE 0x44000000#32 (fun j => P (ix2 (i 0) ⟨4096 + j.val, kv_lt j⟩)) (gk (ix2 0 (i 1))) (i 1)
/-- The shared key, rotated. -/
def krArr : FVec Ideal S4096x128 .bf16 := fun i => rotE (fun l => P (ix2 (i 0) ⟨6400 + l.val, kr_lt l⟩)) (A (ix2 (i 0) (i 1))) (B (ix2 (i 0) (i 1))) (D (ix2 (i 0) (i 1))) (i 1)
/-- The queries before their rotation. -/
def rawArr : FVec Ideal S4096x2048 .f32 := fun i => ∑ k, qnArr P gq (ix2 (i 0) k) * wq (ix2 k (i 1))
/-- The keys and values. -/
def kvArr : FVec Ideal S4096x2048 .bf16 := fun i => ∑ k, kvnArr P gk (ix2 (i 0) k) * wkv (ix2 k (i 1))
/-- The queries, the second half of each head's 256 columns rotated. -/
def qArr (Q : FVec Ideal S4096x2048 .f32) : FVec Ideal S4096x2048 .bf16 := fun i =>
  if (i 1).val % 256 < 128 then Q (ix2 (i 0) (i 1))
  else rotE (fun l => Q (ix2 (i 0) ⟨256 * ((i 1).val / 256) + 128 + l.val, rot_lt (i 1) l⟩))
    (A (ix2 (i 0) ⟨(i 1).val % 256 - 128, cut_lt (i 1)⟩)) (B (ix2 (i 0) ⟨(i 1).val % 256 - 128, cut_lt (i 1)⟩)) (D (ix2 (i 0) ⟨(i 1).val % 256 - 128, cut_lt (i 1)⟩)) ⟨(i 1).val % 256 - 128, cut_lt (i 1)⟩
end Forms

variable (m : (ℓ : Loc nD τ sig) → Buf (Elt Ideal) ℓ) (c : Dev nD) (t : Fin cfg0.N)

theorem idx_val : ∀ t : Fin cfg0.N, win0_0.index t = ![t.val, 6] ∧ win0_1.index t = ![t.val, 8] ∧ win0_2.index t = ![t.val, 50] ∧ win0_3.index t = ![0, 0]
    ∧ win0_4.index t = ![0, 0] ∧ win0_5.index t = ![t.val, 0] ∧ win0_6.index t = ![t.val, 0] ∧ win0_7.index t = ![t.val, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

/-- The row of the arrays a grid point's row is. -/
abbrev row (t : Fin cfg0.N) (r : Fin 512) : Fin 4096 := ⟨t.val * 512 + r.val, by have : t.val < 8 := t.isLt; omega⟩

theorem blk_ql (r : Fin 512) (k : Fin 768) : X0_0 m c t (ix2 r k) = V m c main_v7 (ix2 (row t r) ⟨4608 + k.val, ql_lt k⟩) := by
  unfold X0_0 Pipeline.Window.fill; rw [dif_pos (moved0_0 t _)]
  unfold iblk; show V m c main_v7 _ = _; generalize V m c main_v7 = w; blk_ext [idx_val t]
theorem blk_kv (r : Fin 512) (k : Fin 512) : iblk m c 1 t (ix2 r k) = V m c main_v7 (ix2 (row t r) ⟨4096 + k.val, kv_lt k⟩) := by
  unfold iblk; show V m c main_v7 _ = _; generalize V m c main_v7 = w; blk_ext [idx_val t]
theorem blk_kr (r : Fin 512) (l : Fin 128) : iblk m c 2 t (ix2 r l) = V m c main_v7 (ix2 (row t r) ⟨6400 + l.val, kr_lt l⟩) := by
  unfold iblk; show V m c main_v7 _ = _; generalize V m c main_v7 = w; blk_ext [idx_val t]
theorem blk_gq : iblk m c 3 t = V m c main_arg4 := by
  funext y; unfold iblk; show V m c main_arg4 _ = _; generalize V m c main_arg4 = w; blk_ext [idx_val t]
theorem blk_gk : iblk m c 4 t = V m c main_arg6 := by
  funext y; unfold iblk; show V m c main_arg6 _ = _; generalize V m c main_arg6 = w; blk_ext [idx_val t]
theorem blk_cos (r : Fin 512) (l : Fin 128) : iblk m c 5 t (ix2 r l) = V m c main_v35 (ix2 (row t r) l) := by
  unfold iblk; show V m c main_v35 _ = _; generalize V m c main_v35 = w; blk_ext [idx_val t]
theorem blk_sinA (r : Fin 512) (l : Fin 128) : iblk m c 6 t (ix2 r l) = V m c main_v37 (ix2 (row t r) l) := by
  unfold iblk; show V m c main_v37 _ = _; generalize V m c main_v37 = w; blk_ext [idx_val t]
theorem blk_sinB (r : Fin 512) (l : Fin 128) : iblk m c 7 t (ix2 r l) = V m c main_v38 (ix2 (row t r) l) := by
  unfold iblk; show V m c main_v38 _ = _; generalize V m c main_v38 = w; blk_ext [idx_val t]
theorem blk_wq : iblk m c 8 t = V m c main_v12 := by
  funext y; unfold iblk; show V m c main_v12 _ = _; generalize V m c main_v12 = w; blk_ext [idx_val t]
theorem blk_wkv : iblk m c 9 t = V m c main_v14 := by
  funext y; unfold iblk; show V m c main_v14 _ = _; generalize V m c main_v14 = w; blk_ext [idx_val t]

theorem qn_point (r : Fin 512) (k : Fin 768) : k0_pay7 (F := Ideal) (X0_0 m c t) (iblk m c 3 t) (ix2 r k) = qnArr (V m c main_v7) (V m c main_arg4) (ix2 (row t r) k) := by
  rw [qn_at, blk_gq, funext fun j => blk_ql m c t r j]; rfl
theorem kvn_point (r : Fin 512) (k : Fin 512) : k0_pay8 (F := Ideal) (iblk m c 1 t) (iblk m c 4 t) (ix2 r k) = kvnArr (V m c main_v7) (V m c main_arg6) (ix2 (row t r) k) := by
  rw [kvn_at, blk_gk, funext fun j => blk_kv m c t r j]; rfl
theorem kvr_point (r : Fin 512) (k : Fin 512) : k0_pay9 (F := Ideal) (k0_pay8 (F := Ideal) (iblk m c 1 t) (iblk m c 4 t)) (ix2 r k) = kvnArr (V m c main_v7) (V m c main_arg6) (ix2 (row t r) k) := by
  rw [← kvn_point]; pointwise [k0_pay9]
theorem kvp_point (r : Fin 512) (j : Fin 2048) : k0_pay11 (F := Ideal) (k0_pay8 (F := Ideal) (iblk m c 1 t) (iblk m c 4 t)) (iblk m c 9 t) (ix2 r j) = kvArr (V m c main_v7) (V m c main_arg6) (V m c main_v14) (ix2 (row t r) j) := by
  rw [kv_at, blk_wkv]; exact Finset.sum_congr rfl fun k _ => by rw [kvn_point]; rfl
theorem raw_point (r : Fin 512) (j : Fin 2048) : k0_pay12 (F := Ideal) (k0_pay7 (F := Ideal) (X0_0 m c t) (iblk m c 3 t)) (iblk m c 8 t) (ix2 r j) = rawArr (V m c main_v7) (V m c main_arg4) (V m c main_v12) (ix2 (row t r) j) := by
  rw [q_at, blk_wq]; exact Finset.sum_congr rfl fun k _ => by rw [qn_point]; rfl

theorem tab4 (x : FVec Ideal S512x128 .f32) : k0_pay4 (F := Ideal) x = x := by funext i; pointwise [k0_pay4]
theorem tab5 (x : FVec Ideal S512x128 .f32) : k0_pay5 (F := Ideal) x = x := by funext i; pointwise [k0_pay5]
theorem tab6 (x : FVec Ideal S512x128 .f32) : k0_pay6 (F := Ideal) x = x := by funext i; pointwise [k0_pay6]

theorem kr_pay (a b d : FVec Ideal S512x128 .f32) (x : FVec Ideal S512x128 .bf16) : k0_pay10 (F := Ideal) a b d x
    = rotBlk (extf .f32 (shapeCast S512x128 x shapeCasts_S512x128_S512x128) bitsLt_bf16_f32) a b d := rfl
theorem key_at (x : FVec Ideal S512x128 .bf16) (r : Fin 512) (l : Fin 128) :
    extf (F := Ideal) .f32 (shapeCast S512x128 x shapeCasts_S512x128_S512x128) bitsLt_bf16_f32 (ix2 r l) = x (ix2 r l) := by pointwise

theorem kr_point (r : Fin 512) (l : Fin 128) : k0_pay10 (F := Ideal) (k0_pay4 (F := Ideal) (iblk m c 5 t)) (k0_pay5 (F := Ideal) (iblk m c 6 t)) (k0_pay6 (F := Ideal) (iblk m c 7 t)) (iblk m c 2 t) (ix2 r l)
    = krArr (V m c main_v7) (V m c main_v35) (V m c main_v37) (V m c main_v38) (ix2 (row t r) l) := by
  rw [kr_pay, rotBlk_at, tab4, tab5, tab6, blk_cos, blk_sinA, blk_sinB, funext fun l' => (key_at _ r l').trans (blk_kr m c t r l')]; rfl

theorem q_point (r : Fin 512) (j : Fin 2048) :
    qForm (k0_pay12 (F := Ideal) (k0_pay7 (F := Ideal) (X0_0 m c t) (iblk m c 3 t)) (iblk m c 8 t)) (k0_pay4 (F := Ideal) (iblk m c 5 t)) (k0_pay5 (F := Ideal) (iblk m c 6 t)) (k0_pay6 (F := Ideal) (iblk m c 7 t)) (ix2 r j)
      = qArr (V m c main_v35) (V m c main_v37) (V m c main_v38) (rawArr (V m c main_v7) (V m c main_arg4) (V m c main_v12)) (ix2 (row t r) j) := by
  rw [tab4, tab5, tab6]
  unfold qForm qArr
  by_cases h : j.val % 256 < 128
  · rw [dif_pos (show (ix2 r j 1).val % 256 < 128 from h), if_pos (show (ix2 (row t r) j 1).val % 256 < 128 from h)]
    exact raw_point m c t r j
  · rw [dif_neg (show ¬(ix2 r j 1).val % 256 < 128 from h), if_neg (show ¬(ix2 (row t r) j 1).val % 256 < 128 from h)]
    show rotE (fun l' : Fin 128 => k0_pay12 (F := Ideal) (k0_pay7 (F := Ideal) (X0_0 m c t) (iblk m c 3 t)) (iblk m c 8 t) (ix2 r ⟨256 * (j.val / 256) + 128 + l'.val, rot_lt j l'⟩)) (iblk m c 5 t (ix2 r ⟨j.val % 256 - 128, cut_lt j⟩)) (iblk m c 6 t (ix2 r ⟨j.val % 256 - 128, cut_lt j⟩)) (iblk m c 7 t (ix2 r ⟨j.val % 256 - 128, cut_lt j⟩)) _ = _
    rw [funext fun l' : Fin 128 => raw_point m c t r ⟨256 * (j.val / 256) + 128 + l'.val, rot_lt j l'⟩, blk_cos, blk_sinA, blk_sinB]; rfl

theorem final_qn : (dats m 0 c).arrAt 10 (cfgs 0).N = qnArr (V m c main_v7) (V m c main_arg4) := by
  refine (dats m 0 c).arrAt_eq_of_covers 10 _ (by decide +kernel) fun t hf y => ?_
  blk_simp; rw [after0_10]; unfold outsAt0; frame_out
  refine Eq.trans (b := qnArr (V m c main_v7) (V m c main_arg4) (ix2 (row t (y 0)) (y 1))) ?_ ?_
  · refine Eq.trans ?_ (qn_point m c t (y 0) (y 1)); blk_ext
  · blk_ext [idx_val t]

theorem final_kvn : (dats m 0 c).arrAt 11 (cfgs 0).N = kvnArr (V m c main_v7) (V m c main_arg6) := by
  refine (dats m 0 c).arrAt_eq_of_covers 11 _ (by decide +kernel) fun t hf y => ?_
  blk_simp; rw [after0_11]; unfold outsAt0; frame_out
  refine Eq.trans (b := kvnArr (V m c main_v7) (V m c main_arg6) (ix2 (row t (y 0)) (y 1))) ?_ ?_
  · refine Eq.trans ?_ (kvr_point m c t (y 0) (y 1)); blk_ext
  · blk_ext [idx_val t]

theorem final_kr : (dats m 0 c).arrAt 12 (cfgs 0).N = krArr (V m c main_v7) (V m c main_v35) (V m c main_v37) (V m c main_v38) := by
  refine (dats m 0 c).arrAt_eq_of_covers 12 _ (by decide +kernel) fun t hf y => ?_
  blk_simp; rw [after0_12]; unfold outsAt0; frame_out
  refine Eq.trans (b := krArr (V m c main_v7) (V m c main_v35) (V m c main_v37) (V m c main_v38) (ix2 (row t (y 0)) (y 1))) ?_ ?_
  · refine Eq.trans ?_ (kr_point m c t (y 0) (y 1)); blk_ext
  · blk_ext [idx_val t]

theorem final_kv : (dats m 0 c).arrAt 14 (cfgs 0).N = kvArr (V m c main_v7) (V m c main_arg6) (V m c main_v14) := by
  refine (dats m 0 c).arrAt_eq_of_covers 14 _ (by decide +kernel) fun t hf y => ?_
  blk_simp; rw [after0_14]; unfold outsAt0; frame_out
  refine Eq.trans (b := kvArr (V m c main_v7) (V m c main_arg6) (V m c main_v14) (ix2 (row t (y 0)) (y 1))) ?_ ?_
  · refine Eq.trans ?_ (kvp_point m c t (y 0) (y 1)); blk_ext
  · generalize kvArr _ _ _ = w; blk_ext [idx_val t]

theorem q_cover (q : FVec Ideal S512x2048 .f32) (a b d : FVec Ideal S512x128 .f32) (y : S512x2048.Idx) : ∃ p ∈ qPieces q a b d, y ∈ p.1.set :=
  View.cover_of_tiledL (qPieces q a b d) S512x128.size (by sl_kernel_rfl) y

theorem q_out (y : S512x2048.Idx) : (outsAt0 m c t).2.2.2.1 y
    = qForm (k0_pay12 (F := Ideal) (k0_pay7 (F := Ideal) (X0_0 m c t) (iblk m c 3 t)) (iblk m c 8 t)) (k0_pay4 (F := Ideal) (iblk m c 5 t)) (k0_pay5 (F := Ideal) (iblk m c 6 t)) (k0_pay6 (F := Ideal) (iblk m c 7 t)) y := by
  unfold outsAt0; frame_out
  generalize X0_0 m c t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  show View.canon (qPieces (k0_pay12 (F := Ideal) (k0_pay7 (F := Ideal) x0 x3) x8) (k0_pay4 (F := Ideal) x5) (k0_pay5 (F := Ideal) x6) (k0_pay6 (F := Ideal) x7)) y = _
  refine View.canon_apply_of_pieces (Val := Elt Ideal) (e := .bf16) (qForm _ _ _ _) _ (fun p hp x => ?_) y ?_
  · obtain ⟨n, hn, hq⟩ := List.mem_flatMap.mp hp
    have hn' : n < 8 := List.mem_range.mp (List.mem_reverse.mp hn)
    rcases List.mem_cons.mp hq with rfl | hq
    · refine Eq.trans ?_ ((hi_at (k0_pay12 (F := Ideal) (k0_pay7 (F := Ideal) x0 x3) x8) (k0_pay4 (F := Ideal) x5) (k0_pay5 (F := Ideal) x6) (k0_pay6 (F := Ideal) x7) n hn' (x 0) (x 1)).trans ?_) <;> blk_ext
    · obtain rfl := List.mem_singleton.mp hq
      refine Eq.trans ?_ ((lo_at (k0_pay12 (F := Ideal) (k0_pay7 (F := Ideal) x0 x3) x8) (k0_pay4 (F := Ideal) x5) (k0_pay5 (F := Ideal) x6) (k0_pay6 (F := Ideal) x7) n hn' (x 0) (x 1)).trans ?_) <;> blk_ext
  · exact q_cover _ _ _ _ y

theorem final_q : (dats m 0 c).arrAt 13 (cfgs 0).N
    = qArr (V m c main_v35) (V m c main_v37) (V m c main_v38) (rawArr (V m c main_v7) (V m c main_arg4) (V m c main_v12)) := by
  refine (dats m 0 c).arrAt_eq_of_covers 13 _ (by decide +kernel) fun t hf y => ?_
  blk_simp; rw [after0_13]
  refine Eq.trans (b := qArr (V m c main_v35) (V m c main_v37) (V m c main_v38) (rawArr (V m c main_v7) (V m c main_arg4) (V m c main_v12)) (ix2 (row t (y 0)) (y 1))) ?_ ?_
  · refine (q_out m c t _).trans (Eq.trans ?_ (q_point m c t (y 0) (y 1))); blk_ext
  · blk_ext [idx_val t]

end Cert.MlaProj
-- ==== Proof.MlaProjReference.lean ====
/- The latent projections: the results as the caller reads them are the reference's. -/
module

public import proofs.«01_k».proof.Proof.MlaProjKernel

@[expose] public section

set_option maxRecDepth 16384

noncomputable section

open Idealize.ShloMosaic Idealize.ShloMosaic.TcCoe Idealize.SL.Sem
open Idealize.ShloMosaic.Pipeline (Dat)
open scoped BigOperators

namespace Cert.MlaProj
open Cert.Kernel12Ideal Cert.Kernel12Ideal.Gen Cert.Reference12Ideal.Read

/-! ## Columns -/

theorem q_lt (h : Fin 8) (d : Fin 192) : 192 * h.val + d.val < 1536 := by omega
theorem p_lt (h : Fin 8) (d : Fin 192) : 256 * h.val + d.val < 2048 := by omega
theorem w_lt (h : Fin 8) (l : Fin 128) : 256 * h.val + 128 + l.val < 2048 := by omega
theorem lo64 (l : Fin 32) : l.val < 64 := by omega
theorem hi64 (l : Fin 32) : 32 + l.val < 64 := by omega
theorem lo128 (l : Fin 32) : l.val < 128 := by omega
theorem hi128 (l : Fin 32) : 32 + l.val < 128 := by omega
theorem lo192 (l : Fin 32) : 128 + l.val < 192 := by omega
theorem hi192 (l : Fin 32) : 160 + l.val < 192 := by omega
theorem pass192 (d : Fin 128) : d.val < 192 := by omega
theorem of64 (l : Fin 64) : l.val < 128 := by omega

/-- Column `d` of head `h` among the 192 a head has. -/
abbrev qcol (h : Fin 8) (d : Fin 192) : Fin 1536 := ⟨192 * h.val + d.val, q_lt h d⟩
/-- The same column among the 256 a head has in the launch. -/
abbrev pcol (h : Fin 8) (d : Fin 192) : Fin 2048 := ⟨256 * h.val + d.val, p_lt h d⟩

/-! ## The rotation's tables -/

section Tables
variable (p : IVec S1x4096 32) (r : Fin 4096) (l : Fin 32)

theorem cos_lo : cosForm p (ix2 r ⟨l.val, lo128 l⟩) = val_main_v17 (F := Ideal) p (ix2 r l) := by
  unfold cosForm; generalize val_main_v17 (F := Ideal) p = C; pointwise [zeros32]
theorem cos_hi : cosForm p (ix2 r ⟨32 + l.val, hi128 l⟩) = val_main_v17 (F := Ideal) p (ix2 r l) := by
  unfold cosForm; generalize val_main_v17 (F := Ideal) p = C; pointwise [zeros32]
theorem sinA_lo : sinAForm p (ix2 r ⟨l.val, lo128 l⟩) = -val_main_v18 (F := Ideal) p (ix2 r l) := by
  unfold sinAForm; generalize val_main_v18 (F := Ideal) p = S; pointwise [zeros32]
theorem sinA_hi : sinAForm p (ix2 r ⟨32 + l.val, hi128 l⟩) = 0 := by
  unfold sinAForm; generalize val_main_v18 (F := Ideal) p = S; pointwise [zeros32]
theorem sinB_lo : sinBForm p (ix2 r ⟨l.val, lo128 l⟩) = 0 := by
  unfold sinBForm; generalize val_main_v18 (F := Ideal) p = S; pointwise [zeros32]
theorem sinB_hi : sinBForm p (ix2 r ⟨32 + l.val, hi128 l⟩) = val_main_v18 (F := Ideal) p (ix2 r l) := by
  unfold sinBForm; generalize val_main_v18 (F := Ideal) p = S; pointwise [zeros32]

/-- The first 32 columns of a rotated row. -/
theorem rot_lo (x : Fin 128 → EReal) : rotE x (cosForm p (ix2 r ⟨l.val, lo128 l⟩)) (sinAForm p (ix2 r ⟨l.val, lo128 l⟩)) (sinBForm p (ix2 r ⟨l.val, lo128 l⟩)) ⟨l.val, lo128 l⟩
    = x ⟨l.val, lo128 l⟩ * val_main_v17 (F := Ideal) p (ix2 r l) - x ⟨32 + l.val, hi128 l⟩ * val_main_v18 (F := Ideal) p (ix2 r l) := by
  unfold rotE
  rw [cos_lo, sinA_lo, sinB_lo, mul_zero, add_zero, mul_neg, sub_eq_add_neg]
  rw [show (⟨(l.val + 32) % 128, Nat.mod_lt _ (by decide)⟩ : Fin 128) = ⟨32 + l.val, hi128 l⟩ from Fin.ext (by show (l.val + 32) % 128 = 32 + l.val; omega)]

/-- The next 32 columns of a rotated row. -/
theorem rot_hi (x : Fin 128 → EReal) : rotE x (cosForm p (ix2 r ⟨32 + l.val, hi128 l⟩)) (sinAForm p (ix2 r ⟨32 + l.val, hi128 l⟩)) (sinBForm p (ix2 r ⟨32 + l.val, hi128 l⟩)) ⟨32 + l.val, hi128 l⟩
    = x ⟨32 + l.val, hi128 l⟩ * val_main_v17 (F := Ideal) p (ix2 r l) + x ⟨l.val, lo128 l⟩ * val_main_v18 (F := Ideal) p (ix2 r l) := by
  unfold rotE
  rw [cos_hi, sinA_hi, sinB_hi, mul_zero, add_zero]
  rw [show (⟨(32 + l.val + 96) % 128, Nat.mod_lt _ (by decide)⟩ : Fin 128) = ⟨l.val, lo128 l⟩ from Fin.ext (by show (32 + l.val + 96) % 128 = l.val; omega)]
end Tables

/-! ## The reference's results, entry by entry -/

section Reference
variable (x0 : FVec Ideal S1x4096x768 .f32) (x1 : FVec Ideal S1x4096x512 .f32) (x2 : FVec Ideal S1x4096x64 .f32) (x3 : IVec S1x4096 32)
  (x4 : FVec Ideal S1x768 .f32) (x5 : FVec Ideal S1x768x1536 .f32) (x6 : FVec Ideal S1x512 .f32) (x7 : FVec Ideal S1x512x2048 .f32) (r : Fin 4096)

theorem ref_norm_q (k : Fin 768) : val_main_v33 (F := Ideal) x0 x4 (ix2 r k) = normE 0x44400000#32 (fun j => x0 (ix3 0 r j)) (x4 (ix2 0 k)) k := by
  pointwise [val_main_v19, val_main_v20, val_main_v21, val_main_v22, val_main_v23, val_main_v24, val_main_v25, val_main_v26, val_main_v27, val_main_v28, val_main_v29, val_main_v30, val_main_v31, val_main_v32, val_main_v33, val_main_cst_3, val_main_cst_4, val_main_cst_5, normE]
theorem ref_norm_kv (k : Fin 512) : val_main_v48 (F := Ideal) x1 x6 (ix2 r k) = normE 0x44000000#32 (fun j => x1 (ix3 0 r j)) (x6 (ix2 0 k)) k := by
  pointwise [val_main_v34, val_main_v35, val_main_v36, val_main_v37, val_main_v38, val_main_v39, val_main_v40, val_main_v41, val_main_v42, val_main_v43, val_main_v44, val_main_v45, val_main_v46, val_main_v47, val_main_v48, val_main_cst_6, val_main_cst_7, val_main_cst_8, normE]
theorem ref_qn (k : Fin 768) : val_main_v81 (F := Ideal) x0 x4 (ix2 r k) = normE 0x44400000#32 (fun j => x0 (ix3 0 r j)) (x4 (ix2 0 k)) k := by
  rw [← ref_norm_q]; rfl
theorem ref_kvn (k : Fin 512) : val_main_v82 (F := Ideal) x1 x6 (ix2 r k) = normE 0x44000000#32 (fun j => x1 (ix3 0 r j)) (x6 (ix2 0 k)) k := by
  rw [← ref_norm_kv]; rfl

theorem ref_raw (j : Fin 1536) : val_main_v50 (F := Ideal) x0 x4 x5 (ix2 r j)
    = ∑ k, normE 0x44400000#32 (fun l => x0 (ix3 0 r l)) (x4 (ix2 0 k)) k * x5 (ix3 0 k j) := by
  rw [val_main_v50_apply]
  refine Finset.sum_congr rfl fun k _ => congrArg₂ (· * ·) ((congrArg _ (by blk_ext)).trans (ref_norm_q x0 x4 r k)) ?_
  generalize hk : ridx_main_v50 (ix2 r j) k = i
  obtain rfl : i = ix2 k j := hk.symm.trans (by blk_ext)
  pointwise [val_main_v49]
theorem ref_kv (j : Fin 2048) : val_main_v87 (F := Ideal) x1 x6 x7 (ix2 r j)
    = ∑ k, normE 0x44000000#32 (fun l => x1 (ix3 0 r l)) (x6 (ix2 0 k)) k * x7 (ix3 0 k j) := by
  refine Eq.trans (b := val_main_v86 (F := Ideal) x1 x6 x7 (ix2 r j)) rfl ?_
  rw [val_main_v86_apply]
  refine Finset.sum_congr rfl fun k _ => congrArg₂ (· * ·) ((congrArg _ (by blk_ext)).trans (ref_norm_kv x1 x6 r k)) ?_
  generalize hk : ridx_main_v86 (ix2 r j) k = i
  obtain rfl : i = ix2 k j := hk.symm.trans (by blk_ext)
  pointwise [val_main_v85]

theorem ref_key_lo (l : Fin 32) : val_main_v83 (F := Ideal) x2 x3 (ix2 r ⟨l.val, lo64 l⟩)
    = x2 (ix3 0 r ⟨l.val, lo64 l⟩) * val_main_v17 (F := Ideal) x3 (ix2 r l) - x2 (ix3 0 r ⟨32 + l.val, hi64 l⟩) * val_main_v18 (F := Ideal) x3 (ix2 r l) := by
  unfold val_main_v83 val_main_v80 val_main_v76 val_main_v79 val_main_v74 val_main_v75 val_main_v77 val_main_v78
  generalize val_main_v17 (F := Ideal) x3 = C
  generalize val_main_v18 (F := Ideal) x3 = S
  pointwise [val_main_v71, val_main_v72, val_main_v73]
theorem ref_key_hi (l : Fin 32) : val_main_v83 (F := Ideal) x2 x3 (ix2 r ⟨32 + l.val, hi64 l⟩)
    = x2 (ix3 0 r ⟨32 + l.val, hi64 l⟩) * val_main_v17 (F := Ideal) x3 (ix2 r l) + x2 (ix3 0 r ⟨l.val, lo64 l⟩) * val_main_v18 (F := Ideal) x3 (ix2 r l) := by
  unfold val_main_v83 val_main_v80 val_main_v76 val_main_v79 val_main_v74 val_main_v75 val_main_v77 val_main_v78
  generalize val_main_v17 (F := Ideal) x3 = C
  generalize val_main_v18 (F := Ideal) x3 = S
  pointwise [val_main_v71, val_main_v72, val_main_v73]

theorem at_col {n : ℕ} (q : (⟨2, ![4096, n]⟩ : Shape).Idx → EReal) (r : Fin 4096) {a b : ℕ} {ha : a < n} {hb : b < n} (h : a = b) : q (ix2 r ⟨a, ha⟩) = q (ix2 r ⟨b, hb⟩) := by
  subst h; rfl

/-- The reference's turn of the queries, over the product and the two tables. -/
def turnQ (q : FVec Ideal S4096x1536 .f32) (C S : FVec Ideal S4096x32 .f32) (r : Fin 4096) (h : Fin 8) (d : Fin 192) : EReal :=
  if h1 : d.val < 128 then q (ix2 r (qcol h d))
  else if h2 : d.val < 160 then q (ix2 r (qcol h d)) * C (ix2 r ⟨d.val - 128, by omega⟩) - q (ix2 r (qcol h ⟨d.val + 32, by omega⟩)) * S (ix2 r ⟨d.val - 128, by omega⟩)
  else q (ix2 r (qcol h d)) * C (ix2 r ⟨d.val - 160, by omega⟩) + q (ix2 r (qcol h ⟨d.val - 32, by omega⟩)) * S (ix2 r ⟨d.val - 160, by omega⟩)

theorem ref_q (h : Fin 8) (d : Fin 192) : val_main_v84 (F := Ideal) x0 x3 x4 x5 (ix2 r (qcol h d))
    = turnQ (val_main_v50 (F := Ideal) x0 x4 x5) (val_main_v17 (F := Ideal) x3) (val_main_v18 (F := Ideal) x3) r h d := by
  unfold val_main_v84 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51
  generalize val_main_v50 (F := Ideal) x0 x4 x5 = q
  generalize val_main_v17 (F := Ideal) x3 = C
  generalize val_main_v18 (F := Ideal) x3 = S
  have e1 : (192 * h.val + d.val) % 192 = d.val := by omega
  have e2 : (192 * h.val + d.val) / 192 = h.val := by omega
  unfold turnQ
  pointwise
  simp only [e1, e2]
  by_cases h1 : d.val < 128
  · refine (dif_pos h1).trans (Eq.trans ?_ (dif_pos h1).symm)
    exact at_col (n := 1536) q r (by show h.val * 192 + d.val = 192 * h.val + d.val; omega)
  · refine (dif_neg h1).trans (Eq.trans ?_ (dif_neg h1).symm)
    by_cases h2 : d.val < 160
    · refine (dif_pos (show d.val - 128 < 32 by omega)).trans (Eq.trans ?_ (dif_pos h2).symm)
      exact congrArg₂ (· - ·) (congrArg (· * _) (at_col (n := 1536) q r (by show h.val * 192 + (128 + (d.val - 128)) = 192 * h.val + d.val; omega)))
        (congrArg (· * _) (at_col (n := 1536) q r (by show h.val * 192 + (128 + (32 + (d.val - 128))) = 192 * h.val + (d.val + 32); omega)))
    · refine (dif_neg (show ¬d.val - 128 < 32 by omega)).trans (Eq.trans ?_ (dif_neg h2).symm)
      exact congrArg₂ (· + ·) (congrArg₂ (· * ·) (at_col (n := 1536) q r (by show h.val * 192 + (128 + (32 + (d.val - 128 - 32))) = 192 * h.val + d.val; omega)) (at_col (n := 32) C r (by show d.val - 128 - 32 = d.val - 160; omega)))
        (congrArg₂ (· * ·) (at_col (n := 1536) q r (by show h.val * 192 + (128 + (d.val - 128 - 32)) = 192 * h.val + (d.val - 32); omega)) (at_col (n := 32) S r (by show d.val - 128 - 32 = d.val - 160; omega)))
end Reference

end Cert.MlaProj
-- ==== Proof.MlaProjRun.lean ====
/- The latent projections: the whole run of the program, its five results the reference's. -/
module

public import proofs.«01_k».proof.Proof.MlaProjReference

@[expose] public section

set_option maxRecDepth 16384

noncomputable section

open Idealize.ShloMosaic Idealize.ShloMosaic.TcCoe Idealize.SL.Sem
open Idealize.ShloMosaic.Pipeline (Dat)
open scoped BigOperators

namespace Cert.MlaProj
open Cert.Kernel12Ideal Cert.Kernel12Ideal.Gen Cert.Reference12Ideal.Read

/-- The host's lines after the launch: the queries without the columns past a head's 192, and the key without those past its 64. -/
def tailQ (x : FVec Ideal S4096x2048 .bf16) : FVec Ideal S4096x1536 .bf16 :=
  shapeCast S4096x1536 (extractStridedSlice S4096x8x192 ![0, 0, 0] (shapeCast S4096x8x256 x shapeCasts_S4096x2048_S4096x8x256) slices_S4096x8x256_S4096x8x192_0_0_0) shapeCasts_S4096x8x192_S4096x1536
def tailK (x : FVec Ideal S4096x128 .bf16) : FVec Ideal S4096x64 .bf16 := extractStridedSlice S4096x64 ![0, 0] x slices_S4096x128_S4096x64_0_0

theorem tailQ_at (x : FVec Ideal S4096x2048 .bf16) (r : Fin 4096) (h : Fin 8) (d : Fin 192) : tailQ x (ix2 r (qcol h d)) = x (ix2 r (pcol h d)) := by
  have e1 : (192 * h.val + d.val) % 192 = d.val := by omega
  have e2 : (192 * h.val + d.val) / 192 = h.val := by omega
  pointwise [tailQ]
  simp only [e1, e2]
  exact at_col (n := 2048) x r (by show h.val * 256 + d.val = 256 * h.val + d.val; omega)
theorem tailK_at (x : FVec Ideal S4096x128 .bf16) (r : Fin 4096) (l : Fin 64) : tailK x (ix2 r l) = x (ix2 r ⟨l.val, of64 l⟩) := by
  pointwise [tailK]

theorem line_q (W : Valuation τ sig (Elt Ideal)) : StableHlo.after hostOps1 W (Proc.devRef .tc main_v42) = tailQ (W (Proc.devRef .tc main_v39_3)) := by
  after_results; rfl
theorem line_k (W : Valuation τ sig (Elt Ideal)) : StableHlo.after hostOps1 W (Proc.devRef .tc main_v43) = tailK (W (Proc.devRef .tc main_v39_2)) := by
  after_results; rfl

theorem ext_at {a b : ℕ} (f g : (⟨2, ![a, b]⟩ : Shape).Idx → EReal) (h : ∀ (r : Fin a) (j : Fin b), f (ix2 r j) = g (ix2 r j)) : f = g :=
  funext fun i => by rw [eq_ix2 i]; exact h _ _

section Results
variable (x0 : FVec Ideal S1x4096x768 .f32) (x1 : FVec Ideal S1x4096x512 .f32) (x2 : FVec Ideal S1x4096x64 .f32) (x3 : IVec S1x4096 32)
  (x4 : FVec Ideal S1x768 .f32) (x5 : FVec Ideal S1x768x1536 .f32) (x6 : FVec Ideal S1x512 .f32) (x7 : FVec Ideal S1x512x2048 .f32)

theorem qn_entry (r : Fin 4096) (k : Fin 768) : qnArr (packed x0 x1 x2) x4 (ix2 r k) = normE 0x44400000#32 (fun j => x0 (ix3 0 r j)) (x4 (ix2 0 k)) k := by
  unfold qnArr
  show normE _ (fun j => packed x0 x1 x2 (ix2 r ⟨4608 + j.val, ql_lt j⟩)) _ k = _
  rw [funext fun j => packed_ql x0 x1 x2 r j]; rfl
theorem kvn_entry (r : Fin 4096) (k : Fin 512) : kvnArr (packed x0 x1 x2) x6 (ix2 r k) = normE 0x44000000#32 (fun j => x1 (ix3 0 r j)) (x6 (ix2 0 k)) k := by
  unfold kvnArr
  show normE _ (fun j => packed x0 x1 x2 (ix2 r ⟨4096 + j.val, kv_lt j⟩)) _ k = _
  rw [funext fun j => packed_kv x0 x1 x2 r j]; rfl

theorem qn_eq : qnArr (packed x0 x1 x2) x4 = val_main_v81 (F := Ideal) x0 x4 := by
  refine ext_at _ _ fun r k => ?_
  rw [qn_entry, ref_qn]
theorem kvn_eq : kvnArr (packed x0 x1 x2) x6 = val_main_v82 (F := Ideal) x1 x6 := by
  refine ext_at _ _ fun r k => ?_
  rw [kvn_entry, ref_kvn]

/-- The weights to keys and values as the launch takes them. -/
theorem wkv_at (k : Fin 512) (j : Fin 2048) : truncf (F := Ideal) .bf16 (shapeCast S512x2048 x7 shapeCasts_S1x512x2048_S512x2048) bitsLt_bf16_f32 (ix2 k j) = x7 (ix3 0 k j) := by
  pointwise

theorem kv_eq : kvArr (packed x0 x1 x2) x6 (truncf (F := Ideal) .bf16 (shapeCast S512x2048 x7 shapeCasts_S1x512x2048_S512x2048) bitsLt_bf16_f32)
    = val_main_v87 (F := Ideal) x1 x6 x7 := by
  refine ext_at _ _ fun r j => ?_
  rw [ref_kv]
  exact Finset.sum_congr rfl fun k _ => congrArg₂ (· * ·) (kvn_entry x0 x1 x2 x6 r k) (wkv_at x7 k j)

theorem raw_entry (r : Fin 4096) (h : Fin 8) (d : Fin 192) : rawArr (packed x0 x1 x2) x4 (padded x5) (ix2 r (pcol h d)) = val_main_v50 (F := Ideal) x0 x4 x5 (ix2 r (qcol h d)) := by
  rw [ref_raw]
  exact Finset.sum_congr rfl fun k _ => congrArg₂ (· * ·) (qn_entry x0 x1 x2 x4 r k) (padded_at x5 k h d)

theorem qArr_low (A B D : FVec Ideal S4096x128 .f32) (Q : FVec Ideal S4096x2048 .f32) (r : Fin 4096) (h : Fin 8) (d : Fin 192) (hd : d.val < 128) :
    qArr A B D Q (ix2 r (pcol h d)) = Q (ix2 r (pcol h d)) :=
  if_pos (show (256 * h.val + d.val) % 256 < 128 by omega)
theorem qArr_rot (A B D : FVec Ideal S4096x128 .f32) (Q : FVec Ideal S4096x2048 .f32) (r : Fin 4096) (h : Fin 8) (l : Fin 128) :
    qArr A B D Q (ix2 r ⟨256 * h.val + 128 + l.val, w_lt h l⟩)
      = rotE (fun l' => Q (ix2 r ⟨256 * h.val + 128 + l'.val, w_lt h l'⟩)) (A (ix2 r l)) (B (ix2 r l)) (D (ix2 r l)) l := by
  have e1 : (256 * h.val + 128 + l.val) / 256 = h.val := by omega
  have e2 : (256 * h.val + 128 + l.val) % 256 - 128 = l.val := by omega
  refine (if_neg (show ¬(256 * h.val + 128 + l.val) % 256 < 128 by omega)).trans ?_
  show rotE (fun l' => Q (ix2 r ⟨256 * ((256 * h.val + 128 + l.val) / 256) + 128 + l'.val, _⟩)) (A (ix2 r ⟨(256 * h.val + 128 + l.val) % 256 - 128, _⟩))
    (B (ix2 r ⟨(256 * h.val + 128 + l.val) % 256 - 128, _⟩)) (D (ix2 r ⟨(256 * h.val + 128 + l.val) % 256 - 128, _⟩)) ⟨(256 * h.val + 128 + l.val) % 256 - 128, _⟩ = _
  simp only [e1, e2]

theorem q_eq : tailQ (qArr (cosForm x3) (sinAForm x3) (sinBForm x3) (rawArr (packed x0 x1 x2) x4 (padded x5))) = val_main_v84 (F := Ideal) x0 x3 x4 x5 := by
  refine ext_at _ _ fun r j => ?_
  obtain ⟨h, d, rfl⟩ : ∃ (h : Fin 8) (d : Fin 192), j = qcol h d :=
    ⟨⟨j.val / 192, by omega⟩, ⟨j.val % 192, by omega⟩, Fin.ext (by show j.val = 192 * (j.val / 192) + j.val % 192; omega)⟩
  rw [tailQ_at, ref_q]
  have raw := raw_entry x0 x1 x2 x4 x5 r h
  generalize rawArr (packed x0 x1 x2) x4 (padded x5) = Q at raw ⊢
  generalize val_main_v50 (F := Ideal) x0 x4 x5 = q at raw ⊢
  unfold turnQ
  by_cases h1 : d.val < 128
  · refine Eq.trans ?_ (dif_pos h1).symm
    exact (qArr_low _ _ _ Q r h d h1).trans (raw d)
  · refine Eq.trans ?_ (dif_neg h1).symm
    by_cases h2 : d.val < 160
    · obtain ⟨l, rfl⟩ : ∃ l : Fin 32, d = ⟨128 + l.val, lo192 l⟩ := ⟨⟨d.val - 128, by omega⟩, Fin.ext (by show d.val = 128 + (d.val - 128); omega)⟩
      refine Eq.trans ?_ (dif_pos h2).symm
      refine (at_col (n := 2048) _ r (by show 256 * h.val + (128 + l.val) = 256 * h.val + 128 + l.val; omega)).trans ((qArr_rot _ _ _ Q r h ⟨l.val, lo128 l⟩).trans ((rot_lo x3 r l _).trans ?_))
      refine congrArg₂ (· - ·) (congrArg₂ (· * ·) (Eq.trans (at_col (n := 2048) Q r (by show 256 * h.val + 128 + l.val = 256 * h.val + (128 + l.val); omega)) (raw ⟨128 + l.val, lo192 l⟩)) (at_col (n := 32) _ r (by show l.val = 128 + l.val - 128; omega)))
        (congrArg₂ (· * ·) (Eq.trans (at_col (n := 2048) Q r (by show 256 * h.val + 128 + (32 + l.val) = 256 * h.val + (160 + l.val); omega)) ((raw ⟨160 + l.val, hi192 l⟩).trans
          (at_col (n := 1536) q r (by show 192 * h.val + (160 + l.val) = 192 * h.val + (128 + l.val + 32); omega)))) (at_col (n := 32) _ r (by show l.val = 128 + l.val - 128; omega)))
    · obtain ⟨l, rfl⟩ : ∃ l : Fin 32, d = ⟨160 + l.val, hi192 l⟩ := ⟨⟨d.val - 160, by omega⟩, Fin.ext (by show d.val = 160 + (d.val - 160); omega)⟩
      refine Eq.trans ?_ (dif_neg h2).symm
      refine (at_col (n := 2048) _ r (by show 256 * h.val + (160 + l.val) = 256 * h.val + 128 + (32 + l.val); omega)).trans ((qArr_rot _ _ _ Q r h ⟨32 + l.val, hi128 l⟩).trans ((rot_hi x3 r l _).trans ?_))
      refine congrArg₂ (· + ·) (congrArg₂ (· * ·) (Eq.trans (at_col (n := 2048) Q r (by show 256 * h.val + 128 + (32 + l.val) = 256 * h.val + (160 + l.val); omega)) (raw ⟨160 + l.val, hi192 l⟩)) (at_col (n := 32) _ r (by show l.val = 160 + l.val - 160; omega)))
        (congrArg₂ (· * ·) (Eq.trans (at_col (n := 2048) Q r (by show 256 * h.val + 128 + l.val = 256 * h.val + (128 + l.val); omega)) ((raw ⟨128 + l.val, lo192 l⟩).trans
          (at_col (n := 1536) q r (by show 192 * h.val + (128 + l.val) = 192 * h.val + (160 + l.val - 32); omega)))) (at_col (n := 32) _ r (by show l.val = 160 + l.val - 160; omega)))

theorem key_lo (r : Fin 4096) (l : Fin 32) : packed x0 x1 x2 (ix2 r ⟨6400 + l.val, kr_lt ⟨l.val, lo128 l⟩⟩) = x2 (ix3 0 r ⟨l.val, lo64 l⟩) := packed_kr x0 x1 x2 r ⟨l.val, lo64 l⟩
theorem key_hi (r : Fin 4096) (l : Fin 32) : packed x0 x1 x2 (ix2 r ⟨6400 + (32 + l.val), kr_lt ⟨32 + l.val, hi128 l⟩⟩) = x2 (ix3 0 r ⟨32 + l.val, hi64 l⟩) := packed_kr x0 x1 x2 r ⟨32 + l.val, hi64 l⟩

theorem kr_eq : tailK (krArr (packed x0 x1 x2) (cosForm x3) (sinAForm x3) (sinBForm x3)) = val_main_v83 (F := Ideal) x2 x3 := by
  refine ext_at _ _ fun r j => ?_
  rw [tailK_at]
  have lo := key_lo x0 x1 x2 r
  have hi := key_hi x0 x1 x2 r
  generalize packed x0 x1 x2 = P at lo hi ⊢
  by_cases h : j.val < 32
  · obtain ⟨l, rfl⟩ : ∃ l : Fin 32, j = ⟨l.val, lo64 l⟩ := ⟨⟨j.val, h⟩, rfl⟩
    rw [ref_key_lo, ← lo, ← hi]
    exact rot_lo x3 r l fun l' => P (ix2 r ⟨6400 + l'.val, kr_lt l'⟩)
  · obtain ⟨l, rfl⟩ : ∃ l : Fin 32, j = ⟨32 + l.val, hi64 l⟩ := ⟨⟨j.val - 32, by omega⟩, Fin.ext (by show j.val = 32 + (j.val - 32); omega)⟩
    rw [ref_key_hi, ← lo, ← hi]
    exact rot_hi x3 r l fun l' => P (ix2 r ⟨6400 + l'.val, kr_lt l'⟩)
end Results

variable (m : (ℓ : Loc nD τ sig) → Buf (Elt Ideal) ℓ) (c : Dev nD)

theorem after_k : Pipeline.afterTail₀ cfgs (dats m) 0 (V0 m) [hostOps1] c main_v43 = val_main_v83 (F := Ideal) (akr m c) (apos m c) := by
  refine Eq.trans (b := tailK (Pipeline.withArrays (cfgs 0).spec c (V0 m c) (fun w => (dats m 0 c).arrAt w (cfgs 0).N) (Proc.devRef .tc main_v39_2))) (line_k _) ?_
  refine (congrArg tailK (((dats m 0 c).withArrays_arrAt sharedIn0 (V0 m c) (A_eq m c) 12).trans (final_kr m c))).trans ?_
  rw [V_packed, V_cos, V_sinA, V_sinB]; exact kr_eq _ _ _ _
theorem after_q : Pipeline.afterTail₀ cfgs (dats m) 0 (V0 m) [hostOps1] c main_v42 = val_main_v84 (F := Ideal) (aql m c) (apos m c) (agq m c) (awq m c) := by
  refine Eq.trans (b := tailQ (Pipeline.withArrays (cfgs 0).spec c (V0 m c) (fun w => (dats m 0 c).arrAt w (cfgs 0).N) (Proc.devRef .tc main_v39_3))) (line_q _) ?_
  refine (congrArg tailQ (((dats m 0 c).withArrays_arrAt sharedIn0 (V0 m c) (A_eq m c) 13).trans (final_q m c))).trans ?_
  rw [V_packed, V_cos, V_sinA, V_sinB, V_wq, V_gq]; exact q_eq _ _ _ _ _ _

theorem after_qn : (dats m 0 c).arrAt 10 (cfgs 0).N = val_main_v81 (F := Ideal) (aql m c) (agq m c) := by
  rw [final_qn, V_packed, V_gq]; exact qn_eq _ _ _ _
theorem after_kvn : (dats m 0 c).arrAt 11 (cfgs 0).N = val_main_v82 (F := Ideal) (akvl m c) (agk m c) := by
  rw [final_kvn, V_packed, V_gk]; exact kvn_eq _ _ _ _
theorem after_kv : (dats m 0 c).arrAt 14 (cfgs 0).N = val_main_v87 (F := Ideal) (akvl m c) (agk m c) (awkv m c) := by
  rw [final_kv, V_packed, V_gk, V_wkv]; exact kv_eq _ _ _ _ _

set_option maxHeartbeats 4000000 in
/-- The whole run of the program: the five results in the reference's form, the arguments unchanged. -/
theorem kernel_run (ρ : Dev nD → PrngReg) : θ_run defs (onTc (τ := τ) (main (F := Ideal))) ⟨m, fun _ => 0, ρ⟩ fun r => ∀ c : Dev nD,
    r.2.mem ((c.tc : Thread nD τ).loc main_v39_0) = val_main_v81 (F := Ideal) (aql m c) (agq m c)
    ∧ r.2.mem ((c.tc : Thread nD τ).loc main_v39_1) = val_main_v82 (F := Ideal) (akvl m c) (agk m c)
    ∧ r.2.mem ((c.tc : Thread nD τ).loc main_v43) = val_main_v83 (F := Ideal) (akr m c) (apos m c)
    ∧ r.2.mem ((c.tc : Thread nD τ).loc main_v42) = val_main_v84 (F := Ideal) (aql m c) (apos m c) (agq m c) (awq m c)
    ∧ r.2.mem ((c.tc : Thread nD τ).loc main_v39_4) = val_main_v87 (F := Ideal) (akvl m c) (agk m c) (awkv m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  run_from Cert.Kernel12Ideal.Gen.run_main m ρ & Cert.Kernel12Ideal.Gen.unchanged m ρ
  · exact after_qn m c
  · exact after_kvn m c
  · exact after_k m c
  · exact after_q m c
  · exact after_kv m c

end Cert.MlaProj
-- ==== Proof.MlaProjClaim.lean ====
/- The latent projections: the claims about this call, from the kernel's run and the reference's run. -/
module

public import proofs.«01_k».proof.Defs
public import proofs.«01_k».proof.Proof.Gen.Kernel12.Frame
public import proofs.«01_k».proof.Proof.Gen.Reference12Ideal.Run
public import proofs.«01_k».proof.Proof.Gen.Reference12Ideal.Read
public import proofs.«01_k».proof.Proof.MlaProjRun
public import Idealize.ShloMosaic.Adequacy
public import Idealize.ShloMosaic.Init

@[expose] public section

set_option maxRecDepth 16384

noncomputable section

namespace Cert.MlaProj

open Idealize.ShloMosaic Idealize.SL.Sem

/-- The two idealized programs leave the same results. -/
theorem algebraic : Cert.algebraic_Kernel12Ideal_Reference12Ideal := by
  pair_intro
  · exact kernel_run m g
  · refine (θ_run Cert.Reference12Ideal.defs _ _).mono (fun r h c => ?_) (Cert.Reference12Ideal.Value.run m' g')
    obtain ⟨e0, e1, e2, e3, e4, e5, e6, e7⟩ := hagree c
    obtain ⟨a0, a1, a2, a3, a4, a5⟩ := h c
    refine ⟨a0.trans ?_, a1.trans ?_, a2.trans ?_, a3.trans ?_, a4.trans ?_, a5⟩
    · rw [e0, e4]; exact Cert.Reference12Ideal.Read.val_main_v81_eq _ _
    · rw [e1, e6]; exact Cert.Reference12Ideal.Read.val_main_v82_eq _ _
    · rw [e2, e3]; exact Cert.Reference12Ideal.Read.val_main_v83_eq _ _
    · refine (Cert.Reference12Ideal.Read.val_main_v84_eq m' c).trans ?_; rw [e0, e3, e4, e5]
    · rw [e1, e6, e7]; exact Cert.Reference12Ideal.Read.val_main_v87_eq _ _ _

/-- The reference's run leaves its arguments as they were; it declares no semaphore. -/
theorem frame_reference : Cert.quiescent_Reference12Ideal := fun m ρ _ =>
  (θ_run Cert.Reference12Ideal.defs _ _).mono (fun r h => ⟨fun c => (h c).2.2.2.2.2,
      Idealize.ShloMosaic.sem_eq_zero_of_no_sems (by decide) r.2⟩)
    (Cert.Reference12Ideal.Value.run m ρ)

end Cert.MlaProj

end
-- ==== Proof.lean ====
/- Every claim of this certificate from the modules of the single calls: each has its frames, what its kernel leaves, what its
   reference leaves, and that the two are the same arrays. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Pre_finite2
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Pre_finite3
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Pre_finite4
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Pre_finite5
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Pre_finite6
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel8
public import proofs.«01_k».proof.Proof.Gen.Kernel8Ideal
public import proofs.«01_k».proof.Proof.Gen.Reference8Ideal
public import proofs.«01_k».proof.Proof.Gen.Pre_finite8
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Reference9Ideal
public import proofs.«01_k».proof.Proof.Gen.Pre_finite9
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Reference10Ideal
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Reference11Ideal
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Reference12Ideal
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.FoxBwdClaim
public import proofs.«01_k».proof.Proof.MlaBwdClaim
public import proofs.«01_k».proof.Proof.DecayBwdClaim
public import proofs.«01_k».proof.Proof.GateBwdClaim
public import proofs.«01_k».proof.Proof.PostClaim
public import proofs.«01_k».proof.Proof.PreBwdClaim
public import proofs.«01_k».proof.Proof.FoxFwdClaim
public import proofs.«01_k».proof.Proof.MlaFwdClaim
public import proofs.«01_k».proof.Proof.DecayFwdClaim
public import proofs.«01_k».proof.Proof.GateFwdClaim
public import proofs.«01_k».proof.Proof.MlaProjClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.Pre_finite2.Gen.facts, Cert.Pre_finite3.Gen.facts, Cert.Pre_finite4.Gen.facts, Cert.Pre_finite5.Gen.facts, Cert.Pre_finite6.Gen.facts, Cert.Pre_finite8.Gen.facts, Cert.Pre_finite9.Gen.facts,
  fun m ρ _ => Cert.Kernel.Gen.frame m ρ, fun m ρ _ => Cert.KernelIdeal.Gen.frame m ρ, fun m ρ _ => Cert.KernelIdeal.Gen.frame m ρ,
  Cert.FoxBwd.frame_reference, fun m ρ _ => Cert.FoxBwd.frame_reference m ρ trivial,
  fun m ρ _ => Cert.Kernel2.Gen.frame m ρ, fun m ρ _ => Cert.Kernel2Ideal.Gen.frame m ρ, fun m ρ _ => Cert.Kernel2Ideal.Gen.frame m ρ,
  Cert.MlaBwd.frame_reference, fun m ρ _ => Cert.MlaBwd.frame_reference m ρ trivial,
  fun m ρ _ => Cert.Kernel3.Gen.frame m ρ, fun m ρ _ => Cert.Kernel3Ideal.Gen.frame m ρ, fun m ρ _ => Cert.Kernel3Ideal.Gen.frame m ρ,
  Cert.DecayBwd.frame_reference, fun m ρ _ => Cert.DecayBwd.frame_reference m ρ trivial,
  fun m ρ _ => Cert.Kernel4.Gen.frame m ρ, fun m ρ _ => Cert.Kernel4Ideal.Gen.frame m ρ, fun m ρ _ => Cert.Kernel4Ideal.Gen.frame m ρ,
  Cert.GateBwd.frame_reference, fun m ρ _ => Cert.GateBwd.frame_reference m ρ trivial,
  fun m ρ _ => Cert.Kernel5.Gen.frame m ρ, fun m ρ _ => Cert.Kernel5Ideal.Gen.frame m ρ, fun m ρ _ => Cert.Kernel5Ideal.Gen.frame m ρ,
  Cert.Post.frame_reference, fun m ρ _ => Cert.Post.frame_reference m ρ trivial,
  fun m ρ _ => Cert.Kernel6.Gen.frame m ρ, fun m ρ _ => Cert.Kernel6Ideal.Gen.frame m ρ, fun m ρ _ => Cert.Kernel6Ideal.Gen.frame m ρ,
  Cert.PreBwd.frame_reference, fun m ρ _ => Cert.PreBwd.frame_reference m ρ trivial,
  fun m ρ _ => Cert.Kernel8.Gen.frame m ρ, fun m ρ _ => Cert.Kernel8Ideal.Gen.frame m ρ, fun m ρ _ => Cert.Kernel8Ideal.Gen.frame m ρ,
  Cert.FoxFwd.frame_reference, fun m ρ _ => Cert.FoxFwd.frame_reference m ρ trivial,
  fun m ρ _ => Cert.Kernel9.Gen.frame m ρ, fun m ρ _ => Cert.Kernel9Ideal.Gen.frame m ρ, fun m ρ _ => Cert.Kernel9Ideal.Gen.frame m ρ,
  Cert.MlaFwd.frame_reference, fun m ρ _ => Cert.MlaFwd.frame_reference m ρ trivial,
  fun m ρ _ => Cert.Kernel10.Gen.frame m ρ, fun m ρ _ => Cert.Kernel10Ideal.Gen.frame m ρ, Cert.DecayFwd.frame_reference,
  fun m ρ _ => Cert.Kernel11.Gen.frame m ρ, fun m ρ _ => Cert.Kernel11Ideal.Gen.frame m ρ, Cert.GateFwd.frame_reference,
  fun m ρ _ => Cert.Kernel12.Gen.frame m ρ, fun m ρ _ => Cert.Kernel12Ideal.Gen.frame m ρ, Cert.MlaProj.frame_reference,
  trivial, Cert.FoxBwd.algebraic,
  trivial, Cert.MlaBwd.algebraic,
  trivial, Cert.DecayBwd.algebraic,
  trivial, Cert.GateBwd.algebraic,
  trivial, Cert.Post.algebraic,
  trivial, Cert.PreBwd.algebraic,
  Cert.FoxFwd.preserves, Cert.FoxFwd.algebraic,
  Cert.MlaFwd.preserves, Cert.MlaFwd.algebraic,
  trivial, Cert.DecayFwd.algebraic,
  trivial, Cert.GateFwd.algebraic,
  trivial, Cert.MlaProj.algebraic⟩

end Cert.Proof

end
